-- ==== Defs.lean ====
def Pre_Kernel [hPre_lengths_fit : Cert.Pre_lengths_fit.Facts] (m : (ℓ : Loc Cert.Kernel.nD Cert.Kernel.τ Cert.Kernel.sig) → Buf (Elt Bits) ℓ) : Prop :=
  ∀ c : Dev Cert.Kernel.nD,
    (Cert.Pre_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_values_meet [hPre_values_meet : Cert.Pre_values_meet.Facts] (m : (ℓ : Loc Cert.KernelIdeal.nD Cert.KernelIdeal.τ Cert.KernelIdeal.sig) → Buf (Elt Ideal) ℓ) : Prop :=
  ∀ c : Dev Cert.KernelIdeal.nD,
    (Cert.Pre_values_meet.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_values_meet [hPre_values_meet : Cert.Pre_values_meet.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_values_meet.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_lengths_fit : Cert.Pre_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_values_meet [hKernelIdeal : Cert.KernelIdeal.Facts] [hPre_values_meet : Cert.Pre_values_meet.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_values_meet m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_values_meet [hReferenceIdeal : Cert.ReferenceIdeal.Facts] [hPre_values_meet : Cert.Pre_values_meet.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_values_meet m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_values_meet [hKernelIdeal : Cert.KernelIdeal.Facts] [hReferenceIdeal : Cert.ReferenceIdeal.Facts] [hPre_values_meet : Cert.Pre_values_meet.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_values_meet m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_lengths_fit : Cert.Pre_lengths_fit.Facts) (hPre_values_meet : Cert.Pre_values_meet.Facts),
    quiescent_Kernel (hKernel := hKernel) (hPre_lengths_fit := hPre_lengths_fit)
    ∧ quiescent_KernelIdeal (hKernelIdeal := hKernelIdeal) (hPre_lengths_fit := hPre_lengths_fit)
    ∧ quiescent_KernelIdeal_pre_values_meet (hKernelIdeal := hKernelIdeal) (hPre_values_meet := hPre_values_meet)
    ∧ quiescent_ReferenceIdeal (hReferenceIdeal := hReferenceIdeal)
    ∧ quiescent_ReferenceIdeal_pre_values_meet (hReferenceIdeal := hReferenceIdeal) (hPre_values_meet := hPre_values_meet)
    ∧ preserves_Kernel_KernelIdeal
    ∧ algebraic_KernelIdeal_ReferenceIdeal_pre_values_meet (hKernelIdeal := hKernelIdeal) (hReferenceIdeal := hReferenceIdeal) (hPre_values_meet := hPre_values_meet)
-- ==== Pre_lengths_fit.lean ====
abbrev S12x4096x5120 : Shape := ⟨3, ![12, 4096, 5120]⟩
abbrev S12x4096x40 : Shape := ⟨3, ![12, 4096, 40]⟩
abbrev S5120 : Shape := ⟨1, ![5120]⟩
abbrev S1 : Shape := ⟨1, ![1]⟩
abbrev S12x4096 : Shape := ⟨2, ![12, 4096]⟩
abbrev S12 : Shape := ⟨1, ![12]⟩
abbrev S_ : Shape := ⟨0, ![]⟩

class Facts : Prop where
  bcast_S_S12 : S_.BroadcastsInDim S12 (![] : Fin 0 → Fin S12.rank)

variable [Facts]

def fn {F : FTy → Type} [FloatOps F] (main_arg0 : FVec F S12x4096x5120 .fp8e4m3) (main_arg1 : FVec F S12x4096x40 .f32) (main_arg2 : FVec F S5120 .fp8e4m3) (main_arg3 : FVec F S1 .f32) (main_arg4 : FVec F S1 .f32) (main_arg5 : FVec F S12x4096 .bf16) (main_arg6 : FVec F S12x4096 .bf16) (main_arg7 : FVec F S12 .f32) (main_arg8 : IVec S12 32) : IVec S12 1 :=
  let main_c : IVec S_ 32 := constantI S_ 32 4294966785#32
  let main_v0 : IVec S12 32 := broadcastInDim S12 ![] bcast_S_S12 main_c
  let main_v1 : IVec S12 1 := cmpi .sge main_arg8 main_v0
  let main_c_0 : IVec S_ 32 := constantI S_ 32 4096#32
  let main_v2 : IVec S12 32 := broadcastInDim S12 ![] bcast_S_S12 main_c_0
  let main_v3 : IVec S12 1 := cmpi .sle main_arg8 main_v2
  let main_v4 : IVec S12 1 := andi main_v1 main_v3
  main_v4
-- ==== Pre_values_meet.lean ====
abbrev S12x4096x5120 : Shape := ⟨3, ![12, 4096, 5120]⟩
abbrev S12x4096x40 : Shape := ⟨3, ![12, 4096, 40]⟩
abbrev S5120 : Shape := ⟨1, ![5120]⟩
abbrev S1 : Shape := ⟨1, ![1]⟩
abbrev S12x4096 : Shape := ⟨2, ![12, 4096]⟩
abbrev S12 : Shape := ⟨1, ![12]⟩
abbrev S_ : Shape := ⟨0, ![]⟩
abbrev S12x1x1 : Shape := ⟨3, ![12, 1, 1]⟩

class Facts : Prop where
  bcast_S_S12x4096x40 : S_.BroadcastsInDim S12x4096x40 (![] : Fin 0 → Fin S12x4096x40.rank)
  bcast_S_S12 : S_.BroadcastsInDim S12 (![] : Fin 0 → Fin S12.rank)
  bcast_S12_S12x1x1_0 : S12.BroadcastsInDim S12x1x1 (![0] : Fin 1 → Fin S12x1x1.rank)
  bcast_S12x1x1_S12x4096x40_0_1_2 : S12x1x1.BroadcastsInDim S12x4096x40 (![0, 1, 2] : Fin 3 → Fin S12x4096x40.rank)

variable [Facts]

def fn {F : FTy → Type} [FloatOps F] (main_arg0 : FVec F S12x4096x5120 .fp8e4m3) (main_arg1 : FVec F S12x4096x40 .f32) (main_arg2 : FVec F S5120 .fp8e4m3) (main_arg3 : FVec F S1 .f32) (main_arg4 : FVec F S1 .f32) (main_arg5 : FVec F S12x4096 .bf16) (main_arg6 : FVec F S12x4096 .bf16) (main_arg7 : FVec F S12 .f32) (main_arg8 : IVec S12 32) : IVec S12x4096x40 1 :=
  let main_cst : FVec F S_ .f32 := constant S_ .f32 0x00000000#32
  let main_v0 : FVec F S12x4096x40 .f32 := broadcastInDim S12x4096x40 ![] bcast_S_S12x4096x40 main_cst
  let main_v1 : IVec S12x4096x40 1 := cmpf .oge main_arg1 main_v0
  let main_cst_0 : FVec F S_ .f32 := constant S_ .f32 0x7F800000#32
  let main_v2 : FVec F S12x4096x40 .f32 := broadcastInDim S12x4096x40 ![] bcast_S_S12x4096x40 main_cst_0
  let main_v3 : IVec S12x4096x40 1 := cmpf .olt main_arg1 main_v2
  let main_v4 : IVec S12x4096x40 1 := andi main_v1 main_v3
  let main_c : IVec S_ 32 := constantI S_ 32 4294966785#32
  let main_v5 : IVec S12 32 := broadcastInDim S12 ![] bcast_S_S12 main_c
  let main_v6 : IVec S12 1 := cmpi .sge main_arg8 main_v5
  let main_c_1 : IVec S_ 32 := constantI S_ 32 4096#32
  let main_v7 : IVec S12 32 := broadcastInDim S12 ![] bcast_S_S12 main_c_1
  let main_v8 : IVec S12 1 := cmpi .sle main_arg8 main_v7
  let main_v9 : IVec S12 1 := andi main_v6 main_v8
  let main_v10 : IVec S12x1x1 1 := broadcastInDim S12x1x1 ![0] bcast_S12_S12x1x1_0 main_v9
  let main_v11 : IVec S12x4096x40 1 := broadcastInDim S12x4096x40 ![0, 1, 2] bcast_S12x1x1_S12x4096x40_0_1_2 main_v10
  let main_v12 : IVec S12x4096x40 1 := andi main_v4 main_v11
  main_v12
-- ==== Kernel.lean ====
abbrev S12x4096x5120 : Shape := ⟨3, ![12, 4096, 5120]⟩
abbrev S12x4096x40 : Shape := ⟨3, ![12, 4096, 40]⟩
abbrev S5120 : Shape := ⟨1, ![5120]⟩
abbrev S1 : Shape := ⟨1, ![1]⟩
abbrev S12x4096 : Shape := ⟨2, ![12, 4096]⟩
abbrev S12 : Shape := ⟨1, ![12]⟩
abbrev S12x40x4096 : Shape := ⟨3, ![12, 40, 4096]⟩
abbrev S40x128 : Shape := ⟨2, ![40, 128]⟩
abbrev S6x512x5120 : Shape := ⟨3, ![6, 512, 5120]⟩
abbrev S6x40x512 : Shape := ⟨3, ![6, 40, 512]⟩
abbrev S16x5120 : Shape := ⟨2, ![16, 5120]⟩
abbrev S6 : Shape := ⟨1, ![6]⟩
abbrev S_ : Shape := ⟨0, ![]⟩
abbrev S1x512x5120 : Shape := ⟨3, ![1, 512, 5120]⟩
abbrev S512x5120 : Shape := ⟨2, ![512, 5120]⟩
abbrev S1x256x5120 : Shape := ⟨3, ![1, 256, 5120]⟩
abbrev S256x5120 : Shape := ⟨2, ![256, 5120]⟩
abbrev S1x128x5120 : Shape := ⟨3, ![1, 128, 5120]⟩
abbrev S128x5120 : Shape := ⟨2, ![128, 5120]⟩
abbrev S1x64x5120 : Shape := ⟨3, ![1, 64, 5120]⟩
abbrev S64x5120 : Shape := ⟨2, ![64, 5120]⟩
abbrev S1x32x5120 : Shape := ⟨3, ![1, 32, 5120]⟩
abbrev S32x5120 : Shape := ⟨2, ![32, 5120]⟩
abbrev S1x40x512 : Shape := ⟨3, ![1, 40, 512]⟩
abbrev S40x512 : Shape := ⟨2, ![40, 512]⟩
abbrev S16x128 : Shape := ⟨2, ![16, 128]⟩
abbrev S8x512 : Shape := ⟨2, ![8, 512]⟩
abbrev S16x1280 : Shape := ⟨2, ![16, 1280]⟩
abbrev S1x512x1280 : Shape := ⟨3, ![1, 512, 1280]⟩
abbrev S512x1280 : Shape := ⟨2, ![512, 1280]⟩
abbrev S16x512 : Shape := ⟨2, ![16, 512]⟩
abbrev S512 : Shape := ⟨1, ![512]⟩
abbrev S1x512 : Shape := ⟨2, ![1, 512]⟩
abbrev S12x128 : Shape := ⟨2, ![12, 128]⟩
abbrev S12x1 : Shape := ⟨2, ![12, 1]⟩
abbrev S1x1 : Shape := ⟨2, ![1, 1]⟩

abbrev nBuf : Space → Nat
  | .hbm => 14
  | .vmem => 10
  | .smem => 4
  | _ => 0

abbrev bufTy : (tb : Table) → Fin (tcTables nBuf tb) → BufTy
  | .hbm, ⟨0, _⟩ => ⟨S12x4096x5120, .fp8e4m3⟩
  | .hbm, ⟨1, _⟩ => ⟨S12x4096x40, .f32⟩
  | .hbm, ⟨2, _⟩ => ⟨S5120, .fp8e4m3⟩
  | .hbm, ⟨3, _⟩ => ⟨S1, .f32⟩
  | .hbm, ⟨4, _⟩ => ⟨S1, .f32⟩
  | .hbm, ⟨5, _⟩ => ⟨S12x4096, .bf16⟩
  | .hbm, ⟨6, _⟩ => ⟨S12x4096, .bf16⟩
  | .hbm, ⟨7, _⟩ => ⟨S12, .f32⟩
  | .hbm, ⟨8, _⟩ => ⟨S12, .i32⟩
  | .hbm, ⟨9, _⟩ => ⟨S12x40x4096, .f32⟩
  | .hbm, ⟨10, _⟩ => ⟨S40x128, .fp8e4m3⟩
  | .hbm, ⟨11, _⟩ => ⟨S12x4096, .f32⟩
  | .hbm, ⟨12, _⟩ => ⟨S12x4096, .f32⟩
  | .hbm, ⟨13, _⟩ => ⟨S12x4096, .f32⟩
  | .local _ .vmem, ⟨0, _⟩ => ⟨S40x128, .fp8e4m3⟩
  | .local _ .vmem, ⟨1, _⟩ => ⟨S12x4096, .bf16⟩
  | .local _ .vmem, ⟨2, _⟩ => ⟨S12x4096, .bf16⟩
  | .local _ .vmem, ⟨3, _⟩ => ⟨S12x4096, .f32⟩
  | .local _ .vmem, ⟨4, _⟩ => ⟨S12x4096, .f32⟩
  | .local _ .vmem, ⟨5, _⟩ => ⟨S12x4096, .f32⟩
  | .local _ .vmem, ⟨6, _⟩ => ⟨S6x512x5120, .fp8e4m3⟩
  | .local _ .vmem, ⟨7, _⟩ => ⟨S6x40x512, .f32⟩
  | .local _ .vmem, ⟨8, _⟩ => ⟨S16x5120, .bf16⟩
  | .local _ .vmem, ⟨9, _⟩ => ⟨S12x4096, .f32⟩
  | .local _ .smem, ⟨0, _⟩ => ⟨S1, .f32⟩
  | .local _ .smem, ⟨1, _⟩ => ⟨S1, .f32⟩
  | .local _ .smem, ⟨2, _⟩ => ⟨S12, .f32⟩
  | .local _ .smem, ⟨3, _⟩ => ⟨S12, .i32⟩
  | _, _ => ⟨S12x4096x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_stg1_0 : Ref sig .tc := ⟨.smem, 0, rfl⟩
abbrev cc0_stg2_0 : Ref sig .tc := ⟨.smem, 1, rfl⟩
abbrev cc0_stg5_0 : Ref sig .tc := ⟨.smem, 2, rfl⟩
abbrev cc0_stg6_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

def k0_mult1 (v4676 : BitVec 32) : BitVec 32 :=
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  v4711
def k0_cond1 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) : BitVec 1 :=
  let c0_i32_33 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v60 : BitVec 1 := Scalar.cmpi .slt c0_i32_33 v59
  let v61 : BitVec 32 := Scalar.extui v60
  let c0_i32_37 : BitVec 32 := 0#32
  let v62 : BitVec 1 := Scalar.cmpi .ne v61 c0_i32_37
  v62

def k0_cond2 (v4676 : BitVec 32) : BitVec 1 :=
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c512_i32_2228 : BitVec 32 := 512#32
  let v4684 : BitVec 32 := Scalar.andi v4682 c512_i32_2228
  let c0_i32_2229 : BitVec 32 := 0#32
  let v4685 : BitVec 1 := Scalar.cmpi .ne v4684 c0_i32_2229
  let v4686 : BitVec 32 := Scalar.extui v4685
  let c0_i32_2230 : BitVec 32 := 0#32
  let v4687 : BitVec 1 := Scalar.cmpi .ne v4686 c0_i32_2230
  v4687

def k0_mult2 (v4676 : BitVec 32) : BitVec 32 :=
  let c0_i32_36 : BitVec 32 := 0#32
  let c512_i32_2227 : BitVec 32 := 512#32
  let v4683 : BitVec 32 := Scalar.muli c0_i32_36 c512_i32_2227
  let c512_i32_2226 : BitVec 32 := 512#32
  let c0_i32_2225 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let v4713 : BitVec 32 := Scalar.addi v4683 v4712
  v4713
def k0_off1 : Fin 1 → Nat :=
  let c0_i32_34 : BitVec 32 := 0#32
  let c6_i32_2223 : BitVec 32 := 6#32
  let v4674 : BitVec 32 := Scalar.remsi c0_i32_34 c6_i32_2223
  ![v4674.toNat]
def k0_off2 (v4676 : BitVec 32) : Fin 3 → Nat :=
  let c0_i32_34 : BitVec 32 := 0#32
  let c6_i32_2223 : BitVec 32 := 6#32
  let v4674 : BitVec 32 := Scalar.remsi c0_i32_34 c6_i32_2223
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let c0_i32_2245 : BitVec 32 := 0#32
  ![v4674.toNat, v4712.toNat, 0]
def k0_off3 (v4676 : BitVec 32) : Fin 3 → Nat :=
  let c0_i32_35 : BitVec 32 := 0#32
  let c0_i32_36 : BitVec 32 := 0#32
  let c512_i32_2227 : BitVec 32 := 512#32
  let v4683 : BitVec 32 := Scalar.muli c0_i32_36 c512_i32_2227
  let c512_i32_2226 : BitVec 32 := 512#32
  let c0_i32_2225 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let v4713 : BitVec 32 := Scalar.addi v4683 v4712
  let v4714 : BitVec 32 := v4713
  let c0_i32_2246 : BitVec 32 := 0#32
  ![0, v4714.toNat, 0]
def k0_mult3 (v4676 : BitVec 32) : BitVec 32 :=
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  v4711
def k0_cond3 (v4676 : BitVec 32) : BitVec 1 :=
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c256_i32_2231 : BitVec 32 := 256#32
  let v4688 : BitVec 32 := Scalar.andi v4682 c256_i32_2231
  let c0_i32_2232 : BitVec 32 := 0#32
  let v4689 : BitVec 1 := Scalar.cmpi .ne v4688 c0_i32_2232
  let v4690 : BitVec 32 := Scalar.extui v4689
  let c0_i32_2233 : BitVec 32 := 0#32
  let v4691 : BitVec 1 := Scalar.cmpi .ne v4690 c0_i32_2233
  v4691

def k0_mult4 (v4676 : BitVec 32) : BitVec 32 :=
  let c0_i32_36 : BitVec 32 := 0#32
  let c512_i32_2227 : BitVec 32 := 512#32
  let v4683 : BitVec 32 := Scalar.muli c0_i32_36 c512_i32_2227
  let c512_i32_2226 : BitVec 32 := 512#32
  let c0_i32_2225 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let v4713 : BitVec 32 := Scalar.addi v4683 v4712
  v4713
def k0_off4 : Fin 1 → Nat :=
  let c0_i32_34 : BitVec 32 := 0#32
  let c6_i32_2223 : BitVec 32 := 6#32
  let v4674 : BitVec 32 := Scalar.remsi c0_i32_34 c6_i32_2223
  ![v4674.toNat]
def k0_off5 (v4676 : BitVec 32) : Fin 3 → Nat :=
  let c0_i32_34 : BitVec 32 := 0#32
  let c6_i32_2223 : BitVec 32 := 6#32
  let v4674 : BitVec 32 := Scalar.remsi c0_i32_34 c6_i32_2223
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let c0_i32_2245 : BitVec 32 := 0#32
  ![v4674.toNat, v4712.toNat, 0]
def k0_off6 (v4676 : BitVec 32) : Fin 3 → Nat :=
  let c0_i32_35 : BitVec 32 := 0#32
  let c0_i32_36 : BitVec 32 := 0#32
  let c512_i32_2227 : BitVec 32 := 512#32
  let v4683 : BitVec 32 := Scalar.muli c0_i32_36 c512_i32_2227
  let c512_i32_2226 : BitVec 32 := 512#32
  let c0_i32_2225 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let v4713 : BitVec 32 := Scalar.addi v4683 v4712
  let v4714 : BitVec 32 := v4713
  let c0_i32_2246 : BitVec 32 := 0#32
  ![0, v4714.toNat, 0]
def k0_mult5 (v4676 : BitVec 32) : BitVec 32 :=
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  v4711
def k0_cond4 (v4676 : BitVec 32) : BitVec 1 :=
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c128_i32_2234 : BitVec 32 := 128#32
  let v4692 : BitVec 32 := Scalar.andi v4682 c128_i32_2234
  let c0_i32_2235 : BitVec 32 := 0#32
  let v4693 : BitVec 1 := Scalar.cmpi .ne v4692 c0_i32_2235
  let v4694 : BitVec 32 := Scalar.extui v4693
  let c0_i32_2236 : BitVec 32 := 0#32
  let v4695 : BitVec 1 := Scalar.cmpi .ne v4694 c0_i32_2236
  v4695

def k0_mult6 (v4676 : BitVec 32) : BitVec 32 :=
  let c0_i32_36 : BitVec 32 := 0#32
  let c512_i32_2227 : BitVec 32 := 512#32
  let v4683 : BitVec 32 := Scalar.muli c0_i32_36 c512_i32_2227
  let c512_i32_2226 : BitVec 32 := 512#32
  let c0_i32_2225 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let v4713 : BitVec 32 := Scalar.addi v4683 v4712
  v4713
def k0_off7 : Fin 1 → Nat :=
  let c0_i32_34 : BitVec 32 := 0#32
  let c6_i32_2223 : BitVec 32 := 6#32
  let v4674 : BitVec 32 := Scalar.remsi c0_i32_34 c6_i32_2223
  ![v4674.toNat]
def k0_off8 (v4676 : BitVec 32) : Fin 3 → Nat :=
  let c0_i32_34 : BitVec 32 := 0#32
  let c6_i32_2223 : BitVec 32 := 6#32
  let v4674 : BitVec 32 := Scalar.remsi c0_i32_34 c6_i32_2223
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let c0_i32_2245 : BitVec 32 := 0#32
  ![v4674.toNat, v4712.toNat, 0]
def k0_off9 (v4676 : BitVec 32) : Fin 3 → Nat :=
  let c0_i32_35 : BitVec 32 := 0#32
  let c0_i32_36 : BitVec 32 := 0#32
  let c512_i32_2227 : BitVec 32 := 512#32
  let v4683 : BitVec 32 := Scalar.muli c0_i32_36 c512_i32_2227
  let c512_i32_2226 : BitVec 32 := 512#32
  let c0_i32_2225 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let v4713 : BitVec 32 := Scalar.addi v4683 v4712
  let v4714 : BitVec 32 := v4713
  let c0_i32_2246 : BitVec 32 := 0#32
  ![0, v4714.toNat, 0]
def k0_mult7 (v4676 : BitVec 32) : BitVec 32 :=
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  v4711
def k0_cond5 (v4676 : BitVec 32) : BitVec 1 :=
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c64_i32_2237 : BitVec 32 := 64#32
  let v4696 : BitVec 32 := Scalar.andi v4682 c64_i32_2237
  let c0_i32_2238 : BitVec 32 := 0#32
  let v4697 : BitVec 1 := Scalar.cmpi .ne v4696 c0_i32_2238
  let v4698 : BitVec 32 := Scalar.extui v4697
  let c0_i32_2239 : BitVec 32 := 0#32
  let v4699 : BitVec 1 := Scalar.cmpi .ne v4698 c0_i32_2239
  v4699

def k0_mult8 (v4676 : BitVec 32) : BitVec 32 :=
  let c0_i32_36 : BitVec 32 := 0#32
  let c512_i32_2227 : BitVec 32 := 512#32
  let v4683 : BitVec 32 := Scalar.muli c0_i32_36 c512_i32_2227
  let c512_i32_2226 : BitVec 32 := 512#32
  let c0_i32_2225 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let v4713 : BitVec 32 := Scalar.addi v4683 v4712
  v4713
def k0_off10 : Fin 1 → Nat :=
  let c0_i32_34 : BitVec 32 := 0#32
  let c6_i32_2223 : BitVec 32 := 6#32
  let v4674 : BitVec 32 := Scalar.remsi c0_i32_34 c6_i32_2223
  ![v4674.toNat]
def k0_off11 (v4676 : BitVec 32) : Fin 3 → Nat :=
  let c0_i32_34 : BitVec 32 := 0#32
  let c6_i32_2223 : BitVec 32 := 6#32
  let v4674 : BitVec 32 := Scalar.remsi c0_i32_34 c6_i32_2223
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let c0_i32_2245 : BitVec 32 := 0#32
  ![v4674.toNat, v4712.toNat, 0]
def k0_off12 (v4676 : BitVec 32) : Fin 3 → Nat :=
  let c0_i32_35 : BitVec 32 := 0#32
  let c0_i32_36 : BitVec 32 := 0#32
  let c512_i32_2227 : BitVec 32 := 512#32
  let v4683 : BitVec 32 := Scalar.muli c0_i32_36 c512_i32_2227
  let c512_i32_2226 : BitVec 32 := 512#32
  let c0_i32_2225 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let v4713 : BitVec 32 := Scalar.addi v4683 v4712
  let v4714 : BitVec 32 := v4713
  let c0_i32_2246 : BitVec 32 := 0#32
  ![0, v4714.toNat, 0]
def k0_mult9 (v4676 : BitVec 32) : BitVec 32 :=
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  v4711
def k0_cond6 (v4676 : BitVec 32) : BitVec 1 :=
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c32_i32 : BitVec 32 := 32#32
  let v4700 : BitVec 32 := Scalar.andi v4682 c32_i32
  let c0_i32_2240 : BitVec 32 := 0#32
  let v4701 : BitVec 1 := Scalar.cmpi .ne v4700 c0_i32_2240
  let v4702 : BitVec 32 := Scalar.extui v4701
  let c0_i32_2241 : BitVec 32 := 0#32
  let v4703 : BitVec 1 := Scalar.cmpi .ne v4702 c0_i32_2241
  v4703

def k0_mult10 (v4676 : BitVec 32) : BitVec 32 :=
  let c0_i32_36 : BitVec 32 := 0#32
  let c512_i32_2227 : BitVec 32 := 512#32
  let v4683 : BitVec 32 := Scalar.muli c0_i32_36 c512_i32_2227
  let c512_i32_2226 : BitVec 32 := 512#32
  let c0_i32_2225 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let v4713 : BitVec 32 := Scalar.addi v4683 v4712
  v4713
def k0_off13 : Fin 1 → Nat :=
  let c0_i32_34 : BitVec 32 := 0#32
  let c6_i32_2223 : BitVec 32 := 6#32
  let v4674 : BitVec 32 := Scalar.remsi c0_i32_34 c6_i32_2223
  ![v4674.toNat]
def k0_off14 (v4676 : BitVec 32) : Fin 3 → Nat :=
  let c0_i32_34 : BitVec 32 := 0#32
  let c6_i32_2223 : BitVec 32 := 6#32
  let v4674 : BitVec 32 := Scalar.remsi c0_i32_34 c6_i32_2223
  let c512_i32_2226 : BitVec 32 := 512#32
  let c0_i32_2225 : BitVec 32 := 0#32
  let c0_i32_36 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let c0_i32_2245 : BitVec 32 := 0#32
  ![v4674.toNat, v4712.toNat, 0]
def k0_off15 (v4676 : BitVec 32) : Fin 3 → Nat :=
  let c0_i32_35 : BitVec 32 := 0#32
  let c0_i32_36 : BitVec 32 := 0#32
  let c512_i32_2227 : BitVec 32 := 512#32
  let v4683 : BitVec 32 := Scalar.muli c0_i32_36 c512_i32_2227
  let c512_i32_2226 : BitVec 32 := 512#32
  let c0_i32_2225 : BitVec 32 := 0#32
  let c512_i32_2224 : BitVec 32 := 512#32
  let v4677 : BitVec 32 := Scalar.muli c0_i32_36 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let v4713 : BitVec 32 := Scalar.addi v4683 v4712
  let v4714 : BitVec 32 := v4713
  let c0_i32_2246 : BitVec 32 := 0#32
  ![0, v4714.toNat, 0]

def k0_chk1 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) : Prop :=
  (∀ (k0_h1 : k0_cond1 v0 v5 v10 v15 v20 v25 v30 v35 v40 v45 v50 v55 = 1#1), ∀ (k0_h2 : k0_cond2 v4676 = 1#1), 32 ∣ (k0_mult1 v4676).toNat) ∧
  (∀ (k0_h1 : k0_cond1 v0 v5 v10 v15 v20 v25 v30 v35 v40 v45 v50 v55 = 1#1), ∀ (k0_h2 : k0_cond2 v4676 = 1#1), 32 ∣ (k0_mult2 v4676).toNat) ∧
  (∀ (k0_h1 : k0_cond1 v0 v5 v10 v15 v20 v25 v30 v35 v40 v45 v50 v55 = 1#1), ∀ (k0_h2 : k0_cond2 v4676 = 1#1), ∀ a, (k0_off2 v4676) a + S1x512x5120.size a ≤ S6x512x5120.size a) ∧
  (∀ (k0_h1 : k0_cond1 v0 v5 v10 v15 v20 v25 v30 v35 v40 v45 v50 v55 = 1#1), ∀ (k0_h2 : k0_cond2 v4676 = 1#1), ∀ a, (k0_off3 v4676) a + S1x512x5120.size a ≤ S12x4096x5120.size a) ∧
  (∀ (k0_h1 : k0_cond1 v0 v5 v10 v15 v20 v25 v30 v35 v40 v45 v50 v55 = 1#1), ∀ (k0_h2 : k0_cond2 v4676 = 1#1), ∀ (hinb : ∀ a, (k0_off3 v4676) a + S1x512x5120.size a ≤ S12x4096x5120.size a), (Rect.unit (s := S12x4096x5120) (k0_off3 v4676) S1x512x5120.size hinb).WholeWords (EltTy.packing .fp8e4m3)) ∧
  (∀ (k0_h1 : k0_cond1 v0 v5 v10 v15 v20 v25 v30 v35 v40 v45 v50 v55 = 1#1), ∀ (k0_h2 : k0_cond2 v4676 = 1#1), ∀ (hinb : ∀ a, (k0_off2 v4676) a + S1x512x5120.size a ≤ S6x512x5120.size a), (Rect.unit (s := S6x512x5120) (k0_off2 v4676) S1x512x5120.size hinb).WholeWords (EltTy.packing .fp8e4m3)) ∧
  (∀ (k0_h1 : k0_cond1 v0 v5 v10 v15 v20 v25 v30 v35 v40 v45 v50 v55 = 1#1), ∀ (k0_h3 : k0_cond3 v4676 = 1#1), 32 ∣ (k0_mult3 v4676).toNat) ∧
  (∀ (k0_h1 : k0_cond1 v0 v5 v10 v15 v20 v25 v30 v35 v40 v45 v50 v55 = 1#1), ∀ (k0_h3 : k0_cond3 v4676 = 1#1), 32 ∣ (k0_mult4 v4676).toNat) ∧
  (∀ (k0_h1 : k0_cond1 v0 v5 v10 v15 v20 v25 v30 v35 v40 v45 v50 v55 = 1#1), ∀ (k0_h3 : k0_cond3 v4676 = 1#1), ∀ a, (k0_off5 v4676) a + S1x256x5120.size a ≤ S6x512x5120.size a) ∧
  (∀ (k0_h1 : k0_cond1 v0 v5 v10 v15 v20 v25 v30 v35 v40 v45 v50 v55 = 1#1), ∀ (k0_h3 : k0_cond3 v4676 = 1#1), ∀ a, (k0_off6 v4676) a + S1x256x5120.size a ≤ S12x4096x5120.size a) ∧
  (∀ (k0_h1 : k0_cond1 v0 v5 v10 v15 v20 v25 v30 v35 v40 v45 v50 v55 = 1#1), ∀ (k0_h3 : k0_cond3 v4676 = 1#1), ∀ (hinb : ∀ a, (k0_off6 v4676) a + S1x256x5120.size a ≤ S12x4096x5120.size a), (Rect.unit (s := S12x4096x5120) (k0_off6 v4676) S1x256x5120.size hinb).WholeWords (EltTy.packing .fp8e4m3)) ∧
  (∀ (k0_h1 : k0_cond1 v0 v5 v10 v15 v20 v25 v30 v35 v40 v45 v50 v55 = 1#1), ∀ (k0_h3 : k0_cond3 v4676 = 1#1), ∀ (hinb : ∀ a, (k0_off5 v4676) a + S1x256x5120.size a ≤ S6x512x5120.size a), (Rect.unit (s := S6x512x5120) (k0_off5 v4676) S1x256x5120.size hinb).WholeWords (EltTy.packing .fp8e4m3)) ∧
  (∀ (k0_h1 : k0_cond1 v0 v5 v10 v15 v20 v25 v30 v35 v40 v45 v50 v55 = 1#1), ∀ (k0_h4 : k0_cond4 v4676 = 1#1), 32 ∣ (k0_mult5 v4676).toNat) ∧
  (∀ (k0_h1 : k0_cond1 v0 v5 v10 v15 v20 v25 v30 v35 v40 v45 v50 v55 = 1#1), ∀ (k0_h4 : k0_cond4 v4676 = 1#1), 32 ∣ (k0_mult6 v4676).toNat) ∧
  (∀ (k0_h1 : k0_cond1 v0 v5 v10 v15 v20 v25 v30 v35 v40 v45 v50 v55 = 1#1), ∀ (k0_h4 : k0_cond4 v4676 = 1#1), ∀ a, (k0_off8 v4676) a + S1x128x5120.size a ≤ S6x512x5120.size a) ∧
  (∀ (k0_h1 : k0_cond1 v0 v5 v10 v15 v20 v25 v30 v35 v40 v45 v50 v55 = 1#1), ∀ (k0_h4 : k0_cond4 v4676 = 1#1), ∀ a, (k0_off9 v4676) a + S1x128x5120.size a ≤ S12x4096x5120.size a) ∧
  (∀ (k0_h1 : k0_cond1 v0 v5 v10 v15 v20 v25 v30 v35 v40 v45 v50 v55 = 1#1), ∀ (k0_h4 : k0_cond4 v4676 = 1#1), ∀ (hinb : ∀ a, (k0_off9 v4676) a + S1x128x5120.size a ≤ S12x4096x5120.size a), (Rect.unit (s := S12x4096x5120) (k0_off9 v4676) S1x128x5120.size hinb).WholeWords (EltTy.packing .fp8e4m3)) ∧
  (∀ (k0_h1 : k0_cond1 v0 v5 v10 v15 v20 v25 v30 v35 v40 v45 v50 v55 = 1#1), ∀ (k0_h4 : k0_cond4 v4676 = 1#1), ∀ (hinb : ∀ a, (k0_off8 v4676) a + S1x128x5120.size a ≤ S6x512x5120.size a), (Rect.unit (s := S6x512x5120) (k0_off8 v4676) S1x128x5120.size hinb).WholeWords (EltTy.packing .fp8e4m3)) ∧
  (∀ (k0_h1 : k0_cond1 v0 v5 v10 v15 v20 v25 v30 v35 v40 v45 v50 v55 = 1#1), ∀ (k0_h5 : k0_cond5 v4676 = 1#1), 32 ∣ (k0_mult7 v4676).toNat) ∧
  (∀ (k0_h1 : k0_cond1 v0 v5 v10 v15 v20 v25 v30 v35 v40 v45 v50 v55 = 1#1), ∀ (k0_h5 : k0_cond5 v4676 = 1#1), 32 ∣ (k0_mult8 v4676).toNat) ∧
  (∀ (k0_h1 : k0_cond1 v0 v5 v10 v15 v20 v25 v30 v35 v40 v45 v50 v55 = 1#1), ∀ (k0_h5 : k0_cond5 v4676 = 1#1), ∀ a, (k0_off11 v4676) a + S1x64x5120.size a ≤ S6x512x5120.size a) ∧
  (∀ (k0_h1 : k0_cond1 v0 v5 v10 v15 v20 v25 v30 v35 v40 v45 v50 v55 = 1#1), ∀ (k0_h5 : k0_cond5 v4676 = 1#1), ∀ a, (k0_off12 v4676) a + S1x64x5120.size a ≤ S12x4096x5120.size a) ∧
  (∀ (k0_h1 : k0_cond1 v0 v5 v10 v15 v20 v25 v30 v35 v40 v45 v50 v55 = 1#1), ∀ (k0_h5 : k0_cond5 v4676 = 1#1), ∀ (hinb : ∀ a, (k0_off12 v4676) a + S1x64x5120.size a ≤ S12x4096x5120.size a), (Rect.unit (s := S12x4096x5120) (k0_off12 v4676) S1x64x5120.size hinb).WholeWords (EltTy.packing .fp8e4m3)) ∧
  (∀ (k0_h1 : k0_cond1 v0 v5 v10 v15 v20 v25 v30 v35 v40 v45 v50 v55 = 1#1), ∀ (k0_h5 : k0_cond5 v4676 = 1#1), ∀ (hinb : ∀ a, (k0_off11 v4676) a + S1x64x5120.size a ≤ S6x512x5120.size a), (Rect.unit (s := S6x512x5120) (k0_off11 v4676) S1x64x5120.size hinb).WholeWords (EltTy.packing .fp8e4m3)) ∧
  (∀ (k0_h1 : k0_cond1 v0 v5 v10 v15 v20 v25 v30 v35 v40 v45 v50 v55 = 1#1), ∀ (k0_h6 : k0_cond6 v4676 = 1#1), 32 ∣ (k0_mult9 v4676).toNat) ∧
  (∀ (k0_h1 : k0_cond1 v0 v5 v10 v15 v20 v25 v30 v35 v40 v45 v50 v55 = 1#1), ∀ (k0_h6 : k0_cond6 v4676 = 1#1), 32 ∣ (k0_mult10 v4676).toNat) ∧
  (∀ (k0_h1 : k0_cond1 v0 v5 v10 v15 v20 v25 v30 v35 v40 v45 v50 v55 = 1#1), ∀ (k0_h6 : k0_cond6 v4676 = 1#1), ∀ a, (k0_off14 v4676) a + S1x32x5120.size a ≤ S6x512x5120.size a) ∧
  (∀ (k0_h1 : k0_cond1 v0 v5 v10 v15 v20 v25 v30 v35 v40 v45 v50 v55 = 1#1), ∀ (k0_h6 : k0_cond6 v4676 = 1#1), ∀ a, (k0_off15 v4676) a + S1x32x5120.size a ≤ S12x4096x5120.size a) ∧
  (∀ (k0_h1 : k0_cond1 v0 v5 v10 v15 v20 v25 v30 v35 v40 v45 v50 v55 = 1#1), ∀ (k0_h6 : k0_cond6 v4676 = 1#1), ∀ (hinb : ∀ a, (k0_off15 v4676) a + S1x32x5120.size a ≤ S12x4096x5120.size a), (Rect.unit (s := S12x4096x5120) (k0_off15 v4676) S1x32x5120.size hinb).WholeWords (EltTy.packing .fp8e4m3)) ∧
  (∀ (k0_h1 : k0_cond1 v0 v5 v10 v15 v20 v25 v30 v35 v40 v45 v50 v55 = 1#1), ∀ (k0_h6 : k0_cond6 v4676 = 1#1), ∀ (hinb : ∀ a, (k0_off14 v4676) a + S1x32x5120.size a ≤ S6x512x5120.size a), (Rect.unit (s := S6x512x5120) (k0_off14 v4676) S1x32x5120.size hinb).WholeWords (EltTy.packing .fp8e4m3))
theorem k0_mult1_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h2 : k0_cond2 v4676 = 1#1), 32 ∣ (k0_mult1 v4676).toNat := fun v0 v5 v10 v15 v20 v25 v30 v35 v40 v45 v50 v55 v4676 k0_hw1 k0_h1 k0_h2 => k0_hw1.1 k0_h1 k0_h2
theorem k0_mult2_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h2 : k0_cond2 v4676 = 1#1), 32 ∣ (k0_mult2 v4676).toNat := fun v0 v5 v10 v15 v20 v25 v30 v35 v40 v45 v50 v55 v4676 k0_hw1 k0_h1 k0_h2 => k0_hw1.2.1 k0_h1 k0_h2
theorem k0_off2_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h2 : k0_cond2 v4676 = 1#1), ∀ a, (k0_off2 v4676) a + S1x512x5120.size a ≤ S6x512x5120.size a := fun v0 v5 v10 v15 v20 v25 v30 v35 v40 v45 v50 v55 v4676 k0_hw1 k0_h1 k0_h2 => k0_hw1.2.2.1 k0_h1 k0_h2
theorem k0_off3_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h2 : k0_cond2 v4676 = 1#1), ∀ a, (k0_off3 v4676) a + S1x512x5120.size a ≤ S12x4096x5120.size a := fun v0 v5 v10 v15 v20 v25 v30 v35 v40 v45 v50 v55 v4676 k0_hw1 k0_h1 k0_h2 => k0_hw1.2.2.2.1 k0_h1 k0_h2
theorem k0_off3_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h2 : k0_cond2 v4676 = 1#1), (Rect.unit (s := S12x4096x5120) (k0_off3 v4676) S1x512x5120.size (k0_off3_inb v0 v5 v10 v15 v20 v25 v30 v35 v40 v45 v50 v55 v4676 k0_hw1 k0_h1 k0_h2)).WholeWords (EltTy.packing .fp8e4m3) := fun v0 v5 v10 v15 v20 v25 v30 v35 v40 v45 v50 v55 v4676 k0_hw1 k0_h1 k0_h2 => k0_hw1.2.2.2.2.1 k0_h1 k0_h2 (k0_off3_inb v0 v5 v10 v15 v20 v25 v30 v35 v40 v45 v50 v55 v4676 k0_hw1 k0_h1 k0_h2)
theorem k0_off2_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h2 : k0_cond2 v4676 = 1#1), (Rect.unit (s := S6x512x5120) (k0_off2 v4676) S1x512x5120.size (k0_off2_inb v0 v5 v10 v15 v20 v25 v30 v35 v40 v45 v50 v55 v4676 k0_hw1 k0_h1 k0_h2)).WholeWords (EltTy.packing .fp8e4m3) := fun v0 v5 v10 v15 v20 v25 v30 v35 v40 v45 v50 v55 v4676 k0_hw1 k0_h1 k0_h2 => k0_hw1.2.2.2.2.2.1 k0_h1 k0_h2 (k0_off2_inb v0 v5 v10 v15 v20 v25 v30 v35 v40 v45 v50 v55 v4676 k0_hw1 k0_h1 k0_h2)
theorem k0_mult3_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h3 : k0_cond3 v4676 = 1#1), 32 ∣ (k0_mult3 v4676).toNat := fun v0 v5 v10 v15 v20 v25 v30 v35 v40 v45 v50 v55 v4676 k0_hw1 k0_h1 k0_h3 => k0_hw1.2.2.2.2.2.2.1 k0_h1 k0_h3
theorem k0_mult4_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h3 : k0_cond3 v4676 = 1#1), 32 ∣ (k0_mult4 v4676).toNat := fun v0 v5 v10 v15 v20 v25 v30 v35 v40 v45 v50 v55 v4676 k0_hw1 k0_h1 k0_h3 => k0_hw1.2.2.2.2.2.2.2.1 k0_h1 k0_h3
theorem k0_off5_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h3 : k0_cond3 v4676 = 1#1), ∀ a, (k0_off5 v4676) a + S1x256x5120.size a ≤ S6x512x5120.size a := fun v0 v5 v10 v15 v20 v25 v30 v35 v40 v45 v50 v55 v4676 k0_hw1 k0_h1 k0_h3 => k0_hw1.2.2.2.2.2.2.2.2.1 k0_h1 k0_h3
theorem k0_off6_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h3 : k0_cond3 v4676 = 1#1), ∀ a, (k0_off6 v4676) a + S1x256x5120.size a ≤ S12x4096x5120.size a := fun v0 v5 v10 v15 v20 v25 v30 v35 v40 v45 v50 v55 v4676 k0_hw1 k0_h1 k0_h3 => k0_hw1.2.2.2.2.2.2.2.2.2.1 k0_h1 k0_h3
theorem k0_off6_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h3 : k0_cond3 v4676 = 1#1), (Rect.unit (s := S12x4096x5120) (k0_off6 v4676) S1x256x5120.size (k0_off6_inb v0 v5 v10 v15 v20 v25 v30 v35 v40 v45 v50 v55 v4676 k0_hw1 k0_h1 k0_h3)).WholeWords (EltTy.packing .fp8e4m3) := fun v0 v5 v10 v15 v20 v25 v30 v35 v40 v45 v50 v55 v4676 k0_hw1 k0_h1 k0_h3 => k0_hw1.2.2.2.2.2.2.2.2.2.2.1 k0_h1 k0_h3 (k0_off6_inb v0 v5 v10 v15 v20 v25 v30 v35 v40 v45 v50 v55 v4676 k0_hw1 k0_h1 k0_h3)
theorem k0_off5_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h3 : k0_cond3 v4676 = 1#1), (Rect.unit (s := S6x512x5120) (k0_off5 v4676) S1x256x5120.size (k0_off5_inb v0 v5 v10 v15 v20 v25 v30 v35 v40 v45 v50 v55 v4676 k0_hw1 k0_h1 k0_h3)).WholeWords (EltTy.packing .fp8e4m3) := fun v0 v5 v10 v15 v20 v25 v30 v35 v40 v45 v50 v55 v4676 k0_hw1 k0_h1 k0_h3 => k0_hw1.2.2.2.2.2.2.2.2.2.2.2.1 k0_h1 k0_h3 (k0_off5_inb v0 v5 v10 v15 v20 v25 v30 v35 v40 v45 v50 v55 v4676 k0_hw1 k0_h1 k0_h3)
theorem k0_mult5_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h4 : k0_cond4 v4676 = 1#1), 32 ∣ (k0_mult5 v4676).toNat := fun v0 v5 v10 v15 v20 v25 v30 v35 v40 v45 v50 v55 v4676 k0_hw1 k0_h1 k0_h4 => k0_hw1.2.2.2.2.2.2.2.2.2.2.2.2.1 k0_h1 k0_h4
theorem k0_mult6_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h4 : k0_cond4 v4676 = 1#1), 32 ∣ (k0_mult6 v4676).toNat := fun v0 v5 v10 v15 v20 v25 v30 v35 v40 v45 v50 v55 v4676 k0_hw1 k0_h1 k0_h4 => k0_hw1.2.2.2.2.2.2.2.2.2.2.2.2.2.1 k0_h1 k0_h4
theorem k0_off8_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h4 : k0_cond4 v4676 = 1#1), ∀ a, (k0_off8 v4676) a + S1x128x5120.size a ≤ S6x512x5120.size a := fun v0 v5 v10 v15 v20 v25 v30 v35 v40 v45 v50 v55 v4676 k0_hw1 k0_h1 k0_h4 => k0_hw1.2.2.2.2.2.2.2.2.2.2.2.2.2.2.1 k0_h1 k0_h4
theorem k0_off9_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h4 : k0_cond4 v4676 = 1#1), ∀ a, (k0_off9 v4676) a + S1x128x5120.size a ≤ S12x4096x5120.size a := fun v0 v5 v10 v15 v20 v25 v30 v35 v40 v45 v50 v55 v4676 k0_hw1 k0_h1 k0_h4 => k0_hw1.2.2.2.2.2.2.2.2.2.2.2.2.2.2.2.1 k0_h1 k0_h4
theorem k0_off9_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h4 : k0_cond4 v4676 = 1#1), (Rect.unit (s := S12x4096x5120) (k0_off9 v4676) S1x128x5120.size (k0_off9_inb v0 v5 v10 v15 v20 v25 v30 v35 v40 v45 v50 v55 v4676 k0_hw1 k0_h1 k0_h4)).WholeWords (EltTy.packing .fp8e4m3) := fun v0 v5 v10 v15 v20 v25 v30 v35 v40 v45 v50 v55 v4676 k0_hw1 k0_h1 k0_h4 => k0_hw1.2.2.2.2.2.2.2.2.2.2.2.2.2.2.2.2.1 k0_h1 k0_h4 (k0_off9_inb v0 v5 v10 v15 v20 v25 v30 v35 v40 v45 v50 v55 v4676 k0_hw1 k0_h1 k0_h4)
theorem k0_off8_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h4 : k0_cond4 v4676 = 1#1), (Rect.unit (s := S6x512x5120) (k0_off8 v4676) S1x128x5120.size (k0_off8_inb v0 v5 v10 v15 v20 v25 v30 v35 v40 v45 v50 v55 v4676 k0_hw1 k0_h1 k0_h4)).WholeWords (EltTy.packing .fp8e4m3) := fun v0 v5 v10 v15 v20 v25 v30 v35 v40 v45 v50 v55 v4676 k0_hw1 k0_h1 k0_h4 => k0_hw1.2.2.2.2.2.2.2.2.2.2.2.2.2.2.2.2.2.1 k0_h1 k0_h4 (k0_off8_inb v0 v5 v10 v15 v20 v25 v30 v35 v40 v45 v50 v55 v4676 k0_hw1 k0_h1 k0_h4)
theorem k0_mult7_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h5 : k0_cond5 v4676 = 1#1), 32 ∣ (k0_mult7 v4676).toNat := fun v0 v5 v10 v15 v20 v25 v30 v35 v40 v45 v50 v55 v4676 k0_hw1 k0_h1 k0_h5 => k0_hw1.2.2.2.2.2.2.2.2.2.2.2.2.2.2.2.2.2.2.1 k0_h1 k0_h5
theorem k0_mult8_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h5 : k0_cond5 v4676 = 1#1), 32 ∣ (k0_mult8 v4676).toNat := fun v0 v5 v10 v15 v20 v25 v30 v35 v40 v45 v50 v55 v4676 k0_hw1 k0_h1 k0_h5 => k0_hw1.2.2.2.2.2.2.2.2.2.2.2.2.2.2.2.2.2.2.2.1 k0_h1 k0_h5
theorem k0_off11_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h5 : k0_cond5 v4676 = 1#1), ∀ a, (k0_off11 v4676) a + S1x64x5120.size a ≤ S6x512x5120.size a := fun v0 v5 v10 v15 v20 v25 v30 v35 v40 v45 v50 v55 v4676 k0_hw1 k0_h1 k0_h5 => k0_hw1.2.2.2.2.2.2.2.2.2.2.2.2.2.2.2.2.2.2.2.2.1 k0_h1 k0_h5
theorem k0_off12_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h5 : k0_cond5 v4676 = 1#1), ∀ a, (k0_off12 v4676) a + S1x64x5120.size a ≤ S12x4096x5120.size a := fun v0 v5 v10 v15 v20 v25 v30 v35 v40 v45 v50 v55 v4676 k0_hw1 k0_h1 k0_h5 => k0_hw1.2.2.2.2.2.2.2.2.2.2.2.2.2.2.2.2.2.2.2.2.2.1 k0_h1 k0_h5
theorem k0_off12_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h5 : k0_cond5 v4676 = 1#1), (Rect.unit (s := S12x4096x5120) (k0_off12 v4676) S1x64x5120.size (k0_off12_inb v0 v5 v10 v15 v20 v25 v30 v35 v40 v45 v50 v55 v4676 k0_hw1 k0_h1 k0_h5)).WholeWords (EltTy.packing .fp8e4m3) := fun v0 v5 v10 v15 v20 v25 v30 v35 v40 v45 v50 v55 v4676 k0_hw1 k0_h1 k0_h5 => k0_hw1.2.2.2.2.2.2.2.2.2.2.2.2.2.2.2.2.2.2.2.2.2.2.1 k0_h1 k0_h5 (k0_off12_inb v0 v5 v10 v15 v20 v25 v30 v35 v40 v45 v50 v55 v4676 k0_hw1 k0_h1 k0_h5)
theorem k0_off11_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h5 : k0_cond5 v4676 = 1#1), (Rect.unit (s := S6x512x5120) (k0_off11 v4676) S1x64x5120.size (k0_off11_inb v0 v5 v10 v15 v20 v25 v30 v35 v40 v45 v50 v55 v4676 k0_hw1 k0_h1 k0_h5)).WholeWords (EltTy.packing .fp8e4m3) := fun v0 v5 v10 v15 v20 v25 v30 v35 v40 v45 v50 v55 v4676 k0_hw1 k0_h1 k0_h5 => k0_hw1.2.2.2.2.2.2.2.2.2.2.2.2.2.2.2.2.2.2.2.2.2.2.2.1 k0_h1 k0_h5 (k0_off11_inb v0 v5 v10 v15 v20 v25 v30 v35 v40 v45 v50 v55 v4676 k0_hw1 k0_h1 k0_h5)
theorem k0_mult9_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h6 : k0_cond6 v4676 = 1#1), 32 ∣ (k0_mult9 v4676).toNat := fun v0 v5 v10 v15 v20 v25 v30 v35 v40 v45 v50 v55 v4676 k0_hw1 k0_h1 k0_h6 => k0_hw1.2.2.2.2.2.2.2.2.2.2.2.2.2.2.2.2.2.2.2.2.2.2.2.2.1 k0_h1 k0_h6
theorem k0_mult10_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h6 : k0_cond6 v4676 = 1#1), 32 ∣ (k0_mult10 v4676).toNat := fun v0 v5 v10 v15 v20 v25 v30 v35 v40 v45 v50 v55 v4676 k0_hw1 k0_h1 k0_h6 => k0_hw1.2.2.2.2.2.2.2.2.2.2.2.2.2.2.2.2.2.2.2.2.2.2.2.2.2.1 k0_h1 k0_h6
theorem k0_off14_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h6 : k0_cond6 v4676 = 1#1), ∀ a, (k0_off14 v4676) a + S1x32x5120.size a ≤ S6x512x5120.size a := fun v0 v5 v10 v15 v20 v25 v30 v35 v40 v45 v50 v55 v4676 k0_hw1 k0_h1 k0_h6 => k0_hw1.2.2.2.2.2.2.2.2.2.2.2.2.2.2.2.2.2.2.2.2.2.2.2.2.2.2.1 k0_h1 k0_h6
theorem k0_off15_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h6 : k0_cond6 v4676 = 1#1), ∀ a, (k0_off15 v4676) a + S1x32x5120.size a ≤ S12x4096x5120.size a := fun v0 v5 v10 v15 v20 v25 v30 v35 v40 v45 v50 v55 v4676 k0_hw1 k0_h1 k0_h6 => k0_hw1.2.2.2.2.2.2.2.2.2.2.2.2.2.2.2.2.2.2.2.2.2.2.2.2.2.2.2.1 k0_h1 k0_h6
theorem k0_off15_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h6 : k0_cond6 v4676 = 1#1), (Rect.unit (s := S12x4096x5120) (k0_off15 v4676) S1x32x5120.size (k0_off15_inb v0 v5 v10 v15 v20 v25 v30 v35 v40 v45 v50 v55 v4676 k0_hw1 k0_h1 k0_h6)).WholeWords (EltTy.packing .fp8e4m3) := fun v0 v5 v10 v15 v20 v25 v30 v35 v40 v45 v50 v55 v4676 k0_hw1 k0_h1 k0_h6 => k0_hw1.2.2.2.2.2.2.2.2.2.2.2.2.2.2.2.2.2.2.2.2.2.2.2.2.2.2.2.2.1 k0_h1 k0_h6 (k0_off15_inb v0 v5 v10 v15 v20 v25 v30 v35 v40 v45 v50 v55 v4676 k0_hw1 k0_h1 k0_h6)
theorem k0_off14_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v4676 : BitVec 32) (k0_hw1 : k0_chk1 v0 v5 v10 v15 v20 v25 v30 v35 v40 v45 v50 v55 v4676), ∀ (k0_h1 : k0_cond1 v0 v5 v10 v15 v20 v25 v30 v35 v40 v45 v50 v55 = 1#1), ∀ (k0_h6 : k0_cond6 v4676 = 1#1), (Rect.unit (s := S6x512x5120) (k0_off14 v4676) S1x32x5120.size (k0_off14_inb v0 v5 v10 v15 v20 v25 v30 v35 v40 v45 v50 v55 v4676 k0_hw1 k0_h1 k0_h6)).WholeWords (EltTy.packing .fp8e4m3) := fun v0 v5 v10 v15 v20 v25 v30 v35 v40 v45 v50 v55 v4676 k0_hw1 k0_h1 k0_h6 => k0_hw1.2.2.2.2.2.2.2.2.2.2.2.2.2.2.2.2.2.2.2.2.2.2.2.2.2.2.2.2.2 k0_h1 k0_h6 (k0_off14_inb v0 v5 v10 v15 v20 v25 v30 v35 v40 v45 v50 v55 v4676 k0_hw1 k0_h1 k0_h6)

def k0_mult11 : BitVec 32 :=
  let c0_i32_36 : BitVec 32 := 0#32
  let c512_i32_2227 : BitVec 32 := 512#32
  let v4683 : BitVec 32 := Scalar.muli c0_i32_36 c512_i32_2227
  v4683
def k0_off16 : Fin 1 → Nat :=
  let c0_i32_34 : BitVec 32 := 0#32
  let c6_i32_2223 : BitVec 32 := 6#32
  let v4674 : BitVec 32 := Scalar.remsi c0_i32_34 c6_i32_2223
  ![v4674.toNat]
def k0_off17 : Fin 3 → Nat :=
  let c0_i32_34 : BitVec 32 := 0#32
  let c6_i32_2223 : BitVec 32 := 6#32
  let v4674 : BitVec 32 := Scalar.remsi c0_i32_34 c6_i32_2223
  let c0_i32_2242 : BitVec 32 := 0#32
  let c0_i32_2243 : BitVec 32 := 0#32
  ![v4674.toNat, 0, 0]
def k0_off18 : Fin 3 → Nat :=
  let c0_i32_35 : BitVec 32 := 0#32
  let c0_i32_2244 : BitVec 32 := 0#32
  let c0_i32_36 : BitVec 32 := 0#32
  let c512_i32_2227 : BitVec 32 := 512#32
  let v4683 : BitVec 32 := Scalar.muli c0_i32_36 c512_i32_2227
  let v4704 : BitVec 32 := v4683
  ![0, 0, v4704.toNat]
def k0_off19 : Fin 1 → Nat :=
  let c0_i32_40 : BitVec 32 := 0#32
  let c11_i32 : BitVec 32 := 11#32
  let v65 : BitVec 32 := Scalar.minsi c0_i32_40 c11_i32
  let v66 : Index := Scalar.indexCast v65
  ![v66.toNat]
def k0_off20 (v67 : BitVec 32) : Fin 1 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let v4675 : Index := Scalar.indexCast v70
  ![v4675.toNat]
def k0_cond7 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) : BitVec 1 :=
  let c1_i32_47 : BitVec 32 := 1#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v73 : BitVec 1 := Scalar.cmpi .slt c1_i32_47 v59
  let v74 : BitVec 32 := Scalar.extui v73
  let c0_i32_49 : BitVec 32 := 0#32
  let v75 : BitVec 1 := Scalar.cmpi .ne v74 c0_i32_49
  v75

def k0_mult12 (v67 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  v4711
def k0_cond8 (v67 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c512_i32_2228 : BitVec 32 := 512#32
  let v4684 : BitVec 32 := Scalar.andi v4682 c512_i32_2228
  let c0_i32_2229 : BitVec 32 := 0#32
  let v4685 : BitVec 1 := Scalar.cmpi .ne v4684 c0_i32_2229
  let v4686 : BitVec 32 := Scalar.extui v4685
  let c0_i32_2230 : BitVec 32 := 0#32
  let v4687 : BitVec 1 := Scalar.cmpi .ne v4686 c0_i32_2230
  v4687

def k0_mult13 (v67 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2227 : BitVec 32 := 512#32
  let v4683 : BitVec 32 := Scalar.muli v72 c512_i32_2227
  let c512_i32_2226 : BitVec 32 := 512#32
  let c0_i32_2225 : BitVec 32 := 0#32
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let v4713 : BitVec 32 := Scalar.addi v4683 v4712
  v4713
def k0_off21 : Fin 1 → Nat :=
  let c1_i32_48 : BitVec 32 := 1#32
  let c6_i32_2223 : BitVec 32 := 6#32
  let v4674 : BitVec 32 := Scalar.remsi c1_i32_48 c6_i32_2223
  ![v4674.toNat]
def k0_off22 (v67 : BitVec 32) (v4676 : BitVec 32) : Fin 3 → Nat :=
  let c1_i32_48 : BitVec 32 := 1#32
  let c6_i32_2223 : BitVec 32 := 6#32
  let v4674 : BitVec 32 := Scalar.remsi c1_i32_48 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let c0_i32_2245 : BitVec 32 := 0#32
  ![v4674.toNat, v4712.toNat, 0]
def k0_off23 (v67 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2227 : BitVec 32 := 512#32
  let v4683 : BitVec 32 := Scalar.muli v72 c512_i32_2227
  let c512_i32_2226 : BitVec 32 := 512#32
  let c0_i32_2225 : BitVec 32 := 0#32
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let v4713 : BitVec 32 := Scalar.addi v4683 v4712
  let v4714 : BitVec 32 := v4713
  let c0_i32_2246 : BitVec 32 := 0#32
  ![v70.toNat, v4714.toNat, 0]
def k0_mult14 (v67 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  v4711
def k0_cond9 (v67 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c256_i32_2231 : BitVec 32 := 256#32
  let v4688 : BitVec 32 := Scalar.andi v4682 c256_i32_2231
  let c0_i32_2232 : BitVec 32 := 0#32
  let v4689 : BitVec 1 := Scalar.cmpi .ne v4688 c0_i32_2232
  let v4690 : BitVec 32 := Scalar.extui v4689
  let c0_i32_2233 : BitVec 32 := 0#32
  let v4691 : BitVec 1 := Scalar.cmpi .ne v4690 c0_i32_2233
  v4691

def k0_mult15 (v67 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2227 : BitVec 32 := 512#32
  let v4683 : BitVec 32 := Scalar.muli v72 c512_i32_2227
  let c512_i32_2226 : BitVec 32 := 512#32
  let c0_i32_2225 : BitVec 32 := 0#32
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let v4713 : BitVec 32 := Scalar.addi v4683 v4712
  v4713
def k0_off24 : Fin 1 → Nat :=
  let c1_i32_48 : BitVec 32 := 1#32
  let c6_i32_2223 : BitVec 32 := 6#32
  let v4674 : BitVec 32 := Scalar.remsi c1_i32_48 c6_i32_2223
  ![v4674.toNat]
def k0_off25 (v67 : BitVec 32) (v4676 : BitVec 32) : Fin 3 → Nat :=
  let c1_i32_48 : BitVec 32 := 1#32
  let c6_i32_2223 : BitVec 32 := 6#32
  let v4674 : BitVec 32 := Scalar.remsi c1_i32_48 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let c0_i32_2245 : BitVec 32 := 0#32
  ![v4674.toNat, v4712.toNat, 0]
def k0_off26 (v67 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2227 : BitVec 32 := 512#32
  let v4683 : BitVec 32 := Scalar.muli v72 c512_i32_2227
  let c512_i32_2226 : BitVec 32 := 512#32
  let c0_i32_2225 : BitVec 32 := 0#32
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let v4713 : BitVec 32 := Scalar.addi v4683 v4712
  let v4714 : BitVec 32 := v4713
  let c0_i32_2246 : BitVec 32 := 0#32
  ![v70.toNat, v4714.toNat, 0]
def k0_mult16 (v67 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  v4711
def k0_cond10 (v67 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c128_i32_2234 : BitVec 32 := 128#32
  let v4692 : BitVec 32 := Scalar.andi v4682 c128_i32_2234
  let c0_i32_2235 : BitVec 32 := 0#32
  let v4693 : BitVec 1 := Scalar.cmpi .ne v4692 c0_i32_2235
  let v4694 : BitVec 32 := Scalar.extui v4693
  let c0_i32_2236 : BitVec 32 := 0#32
  let v4695 : BitVec 1 := Scalar.cmpi .ne v4694 c0_i32_2236
  v4695

def k0_mult17 (v67 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2227 : BitVec 32 := 512#32
  let v4683 : BitVec 32 := Scalar.muli v72 c512_i32_2227
  let c512_i32_2226 : BitVec 32 := 512#32
  let c0_i32_2225 : BitVec 32 := 0#32
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let v4713 : BitVec 32 := Scalar.addi v4683 v4712
  v4713
def k0_off27 : Fin 1 → Nat :=
  let c1_i32_48 : BitVec 32 := 1#32
  let c6_i32_2223 : BitVec 32 := 6#32
  let v4674 : BitVec 32 := Scalar.remsi c1_i32_48 c6_i32_2223
  ![v4674.toNat]
def k0_off28 (v67 : BitVec 32) (v4676 : BitVec 32) : Fin 3 → Nat :=
  let c1_i32_48 : BitVec 32 := 1#32
  let c6_i32_2223 : BitVec 32 := 6#32
  let v4674 : BitVec 32 := Scalar.remsi c1_i32_48 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let c0_i32_2245 : BitVec 32 := 0#32
  ![v4674.toNat, v4712.toNat, 0]
def k0_off29 (v67 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2227 : BitVec 32 := 512#32
  let v4683 : BitVec 32 := Scalar.muli v72 c512_i32_2227
  let c512_i32_2226 : BitVec 32 := 512#32
  let c0_i32_2225 : BitVec 32 := 0#32
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let v4713 : BitVec 32 := Scalar.addi v4683 v4712
  let v4714 : BitVec 32 := v4713
  let c0_i32_2246 : BitVec 32 := 0#32
  ![v70.toNat, v4714.toNat, 0]
def k0_mult18 (v67 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  v4711
def k0_cond11 (v67 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c64_i32_2237 : BitVec 32 := 64#32
  let v4696 : BitVec 32 := Scalar.andi v4682 c64_i32_2237
  let c0_i32_2238 : BitVec 32 := 0#32
  let v4697 : BitVec 1 := Scalar.cmpi .ne v4696 c0_i32_2238
  let v4698 : BitVec 32 := Scalar.extui v4697
  let c0_i32_2239 : BitVec 32 := 0#32
  let v4699 : BitVec 1 := Scalar.cmpi .ne v4698 c0_i32_2239
  v4699

def k0_mult19 (v67 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2227 : BitVec 32 := 512#32
  let v4683 : BitVec 32 := Scalar.muli v72 c512_i32_2227
  let c512_i32_2226 : BitVec 32 := 512#32
  let c0_i32_2225 : BitVec 32 := 0#32
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let v4713 : BitVec 32 := Scalar.addi v4683 v4712
  v4713
def k0_off30 : Fin 1 → Nat :=
  let c1_i32_48 : BitVec 32 := 1#32
  let c6_i32_2223 : BitVec 32 := 6#32
  let v4674 : BitVec 32 := Scalar.remsi c1_i32_48 c6_i32_2223
  ![v4674.toNat]
def k0_off31 (v67 : BitVec 32) (v4676 : BitVec 32) : Fin 3 → Nat :=
  let c1_i32_48 : BitVec 32 := 1#32
  let c6_i32_2223 : BitVec 32 := 6#32
  let v4674 : BitVec 32 := Scalar.remsi c1_i32_48 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let c0_i32_2245 : BitVec 32 := 0#32
  ![v4674.toNat, v4712.toNat, 0]
def k0_off32 (v67 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2227 : BitVec 32 := 512#32
  let v4683 : BitVec 32 := Scalar.muli v72 c512_i32_2227
  let c512_i32_2226 : BitVec 32 := 512#32
  let c0_i32_2225 : BitVec 32 := 0#32
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let v4713 : BitVec 32 := Scalar.addi v4683 v4712
  let v4714 : BitVec 32 := v4713
  let c0_i32_2246 : BitVec 32 := 0#32
  ![v70.toNat, v4714.toNat, 0]
def k0_mult20 (v67 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  v4711
def k0_cond12 (v67 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c32_i32 : BitVec 32 := 32#32
  let v4700 : BitVec 32 := Scalar.andi v4682 c32_i32
  let c0_i32_2240 : BitVec 32 := 0#32
  let v4701 : BitVec 1 := Scalar.cmpi .ne v4700 c0_i32_2240
  let v4702 : BitVec 32 := Scalar.extui v4701
  let c0_i32_2241 : BitVec 32 := 0#32
  let v4703 : BitVec 1 := Scalar.cmpi .ne v4702 c0_i32_2241
  v4703

def k0_mult21 (v67 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2227 : BitVec 32 := 512#32
  let v4683 : BitVec 32 := Scalar.muli v72 c512_i32_2227
  let c512_i32_2226 : BitVec 32 := 512#32
  let c0_i32_2225 : BitVec 32 := 0#32
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let v4713 : BitVec 32 := Scalar.addi v4683 v4712
  v4713
def k0_off33 : Fin 1 → Nat :=
  let c1_i32_48 : BitVec 32 := 1#32
  let c6_i32_2223 : BitVec 32 := 6#32
  let v4674 : BitVec 32 := Scalar.remsi c1_i32_48 c6_i32_2223
  ![v4674.toNat]
def k0_off34 (v67 : BitVec 32) (v4676 : BitVec 32) : Fin 3 → Nat :=
  let c1_i32_48 : BitVec 32 := 1#32
  let c6_i32_2223 : BitVec 32 := 6#32
  let v4674 : BitVec 32 := Scalar.remsi c1_i32_48 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let c0_i32_2245 : BitVec 32 := 0#32
  ![v4674.toNat, v4712.toNat, 0]
def k0_off35 (v67 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2227 : BitVec 32 := 512#32
  let v4683 : BitVec 32 := Scalar.muli v72 c512_i32_2227
  let c512_i32_2226 : BitVec 32 := 512#32
  let c0_i32_2225 : BitVec 32 := 0#32
  let c512_i32_2224 : BitVec 32 := 512#32
  let v4677 : BitVec 32 := Scalar.muli v72 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let v4713 : BitVec 32 := Scalar.addi v4683 v4712
  let v4714 : BitVec 32 := v4713
  let c0_i32_2246 : BitVec 32 := 0#32
  ![v70.toNat, v4714.toNat, 0]

def k0_chk3 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) : Prop :=
  (∀ (k0_h7 : k0_cond7 v0 v5 v10 v15 v20 v25 v30 v35 v40 v45 v50 v55 = 1#1), ∀ (k0_h8 : k0_cond8 v67 v4676 = 1#1), 32 ∣ (k0_mult12 v67 v4676).toNat) ∧
  (∀ (k0_h7 : k0_cond7 v0 v5 v10 v15 v20 v25 v30 v35 v40 v45 v50 v55 = 1#1), ∀ (k0_h8 : k0_cond8 v67 v4676 = 1#1), 32 ∣ (k0_mult13 v67 v4676).toNat) ∧
  (∀ (k0_h7 : k0_cond7 v0 v5 v10 v15 v20 v25 v30 v35 v40 v45 v50 v55 = 1#1), ∀ (k0_h8 : k0_cond8 v67 v4676 = 1#1), ∀ a, (k0_off22 v67 v4676) a + S1x512x5120.size a ≤ S6x512x5120.size a) ∧
  (∀ (k0_h7 : k0_cond7 v0 v5 v10 v15 v20 v25 v30 v35 v40 v45 v50 v55 = 1#1), ∀ (k0_h8 : k0_cond8 v67 v4676 = 1#1), ∀ a, (k0_off23 v67 v4676) a + S1x512x5120.size a ≤ S12x4096x5120.size a) ∧
  (∀ (k0_h7 : k0_cond7 v0 v5 v10 v15 v20 v25 v30 v35 v40 v45 v50 v55 = 1#1), ∀ (k0_h8 : k0_cond8 v67 v4676 = 1#1), ∀ (hinb : ∀ a, (k0_off23 v67 v4676) a + S1x512x5120.size a ≤ S12x4096x5120.size a), (Rect.unit (s := S12x4096x5120) (k0_off23 v67 v4676) S1x512x5120.size hinb).WholeWords (EltTy.packing .fp8e4m3)) ∧
  (∀ (k0_h7 : k0_cond7 v0 v5 v10 v15 v20 v25 v30 v35 v40 v45 v50 v55 = 1#1), ∀ (k0_h8 : k0_cond8 v67 v4676 = 1#1), ∀ (hinb : ∀ a, (k0_off22 v67 v4676) a + S1x512x5120.size a ≤ S6x512x5120.size a), (Rect.unit (s := S6x512x5120) (k0_off22 v67 v4676) S1x512x5120.size hinb).WholeWords (EltTy.packing .fp8e4m3)) ∧
  (∀ (k0_h7 : k0_cond7 v0 v5 v10 v15 v20 v25 v30 v35 v40 v45 v50 v55 = 1#1), ∀ (k0_h9 : k0_cond9 v67 v4676 = 1#1), 32 ∣ (k0_mult14 v67 v4676).toNat) ∧
  (∀ (k0_h7 : k0_cond7 v0 v5 v10 v15 v20 v25 v30 v35 v40 v45 v50 v55 = 1#1), ∀ (k0_h9 : k0_cond9 v67 v4676 = 1#1), 32 ∣ (k0_mult15 v67 v4676).toNat) ∧
  (∀ (k0_h7 : k0_cond7 v0 v5 v10 v15 v20 v25 v30 v35 v40 v45 v50 v55 = 1#1), ∀ (k0_h9 : k0_cond9 v67 v4676 = 1#1), ∀ a, (k0_off25 v67 v4676) a + S1x256x5120.size a ≤ S6x512x5120.size a) ∧
  (∀ (k0_h7 : k0_cond7 v0 v5 v10 v15 v20 v25 v30 v35 v40 v45 v50 v55 = 1#1), ∀ (k0_h9 : k0_cond9 v67 v4676 = 1#1), ∀ a, (k0_off26 v67 v4676) a + S1x256x5120.size a ≤ S12x4096x5120.size a) ∧
  (∀ (k0_h7 : k0_cond7 v0 v5 v10 v15 v20 v25 v30 v35 v40 v45 v50 v55 = 1#1), ∀ (k0_h9 : k0_cond9 v67 v4676 = 1#1), ∀ (hinb : ∀ a, (k0_off26 v67 v4676) a + S1x256x5120.size a ≤ S12x4096x5120.size a), (Rect.unit (s := S12x4096x5120) (k0_off26 v67 v4676) S1x256x5120.size hinb).WholeWords (EltTy.packing .fp8e4m3)) ∧
  (∀ (k0_h7 : k0_cond7 v0 v5 v10 v15 v20 v25 v30 v35 v40 v45 v50 v55 = 1#1), ∀ (k0_h9 : k0_cond9 v67 v4676 = 1#1), ∀ (hinb : ∀ a, (k0_off25 v67 v4676) a + S1x256x5120.size a ≤ S6x512x5120.size a), (Rect.unit (s := S6x512x5120) (k0_off25 v67 v4676) S1x256x5120.size hinb).WholeWords (EltTy.packing .fp8e4m3)) ∧
  (∀ (k0_h7 : k0_cond7 v0 v5 v10 v15 v20 v25 v30 v35 v40 v45 v50 v55 = 1#1), ∀ (k0_h10 : k0_cond10 v67 v4676 = 1#1), 32 ∣ (k0_mult16 v67 v4676).toNat) ∧
  (∀ (k0_h7 : k0_cond7 v0 v5 v10 v15 v20 v25 v30 v35 v40 v45 v50 v55 = 1#1), ∀ (k0_h10 : k0_cond10 v67 v4676 = 1#1), 32 ∣ (k0_mult17 v67 v4676).toNat) ∧
  (∀ (k0_h7 : k0_cond7 v0 v5 v10 v15 v20 v25 v30 v35 v40 v45 v50 v55 = 1#1), ∀ (k0_h10 : k0_cond10 v67 v4676 = 1#1), ∀ a, (k0_off28 v67 v4676) a + S1x128x5120.size a ≤ S6x512x5120.size a) ∧
  (∀ (k0_h7 : k0_cond7 v0 v5 v10 v15 v20 v25 v30 v35 v40 v45 v50 v55 = 1#1), ∀ (k0_h10 : k0_cond10 v67 v4676 = 1#1), ∀ a, (k0_off29 v67 v4676) a + S1x128x5120.size a ≤ S12x4096x5120.size a) ∧
  (∀ (k0_h7 : k0_cond7 v0 v5 v10 v15 v20 v25 v30 v35 v40 v45 v50 v55 = 1#1), ∀ (k0_h10 : k0_cond10 v67 v4676 = 1#1), ∀ (hinb : ∀ a, (k0_off29 v67 v4676) a + S1x128x5120.size a ≤ S12x4096x5120.size a), (Rect.unit (s := S12x4096x5120) (k0_off29 v67 v4676) S1x128x5120.size hinb).WholeWords (EltTy.packing .fp8e4m3)) ∧
  (∀ (k0_h7 : k0_cond7 v0 v5 v10 v15 v20 v25 v30 v35 v40 v45 v50 v55 = 1#1), ∀ (k0_h10 : k0_cond10 v67 v4676 = 1#1), ∀ (hinb : ∀ a, (k0_off28 v67 v4676) a + S1x128x5120.size a ≤ S6x512x5120.size a), (Rect.unit (s := S6x512x5120) (k0_off28 v67 v4676) S1x128x5120.size hinb).WholeWords (EltTy.packing .fp8e4m3)) ∧
  (∀ (k0_h7 : k0_cond7 v0 v5 v10 v15 v20 v25 v30 v35 v40 v45 v50 v55 = 1#1), ∀ (k0_h11 : k0_cond11 v67 v4676 = 1#1), 32 ∣ (k0_mult18 v67 v4676).toNat) ∧
  (∀ (k0_h7 : k0_cond7 v0 v5 v10 v15 v20 v25 v30 v35 v40 v45 v50 v55 = 1#1), ∀ (k0_h11 : k0_cond11 v67 v4676 = 1#1), 32 ∣ (k0_mult19 v67 v4676).toNat) ∧
  (∀ (k0_h7 : k0_cond7 v0 v5 v10 v15 v20 v25 v30 v35 v40 v45 v50 v55 = 1#1), ∀ (k0_h11 : k0_cond11 v67 v4676 = 1#1), ∀ a, (k0_off31 v67 v4676) a + S1x64x5120.size a ≤ S6x512x5120.size a) ∧
  (∀ (k0_h7 : k0_cond7 v0 v5 v10 v15 v20 v25 v30 v35 v40 v45 v50 v55 = 1#1), ∀ (k0_h11 : k0_cond11 v67 v4676 = 1#1), ∀ a, (k0_off32 v67 v4676) a + S1x64x5120.size a ≤ S12x4096x5120.size a) ∧
  (∀ (k0_h7 : k0_cond7 v0 v5 v10 v15 v20 v25 v30 v35 v40 v45 v50 v55 = 1#1), ∀ (k0_h11 : k0_cond11 v67 v4676 = 1#1), ∀ (hinb : ∀ a, (k0_off32 v67 v4676) a + S1x64x5120.size a ≤ S12x4096x5120.size a), (Rect.unit (s := S12x4096x5120) (k0_off32 v67 v4676) S1x64x5120.size hinb).WholeWords (EltTy.packing .fp8e4m3)) ∧
  (∀ (k0_h7 : k0_cond7 v0 v5 v10 v15 v20 v25 v30 v35 v40 v45 v50 v55 = 1#1), ∀ (k0_h11 : k0_cond11 v67 v4676 = 1#1), ∀ (hinb : ∀ a, (k0_off31 v67 v4676) a + S1x64x5120.size a ≤ S6x512x5120.size a), (Rect.unit (s := S6x512x5120) (k0_off31 v67 v4676) S1x64x5120.size hinb).WholeWords (EltTy.packing .fp8e4m3)) ∧
  (∀ (k0_h7 : k0_cond7 v0 v5 v10 v15 v20 v25 v30 v35 v40 v45 v50 v55 = 1#1), ∀ (k0_h12 : k0_cond12 v67 v4676 = 1#1), 32 ∣ (k0_mult20 v67 v4676).toNat) ∧
  (∀ (k0_h7 : k0_cond7 v0 v5 v10 v15 v20 v25 v30 v35 v40 v45 v50 v55 = 1#1), ∀ (k0_h12 : k0_cond12 v67 v4676 = 1#1), 32 ∣ (k0_mult21 v67 v4676).toNat) ∧
  (∀ (k0_h7 : k0_cond7 v0 v5 v10 v15 v20 v25 v30 v35 v40 v45 v50 v55 = 1#1), ∀ (k0_h12 : k0_cond12 v67 v4676 = 1#1), ∀ a, (k0_off34 v67 v4676) a + S1x32x5120.size a ≤ S6x512x5120.size a) ∧
  (∀ (k0_h7 : k0_cond7 v0 v5 v10 v15 v20 v25 v30 v35 v40 v45 v50 v55 = 1#1), ∀ (k0_h12 : k0_cond12 v67 v4676 = 1#1), ∀ a, (k0_off35 v67 v4676) a + S1x32x5120.size a ≤ S12x4096x5120.size a) ∧
  (∀ (k0_h7 : k0_cond7 v0 v5 v10 v15 v20 v25 v30 v35 v40 v45 v50 v55 = 1#1), ∀ (k0_h12 : k0_cond12 v67 v4676 = 1#1), ∀ (hinb : ∀ a, (k0_off35 v67 v4676) a + S1x32x5120.size a ≤ S12x4096x5120.size a), (Rect.unit (s := S12x4096x5120) (k0_off35 v67 v4676) S1x32x5120.size hinb).WholeWords (EltTy.packing .fp8e4m3)) ∧
  (∀ (k0_h7 : k0_cond7 v0 v5 v10 v15 v20 v25 v30 v35 v40 v45 v50 v55 = 1#1), ∀ (k0_h12 : k0_cond12 v67 v4676 = 1#1), ∀ (hinb : ∀ a, (k0_off34 v67 v4676) a + S1x32x5120.size a ≤ S6x512x5120.size a), (Rect.unit (s := S6x512x5120) (k0_off34 v67 v4676) S1x32x5120.size hinb).WholeWords (EltTy.packing .fp8e4m3))
theorem k0_mult12_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h8 : k0_cond8 v67 v4676 = 1#1), 32 ∣ (k0_mult12 v67 v4676).toNat := fun v0 v5 v10 v15 v20 v25 v30 v35 v40 v45 v50 v55 v67 v4676 k0_hw3 k0_h7 k0_h8 => k0_hw3.1 k0_h7 k0_h8
theorem k0_mult13_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h8 : k0_cond8 v67 v4676 = 1#1), 32 ∣ (k0_mult13 v67 v4676).toNat := fun v0 v5 v10 v15 v20 v25 v30 v35 v40 v45 v50 v55 v67 v4676 k0_hw3 k0_h7 k0_h8 => k0_hw3.2.1 k0_h7 k0_h8
theorem k0_off22_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h8 : k0_cond8 v67 v4676 = 1#1), ∀ a, (k0_off22 v67 v4676) a + S1x512x5120.size a ≤ S6x512x5120.size a := fun v0 v5 v10 v15 v20 v25 v30 v35 v40 v45 v50 v55 v67 v4676 k0_hw3 k0_h7 k0_h8 => k0_hw3.2.2.1 k0_h7 k0_h8
theorem k0_off23_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h8 : k0_cond8 v67 v4676 = 1#1), ∀ a, (k0_off23 v67 v4676) a + S1x512x5120.size a ≤ S12x4096x5120.size a := fun v0 v5 v10 v15 v20 v25 v30 v35 v40 v45 v50 v55 v67 v4676 k0_hw3 k0_h7 k0_h8 => k0_hw3.2.2.2.1 k0_h7 k0_h8
theorem k0_off23_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h8 : k0_cond8 v67 v4676 = 1#1), (Rect.unit (s := S12x4096x5120) (k0_off23 v67 v4676) S1x512x5120.size (k0_off23_inb v0 v5 v10 v15 v20 v25 v30 v35 v40 v45 v50 v55 v67 v4676 k0_hw3 k0_h7 k0_h8)).WholeWords (EltTy.packing .fp8e4m3) := fun v0 v5 v10 v15 v20 v25 v30 v35 v40 v45 v50 v55 v67 v4676 k0_hw3 k0_h7 k0_h8 => k0_hw3.2.2.2.2.1 k0_h7 k0_h8 (k0_off23_inb v0 v5 v10 v15 v20 v25 v30 v35 v40 v45 v50 v55 v67 v4676 k0_hw3 k0_h7 k0_h8)
theorem k0_off22_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h8 : k0_cond8 v67 v4676 = 1#1), (Rect.unit (s := S6x512x5120) (k0_off22 v67 v4676) S1x512x5120.size (k0_off22_inb v0 v5 v10 v15 v20 v25 v30 v35 v40 v45 v50 v55 v67 v4676 k0_hw3 k0_h7 k0_h8)).WholeWords (EltTy.packing .fp8e4m3) := fun v0 v5 v10 v15 v20 v25 v30 v35 v40 v45 v50 v55 v67 v4676 k0_hw3 k0_h7 k0_h8 => k0_hw3.2.2.2.2.2.1 k0_h7 k0_h8 (k0_off22_inb v0 v5 v10 v15 v20 v25 v30 v35 v40 v45 v50 v55 v67 v4676 k0_hw3 k0_h7 k0_h8)
theorem k0_mult14_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h9 : k0_cond9 v67 v4676 = 1#1), 32 ∣ (k0_mult14 v67 v4676).toNat := fun v0 v5 v10 v15 v20 v25 v30 v35 v40 v45 v50 v55 v67 v4676 k0_hw3 k0_h7 k0_h9 => k0_hw3.2.2.2.2.2.2.1 k0_h7 k0_h9
theorem k0_mult15_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h9 : k0_cond9 v67 v4676 = 1#1), 32 ∣ (k0_mult15 v67 v4676).toNat := fun v0 v5 v10 v15 v20 v25 v30 v35 v40 v45 v50 v55 v67 v4676 k0_hw3 k0_h7 k0_h9 => k0_hw3.2.2.2.2.2.2.2.1 k0_h7 k0_h9
theorem k0_off25_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h9 : k0_cond9 v67 v4676 = 1#1), ∀ a, (k0_off25 v67 v4676) a + S1x256x5120.size a ≤ S6x512x5120.size a := fun v0 v5 v10 v15 v20 v25 v30 v35 v40 v45 v50 v55 v67 v4676 k0_hw3 k0_h7 k0_h9 => k0_hw3.2.2.2.2.2.2.2.2.1 k0_h7 k0_h9
theorem k0_off26_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h9 : k0_cond9 v67 v4676 = 1#1), ∀ a, (k0_off26 v67 v4676) a + S1x256x5120.size a ≤ S12x4096x5120.size a := fun v0 v5 v10 v15 v20 v25 v30 v35 v40 v45 v50 v55 v67 v4676 k0_hw3 k0_h7 k0_h9 => k0_hw3.2.2.2.2.2.2.2.2.2.1 k0_h7 k0_h9
theorem k0_off26_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h9 : k0_cond9 v67 v4676 = 1#1), (Rect.unit (s := S12x4096x5120) (k0_off26 v67 v4676) S1x256x5120.size (k0_off26_inb v0 v5 v10 v15 v20 v25 v30 v35 v40 v45 v50 v55 v67 v4676 k0_hw3 k0_h7 k0_h9)).WholeWords (EltTy.packing .fp8e4m3) := fun v0 v5 v10 v15 v20 v25 v30 v35 v40 v45 v50 v55 v67 v4676 k0_hw3 k0_h7 k0_h9 => k0_hw3.2.2.2.2.2.2.2.2.2.2.1 k0_h7 k0_h9 (k0_off26_inb v0 v5 v10 v15 v20 v25 v30 v35 v40 v45 v50 v55 v67 v4676 k0_hw3 k0_h7 k0_h9)
theorem k0_off25_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h9 : k0_cond9 v67 v4676 = 1#1), (Rect.unit (s := S6x512x5120) (k0_off25 v67 v4676) S1x256x5120.size (k0_off25_inb v0 v5 v10 v15 v20 v25 v30 v35 v40 v45 v50 v55 v67 v4676 k0_hw3 k0_h7 k0_h9)).WholeWords (EltTy.packing .fp8e4m3) := fun v0 v5 v10 v15 v20 v25 v30 v35 v40 v45 v50 v55 v67 v4676 k0_hw3 k0_h7 k0_h9 => k0_hw3.2.2.2.2.2.2.2.2.2.2.2.1 k0_h7 k0_h9 (k0_off25_inb v0 v5 v10 v15 v20 v25 v30 v35 v40 v45 v50 v55 v67 v4676 k0_hw3 k0_h7 k0_h9)
theorem k0_mult16_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h10 : k0_cond10 v67 v4676 = 1#1), 32 ∣ (k0_mult16 v67 v4676).toNat := fun v0 v5 v10 v15 v20 v25 v30 v35 v40 v45 v50 v55 v67 v4676 k0_hw3 k0_h7 k0_h10 => k0_hw3.2.2.2.2.2.2.2.2.2.2.2.2.1 k0_h7 k0_h10
theorem k0_mult17_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h10 : k0_cond10 v67 v4676 = 1#1), 32 ∣ (k0_mult17 v67 v4676).toNat := fun v0 v5 v10 v15 v20 v25 v30 v35 v40 v45 v50 v55 v67 v4676 k0_hw3 k0_h7 k0_h10 => k0_hw3.2.2.2.2.2.2.2.2.2.2.2.2.2.1 k0_h7 k0_h10
theorem k0_off28_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h10 : k0_cond10 v67 v4676 = 1#1), ∀ a, (k0_off28 v67 v4676) a + S1x128x5120.size a ≤ S6x512x5120.size a := fun v0 v5 v10 v15 v20 v25 v30 v35 v40 v45 v50 v55 v67 v4676 k0_hw3 k0_h7 k0_h10 => k0_hw3.2.2.2.2.2.2.2.2.2.2.2.2.2.2.1 k0_h7 k0_h10
theorem k0_off29_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h10 : k0_cond10 v67 v4676 = 1#1), ∀ a, (k0_off29 v67 v4676) a + S1x128x5120.size a ≤ S12x4096x5120.size a := fun v0 v5 v10 v15 v20 v25 v30 v35 v40 v45 v50 v55 v67 v4676 k0_hw3 k0_h7 k0_h10 => k0_hw3.2.2.2.2.2.2.2.2.2.2.2.2.2.2.2.1 k0_h7 k0_h10
theorem k0_off29_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h10 : k0_cond10 v67 v4676 = 1#1), (Rect.unit (s := S12x4096x5120) (k0_off29 v67 v4676) S1x128x5120.size (k0_off29_inb v0 v5 v10 v15 v20 v25 v30 v35 v40 v45 v50 v55 v67 v4676 k0_hw3 k0_h7 k0_h10)).WholeWords (EltTy.packing .fp8e4m3) := fun v0 v5 v10 v15 v20 v25 v30 v35 v40 v45 v50 v55 v67 v4676 k0_hw3 k0_h7 k0_h10 => k0_hw3.2.2.2.2.2.2.2.2.2.2.2.2.2.2.2.2.1 k0_h7 k0_h10 (k0_off29_inb v0 v5 v10 v15 v20 v25 v30 v35 v40 v45 v50 v55 v67 v4676 k0_hw3 k0_h7 k0_h10)
theorem k0_off28_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h10 : k0_cond10 v67 v4676 = 1#1), (Rect.unit (s := S6x512x5120) (k0_off28 v67 v4676) S1x128x5120.size (k0_off28_inb v0 v5 v10 v15 v20 v25 v30 v35 v40 v45 v50 v55 v67 v4676 k0_hw3 k0_h7 k0_h10)).WholeWords (EltTy.packing .fp8e4m3) := fun v0 v5 v10 v15 v20 v25 v30 v35 v40 v45 v50 v55 v67 v4676 k0_hw3 k0_h7 k0_h10 => k0_hw3.2.2.2.2.2.2.2.2.2.2.2.2.2.2.2.2.2.1 k0_h7 k0_h10 (k0_off28_inb v0 v5 v10 v15 v20 v25 v30 v35 v40 v45 v50 v55 v67 v4676 k0_hw3 k0_h7 k0_h10)
theorem k0_mult18_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h11 : k0_cond11 v67 v4676 = 1#1), 32 ∣ (k0_mult18 v67 v4676).toNat := fun v0 v5 v10 v15 v20 v25 v30 v35 v40 v45 v50 v55 v67 v4676 k0_hw3 k0_h7 k0_h11 => k0_hw3.2.2.2.2.2.2.2.2.2.2.2.2.2.2.2.2.2.2.1 k0_h7 k0_h11
theorem k0_mult19_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h11 : k0_cond11 v67 v4676 = 1#1), 32 ∣ (k0_mult19 v67 v4676).toNat := fun v0 v5 v10 v15 v20 v25 v30 v35 v40 v45 v50 v55 v67 v4676 k0_hw3 k0_h7 k0_h11 => k0_hw3.2.2.2.2.2.2.2.2.2.2.2.2.2.2.2.2.2.2.2.1 k0_h7 k0_h11
theorem k0_off31_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h11 : k0_cond11 v67 v4676 = 1#1), ∀ a, (k0_off31 v67 v4676) a + S1x64x5120.size a ≤ S6x512x5120.size a := fun v0 v5 v10 v15 v20 v25 v30 v35 v40 v45 v50 v55 v67 v4676 k0_hw3 k0_h7 k0_h11 => k0_hw3.2.2.2.2.2.2.2.2.2.2.2.2.2.2.2.2.2.2.2.2.1 k0_h7 k0_h11
theorem k0_off32_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h11 : k0_cond11 v67 v4676 = 1#1), ∀ a, (k0_off32 v67 v4676) a + S1x64x5120.size a ≤ S12x4096x5120.size a := fun v0 v5 v10 v15 v20 v25 v30 v35 v40 v45 v50 v55 v67 v4676 k0_hw3 k0_h7 k0_h11 => k0_hw3.2.2.2.2.2.2.2.2.2.2.2.2.2.2.2.2.2.2.2.2.2.1 k0_h7 k0_h11
theorem k0_off32_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h11 : k0_cond11 v67 v4676 = 1#1), (Rect.unit (s := S12x4096x5120) (k0_off32 v67 v4676) S1x64x5120.size (k0_off32_inb v0 v5 v10 v15 v20 v25 v30 v35 v40 v45 v50 v55 v67 v4676 k0_hw3 k0_h7 k0_h11)).WholeWords (EltTy.packing .fp8e4m3) := fun v0 v5 v10 v15 v20 v25 v30 v35 v40 v45 v50 v55 v67 v4676 k0_hw3 k0_h7 k0_h11 => k0_hw3.2.2.2.2.2.2.2.2.2.2.2.2.2.2.2.2.2.2.2.2.2.2.1 k0_h7 k0_h11 (k0_off32_inb v0 v5 v10 v15 v20 v25 v30 v35 v40 v45 v50 v55 v67 v4676 k0_hw3 k0_h7 k0_h11)
theorem k0_off31_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h11 : k0_cond11 v67 v4676 = 1#1), (Rect.unit (s := S6x512x5120) (k0_off31 v67 v4676) S1x64x5120.size (k0_off31_inb v0 v5 v10 v15 v20 v25 v30 v35 v40 v45 v50 v55 v67 v4676 k0_hw3 k0_h7 k0_h11)).WholeWords (EltTy.packing .fp8e4m3) := fun v0 v5 v10 v15 v20 v25 v30 v35 v40 v45 v50 v55 v67 v4676 k0_hw3 k0_h7 k0_h11 => k0_hw3.2.2.2.2.2.2.2.2.2.2.2.2.2.2.2.2.2.2.2.2.2.2.2.1 k0_h7 k0_h11 (k0_off31_inb v0 v5 v10 v15 v20 v25 v30 v35 v40 v45 v50 v55 v67 v4676 k0_hw3 k0_h7 k0_h11)
theorem k0_mult20_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h12 : k0_cond12 v67 v4676 = 1#1), 32 ∣ (k0_mult20 v67 v4676).toNat := fun v0 v5 v10 v15 v20 v25 v30 v35 v40 v45 v50 v55 v67 v4676 k0_hw3 k0_h7 k0_h12 => k0_hw3.2.2.2.2.2.2.2.2.2.2.2.2.2.2.2.2.2.2.2.2.2.2.2.2.1 k0_h7 k0_h12
theorem k0_mult21_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h12 : k0_cond12 v67 v4676 = 1#1), 32 ∣ (k0_mult21 v67 v4676).toNat := fun v0 v5 v10 v15 v20 v25 v30 v35 v40 v45 v50 v55 v67 v4676 k0_hw3 k0_h7 k0_h12 => k0_hw3.2.2.2.2.2.2.2.2.2.2.2.2.2.2.2.2.2.2.2.2.2.2.2.2.2.1 k0_h7 k0_h12
theorem k0_off34_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h12 : k0_cond12 v67 v4676 = 1#1), ∀ a, (k0_off34 v67 v4676) a + S1x32x5120.size a ≤ S6x512x5120.size a := fun v0 v5 v10 v15 v20 v25 v30 v35 v40 v45 v50 v55 v67 v4676 k0_hw3 k0_h7 k0_h12 => k0_hw3.2.2.2.2.2.2.2.2.2.2.2.2.2.2.2.2.2.2.2.2.2.2.2.2.2.2.1 k0_h7 k0_h12
theorem k0_off35_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h12 : k0_cond12 v67 v4676 = 1#1), ∀ a, (k0_off35 v67 v4676) a + S1x32x5120.size a ≤ S12x4096x5120.size a := fun v0 v5 v10 v15 v20 v25 v30 v35 v40 v45 v50 v55 v67 v4676 k0_hw3 k0_h7 k0_h12 => k0_hw3.2.2.2.2.2.2.2.2.2.2.2.2.2.2.2.2.2.2.2.2.2.2.2.2.2.2.2.1 k0_h7 k0_h12
theorem k0_off35_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h12 : k0_cond12 v67 v4676 = 1#1), (Rect.unit (s := S12x4096x5120) (k0_off35 v67 v4676) S1x32x5120.size (k0_off35_inb v0 v5 v10 v15 v20 v25 v30 v35 v40 v45 v50 v55 v67 v4676 k0_hw3 k0_h7 k0_h12)).WholeWords (EltTy.packing .fp8e4m3) := fun v0 v5 v10 v15 v20 v25 v30 v35 v40 v45 v50 v55 v67 v4676 k0_hw3 k0_h7 k0_h12 => k0_hw3.2.2.2.2.2.2.2.2.2.2.2.2.2.2.2.2.2.2.2.2.2.2.2.2.2.2.2.2.1 k0_h7 k0_h12 (k0_off35_inb v0 v5 v10 v15 v20 v25 v30 v35 v40 v45 v50 v55 v67 v4676 k0_hw3 k0_h7 k0_h12)
theorem k0_off34_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v4676 : BitVec 32) (k0_hw3 : k0_chk3 v0 v5 v10 v15 v20 v25 v30 v35 v40 v45 v50 v55 v67 v4676), ∀ (k0_h7 : k0_cond7 v0 v5 v10 v15 v20 v25 v30 v35 v40 v45 v50 v55 = 1#1), ∀ (k0_h12 : k0_cond12 v67 v4676 = 1#1), (Rect.unit (s := S6x512x5120) (k0_off34 v67 v4676) S1x32x5120.size (k0_off34_inb v0 v5 v10 v15 v20 v25 v30 v35 v40 v45 v50 v55 v67 v4676 k0_hw3 k0_h7 k0_h12)).WholeWords (EltTy.packing .fp8e4m3) := fun v0 v5 v10 v15 v20 v25 v30 v35 v40 v45 v50 v55 v67 v4676 k0_hw3 k0_h7 k0_h12 => k0_hw3.2.2.2.2.2.2.2.2.2.2.2.2.2.2.2.2.2.2.2.2.2.2.2.2.2.2.2.2.2 k0_h7 k0_h12 (k0_off34_inb v0 v5 v10 v15 v20 v25 v30 v35 v40 v45 v50 v55 v67 v4676 k0_hw3 k0_h7 k0_h12)

def k0_mult22 (v67 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2227 : BitVec 32 := 512#32
  let v4683 : BitVec 32 := Scalar.muli v72 c512_i32_2227
  v4683
def k0_off36 : Fin 1 → Nat :=
  let c1_i32_48 : BitVec 32 := 1#32
  let c6_i32_2223 : BitVec 32 := 6#32
  let v4674 : BitVec 32 := Scalar.remsi c1_i32_48 c6_i32_2223
  ![v4674.toNat]
def k0_off37 : Fin 3 → Nat :=
  let c1_i32_48 : BitVec 32 := 1#32
  let c6_i32_2223 : BitVec 32 := 6#32
  let v4674 : BitVec 32 := Scalar.remsi c1_i32_48 c6_i32_2223
  let c0_i32_2242 : BitVec 32 := 0#32
  let c0_i32_2243 : BitVec 32 := 0#32
  ![v4674.toNat, 0, 0]
def k0_off38 (v67 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c0_i32_2244 : BitVec 32 := 0#32
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c512_i32_2227 : BitVec 32 := 512#32
  let v4683 : BitVec 32 := Scalar.muli v72 c512_i32_2227
  let v4704 : BitVec 32 := v4683
  ![v70.toNat, 0, v4704.toNat]
def k0_off39 (v67 : BitVec 32) : Fin 1 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c11_i32_52 : BitVec 32 := 11#32
  let v78 : BitVec 32 := Scalar.minsi v70 c11_i32_52
  let v79 : Index := Scalar.indexCast v78
  ![v79.toNat]

def k0_chk2 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) : Prop :=
  (∀ (k0_h7 : k0_cond7 v0 v5 v10 v15 v20 v25 v30 v35 v40 v45 v50 v55 = 1#1), ∀ a, (k0_off20 v67) a + S1.size a ≤ S12.size a) ∧
  (∀ (k0_h7 : k0_cond7 v0 v5 v10 v15 v20 v25 v30 v35 v40 v45 v50 v55 = 1#1), 128 ∣ (k0_mult22 v67).toNat) ∧
  (∀ (k0_h7 : k0_cond7 v0 v5 v10 v15 v20 v25 v30 v35 v40 v45 v50 v55 = 1#1), ∀ a, (k0_off38 v67) a + S1x40x512.size a ≤ S12x40x4096.size a) ∧
  (∀ a, (k0_off39 v67) a + S1.size a ≤ S12.size a)
theorem k0_off20_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (k0_hw2 : k0_chk2 v0 v5 v10 v15 v20 v25 v30 v35 v40 v45 v50 v55 v67), ∀ (k0_h7 : k0_cond7 v0 v5 v10 v15 v20 v25 v30 v35 v40 v45 v50 v55 = 1#1), ∀ a, (k0_off20 v67) a + S1.size a ≤ S12.size a := fun v0 v5 v10 v15 v20 v25 v30 v35 v40 v45 v50 v55 v67 k0_hw2 k0_h7 => k0_hw2.1 k0_h7
theorem k0_mult22_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (k0_hw2 : k0_chk2 v0 v5 v10 v15 v20 v25 v30 v35 v40 v45 v50 v55 v67), ∀ (k0_h7 : k0_cond7 v0 v5 v10 v15 v20 v25 v30 v35 v40 v45 v50 v55 = 1#1), 128 ∣ (k0_mult22 v67).toNat := fun v0 v5 v10 v15 v20 v25 v30 v35 v40 v45 v50 v55 v67 k0_hw2 k0_h7 => k0_hw2.2.1 k0_h7
theorem k0_off38_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (k0_hw2 : k0_chk2 v0 v5 v10 v15 v20 v25 v30 v35 v40 v45 v50 v55 v67), ∀ (k0_h7 : k0_cond7 v0 v5 v10 v15 v20 v25 v30 v35 v40 v45 v50 v55 = 1#1), ∀ a, (k0_off38 v67) a + S1x40x512.size a ≤ S12x40x4096.size a := fun v0 v5 v10 v15 v20 v25 v30 v35 v40 v45 v50 v55 v67 k0_hw2 k0_h7 => k0_hw2.2.2.1 k0_h7
theorem k0_off39_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (k0_hw2 : k0_chk2 v0 v5 v10 v15 v20 v25 v30 v35 v40 v45 v50 v55 v67), ∀ a, (k0_off39 v67) a + S1.size a ≤ S12.size a := fun v0 v5 v10 v15 v20 v25 v30 v35 v40 v45 v50 v55 v67 k0_hw2 => k0_hw2.2.2.2

def k0_off40 (v67 : BitVec 32) (v80 : BitVec 32) : Fin 1 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let v4675 : Index := Scalar.indexCast v83
  ![v4675.toNat]
def k0_cond13 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) : BitVec 1 :=
  let c2_i32 : BitVec 32 := 2#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v86 : BitVec 1 := Scalar.cmpi .slt c2_i32 v59
  let v87 : BitVec 32 := Scalar.extui v86
  let c0_i32_57 : BitVec 32 := 0#32
  let v88 : BitVec 1 := Scalar.cmpi .ne v87 c0_i32_57
  v88

def k0_mult23 (v67 : BitVec 32) (v80 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  v4711
def k0_cond14 (v67 : BitVec 32) (v80 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c512_i32_2228 : BitVec 32 := 512#32
  let v4684 : BitVec 32 := Scalar.andi v4682 c512_i32_2228
  let c0_i32_2229 : BitVec 32 := 0#32
  let v4685 : BitVec 1 := Scalar.cmpi .ne v4684 c0_i32_2229
  let v4686 : BitVec 32 := Scalar.extui v4685
  let c0_i32_2230 : BitVec 32 := 0#32
  let v4687 : BitVec 1 := Scalar.cmpi .ne v4686 c0_i32_2230
  v4687

def k0_mult24 (v67 : BitVec 32) (v80 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2227 : BitVec 32 := 512#32
  let v4683 : BitVec 32 := Scalar.muli v85 c512_i32_2227
  let c512_i32_2226 : BitVec 32 := 512#32
  let c0_i32_2225 : BitVec 32 := 0#32
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let v4713 : BitVec 32 := Scalar.addi v4683 v4712
  v4713
def k0_off41 : Fin 1 → Nat :=
  let c2_i32_56 : BitVec 32 := 2#32
  let c6_i32_2223 : BitVec 32 := 6#32
  let v4674 : BitVec 32 := Scalar.remsi c2_i32_56 c6_i32_2223
  ![v4674.toNat]
def k0_off42 (v67 : BitVec 32) (v80 : BitVec 32) (v4676 : BitVec 32) : Fin 3 → Nat :=
  let c2_i32_56 : BitVec 32 := 2#32
  let c6_i32_2223 : BitVec 32 := 6#32
  let v4674 : BitVec 32 := Scalar.remsi c2_i32_56 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let c0_i32_2245 : BitVec 32 := 0#32
  ![v4674.toNat, v4712.toNat, 0]
def k0_off43 (v67 : BitVec 32) (v80 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c0_i32_55 : BitVec 32 := 0#32
  let c1_i32_54 : BitVec 32 := 1#32
  let v84 : BitVec 32 := Scalar.addi v72 c1_i32_54
  let v85 : BitVec 32 := Scalar.select v81 c0_i32_55 v84
  let c512_i32_2227 : BitVec 32 := 512#32
  let v4683 : BitVec 32 := Scalar.muli v85 c512_i32_2227
  let c512_i32_2226 : BitVec 32 := 512#32
  let c0_i32_2225 : BitVec 32 := 0#32
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let v4713 : BitVec 32 := Scalar.addi v4683 v4712
  let v4714 : BitVec 32 := v4713
  let c0_i32_2246 : BitVec 32 := 0#32
  ![v83.toNat, v4714.toNat, 0]
def k0_mult25 (v67 : BitVec 32) (v80 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  v4711
def k0_cond15 (v67 : BitVec 32) (v80 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c256_i32_2231 : BitVec 32 := 256#32
  let v4688 : BitVec 32 := Scalar.andi v4682 c256_i32_2231
  let c0_i32_2232 : BitVec 32 := 0#32
  let v4689 : BitVec 1 := Scalar.cmpi .ne v4688 c0_i32_2232
  let v4690 : BitVec 32 := Scalar.extui v4689
  let c0_i32_2233 : BitVec 32 := 0#32
  let v4691 : BitVec 1 := Scalar.cmpi .ne v4690 c0_i32_2233
  v4691

def k0_mult26 (v67 : BitVec 32) (v80 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2227 : BitVec 32 := 512#32
  let v4683 : BitVec 32 := Scalar.muli v85 c512_i32_2227
  let c512_i32_2226 : BitVec 32 := 512#32
  let c0_i32_2225 : BitVec 32 := 0#32
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let v4713 : BitVec 32 := Scalar.addi v4683 v4712
  v4713
def k0_off44 : Fin 1 → Nat :=
  let c2_i32_56 : BitVec 32 := 2#32
  let c6_i32_2223 : BitVec 32 := 6#32
  let v4674 : BitVec 32 := Scalar.remsi c2_i32_56 c6_i32_2223
  ![v4674.toNat]
def k0_off45 (v67 : BitVec 32) (v80 : BitVec 32) (v4676 : BitVec 32) : Fin 3 → Nat :=
  let c2_i32_56 : BitVec 32 := 2#32
  let c6_i32_2223 : BitVec 32 := 6#32
  let v4674 : BitVec 32 := Scalar.remsi c2_i32_56 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let c0_i32_2245 : BitVec 32 := 0#32
  ![v4674.toNat, v4712.toNat, 0]
def k0_off46 (v67 : BitVec 32) (v80 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c0_i32_55 : BitVec 32 := 0#32
  let c1_i32_54 : BitVec 32 := 1#32
  let v84 : BitVec 32 := Scalar.addi v72 c1_i32_54
  let v85 : BitVec 32 := Scalar.select v81 c0_i32_55 v84
  let c512_i32_2227 : BitVec 32 := 512#32
  let v4683 : BitVec 32 := Scalar.muli v85 c512_i32_2227
  let c512_i32_2226 : BitVec 32 := 512#32
  let c0_i32_2225 : BitVec 32 := 0#32
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let v4713 : BitVec 32 := Scalar.addi v4683 v4712
  let v4714 : BitVec 32 := v4713
  let c0_i32_2246 : BitVec 32 := 0#32
  ![v83.toNat, v4714.toNat, 0]
def k0_mult27 (v67 : BitVec 32) (v80 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  v4711
def k0_cond16 (v67 : BitVec 32) (v80 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c128_i32_2234 : BitVec 32 := 128#32
  let v4692 : BitVec 32 := Scalar.andi v4682 c128_i32_2234
  let c0_i32_2235 : BitVec 32 := 0#32
  let v4693 : BitVec 1 := Scalar.cmpi .ne v4692 c0_i32_2235
  let v4694 : BitVec 32 := Scalar.extui v4693
  let c0_i32_2236 : BitVec 32 := 0#32
  let v4695 : BitVec 1 := Scalar.cmpi .ne v4694 c0_i32_2236
  v4695

def k0_mult28 (v67 : BitVec 32) (v80 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2227 : BitVec 32 := 512#32
  let v4683 : BitVec 32 := Scalar.muli v85 c512_i32_2227
  let c512_i32_2226 : BitVec 32 := 512#32
  let c0_i32_2225 : BitVec 32 := 0#32
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let v4713 : BitVec 32 := Scalar.addi v4683 v4712
  v4713
def k0_off47 : Fin 1 → Nat :=
  let c2_i32_56 : BitVec 32 := 2#32
  let c6_i32_2223 : BitVec 32 := 6#32
  let v4674 : BitVec 32 := Scalar.remsi c2_i32_56 c6_i32_2223
  ![v4674.toNat]
def k0_off48 (v67 : BitVec 32) (v80 : BitVec 32) (v4676 : BitVec 32) : Fin 3 → Nat :=
  let c2_i32_56 : BitVec 32 := 2#32
  let c6_i32_2223 : BitVec 32 := 6#32
  let v4674 : BitVec 32 := Scalar.remsi c2_i32_56 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let c0_i32_2245 : BitVec 32 := 0#32
  ![v4674.toNat, v4712.toNat, 0]
def k0_off49 (v67 : BitVec 32) (v80 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c0_i32_55 : BitVec 32 := 0#32
  let c1_i32_54 : BitVec 32 := 1#32
  let v84 : BitVec 32 := Scalar.addi v72 c1_i32_54
  let v85 : BitVec 32 := Scalar.select v81 c0_i32_55 v84
  let c512_i32_2227 : BitVec 32 := 512#32
  let v4683 : BitVec 32 := Scalar.muli v85 c512_i32_2227
  let c512_i32_2226 : BitVec 32 := 512#32
  let c0_i32_2225 : BitVec 32 := 0#32
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let v4713 : BitVec 32 := Scalar.addi v4683 v4712
  let v4714 : BitVec 32 := v4713
  let c0_i32_2246 : BitVec 32 := 0#32
  ![v83.toNat, v4714.toNat, 0]
def k0_mult29 (v67 : BitVec 32) (v80 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  v4711
def k0_cond17 (v67 : BitVec 32) (v80 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c64_i32_2237 : BitVec 32 := 64#32
  let v4696 : BitVec 32 := Scalar.andi v4682 c64_i32_2237
  let c0_i32_2238 : BitVec 32 := 0#32
  let v4697 : BitVec 1 := Scalar.cmpi .ne v4696 c0_i32_2238
  let v4698 : BitVec 32 := Scalar.extui v4697
  let c0_i32_2239 : BitVec 32 := 0#32
  let v4699 : BitVec 1 := Scalar.cmpi .ne v4698 c0_i32_2239
  v4699

def k0_mult30 (v67 : BitVec 32) (v80 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2227 : BitVec 32 := 512#32
  let v4683 : BitVec 32 := Scalar.muli v85 c512_i32_2227
  let c512_i32_2226 : BitVec 32 := 512#32
  let c0_i32_2225 : BitVec 32 := 0#32
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let v4713 : BitVec 32 := Scalar.addi v4683 v4712
  v4713
def k0_off50 : Fin 1 → Nat :=
  let c2_i32_56 : BitVec 32 := 2#32
  let c6_i32_2223 : BitVec 32 := 6#32
  let v4674 : BitVec 32 := Scalar.remsi c2_i32_56 c6_i32_2223
  ![v4674.toNat]
def k0_off51 (v67 : BitVec 32) (v80 : BitVec 32) (v4676 : BitVec 32) : Fin 3 → Nat :=
  let c2_i32_56 : BitVec 32 := 2#32
  let c6_i32_2223 : BitVec 32 := 6#32
  let v4674 : BitVec 32 := Scalar.remsi c2_i32_56 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let c0_i32_2245 : BitVec 32 := 0#32
  ![v4674.toNat, v4712.toNat, 0]
def k0_off52 (v67 : BitVec 32) (v80 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c0_i32_55 : BitVec 32 := 0#32
  let c1_i32_54 : BitVec 32 := 1#32
  let v84 : BitVec 32 := Scalar.addi v72 c1_i32_54
  let v85 : BitVec 32 := Scalar.select v81 c0_i32_55 v84
  let c512_i32_2227 : BitVec 32 := 512#32
  let v4683 : BitVec 32 := Scalar.muli v85 c512_i32_2227
  let c512_i32_2226 : BitVec 32 := 512#32
  let c0_i32_2225 : BitVec 32 := 0#32
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let v4713 : BitVec 32 := Scalar.addi v4683 v4712
  let v4714 : BitVec 32 := v4713
  let c0_i32_2246 : BitVec 32 := 0#32
  ![v83.toNat, v4714.toNat, 0]
def k0_mult31 (v67 : BitVec 32) (v80 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  v4711
def k0_cond18 (v67 : BitVec 32) (v80 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c32_i32 : BitVec 32 := 32#32
  let v4700 : BitVec 32 := Scalar.andi v4682 c32_i32
  let c0_i32_2240 : BitVec 32 := 0#32
  let v4701 : BitVec 1 := Scalar.cmpi .ne v4700 c0_i32_2240
  let v4702 : BitVec 32 := Scalar.extui v4701
  let c0_i32_2241 : BitVec 32 := 0#32
  let v4703 : BitVec 1 := Scalar.cmpi .ne v4702 c0_i32_2241
  v4703

def k0_mult32 (v67 : BitVec 32) (v80 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2227 : BitVec 32 := 512#32
  let v4683 : BitVec 32 := Scalar.muli v85 c512_i32_2227
  let c512_i32_2226 : BitVec 32 := 512#32
  let c0_i32_2225 : BitVec 32 := 0#32
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let v4713 : BitVec 32 := Scalar.addi v4683 v4712
  v4713
def k0_off53 : Fin 1 → Nat :=
  let c2_i32_56 : BitVec 32 := 2#32
  let c6_i32_2223 : BitVec 32 := 6#32
  let v4674 : BitVec 32 := Scalar.remsi c2_i32_56 c6_i32_2223
  ![v4674.toNat]
def k0_off54 (v67 : BitVec 32) (v80 : BitVec 32) (v4676 : BitVec 32) : Fin 3 → Nat :=
  let c2_i32_56 : BitVec 32 := 2#32
  let c6_i32_2223 : BitVec 32 := 6#32
  let v4674 : BitVec 32 := Scalar.remsi c2_i32_56 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let c0_i32_2245 : BitVec 32 := 0#32
  ![v4674.toNat, v4712.toNat, 0]
def k0_off55 (v67 : BitVec 32) (v80 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c0_i32_55 : BitVec 32 := 0#32
  let c1_i32_54 : BitVec 32 := 1#32
  let v84 : BitVec 32 := Scalar.addi v72 c1_i32_54
  let v85 : BitVec 32 := Scalar.select v81 c0_i32_55 v84
  let c512_i32_2227 : BitVec 32 := 512#32
  let v4683 : BitVec 32 := Scalar.muli v85 c512_i32_2227
  let c512_i32_2226 : BitVec 32 := 512#32
  let c0_i32_2225 : BitVec 32 := 0#32
  let c512_i32_2224 : BitVec 32 := 512#32
  let v4677 : BitVec 32 := Scalar.muli v85 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let v4713 : BitVec 32 := Scalar.addi v4683 v4712
  let v4714 : BitVec 32 := v4713
  let c0_i32_2246 : BitVec 32 := 0#32
  ![v83.toNat, v4714.toNat, 0]

def k0_chk5 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) : Prop :=
  (∀ (k0_h13 : k0_cond13 v0 v5 v10 v15 v20 v25 v30 v35 v40 v45 v50 v55 = 1#1), ∀ (k0_h14 : k0_cond14 v67 v80 v4676 = 1#1), 32 ∣ (k0_mult23 v67 v80 v4676).toNat) ∧
  (∀ (k0_h13 : k0_cond13 v0 v5 v10 v15 v20 v25 v30 v35 v40 v45 v50 v55 = 1#1), ∀ (k0_h14 : k0_cond14 v67 v80 v4676 = 1#1), 32 ∣ (k0_mult24 v67 v80 v4676).toNat) ∧
  (∀ (k0_h13 : k0_cond13 v0 v5 v10 v15 v20 v25 v30 v35 v40 v45 v50 v55 = 1#1), ∀ (k0_h14 : k0_cond14 v67 v80 v4676 = 1#1), ∀ a, (k0_off42 v67 v80 v4676) a + S1x512x5120.size a ≤ S6x512x5120.size a) ∧
  (∀ (k0_h13 : k0_cond13 v0 v5 v10 v15 v20 v25 v30 v35 v40 v45 v50 v55 = 1#1), ∀ (k0_h14 : k0_cond14 v67 v80 v4676 = 1#1), ∀ a, (k0_off43 v67 v80 v4676) a + S1x512x5120.size a ≤ S12x4096x5120.size a) ∧
  (∀ (k0_h13 : k0_cond13 v0 v5 v10 v15 v20 v25 v30 v35 v40 v45 v50 v55 = 1#1), ∀ (k0_h14 : k0_cond14 v67 v80 v4676 = 1#1), ∀ (hinb : ∀ a, (k0_off43 v67 v80 v4676) a + S1x512x5120.size a ≤ S12x4096x5120.size a), (Rect.unit (s := S12x4096x5120) (k0_off43 v67 v80 v4676) S1x512x5120.size hinb).WholeWords (EltTy.packing .fp8e4m3)) ∧
  (∀ (k0_h13 : k0_cond13 v0 v5 v10 v15 v20 v25 v30 v35 v40 v45 v50 v55 = 1#1), ∀ (k0_h14 : k0_cond14 v67 v80 v4676 = 1#1), ∀ (hinb : ∀ a, (k0_off42 v67 v80 v4676) a + S1x512x5120.size a ≤ S6x512x5120.size a), (Rect.unit (s := S6x512x5120) (k0_off42 v67 v80 v4676) S1x512x5120.size hinb).WholeWords (EltTy.packing .fp8e4m3)) ∧
  (∀ (k0_h13 : k0_cond13 v0 v5 v10 v15 v20 v25 v30 v35 v40 v45 v50 v55 = 1#1), ∀ (k0_h15 : k0_cond15 v67 v80 v4676 = 1#1), 32 ∣ (k0_mult25 v67 v80 v4676).toNat) ∧
  (∀ (k0_h13 : k0_cond13 v0 v5 v10 v15 v20 v25 v30 v35 v40 v45 v50 v55 = 1#1), ∀ (k0_h15 : k0_cond15 v67 v80 v4676 = 1#1), 32 ∣ (k0_mult26 v67 v80 v4676).toNat) ∧
  (∀ (k0_h13 : k0_cond13 v0 v5 v10 v15 v20 v25 v30 v35 v40 v45 v50 v55 = 1#1), ∀ (k0_h15 : k0_cond15 v67 v80 v4676 = 1#1), ∀ a, (k0_off45 v67 v80 v4676) a + S1x256x5120.size a ≤ S6x512x5120.size a) ∧
  (∀ (k0_h13 : k0_cond13 v0 v5 v10 v15 v20 v25 v30 v35 v40 v45 v50 v55 = 1#1), ∀ (k0_h15 : k0_cond15 v67 v80 v4676 = 1#1), ∀ a, (k0_off46 v67 v80 v4676) a + S1x256x5120.size a ≤ S12x4096x5120.size a) ∧
  (∀ (k0_h13 : k0_cond13 v0 v5 v10 v15 v20 v25 v30 v35 v40 v45 v50 v55 = 1#1), ∀ (k0_h15 : k0_cond15 v67 v80 v4676 = 1#1), ∀ (hinb : ∀ a, (k0_off46 v67 v80 v4676) a + S1x256x5120.size a ≤ S12x4096x5120.size a), (Rect.unit (s := S12x4096x5120) (k0_off46 v67 v80 v4676) S1x256x5120.size hinb).WholeWords (EltTy.packing .fp8e4m3)) ∧
  (∀ (k0_h13 : k0_cond13 v0 v5 v10 v15 v20 v25 v30 v35 v40 v45 v50 v55 = 1#1), ∀ (k0_h15 : k0_cond15 v67 v80 v4676 = 1#1), ∀ (hinb : ∀ a, (k0_off45 v67 v80 v4676) a + S1x256x5120.size a ≤ S6x512x5120.size a), (Rect.unit (s := S6x512x5120) (k0_off45 v67 v80 v4676) S1x256x5120.size hinb).WholeWords (EltTy.packing .fp8e4m3)) ∧
  (∀ (k0_h13 : k0_cond13 v0 v5 v10 v15 v20 v25 v30 v35 v40 v45 v50 v55 = 1#1), ∀ (k0_h16 : k0_cond16 v67 v80 v4676 = 1#1), 32 ∣ (k0_mult27 v67 v80 v4676).toNat) ∧
  (∀ (k0_h13 : k0_cond13 v0 v5 v10 v15 v20 v25 v30 v35 v40 v45 v50 v55 = 1#1), ∀ (k0_h16 : k0_cond16 v67 v80 v4676 = 1#1), 32 ∣ (k0_mult28 v67 v80 v4676).toNat) ∧
  (∀ (k0_h13 : k0_cond13 v0 v5 v10 v15 v20 v25 v30 v35 v40 v45 v50 v55 = 1#1), ∀ (k0_h16 : k0_cond16 v67 v80 v4676 = 1#1), ∀ a, (k0_off48 v67 v80 v4676) a + S1x128x5120.size a ≤ S6x512x5120.size a) ∧
  (∀ (k0_h13 : k0_cond13 v0 v5 v10 v15 v20 v25 v30 v35 v40 v45 v50 v55 = 1#1), ∀ (k0_h16 : k0_cond16 v67 v80 v4676 = 1#1), ∀ a, (k0_off49 v67 v80 v4676) a + S1x128x5120.size a ≤ S12x4096x5120.size a) ∧
  (∀ (k0_h13 : k0_cond13 v0 v5 v10 v15 v20 v25 v30 v35 v40 v45 v50 v55 = 1#1), ∀ (k0_h16 : k0_cond16 v67 v80 v4676 = 1#1), ∀ (hinb : ∀ a, (k0_off49 v67 v80 v4676) a + S1x128x5120.size a ≤ S12x4096x5120.size a), (Rect.unit (s := S12x4096x5120) (k0_off49 v67 v80 v4676) S1x128x5120.size hinb).WholeWords (EltTy.packing .fp8e4m3)) ∧
  (∀ (k0_h13 : k0_cond13 v0 v5 v10 v15 v20 v25 v30 v35 v40 v45 v50 v55 = 1#1), ∀ (k0_h16 : k0_cond16 v67 v80 v4676 = 1#1), ∀ (hinb : ∀ a, (k0_off48 v67 v80 v4676) a + S1x128x5120.size a ≤ S6x512x5120.size a), (Rect.unit (s := S6x512x5120) (k0_off48 v67 v80 v4676) S1x128x5120.size hinb).WholeWords (EltTy.packing .fp8e4m3)) ∧
  (∀ (k0_h13 : k0_cond13 v0 v5 v10 v15 v20 v25 v30 v35 v40 v45 v50 v55 = 1#1), ∀ (k0_h17 : k0_cond17 v67 v80 v4676 = 1#1), 32 ∣ (k0_mult29 v67 v80 v4676).toNat) ∧
  (∀ (k0_h13 : k0_cond13 v0 v5 v10 v15 v20 v25 v30 v35 v40 v45 v50 v55 = 1#1), ∀ (k0_h17 : k0_cond17 v67 v80 v4676 = 1#1), 32 ∣ (k0_mult30 v67 v80 v4676).toNat) ∧
  (∀ (k0_h13 : k0_cond13 v0 v5 v10 v15 v20 v25 v30 v35 v40 v45 v50 v55 = 1#1), ∀ (k0_h17 : k0_cond17 v67 v80 v4676 = 1#1), ∀ a, (k0_off51 v67 v80 v4676) a + S1x64x5120.size a ≤ S6x512x5120.size a) ∧
  (∀ (k0_h13 : k0_cond13 v0 v5 v10 v15 v20 v25 v30 v35 v40 v45 v50 v55 = 1#1), ∀ (k0_h17 : k0_cond17 v67 v80 v4676 = 1#1), ∀ a, (k0_off52 v67 v80 v4676) a + S1x64x5120.size a ≤ S12x4096x5120.size a) ∧
  (∀ (k0_h13 : k0_cond13 v0 v5 v10 v15 v20 v25 v30 v35 v40 v45 v50 v55 = 1#1), ∀ (k0_h17 : k0_cond17 v67 v80 v4676 = 1#1), ∀ (hinb : ∀ a, (k0_off52 v67 v80 v4676) a + S1x64x5120.size a ≤ S12x4096x5120.size a), (Rect.unit (s := S12x4096x5120) (k0_off52 v67 v80 v4676) S1x64x5120.size hinb).WholeWords (EltTy.packing .fp8e4m3)) ∧
  (∀ (k0_h13 : k0_cond13 v0 v5 v10 v15 v20 v25 v30 v35 v40 v45 v50 v55 = 1#1), ∀ (k0_h17 : k0_cond17 v67 v80 v4676 = 1#1), ∀ (hinb : ∀ a, (k0_off51 v67 v80 v4676) a + S1x64x5120.size a ≤ S6x512x5120.size a), (Rect.unit (s := S6x512x5120) (k0_off51 v67 v80 v4676) S1x64x5120.size hinb).WholeWords (EltTy.packing .fp8e4m3)) ∧
  (∀ (k0_h13 : k0_cond13 v0 v5 v10 v15 v20 v25 v30 v35 v40 v45 v50 v55 = 1#1), ∀ (k0_h18 : k0_cond18 v67 v80 v4676 = 1#1), 32 ∣ (k0_mult31 v67 v80 v4676).toNat) ∧
  (∀ (k0_h13 : k0_cond13 v0 v5 v10 v15 v20 v25 v30 v35 v40 v45 v50 v55 = 1#1), ∀ (k0_h18 : k0_cond18 v67 v80 v4676 = 1#1), 32 ∣ (k0_mult32 v67 v80 v4676).toNat) ∧
  (∀ (k0_h13 : k0_cond13 v0 v5 v10 v15 v20 v25 v30 v35 v40 v45 v50 v55 = 1#1), ∀ (k0_h18 : k0_cond18 v67 v80 v4676 = 1#1), ∀ a, (k0_off54 v67 v80 v4676) a + S1x32x5120.size a ≤ S6x512x5120.size a) ∧
  (∀ (k0_h13 : k0_cond13 v0 v5 v10 v15 v20 v25 v30 v35 v40 v45 v50 v55 = 1#1), ∀ (k0_h18 : k0_cond18 v67 v80 v4676 = 1#1), ∀ a, (k0_off55 v67 v80 v4676) a + S1x32x5120.size a ≤ S12x4096x5120.size a) ∧
  (∀ (k0_h13 : k0_cond13 v0 v5 v10 v15 v20 v25 v30 v35 v40 v45 v50 v55 = 1#1), ∀ (k0_h18 : k0_cond18 v67 v80 v4676 = 1#1), ∀ (hinb : ∀ a, (k0_off55 v67 v80 v4676) a + S1x32x5120.size a ≤ S12x4096x5120.size a), (Rect.unit (s := S12x4096x5120) (k0_off55 v67 v80 v4676) S1x32x5120.size hinb).WholeWords (EltTy.packing .fp8e4m3)) ∧
  (∀ (k0_h13 : k0_cond13 v0 v5 v10 v15 v20 v25 v30 v35 v40 v45 v50 v55 = 1#1), ∀ (k0_h18 : k0_cond18 v67 v80 v4676 = 1#1), ∀ (hinb : ∀ a, (k0_off54 v67 v80 v4676) a + S1x32x5120.size a ≤ S6x512x5120.size a), (Rect.unit (s := S6x512x5120) (k0_off54 v67 v80 v4676) S1x32x5120.size hinb).WholeWords (EltTy.packing .fp8e4m3))
theorem k0_mult23_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h14 : k0_cond14 v67 v80 v4676 = 1#1), 32 ∣ (k0_mult23 v67 v80 v4676).toNat := fun v0 v5 v10 v15 v20 v25 v30 v35 v40 v45 v50 v55 v67 v80 v4676 k0_hw5 k0_h13 k0_h14 => k0_hw5.1 k0_h13 k0_h14
theorem k0_mult24_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h14 : k0_cond14 v67 v80 v4676 = 1#1), 32 ∣ (k0_mult24 v67 v80 v4676).toNat := fun v0 v5 v10 v15 v20 v25 v30 v35 v40 v45 v50 v55 v67 v80 v4676 k0_hw5 k0_h13 k0_h14 => k0_hw5.2.1 k0_h13 k0_h14
theorem k0_off42_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h14 : k0_cond14 v67 v80 v4676 = 1#1), ∀ a, (k0_off42 v67 v80 v4676) a + S1x512x5120.size a ≤ S6x512x5120.size a := fun v0 v5 v10 v15 v20 v25 v30 v35 v40 v45 v50 v55 v67 v80 v4676 k0_hw5 k0_h13 k0_h14 => k0_hw5.2.2.1 k0_h13 k0_h14
theorem k0_off43_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h14 : k0_cond14 v67 v80 v4676 = 1#1), ∀ a, (k0_off43 v67 v80 v4676) a + S1x512x5120.size a ≤ S12x4096x5120.size a := fun v0 v5 v10 v15 v20 v25 v30 v35 v40 v45 v50 v55 v67 v80 v4676 k0_hw5 k0_h13 k0_h14 => k0_hw5.2.2.2.1 k0_h13 k0_h14
theorem k0_off43_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h14 : k0_cond14 v67 v80 v4676 = 1#1), (Rect.unit (s := S12x4096x5120) (k0_off43 v67 v80 v4676) S1x512x5120.size (k0_off43_inb v0 v5 v10 v15 v20 v25 v30 v35 v40 v45 v50 v55 v67 v80 v4676 k0_hw5 k0_h13 k0_h14)).WholeWords (EltTy.packing .fp8e4m3) := fun v0 v5 v10 v15 v20 v25 v30 v35 v40 v45 v50 v55 v67 v80 v4676 k0_hw5 k0_h13 k0_h14 => k0_hw5.2.2.2.2.1 k0_h13 k0_h14 (k0_off43_inb v0 v5 v10 v15 v20 v25 v30 v35 v40 v45 v50 v55 v67 v80 v4676 k0_hw5 k0_h13 k0_h14)
theorem k0_off42_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h14 : k0_cond14 v67 v80 v4676 = 1#1), (Rect.unit (s := S6x512x5120) (k0_off42 v67 v80 v4676) S1x512x5120.size (k0_off42_inb v0 v5 v10 v15 v20 v25 v30 v35 v40 v45 v50 v55 v67 v80 v4676 k0_hw5 k0_h13 k0_h14)).WholeWords (EltTy.packing .fp8e4m3) := fun v0 v5 v10 v15 v20 v25 v30 v35 v40 v45 v50 v55 v67 v80 v4676 k0_hw5 k0_h13 k0_h14 => k0_hw5.2.2.2.2.2.1 k0_h13 k0_h14 (k0_off42_inb v0 v5 v10 v15 v20 v25 v30 v35 v40 v45 v50 v55 v67 v80 v4676 k0_hw5 k0_h13 k0_h14)
theorem k0_mult25_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h15 : k0_cond15 v67 v80 v4676 = 1#1), 32 ∣ (k0_mult25 v67 v80 v4676).toNat := fun v0 v5 v10 v15 v20 v25 v30 v35 v40 v45 v50 v55 v67 v80 v4676 k0_hw5 k0_h13 k0_h15 => k0_hw5.2.2.2.2.2.2.1 k0_h13 k0_h15
theorem k0_mult26_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h15 : k0_cond15 v67 v80 v4676 = 1#1), 32 ∣ (k0_mult26 v67 v80 v4676).toNat := fun v0 v5 v10 v15 v20 v25 v30 v35 v40 v45 v50 v55 v67 v80 v4676 k0_hw5 k0_h13 k0_h15 => k0_hw5.2.2.2.2.2.2.2.1 k0_h13 k0_h15
theorem k0_off45_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h15 : k0_cond15 v67 v80 v4676 = 1#1), ∀ a, (k0_off45 v67 v80 v4676) a + S1x256x5120.size a ≤ S6x512x5120.size a := fun v0 v5 v10 v15 v20 v25 v30 v35 v40 v45 v50 v55 v67 v80 v4676 k0_hw5 k0_h13 k0_h15 => k0_hw5.2.2.2.2.2.2.2.2.1 k0_h13 k0_h15
theorem k0_off46_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h15 : k0_cond15 v67 v80 v4676 = 1#1), ∀ a, (k0_off46 v67 v80 v4676) a + S1x256x5120.size a ≤ S12x4096x5120.size a := fun v0 v5 v10 v15 v20 v25 v30 v35 v40 v45 v50 v55 v67 v80 v4676 k0_hw5 k0_h13 k0_h15 => k0_hw5.2.2.2.2.2.2.2.2.2.1 k0_h13 k0_h15
theorem k0_off46_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h15 : k0_cond15 v67 v80 v4676 = 1#1), (Rect.unit (s := S12x4096x5120) (k0_off46 v67 v80 v4676) S1x256x5120.size (k0_off46_inb v0 v5 v10 v15 v20 v25 v30 v35 v40 v45 v50 v55 v67 v80 v4676 k0_hw5 k0_h13 k0_h15)).WholeWords (EltTy.packing .fp8e4m3) := fun v0 v5 v10 v15 v20 v25 v30 v35 v40 v45 v50 v55 v67 v80 v4676 k0_hw5 k0_h13 k0_h15 => k0_hw5.2.2.2.2.2.2.2.2.2.2.1 k0_h13 k0_h15 (k0_off46_inb v0 v5 v10 v15 v20 v25 v30 v35 v40 v45 v50 v55 v67 v80 v4676 k0_hw5 k0_h13 k0_h15)
theorem k0_off45_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h15 : k0_cond15 v67 v80 v4676 = 1#1), (Rect.unit (s := S6x512x5120) (k0_off45 v67 v80 v4676) S1x256x5120.size (k0_off45_inb v0 v5 v10 v15 v20 v25 v30 v35 v40 v45 v50 v55 v67 v80 v4676 k0_hw5 k0_h13 k0_h15)).WholeWords (EltTy.packing .fp8e4m3) := fun v0 v5 v10 v15 v20 v25 v30 v35 v40 v45 v50 v55 v67 v80 v4676 k0_hw5 k0_h13 k0_h15 => k0_hw5.2.2.2.2.2.2.2.2.2.2.2.1 k0_h13 k0_h15 (k0_off45_inb v0 v5 v10 v15 v20 v25 v30 v35 v40 v45 v50 v55 v67 v80 v4676 k0_hw5 k0_h13 k0_h15)
theorem k0_mult27_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h16 : k0_cond16 v67 v80 v4676 = 1#1), 32 ∣ (k0_mult27 v67 v80 v4676).toNat := fun v0 v5 v10 v15 v20 v25 v30 v35 v40 v45 v50 v55 v67 v80 v4676 k0_hw5 k0_h13 k0_h16 => k0_hw5.2.2.2.2.2.2.2.2.2.2.2.2.1 k0_h13 k0_h16
theorem k0_mult28_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h16 : k0_cond16 v67 v80 v4676 = 1#1), 32 ∣ (k0_mult28 v67 v80 v4676).toNat := fun v0 v5 v10 v15 v20 v25 v30 v35 v40 v45 v50 v55 v67 v80 v4676 k0_hw5 k0_h13 k0_h16 => k0_hw5.2.2.2.2.2.2.2.2.2.2.2.2.2.1 k0_h13 k0_h16
theorem k0_off48_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h16 : k0_cond16 v67 v80 v4676 = 1#1), ∀ a, (k0_off48 v67 v80 v4676) a + S1x128x5120.size a ≤ S6x512x5120.size a := fun v0 v5 v10 v15 v20 v25 v30 v35 v40 v45 v50 v55 v67 v80 v4676 k0_hw5 k0_h13 k0_h16 => k0_hw5.2.2.2.2.2.2.2.2.2.2.2.2.2.2.1 k0_h13 k0_h16
theorem k0_off49_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h16 : k0_cond16 v67 v80 v4676 = 1#1), ∀ a, (k0_off49 v67 v80 v4676) a + S1x128x5120.size a ≤ S12x4096x5120.size a := fun v0 v5 v10 v15 v20 v25 v30 v35 v40 v45 v50 v55 v67 v80 v4676 k0_hw5 k0_h13 k0_h16 => k0_hw5.2.2.2.2.2.2.2.2.2.2.2.2.2.2.2.1 k0_h13 k0_h16
theorem k0_off49_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h16 : k0_cond16 v67 v80 v4676 = 1#1), (Rect.unit (s := S12x4096x5120) (k0_off49 v67 v80 v4676) S1x128x5120.size (k0_off49_inb v0 v5 v10 v15 v20 v25 v30 v35 v40 v45 v50 v55 v67 v80 v4676 k0_hw5 k0_h13 k0_h16)).WholeWords (EltTy.packing .fp8e4m3) := fun v0 v5 v10 v15 v20 v25 v30 v35 v40 v45 v50 v55 v67 v80 v4676 k0_hw5 k0_h13 k0_h16 => k0_hw5.2.2.2.2.2.2.2.2.2.2.2.2.2.2.2.2.1 k0_h13 k0_h16 (k0_off49_inb v0 v5 v10 v15 v20 v25 v30 v35 v40 v45 v50 v55 v67 v80 v4676 k0_hw5 k0_h13 k0_h16)
theorem k0_off48_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h16 : k0_cond16 v67 v80 v4676 = 1#1), (Rect.unit (s := S6x512x5120) (k0_off48 v67 v80 v4676) S1x128x5120.size (k0_off48_inb v0 v5 v10 v15 v20 v25 v30 v35 v40 v45 v50 v55 v67 v80 v4676 k0_hw5 k0_h13 k0_h16)).WholeWords (EltTy.packing .fp8e4m3) := fun v0 v5 v10 v15 v20 v25 v30 v35 v40 v45 v50 v55 v67 v80 v4676 k0_hw5 k0_h13 k0_h16 => k0_hw5.2.2.2.2.2.2.2.2.2.2.2.2.2.2.2.2.2.1 k0_h13 k0_h16 (k0_off48_inb v0 v5 v10 v15 v20 v25 v30 v35 v40 v45 v50 v55 v67 v80 v4676 k0_hw5 k0_h13 k0_h16)
theorem k0_mult29_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h17 : k0_cond17 v67 v80 v4676 = 1#1), 32 ∣ (k0_mult29 v67 v80 v4676).toNat := fun v0 v5 v10 v15 v20 v25 v30 v35 v40 v45 v50 v55 v67 v80 v4676 k0_hw5 k0_h13 k0_h17 => k0_hw5.2.2.2.2.2.2.2.2.2.2.2.2.2.2.2.2.2.2.1 k0_h13 k0_h17
theorem k0_mult30_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h17 : k0_cond17 v67 v80 v4676 = 1#1), 32 ∣ (k0_mult30 v67 v80 v4676).toNat := fun v0 v5 v10 v15 v20 v25 v30 v35 v40 v45 v50 v55 v67 v80 v4676 k0_hw5 k0_h13 k0_h17 => k0_hw5.2.2.2.2.2.2.2.2.2.2.2.2.2.2.2.2.2.2.2.1 k0_h13 k0_h17
theorem k0_off51_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h17 : k0_cond17 v67 v80 v4676 = 1#1), ∀ a, (k0_off51 v67 v80 v4676) a + S1x64x5120.size a ≤ S6x512x5120.size a := fun v0 v5 v10 v15 v20 v25 v30 v35 v40 v45 v50 v55 v67 v80 v4676 k0_hw5 k0_h13 k0_h17 => k0_hw5.2.2.2.2.2.2.2.2.2.2.2.2.2.2.2.2.2.2.2.2.1 k0_h13 k0_h17
theorem k0_off52_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h17 : k0_cond17 v67 v80 v4676 = 1#1), ∀ a, (k0_off52 v67 v80 v4676) a + S1x64x5120.size a ≤ S12x4096x5120.size a := fun v0 v5 v10 v15 v20 v25 v30 v35 v40 v45 v50 v55 v67 v80 v4676 k0_hw5 k0_h13 k0_h17 => k0_hw5.2.2.2.2.2.2.2.2.2.2.2.2.2.2.2.2.2.2.2.2.2.1 k0_h13 k0_h17
theorem k0_off52_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h17 : k0_cond17 v67 v80 v4676 = 1#1), (Rect.unit (s := S12x4096x5120) (k0_off52 v67 v80 v4676) S1x64x5120.size (k0_off52_inb v0 v5 v10 v15 v20 v25 v30 v35 v40 v45 v50 v55 v67 v80 v4676 k0_hw5 k0_h13 k0_h17)).WholeWords (EltTy.packing .fp8e4m3) := fun v0 v5 v10 v15 v20 v25 v30 v35 v40 v45 v50 v55 v67 v80 v4676 k0_hw5 k0_h13 k0_h17 => k0_hw5.2.2.2.2.2.2.2.2.2.2.2.2.2.2.2.2.2.2.2.2.2.2.1 k0_h13 k0_h17 (k0_off52_inb v0 v5 v10 v15 v20 v25 v30 v35 v40 v45 v50 v55 v67 v80 v4676 k0_hw5 k0_h13 k0_h17)
theorem k0_off51_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h17 : k0_cond17 v67 v80 v4676 = 1#1), (Rect.unit (s := S6x512x5120) (k0_off51 v67 v80 v4676) S1x64x5120.size (k0_off51_inb v0 v5 v10 v15 v20 v25 v30 v35 v40 v45 v50 v55 v67 v80 v4676 k0_hw5 k0_h13 k0_h17)).WholeWords (EltTy.packing .fp8e4m3) := fun v0 v5 v10 v15 v20 v25 v30 v35 v40 v45 v50 v55 v67 v80 v4676 k0_hw5 k0_h13 k0_h17 => k0_hw5.2.2.2.2.2.2.2.2.2.2.2.2.2.2.2.2.2.2.2.2.2.2.2.1 k0_h13 k0_h17 (k0_off51_inb v0 v5 v10 v15 v20 v25 v30 v35 v40 v45 v50 v55 v67 v80 v4676 k0_hw5 k0_h13 k0_h17)
theorem k0_mult31_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h18 : k0_cond18 v67 v80 v4676 = 1#1), 32 ∣ (k0_mult31 v67 v80 v4676).toNat := fun v0 v5 v10 v15 v20 v25 v30 v35 v40 v45 v50 v55 v67 v80 v4676 k0_hw5 k0_h13 k0_h18 => k0_hw5.2.2.2.2.2.2.2.2.2.2.2.2.2.2.2.2.2.2.2.2.2.2.2.2.1 k0_h13 k0_h18
theorem k0_mult32_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h18 : k0_cond18 v67 v80 v4676 = 1#1), 32 ∣ (k0_mult32 v67 v80 v4676).toNat := fun v0 v5 v10 v15 v20 v25 v30 v35 v40 v45 v50 v55 v67 v80 v4676 k0_hw5 k0_h13 k0_h18 => k0_hw5.2.2.2.2.2.2.2.2.2.2.2.2.2.2.2.2.2.2.2.2.2.2.2.2.2.1 k0_h13 k0_h18
theorem k0_off54_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h18 : k0_cond18 v67 v80 v4676 = 1#1), ∀ a, (k0_off54 v67 v80 v4676) a + S1x32x5120.size a ≤ S6x512x5120.size a := fun v0 v5 v10 v15 v20 v25 v30 v35 v40 v45 v50 v55 v67 v80 v4676 k0_hw5 k0_h13 k0_h18 => k0_hw5.2.2.2.2.2.2.2.2.2.2.2.2.2.2.2.2.2.2.2.2.2.2.2.2.2.2.1 k0_h13 k0_h18
theorem k0_off55_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h18 : k0_cond18 v67 v80 v4676 = 1#1), ∀ a, (k0_off55 v67 v80 v4676) a + S1x32x5120.size a ≤ S12x4096x5120.size a := fun v0 v5 v10 v15 v20 v25 v30 v35 v40 v45 v50 v55 v67 v80 v4676 k0_hw5 k0_h13 k0_h18 => k0_hw5.2.2.2.2.2.2.2.2.2.2.2.2.2.2.2.2.2.2.2.2.2.2.2.2.2.2.2.1 k0_h13 k0_h18
theorem k0_off55_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h18 : k0_cond18 v67 v80 v4676 = 1#1), (Rect.unit (s := S12x4096x5120) (k0_off55 v67 v80 v4676) S1x32x5120.size (k0_off55_inb v0 v5 v10 v15 v20 v25 v30 v35 v40 v45 v50 v55 v67 v80 v4676 k0_hw5 k0_h13 k0_h18)).WholeWords (EltTy.packing .fp8e4m3) := fun v0 v5 v10 v15 v20 v25 v30 v35 v40 v45 v50 v55 v67 v80 v4676 k0_hw5 k0_h13 k0_h18 => k0_hw5.2.2.2.2.2.2.2.2.2.2.2.2.2.2.2.2.2.2.2.2.2.2.2.2.2.2.2.2.1 k0_h13 k0_h18 (k0_off55_inb v0 v5 v10 v15 v20 v25 v30 v35 v40 v45 v50 v55 v67 v80 v4676 k0_hw5 k0_h13 k0_h18)
theorem k0_off54_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v4676 : BitVec 32) (k0_hw5 : k0_chk5 v0 v5 v10 v15 v20 v25 v30 v35 v40 v45 v50 v55 v67 v80 v4676), ∀ (k0_h13 : k0_cond13 v0 v5 v10 v15 v20 v25 v30 v35 v40 v45 v50 v55 = 1#1), ∀ (k0_h18 : k0_cond18 v67 v80 v4676 = 1#1), (Rect.unit (s := S6x512x5120) (k0_off54 v67 v80 v4676) S1x32x5120.size (k0_off54_inb v0 v5 v10 v15 v20 v25 v30 v35 v40 v45 v50 v55 v67 v80 v4676 k0_hw5 k0_h13 k0_h18)).WholeWords (EltTy.packing .fp8e4m3) := fun v0 v5 v10 v15 v20 v25 v30 v35 v40 v45 v50 v55 v67 v80 v4676 k0_hw5 k0_h13 k0_h18 => k0_hw5.2.2.2.2.2.2.2.2.2.2.2.2.2.2.2.2.2.2.2.2.2.2.2.2.2.2.2.2.2 k0_h13 k0_h18 (k0_off54_inb v0 v5 v10 v15 v20 v25 v30 v35 v40 v45 v50 v55 v67 v80 v4676 k0_hw5 k0_h13 k0_h18)

def k0_mult33 (v67 : BitVec 32) (v80 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c512_i32_2227 : BitVec 32 := 512#32
  let v4683 : BitVec 32 := Scalar.muli v85 c512_i32_2227
  v4683
def k0_off56 : Fin 1 → Nat :=
  let c2_i32_56 : BitVec 32 := 2#32
  let c6_i32_2223 : BitVec 32 := 6#32
  let v4674 : BitVec 32 := Scalar.remsi c2_i32_56 c6_i32_2223
  ![v4674.toNat]
def k0_off57 : Fin 3 → Nat :=
  let c2_i32_56 : BitVec 32 := 2#32
  let c6_i32_2223 : BitVec 32 := 6#32
  let v4674 : BitVec 32 := Scalar.remsi c2_i32_56 c6_i32_2223
  let c0_i32_2242 : BitVec 32 := 0#32
  let c0_i32_2243 : BitVec 32 := 0#32
  ![v4674.toNat, 0, 0]
def k0_off58 (v67 : BitVec 32) (v80 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c0_i32_2244 : BitVec 32 := 0#32
  let c0_i32_55 : BitVec 32 := 0#32
  let c1_i32_54 : BitVec 32 := 1#32
  let v84 : BitVec 32 := Scalar.addi v72 c1_i32_54
  let v85 : BitVec 32 := Scalar.select v81 c0_i32_55 v84
  let c512_i32_2227 : BitVec 32 := 512#32
  let v4683 : BitVec 32 := Scalar.muli v85 c512_i32_2227
  let v4704 : BitVec 32 := v4683
  ![v83.toNat, 0, v4704.toNat]
def k0_off59 (v67 : BitVec 32) (v80 : BitVec 32) : Fin 1 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c11_i32_60 : BitVec 32 := 11#32
  let v91 : BitVec 32 := Scalar.minsi v83 c11_i32_60
  let v92 : Index := Scalar.indexCast v91
  ![v92.toNat]

def k0_chk4 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) : Prop :=
  (∀ (k0_h13 : k0_cond13 v0 v5 v10 v15 v20 v25 v30 v35 v40 v45 v50 v55 = 1#1), ∀ a, (k0_off40 v67 v80) a + S1.size a ≤ S12.size a) ∧
  (∀ (k0_h13 : k0_cond13 v0 v5 v10 v15 v20 v25 v30 v35 v40 v45 v50 v55 = 1#1), 128 ∣ (k0_mult33 v67 v80).toNat) ∧
  (∀ (k0_h13 : k0_cond13 v0 v5 v10 v15 v20 v25 v30 v35 v40 v45 v50 v55 = 1#1), ∀ a, (k0_off58 v67 v80) a + S1x40x512.size a ≤ S12x40x4096.size a) ∧
  (∀ a, (k0_off59 v67 v80) a + S1.size a ≤ S12.size a)
theorem k0_off40_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (k0_hw4 : k0_chk4 v0 v5 v10 v15 v20 v25 v30 v35 v40 v45 v50 v55 v67 v80), ∀ (k0_h13 : k0_cond13 v0 v5 v10 v15 v20 v25 v30 v35 v40 v45 v50 v55 = 1#1), ∀ a, (k0_off40 v67 v80) a + S1.size a ≤ S12.size a := fun v0 v5 v10 v15 v20 v25 v30 v35 v40 v45 v50 v55 v67 v80 k0_hw4 k0_h13 => k0_hw4.1 k0_h13
theorem k0_mult33_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (k0_hw4 : k0_chk4 v0 v5 v10 v15 v20 v25 v30 v35 v40 v45 v50 v55 v67 v80), ∀ (k0_h13 : k0_cond13 v0 v5 v10 v15 v20 v25 v30 v35 v40 v45 v50 v55 = 1#1), 128 ∣ (k0_mult33 v67 v80).toNat := fun v0 v5 v10 v15 v20 v25 v30 v35 v40 v45 v50 v55 v67 v80 k0_hw4 k0_h13 => k0_hw4.2.1 k0_h13
theorem k0_off58_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (k0_hw4 : k0_chk4 v0 v5 v10 v15 v20 v25 v30 v35 v40 v45 v50 v55 v67 v80), ∀ (k0_h13 : k0_cond13 v0 v5 v10 v15 v20 v25 v30 v35 v40 v45 v50 v55 = 1#1), ∀ a, (k0_off58 v67 v80) a + S1x40x512.size a ≤ S12x40x4096.size a := fun v0 v5 v10 v15 v20 v25 v30 v35 v40 v45 v50 v55 v67 v80 k0_hw4 k0_h13 => k0_hw4.2.2.1 k0_h13
theorem k0_off59_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (k0_hw4 : k0_chk4 v0 v5 v10 v15 v20 v25 v30 v35 v40 v45 v50 v55 v67 v80), ∀ a, (k0_off59 v67 v80) a + S1.size a ≤ S12.size a := fun v0 v5 v10 v15 v20 v25 v30 v35 v40 v45 v50 v55 v67 v80 k0_hw4 => k0_hw4.2.2.2

def k0_off60 (v67 : BitVec 32) (v80 : BitVec 32) (v93 : BitVec 32) : Fin 1 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let v4675 : Index := Scalar.indexCast v96
  ![v4675.toNat]
def k0_cond19 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) : BitVec 1 :=
  let c3_i32 : BitVec 32 := 3#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v99 : BitVec 1 := Scalar.cmpi .slt c3_i32 v59
  let v100 : BitVec 32 := Scalar.extui v99
  let c0_i32_65 : BitVec 32 := 0#32
  let v101 : BitVec 1 := Scalar.cmpi .ne v100 c0_i32_65
  v101

def k0_mult34 (v67 : BitVec 32) (v80 : BitVec 32) (v93 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  v4711
def k0_cond20 (v67 : BitVec 32) (v80 : BitVec 32) (v93 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c512_i32_2228 : BitVec 32 := 512#32
  let v4684 : BitVec 32 := Scalar.andi v4682 c512_i32_2228
  let c0_i32_2229 : BitVec 32 := 0#32
  let v4685 : BitVec 1 := Scalar.cmpi .ne v4684 c0_i32_2229
  let v4686 : BitVec 32 := Scalar.extui v4685
  let c0_i32_2230 : BitVec 32 := 0#32
  let v4687 : BitVec 1 := Scalar.cmpi .ne v4686 c0_i32_2230
  v4687

def k0_mult35 (v67 : BitVec 32) (v80 : BitVec 32) (v93 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2227 : BitVec 32 := 512#32
  let v4683 : BitVec 32 := Scalar.muli v98 c512_i32_2227
  let c512_i32_2226 : BitVec 32 := 512#32
  let c0_i32_2225 : BitVec 32 := 0#32
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let v4713 : BitVec 32 := Scalar.addi v4683 v4712
  v4713
def k0_off61 : Fin 1 → Nat :=
  let c3_i32_64 : BitVec 32 := 3#32
  let c6_i32_2223 : BitVec 32 := 6#32
  let v4674 : BitVec 32 := Scalar.remsi c3_i32_64 c6_i32_2223
  ![v4674.toNat]
def k0_off62 (v67 : BitVec 32) (v80 : BitVec 32) (v93 : BitVec 32) (v4676 : BitVec 32) : Fin 3 → Nat :=
  let c3_i32_64 : BitVec 32 := 3#32
  let c6_i32_2223 : BitVec 32 := 6#32
  let v4674 : BitVec 32 := Scalar.remsi c3_i32_64 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let c0_i32_2245 : BitVec 32 := 0#32
  ![v4674.toNat, v4712.toNat, 0]
def k0_off63 (v67 : BitVec 32) (v80 : BitVec 32) (v93 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c0_i32_63 : BitVec 32 := 0#32
  let c1_i32_62 : BitVec 32 := 1#32
  let v97 : BitVec 32 := Scalar.addi v85 c1_i32_62
  let v98 : BitVec 32 := Scalar.select v94 c0_i32_63 v97
  let c512_i32_2227 : BitVec 32 := 512#32
  let v4683 : BitVec 32 := Scalar.muli v98 c512_i32_2227
  let c512_i32_2226 : BitVec 32 := 512#32
  let c0_i32_2225 : BitVec 32 := 0#32
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let v4713 : BitVec 32 := Scalar.addi v4683 v4712
  let v4714 : BitVec 32 := v4713
  let c0_i32_2246 : BitVec 32 := 0#32
  ![v96.toNat, v4714.toNat, 0]
def k0_mult36 (v67 : BitVec 32) (v80 : BitVec 32) (v93 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  v4711
def k0_cond21 (v67 : BitVec 32) (v80 : BitVec 32) (v93 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c256_i32_2231 : BitVec 32 := 256#32
  let v4688 : BitVec 32 := Scalar.andi v4682 c256_i32_2231
  let c0_i32_2232 : BitVec 32 := 0#32
  let v4689 : BitVec 1 := Scalar.cmpi .ne v4688 c0_i32_2232
  let v4690 : BitVec 32 := Scalar.extui v4689
  let c0_i32_2233 : BitVec 32 := 0#32
  let v4691 : BitVec 1 := Scalar.cmpi .ne v4690 c0_i32_2233
  v4691

def k0_mult37 (v67 : BitVec 32) (v80 : BitVec 32) (v93 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2227 : BitVec 32 := 512#32
  let v4683 : BitVec 32 := Scalar.muli v98 c512_i32_2227
  let c512_i32_2226 : BitVec 32 := 512#32
  let c0_i32_2225 : BitVec 32 := 0#32
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let v4713 : BitVec 32 := Scalar.addi v4683 v4712
  v4713
def k0_off64 : Fin 1 → Nat :=
  let c3_i32_64 : BitVec 32 := 3#32
  let c6_i32_2223 : BitVec 32 := 6#32
  let v4674 : BitVec 32 := Scalar.remsi c3_i32_64 c6_i32_2223
  ![v4674.toNat]
def k0_off65 (v67 : BitVec 32) (v80 : BitVec 32) (v93 : BitVec 32) (v4676 : BitVec 32) : Fin 3 → Nat :=
  let c3_i32_64 : BitVec 32 := 3#32
  let c6_i32_2223 : BitVec 32 := 6#32
  let v4674 : BitVec 32 := Scalar.remsi c3_i32_64 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let c0_i32_2245 : BitVec 32 := 0#32
  ![v4674.toNat, v4712.toNat, 0]
def k0_off66 (v67 : BitVec 32) (v80 : BitVec 32) (v93 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c0_i32_63 : BitVec 32 := 0#32
  let c1_i32_62 : BitVec 32 := 1#32
  let v97 : BitVec 32 := Scalar.addi v85 c1_i32_62
  let v98 : BitVec 32 := Scalar.select v94 c0_i32_63 v97
  let c512_i32_2227 : BitVec 32 := 512#32
  let v4683 : BitVec 32 := Scalar.muli v98 c512_i32_2227
  let c512_i32_2226 : BitVec 32 := 512#32
  let c0_i32_2225 : BitVec 32 := 0#32
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let v4713 : BitVec 32 := Scalar.addi v4683 v4712
  let v4714 : BitVec 32 := v4713
  let c0_i32_2246 : BitVec 32 := 0#32
  ![v96.toNat, v4714.toNat, 0]
def k0_mult38 (v67 : BitVec 32) (v80 : BitVec 32) (v93 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  v4711
def k0_cond22 (v67 : BitVec 32) (v80 : BitVec 32) (v93 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c128_i32_2234 : BitVec 32 := 128#32
  let v4692 : BitVec 32 := Scalar.andi v4682 c128_i32_2234
  let c0_i32_2235 : BitVec 32 := 0#32
  let v4693 : BitVec 1 := Scalar.cmpi .ne v4692 c0_i32_2235
  let v4694 : BitVec 32 := Scalar.extui v4693
  let c0_i32_2236 : BitVec 32 := 0#32
  let v4695 : BitVec 1 := Scalar.cmpi .ne v4694 c0_i32_2236
  v4695

def k0_mult39 (v67 : BitVec 32) (v80 : BitVec 32) (v93 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2227 : BitVec 32 := 512#32
  let v4683 : BitVec 32 := Scalar.muli v98 c512_i32_2227
  let c512_i32_2226 : BitVec 32 := 512#32
  let c0_i32_2225 : BitVec 32 := 0#32
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let v4713 : BitVec 32 := Scalar.addi v4683 v4712
  v4713
def k0_off67 : Fin 1 → Nat :=
  let c3_i32_64 : BitVec 32 := 3#32
  let c6_i32_2223 : BitVec 32 := 6#32
  let v4674 : BitVec 32 := Scalar.remsi c3_i32_64 c6_i32_2223
  ![v4674.toNat]
def k0_off68 (v67 : BitVec 32) (v80 : BitVec 32) (v93 : BitVec 32) (v4676 : BitVec 32) : Fin 3 → Nat :=
  let c3_i32_64 : BitVec 32 := 3#32
  let c6_i32_2223 : BitVec 32 := 6#32
  let v4674 : BitVec 32 := Scalar.remsi c3_i32_64 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let c0_i32_2245 : BitVec 32 := 0#32
  ![v4674.toNat, v4712.toNat, 0]
def k0_off69 (v67 : BitVec 32) (v80 : BitVec 32) (v93 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c0_i32_63 : BitVec 32 := 0#32
  let c1_i32_62 : BitVec 32 := 1#32
  let v97 : BitVec 32 := Scalar.addi v85 c1_i32_62
  let v98 : BitVec 32 := Scalar.select v94 c0_i32_63 v97
  let c512_i32_2227 : BitVec 32 := 512#32
  let v4683 : BitVec 32 := Scalar.muli v98 c512_i32_2227
  let c512_i32_2226 : BitVec 32 := 512#32
  let c0_i32_2225 : BitVec 32 := 0#32
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let v4713 : BitVec 32 := Scalar.addi v4683 v4712
  let v4714 : BitVec 32 := v4713
  let c0_i32_2246 : BitVec 32 := 0#32
  ![v96.toNat, v4714.toNat, 0]
def k0_mult40 (v67 : BitVec 32) (v80 : BitVec 32) (v93 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  v4711
def k0_cond23 (v67 : BitVec 32) (v80 : BitVec 32) (v93 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c64_i32_2237 : BitVec 32 := 64#32
  let v4696 : BitVec 32 := Scalar.andi v4682 c64_i32_2237
  let c0_i32_2238 : BitVec 32 := 0#32
  let v4697 : BitVec 1 := Scalar.cmpi .ne v4696 c0_i32_2238
  let v4698 : BitVec 32 := Scalar.extui v4697
  let c0_i32_2239 : BitVec 32 := 0#32
  let v4699 : BitVec 1 := Scalar.cmpi .ne v4698 c0_i32_2239
  v4699

def k0_mult41 (v67 : BitVec 32) (v80 : BitVec 32) (v93 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2227 : BitVec 32 := 512#32
  let v4683 : BitVec 32 := Scalar.muli v98 c512_i32_2227
  let c512_i32_2226 : BitVec 32 := 512#32
  let c0_i32_2225 : BitVec 32 := 0#32
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let v4713 : BitVec 32 := Scalar.addi v4683 v4712
  v4713
def k0_off70 : Fin 1 → Nat :=
  let c3_i32_64 : BitVec 32 := 3#32
  let c6_i32_2223 : BitVec 32 := 6#32
  let v4674 : BitVec 32 := Scalar.remsi c3_i32_64 c6_i32_2223
  ![v4674.toNat]
def k0_off71 (v67 : BitVec 32) (v80 : BitVec 32) (v93 : BitVec 32) (v4676 : BitVec 32) : Fin 3 → Nat :=
  let c3_i32_64 : BitVec 32 := 3#32
  let c6_i32_2223 : BitVec 32 := 6#32
  let v4674 : BitVec 32 := Scalar.remsi c3_i32_64 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let c0_i32_2245 : BitVec 32 := 0#32
  ![v4674.toNat, v4712.toNat, 0]
def k0_off72 (v67 : BitVec 32) (v80 : BitVec 32) (v93 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c0_i32_63 : BitVec 32 := 0#32
  let c1_i32_62 : BitVec 32 := 1#32
  let v97 : BitVec 32 := Scalar.addi v85 c1_i32_62
  let v98 : BitVec 32 := Scalar.select v94 c0_i32_63 v97
  let c512_i32_2227 : BitVec 32 := 512#32
  let v4683 : BitVec 32 := Scalar.muli v98 c512_i32_2227
  let c512_i32_2226 : BitVec 32 := 512#32
  let c0_i32_2225 : BitVec 32 := 0#32
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let v4713 : BitVec 32 := Scalar.addi v4683 v4712
  let v4714 : BitVec 32 := v4713
  let c0_i32_2246 : BitVec 32 := 0#32
  ![v96.toNat, v4714.toNat, 0]
def k0_mult42 (v67 : BitVec 32) (v80 : BitVec 32) (v93 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  v4711
def k0_cond24 (v67 : BitVec 32) (v80 : BitVec 32) (v93 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c32_i32 : BitVec 32 := 32#32
  let v4700 : BitVec 32 := Scalar.andi v4682 c32_i32
  let c0_i32_2240 : BitVec 32 := 0#32
  let v4701 : BitVec 1 := Scalar.cmpi .ne v4700 c0_i32_2240
  let v4702 : BitVec 32 := Scalar.extui v4701
  let c0_i32_2241 : BitVec 32 := 0#32
  let v4703 : BitVec 1 := Scalar.cmpi .ne v4702 c0_i32_2241
  v4703

def k0_mult43 (v67 : BitVec 32) (v80 : BitVec 32) (v93 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2227 : BitVec 32 := 512#32
  let v4683 : BitVec 32 := Scalar.muli v98 c512_i32_2227
  let c512_i32_2226 : BitVec 32 := 512#32
  let c0_i32_2225 : BitVec 32 := 0#32
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let v4713 : BitVec 32 := Scalar.addi v4683 v4712
  v4713
def k0_off73 : Fin 1 → Nat :=
  let c3_i32_64 : BitVec 32 := 3#32
  let c6_i32_2223 : BitVec 32 := 6#32
  let v4674 : BitVec 32 := Scalar.remsi c3_i32_64 c6_i32_2223
  ![v4674.toNat]
def k0_off74 (v67 : BitVec 32) (v80 : BitVec 32) (v93 : BitVec 32) (v4676 : BitVec 32) : Fin 3 → Nat :=
  let c3_i32_64 : BitVec 32 := 3#32
  let c6_i32_2223 : BitVec 32 := 6#32
  let v4674 : BitVec 32 := Scalar.remsi c3_i32_64 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let c0_i32_2245 : BitVec 32 := 0#32
  ![v4674.toNat, v4712.toNat, 0]
def k0_off75 (v67 : BitVec 32) (v80 : BitVec 32) (v93 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c0_i32_63 : BitVec 32 := 0#32
  let c1_i32_62 : BitVec 32 := 1#32
  let v97 : BitVec 32 := Scalar.addi v85 c1_i32_62
  let v98 : BitVec 32 := Scalar.select v94 c0_i32_63 v97
  let c512_i32_2227 : BitVec 32 := 512#32
  let v4683 : BitVec 32 := Scalar.muli v98 c512_i32_2227
  let c512_i32_2226 : BitVec 32 := 512#32
  let c0_i32_2225 : BitVec 32 := 0#32
  let c512_i32_2224 : BitVec 32 := 512#32
  let v4677 : BitVec 32 := Scalar.muli v98 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let v4713 : BitVec 32 := Scalar.addi v4683 v4712
  let v4714 : BitVec 32 := v4713
  let c0_i32_2246 : BitVec 32 := 0#32
  ![v96.toNat, v4714.toNat, 0]

def k0_chk7 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) : Prop :=
  (∀ (k0_h19 : k0_cond19 v0 v5 v10 v15 v20 v25 v30 v35 v40 v45 v50 v55 = 1#1), ∀ (k0_h20 : k0_cond20 v67 v80 v93 v4676 = 1#1), 32 ∣ (k0_mult34 v67 v80 v93 v4676).toNat) ∧
  (∀ (k0_h19 : k0_cond19 v0 v5 v10 v15 v20 v25 v30 v35 v40 v45 v50 v55 = 1#1), ∀ (k0_h20 : k0_cond20 v67 v80 v93 v4676 = 1#1), 32 ∣ (k0_mult35 v67 v80 v93 v4676).toNat) ∧
  (∀ (k0_h19 : k0_cond19 v0 v5 v10 v15 v20 v25 v30 v35 v40 v45 v50 v55 = 1#1), ∀ (k0_h20 : k0_cond20 v67 v80 v93 v4676 = 1#1), ∀ a, (k0_off62 v67 v80 v93 v4676) a + S1x512x5120.size a ≤ S6x512x5120.size a) ∧
  (∀ (k0_h19 : k0_cond19 v0 v5 v10 v15 v20 v25 v30 v35 v40 v45 v50 v55 = 1#1), ∀ (k0_h20 : k0_cond20 v67 v80 v93 v4676 = 1#1), ∀ a, (k0_off63 v67 v80 v93 v4676) a + S1x512x5120.size a ≤ S12x4096x5120.size a) ∧
  (∀ (k0_h19 : k0_cond19 v0 v5 v10 v15 v20 v25 v30 v35 v40 v45 v50 v55 = 1#1), ∀ (k0_h20 : k0_cond20 v67 v80 v93 v4676 = 1#1), ∀ (hinb : ∀ a, (k0_off63 v67 v80 v93 v4676) a + S1x512x5120.size a ≤ S12x4096x5120.size a), (Rect.unit (s := S12x4096x5120) (k0_off63 v67 v80 v93 v4676) S1x512x5120.size hinb).WholeWords (EltTy.packing .fp8e4m3)) ∧
  (∀ (k0_h19 : k0_cond19 v0 v5 v10 v15 v20 v25 v30 v35 v40 v45 v50 v55 = 1#1), ∀ (k0_h20 : k0_cond20 v67 v80 v93 v4676 = 1#1), ∀ (hinb : ∀ a, (k0_off62 v67 v80 v93 v4676) a + S1x512x5120.size a ≤ S6x512x5120.size a), (Rect.unit (s := S6x512x5120) (k0_off62 v67 v80 v93 v4676) S1x512x5120.size hinb).WholeWords (EltTy.packing .fp8e4m3)) ∧
  (∀ (k0_h19 : k0_cond19 v0 v5 v10 v15 v20 v25 v30 v35 v40 v45 v50 v55 = 1#1), ∀ (k0_h21 : k0_cond21 v67 v80 v93 v4676 = 1#1), 32 ∣ (k0_mult36 v67 v80 v93 v4676).toNat) ∧
  (∀ (k0_h19 : k0_cond19 v0 v5 v10 v15 v20 v25 v30 v35 v40 v45 v50 v55 = 1#1), ∀ (k0_h21 : k0_cond21 v67 v80 v93 v4676 = 1#1), 32 ∣ (k0_mult37 v67 v80 v93 v4676).toNat) ∧
  (∀ (k0_h19 : k0_cond19 v0 v5 v10 v15 v20 v25 v30 v35 v40 v45 v50 v55 = 1#1), ∀ (k0_h21 : k0_cond21 v67 v80 v93 v4676 = 1#1), ∀ a, (k0_off65 v67 v80 v93 v4676) a + S1x256x5120.size a ≤ S6x512x5120.size a) ∧
  (∀ (k0_h19 : k0_cond19 v0 v5 v10 v15 v20 v25 v30 v35 v40 v45 v50 v55 = 1#1), ∀ (k0_h21 : k0_cond21 v67 v80 v93 v4676 = 1#1), ∀ a, (k0_off66 v67 v80 v93 v4676) a + S1x256x5120.size a ≤ S12x4096x5120.size a) ∧
  (∀ (k0_h19 : k0_cond19 v0 v5 v10 v15 v20 v25 v30 v35 v40 v45 v50 v55 = 1#1), ∀ (k0_h21 : k0_cond21 v67 v80 v93 v4676 = 1#1), ∀ (hinb : ∀ a, (k0_off66 v67 v80 v93 v4676) a + S1x256x5120.size a ≤ S12x4096x5120.size a), (Rect.unit (s := S12x4096x5120) (k0_off66 v67 v80 v93 v4676) S1x256x5120.size hinb).WholeWords (EltTy.packing .fp8e4m3)) ∧
  (∀ (k0_h19 : k0_cond19 v0 v5 v10 v15 v20 v25 v30 v35 v40 v45 v50 v55 = 1#1), ∀ (k0_h21 : k0_cond21 v67 v80 v93 v4676 = 1#1), ∀ (hinb : ∀ a, (k0_off65 v67 v80 v93 v4676) a + S1x256x5120.size a ≤ S6x512x5120.size a), (Rect.unit (s := S6x512x5120) (k0_off65 v67 v80 v93 v4676) S1x256x5120.size hinb).WholeWords (EltTy.packing .fp8e4m3)) ∧
  (∀ (k0_h19 : k0_cond19 v0 v5 v10 v15 v20 v25 v30 v35 v40 v45 v50 v55 = 1#1), ∀ (k0_h22 : k0_cond22 v67 v80 v93 v4676 = 1#1), 32 ∣ (k0_mult38 v67 v80 v93 v4676).toNat) ∧
  (∀ (k0_h19 : k0_cond19 v0 v5 v10 v15 v20 v25 v30 v35 v40 v45 v50 v55 = 1#1), ∀ (k0_h22 : k0_cond22 v67 v80 v93 v4676 = 1#1), 32 ∣ (k0_mult39 v67 v80 v93 v4676).toNat) ∧
  (∀ (k0_h19 : k0_cond19 v0 v5 v10 v15 v20 v25 v30 v35 v40 v45 v50 v55 = 1#1), ∀ (k0_h22 : k0_cond22 v67 v80 v93 v4676 = 1#1), ∀ a, (k0_off68 v67 v80 v93 v4676) a + S1x128x5120.size a ≤ S6x512x5120.size a) ∧
  (∀ (k0_h19 : k0_cond19 v0 v5 v10 v15 v20 v25 v30 v35 v40 v45 v50 v55 = 1#1), ∀ (k0_h22 : k0_cond22 v67 v80 v93 v4676 = 1#1), ∀ a, (k0_off69 v67 v80 v93 v4676) a + S1x128x5120.size a ≤ S12x4096x5120.size a) ∧
  (∀ (k0_h19 : k0_cond19 v0 v5 v10 v15 v20 v25 v30 v35 v40 v45 v50 v55 = 1#1), ∀ (k0_h22 : k0_cond22 v67 v80 v93 v4676 = 1#1), ∀ (hinb : ∀ a, (k0_off69 v67 v80 v93 v4676) a + S1x128x5120.size a ≤ S12x4096x5120.size a), (Rect.unit (s := S12x4096x5120) (k0_off69 v67 v80 v93 v4676) S1x128x5120.size hinb).WholeWords (EltTy.packing .fp8e4m3)) ∧
  (∀ (k0_h19 : k0_cond19 v0 v5 v10 v15 v20 v25 v30 v35 v40 v45 v50 v55 = 1#1), ∀ (k0_h22 : k0_cond22 v67 v80 v93 v4676 = 1#1), ∀ (hinb : ∀ a, (k0_off68 v67 v80 v93 v4676) a + S1x128x5120.size a ≤ S6x512x5120.size a), (Rect.unit (s := S6x512x5120) (k0_off68 v67 v80 v93 v4676) S1x128x5120.size hinb).WholeWords (EltTy.packing .fp8e4m3)) ∧
  (∀ (k0_h19 : k0_cond19 v0 v5 v10 v15 v20 v25 v30 v35 v40 v45 v50 v55 = 1#1), ∀ (k0_h23 : k0_cond23 v67 v80 v93 v4676 = 1#1), 32 ∣ (k0_mult40 v67 v80 v93 v4676).toNat) ∧
  (∀ (k0_h19 : k0_cond19 v0 v5 v10 v15 v20 v25 v30 v35 v40 v45 v50 v55 = 1#1), ∀ (k0_h23 : k0_cond23 v67 v80 v93 v4676 = 1#1), 32 ∣ (k0_mult41 v67 v80 v93 v4676).toNat) ∧
  (∀ (k0_h19 : k0_cond19 v0 v5 v10 v15 v20 v25 v30 v35 v40 v45 v50 v55 = 1#1), ∀ (k0_h23 : k0_cond23 v67 v80 v93 v4676 = 1#1), ∀ a, (k0_off71 v67 v80 v93 v4676) a + S1x64x5120.size a ≤ S6x512x5120.size a) ∧
  (∀ (k0_h19 : k0_cond19 v0 v5 v10 v15 v20 v25 v30 v35 v40 v45 v50 v55 = 1#1), ∀ (k0_h23 : k0_cond23 v67 v80 v93 v4676 = 1#1), ∀ a, (k0_off72 v67 v80 v93 v4676) a + S1x64x5120.size a ≤ S12x4096x5120.size a) ∧
  (∀ (k0_h19 : k0_cond19 v0 v5 v10 v15 v20 v25 v30 v35 v40 v45 v50 v55 = 1#1), ∀ (k0_h23 : k0_cond23 v67 v80 v93 v4676 = 1#1), ∀ (hinb : ∀ a, (k0_off72 v67 v80 v93 v4676) a + S1x64x5120.size a ≤ S12x4096x5120.size a), (Rect.unit (s := S12x4096x5120) (k0_off72 v67 v80 v93 v4676) S1x64x5120.size hinb).WholeWords (EltTy.packing .fp8e4m3)) ∧
  (∀ (k0_h19 : k0_cond19 v0 v5 v10 v15 v20 v25 v30 v35 v40 v45 v50 v55 = 1#1), ∀ (k0_h23 : k0_cond23 v67 v80 v93 v4676 = 1#1), ∀ (hinb : ∀ a, (k0_off71 v67 v80 v93 v4676) a + S1x64x5120.size a ≤ S6x512x5120.size a), (Rect.unit (s := S6x512x5120) (k0_off71 v67 v80 v93 v4676) S1x64x5120.size hinb).WholeWords (EltTy.packing .fp8e4m3)) ∧
  (∀ (k0_h19 : k0_cond19 v0 v5 v10 v15 v20 v25 v30 v35 v40 v45 v50 v55 = 1#1), ∀ (k0_h24 : k0_cond24 v67 v80 v93 v4676 = 1#1), 32 ∣ (k0_mult42 v67 v80 v93 v4676).toNat) ∧
  (∀ (k0_h19 : k0_cond19 v0 v5 v10 v15 v20 v25 v30 v35 v40 v45 v50 v55 = 1#1), ∀ (k0_h24 : k0_cond24 v67 v80 v93 v4676 = 1#1), 32 ∣ (k0_mult43 v67 v80 v93 v4676).toNat) ∧
  (∀ (k0_h19 : k0_cond19 v0 v5 v10 v15 v20 v25 v30 v35 v40 v45 v50 v55 = 1#1), ∀ (k0_h24 : k0_cond24 v67 v80 v93 v4676 = 1#1), ∀ a, (k0_off74 v67 v80 v93 v4676) a + S1x32x5120.size a ≤ S6x512x5120.size a) ∧
  (∀ (k0_h19 : k0_cond19 v0 v5 v10 v15 v20 v25 v30 v35 v40 v45 v50 v55 = 1#1), ∀ (k0_h24 : k0_cond24 v67 v80 v93 v4676 = 1#1), ∀ a, (k0_off75 v67 v80 v93 v4676) a + S1x32x5120.size a ≤ S12x4096x5120.size a) ∧
  (∀ (k0_h19 : k0_cond19 v0 v5 v10 v15 v20 v25 v30 v35 v40 v45 v50 v55 = 1#1), ∀ (k0_h24 : k0_cond24 v67 v80 v93 v4676 = 1#1), ∀ (hinb : ∀ a, (k0_off75 v67 v80 v93 v4676) a + S1x32x5120.size a ≤ S12x4096x5120.size a), (Rect.unit (s := S12x4096x5120) (k0_off75 v67 v80 v93 v4676) S1x32x5120.size hinb).WholeWords (EltTy.packing .fp8e4m3)) ∧
  (∀ (k0_h19 : k0_cond19 v0 v5 v10 v15 v20 v25 v30 v35 v40 v45 v50 v55 = 1#1), ∀ (k0_h24 : k0_cond24 v67 v80 v93 v4676 = 1#1), ∀ (hinb : ∀ a, (k0_off74 v67 v80 v93 v4676) a + S1x32x5120.size a ≤ S6x512x5120.size a), (Rect.unit (s := S6x512x5120) (k0_off74 v67 v80 v93 v4676) S1x32x5120.size hinb).WholeWords (EltTy.packing .fp8e4m3))
theorem k0_mult34_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h20 : k0_cond20 v67 v80 v93 v4676 = 1#1), 32 ∣ (k0_mult34 v67 v80 v93 v4676).toNat := fun v0 v5 v10 v15 v20 v25 v30 v35 v40 v45 v50 v55 v67 v80 v93 v4676 k0_hw7 k0_h19 k0_h20 => k0_hw7.1 k0_h19 k0_h20
theorem k0_mult35_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h20 : k0_cond20 v67 v80 v93 v4676 = 1#1), 32 ∣ (k0_mult35 v67 v80 v93 v4676).toNat := fun v0 v5 v10 v15 v20 v25 v30 v35 v40 v45 v50 v55 v67 v80 v93 v4676 k0_hw7 k0_h19 k0_h20 => k0_hw7.2.1 k0_h19 k0_h20
theorem k0_off62_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h20 : k0_cond20 v67 v80 v93 v4676 = 1#1), ∀ a, (k0_off62 v67 v80 v93 v4676) a + S1x512x5120.size a ≤ S6x512x5120.size a := fun v0 v5 v10 v15 v20 v25 v30 v35 v40 v45 v50 v55 v67 v80 v93 v4676 k0_hw7 k0_h19 k0_h20 => k0_hw7.2.2.1 k0_h19 k0_h20
theorem k0_off63_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h20 : k0_cond20 v67 v80 v93 v4676 = 1#1), ∀ a, (k0_off63 v67 v80 v93 v4676) a + S1x512x5120.size a ≤ S12x4096x5120.size a := fun v0 v5 v10 v15 v20 v25 v30 v35 v40 v45 v50 v55 v67 v80 v93 v4676 k0_hw7 k0_h19 k0_h20 => k0_hw7.2.2.2.1 k0_h19 k0_h20
theorem k0_off63_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h20 : k0_cond20 v67 v80 v93 v4676 = 1#1), (Rect.unit (s := S12x4096x5120) (k0_off63 v67 v80 v93 v4676) S1x512x5120.size (k0_off63_inb v0 v5 v10 v15 v20 v25 v30 v35 v40 v45 v50 v55 v67 v80 v93 v4676 k0_hw7 k0_h19 k0_h20)).WholeWords (EltTy.packing .fp8e4m3) := fun v0 v5 v10 v15 v20 v25 v30 v35 v40 v45 v50 v55 v67 v80 v93 v4676 k0_hw7 k0_h19 k0_h20 => k0_hw7.2.2.2.2.1 k0_h19 k0_h20 (k0_off63_inb v0 v5 v10 v15 v20 v25 v30 v35 v40 v45 v50 v55 v67 v80 v93 v4676 k0_hw7 k0_h19 k0_h20)
theorem k0_off62_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h20 : k0_cond20 v67 v80 v93 v4676 = 1#1), (Rect.unit (s := S6x512x5120) (k0_off62 v67 v80 v93 v4676) S1x512x5120.size (k0_off62_inb v0 v5 v10 v15 v20 v25 v30 v35 v40 v45 v50 v55 v67 v80 v93 v4676 k0_hw7 k0_h19 k0_h20)).WholeWords (EltTy.packing .fp8e4m3) := fun v0 v5 v10 v15 v20 v25 v30 v35 v40 v45 v50 v55 v67 v80 v93 v4676 k0_hw7 k0_h19 k0_h20 => k0_hw7.2.2.2.2.2.1 k0_h19 k0_h20 (k0_off62_inb v0 v5 v10 v15 v20 v25 v30 v35 v40 v45 v50 v55 v67 v80 v93 v4676 k0_hw7 k0_h19 k0_h20)
theorem k0_mult36_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h21 : k0_cond21 v67 v80 v93 v4676 = 1#1), 32 ∣ (k0_mult36 v67 v80 v93 v4676).toNat := fun v0 v5 v10 v15 v20 v25 v30 v35 v40 v45 v50 v55 v67 v80 v93 v4676 k0_hw7 k0_h19 k0_h21 => k0_hw7.2.2.2.2.2.2.1 k0_h19 k0_h21
theorem k0_mult37_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h21 : k0_cond21 v67 v80 v93 v4676 = 1#1), 32 ∣ (k0_mult37 v67 v80 v93 v4676).toNat := fun v0 v5 v10 v15 v20 v25 v30 v35 v40 v45 v50 v55 v67 v80 v93 v4676 k0_hw7 k0_h19 k0_h21 => k0_hw7.2.2.2.2.2.2.2.1 k0_h19 k0_h21
theorem k0_off65_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h21 : k0_cond21 v67 v80 v93 v4676 = 1#1), ∀ a, (k0_off65 v67 v80 v93 v4676) a + S1x256x5120.size a ≤ S6x512x5120.size a := fun v0 v5 v10 v15 v20 v25 v30 v35 v40 v45 v50 v55 v67 v80 v93 v4676 k0_hw7 k0_h19 k0_h21 => k0_hw7.2.2.2.2.2.2.2.2.1 k0_h19 k0_h21
theorem k0_off66_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h21 : k0_cond21 v67 v80 v93 v4676 = 1#1), ∀ a, (k0_off66 v67 v80 v93 v4676) a + S1x256x5120.size a ≤ S12x4096x5120.size a := fun v0 v5 v10 v15 v20 v25 v30 v35 v40 v45 v50 v55 v67 v80 v93 v4676 k0_hw7 k0_h19 k0_h21 => k0_hw7.2.2.2.2.2.2.2.2.2.1 k0_h19 k0_h21
theorem k0_off66_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h21 : k0_cond21 v67 v80 v93 v4676 = 1#1), (Rect.unit (s := S12x4096x5120) (k0_off66 v67 v80 v93 v4676) S1x256x5120.size (k0_off66_inb v0 v5 v10 v15 v20 v25 v30 v35 v40 v45 v50 v55 v67 v80 v93 v4676 k0_hw7 k0_h19 k0_h21)).WholeWords (EltTy.packing .fp8e4m3) := fun v0 v5 v10 v15 v20 v25 v30 v35 v40 v45 v50 v55 v67 v80 v93 v4676 k0_hw7 k0_h19 k0_h21 => k0_hw7.2.2.2.2.2.2.2.2.2.2.1 k0_h19 k0_h21 (k0_off66_inb v0 v5 v10 v15 v20 v25 v30 v35 v40 v45 v50 v55 v67 v80 v93 v4676 k0_hw7 k0_h19 k0_h21)
theorem k0_off65_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h21 : k0_cond21 v67 v80 v93 v4676 = 1#1), (Rect.unit (s := S6x512x5120) (k0_off65 v67 v80 v93 v4676) S1x256x5120.size (k0_off65_inb v0 v5 v10 v15 v20 v25 v30 v35 v40 v45 v50 v55 v67 v80 v93 v4676 k0_hw7 k0_h19 k0_h21)).WholeWords (EltTy.packing .fp8e4m3) := fun v0 v5 v10 v15 v20 v25 v30 v35 v40 v45 v50 v55 v67 v80 v93 v4676 k0_hw7 k0_h19 k0_h21 => k0_hw7.2.2.2.2.2.2.2.2.2.2.2.1 k0_h19 k0_h21 (k0_off65_inb v0 v5 v10 v15 v20 v25 v30 v35 v40 v45 v50 v55 v67 v80 v93 v4676 k0_hw7 k0_h19 k0_h21)
theorem k0_mult38_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h22 : k0_cond22 v67 v80 v93 v4676 = 1#1), 32 ∣ (k0_mult38 v67 v80 v93 v4676).toNat := fun v0 v5 v10 v15 v20 v25 v30 v35 v40 v45 v50 v55 v67 v80 v93 v4676 k0_hw7 k0_h19 k0_h22 => k0_hw7.2.2.2.2.2.2.2.2.2.2.2.2.1 k0_h19 k0_h22
theorem k0_mult39_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h22 : k0_cond22 v67 v80 v93 v4676 = 1#1), 32 ∣ (k0_mult39 v67 v80 v93 v4676).toNat := fun v0 v5 v10 v15 v20 v25 v30 v35 v40 v45 v50 v55 v67 v80 v93 v4676 k0_hw7 k0_h19 k0_h22 => k0_hw7.2.2.2.2.2.2.2.2.2.2.2.2.2.1 k0_h19 k0_h22
theorem k0_off68_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h22 : k0_cond22 v67 v80 v93 v4676 = 1#1), ∀ a, (k0_off68 v67 v80 v93 v4676) a + S1x128x5120.size a ≤ S6x512x5120.size a := fun v0 v5 v10 v15 v20 v25 v30 v35 v40 v45 v50 v55 v67 v80 v93 v4676 k0_hw7 k0_h19 k0_h22 => k0_hw7.2.2.2.2.2.2.2.2.2.2.2.2.2.2.1 k0_h19 k0_h22
theorem k0_off69_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h22 : k0_cond22 v67 v80 v93 v4676 = 1#1), ∀ a, (k0_off69 v67 v80 v93 v4676) a + S1x128x5120.size a ≤ S12x4096x5120.size a := fun v0 v5 v10 v15 v20 v25 v30 v35 v40 v45 v50 v55 v67 v80 v93 v4676 k0_hw7 k0_h19 k0_h22 => k0_hw7.2.2.2.2.2.2.2.2.2.2.2.2.2.2.2.1 k0_h19 k0_h22
theorem k0_off69_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h22 : k0_cond22 v67 v80 v93 v4676 = 1#1), (Rect.unit (s := S12x4096x5120) (k0_off69 v67 v80 v93 v4676) S1x128x5120.size (k0_off69_inb v0 v5 v10 v15 v20 v25 v30 v35 v40 v45 v50 v55 v67 v80 v93 v4676 k0_hw7 k0_h19 k0_h22)).WholeWords (EltTy.packing .fp8e4m3) := fun v0 v5 v10 v15 v20 v25 v30 v35 v40 v45 v50 v55 v67 v80 v93 v4676 k0_hw7 k0_h19 k0_h22 => k0_hw7.2.2.2.2.2.2.2.2.2.2.2.2.2.2.2.2.1 k0_h19 k0_h22 (k0_off69_inb v0 v5 v10 v15 v20 v25 v30 v35 v40 v45 v50 v55 v67 v80 v93 v4676 k0_hw7 k0_h19 k0_h22)
theorem k0_off68_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h22 : k0_cond22 v67 v80 v93 v4676 = 1#1), (Rect.unit (s := S6x512x5120) (k0_off68 v67 v80 v93 v4676) S1x128x5120.size (k0_off68_inb v0 v5 v10 v15 v20 v25 v30 v35 v40 v45 v50 v55 v67 v80 v93 v4676 k0_hw7 k0_h19 k0_h22)).WholeWords (EltTy.packing .fp8e4m3) := fun v0 v5 v10 v15 v20 v25 v30 v35 v40 v45 v50 v55 v67 v80 v93 v4676 k0_hw7 k0_h19 k0_h22 => k0_hw7.2.2.2.2.2.2.2.2.2.2.2.2.2.2.2.2.2.1 k0_h19 k0_h22 (k0_off68_inb v0 v5 v10 v15 v20 v25 v30 v35 v40 v45 v50 v55 v67 v80 v93 v4676 k0_hw7 k0_h19 k0_h22)
theorem k0_mult40_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h23 : k0_cond23 v67 v80 v93 v4676 = 1#1), 32 ∣ (k0_mult40 v67 v80 v93 v4676).toNat := fun v0 v5 v10 v15 v20 v25 v30 v35 v40 v45 v50 v55 v67 v80 v93 v4676 k0_hw7 k0_h19 k0_h23 => k0_hw7.2.2.2.2.2.2.2.2.2.2.2.2.2.2.2.2.2.2.1 k0_h19 k0_h23
theorem k0_mult41_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h23 : k0_cond23 v67 v80 v93 v4676 = 1#1), 32 ∣ (k0_mult41 v67 v80 v93 v4676).toNat := fun v0 v5 v10 v15 v20 v25 v30 v35 v40 v45 v50 v55 v67 v80 v93 v4676 k0_hw7 k0_h19 k0_h23 => k0_hw7.2.2.2.2.2.2.2.2.2.2.2.2.2.2.2.2.2.2.2.1 k0_h19 k0_h23
theorem k0_off71_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h23 : k0_cond23 v67 v80 v93 v4676 = 1#1), ∀ a, (k0_off71 v67 v80 v93 v4676) a + S1x64x5120.size a ≤ S6x512x5120.size a := fun v0 v5 v10 v15 v20 v25 v30 v35 v40 v45 v50 v55 v67 v80 v93 v4676 k0_hw7 k0_h19 k0_h23 => k0_hw7.2.2.2.2.2.2.2.2.2.2.2.2.2.2.2.2.2.2.2.2.1 k0_h19 k0_h23
theorem k0_off72_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h23 : k0_cond23 v67 v80 v93 v4676 = 1#1), ∀ a, (k0_off72 v67 v80 v93 v4676) a + S1x64x5120.size a ≤ S12x4096x5120.size a := fun v0 v5 v10 v15 v20 v25 v30 v35 v40 v45 v50 v55 v67 v80 v93 v4676 k0_hw7 k0_h19 k0_h23 => k0_hw7.2.2.2.2.2.2.2.2.2.2.2.2.2.2.2.2.2.2.2.2.2.1 k0_h19 k0_h23
theorem k0_off72_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h23 : k0_cond23 v67 v80 v93 v4676 = 1#1), (Rect.unit (s := S12x4096x5120) (k0_off72 v67 v80 v93 v4676) S1x64x5120.size (k0_off72_inb v0 v5 v10 v15 v20 v25 v30 v35 v40 v45 v50 v55 v67 v80 v93 v4676 k0_hw7 k0_h19 k0_h23)).WholeWords (EltTy.packing .fp8e4m3) := fun v0 v5 v10 v15 v20 v25 v30 v35 v40 v45 v50 v55 v67 v80 v93 v4676 k0_hw7 k0_h19 k0_h23 => k0_hw7.2.2.2.2.2.2.2.2.2.2.2.2.2.2.2.2.2.2.2.2.2.2.1 k0_h19 k0_h23 (k0_off72_inb v0 v5 v10 v15 v20 v25 v30 v35 v40 v45 v50 v55 v67 v80 v93 v4676 k0_hw7 k0_h19 k0_h23)
theorem k0_off71_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h23 : k0_cond23 v67 v80 v93 v4676 = 1#1), (Rect.unit (s := S6x512x5120) (k0_off71 v67 v80 v93 v4676) S1x64x5120.size (k0_off71_inb v0 v5 v10 v15 v20 v25 v30 v35 v40 v45 v50 v55 v67 v80 v93 v4676 k0_hw7 k0_h19 k0_h23)).WholeWords (EltTy.packing .fp8e4m3) := fun v0 v5 v10 v15 v20 v25 v30 v35 v40 v45 v50 v55 v67 v80 v93 v4676 k0_hw7 k0_h19 k0_h23 => k0_hw7.2.2.2.2.2.2.2.2.2.2.2.2.2.2.2.2.2.2.2.2.2.2.2.1 k0_h19 k0_h23 (k0_off71_inb v0 v5 v10 v15 v20 v25 v30 v35 v40 v45 v50 v55 v67 v80 v93 v4676 k0_hw7 k0_h19 k0_h23)
theorem k0_mult42_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h24 : k0_cond24 v67 v80 v93 v4676 = 1#1), 32 ∣ (k0_mult42 v67 v80 v93 v4676).toNat := fun v0 v5 v10 v15 v20 v25 v30 v35 v40 v45 v50 v55 v67 v80 v93 v4676 k0_hw7 k0_h19 k0_h24 => k0_hw7.2.2.2.2.2.2.2.2.2.2.2.2.2.2.2.2.2.2.2.2.2.2.2.2.1 k0_h19 k0_h24
theorem k0_mult43_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h24 : k0_cond24 v67 v80 v93 v4676 = 1#1), 32 ∣ (k0_mult43 v67 v80 v93 v4676).toNat := fun v0 v5 v10 v15 v20 v25 v30 v35 v40 v45 v50 v55 v67 v80 v93 v4676 k0_hw7 k0_h19 k0_h24 => k0_hw7.2.2.2.2.2.2.2.2.2.2.2.2.2.2.2.2.2.2.2.2.2.2.2.2.2.1 k0_h19 k0_h24
theorem k0_off74_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h24 : k0_cond24 v67 v80 v93 v4676 = 1#1), ∀ a, (k0_off74 v67 v80 v93 v4676) a + S1x32x5120.size a ≤ S6x512x5120.size a := fun v0 v5 v10 v15 v20 v25 v30 v35 v40 v45 v50 v55 v67 v80 v93 v4676 k0_hw7 k0_h19 k0_h24 => k0_hw7.2.2.2.2.2.2.2.2.2.2.2.2.2.2.2.2.2.2.2.2.2.2.2.2.2.2.1 k0_h19 k0_h24
theorem k0_off75_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h24 : k0_cond24 v67 v80 v93 v4676 = 1#1), ∀ a, (k0_off75 v67 v80 v93 v4676) a + S1x32x5120.size a ≤ S12x4096x5120.size a := fun v0 v5 v10 v15 v20 v25 v30 v35 v40 v45 v50 v55 v67 v80 v93 v4676 k0_hw7 k0_h19 k0_h24 => k0_hw7.2.2.2.2.2.2.2.2.2.2.2.2.2.2.2.2.2.2.2.2.2.2.2.2.2.2.2.1 k0_h19 k0_h24
theorem k0_off75_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h24 : k0_cond24 v67 v80 v93 v4676 = 1#1), (Rect.unit (s := S12x4096x5120) (k0_off75 v67 v80 v93 v4676) S1x32x5120.size (k0_off75_inb v0 v5 v10 v15 v20 v25 v30 v35 v40 v45 v50 v55 v67 v80 v93 v4676 k0_hw7 k0_h19 k0_h24)).WholeWords (EltTy.packing .fp8e4m3) := fun v0 v5 v10 v15 v20 v25 v30 v35 v40 v45 v50 v55 v67 v80 v93 v4676 k0_hw7 k0_h19 k0_h24 => k0_hw7.2.2.2.2.2.2.2.2.2.2.2.2.2.2.2.2.2.2.2.2.2.2.2.2.2.2.2.2.1 k0_h19 k0_h24 (k0_off75_inb v0 v5 v10 v15 v20 v25 v30 v35 v40 v45 v50 v55 v67 v80 v93 v4676 k0_hw7 k0_h19 k0_h24)
theorem k0_off74_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v4676 : BitVec 32) (k0_hw7 : k0_chk7 v0 v5 v10 v15 v20 v25 v30 v35 v40 v45 v50 v55 v67 v80 v93 v4676), ∀ (k0_h19 : k0_cond19 v0 v5 v10 v15 v20 v25 v30 v35 v40 v45 v50 v55 = 1#1), ∀ (k0_h24 : k0_cond24 v67 v80 v93 v4676 = 1#1), (Rect.unit (s := S6x512x5120) (k0_off74 v67 v80 v93 v4676) S1x32x5120.size (k0_off74_inb v0 v5 v10 v15 v20 v25 v30 v35 v40 v45 v50 v55 v67 v80 v93 v4676 k0_hw7 k0_h19 k0_h24)).WholeWords (EltTy.packing .fp8e4m3) := fun v0 v5 v10 v15 v20 v25 v30 v35 v40 v45 v50 v55 v67 v80 v93 v4676 k0_hw7 k0_h19 k0_h24 => k0_hw7.2.2.2.2.2.2.2.2.2.2.2.2.2.2.2.2.2.2.2.2.2.2.2.2.2.2.2.2.2 k0_h19 k0_h24 (k0_off74_inb v0 v5 v10 v15 v20 v25 v30 v35 v40 v45 v50 v55 v67 v80 v93 v4676 k0_hw7 k0_h19 k0_h24)

def k0_mult44 (v67 : BitVec 32) (v80 : BitVec 32) (v93 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c512_i32_2227 : BitVec 32 := 512#32
  let v4683 : BitVec 32 := Scalar.muli v98 c512_i32_2227
  v4683
def k0_off76 : Fin 1 → Nat :=
  let c3_i32_64 : BitVec 32 := 3#32
  let c6_i32_2223 : BitVec 32 := 6#32
  let v4674 : BitVec 32 := Scalar.remsi c3_i32_64 c6_i32_2223
  ![v4674.toNat]
def k0_off77 : Fin 3 → Nat :=
  let c3_i32_64 : BitVec 32 := 3#32
  let c6_i32_2223 : BitVec 32 := 6#32
  let v4674 : BitVec 32 := Scalar.remsi c3_i32_64 c6_i32_2223
  let c0_i32_2242 : BitVec 32 := 0#32
  let c0_i32_2243 : BitVec 32 := 0#32
  ![v4674.toNat, 0, 0]
def k0_off78 (v67 : BitVec 32) (v80 : BitVec 32) (v93 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c0_i32_2244 : BitVec 32 := 0#32
  let c0_i32_63 : BitVec 32 := 0#32
  let c1_i32_62 : BitVec 32 := 1#32
  let v97 : BitVec 32 := Scalar.addi v85 c1_i32_62
  let v98 : BitVec 32 := Scalar.select v94 c0_i32_63 v97
  let c512_i32_2227 : BitVec 32 := 512#32
  let v4683 : BitVec 32 := Scalar.muli v98 c512_i32_2227
  let v4704 : BitVec 32 := v4683
  ![v96.toNat, 0, v4704.toNat]
def k0_off79 (v67 : BitVec 32) (v80 : BitVec 32) (v93 : BitVec 32) : Fin 1 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c11_i32_68 : BitVec 32 := 11#32
  let v104 : BitVec 32 := Scalar.minsi v96 c11_i32_68
  let v105 : Index := Scalar.indexCast v104
  ![v105.toNat]

def k0_chk6 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) : Prop :=
  (∀ (k0_h19 : k0_cond19 v0 v5 v10 v15 v20 v25 v30 v35 v40 v45 v50 v55 = 1#1), ∀ a, (k0_off60 v67 v80 v93) a + S1.size a ≤ S12.size a) ∧
  (∀ (k0_h19 : k0_cond19 v0 v5 v10 v15 v20 v25 v30 v35 v40 v45 v50 v55 = 1#1), 128 ∣ (k0_mult44 v67 v80 v93).toNat) ∧
  (∀ (k0_h19 : k0_cond19 v0 v5 v10 v15 v20 v25 v30 v35 v40 v45 v50 v55 = 1#1), ∀ a, (k0_off78 v67 v80 v93) a + S1x40x512.size a ≤ S12x40x4096.size a) ∧
  (∀ a, (k0_off79 v67 v80 v93) a + S1.size a ≤ S12.size a)
theorem k0_off60_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (k0_hw6 : k0_chk6 v0 v5 v10 v15 v20 v25 v30 v35 v40 v45 v50 v55 v67 v80 v93), ∀ (k0_h19 : k0_cond19 v0 v5 v10 v15 v20 v25 v30 v35 v40 v45 v50 v55 = 1#1), ∀ a, (k0_off60 v67 v80 v93) a + S1.size a ≤ S12.size a := fun v0 v5 v10 v15 v20 v25 v30 v35 v40 v45 v50 v55 v67 v80 v93 k0_hw6 k0_h19 => k0_hw6.1 k0_h19
theorem k0_mult44_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (k0_hw6 : k0_chk6 v0 v5 v10 v15 v20 v25 v30 v35 v40 v45 v50 v55 v67 v80 v93), ∀ (k0_h19 : k0_cond19 v0 v5 v10 v15 v20 v25 v30 v35 v40 v45 v50 v55 = 1#1), 128 ∣ (k0_mult44 v67 v80 v93).toNat := fun v0 v5 v10 v15 v20 v25 v30 v35 v40 v45 v50 v55 v67 v80 v93 k0_hw6 k0_h19 => k0_hw6.2.1 k0_h19
theorem k0_off78_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (k0_hw6 : k0_chk6 v0 v5 v10 v15 v20 v25 v30 v35 v40 v45 v50 v55 v67 v80 v93), ∀ (k0_h19 : k0_cond19 v0 v5 v10 v15 v20 v25 v30 v35 v40 v45 v50 v55 = 1#1), ∀ a, (k0_off78 v67 v80 v93) a + S1x40x512.size a ≤ S12x40x4096.size a := fun v0 v5 v10 v15 v20 v25 v30 v35 v40 v45 v50 v55 v67 v80 v93 k0_hw6 k0_h19 => k0_hw6.2.2.1 k0_h19
theorem k0_off79_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (k0_hw6 : k0_chk6 v0 v5 v10 v15 v20 v25 v30 v35 v40 v45 v50 v55 v67 v80 v93), ∀ a, (k0_off79 v67 v80 v93) a + S1.size a ≤ S12.size a := fun v0 v5 v10 v15 v20 v25 v30 v35 v40 v45 v50 v55 v67 v80 v93 k0_hw6 => k0_hw6.2.2.2

def k0_off80 (v67 : BitVec 32) (v80 : BitVec 32) (v93 : BitVec 32) (v106 : BitVec 32) : Fin 1 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c1_i32_69 : BitVec 32 := 1#32
  let v108 : BitVec 32 := Scalar.addi v96 c1_i32_69
  let v109 : BitVec 32 := Scalar.select v107 v108 v96
  let v4675 : Index := Scalar.indexCast v109
  ![v4675.toNat]
def k0_cond25 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) : BitVec 1 :=
  let c4_i32 : BitVec 32 := 4#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v112 : BitVec 1 := Scalar.cmpi .slt c4_i32 v59
  let v113 : BitVec 32 := Scalar.extui v112
  let c0_i32_73 : BitVec 32 := 0#32
  let v114 : BitVec 1 := Scalar.cmpi .ne v113 c0_i32_73
  v114

def k0_mult45 (v67 : BitVec 32) (v80 : BitVec 32) (v93 : BitVec 32) (v106 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  v4711
def k0_cond26 (v67 : BitVec 32) (v80 : BitVec 32) (v93 : BitVec 32) (v106 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c512_i32_2228 : BitVec 32 := 512#32
  let v4684 : BitVec 32 := Scalar.andi v4682 c512_i32_2228
  let c0_i32_2229 : BitVec 32 := 0#32
  let v4685 : BitVec 1 := Scalar.cmpi .ne v4684 c0_i32_2229
  let v4686 : BitVec 32 := Scalar.extui v4685
  let c0_i32_2230 : BitVec 32 := 0#32
  let v4687 : BitVec 1 := Scalar.cmpi .ne v4686 c0_i32_2230
  v4687

def k0_mult46 (v67 : BitVec 32) (v80 : BitVec 32) (v93 : BitVec 32) (v106 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2227 : BitVec 32 := 512#32
  let v4683 : BitVec 32 := Scalar.muli v111 c512_i32_2227
  let c512_i32_2226 : BitVec 32 := 512#32
  let c0_i32_2225 : BitVec 32 := 0#32
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let v4713 : BitVec 32 := Scalar.addi v4683 v4712
  v4713
def k0_off81 : Fin 1 → Nat :=
  let c4_i32_72 : BitVec 32 := 4#32
  let c6_i32_2223 : BitVec 32 := 6#32
  let v4674 : BitVec 32 := Scalar.remsi c4_i32_72 c6_i32_2223
  ![v4674.toNat]
def k0_off82 (v67 : BitVec 32) (v80 : BitVec 32) (v93 : BitVec 32) (v106 : BitVec 32) (v4676 : BitVec 32) : Fin 3 → Nat :=
  let c4_i32_72 : BitVec 32 := 4#32
  let c6_i32_2223 : BitVec 32 := 6#32
  let v4674 : BitVec 32 := Scalar.remsi c4_i32_72 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let c0_i32_2245 : BitVec 32 := 0#32
  ![v4674.toNat, v4712.toNat, 0]
def k0_off83 (v67 : BitVec 32) (v80 : BitVec 32) (v93 : BitVec 32) (v106 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c1_i32_69 : BitVec 32 := 1#32
  let v108 : BitVec 32 := Scalar.addi v96 c1_i32_69
  let v109 : BitVec 32 := Scalar.select v107 v108 v96
  let c0_i32_71 : BitVec 32 := 0#32
  let c1_i32_70 : BitVec 32 := 1#32
  let v110 : BitVec 32 := Scalar.addi v98 c1_i32_70
  let v111 : BitVec 32 := Scalar.select v107 c0_i32_71 v110
  let c512_i32_2227 : BitVec 32 := 512#32
  let v4683 : BitVec 32 := Scalar.muli v111 c512_i32_2227
  let c512_i32_2226 : BitVec 32 := 512#32
  let c0_i32_2225 : BitVec 32 := 0#32
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m1024_i32 : BitVec 32 := 4294966272#32
  let v4711 : BitVec 32 := Scalar.andi v4682 c_m1024_i32
  let v4712 : BitVec 32 := v4711
  let v4713 : BitVec 32 := Scalar.addi v4683 v4712
  let v4714 : BitVec 32 := v4713
  let c0_i32_2246 : BitVec 32 := 0#32
  ![v109.toNat, v4714.toNat, 0]
def k0_mult47 (v67 : BitVec 32) (v80 : BitVec 32) (v93 : BitVec 32) (v106 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  v4711
def k0_cond27 (v67 : BitVec 32) (v80 : BitVec 32) (v93 : BitVec 32) (v106 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c256_i32_2231 : BitVec 32 := 256#32
  let v4688 : BitVec 32 := Scalar.andi v4682 c256_i32_2231
  let c0_i32_2232 : BitVec 32 := 0#32
  let v4689 : BitVec 1 := Scalar.cmpi .ne v4688 c0_i32_2232
  let v4690 : BitVec 32 := Scalar.extui v4689
  let c0_i32_2233 : BitVec 32 := 0#32
  let v4691 : BitVec 1 := Scalar.cmpi .ne v4690 c0_i32_2233
  v4691

def k0_mult48 (v67 : BitVec 32) (v80 : BitVec 32) (v93 : BitVec 32) (v106 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2227 : BitVec 32 := 512#32
  let v4683 : BitVec 32 := Scalar.muli v111 c512_i32_2227
  let c512_i32_2226 : BitVec 32 := 512#32
  let c0_i32_2225 : BitVec 32 := 0#32
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let v4713 : BitVec 32 := Scalar.addi v4683 v4712
  v4713
def k0_off84 : Fin 1 → Nat :=
  let c4_i32_72 : BitVec 32 := 4#32
  let c6_i32_2223 : BitVec 32 := 6#32
  let v4674 : BitVec 32 := Scalar.remsi c4_i32_72 c6_i32_2223
  ![v4674.toNat]
def k0_off85 (v67 : BitVec 32) (v80 : BitVec 32) (v93 : BitVec 32) (v106 : BitVec 32) (v4676 : BitVec 32) : Fin 3 → Nat :=
  let c4_i32_72 : BitVec 32 := 4#32
  let c6_i32_2223 : BitVec 32 := 6#32
  let v4674 : BitVec 32 := Scalar.remsi c4_i32_72 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let c0_i32_2245 : BitVec 32 := 0#32
  ![v4674.toNat, v4712.toNat, 0]
def k0_off86 (v67 : BitVec 32) (v80 : BitVec 32) (v93 : BitVec 32) (v106 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c1_i32_69 : BitVec 32 := 1#32
  let v108 : BitVec 32 := Scalar.addi v96 c1_i32_69
  let v109 : BitVec 32 := Scalar.select v107 v108 v96
  let c0_i32_71 : BitVec 32 := 0#32
  let c1_i32_70 : BitVec 32 := 1#32
  let v110 : BitVec 32 := Scalar.addi v98 c1_i32_70
  let v111 : BitVec 32 := Scalar.select v107 c0_i32_71 v110
  let c512_i32_2227 : BitVec 32 := 512#32
  let v4683 : BitVec 32 := Scalar.muli v111 c512_i32_2227
  let c512_i32_2226 : BitVec 32 := 512#32
  let c0_i32_2225 : BitVec 32 := 0#32
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m512_i32 : BitVec 32 := 4294966784#32
  let v4711 : BitVec 32 := Scalar.andi v4682 c_m512_i32
  let v4712 : BitVec 32 := v4711
  let v4713 : BitVec 32 := Scalar.addi v4683 v4712
  let v4714 : BitVec 32 := v4713
  let c0_i32_2246 : BitVec 32 := 0#32
  ![v109.toNat, v4714.toNat, 0]
def k0_mult49 (v67 : BitVec 32) (v80 : BitVec 32) (v93 : BitVec 32) (v106 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  v4711
def k0_cond28 (v67 : BitVec 32) (v80 : BitVec 32) (v93 : BitVec 32) (v106 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c128_i32_2234 : BitVec 32 := 128#32
  let v4692 : BitVec 32 := Scalar.andi v4682 c128_i32_2234
  let c0_i32_2235 : BitVec 32 := 0#32
  let v4693 : BitVec 1 := Scalar.cmpi .ne v4692 c0_i32_2235
  let v4694 : BitVec 32 := Scalar.extui v4693
  let c0_i32_2236 : BitVec 32 := 0#32
  let v4695 : BitVec 1 := Scalar.cmpi .ne v4694 c0_i32_2236
  v4695

def k0_mult50 (v67 : BitVec 32) (v80 : BitVec 32) (v93 : BitVec 32) (v106 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2227 : BitVec 32 := 512#32
  let v4683 : BitVec 32 := Scalar.muli v111 c512_i32_2227
  let c512_i32_2226 : BitVec 32 := 512#32
  let c0_i32_2225 : BitVec 32 := 0#32
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let v4713 : BitVec 32 := Scalar.addi v4683 v4712
  v4713
def k0_off87 : Fin 1 → Nat :=
  let c4_i32_72 : BitVec 32 := 4#32
  let c6_i32_2223 : BitVec 32 := 6#32
  let v4674 : BitVec 32 := Scalar.remsi c4_i32_72 c6_i32_2223
  ![v4674.toNat]
def k0_off88 (v67 : BitVec 32) (v80 : BitVec 32) (v93 : BitVec 32) (v106 : BitVec 32) (v4676 : BitVec 32) : Fin 3 → Nat :=
  let c4_i32_72 : BitVec 32 := 4#32
  let c6_i32_2223 : BitVec 32 := 6#32
  let v4674 : BitVec 32 := Scalar.remsi c4_i32_72 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let c0_i32_2245 : BitVec 32 := 0#32
  ![v4674.toNat, v4712.toNat, 0]
def k0_off89 (v67 : BitVec 32) (v80 : BitVec 32) (v93 : BitVec 32) (v106 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c1_i32_69 : BitVec 32 := 1#32
  let v108 : BitVec 32 := Scalar.addi v96 c1_i32_69
  let v109 : BitVec 32 := Scalar.select v107 v108 v96
  let c0_i32_71 : BitVec 32 := 0#32
  let c1_i32_70 : BitVec 32 := 1#32
  let v110 : BitVec 32 := Scalar.addi v98 c1_i32_70
  let v111 : BitVec 32 := Scalar.select v107 c0_i32_71 v110
  let c512_i32_2227 : BitVec 32 := 512#32
  let v4683 : BitVec 32 := Scalar.muli v111 c512_i32_2227
  let c512_i32_2226 : BitVec 32 := 512#32
  let c0_i32_2225 : BitVec 32 := 0#32
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m256_i32 : BitVec 32 := 4294967040#32
  let v4711 : BitVec 32 := Scalar.andi v4682 c_m256_i32
  let v4712 : BitVec 32 := v4711
  let v4713 : BitVec 32 := Scalar.addi v4683 v4712
  let v4714 : BitVec 32 := v4713
  let c0_i32_2246 : BitVec 32 := 0#32
  ![v109.toNat, v4714.toNat, 0]
def k0_mult51 (v67 : BitVec 32) (v80 : BitVec 32) (v93 : BitVec 32) (v106 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  v4711
def k0_cond29 (v67 : BitVec 32) (v80 : BitVec 32) (v93 : BitVec 32) (v106 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c64_i32_2237 : BitVec 32 := 64#32
  let v4696 : BitVec 32 := Scalar.andi v4682 c64_i32_2237
  let c0_i32_2238 : BitVec 32 := 0#32
  let v4697 : BitVec 1 := Scalar.cmpi .ne v4696 c0_i32_2238
  let v4698 : BitVec 32 := Scalar.extui v4697
  let c0_i32_2239 : BitVec 32 := 0#32
  let v4699 : BitVec 1 := Scalar.cmpi .ne v4698 c0_i32_2239
  v4699

def k0_mult52 (v67 : BitVec 32) (v80 : BitVec 32) (v93 : BitVec 32) (v106 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2227 : BitVec 32 := 512#32
  let v4683 : BitVec 32 := Scalar.muli v111 c512_i32_2227
  let c512_i32_2226 : BitVec 32 := 512#32
  let c0_i32_2225 : BitVec 32 := 0#32
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let v4713 : BitVec 32 := Scalar.addi v4683 v4712
  v4713
def k0_off90 : Fin 1 → Nat :=
  let c4_i32_72 : BitVec 32 := 4#32
  let c6_i32_2223 : BitVec 32 := 6#32
  let v4674 : BitVec 32 := Scalar.remsi c4_i32_72 c6_i32_2223
  ![v4674.toNat]
def k0_off91 (v67 : BitVec 32) (v80 : BitVec 32) (v93 : BitVec 32) (v106 : BitVec 32) (v4676 : BitVec 32) : Fin 3 → Nat :=
  let c4_i32_72 : BitVec 32 := 4#32
  let c6_i32_2223 : BitVec 32 := 6#32
  let v4674 : BitVec 32 := Scalar.remsi c4_i32_72 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let c0_i32_2245 : BitVec 32 := 0#32
  ![v4674.toNat, v4712.toNat, 0]
def k0_off92 (v67 : BitVec 32) (v80 : BitVec 32) (v93 : BitVec 32) (v106 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c1_i32_69 : BitVec 32 := 1#32
  let v108 : BitVec 32 := Scalar.addi v96 c1_i32_69
  let v109 : BitVec 32 := Scalar.select v107 v108 v96
  let c0_i32_71 : BitVec 32 := 0#32
  let c1_i32_70 : BitVec 32 := 1#32
  let v110 : BitVec 32 := Scalar.addi v98 c1_i32_70
  let v111 : BitVec 32 := Scalar.select v107 c0_i32_71 v110
  let c512_i32_2227 : BitVec 32 := 512#32
  let v4683 : BitVec 32 := Scalar.muli v111 c512_i32_2227
  let c512_i32_2226 : BitVec 32 := 512#32
  let c0_i32_2225 : BitVec 32 := 0#32
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m128_i32 : BitVec 32 := 4294967168#32
  let v4711 : BitVec 32 := Scalar.andi v4682 c_m128_i32
  let v4712 : BitVec 32 := v4711
  let v4713 : BitVec 32 := Scalar.addi v4683 v4712
  let v4714 : BitVec 32 := v4713
  let c0_i32_2246 : BitVec 32 := 0#32
  ![v109.toNat, v4714.toNat, 0]
def k0_mult53 (v67 : BitVec 32) (v80 : BitVec 32) (v93 : BitVec 32) (v106 : BitVec 32) (v4676 : BitVec 32) : BitVec 32 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  v4711
def k0_cond30 (v67 : BitVec 32) (v80 : BitVec 32) (v93 : BitVec 32) (v106 : BitVec 32) (v4676 : BitVec 32) : BitVec 1 :=
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c32_i32 : BitVec 32 := 32#32
  let v4700 : BitVec 32 := Scalar.andi v4682 c32_i32
  let c0_i32_2240 : BitVec 32 := 0#32
  let v4701 : BitVec 1 := Scalar.cmpi .ne v4700 c0_i32_2240
  let v4702 : BitVec 32 := Scalar.extui v4701
  let c0_i32_2241 : BitVec 32 := 0#32
  let v4703 : BitVec 1 := Scalar.cmpi .ne v4702 c0_i32_2241
  v4703

def k0_mult54 (v67 : BitVec 32) (v80 : BitVec 32) (v93 : BitVec 32) (v106 : BitVec 32) (v4676 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2227 : BitVec 32 := 512#32
  let v4683 : BitVec 32 := Scalar.muli v111 c512_i32_2227
  let c512_i32_2226 : BitVec 32 := 512#32
  let c0_i32_2225 : BitVec 32 := 0#32
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let v4713 : BitVec 32 := Scalar.addi v4683 v4712
  v4713
def k0_off93 : Fin 1 → Nat :=
  let c4_i32_72 : BitVec 32 := 4#32
  let c6_i32_2223 : BitVec 32 := 6#32
  let v4674 : BitVec 32 := Scalar.remsi c4_i32_72 c6_i32_2223
  ![v4674.toNat]
def k0_off94 (v67 : BitVec 32) (v80 : BitVec 32) (v93 : BitVec 32) (v106 : BitVec 32) (v4676 : BitVec 32) : Fin 3 → Nat :=
  let c4_i32_72 : BitVec 32 := 4#32
  let c6_i32_2223 : BitVec 32 := 6#32
  let v4674 : BitVec 32 := Scalar.remsi c4_i32_72 c6_i32_2223
  let c512_i32_2226 : BitVec 32 := 512#32
  let c0_i32_2225 : BitVec 32 := 0#32
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let c0_i32_2245 : BitVec 32 := 0#32
  ![v4674.toNat, v4712.toNat, 0]
def k0_off95 (v67 : BitVec 32) (v80 : BitVec 32) (v93 : BitVec 32) (v106 : BitVec 32) (v4676 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c1_i32_69 : BitVec 32 := 1#32
  let v108 : BitVec 32 := Scalar.addi v96 c1_i32_69
  let v109 : BitVec 32 := Scalar.select v107 v108 v96
  let c0_i32_71 : BitVec 32 := 0#32
  let c1_i32_70 : BitVec 32 := 1#32
  let v110 : BitVec 32 := Scalar.addi v98 c1_i32_70
  let v111 : BitVec 32 := Scalar.select v107 c0_i32_71 v110
  let c512_i32_2227 : BitVec 32 := 512#32
  let v4683 : BitVec 32 := Scalar.muli v111 c512_i32_2227
  let c512_i32_2226 : BitVec 32 := 512#32
  let c0_i32_2225 : BitVec 32 := 0#32
  let c512_i32_2224 : BitVec 32 := 512#32
  let v4677 : BitVec 32 := Scalar.muli v111 c512_i32_2224
  let v4678 : BitVec 32 := Scalar.subi v4676 v4677
  let v4679 : BitVec 32 := Scalar.maxsi c0_i32_2225 v4678
  let v4680 : BitVec 32 := Scalar.minsi c512_i32_2226 v4679
  let c31_i32 : BitVec 32 := 31#32
  let v4681 : BitVec 32 := Scalar.addi v4680 c31_i32
  let c_m32_i32 : BitVec 32 := 4294967264#32
  let v4682 : BitVec 32 := Scalar.andi v4681 c_m32_i32
  let c_m64_i32 : BitVec 32 := 4294967232#32
  let v4711 : BitVec 32 := Scalar.andi v4682 c_m64_i32
  let v4712 : BitVec 32 := v4711
  let v4713 : BitVec 32 := Scalar.addi v4683 v4712
  let v4714 : BitVec 32 := v4713
  let c0_i32_2246 : BitVec 32 := 0#32
  ![v109.toNat, v4714.toNat, 0]

def k0_chk9 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) : Prop :=
  (∀ (k0_h25 : k0_cond25 v0 v5 v10 v15 v20 v25 v30 v35 v40 v45 v50 v55 = 1#1), ∀ (k0_h26 : k0_cond26 v67 v80 v93 v106 v4676 = 1#1), 32 ∣ (k0_mult45 v67 v80 v93 v106 v4676).toNat) ∧
  (∀ (k0_h25 : k0_cond25 v0 v5 v10 v15 v20 v25 v30 v35 v40 v45 v50 v55 = 1#1), ∀ (k0_h26 : k0_cond26 v67 v80 v93 v106 v4676 = 1#1), 32 ∣ (k0_mult46 v67 v80 v93 v106 v4676).toNat) ∧
  (∀ (k0_h25 : k0_cond25 v0 v5 v10 v15 v20 v25 v30 v35 v40 v45 v50 v55 = 1#1), ∀ (k0_h26 : k0_cond26 v67 v80 v93 v106 v4676 = 1#1), ∀ a, (k0_off82 v67 v80 v93 v106 v4676) a + S1x512x5120.size a ≤ S6x512x5120.size a) ∧
  (∀ (k0_h25 : k0_cond25 v0 v5 v10 v15 v20 v25 v30 v35 v40 v45 v50 v55 = 1#1), ∀ (k0_h26 : k0_cond26 v67 v80 v93 v106 v4676 = 1#1), ∀ a, (k0_off83 v67 v80 v93 v106 v4676) a + S1x512x5120.size a ≤ S12x4096x5120.size a) ∧
  (∀ (k0_h25 : k0_cond25 v0 v5 v10 v15 v20 v25 v30 v35 v40 v45 v50 v55 = 1#1), ∀ (k0_h26 : k0_cond26 v67 v80 v93 v106 v4676 = 1#1), ∀ (hinb : ∀ a, (k0_off83 v67 v80 v93 v106 v4676) a + S1x512x5120.size a ≤ S12x4096x5120.size a), (Rect.unit (s := S12x4096x5120) (k0_off83 v67 v80 v93 v106 v4676) S1x512x5120.size hinb).WholeWords (EltTy.packing .fp8e4m3)) ∧
  (∀ (k0_h25 : k0_cond25 v0 v5 v10 v15 v20 v25 v30 v35 v40 v45 v50 v55 = 1#1), ∀ (k0_h26 : k0_cond26 v67 v80 v93 v106 v4676 = 1#1), ∀ (hinb : ∀ a, (k0_off82 v67 v80 v93 v106 v4676) a + S1x512x5120.size a ≤ S6x512x5120.size a), (Rect.unit (s := S6x512x5120) (k0_off82 v67 v80 v93 v106 v4676) S1x512x5120.size hinb).WholeWords (EltTy.packing .fp8e4m3)) ∧
  (∀ (k0_h25 : k0_cond25 v0 v5 v10 v15 v20 v25 v30 v35 v40 v45 v50 v55 = 1#1), ∀ (k0_h27 : k0_cond27 v67 v80 v93 v106 v4676 = 1#1), 32 ∣ (k0_mult47 v67 v80 v93 v106 v4676).toNat) ∧
  (∀ (k0_h25 : k0_cond25 v0 v5 v10 v15 v20 v25 v30 v35 v40 v45 v50 v55 = 1#1), ∀ (k0_h27 : k0_cond27 v67 v80 v93 v106 v4676 = 1#1), 32 ∣ (k0_mult48 v67 v80 v93 v106 v4676).toNat) ∧
  (∀ (k0_h25 : k0_cond25 v0 v5 v10 v15 v20 v25 v30 v35 v40 v45 v50 v55 = 1#1), ∀ (k0_h27 : k0_cond27 v67 v80 v93 v106 v4676 = 1#1), ∀ a, (k0_off85 v67 v80 v93 v106 v4676) a + S1x256x5120.size a ≤ S6x512x5120.size a) ∧
  (∀ (k0_h25 : k0_cond25 v0 v5 v10 v15 v20 v25 v30 v35 v40 v45 v50 v55 = 1#1), ∀ (k0_h27 : k0_cond27 v67 v80 v93 v106 v4676 = 1#1), ∀ a, (k0_off86 v67 v80 v93 v106 v4676) a + S1x256x5120.size a ≤ S12x4096x5120.size a) ∧
  (∀ (k0_h25 : k0_cond25 v0 v5 v10 v15 v20 v25 v30 v35 v40 v45 v50 v55 = 1#1), ∀ (k0_h27 : k0_cond27 v67 v80 v93 v106 v4676 = 1#1), ∀ (hinb : ∀ a, (k0_off86 v67 v80 v93 v106 v4676) a + S1x256x5120.size a ≤ S12x4096x5120.size a), (Rect.unit (s := S12x4096x5120) (k0_off86 v67 v80 v93 v106 v4676) S1x256x5120.size hinb).WholeWords (EltTy.packing .fp8e4m3)) ∧
  (∀ (k0_h25 : k0_cond25 v0 v5 v10 v15 v20 v25 v30 v35 v40 v45 v50 v55 = 1#1), ∀ (k0_h27 : k0_cond27 v67 v80 v93 v106 v4676 = 1#1), ∀ (hinb : ∀ a, (k0_off85 v67 v80 v93 v106 v4676) a + S1x256x5120.size a ≤ S6x512x5120.size a), (Rect.unit (s := S6x512x5120) (k0_off85 v67 v80 v93 v106 v4676) S1x256x5120.size hinb).WholeWords (EltTy.packing .fp8e4m3)) ∧
  (∀ (k0_h25 : k0_cond25 v0 v5 v10 v15 v20 v25 v30 v35 v40 v45 v50 v55 = 1#1), ∀ (k0_h28 : k0_cond28 v67 v80 v93 v106 v4676 = 1#1), 32 ∣ (k0_mult49 v67 v80 v93 v106 v4676).toNat) ∧
  (∀ (k0_h25 : k0_cond25 v0 v5 v10 v15 v20 v25 v30 v35 v40 v45 v50 v55 = 1#1), ∀ (k0_h28 : k0_cond28 v67 v80 v93 v106 v4676 = 1#1), 32 ∣ (k0_mult50 v67 v80 v93 v106 v4676).toNat) ∧
  (∀ (k0_h25 : k0_cond25 v0 v5 v10 v15 v20 v25 v30 v35 v40 v45 v50 v55 = 1#1), ∀ (k0_h28 : k0_cond28 v67 v80 v93 v106 v4676 = 1#1), ∀ a, (k0_off88 v67 v80 v93 v106 v4676) a + S1x128x5120.size a ≤ S6x512x5120.size a) ∧
  (∀ (k0_h25 : k0_cond25 v0 v5 v10 v15 v20 v25 v30 v35 v40 v45 v50 v55 = 1#1), ∀ (k0_h28 : k0_cond28 v67 v80 v93 v106 v4676 = 1#1), ∀ a, (k0_off89 v67 v80 v93 v106 v4676) a + S1x128x5120.size a ≤ S12x4096x5120.size a) ∧
  (∀ (k0_h25 : k0_cond25 v0 v5 v10 v15 v20 v25 v30 v35 v40 v45 v50 v55 = 1#1), ∀ (k0_h28 : k0_cond28 v67 v80 v93 v106 v4676 = 1#1), ∀ (hinb : ∀ a, (k0_off89 v67 v80 v93 v106 v4676) a + S1x128x5120.size a ≤ S12x4096x5120.size a), (Rect.unit (s := S12x4096x5120) (k0_off89 v67 v80 v93 v106 v4676) S1x128x5120.size hinb).WholeWords (EltTy.packing .fp8e4m3)) ∧
  (∀ (k0_h25 : k0_cond25 v0 v5 v10 v15 v20 v25 v30 v35 v40 v45 v50 v55 = 1#1), ∀ (k0_h28 : k0_cond28 v67 v80 v93 v106 v4676 = 1#1), ∀ (hinb : ∀ a, (k0_off88 v67 v80 v93 v106 v4676) a + S1x128x5120.size a ≤ S6x512x5120.size a), (Rect.unit (s := S6x512x5120) (k0_off88 v67 v80 v93 v106 v4676) S1x128x5120.size hinb).WholeWords (EltTy.packing .fp8e4m3)) ∧
  (∀ (k0_h25 : k0_cond25 v0 v5 v10 v15 v20 v25 v30 v35 v40 v45 v50 v55 = 1#1), ∀ (k0_h29 : k0_cond29 v67 v80 v93 v106 v4676 = 1#1), 32 ∣ (k0_mult51 v67 v80 v93 v106 v4676).toNat) ∧
  (∀ (k0_h25 : k0_cond25 v0 v5 v10 v15 v20 v25 v30 v35 v40 v45 v50 v55 = 1#1), ∀ (k0_h29 : k0_cond29 v67 v80 v93 v106 v4676 = 1#1), 32 ∣ (k0_mult52 v67 v80 v93 v106 v4676).toNat) ∧
  (∀ (k0_h25 : k0_cond25 v0 v5 v10 v15 v20 v25 v30 v35 v40 v45 v50 v55 = 1#1), ∀ (k0_h29 : k0_cond29 v67 v80 v93 v106 v4676 = 1#1), ∀ a, (k0_off91 v67 v80 v93 v106 v4676) a + S1x64x5120.size a ≤ S6x512x5120.size a) ∧
  (∀ (k0_h25 : k0_cond25 v0 v5 v10 v15 v20 v25 v30 v35 v40 v45 v50 v55 = 1#1), ∀ (k0_h29 : k0_cond29 v67 v80 v93 v106 v4676 = 1#1), ∀ a, (k0_off92 v67 v80 v93 v106 v4676) a + S1x64x5120.size a ≤ S12x4096x5120.size a) ∧
  (∀ (k0_h25 : k0_cond25 v0 v5 v10 v15 v20 v25 v30 v35 v40 v45 v50 v55 = 1#1), ∀ (k0_h29 : k0_cond29 v67 v80 v93 v106 v4676 = 1#1), ∀ (hinb : ∀ a, (k0_off92 v67 v80 v93 v106 v4676) a + S1x64x5120.size a ≤ S12x4096x5120.size a), (Rect.unit (s := S12x4096x5120) (k0_off92 v67 v80 v93 v106 v4676) S1x64x5120.size hinb).WholeWords (EltTy.packing .fp8e4m3)) ∧
  (∀ (k0_h25 : k0_cond25 v0 v5 v10 v15 v20 v25 v30 v35 v40 v45 v50 v55 = 1#1), ∀ (k0_h29 : k0_cond29 v67 v80 v93 v106 v4676 = 1#1), ∀ (hinb : ∀ a, (k0_off91 v67 v80 v93 v106 v4676) a + S1x64x5120.size a ≤ S6x512x5120.size a), (Rect.unit (s := S6x512x5120) (k0_off91 v67 v80 v93 v106 v4676) S1x64x5120.size hinb).WholeWords (EltTy.packing .fp8e4m3)) ∧
  (∀ (k0_h25 : k0_cond25 v0 v5 v10 v15 v20 v25 v30 v35 v40 v45 v50 v55 = 1#1), ∀ (k0_h30 : k0_cond30 v67 v80 v93 v106 v4676 = 1#1), 32 ∣ (k0_mult53 v67 v80 v93 v106 v4676).toNat) ∧
  (∀ (k0_h25 : k0_cond25 v0 v5 v10 v15 v20 v25 v30 v35 v40 v45 v50 v55 = 1#1), ∀ (k0_h30 : k0_cond30 v67 v80 v93 v106 v4676 = 1#1), 32 ∣ (k0_mult54 v67 v80 v93 v106 v4676).toNat) ∧
  (∀ (k0_h25 : k0_cond25 v0 v5 v10 v15 v20 v25 v30 v35 v40 v45 v50 v55 = 1#1), ∀ (k0_h30 : k0_cond30 v67 v80 v93 v106 v4676 = 1#1), ∀ a, (k0_off94 v67 v80 v93 v106 v4676) a + S1x32x5120.size a ≤ S6x512x5120.size a) ∧
  (∀ (k0_h25 : k0_cond25 v0 v5 v10 v15 v20 v25 v30 v35 v40 v45 v50 v55 = 1#1), ∀ (k0_h30 : k0_cond30 v67 v80 v93 v106 v4676 = 1#1), ∀ a, (k0_off95 v67 v80 v93 v106 v4676) a + S1x32x5120.size a ≤ S12x4096x5120.size a) ∧
  (∀ (k0_h25 : k0_cond25 v0 v5 v10 v15 v20 v25 v30 v35 v40 v45 v50 v55 = 1#1), ∀ (k0_h30 : k0_cond30 v67 v80 v93 v106 v4676 = 1#1), ∀ (hinb : ∀ a, (k0_off95 v67 v80 v93 v106 v4676) a + S1x32x5120.size a ≤ S12x4096x5120.size a), (Rect.unit (s := S12x4096x5120) (k0_off95 v67 v80 v93 v106 v4676) S1x32x5120.size hinb).WholeWords (EltTy.packing .fp8e4m3)) ∧
  (∀ (k0_h25 : k0_cond25 v0 v5 v10 v15 v20 v25 v30 v35 v40 v45 v50 v55 = 1#1), ∀ (k0_h30 : k0_cond30 v67 v80 v93 v106 v4676 = 1#1), ∀ (hinb : ∀ a, (k0_off94 v67 v80 v93 v106 v4676) a + S1x32x5120.size a ≤ S6x512x5120.size a), (Rect.unit (s := S6x512x5120) (k0_off94 v67 v80 v93 v106 v4676) S1x32x5120.size hinb).WholeWords (EltTy.packing .fp8e4m3))
theorem k0_mult45_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h26 : k0_cond26 v67 v80 v93 v106 v4676 = 1#1), 32 ∣ (k0_mult45 v67 v80 v93 v106 v4676).toNat := fun v0 v5 v10 v15 v20 v25 v30 v35 v40 v45 v50 v55 v67 v80 v93 v106 v4676 k0_hw9 k0_h25 k0_h26 => k0_hw9.1 k0_h25 k0_h26
theorem k0_mult46_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h26 : k0_cond26 v67 v80 v93 v106 v4676 = 1#1), 32 ∣ (k0_mult46 v67 v80 v93 v106 v4676).toNat := fun v0 v5 v10 v15 v20 v25 v30 v35 v40 v45 v50 v55 v67 v80 v93 v106 v4676 k0_hw9 k0_h25 k0_h26 => k0_hw9.2.1 k0_h25 k0_h26
theorem k0_off82_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h26 : k0_cond26 v67 v80 v93 v106 v4676 = 1#1), ∀ a, (k0_off82 v67 v80 v93 v106 v4676) a + S1x512x5120.size a ≤ S6x512x5120.size a := fun v0 v5 v10 v15 v20 v25 v30 v35 v40 v45 v50 v55 v67 v80 v93 v106 v4676 k0_hw9 k0_h25 k0_h26 => k0_hw9.2.2.1 k0_h25 k0_h26
theorem k0_off83_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h26 : k0_cond26 v67 v80 v93 v106 v4676 = 1#1), ∀ a, (k0_off83 v67 v80 v93 v106 v4676) a + S1x512x5120.size a ≤ S12x4096x5120.size a := fun v0 v5 v10 v15 v20 v25 v30 v35 v40 v45 v50 v55 v67 v80 v93 v106 v4676 k0_hw9 k0_h25 k0_h26 => k0_hw9.2.2.2.1 k0_h25 k0_h26
theorem k0_off83_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h26 : k0_cond26 v67 v80 v93 v106 v4676 = 1#1), (Rect.unit (s := S12x4096x5120) (k0_off83 v67 v80 v93 v106 v4676) S1x512x5120.size (k0_off83_inb v0 v5 v10 v15 v20 v25 v30 v35 v40 v45 v50 v55 v67 v80 v93 v106 v4676 k0_hw9 k0_h25 k0_h26)).WholeWords (EltTy.packing .fp8e4m3) := fun v0 v5 v10 v15 v20 v25 v30 v35 v40 v45 v50 v55 v67 v80 v93 v106 v4676 k0_hw9 k0_h25 k0_h26 => k0_hw9.2.2.2.2.1 k0_h25 k0_h26 (k0_off83_inb v0 v5 v10 v15 v20 v25 v30 v35 v40 v45 v50 v55 v67 v80 v93 v106 v4676 k0_hw9 k0_h25 k0_h26)
theorem k0_off82_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h26 : k0_cond26 v67 v80 v93 v106 v4676 = 1#1), (Rect.unit (s := S6x512x5120) (k0_off82 v67 v80 v93 v106 v4676) S1x512x5120.size (k0_off82_inb v0 v5 v10 v15 v20 v25 v30 v35 v40 v45 v50 v55 v67 v80 v93 v106 v4676 k0_hw9 k0_h25 k0_h26)).WholeWords (EltTy.packing .fp8e4m3) := fun v0 v5 v10 v15 v20 v25 v30 v35 v40 v45 v50 v55 v67 v80 v93 v106 v4676 k0_hw9 k0_h25 k0_h26 => k0_hw9.2.2.2.2.2.1 k0_h25 k0_h26 (k0_off82_inb v0 v5 v10 v15 v20 v25 v30 v35 v40 v45 v50 v55 v67 v80 v93 v106 v4676 k0_hw9 k0_h25 k0_h26)
theorem k0_mult47_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h27 : k0_cond27 v67 v80 v93 v106 v4676 = 1#1), 32 ∣ (k0_mult47 v67 v80 v93 v106 v4676).toNat := fun v0 v5 v10 v15 v20 v25 v30 v35 v40 v45 v50 v55 v67 v80 v93 v106 v4676 k0_hw9 k0_h25 k0_h27 => k0_hw9.2.2.2.2.2.2.1 k0_h25 k0_h27
theorem k0_mult48_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h27 : k0_cond27 v67 v80 v93 v106 v4676 = 1#1), 32 ∣ (k0_mult48 v67 v80 v93 v106 v4676).toNat := fun v0 v5 v10 v15 v20 v25 v30 v35 v40 v45 v50 v55 v67 v80 v93 v106 v4676 k0_hw9 k0_h25 k0_h27 => k0_hw9.2.2.2.2.2.2.2.1 k0_h25 k0_h27
theorem k0_off85_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h27 : k0_cond27 v67 v80 v93 v106 v4676 = 1#1), ∀ a, (k0_off85 v67 v80 v93 v106 v4676) a + S1x256x5120.size a ≤ S6x512x5120.size a := fun v0 v5 v10 v15 v20 v25 v30 v35 v40 v45 v50 v55 v67 v80 v93 v106 v4676 k0_hw9 k0_h25 k0_h27 => k0_hw9.2.2.2.2.2.2.2.2.1 k0_h25 k0_h27
theorem k0_off86_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h27 : k0_cond27 v67 v80 v93 v106 v4676 = 1#1), ∀ a, (k0_off86 v67 v80 v93 v106 v4676) a + S1x256x5120.size a ≤ S12x4096x5120.size a := fun v0 v5 v10 v15 v20 v25 v30 v35 v40 v45 v50 v55 v67 v80 v93 v106 v4676 k0_hw9 k0_h25 k0_h27 => k0_hw9.2.2.2.2.2.2.2.2.2.1 k0_h25 k0_h27
theorem k0_off86_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h27 : k0_cond27 v67 v80 v93 v106 v4676 = 1#1), (Rect.unit (s := S12x4096x5120) (k0_off86 v67 v80 v93 v106 v4676) S1x256x5120.size (k0_off86_inb v0 v5 v10 v15 v20 v25 v30 v35 v40 v45 v50 v55 v67 v80 v93 v106 v4676 k0_hw9 k0_h25 k0_h27)).WholeWords (EltTy.packing .fp8e4m3) := fun v0 v5 v10 v15 v20 v25 v30 v35 v40 v45 v50 v55 v67 v80 v93 v106 v4676 k0_hw9 k0_h25 k0_h27 => k0_hw9.2.2.2.2.2.2.2.2.2.2.1 k0_h25 k0_h27 (k0_off86_inb v0 v5 v10 v15 v20 v25 v30 v35 v40 v45 v50 v55 v67 v80 v93 v106 v4676 k0_hw9 k0_h25 k0_h27)
theorem k0_off85_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h27 : k0_cond27 v67 v80 v93 v106 v4676 = 1#1), (Rect.unit (s := S6x512x5120) (k0_off85 v67 v80 v93 v106 v4676) S1x256x5120.size (k0_off85_inb v0 v5 v10 v15 v20 v25 v30 v35 v40 v45 v50 v55 v67 v80 v93 v106 v4676 k0_hw9 k0_h25 k0_h27)).WholeWords (EltTy.packing .fp8e4m3) := fun v0 v5 v10 v15 v20 v25 v30 v35 v40 v45 v50 v55 v67 v80 v93 v106 v4676 k0_hw9 k0_h25 k0_h27 => k0_hw9.2.2.2.2.2.2.2.2.2.2.2.1 k0_h25 k0_h27 (k0_off85_inb v0 v5 v10 v15 v20 v25 v30 v35 v40 v45 v50 v55 v67 v80 v93 v106 v4676 k0_hw9 k0_h25 k0_h27)
theorem k0_mult49_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h28 : k0_cond28 v67 v80 v93 v106 v4676 = 1#1), 32 ∣ (k0_mult49 v67 v80 v93 v106 v4676).toNat := fun v0 v5 v10 v15 v20 v25 v30 v35 v40 v45 v50 v55 v67 v80 v93 v106 v4676 k0_hw9 k0_h25 k0_h28 => k0_hw9.2.2.2.2.2.2.2.2.2.2.2.2.1 k0_h25 k0_h28
theorem k0_mult50_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h28 : k0_cond28 v67 v80 v93 v106 v4676 = 1#1), 32 ∣ (k0_mult50 v67 v80 v93 v106 v4676).toNat := fun v0 v5 v10 v15 v20 v25 v30 v35 v40 v45 v50 v55 v67 v80 v93 v106 v4676 k0_hw9 k0_h25 k0_h28 => k0_hw9.2.2.2.2.2.2.2.2.2.2.2.2.2.1 k0_h25 k0_h28
theorem k0_off88_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h28 : k0_cond28 v67 v80 v93 v106 v4676 = 1#1), ∀ a, (k0_off88 v67 v80 v93 v106 v4676) a + S1x128x5120.size a ≤ S6x512x5120.size a := fun v0 v5 v10 v15 v20 v25 v30 v35 v40 v45 v50 v55 v67 v80 v93 v106 v4676 k0_hw9 k0_h25 k0_h28 => k0_hw9.2.2.2.2.2.2.2.2.2.2.2.2.2.2.1 k0_h25 k0_h28
theorem k0_off89_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h28 : k0_cond28 v67 v80 v93 v106 v4676 = 1#1), ∀ a, (k0_off89 v67 v80 v93 v106 v4676) a + S1x128x5120.size a ≤ S12x4096x5120.size a := fun v0 v5 v10 v15 v20 v25 v30 v35 v40 v45 v50 v55 v67 v80 v93 v106 v4676 k0_hw9 k0_h25 k0_h28 => k0_hw9.2.2.2.2.2.2.2.2.2.2.2.2.2.2.2.1 k0_h25 k0_h28
theorem k0_off89_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h28 : k0_cond28 v67 v80 v93 v106 v4676 = 1#1), (Rect.unit (s := S12x4096x5120) (k0_off89 v67 v80 v93 v106 v4676) S1x128x5120.size (k0_off89_inb v0 v5 v10 v15 v20 v25 v30 v35 v40 v45 v50 v55 v67 v80 v93 v106 v4676 k0_hw9 k0_h25 k0_h28)).WholeWords (EltTy.packing .fp8e4m3) := fun v0 v5 v10 v15 v20 v25 v30 v35 v40 v45 v50 v55 v67 v80 v93 v106 v4676 k0_hw9 k0_h25 k0_h28 => k0_hw9.2.2.2.2.2.2.2.2.2.2.2.2.2.2.2.2.1 k0_h25 k0_h28 (k0_off89_inb v0 v5 v10 v15 v20 v25 v30 v35 v40 v45 v50 v55 v67 v80 v93 v106 v4676 k0_hw9 k0_h25 k0_h28)
theorem k0_off88_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h28 : k0_cond28 v67 v80 v93 v106 v4676 = 1#1), (Rect.unit (s := S6x512x5120) (k0_off88 v67 v80 v93 v106 v4676) S1x128x5120.size (k0_off88_inb v0 v5 v10 v15 v20 v25 v30 v35 v40 v45 v50 v55 v67 v80 v93 v106 v4676 k0_hw9 k0_h25 k0_h28)).WholeWords (EltTy.packing .fp8e4m3) := fun v0 v5 v10 v15 v20 v25 v30 v35 v40 v45 v50 v55 v67 v80 v93 v106 v4676 k0_hw9 k0_h25 k0_h28 => k0_hw9.2.2.2.2.2.2.2.2.2.2.2.2.2.2.2.2.2.1 k0_h25 k0_h28 (k0_off88_inb v0 v5 v10 v15 v20 v25 v30 v35 v40 v45 v50 v55 v67 v80 v93 v106 v4676 k0_hw9 k0_h25 k0_h28)
theorem k0_mult51_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h29 : k0_cond29 v67 v80 v93 v106 v4676 = 1#1), 32 ∣ (k0_mult51 v67 v80 v93 v106 v4676).toNat := fun v0 v5 v10 v15 v20 v25 v30 v35 v40 v45 v50 v55 v67 v80 v93 v106 v4676 k0_hw9 k0_h25 k0_h29 => k0_hw9.2.2.2.2.2.2.2.2.2.2.2.2.2.2.2.2.2.2.1 k0_h25 k0_h29
theorem k0_mult52_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h29 : k0_cond29 v67 v80 v93 v106 v4676 = 1#1), 32 ∣ (k0_mult52 v67 v80 v93 v106 v4676).toNat := fun v0 v5 v10 v15 v20 v25 v30 v35 v40 v45 v50 v55 v67 v80 v93 v106 v4676 k0_hw9 k0_h25 k0_h29 => k0_hw9.2.2.2.2.2.2.2.2.2.2.2.2.2.2.2.2.2.2.2.1 k0_h25 k0_h29
theorem k0_off91_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h29 : k0_cond29 v67 v80 v93 v106 v4676 = 1#1), ∀ a, (k0_off91 v67 v80 v93 v106 v4676) a + S1x64x5120.size a ≤ S6x512x5120.size a := fun v0 v5 v10 v15 v20 v25 v30 v35 v40 v45 v50 v55 v67 v80 v93 v106 v4676 k0_hw9 k0_h25 k0_h29 => k0_hw9.2.2.2.2.2.2.2.2.2.2.2.2.2.2.2.2.2.2.2.2.1 k0_h25 k0_h29
theorem k0_off92_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h29 : k0_cond29 v67 v80 v93 v106 v4676 = 1#1), ∀ a, (k0_off92 v67 v80 v93 v106 v4676) a + S1x64x5120.size a ≤ S12x4096x5120.size a := fun v0 v5 v10 v15 v20 v25 v30 v35 v40 v45 v50 v55 v67 v80 v93 v106 v4676 k0_hw9 k0_h25 k0_h29 => k0_hw9.2.2.2.2.2.2.2.2.2.2.2.2.2.2.2.2.2.2.2.2.2.1 k0_h25 k0_h29
theorem k0_off92_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h29 : k0_cond29 v67 v80 v93 v106 v4676 = 1#1), (Rect.unit (s := S12x4096x5120) (k0_off92 v67 v80 v93 v106 v4676) S1x64x5120.size (k0_off92_inb v0 v5 v10 v15 v20 v25 v30 v35 v40 v45 v50 v55 v67 v80 v93 v106 v4676 k0_hw9 k0_h25 k0_h29)).WholeWords (EltTy.packing .fp8e4m3) := fun v0 v5 v10 v15 v20 v25 v30 v35 v40 v45 v50 v55 v67 v80 v93 v106 v4676 k0_hw9 k0_h25 k0_h29 => k0_hw9.2.2.2.2.2.2.2.2.2.2.2.2.2.2.2.2.2.2.2.2.2.2.1 k0_h25 k0_h29 (k0_off92_inb v0 v5 v10 v15 v20 v25 v30 v35 v40 v45 v50 v55 v67 v80 v93 v106 v4676 k0_hw9 k0_h25 k0_h29)
theorem k0_off91_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h29 : k0_cond29 v67 v80 v93 v106 v4676 = 1#1), (Rect.unit (s := S6x512x5120) (k0_off91 v67 v80 v93 v106 v4676) S1x64x5120.size (k0_off91_inb v0 v5 v10 v15 v20 v25 v30 v35 v40 v45 v50 v55 v67 v80 v93 v106 v4676 k0_hw9 k0_h25 k0_h29)).WholeWords (EltTy.packing .fp8e4m3) := fun v0 v5 v10 v15 v20 v25 v30 v35 v40 v45 v50 v55 v67 v80 v93 v106 v4676 k0_hw9 k0_h25 k0_h29 => k0_hw9.2.2.2.2.2.2.2.2.2.2.2.2.2.2.2.2.2.2.2.2.2.2.2.1 k0_h25 k0_h29 (k0_off91_inb v0 v5 v10 v15 v20 v25 v30 v35 v40 v45 v50 v55 v67 v80 v93 v106 v4676 k0_hw9 k0_h25 k0_h29)
theorem k0_mult53_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h30 : k0_cond30 v67 v80 v93 v106 v4676 = 1#1), 32 ∣ (k0_mult53 v67 v80 v93 v106 v4676).toNat := fun v0 v5 v10 v15 v20 v25 v30 v35 v40 v45 v50 v55 v67 v80 v93 v106 v4676 k0_hw9 k0_h25 k0_h30 => k0_hw9.2.2.2.2.2.2.2.2.2.2.2.2.2.2.2.2.2.2.2.2.2.2.2.2.1 k0_h25 k0_h30
theorem k0_mult54_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h30 : k0_cond30 v67 v80 v93 v106 v4676 = 1#1), 32 ∣ (k0_mult54 v67 v80 v93 v106 v4676).toNat := fun v0 v5 v10 v15 v20 v25 v30 v35 v40 v45 v50 v55 v67 v80 v93 v106 v4676 k0_hw9 k0_h25 k0_h30 => k0_hw9.2.2.2.2.2.2.2.2.2.2.2.2.2.2.2.2.2.2.2.2.2.2.2.2.2.1 k0_h25 k0_h30
theorem k0_off94_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h30 : k0_cond30 v67 v80 v93 v106 v4676 = 1#1), ∀ a, (k0_off94 v67 v80 v93 v106 v4676) a + S1x32x5120.size a ≤ S6x512x5120.size a := fun v0 v5 v10 v15 v20 v25 v30 v35 v40 v45 v50 v55 v67 v80 v93 v106 v4676 k0_hw9 k0_h25 k0_h30 => k0_hw9.2.2.2.2.2.2.2.2.2.2.2.2.2.2.2.2.2.2.2.2.2.2.2.2.2.2.1 k0_h25 k0_h30
theorem k0_off95_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h30 : k0_cond30 v67 v80 v93 v106 v4676 = 1#1), ∀ a, (k0_off95 v67 v80 v93 v106 v4676) a + S1x32x5120.size a ≤ S12x4096x5120.size a := fun v0 v5 v10 v15 v20 v25 v30 v35 v40 v45 v50 v55 v67 v80 v93 v106 v4676 k0_hw9 k0_h25 k0_h30 => k0_hw9.2.2.2.2.2.2.2.2.2.2.2.2.2.2.2.2.2.2.2.2.2.2.2.2.2.2.2.1 k0_h25 k0_h30
theorem k0_off95_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h30 : k0_cond30 v67 v80 v93 v106 v4676 = 1#1), (Rect.unit (s := S12x4096x5120) (k0_off95 v67 v80 v93 v106 v4676) S1x32x5120.size (k0_off95_inb v0 v5 v10 v15 v20 v25 v30 v35 v40 v45 v50 v55 v67 v80 v93 v106 v4676 k0_hw9 k0_h25 k0_h30)).WholeWords (EltTy.packing .fp8e4m3) := fun v0 v5 v10 v15 v20 v25 v30 v35 v40 v45 v50 v55 v67 v80 v93 v106 v4676 k0_hw9 k0_h25 k0_h30 => k0_hw9.2.2.2.2.2.2.2.2.2.2.2.2.2.2.2.2.2.2.2.2.2.2.2.2.2.2.2.2.1 k0_h25 k0_h30 (k0_off95_inb v0 v5 v10 v15 v20 v25 v30 v35 v40 v45 v50 v55 v67 v80 v93 v106 v4676 k0_hw9 k0_h25 k0_h30)
theorem k0_off94_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (v4676 : BitVec 32) (k0_hw9 : k0_chk9 v0 v5 v10 v15 v20 v25 v30 v35 v40 v45 v50 v55 v67 v80 v93 v106 v4676), ∀ (k0_h25 : k0_cond25 v0 v5 v10 v15 v20 v25 v30 v35 v40 v45 v50 v55 = 1#1), ∀ (k0_h30 : k0_cond30 v67 v80 v93 v106 v4676 = 1#1), (Rect.unit (s := S6x512x5120) (k0_off94 v67 v80 v93 v106 v4676) S1x32x5120.size (k0_off94_inb v0 v5 v10 v15 v20 v25 v30 v35 v40 v45 v50 v55 v67 v80 v93 v106 v4676 k0_hw9 k0_h25 k0_h30)).WholeWords (EltTy.packing .fp8e4m3) := fun v0 v5 v10 v15 v20 v25 v30 v35 v40 v45 v50 v55 v67 v80 v93 v106 v4676 k0_hw9 k0_h25 k0_h30 => k0_hw9.2.2.2.2.2.2.2.2.2.2.2.2.2.2.2.2.2.2.2.2.2.2.2.2.2.2.2.2.2 k0_h25 k0_h30 (k0_off94_inb v0 v5 v10 v15 v20 v25 v30 v35 v40 v45 v50 v55 v67 v80 v93 v106 v4676 k0_hw9 k0_h25 k0_h30)

def k0_mult55 (v67 : BitVec 32) (v80 : BitVec 32) (v93 : BitVec 32) (v106 : BitVec 32) : BitVec 32 :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_71 : BitVec 32 := 0#32
  let c1_i32_70 : BitVec 32 := 1#32
  let v110 : BitVec 32 := Scalar.addi v98 c1_i32_70
  let v111 : BitVec 32 := Scalar.select v107 c0_i32_71 v110
  let c512_i32_2227 : BitVec 32 := 512#32
  let v4683 : BitVec 32 := Scalar.muli v111 c512_i32_2227
  v4683
def k0_off96 : Fin 1 → Nat :=
  let c4_i32_72 : BitVec 32 := 4#32
  let c6_i32_2223 : BitVec 32 := 6#32
  let v4674 : BitVec 32 := Scalar.remsi c4_i32_72 c6_i32_2223
  ![v4674.toNat]
def k0_off97 : Fin 3 → Nat :=
  let c4_i32_72 : BitVec 32 := 4#32
  let c6_i32_2223 : BitVec 32 := 6#32
  let v4674 : BitVec 32 := Scalar.remsi c4_i32_72 c6_i32_2223
  let c0_i32_2242 : BitVec 32 := 0#32
  let c0_i32_2243 : BitVec 32 := 0#32
  ![v4674.toNat, 0, 0]
def k0_off98 (v67 : BitVec 32) (v80 : BitVec 32) (v93 : BitVec 32) (v106 : BitVec 32) : Fin 3 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c1_i32_69 : BitVec 32 := 1#32
  let v108 : BitVec 32 := Scalar.addi v96 c1_i32_69
  let v109 : BitVec 32 := Scalar.select v107 v108 v96
  let c0_i32_2244 : BitVec 32 := 0#32
  let c0_i32_71 : BitVec 32 := 0#32
  let c1_i32_70 : BitVec 32 := 1#32
  let v110 : BitVec 32 := Scalar.addi v98 c1_i32_70
  let v111 : BitVec 32 := Scalar.select v107 c0_i32_71 v110
  let c512_i32_2227 : BitVec 32 := 512#32
  let v4683 : BitVec 32 := Scalar.muli v111 c512_i32_2227
  let v4704 : BitVec 32 := v4683
  ![v109.toNat, 0, v4704.toNat]
def k0_off99 (v67 : BitVec 32) (v80 : BitVec 32) (v93 : BitVec 32) (v106 : BitVec 32) : Fin 1 → Nat :=
  let c0_i32_38 : BitVec 32 := 0#32
  let c1_i32_39 : BitVec 32 := 1#32
  let v63 : BitVec 32 := Scalar.addi c0_i32_38 c1_i32_39
  let c512_i32 : BitVec 32 := 512#32
  let v64 : BitVec 32 := Scalar.muli v63 c512_i32
  let v68 : BitVec 1 := Scalar.cmpi .sge v64 v67
  let c0_i32_46 : BitVec 32 := 0#32
  let c0_i32_44 : BitVec 32 := 0#32
  let c1_i32_45 : BitVec 32 := 1#32
  let v71 : BitVec 32 := Scalar.addi c0_i32_44 c1_i32_45
  let v72 : BitVec 32 := Scalar.select v68 c0_i32_46 v71
  let c1_i32_50 : BitVec 32 := 1#32
  let v76 : BitVec 32 := Scalar.addi v72 c1_i32_50
  let c512_i32_51 : BitVec 32 := 512#32
  let v77 : BitVec 32 := Scalar.muli v76 c512_i32_51
  let v81 : BitVec 1 := Scalar.cmpi .sge v77 v80
  let c0_i32_55 : BitVec 32 := 0#32
  let c1_i32_54 : BitVec 32 := 1#32
  let v84 : BitVec 32 := Scalar.addi v72 c1_i32_54
  let v85 : BitVec 32 := Scalar.select v81 c0_i32_55 v84
  let c1_i32_58 : BitVec 32 := 1#32
  let v89 : BitVec 32 := Scalar.addi v85 c1_i32_58
  let c512_i32_59 : BitVec 32 := 512#32
  let v90 : BitVec 32 := Scalar.muli v89 c512_i32_59
  let v94 : BitVec 1 := Scalar.cmpi .sge v90 v93
  let c0_i32_63 : BitVec 32 := 0#32
  let c1_i32_62 : BitVec 32 := 1#32
  let v97 : BitVec 32 := Scalar.addi v85 c1_i32_62
  let v98 : BitVec 32 := Scalar.select v94 c0_i32_63 v97
  let c1_i32_66 : BitVec 32 := 1#32
  let v102 : BitVec 32 := Scalar.addi v98 c1_i32_66
  let c512_i32_67 : BitVec 32 := 512#32
  let v103 : BitVec 32 := Scalar.muli v102 c512_i32_67
  let v107 : BitVec 1 := Scalar.cmpi .sge v103 v106
  let c0_i32_41 : BitVec 32 := 0#32
  let c1_i32_42 : BitVec 32 := 1#32
  let v69 : BitVec 32 := Scalar.addi c0_i32_41 c1_i32_42
  let c0_i32_43 : BitVec 32 := 0#32
  let v70 : BitVec 32 := Scalar.select v68 v69 c0_i32_43
  let c1_i32_53 : BitVec 32 := 1#32
  let v82 : BitVec 32 := Scalar.addi v70 c1_i32_53
  let v83 : BitVec 32 := Scalar.select v81 v82 v70
  let c1_i32_61 : BitVec 32 := 1#32
  let v95 : BitVec 32 := Scalar.addi v83 c1_i32_61
  let v96 : BitVec 32 := Scalar.select v94 v95 v83
  let c1_i32_69 : BitVec 32 := 1#32
  let v108 : BitVec 32 := Scalar.addi v96 c1_i32_69
  let v109 : BitVec 32 := Scalar.select v107 v108 v96
  let c11_i32_76 : BitVec 32 := 11#32
  let v117 : BitVec 32 := Scalar.minsi v109 c11_i32_76
  let v118 : Index := Scalar.indexCast v117
  ![v118.toNat]

def k0_chk8 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) : Prop :=
  (∀ (k0_h25 : k0_cond25 v0 v5 v10 v15 v20 v25 v30 v35 v40 v45 v50 v55 = 1#1), ∀ a, (k0_off80 v67 v80 v93 v106) a + S1.size a ≤ S12.size a) ∧
  (∀ (k0_h25 : k0_cond25 v0 v5 v10 v15 v20 v25 v30 v35 v40 v45 v50 v55 = 1#1), 128 ∣ (k0_mult55 v67 v80 v93 v106).toNat) ∧
  (∀ (k0_h25 : k0_cond25 v0 v5 v10 v15 v20 v25 v30 v35 v40 v45 v50 v55 = 1#1), ∀ a, (k0_off98 v67 v80 v93 v106) a + S1x40x512.size a ≤ S12x40x4096.size a) ∧
  (∀ a, (k0_off99 v67 v80 v93 v106) a + S1.size a ≤ S12.size a)
theorem k0_off80_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (k0_hw8 : k0_chk8 v0 v5 v10 v15 v20 v25 v30 v35 v40 v45 v50 v55 v67 v80 v93 v106), ∀ (k0_h25 : k0_cond25 v0 v5 v10 v15 v20 v25 v30 v35 v40 v45 v50 v55 = 1#1), ∀ a, (k0_off80 v67 v80 v93 v106) a + S1.size a ≤ S12.size a := fun v0 v5 v10 v15 v20 v25 v30 v35 v40 v45 v50 v55 v67 v80 v93 v106 k0_hw8 k0_h25 => k0_hw8.1 k0_h25
theorem k0_mult55_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (k0_hw8 : k0_chk8 v0 v5 v10 v15 v20 v25 v30 v35 v40 v45 v50 v55 v67 v80 v93 v106), ∀ (k0_h25 : k0_cond25 v0 v5 v10 v15 v20 v25 v30 v35 v40 v45 v50 v55 = 1#1), 128 ∣ (k0_mult55 v67 v80 v93 v106).toNat := fun v0 v5 v10 v15 v20 v25 v30 v35 v40 v45 v50 v55 v67 v80 v93 v106 k0_hw8 k0_h25 => k0_hw8.2.1 k0_h25
theorem k0_off98_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (k0_hw8 : k0_chk8 v0 v5 v10 v15 v20 v25 v30 v35 v40 v45 v50 v55 v67 v80 v93 v106), ∀ (k0_h25 : k0_cond25 v0 v5 v10 v15 v20 v25 v30 v35 v40 v45 v50 v55 = 1#1), ∀ a, (k0_off98 v67 v80 v93 v106) a + S1x40x512.size a ≤ S12x40x4096.size a := fun v0 v5 v10 v15 v20 v25 v30 v35 v40 v45 v50 v55 v67 v80 v93 v106 k0_hw8 k0_h25 => k0_hw8.2.2.1 k0_h25
theorem k0_off99_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (v67 : BitVec 32) (v80 : BitVec 32) (v93 : BitVec 32) (v106 : BitVec 32) (k0_hw8 : k0_chk8 v0 v5 v10 v15 v20 v25 v30 v35 v40 v45 v50 v55 v67 v80 v93 v106), ∀ a, (k0_off99 v67 v80 v93 v106) a + S1.size a ≤ S12.size a := fun v0 v5 v10 v15 v20 v25 v30 v35 v40 v45 v50 v55 v67 v80 v93 v106 k0_hw8 => k0_hw8.2.2.2

@[reducible] def k0_t1_loop (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) : Scf.Loop 32 :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_200 : BitVec 32 := 1#32
  ⟨c0_i32_196, v497, c1_i32_200⟩

def k0_off100 (arg21 : BitVec 32) : Fin 1 → Nat :=
  let v4809 : Index := Scalar.indexCast arg21
  ![v4809.toNat]
def k0_cond31 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : BitVec 1 :=
  let c0_i32_196 : BitVec 32 := 0#32
  let c1_i32_200 : BitVec 32 := 1#32
  let arg18 : BitVec 32 := Scf.iv c0_i32_196 c1_i32_200 k0_t1
  let c5_i32_2224 : BitVec 32 := 5#32
  let v4675 : BitVec 32 := Scalar.addi arg18 c5_i32_2224
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v4676 : BitVec 1 := Scalar.cmpi .slt v4675 v59
  let v4677 : BitVec 32 := Scalar.extui v4676
  let c0_i32_2225 : BitVec 32 := 0#32
  let v4678 : BitVec 1 := Scalar.cmpi .ne v4677 c0_i32_2225
  v4678

def k0_mult56 (arg22 : BitVec 32) (v4810 : BitVec 32) : BitVec 32 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m1024_i32 : BitVec 32 := 4294966272#32
  let v4845 : BitVec 32 := Scalar.andi v4816 c_m1024_i32
  v4845
def k0_cond32 (arg22 : BitVec 32) (v4810 : BitVec 32) : BitVec 1 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c512_i32_2293 : BitVec 32 := 512#32
  let v4818 : BitVec 32 := Scalar.andi v4816 c512_i32_2293
  let c0_i32_2294 : BitVec 32 := 0#32
  let v4819 : BitVec 1 := Scalar.cmpi .ne v4818 c0_i32_2294
  let v4820 : BitVec 32 := Scalar.extui v4819
  let c0_i32_2295 : BitVec 32 := 0#32
  let v4821 : BitVec 1 := Scalar.cmpi .ne v4820 c0_i32_2295
  v4821

def k0_mult57 (arg22 : BitVec 32) (v4810 : BitVec 32) : BitVec 32 :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m1024_i32 : BitVec 32 := 4294966272#32
  let v4845 : BitVec 32 := Scalar.andi v4816 c_m1024_i32
  let v4846 : BitVec 32 := v4845
  let v4847 : BitVec 32 := Scalar.addi v4817 v4846
  v4847
def k0_off101 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 1 → Nat :=
  let c0_i32_196 : BitVec 32 := 0#32
  let c1_i32_200 : BitVec 32 := 1#32
  let arg18 : BitVec 32 := Scf.iv c0_i32_196 c1_i32_200 k0_t1
  let c5_i32_2224 : BitVec 32 := 5#32
  let v4675 : BitVec 32 := Scalar.addi arg18 c5_i32_2224
  let c6_i32_2286 : BitVec 32 := 6#32
  let v4808 : BitVec 32 := Scalar.remsi v4675 c6_i32_2286
  ![v4808.toNat]
def k0_off102 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg22 : BitVec 32) (v4810 : BitVec 32) : Fin 3 → Nat :=
  let c0_i32_196 : BitVec 32 := 0#32
  let c1_i32_200 : BitVec 32 := 1#32
  let arg18 : BitVec 32 := Scf.iv c0_i32_196 c1_i32_200 k0_t1
  let c5_i32_2224 : BitVec 32 := 5#32
  let v4675 : BitVec 32 := Scalar.addi arg18 c5_i32_2224
  let c6_i32_2286 : BitVec 32 := 6#32
  let v4808 : BitVec 32 := Scalar.remsi v4675 c6_i32_2286
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m1024_i32 : BitVec 32 := 4294966272#32
  let v4845 : BitVec 32 := Scalar.andi v4816 c_m1024_i32
  let v4846 : BitVec 32 := v4845
  let c0_i32_2311 : BitVec 32 := 0#32
  ![v4808.toNat, v4846.toNat, 0]
def k0_off103 (arg21 : BitVec 32) (arg22 : BitVec 32) (v4810 : BitVec 32) : Fin 3 → Nat :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m1024_i32 : BitVec 32 := 4294966272#32
  let v4845 : BitVec 32 := Scalar.andi v4816 c_m1024_i32
  let v4846 : BitVec 32 := v4845
  let v4847 : BitVec 32 := Scalar.addi v4817 v4846
  let v4848 : BitVec 32 := v4847
  let c0_i32_2312 : BitVec 32 := 0#32
  ![arg21.toNat, v4848.toNat, 0]
def k0_mult58 (arg22 : BitVec 32) (v4810 : BitVec 32) : BitVec 32 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m512_i32 : BitVec 32 := 4294966784#32
  let v4845 : BitVec 32 := Scalar.andi v4816 c_m512_i32
  v4845
def k0_cond33 (arg22 : BitVec 32) (v4810 : BitVec 32) : BitVec 1 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c256_i32_2296 : BitVec 32 := 256#32
  let v4822 : BitVec 32 := Scalar.andi v4816 c256_i32_2296
  let c0_i32_2297 : BitVec 32 := 0#32
  let v4823 : BitVec 1 := Scalar.cmpi .ne v4822 c0_i32_2297
  let v4824 : BitVec 32 := Scalar.extui v4823
  let c0_i32_2298 : BitVec 32 := 0#32
  let v4825 : BitVec 1 := Scalar.cmpi .ne v4824 c0_i32_2298
  v4825

def k0_mult59 (arg22 : BitVec 32) (v4810 : BitVec 32) : BitVec 32 :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m512_i32 : BitVec 32 := 4294966784#32
  let v4845 : BitVec 32 := Scalar.andi v4816 c_m512_i32
  let v4846 : BitVec 32 := v4845
  let v4847 : BitVec 32 := Scalar.addi v4817 v4846
  v4847
def k0_off104 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 1 → Nat :=
  let c0_i32_196 : BitVec 32 := 0#32
  let c1_i32_200 : BitVec 32 := 1#32
  let arg18 : BitVec 32 := Scf.iv c0_i32_196 c1_i32_200 k0_t1
  let c5_i32_2224 : BitVec 32 := 5#32
  let v4675 : BitVec 32 := Scalar.addi arg18 c5_i32_2224
  let c6_i32_2286 : BitVec 32 := 6#32
  let v4808 : BitVec 32 := Scalar.remsi v4675 c6_i32_2286
  ![v4808.toNat]
def k0_off105 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg22 : BitVec 32) (v4810 : BitVec 32) : Fin 3 → Nat :=
  let c0_i32_196 : BitVec 32 := 0#32
  let c1_i32_200 : BitVec 32 := 1#32
  let arg18 : BitVec 32 := Scf.iv c0_i32_196 c1_i32_200 k0_t1
  let c5_i32_2224 : BitVec 32 := 5#32
  let v4675 : BitVec 32 := Scalar.addi arg18 c5_i32_2224
  let c6_i32_2286 : BitVec 32 := 6#32
  let v4808 : BitVec 32 := Scalar.remsi v4675 c6_i32_2286
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m512_i32 : BitVec 32 := 4294966784#32
  let v4845 : BitVec 32 := Scalar.andi v4816 c_m512_i32
  let v4846 : BitVec 32 := v4845
  let c0_i32_2311 : BitVec 32 := 0#32
  ![v4808.toNat, v4846.toNat, 0]
def k0_off106 (arg21 : BitVec 32) (arg22 : BitVec 32) (v4810 : BitVec 32) : Fin 3 → Nat :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m512_i32 : BitVec 32 := 4294966784#32
  let v4845 : BitVec 32 := Scalar.andi v4816 c_m512_i32
  let v4846 : BitVec 32 := v4845
  let v4847 : BitVec 32 := Scalar.addi v4817 v4846
  let v4848 : BitVec 32 := v4847
  let c0_i32_2312 : BitVec 32 := 0#32
  ![arg21.toNat, v4848.toNat, 0]
def k0_mult60 (arg22 : BitVec 32) (v4810 : BitVec 32) : BitVec 32 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m256_i32 : BitVec 32 := 4294967040#32
  let v4845 : BitVec 32 := Scalar.andi v4816 c_m256_i32
  v4845
def k0_cond34 (arg22 : BitVec 32) (v4810 : BitVec 32) : BitVec 1 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c128_i32_2299 : BitVec 32 := 128#32
  let v4826 : BitVec 32 := Scalar.andi v4816 c128_i32_2299
  let c0_i32_2300 : BitVec 32 := 0#32
  let v4827 : BitVec 1 := Scalar.cmpi .ne v4826 c0_i32_2300
  let v4828 : BitVec 32 := Scalar.extui v4827
  let c0_i32_2301 : BitVec 32 := 0#32
  let v4829 : BitVec 1 := Scalar.cmpi .ne v4828 c0_i32_2301
  v4829

def k0_mult61 (arg22 : BitVec 32) (v4810 : BitVec 32) : BitVec 32 :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m256_i32 : BitVec 32 := 4294967040#32
  let v4845 : BitVec 32 := Scalar.andi v4816 c_m256_i32
  let v4846 : BitVec 32 := v4845
  let v4847 : BitVec 32 := Scalar.addi v4817 v4846
  v4847
def k0_off107 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 1 → Nat :=
  let c0_i32_196 : BitVec 32 := 0#32
  let c1_i32_200 : BitVec 32 := 1#32
  let arg18 : BitVec 32 := Scf.iv c0_i32_196 c1_i32_200 k0_t1
  let c5_i32_2224 : BitVec 32 := 5#32
  let v4675 : BitVec 32 := Scalar.addi arg18 c5_i32_2224
  let c6_i32_2286 : BitVec 32 := 6#32
  let v4808 : BitVec 32 := Scalar.remsi v4675 c6_i32_2286
  ![v4808.toNat]
def k0_off108 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg22 : BitVec 32) (v4810 : BitVec 32) : Fin 3 → Nat :=
  let c0_i32_196 : BitVec 32 := 0#32
  let c1_i32_200 : BitVec 32 := 1#32
  let arg18 : BitVec 32 := Scf.iv c0_i32_196 c1_i32_200 k0_t1
  let c5_i32_2224 : BitVec 32 := 5#32
  let v4675 : BitVec 32 := Scalar.addi arg18 c5_i32_2224
  let c6_i32_2286 : BitVec 32 := 6#32
  let v4808 : BitVec 32 := Scalar.remsi v4675 c6_i32_2286
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m256_i32 : BitVec 32 := 4294967040#32
  let v4845 : BitVec 32 := Scalar.andi v4816 c_m256_i32
  let v4846 : BitVec 32 := v4845
  let c0_i32_2311 : BitVec 32 := 0#32
  ![v4808.toNat, v4846.toNat, 0]
def k0_off109 (arg21 : BitVec 32) (arg22 : BitVec 32) (v4810 : BitVec 32) : Fin 3 → Nat :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m256_i32 : BitVec 32 := 4294967040#32
  let v4845 : BitVec 32 := Scalar.andi v4816 c_m256_i32
  let v4846 : BitVec 32 := v4845
  let v4847 : BitVec 32 := Scalar.addi v4817 v4846
  let v4848 : BitVec 32 := v4847
  let c0_i32_2312 : BitVec 32 := 0#32
  ![arg21.toNat, v4848.toNat, 0]
def k0_mult62 (arg22 : BitVec 32) (v4810 : BitVec 32) : BitVec 32 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m128_i32 : BitVec 32 := 4294967168#32
  let v4845 : BitVec 32 := Scalar.andi v4816 c_m128_i32
  v4845
def k0_cond35 (arg22 : BitVec 32) (v4810 : BitVec 32) : BitVec 1 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c64_i32_2302 : BitVec 32 := 64#32
  let v4830 : BitVec 32 := Scalar.andi v4816 c64_i32_2302
  let c0_i32_2303 : BitVec 32 := 0#32
  let v4831 : BitVec 1 := Scalar.cmpi .ne v4830 c0_i32_2303
  let v4832 : BitVec 32 := Scalar.extui v4831
  let c0_i32_2304 : BitVec 32 := 0#32
  let v4833 : BitVec 1 := Scalar.cmpi .ne v4832 c0_i32_2304
  v4833

def k0_mult63 (arg22 : BitVec 32) (v4810 : BitVec 32) : BitVec 32 :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m128_i32 : BitVec 32 := 4294967168#32
  let v4845 : BitVec 32 := Scalar.andi v4816 c_m128_i32
  let v4846 : BitVec 32 := v4845
  let v4847 : BitVec 32 := Scalar.addi v4817 v4846
  v4847
def k0_off110 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 1 → Nat :=
  let c0_i32_196 : BitVec 32 := 0#32
  let c1_i32_200 : BitVec 32 := 1#32
  let arg18 : BitVec 32 := Scf.iv c0_i32_196 c1_i32_200 k0_t1
  let c5_i32_2224 : BitVec 32 := 5#32
  let v4675 : BitVec 32 := Scalar.addi arg18 c5_i32_2224
  let c6_i32_2286 : BitVec 32 := 6#32
  let v4808 : BitVec 32 := Scalar.remsi v4675 c6_i32_2286
  ![v4808.toNat]
def k0_off111 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg22 : BitVec 32) (v4810 : BitVec 32) : Fin 3 → Nat :=
  let c0_i32_196 : BitVec 32 := 0#32
  let c1_i32_200 : BitVec 32 := 1#32
  let arg18 : BitVec 32 := Scf.iv c0_i32_196 c1_i32_200 k0_t1
  let c5_i32_2224 : BitVec 32 := 5#32
  let v4675 : BitVec 32 := Scalar.addi arg18 c5_i32_2224
  let c6_i32_2286 : BitVec 32 := 6#32
  let v4808 : BitVec 32 := Scalar.remsi v4675 c6_i32_2286
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m128_i32 : BitVec 32 := 4294967168#32
  let v4845 : BitVec 32 := Scalar.andi v4816 c_m128_i32
  let v4846 : BitVec 32 := v4845
  let c0_i32_2311 : BitVec 32 := 0#32
  ![v4808.toNat, v4846.toNat, 0]
def k0_off112 (arg21 : BitVec 32) (arg22 : BitVec 32) (v4810 : BitVec 32) : Fin 3 → Nat :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m128_i32 : BitVec 32 := 4294967168#32
  let v4845 : BitVec 32 := Scalar.andi v4816 c_m128_i32
  let v4846 : BitVec 32 := v4845
  let v4847 : BitVec 32 := Scalar.addi v4817 v4846
  let v4848 : BitVec 32 := v4847
  let c0_i32_2312 : BitVec 32 := 0#32
  ![arg21.toNat, v4848.toNat, 0]
def k0_mult64 (arg22 : BitVec 32) (v4810 : BitVec 32) : BitVec 32 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m64_i32 : BitVec 32 := 4294967232#32
  let v4845 : BitVec 32 := Scalar.andi v4816 c_m64_i32
  v4845
def k0_cond36 (arg22 : BitVec 32) (v4810 : BitVec 32) : BitVec 1 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c32_i32_2305 : BitVec 32 := 32#32
  let v4834 : BitVec 32 := Scalar.andi v4816 c32_i32_2305
  let c0_i32_2306 : BitVec 32 := 0#32
  let v4835 : BitVec 1 := Scalar.cmpi .ne v4834 c0_i32_2306
  let v4836 : BitVec 32 := Scalar.extui v4835
  let c0_i32_2307 : BitVec 32 := 0#32
  let v4837 : BitVec 1 := Scalar.cmpi .ne v4836 c0_i32_2307
  v4837

def k0_mult65 (arg22 : BitVec 32) (v4810 : BitVec 32) : BitVec 32 :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m64_i32 : BitVec 32 := 4294967232#32
  let v4845 : BitVec 32 := Scalar.andi v4816 c_m64_i32
  let v4846 : BitVec 32 := v4845
  let v4847 : BitVec 32 := Scalar.addi v4817 v4846
  v4847
def k0_off113 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 1 → Nat :=
  let c0_i32_196 : BitVec 32 := 0#32
  let c1_i32_200 : BitVec 32 := 1#32
  let arg18 : BitVec 32 := Scf.iv c0_i32_196 c1_i32_200 k0_t1
  let c5_i32_2224 : BitVec 32 := 5#32
  let v4675 : BitVec 32 := Scalar.addi arg18 c5_i32_2224
  let c6_i32_2286 : BitVec 32 := 6#32
  let v4808 : BitVec 32 := Scalar.remsi v4675 c6_i32_2286
  ![v4808.toNat]
def k0_off114 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg22 : BitVec 32) (v4810 : BitVec 32) : Fin 3 → Nat :=
  let c0_i32_196 : BitVec 32 := 0#32
  let c1_i32_200 : BitVec 32 := 1#32
  let arg18 : BitVec 32 := Scf.iv c0_i32_196 c1_i32_200 k0_t1
  let c5_i32_2224 : BitVec 32 := 5#32
  let v4675 : BitVec 32 := Scalar.addi arg18 c5_i32_2224
  let c6_i32_2286 : BitVec 32 := 6#32
  let v4808 : BitVec 32 := Scalar.remsi v4675 c6_i32_2286
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m64_i32 : BitVec 32 := 4294967232#32
  let v4845 : BitVec 32 := Scalar.andi v4816 c_m64_i32
  let v4846 : BitVec 32 := v4845
  let c0_i32_2311 : BitVec 32 := 0#32
  ![v4808.toNat, v4846.toNat, 0]
def k0_off115 (arg21 : BitVec 32) (arg22 : BitVec 32) (v4810 : BitVec 32) : Fin 3 → Nat :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m64_i32 : BitVec 32 := 4294967232#32
  let v4845 : BitVec 32 := Scalar.andi v4816 c_m64_i32
  let v4846 : BitVec 32 := v4845
  let v4847 : BitVec 32 := Scalar.addi v4817 v4846
  let v4848 : BitVec 32 := v4847
  let c0_i32_2312 : BitVec 32 := 0#32
  ![arg21.toNat, v4848.toNat, 0]

def k0_chk12_0 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) : Prop :=
  (∀ (k0_h31 : k0_cond31 v0 v5 v10 v15 v20 v25 v30 v35 v40 v45 v50 v55 k0_t1 = 1#1), ∀ (k0_h32 : k0_cond32 arg22 v4810 = 1#1), 32 ∣ (k0_mult56 arg22 v4810).toNat) ∧
  (∀ (k0_h31 : k0_cond31 v0 v5 v10 v15 v20 v25 v30 v35 v40 v45 v50 v55 k0_t1 = 1#1), ∀ (k0_h32 : k0_cond32 arg22 v4810 = 1#1), 32 ∣ (k0_mult57 arg22 v4810).toNat) ∧
  (∀ (k0_h31 : k0_cond31 v0 v5 v10 v15 v20 v25 v30 v35 v40 v45 v50 v55 k0_t1 = 1#1), ∀ (k0_h32 : k0_cond32 arg22 v4810 = 1#1), ∀ a, (k0_off101 v0 v5 v10 v15 v20 v25 v30 v35 v40 v45 v50 v55 k0_t1) a + S1.size a ≤ S6.size a) ∧
  (∀ (k0_h31 : k0_cond31 v0 v5 v10 v15 v20 v25 v30 v35 v40 v45 v50 v55 k0_t1 = 1#1), ∀ (k0_h32 : k0_cond32 arg22 v4810 = 1#1), ∀ a, (k0_off102 v0 v5 v10 v15 v20 v25 v30 v35 v40 v45 v50 v55 k0_t1 arg22 v4810) a + S1x512x5120.size a ≤ S6x512x5120.size a) ∧
  (∀ (k0_h31 : k0_cond31 v0 v5 v10 v15 v20 v25 v30 v35 v40 v45 v50 v55 k0_t1 = 1#1), ∀ (k0_h32 : k0_cond32 arg22 v4810 = 1#1), ∀ a, (k0_off103 arg21 arg22 v4810) a + S1x512x5120.size a ≤ S12x4096x5120.size a) ∧
  (∀ (k0_h31 : k0_cond31 v0 v5 v10 v15 v20 v25 v30 v35 v40 v45 v50 v55 k0_t1 = 1#1), ∀ (k0_h32 : k0_cond32 arg22 v4810 = 1#1), ∀ (hinb : ∀ a, (k0_off103 arg21 arg22 v4810) a + S1x512x5120.size a ≤ S12x4096x5120.size a), (Rect.unit (s := S12x4096x5120) (k0_off103 arg21 arg22 v4810) S1x512x5120.size hinb).WholeWords (EltTy.packing .fp8e4m3)) ∧
  (∀ (k0_h31 : k0_cond31 v0 v5 v10 v15 v20 v25 v30 v35 v40 v45 v50 v55 k0_t1 = 1#1), ∀ (k0_h32 : k0_cond32 arg22 v4810 = 1#1), ∀ (hinb : ∀ a, (k0_off102 v0 v5 v10 v15 v20 v25 v30 v35 v40 v45 v50 v55 k0_t1 arg22 v4810) a + S1x512x5120.size a ≤ S6x512x5120.size a), (Rect.unit (s := S6x512x5120) (k0_off102 v0 v5 v10 v15 v20 v25 v30 v35 v40 v45 v50 v55 k0_t1 arg22 v4810) S1x512x5120.size hinb).WholeWords (EltTy.packing .fp8e4m3)) ∧
  (∀ (k0_h31 : k0_cond31 v0 v5 v10 v15 v20 v25 v30 v35 v40 v45 v50 v55 k0_t1 = 1#1), ∀ (k0_h33 : k0_cond33 arg22 v4810 = 1#1), 32 ∣ (k0_mult58 arg22 v4810).toNat) ∧
  (∀ (k0_h31 : k0_cond31 v0 v5 v10 v15 v20 v25 v30 v35 v40 v45 v50 v55 k0_t1 = 1#1), ∀ (k0_h33 : k0_cond33 arg22 v4810 = 1#1), 32 ∣ (k0_mult59 arg22 v4810).toNat) ∧
  (∀ (k0_h31 : k0_cond31 v0 v5 v10 v15 v20 v25 v30 v35 v40 v45 v50 v55 k0_t1 = 1#1), ∀ (k0_h33 : k0_cond33 arg22 v4810 = 1#1), ∀ a, (k0_off104 v0 v5 v10 v15 v20 v25 v30 v35 v40 v45 v50 v55 k0_t1) a + S1.size a ≤ S6.size a) ∧
  (∀ (k0_h31 : k0_cond31 v0 v5 v10 v15 v20 v25 v30 v35 v40 v45 v50 v55 k0_t1 = 1#1), ∀ (k0_h33 : k0_cond33 arg22 v4810 = 1#1), ∀ a, (k0_off105 v0 v5 v10 v15 v20 v25 v30 v35 v40 v45 v50 v55 k0_t1 arg22 v4810) a + S1x256x5120.size a ≤ S6x512x5120.size a) ∧
  (∀ (k0_h31 : k0_cond31 v0 v5 v10 v15 v20 v25 v30 v35 v40 v45 v50 v55 k0_t1 = 1#1), ∀ (k0_h33 : k0_cond33 arg22 v4810 = 1#1), ∀ a, (k0_off106 arg21 arg22 v4810) a + S1x256x5120.size a ≤ S12x4096x5120.size a) ∧
  (∀ (k0_h31 : k0_cond31 v0 v5 v10 v15 v20 v25 v30 v35 v40 v45 v50 v55 k0_t1 = 1#1), ∀ (k0_h33 : k0_cond33 arg22 v4810 = 1#1), ∀ (hinb : ∀ a, (k0_off106 arg21 arg22 v4810) a + S1x256x5120.size a ≤ S12x4096x5120.size a), (Rect.unit (s := S12x4096x5120) (k0_off106 arg21 arg22 v4810) S1x256x5120.size hinb).WholeWords (EltTy.packing .fp8e4m3)) ∧
  (∀ (k0_h31 : k0_cond31 v0 v5 v10 v15 v20 v25 v30 v35 v40 v45 v50 v55 k0_t1 = 1#1), ∀ (k0_h33 : k0_cond33 arg22 v4810 = 1#1), ∀ (hinb : ∀ a, (k0_off105 v0 v5 v10 v15 v20 v25 v30 v35 v40 v45 v50 v55 k0_t1 arg22 v4810) a + S1x256x5120.size a ≤ S6x512x5120.size a), (Rect.unit (s := S6x512x5120) (k0_off105 v0 v5 v10 v15 v20 v25 v30 v35 v40 v45 v50 v55 k0_t1 arg22 v4810) S1x256x5120.size hinb).WholeWords (EltTy.packing .fp8e4m3)) ∧
  (∀ (k0_h31 : k0_cond31 v0 v5 v10 v15 v20 v25 v30 v35 v40 v45 v50 v55 k0_t1 = 1#1), ∀ (k0_h34 : k0_cond34 arg22 v4810 = 1#1), 32 ∣ (k0_mult60 arg22 v4810).toNat) ∧
  (∀ (k0_h31 : k0_cond31 v0 v5 v10 v15 v20 v25 v30 v35 v40 v45 v50 v55 k0_t1 = 1#1), ∀ (k0_h34 : k0_cond34 arg22 v4810 = 1#1), 32 ∣ (k0_mult61 arg22 v4810).toNat) ∧
  (∀ (k0_h31 : k0_cond31 v0 v5 v10 v15 v20 v25 v30 v35 v40 v45 v50 v55 k0_t1 = 1#1), ∀ (k0_h34 : k0_cond34 arg22 v4810 = 1#1), ∀ a, (k0_off107 v0 v5 v10 v15 v20 v25 v30 v35 v40 v45 v50 v55 k0_t1) a + S1.size a ≤ S6.size a) ∧
  (∀ (k0_h31 : k0_cond31 v0 v5 v10 v15 v20 v25 v30 v35 v40 v45 v50 v55 k0_t1 = 1#1), ∀ (k0_h34 : k0_cond34 arg22 v4810 = 1#1), ∀ a, (k0_off108 v0 v5 v10 v15 v20 v25 v30 v35 v40 v45 v50 v55 k0_t1 arg22 v4810) a + S1x128x5120.size a ≤ S6x512x5120.size a) ∧
  (∀ (k0_h31 : k0_cond31 v0 v5 v10 v15 v20 v25 v30 v35 v40 v45 v50 v55 k0_t1 = 1#1), ∀ (k0_h34 : k0_cond34 arg22 v4810 = 1#1), ∀ a, (k0_off109 arg21 arg22 v4810) a + S1x128x5120.size a ≤ S12x4096x5120.size a) ∧
  (∀ (k0_h31 : k0_cond31 v0 v5 v10 v15 v20 v25 v30 v35 v40 v45 v50 v55 k0_t1 = 1#1), ∀ (k0_h34 : k0_cond34 arg22 v4810 = 1#1), ∀ (hinb : ∀ a, (k0_off109 arg21 arg22 v4810) a + S1x128x5120.size a ≤ S12x4096x5120.size a), (Rect.unit (s := S12x4096x5120) (k0_off109 arg21 arg22 v4810) S1x128x5120.size hinb).WholeWords (EltTy.packing .fp8e4m3)) ∧
  (∀ (k0_h31 : k0_cond31 v0 v5 v10 v15 v20 v25 v30 v35 v40 v45 v50 v55 k0_t1 = 1#1), ∀ (k0_h34 : k0_cond34 arg22 v4810 = 1#1), ∀ (hinb : ∀ a, (k0_off108 v0 v5 v10 v15 v20 v25 v30 v35 v40 v45 v50 v55 k0_t1 arg22 v4810) a + S1x128x5120.size a ≤ S6x512x5120.size a), (Rect.unit (s := S6x512x5120) (k0_off108 v0 v5 v10 v15 v20 v25 v30 v35 v40 v45 v50 v55 k0_t1 arg22 v4810) S1x128x5120.size hinb).WholeWords (EltTy.packing .fp8e4m3)) ∧
  (∀ (k0_h31 : k0_cond31 v0 v5 v10 v15 v20 v25 v30 v35 v40 v45 v50 v55 k0_t1 = 1#1), ∀ (k0_h35 : k0_cond35 arg22 v4810 = 1#1), 32 ∣ (k0_mult62 arg22 v4810).toNat) ∧
  (∀ (k0_h31 : k0_cond31 v0 v5 v10 v15 v20 v25 v30 v35 v40 v45 v50 v55 k0_t1 = 1#1), ∀ (k0_h35 : k0_cond35 arg22 v4810 = 1#1), 32 ∣ (k0_mult63 arg22 v4810).toNat) ∧
  (∀ (k0_h31 : k0_cond31 v0 v5 v10 v15 v20 v25 v30 v35 v40 v45 v50 v55 k0_t1 = 1#1), ∀ (k0_h35 : k0_cond35 arg22 v4810 = 1#1), ∀ a, (k0_off110 v0 v5 v10 v15 v20 v25 v30 v35 v40 v45 v50 v55 k0_t1) a + S1.size a ≤ S6.size a) ∧
  (∀ (k0_h31 : k0_cond31 v0 v5 v10 v15 v20 v25 v30 v35 v40 v45 v50 v55 k0_t1 = 1#1), ∀ (k0_h35 : k0_cond35 arg22 v4810 = 1#1), ∀ a, (k0_off111 v0 v5 v10 v15 v20 v25 v30 v35 v40 v45 v50 v55 k0_t1 arg22 v4810) a + S1x64x5120.size a ≤ S6x512x5120.size a) ∧
  (∀ (k0_h31 : k0_cond31 v0 v5 v10 v15 v20 v25 v30 v35 v40 v45 v50 v55 k0_t1 = 1#1), ∀ (k0_h35 : k0_cond35 arg22 v4810 = 1#1), ∀ a, (k0_off112 arg21 arg22 v4810) a + S1x64x5120.size a ≤ S12x4096x5120.size a) ∧
  (∀ (k0_h31 : k0_cond31 v0 v5 v10 v15 v20 v25 v30 v35 v40 v45 v50 v55 k0_t1 = 1#1), ∀ (k0_h35 : k0_cond35 arg22 v4810 = 1#1), ∀ (hinb : ∀ a, (k0_off112 arg21 arg22 v4810) a + S1x64x5120.size a ≤ S12x4096x5120.size a), (Rect.unit (s := S12x4096x5120) (k0_off112 arg21 arg22 v4810) S1x64x5120.size hinb).WholeWords (EltTy.packing .fp8e4m3)) ∧
  (∀ (k0_h31 : k0_cond31 v0 v5 v10 v15 v20 v25 v30 v35 v40 v45 v50 v55 k0_t1 = 1#1), ∀ (k0_h35 : k0_cond35 arg22 v4810 = 1#1), ∀ (hinb : ∀ a, (k0_off111 v0 v5 v10 v15 v20 v25 v30 v35 v40 v45 v50 v55 k0_t1 arg22 v4810) a + S1x64x5120.size a ≤ S6x512x5120.size a), (Rect.unit (s := S6x512x5120) (k0_off111 v0 v5 v10 v15 v20 v25 v30 v35 v40 v45 v50 v55 k0_t1 arg22 v4810) S1x64x5120.size hinb).WholeWords (EltTy.packing .fp8e4m3)) ∧
  (∀ (k0_h31 : k0_cond31 v0 v5 v10 v15 v20 v25 v30 v35 v40 v45 v50 v55 k0_t1 = 1#1), ∀ (k0_h36 : k0_cond36 arg22 v4810 = 1#1), 32 ∣ (k0_mult64 arg22 v4810).toNat) ∧
  (∀ (k0_h31 : k0_cond31 v0 v5 v10 v15 v20 v25 v30 v35 v40 v45 v50 v55 k0_t1 = 1#1), ∀ (k0_h36 : k0_cond36 arg22 v4810 = 1#1), 32 ∣ (k0_mult65 arg22 v4810).toNat) ∧
  (∀ (k0_h31 : k0_cond31 v0 v5 v10 v15 v20 v25 v30 v35 v40 v45 v50 v55 k0_t1 = 1#1), ∀ (k0_h36 : k0_cond36 arg22 v4810 = 1#1), ∀ a, (k0_off113 v0 v5 v10 v15 v20 v25 v30 v35 v40 v45 v50 v55 k0_t1) a + S1.size a ≤ S6.size a) ∧
  (∀ (k0_h31 : k0_cond31 v0 v5 v10 v15 v20 v25 v30 v35 v40 v45 v50 v55 k0_t1 = 1#1), ∀ (k0_h36 : k0_cond36 arg22 v4810 = 1#1), ∀ a, (k0_off114 v0 v5 v10 v15 v20 v25 v30 v35 v40 v45 v50 v55 k0_t1 arg22 v4810) a + S1x32x5120.size a ≤ S6x512x5120.size a)
def k0_chk12_1 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) : Prop :=
  (∀ (k0_h31 : k0_cond31 v0 v5 v10 v15 v20 v25 v30 v35 v40 v45 v50 v55 k0_t1 = 1#1), ∀ (k0_h36 : k0_cond36 arg22 v4810 = 1#1), ∀ a, (k0_off115 arg21 arg22 v4810) a + S1x32x5120.size a ≤ S12x4096x5120.size a) ∧
  (∀ (k0_h31 : k0_cond31 v0 v5 v10 v15 v20 v25 v30 v35 v40 v45 v50 v55 k0_t1 = 1#1), ∀ (k0_h36 : k0_cond36 arg22 v4810 = 1#1), ∀ (hinb : ∀ a, (k0_off115 arg21 arg22 v4810) a + S1x32x5120.size a ≤ S12x4096x5120.size a), (Rect.unit (s := S12x4096x5120) (k0_off115 arg21 arg22 v4810) S1x32x5120.size hinb).WholeWords (EltTy.packing .fp8e4m3)) ∧
  (∀ (k0_h31 : k0_cond31 v0 v5 v10 v15 v20 v25 v30 v35 v40 v45 v50 v55 k0_t1 = 1#1), ∀ (k0_h36 : k0_cond36 arg22 v4810 = 1#1), ∀ (hinb : ∀ a, (k0_off114 v0 v5 v10 v15 v20 v25 v30 v35 v40 v45 v50 v55 k0_t1 arg22 v4810) a + S1x32x5120.size a ≤ S6x512x5120.size a), (Rect.unit (s := S6x512x5120) (k0_off114 v0 v5 v10 v15 v20 v25 v30 v35 v40 v45 v50 v55 k0_t1 arg22 v4810) S1x32x5120.size hinb).WholeWords (EltTy.packing .fp8e4m3))
def k0_chk12 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) : Prop :=
  k0_chk12_0 v0 v5 v10 v15 v20 v25 v30 v35 v40 v45 v50 v55 k0_t1 arg21 arg22 v4810 ∧
  k0_chk12_1 v0 v5 v10 v15 v20 v25 v30 v35 v40 v45 v50 v55 k0_t1 arg21 arg22 v4810
theorem k0_mult56_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h32 : k0_cond32 arg22 v4810 = 1#1), 32 ∣ (k0_mult56 arg22 v4810).toNat := fun v0 v5 v10 v15 v20 v25 v30 v35 v40 v45 v50 v55 k0_t1 arg21 arg22 v4810 k0_hw12 k0_h31 k0_h32 => k0_hw12.1.1 k0_h31 k0_h32
theorem k0_mult57_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h32 : k0_cond32 arg22 v4810 = 1#1), 32 ∣ (k0_mult57 arg22 v4810).toNat := fun v0 v5 v10 v15 v20 v25 v30 v35 v40 v45 v50 v55 k0_t1 arg21 arg22 v4810 k0_hw12 k0_h31 k0_h32 => k0_hw12.1.2.1 k0_h31 k0_h32
theorem k0_off101_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h32 : k0_cond32 arg22 v4810 = 1#1), ∀ a, (k0_off101 v0 v5 v10 v15 v20 v25 v30 v35 v40 v45 v50 v55 k0_t1) a + S1.size a ≤ S6.size a := fun v0 v5 v10 v15 v20 v25 v30 v35 v40 v45 v50 v55 k0_t1 arg21 arg22 v4810 k0_hw12 k0_h31 k0_h32 => k0_hw12.1.2.2.1 k0_h31 k0_h32
theorem k0_off102_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h32 : k0_cond32 arg22 v4810 = 1#1), ∀ a, (k0_off102 v0 v5 v10 v15 v20 v25 v30 v35 v40 v45 v50 v55 k0_t1 arg22 v4810) a + S1x512x5120.size a ≤ S6x512x5120.size a := fun v0 v5 v10 v15 v20 v25 v30 v35 v40 v45 v50 v55 k0_t1 arg21 arg22 v4810 k0_hw12 k0_h31 k0_h32 => k0_hw12.1.2.2.2.1 k0_h31 k0_h32
theorem k0_off103_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h32 : k0_cond32 arg22 v4810 = 1#1), ∀ a, (k0_off103 arg21 arg22 v4810) a + S1x512x5120.size a ≤ S12x4096x5120.size a := fun v0 v5 v10 v15 v20 v25 v30 v35 v40 v45 v50 v55 k0_t1 arg21 arg22 v4810 k0_hw12 k0_h31 k0_h32 => k0_hw12.1.2.2.2.2.1 k0_h31 k0_h32
theorem k0_off103_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h32 : k0_cond32 arg22 v4810 = 1#1), (Rect.unit (s := S12x4096x5120) (k0_off103 arg21 arg22 v4810) S1x512x5120.size (k0_off103_inb v0 v5 v10 v15 v20 v25 v30 v35 v40 v45 v50 v55 k0_t1 arg21 arg22 v4810 k0_hw12 k0_h31 k0_h32)).WholeWords (EltTy.packing .fp8e4m3) := fun v0 v5 v10 v15 v20 v25 v30 v35 v40 v45 v50 v55 k0_t1 arg21 arg22 v4810 k0_hw12 k0_h31 k0_h32 => k0_hw12.1.2.2.2.2.2.1 k0_h31 k0_h32 (k0_off103_inb v0 v5 v10 v15 v20 v25 v30 v35 v40 v45 v50 v55 k0_t1 arg21 arg22 v4810 k0_hw12 k0_h31 k0_h32)
theorem k0_off102_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h32 : k0_cond32 arg22 v4810 = 1#1), (Rect.unit (s := S6x512x5120) (k0_off102 v0 v5 v10 v15 v20 v25 v30 v35 v40 v45 v50 v55 k0_t1 arg22 v4810) S1x512x5120.size (k0_off102_inb v0 v5 v10 v15 v20 v25 v30 v35 v40 v45 v50 v55 k0_t1 arg21 arg22 v4810 k0_hw12 k0_h31 k0_h32)).WholeWords (EltTy.packing .fp8e4m3) := fun v0 v5 v10 v15 v20 v25 v30 v35 v40 v45 v50 v55 k0_t1 arg21 arg22 v4810 k0_hw12 k0_h31 k0_h32 => k0_hw12.1.2.2.2.2.2.2.1 k0_h31 k0_h32 (k0_off102_inb v0 v5 v10 v15 v20 v25 v30 v35 v40 v45 v50 v55 k0_t1 arg21 arg22 v4810 k0_hw12 k0_h31 k0_h32)
theorem k0_mult58_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h33 : k0_cond33 arg22 v4810 = 1#1), 32 ∣ (k0_mult58 arg22 v4810).toNat := fun v0 v5 v10 v15 v20 v25 v30 v35 v40 v45 v50 v55 k0_t1 arg21 arg22 v4810 k0_hw12 k0_h31 k0_h33 => k0_hw12.1.2.2.2.2.2.2.2.1 k0_h31 k0_h33
theorem k0_mult59_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h33 : k0_cond33 arg22 v4810 = 1#1), 32 ∣ (k0_mult59 arg22 v4810).toNat := fun v0 v5 v10 v15 v20 v25 v30 v35 v40 v45 v50 v55 k0_t1 arg21 arg22 v4810 k0_hw12 k0_h31 k0_h33 => k0_hw12.1.2.2.2.2.2.2.2.2.1 k0_h31 k0_h33
theorem k0_off104_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h33 : k0_cond33 arg22 v4810 = 1#1), ∀ a, (k0_off104 v0 v5 v10 v15 v20 v25 v30 v35 v40 v45 v50 v55 k0_t1) a + S1.size a ≤ S6.size a := fun v0 v5 v10 v15 v20 v25 v30 v35 v40 v45 v50 v55 k0_t1 arg21 arg22 v4810 k0_hw12 k0_h31 k0_h33 => k0_hw12.1.2.2.2.2.2.2.2.2.2.1 k0_h31 k0_h33
theorem k0_off105_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h33 : k0_cond33 arg22 v4810 = 1#1), ∀ a, (k0_off105 v0 v5 v10 v15 v20 v25 v30 v35 v40 v45 v50 v55 k0_t1 arg22 v4810) a + S1x256x5120.size a ≤ S6x512x5120.size a := fun v0 v5 v10 v15 v20 v25 v30 v35 v40 v45 v50 v55 k0_t1 arg21 arg22 v4810 k0_hw12 k0_h31 k0_h33 => k0_hw12.1.2.2.2.2.2.2.2.2.2.2.1 k0_h31 k0_h33
theorem k0_off106_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h33 : k0_cond33 arg22 v4810 = 1#1), ∀ a, (k0_off106 arg21 arg22 v4810) a + S1x256x5120.size a ≤ S12x4096x5120.size a := fun v0 v5 v10 v15 v20 v25 v30 v35 v40 v45 v50 v55 k0_t1 arg21 arg22 v4810 k0_hw12 k0_h31 k0_h33 => k0_hw12.1.2.2.2.2.2.2.2.2.2.2.2.1 k0_h31 k0_h33
theorem k0_off106_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h33 : k0_cond33 arg22 v4810 = 1#1), (Rect.unit (s := S12x4096x5120) (k0_off106 arg21 arg22 v4810) S1x256x5120.size (k0_off106_inb v0 v5 v10 v15 v20 v25 v30 v35 v40 v45 v50 v55 k0_t1 arg21 arg22 v4810 k0_hw12 k0_h31 k0_h33)).WholeWords (EltTy.packing .fp8e4m3) := fun v0 v5 v10 v15 v20 v25 v30 v35 v40 v45 v50 v55 k0_t1 arg21 arg22 v4810 k0_hw12 k0_h31 k0_h33 => k0_hw12.1.2.2.2.2.2.2.2.2.2.2.2.2.1 k0_h31 k0_h33 (k0_off106_inb v0 v5 v10 v15 v20 v25 v30 v35 v40 v45 v50 v55 k0_t1 arg21 arg22 v4810 k0_hw12 k0_h31 k0_h33)
theorem k0_off105_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h33 : k0_cond33 arg22 v4810 = 1#1), (Rect.unit (s := S6x512x5120) (k0_off105 v0 v5 v10 v15 v20 v25 v30 v35 v40 v45 v50 v55 k0_t1 arg22 v4810) S1x256x5120.size (k0_off105_inb v0 v5 v10 v15 v20 v25 v30 v35 v40 v45 v50 v55 k0_t1 arg21 arg22 v4810 k0_hw12 k0_h31 k0_h33)).WholeWords (EltTy.packing .fp8e4m3) := fun v0 v5 v10 v15 v20 v25 v30 v35 v40 v45 v50 v55 k0_t1 arg21 arg22 v4810 k0_hw12 k0_h31 k0_h33 => k0_hw12.1.2.2.2.2.2.2.2.2.2.2.2.2.2.1 k0_h31 k0_h33 (k0_off105_inb v0 v5 v10 v15 v20 v25 v30 v35 v40 v45 v50 v55 k0_t1 arg21 arg22 v4810 k0_hw12 k0_h31 k0_h33)
theorem k0_mult60_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h34 : k0_cond34 arg22 v4810 = 1#1), 32 ∣ (k0_mult60 arg22 v4810).toNat := fun v0 v5 v10 v15 v20 v25 v30 v35 v40 v45 v50 v55 k0_t1 arg21 arg22 v4810 k0_hw12 k0_h31 k0_h34 => k0_hw12.1.2.2.2.2.2.2.2.2.2.2.2.2.2.2.1 k0_h31 k0_h34
theorem k0_mult61_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h34 : k0_cond34 arg22 v4810 = 1#1), 32 ∣ (k0_mult61 arg22 v4810).toNat := fun v0 v5 v10 v15 v20 v25 v30 v35 v40 v45 v50 v55 k0_t1 arg21 arg22 v4810 k0_hw12 k0_h31 k0_h34 => k0_hw12.1.2.2.2.2.2.2.2.2.2.2.2.2.2.2.2.1 k0_h31 k0_h34
theorem k0_off107_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h34 : k0_cond34 arg22 v4810 = 1#1), ∀ a, (k0_off107 v0 v5 v10 v15 v20 v25 v30 v35 v40 v45 v50 v55 k0_t1) a + S1.size a ≤ S6.size a := fun v0 v5 v10 v15 v20 v25 v30 v35 v40 v45 v50 v55 k0_t1 arg21 arg22 v4810 k0_hw12 k0_h31 k0_h34 => k0_hw12.1.2.2.2.2.2.2.2.2.2.2.2.2.2.2.2.2.1 k0_h31 k0_h34
theorem k0_off108_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h34 : k0_cond34 arg22 v4810 = 1#1), ∀ a, (k0_off108 v0 v5 v10 v15 v20 v25 v30 v35 v40 v45 v50 v55 k0_t1 arg22 v4810) a + S1x128x5120.size a ≤ S6x512x5120.size a := fun v0 v5 v10 v15 v20 v25 v30 v35 v40 v45 v50 v55 k0_t1 arg21 arg22 v4810 k0_hw12 k0_h31 k0_h34 => k0_hw12.1.2.2.2.2.2.2.2.2.2.2.2.2.2.2.2.2.2.1 k0_h31 k0_h34
theorem k0_off109_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h34 : k0_cond34 arg22 v4810 = 1#1), ∀ a, (k0_off109 arg21 arg22 v4810) a + S1x128x5120.size a ≤ S12x4096x5120.size a := fun v0 v5 v10 v15 v20 v25 v30 v35 v40 v45 v50 v55 k0_t1 arg21 arg22 v4810 k0_hw12 k0_h31 k0_h34 => k0_hw12.1.2.2.2.2.2.2.2.2.2.2.2.2.2.2.2.2.2.2.1 k0_h31 k0_h34
theorem k0_off109_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h34 : k0_cond34 arg22 v4810 = 1#1), (Rect.unit (s := S12x4096x5120) (k0_off109 arg21 arg22 v4810) S1x128x5120.size (k0_off109_inb v0 v5 v10 v15 v20 v25 v30 v35 v40 v45 v50 v55 k0_t1 arg21 arg22 v4810 k0_hw12 k0_h31 k0_h34)).WholeWords (EltTy.packing .fp8e4m3) := fun v0 v5 v10 v15 v20 v25 v30 v35 v40 v45 v50 v55 k0_t1 arg21 arg22 v4810 k0_hw12 k0_h31 k0_h34 => k0_hw12.1.2.2.2.2.2.2.2.2.2.2.2.2.2.2.2.2.2.2.2.1 k0_h31 k0_h34 (k0_off109_inb v0 v5 v10 v15 v20 v25 v30 v35 v40 v45 v50 v55 k0_t1 arg21 arg22 v4810 k0_hw12 k0_h31 k0_h34)
theorem k0_off108_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h34 : k0_cond34 arg22 v4810 = 1#1), (Rect.unit (s := S6x512x5120) (k0_off108 v0 v5 v10 v15 v20 v25 v30 v35 v40 v45 v50 v55 k0_t1 arg22 v4810) S1x128x5120.size (k0_off108_inb v0 v5 v10 v15 v20 v25 v30 v35 v40 v45 v50 v55 k0_t1 arg21 arg22 v4810 k0_hw12 k0_h31 k0_h34)).WholeWords (EltTy.packing .fp8e4m3) := fun v0 v5 v10 v15 v20 v25 v30 v35 v40 v45 v50 v55 k0_t1 arg21 arg22 v4810 k0_hw12 k0_h31 k0_h34 => k0_hw12.1.2.2.2.2.2.2.2.2.2.2.2.2.2.2.2.2.2.2.2.2.1 k0_h31 k0_h34 (k0_off108_inb v0 v5 v10 v15 v20 v25 v30 v35 v40 v45 v50 v55 k0_t1 arg21 arg22 v4810 k0_hw12 k0_h31 k0_h34)
theorem k0_mult62_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h35 : k0_cond35 arg22 v4810 = 1#1), 32 ∣ (k0_mult62 arg22 v4810).toNat := fun v0 v5 v10 v15 v20 v25 v30 v35 v40 v45 v50 v55 k0_t1 arg21 arg22 v4810 k0_hw12 k0_h31 k0_h35 => k0_hw12.1.2.2.2.2.2.2.2.2.2.2.2.2.2.2.2.2.2.2.2.2.2.1 k0_h31 k0_h35
theorem k0_mult63_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h35 : k0_cond35 arg22 v4810 = 1#1), 32 ∣ (k0_mult63 arg22 v4810).toNat := fun v0 v5 v10 v15 v20 v25 v30 v35 v40 v45 v50 v55 k0_t1 arg21 arg22 v4810 k0_hw12 k0_h31 k0_h35 => k0_hw12.1.2.2.2.2.2.2.2.2.2.2.2.2.2.2.2.2.2.2.2.2.2.2.1 k0_h31 k0_h35
theorem k0_off110_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h35 : k0_cond35 arg22 v4810 = 1#1), ∀ a, (k0_off110 v0 v5 v10 v15 v20 v25 v30 v35 v40 v45 v50 v55 k0_t1) a + S1.size a ≤ S6.size a := fun v0 v5 v10 v15 v20 v25 v30 v35 v40 v45 v50 v55 k0_t1 arg21 arg22 v4810 k0_hw12 k0_h31 k0_h35 => k0_hw12.1.2.2.2.2.2.2.2.2.2.2.2.2.2.2.2.2.2.2.2.2.2.2.2.1 k0_h31 k0_h35
theorem k0_off111_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h35 : k0_cond35 arg22 v4810 = 1#1), ∀ a, (k0_off111 v0 v5 v10 v15 v20 v25 v30 v35 v40 v45 v50 v55 k0_t1 arg22 v4810) a + S1x64x5120.size a ≤ S6x512x5120.size a := fun v0 v5 v10 v15 v20 v25 v30 v35 v40 v45 v50 v55 k0_t1 arg21 arg22 v4810 k0_hw12 k0_h31 k0_h35 => k0_hw12.1.2.2.2.2.2.2.2.2.2.2.2.2.2.2.2.2.2.2.2.2.2.2.2.2.1 k0_h31 k0_h35
theorem k0_off112_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h35 : k0_cond35 arg22 v4810 = 1#1), ∀ a, (k0_off112 arg21 arg22 v4810) a + S1x64x5120.size a ≤ S12x4096x5120.size a := fun v0 v5 v10 v15 v20 v25 v30 v35 v40 v45 v50 v55 k0_t1 arg21 arg22 v4810 k0_hw12 k0_h31 k0_h35 => k0_hw12.1.2.2.2.2.2.2.2.2.2.2.2.2.2.2.2.2.2.2.2.2.2.2.2.2.2.1 k0_h31 k0_h35
theorem k0_off112_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h35 : k0_cond35 arg22 v4810 = 1#1), (Rect.unit (s := S12x4096x5120) (k0_off112 arg21 arg22 v4810) S1x64x5120.size (k0_off112_inb v0 v5 v10 v15 v20 v25 v30 v35 v40 v45 v50 v55 k0_t1 arg21 arg22 v4810 k0_hw12 k0_h31 k0_h35)).WholeWords (EltTy.packing .fp8e4m3) := fun v0 v5 v10 v15 v20 v25 v30 v35 v40 v45 v50 v55 k0_t1 arg21 arg22 v4810 k0_hw12 k0_h31 k0_h35 => k0_hw12.1.2.2.2.2.2.2.2.2.2.2.2.2.2.2.2.2.2.2.2.2.2.2.2.2.2.2.1 k0_h31 k0_h35 (k0_off112_inb v0 v5 v10 v15 v20 v25 v30 v35 v40 v45 v50 v55 k0_t1 arg21 arg22 v4810 k0_hw12 k0_h31 k0_h35)
theorem k0_off111_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h35 : k0_cond35 arg22 v4810 = 1#1), (Rect.unit (s := S6x512x5120) (k0_off111 v0 v5 v10 v15 v20 v25 v30 v35 v40 v45 v50 v55 k0_t1 arg22 v4810) S1x64x5120.size (k0_off111_inb v0 v5 v10 v15 v20 v25 v30 v35 v40 v45 v50 v55 k0_t1 arg21 arg22 v4810 k0_hw12 k0_h31 k0_h35)).WholeWords (EltTy.packing .fp8e4m3) := fun v0 v5 v10 v15 v20 v25 v30 v35 v40 v45 v50 v55 k0_t1 arg21 arg22 v4810 k0_hw12 k0_h31 k0_h35 => k0_hw12.1.2.2.2.2.2.2.2.2.2.2.2.2.2.2.2.2.2.2.2.2.2.2.2.2.2.2.2.1 k0_h31 k0_h35 (k0_off111_inb v0 v5 v10 v15 v20 v25 v30 v35 v40 v45 v50 v55 k0_t1 arg21 arg22 v4810 k0_hw12 k0_h31 k0_h35)
theorem k0_mult64_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h36 : k0_cond36 arg22 v4810 = 1#1), 32 ∣ (k0_mult64 arg22 v4810).toNat := fun v0 v5 v10 v15 v20 v25 v30 v35 v40 v45 v50 v55 k0_t1 arg21 arg22 v4810 k0_hw12 k0_h31 k0_h36 => k0_hw12.1.2.2.2.2.2.2.2.2.2.2.2.2.2.2.2.2.2.2.2.2.2.2.2.2.2.2.2.2.1 k0_h31 k0_h36
theorem k0_mult65_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h36 : k0_cond36 arg22 v4810 = 1#1), 32 ∣ (k0_mult65 arg22 v4810).toNat := fun v0 v5 v10 v15 v20 v25 v30 v35 v40 v45 v50 v55 k0_t1 arg21 arg22 v4810 k0_hw12 k0_h31 k0_h36 => k0_hw12.1.2.2.2.2.2.2.2.2.2.2.2.2.2.2.2.2.2.2.2.2.2.2.2.2.2.2.2.2.2.1 k0_h31 k0_h36
theorem k0_off113_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h36 : k0_cond36 arg22 v4810 = 1#1), ∀ a, (k0_off113 v0 v5 v10 v15 v20 v25 v30 v35 v40 v45 v50 v55 k0_t1) a + S1.size a ≤ S6.size a := fun v0 v5 v10 v15 v20 v25 v30 v35 v40 v45 v50 v55 k0_t1 arg21 arg22 v4810 k0_hw12 k0_h31 k0_h36 => k0_hw12.1.2.2.2.2.2.2.2.2.2.2.2.2.2.2.2.2.2.2.2.2.2.2.2.2.2.2.2.2.2.2.1 k0_h31 k0_h36
theorem k0_off114_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h36 : k0_cond36 arg22 v4810 = 1#1), ∀ a, (k0_off114 v0 v5 v10 v15 v20 v25 v30 v35 v40 v45 v50 v55 k0_t1 arg22 v4810) a + S1x32x5120.size a ≤ S6x512x5120.size a := fun v0 v5 v10 v15 v20 v25 v30 v35 v40 v45 v50 v55 k0_t1 arg21 arg22 v4810 k0_hw12 k0_h31 k0_h36 => k0_hw12.1.2.2.2.2.2.2.2.2.2.2.2.2.2.2.2.2.2.2.2.2.2.2.2.2.2.2.2.2.2.2.2 k0_h31 k0_h36
theorem k0_off115_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h36 : k0_cond36 arg22 v4810 = 1#1), ∀ a, (k0_off115 arg21 arg22 v4810) a + S1x32x5120.size a ≤ S12x4096x5120.size a := fun v0 v5 v10 v15 v20 v25 v30 v35 v40 v45 v50 v55 k0_t1 arg21 arg22 v4810 k0_hw12 k0_h31 k0_h36 => k0_hw12.2.1 k0_h31 k0_h36
theorem k0_off115_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h36 : k0_cond36 arg22 v4810 = 1#1), (Rect.unit (s := S12x4096x5120) (k0_off115 arg21 arg22 v4810) S1x32x5120.size (k0_off115_inb v0 v5 v10 v15 v20 v25 v30 v35 v40 v45 v50 v55 k0_t1 arg21 arg22 v4810 k0_hw12 k0_h31 k0_h36)).WholeWords (EltTy.packing .fp8e4m3) := fun v0 v5 v10 v15 v20 v25 v30 v35 v40 v45 v50 v55 k0_t1 arg21 arg22 v4810 k0_hw12 k0_h31 k0_h36 => k0_hw12.2.2.1 k0_h31 k0_h36 (k0_off115_inb v0 v5 v10 v15 v20 v25 v30 v35 v40 v45 v50 v55 k0_t1 arg21 arg22 v4810 k0_hw12 k0_h31 k0_h36)
theorem k0_off114_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (v4810 : BitVec 32) (k0_hw12 : k0_chk12 v0 v5 v10 v15 v20 v25 v30 v35 v40 v45 v50 v55 k0_t1 arg21 arg22 v4810), ∀ (k0_h31 : k0_cond31 v0 v5 v10 v15 v20 v25 v30 v35 v40 v45 v50 v55 k0_t1 = 1#1), ∀ (k0_h36 : k0_cond36 arg22 v4810 = 1#1), (Rect.unit (s := S6x512x5120) (k0_off114 v0 v5 v10 v15 v20 v25 v30 v35 v40 v45 v50 v55 k0_t1 arg22 v4810) S1x32x5120.size (k0_off114_inb v0 v5 v10 v15 v20 v25 v30 v35 v40 v45 v50 v55 k0_t1 arg21 arg22 v4810 k0_hw12 k0_h31 k0_h36)).WholeWords (EltTy.packing .fp8e4m3) := fun v0 v5 v10 v15 v20 v25 v30 v35 v40 v45 v50 v55 k0_t1 arg21 arg22 v4810 k0_hw12 k0_h31 k0_h36 => k0_hw12.2.2.2 k0_h31 k0_h36 (k0_off114_inb v0 v5 v10 v15 v20 v25 v30 v35 v40 v45 v50 v55 k0_t1 arg21 arg22 v4810 k0_hw12 k0_h31 k0_h36)

def k0_mult66 (arg22 : BitVec 32) : BitVec 32 :=
  let c512_i32_2292 : BitVec 32 := 512#32
  let v4817 : BitVec 32 := Scalar.muli arg22 c512_i32_2292
  v4817

def k0_off116 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 1 → Nat :=
  let c0_i32_196 : BitVec 32 := 0#32
  let c1_i32_200 : BitVec 32 := 1#32
  let arg18 : BitVec 32 := Scf.iv c0_i32_196 c1_i32_200 k0_t1
  let c5_i32_2224 : BitVec 32 := 5#32
  let v4675 : BitVec 32 := Scalar.addi arg18 c5_i32_2224
  let c6_i32_2286 : BitVec 32 := 6#32
  let v4808 : BitVec 32 := Scalar.remsi v4675 c6_i32_2286
  ![v4808.toNat]
def k0_off117 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 3 → Nat :=
  let c0_i32_196 : BitVec 32 := 0#32
  let c1_i32_200 : BitVec 32 := 1#32
  let arg18 : BitVec 32 := Scf.iv c0_i32_196 c1_i32_200 k0_t1
  let c5_i32_2224 : BitVec 32 := 5#32
  let v4675 : BitVec 32 := Scalar.addi arg18 c5_i32_2224
  let c6_i32_2286 : BitVec 32 := 6#32
  let v4808 : BitVec 32 := Scalar.remsi v4675 c6_i32_2286
  let c0_i32_2308 : BitVec 32 := 0#32
  let c0_i32_2309 : BitVec 32 := 0#32
  ![v4808.toNat, 0, 0]
def k0_off118 (arg21 : BitVec 32) (arg22 : BitVec 32) : Fin 3 → Nat :=
  let c0_i32_2310 : BitVec 32 := 0#32
  let c512_i32_2292 : BitVec 32 := 512#32
  let v4817 : BitVec 32 := Scalar.muli arg22 c512_i32_2292
  let v4838 : BitVec 32 := v4817
  ![arg21.toNat, 0, v4838.toNat]

def k0_chk13 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) : Prop :=
  (∀ (k0_h31 : k0_cond31 v0 v5 v10 v15 v20 v25 v30 v35 v40 v45 v50 v55 k0_t1 = 1#1), 128 ∣ (k0_mult66 arg22).toNat) ∧
  (∀ (k0_h31 : k0_cond31 v0 v5 v10 v15 v20 v25 v30 v35 v40 v45 v50 v55 k0_t1 = 1#1), ∀ a, (k0_off118 arg21 arg22) a + S1x40x512.size a ≤ S12x40x4096.size a)
theorem k0_mult66_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (k0_hw13 : k0_chk13 v0 v5 v10 v15 v20 v25 v30 v35 v40 v45 v50 v55 k0_t1 arg21 arg22), ∀ (k0_h31 : k0_cond31 v0 v5 v10 v15 v20 v25 v30 v35 v40 v45 v50 v55 k0_t1 = 1#1), 128 ∣ (k0_mult66 arg22).toNat := fun v0 v5 v10 v15 v20 v25 v30 v35 v40 v45 v50 v55 k0_t1 arg21 arg22 k0_hw13 k0_h31 => k0_hw13.1 k0_h31
theorem k0_off118_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (arg22 : BitVec 32) (k0_hw13 : k0_chk13 v0 v5 v10 v15 v20 v25 v30 v35 v40 v45 v50 v55 k0_t1 arg21 arg22), ∀ (k0_h31 : k0_cond31 v0 v5 v10 v15 v20 v25 v30 v35 v40 v45 v50 v55 k0_t1 = 1#1), ∀ a, (k0_off118 arg21 arg22) a + S1x40x512.size a ≤ S12x40x4096.size a := fun v0 v5 v10 v15 v20 v25 v30 v35 v40 v45 v50 v55 k0_t1 arg21 arg22 k0_hw13 k0_h31 => k0_hw13.2 k0_h31

def k0_off119 (arg21 : BitVec 32) : Fin 1 → Nat :=
  let c11_i32_2228 : BitVec 32 := 11#32
  let v4681 : BitVec 32 := Scalar.minsi arg21 c11_i32_2228
  let v4682 : Index := Scalar.indexCast v4681
  ![v4682.toNat]

def k0_chk11 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) : Prop :=
  (∀ (k0_h31 : k0_cond31 v0 v5 v10 v15 v20 v25 v30 v35 v40 v45 v50 v55 k0_t1 = 1#1), ∀ a, (k0_off100 arg21) a + S1.size a ≤ S12.size a) ∧
  (∀ a, (k0_off119 arg21) a + S1.size a ≤ S12.size a)
theorem k0_off100_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (k0_hw11 : k0_chk11 v0 v5 v10 v15 v20 v25 v30 v35 v40 v45 v50 v55 k0_t1 arg21), ∀ (k0_h31 : k0_cond31 v0 v5 v10 v15 v20 v25 v30 v35 v40 v45 v50 v55 k0_t1 = 1#1), ∀ a, (k0_off100 arg21) a + S1.size a ≤ S12.size a := fun v0 v5 v10 v15 v20 v25 v30 v35 v40 v45 v50 v55 k0_t1 arg21 k0_hw11 k0_h31 => k0_hw11.1 k0_h31
theorem k0_off119_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg21 : BitVec 32) (k0_hw11 : k0_chk11 v0 v5 v10 v15 v20 v25 v30 v35 v40 v45 v50 v55 k0_t1 arg21), ∀ a, (k0_off119 arg21) a + S1.size a ≤ S12.size a := fun v0 v5 v10 v15 v20 v25 v30 v35 v40 v45 v50 v55 k0_t1 arg21 k0_hw11 => k0_hw11.2

def k0_off120 (arg19 : BitVec 32) : Fin 1 → Nat :=
  let v4689 : Index := Scalar.indexCast arg19
  ![v4689.toNat]

def k0_mult67 (arg20 : BitVec 32) (v4690 : BitVec 32) : BitVec 32 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m1024_i32 : BitVec 32 := 4294966272#32
  let v4808 : BitVec 32 := Scalar.andi v4696 c_m1024_i32
  v4808
def k0_cond37 (arg20 : BitVec 32) (v4690 : BitVec 32) : BitVec 1 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c512_i32_2236 : BitVec 32 := 512#32
  let v4698 : BitVec 32 := Scalar.andi v4696 c512_i32_2236
  let c0_i32_2237 : BitVec 32 := 0#32
  let v4699 : BitVec 1 := Scalar.cmpi .ne v4698 c0_i32_2237
  let v4700 : BitVec 32 := Scalar.extui v4699
  let c0_i32_2238 : BitVec 32 := 0#32
  let v4701 : BitVec 1 := Scalar.cmpi .ne v4700 c0_i32_2238
  v4701

def k0_mult68 (arg20 : BitVec 32) (v4690 : BitVec 32) : BitVec 32 :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m1024_i32 : BitVec 32 := 4294966272#32
  let v4808 : BitVec 32 := Scalar.andi v4696 c_m1024_i32
  let v4809 : BitVec 32 := v4808
  let v4810 : BitVec 32 := Scalar.addi v4697 v4809
  v4810
def k0_off121 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 1 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  ![v4674.toNat]
def k0_off122 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg20 : BitVec 32) (v4690 : BitVec 32) : Fin 3 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m1024_i32 : BitVec 32 := 4294966272#32
  let v4808 : BitVec 32 := Scalar.andi v4696 c_m1024_i32
  let v4809 : BitVec 32 := v4808
  let c0_i32_2286 : BitVec 32 := 0#32
  ![v4674.toNat, v4809.toNat, 0]
def k0_off123 (arg19 : BitVec 32) (arg20 : BitVec 32) (v4690 : BitVec 32) : Fin 3 → Nat :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m1024_i32 : BitVec 32 := 4294966272#32
  let v4808 : BitVec 32 := Scalar.andi v4696 c_m1024_i32
  let v4809 : BitVec 32 := v4808
  let v4810 : BitVec 32 := Scalar.addi v4697 v4809
  let v4811 : BitVec 32 := v4810
  let c0_i32_2287 : BitVec 32 := 0#32
  ![arg19.toNat, v4811.toNat, 0]
def k0_mult69 (arg20 : BitVec 32) (v4690 : BitVec 32) : BitVec 32 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m512_i32 : BitVec 32 := 4294966784#32
  let v4808 : BitVec 32 := Scalar.andi v4696 c_m512_i32
  v4808
def k0_cond38 (arg20 : BitVec 32) (v4690 : BitVec 32) : BitVec 1 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c256_i32_2239 : BitVec 32 := 256#32
  let v4702 : BitVec 32 := Scalar.andi v4696 c256_i32_2239
  let c0_i32_2240 : BitVec 32 := 0#32
  let v4703 : BitVec 1 := Scalar.cmpi .ne v4702 c0_i32_2240
  let v4704 : BitVec 32 := Scalar.extui v4703
  let c0_i32_2241 : BitVec 32 := 0#32
  let v4705 : BitVec 1 := Scalar.cmpi .ne v4704 c0_i32_2241
  v4705

def k0_mult70 (arg20 : BitVec 32) (v4690 : BitVec 32) : BitVec 32 :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m512_i32 : BitVec 32 := 4294966784#32
  let v4808 : BitVec 32 := Scalar.andi v4696 c_m512_i32
  let v4809 : BitVec 32 := v4808
  let v4810 : BitVec 32 := Scalar.addi v4697 v4809
  v4810
def k0_off124 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 1 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  ![v4674.toNat]
def k0_off125 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg20 : BitVec 32) (v4690 : BitVec 32) : Fin 3 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m512_i32 : BitVec 32 := 4294966784#32
  let v4808 : BitVec 32 := Scalar.andi v4696 c_m512_i32
  let v4809 : BitVec 32 := v4808
  let c0_i32_2286 : BitVec 32 := 0#32
  ![v4674.toNat, v4809.toNat, 0]
def k0_off126 (arg19 : BitVec 32) (arg20 : BitVec 32) (v4690 : BitVec 32) : Fin 3 → Nat :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m512_i32 : BitVec 32 := 4294966784#32
  let v4808 : BitVec 32 := Scalar.andi v4696 c_m512_i32
  let v4809 : BitVec 32 := v4808
  let v4810 : BitVec 32 := Scalar.addi v4697 v4809
  let v4811 : BitVec 32 := v4810
  let c0_i32_2287 : BitVec 32 := 0#32
  ![arg19.toNat, v4811.toNat, 0]
def k0_mult71 (arg20 : BitVec 32) (v4690 : BitVec 32) : BitVec 32 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m256_i32 : BitVec 32 := 4294967040#32
  let v4808 : BitVec 32 := Scalar.andi v4696 c_m256_i32
  v4808
def k0_cond39 (arg20 : BitVec 32) (v4690 : BitVec 32) : BitVec 1 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c128_i32_2242 : BitVec 32 := 128#32
  let v4706 : BitVec 32 := Scalar.andi v4696 c128_i32_2242
  let c0_i32_2243 : BitVec 32 := 0#32
  let v4707 : BitVec 1 := Scalar.cmpi .ne v4706 c0_i32_2243
  let v4708 : BitVec 32 := Scalar.extui v4707
  let c0_i32_2244 : BitVec 32 := 0#32
  let v4709 : BitVec 1 := Scalar.cmpi .ne v4708 c0_i32_2244
  v4709

def k0_mult72 (arg20 : BitVec 32) (v4690 : BitVec 32) : BitVec 32 :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m256_i32 : BitVec 32 := 4294967040#32
  let v4808 : BitVec 32 := Scalar.andi v4696 c_m256_i32
  let v4809 : BitVec 32 := v4808
  let v4810 : BitVec 32 := Scalar.addi v4697 v4809
  v4810
def k0_off127 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 1 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  ![v4674.toNat]
def k0_off128 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg20 : BitVec 32) (v4690 : BitVec 32) : Fin 3 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m256_i32 : BitVec 32 := 4294967040#32
  let v4808 : BitVec 32 := Scalar.andi v4696 c_m256_i32
  let v4809 : BitVec 32 := v4808
  let c0_i32_2286 : BitVec 32 := 0#32
  ![v4674.toNat, v4809.toNat, 0]
def k0_off129 (arg19 : BitVec 32) (arg20 : BitVec 32) (v4690 : BitVec 32) : Fin 3 → Nat :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m256_i32 : BitVec 32 := 4294967040#32
  let v4808 : BitVec 32 := Scalar.andi v4696 c_m256_i32
  let v4809 : BitVec 32 := v4808
  let v4810 : BitVec 32 := Scalar.addi v4697 v4809
  let v4811 : BitVec 32 := v4810
  let c0_i32_2287 : BitVec 32 := 0#32
  ![arg19.toNat, v4811.toNat, 0]
def k0_mult73 (arg20 : BitVec 32) (v4690 : BitVec 32) : BitVec 32 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m128_i32 : BitVec 32 := 4294967168#32
  let v4808 : BitVec 32 := Scalar.andi v4696 c_m128_i32
  v4808
def k0_cond40 (arg20 : BitVec 32) (v4690 : BitVec 32) : BitVec 1 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c64_i32_2245 : BitVec 32 := 64#32
  let v4710 : BitVec 32 := Scalar.andi v4696 c64_i32_2245
  let c0_i32_2246 : BitVec 32 := 0#32
  let v4711 : BitVec 1 := Scalar.cmpi .ne v4710 c0_i32_2246
  let v4712 : BitVec 32 := Scalar.extui v4711
  let c0_i32_2247 : BitVec 32 := 0#32
  let v4713 : BitVec 1 := Scalar.cmpi .ne v4712 c0_i32_2247
  v4713

def k0_mult74 (arg20 : BitVec 32) (v4690 : BitVec 32) : BitVec 32 :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m128_i32 : BitVec 32 := 4294967168#32
  let v4808 : BitVec 32 := Scalar.andi v4696 c_m128_i32
  let v4809 : BitVec 32 := v4808
  let v4810 : BitVec 32 := Scalar.addi v4697 v4809
  v4810
def k0_off130 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 1 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  ![v4674.toNat]
def k0_off131 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg20 : BitVec 32) (v4690 : BitVec 32) : Fin 3 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m128_i32 : BitVec 32 := 4294967168#32
  let v4808 : BitVec 32 := Scalar.andi v4696 c_m128_i32
  let v4809 : BitVec 32 := v4808
  let c0_i32_2286 : BitVec 32 := 0#32
  ![v4674.toNat, v4809.toNat, 0]
def k0_off132 (arg19 : BitVec 32) (arg20 : BitVec 32) (v4690 : BitVec 32) : Fin 3 → Nat :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m128_i32 : BitVec 32 := 4294967168#32
  let v4808 : BitVec 32 := Scalar.andi v4696 c_m128_i32
  let v4809 : BitVec 32 := v4808
  let v4810 : BitVec 32 := Scalar.addi v4697 v4809
  let v4811 : BitVec 32 := v4810
  let c0_i32_2287 : BitVec 32 := 0#32
  ![arg19.toNat, v4811.toNat, 0]
def k0_mult75 (arg20 : BitVec 32) (v4690 : BitVec 32) : BitVec 32 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m64_i32 : BitVec 32 := 4294967232#32
  let v4808 : BitVec 32 := Scalar.andi v4696 c_m64_i32
  v4808
def k0_cond41 (arg20 : BitVec 32) (v4690 : BitVec 32) : BitVec 1 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c32_i32 : BitVec 32 := 32#32
  let v4714 : BitVec 32 := Scalar.andi v4696 c32_i32
  let c0_i32_2248 : BitVec 32 := 0#32
  let v4715 : BitVec 1 := Scalar.cmpi .ne v4714 c0_i32_2248
  let v4716 : BitVec 32 := Scalar.extui v4715
  let c0_i32_2249 : BitVec 32 := 0#32
  let v4717 : BitVec 1 := Scalar.cmpi .ne v4716 c0_i32_2249
  v4717

def k0_mult76 (arg20 : BitVec 32) (v4690 : BitVec 32) : BitVec 32 :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m64_i32 : BitVec 32 := 4294967232#32
  let v4808 : BitVec 32 := Scalar.andi v4696 c_m64_i32
  let v4809 : BitVec 32 := v4808
  let v4810 : BitVec 32 := Scalar.addi v4697 v4809
  v4810
def k0_off133 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 1 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  ![v4674.toNat]
def k0_off134 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg20 : BitVec 32) (v4690 : BitVec 32) : Fin 3 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m64_i32 : BitVec 32 := 4294967232#32
  let v4808 : BitVec 32 := Scalar.andi v4696 c_m64_i32
  let v4809 : BitVec 32 := v4808
  let c0_i32_2286 : BitVec 32 := 0#32
  ![v4674.toNat, v4809.toNat, 0]
def k0_off135 (arg19 : BitVec 32) (arg20 : BitVec 32) (v4690 : BitVec 32) : Fin 3 → Nat :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m64_i32 : BitVec 32 := 4294967232#32
  let v4808 : BitVec 32 := Scalar.andi v4696 c_m64_i32
  let v4809 : BitVec 32 := v4808
  let v4810 : BitVec 32 := Scalar.addi v4697 v4809
  let v4811 : BitVec 32 := v4810
  let c0_i32_2287 : BitVec 32 := 0#32
  ![arg19.toNat, v4811.toNat, 0]

def k0_chk15_0 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) : Prop :=
  (∀ (k0_h37 : k0_cond37 arg20 v4690 = 1#1), 32 ∣ (k0_mult67 arg20 v4690).toNat) ∧
  (∀ (k0_h37 : k0_cond37 arg20 v4690 = 1#1), 32 ∣ (k0_mult68 arg20 v4690).toNat) ∧
  (∀ (k0_h37 : k0_cond37 arg20 v4690 = 1#1), ∀ a, (k0_off121 v0 v5 v10 v15 v20 v25 v30 v35 v40 v45 v50 v55 k0_t1) a + S1.size a ≤ S6.size a) ∧
  (∀ (k0_h37 : k0_cond37 arg20 v4690 = 1#1), ∀ a, (k0_off122 v0 v5 v10 v15 v20 v25 v30 v35 v40 v45 v50 v55 k0_t1 arg20 v4690) a + S1x512x5120.size a ≤ S6x512x5120.size a) ∧
  (∀ (k0_h37 : k0_cond37 arg20 v4690 = 1#1), ∀ a, (k0_off123 arg19 arg20 v4690) a + S1x512x5120.size a ≤ S12x4096x5120.size a) ∧
  (∀ (k0_h37 : k0_cond37 arg20 v4690 = 1#1), ∀ (hinb : ∀ a, (k0_off123 arg19 arg20 v4690) a + S1x512x5120.size a ≤ S12x4096x5120.size a), (Rect.unit (s := S12x4096x5120) (k0_off123 arg19 arg20 v4690) S1x512x5120.size hinb).WholeWords (EltTy.packing .fp8e4m3)) ∧
  (∀ (k0_h37 : k0_cond37 arg20 v4690 = 1#1), ∀ (hinb : ∀ a, (k0_off122 v0 v5 v10 v15 v20 v25 v30 v35 v40 v45 v50 v55 k0_t1 arg20 v4690) a + S1x512x5120.size a ≤ S6x512x5120.size a), (Rect.unit (s := S6x512x5120) (k0_off122 v0 v5 v10 v15 v20 v25 v30 v35 v40 v45 v50 v55 k0_t1 arg20 v4690) S1x512x5120.size hinb).WholeWords (EltTy.packing .fp8e4m3)) ∧
  (∀ (k0_h38 : k0_cond38 arg20 v4690 = 1#1), 32 ∣ (k0_mult69 arg20 v4690).toNat) ∧
  (∀ (k0_h38 : k0_cond38 arg20 v4690 = 1#1), 32 ∣ (k0_mult70 arg20 v4690).toNat) ∧
  (∀ (k0_h38 : k0_cond38 arg20 v4690 = 1#1), ∀ a, (k0_off124 v0 v5 v10 v15 v20 v25 v30 v35 v40 v45 v50 v55 k0_t1) a + S1.size a ≤ S6.size a) ∧
  (∀ (k0_h38 : k0_cond38 arg20 v4690 = 1#1), ∀ a, (k0_off125 v0 v5 v10 v15 v20 v25 v30 v35 v40 v45 v50 v55 k0_t1 arg20 v4690) a + S1x256x5120.size a ≤ S6x512x5120.size a) ∧
  (∀ (k0_h38 : k0_cond38 arg20 v4690 = 1#1), ∀ a, (k0_off126 arg19 arg20 v4690) a + S1x256x5120.size a ≤ S12x4096x5120.size a) ∧
  (∀ (k0_h38 : k0_cond38 arg20 v4690 = 1#1), ∀ (hinb : ∀ a, (k0_off126 arg19 arg20 v4690) a + S1x256x5120.size a ≤ S12x4096x5120.size a), (Rect.unit (s := S12x4096x5120) (k0_off126 arg19 arg20 v4690) S1x256x5120.size hinb).WholeWords (EltTy.packing .fp8e4m3)) ∧
  (∀ (k0_h38 : k0_cond38 arg20 v4690 = 1#1), ∀ (hinb : ∀ a, (k0_off125 v0 v5 v10 v15 v20 v25 v30 v35 v40 v45 v50 v55 k0_t1 arg20 v4690) a + S1x256x5120.size a ≤ S6x512x5120.size a), (Rect.unit (s := S6x512x5120) (k0_off125 v0 v5 v10 v15 v20 v25 v30 v35 v40 v45 v50 v55 k0_t1 arg20 v4690) S1x256x5120.size hinb).WholeWords (EltTy.packing .fp8e4m3)) ∧
  (∀ (k0_h39 : k0_cond39 arg20 v4690 = 1#1), 32 ∣ (k0_mult71 arg20 v4690).toNat) ∧
  (∀ (k0_h39 : k0_cond39 arg20 v4690 = 1#1), 32 ∣ (k0_mult72 arg20 v4690).toNat) ∧
  (∀ (k0_h39 : k0_cond39 arg20 v4690 = 1#1), ∀ a, (k0_off127 v0 v5 v10 v15 v20 v25 v30 v35 v40 v45 v50 v55 k0_t1) a + S1.size a ≤ S6.size a) ∧
  (∀ (k0_h39 : k0_cond39 arg20 v4690 = 1#1), ∀ a, (k0_off128 v0 v5 v10 v15 v20 v25 v30 v35 v40 v45 v50 v55 k0_t1 arg20 v4690) a + S1x128x5120.size a ≤ S6x512x5120.size a) ∧
  (∀ (k0_h39 : k0_cond39 arg20 v4690 = 1#1), ∀ a, (k0_off129 arg19 arg20 v4690) a + S1x128x5120.size a ≤ S12x4096x5120.size a) ∧
  (∀ (k0_h39 : k0_cond39 arg20 v4690 = 1#1), ∀ (hinb : ∀ a, (k0_off129 arg19 arg20 v4690) a + S1x128x5120.size a ≤ S12x4096x5120.size a), (Rect.unit (s := S12x4096x5120) (k0_off129 arg19 arg20 v4690) S1x128x5120.size hinb).WholeWords (EltTy.packing .fp8e4m3)) ∧
  (∀ (k0_h39 : k0_cond39 arg20 v4690 = 1#1), ∀ (hinb : ∀ a, (k0_off128 v0 v5 v10 v15 v20 v25 v30 v35 v40 v45 v50 v55 k0_t1 arg20 v4690) a + S1x128x5120.size a ≤ S6x512x5120.size a), (Rect.unit (s := S6x512x5120) (k0_off128 v0 v5 v10 v15 v20 v25 v30 v35 v40 v45 v50 v55 k0_t1 arg20 v4690) S1x128x5120.size hinb).WholeWords (EltTy.packing .fp8e4m3)) ∧
  (∀ (k0_h40 : k0_cond40 arg20 v4690 = 1#1), 32 ∣ (k0_mult73 arg20 v4690).toNat) ∧
  (∀ (k0_h40 : k0_cond40 arg20 v4690 = 1#1), 32 ∣ (k0_mult74 arg20 v4690).toNat) ∧
  (∀ (k0_h40 : k0_cond40 arg20 v4690 = 1#1), ∀ a, (k0_off130 v0 v5 v10 v15 v20 v25 v30 v35 v40 v45 v50 v55 k0_t1) a + S1.size a ≤ S6.size a) ∧
  (∀ (k0_h40 : k0_cond40 arg20 v4690 = 1#1), ∀ a, (k0_off131 v0 v5 v10 v15 v20 v25 v30 v35 v40 v45 v50 v55 k0_t1 arg20 v4690) a + S1x64x5120.size a ≤ S6x512x5120.size a) ∧
  (∀ (k0_h40 : k0_cond40 arg20 v4690 = 1#1), ∀ a, (k0_off132 arg19 arg20 v4690) a + S1x64x5120.size a ≤ S12x4096x5120.size a) ∧
  (∀ (k0_h40 : k0_cond40 arg20 v4690 = 1#1), ∀ (hinb : ∀ a, (k0_off132 arg19 arg20 v4690) a + S1x64x5120.size a ≤ S12x4096x5120.size a), (Rect.unit (s := S12x4096x5120) (k0_off132 arg19 arg20 v4690) S1x64x5120.size hinb).WholeWords (EltTy.packing .fp8e4m3)) ∧
  (∀ (k0_h40 : k0_cond40 arg20 v4690 = 1#1), ∀ (hinb : ∀ a, (k0_off131 v0 v5 v10 v15 v20 v25 v30 v35 v40 v45 v50 v55 k0_t1 arg20 v4690) a + S1x64x5120.size a ≤ S6x512x5120.size a), (Rect.unit (s := S6x512x5120) (k0_off131 v0 v5 v10 v15 v20 v25 v30 v35 v40 v45 v50 v55 k0_t1 arg20 v4690) S1x64x5120.size hinb).WholeWords (EltTy.packing .fp8e4m3)) ∧
  (∀ (k0_h41 : k0_cond41 arg20 v4690 = 1#1), 32 ∣ (k0_mult75 arg20 v4690).toNat) ∧
  (∀ (k0_h41 : k0_cond41 arg20 v4690 = 1#1), 32 ∣ (k0_mult76 arg20 v4690).toNat) ∧
  (∀ (k0_h41 : k0_cond41 arg20 v4690 = 1#1), ∀ a, (k0_off133 v0 v5 v10 v15 v20 v25 v30 v35 v40 v45 v50 v55 k0_t1) a + S1.size a ≤ S6.size a) ∧
  (∀ (k0_h41 : k0_cond41 arg20 v4690 = 1#1), ∀ a, (k0_off134 v0 v5 v10 v15 v20 v25 v30 v35 v40 v45 v50 v55 k0_t1 arg20 v4690) a + S1x32x5120.size a ≤ S6x512x5120.size a)
def k0_chk15_1 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) : Prop :=
  (∀ (k0_h41 : k0_cond41 arg20 v4690 = 1#1), ∀ a, (k0_off135 arg19 arg20 v4690) a + S1x32x5120.size a ≤ S12x4096x5120.size a) ∧
  (∀ (k0_h41 : k0_cond41 arg20 v4690 = 1#1), ∀ (hinb : ∀ a, (k0_off135 arg19 arg20 v4690) a + S1x32x5120.size a ≤ S12x4096x5120.size a), (Rect.unit (s := S12x4096x5120) (k0_off135 arg19 arg20 v4690) S1x32x5120.size hinb).WholeWords (EltTy.packing .fp8e4m3)) ∧
  (∀ (k0_h41 : k0_cond41 arg20 v4690 = 1#1), ∀ (hinb : ∀ a, (k0_off134 v0 v5 v10 v15 v20 v25 v30 v35 v40 v45 v50 v55 k0_t1 arg20 v4690) a + S1x32x5120.size a ≤ S6x512x5120.size a), (Rect.unit (s := S6x512x5120) (k0_off134 v0 v5 v10 v15 v20 v25 v30 v35 v40 v45 v50 v55 k0_t1 arg20 v4690) S1x32x5120.size hinb).WholeWords (EltTy.packing .fp8e4m3))
def k0_chk15 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) : Prop :=
  k0_chk15_0 v0 v5 v10 v15 v20 v25 v30 v35 v40 v45 v50 v55 k0_t1 arg19 arg20 v4690 ∧
  k0_chk15_1 v0 v5 v10 v15 v20 v25 v30 v35 v40 v45 v50 v55 k0_t1 arg19 arg20 v4690
theorem k0_mult67_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h37 : k0_cond37 arg20 v4690 = 1#1), 32 ∣ (k0_mult67 arg20 v4690).toNat := fun v0 v5 v10 v15 v20 v25 v30 v35 v40 v45 v50 v55 k0_t1 arg19 arg20 v4690 k0_hw15 k0_h37 => k0_hw15.1.1 k0_h37
theorem k0_mult68_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h37 : k0_cond37 arg20 v4690 = 1#1), 32 ∣ (k0_mult68 arg20 v4690).toNat := fun v0 v5 v10 v15 v20 v25 v30 v35 v40 v45 v50 v55 k0_t1 arg19 arg20 v4690 k0_hw15 k0_h37 => k0_hw15.1.2.1 k0_h37
theorem k0_off121_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h37 : k0_cond37 arg20 v4690 = 1#1), ∀ a, (k0_off121 v0 v5 v10 v15 v20 v25 v30 v35 v40 v45 v50 v55 k0_t1) a + S1.size a ≤ S6.size a := fun v0 v5 v10 v15 v20 v25 v30 v35 v40 v45 v50 v55 k0_t1 arg19 arg20 v4690 k0_hw15 k0_h37 => k0_hw15.1.2.2.1 k0_h37
theorem k0_off122_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h37 : k0_cond37 arg20 v4690 = 1#1), ∀ a, (k0_off122 v0 v5 v10 v15 v20 v25 v30 v35 v40 v45 v50 v55 k0_t1 arg20 v4690) a + S1x512x5120.size a ≤ S6x512x5120.size a := fun v0 v5 v10 v15 v20 v25 v30 v35 v40 v45 v50 v55 k0_t1 arg19 arg20 v4690 k0_hw15 k0_h37 => k0_hw15.1.2.2.2.1 k0_h37
theorem k0_off123_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h37 : k0_cond37 arg20 v4690 = 1#1), ∀ a, (k0_off123 arg19 arg20 v4690) a + S1x512x5120.size a ≤ S12x4096x5120.size a := fun v0 v5 v10 v15 v20 v25 v30 v35 v40 v45 v50 v55 k0_t1 arg19 arg20 v4690 k0_hw15 k0_h37 => k0_hw15.1.2.2.2.2.1 k0_h37
theorem k0_off123_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h37 : k0_cond37 arg20 v4690 = 1#1), (Rect.unit (s := S12x4096x5120) (k0_off123 arg19 arg20 v4690) S1x512x5120.size (k0_off123_inb v0 v5 v10 v15 v20 v25 v30 v35 v40 v45 v50 v55 k0_t1 arg19 arg20 v4690 k0_hw15 k0_h37)).WholeWords (EltTy.packing .fp8e4m3) := fun v0 v5 v10 v15 v20 v25 v30 v35 v40 v45 v50 v55 k0_t1 arg19 arg20 v4690 k0_hw15 k0_h37 => k0_hw15.1.2.2.2.2.2.1 k0_h37 (k0_off123_inb v0 v5 v10 v15 v20 v25 v30 v35 v40 v45 v50 v55 k0_t1 arg19 arg20 v4690 k0_hw15 k0_h37)
theorem k0_off122_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h37 : k0_cond37 arg20 v4690 = 1#1), (Rect.unit (s := S6x512x5120) (k0_off122 v0 v5 v10 v15 v20 v25 v30 v35 v40 v45 v50 v55 k0_t1 arg20 v4690) S1x512x5120.size (k0_off122_inb v0 v5 v10 v15 v20 v25 v30 v35 v40 v45 v50 v55 k0_t1 arg19 arg20 v4690 k0_hw15 k0_h37)).WholeWords (EltTy.packing .fp8e4m3) := fun v0 v5 v10 v15 v20 v25 v30 v35 v40 v45 v50 v55 k0_t1 arg19 arg20 v4690 k0_hw15 k0_h37 => k0_hw15.1.2.2.2.2.2.2.1 k0_h37 (k0_off122_inb v0 v5 v10 v15 v20 v25 v30 v35 v40 v45 v50 v55 k0_t1 arg19 arg20 v4690 k0_hw15 k0_h37)
theorem k0_mult69_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h38 : k0_cond38 arg20 v4690 = 1#1), 32 ∣ (k0_mult69 arg20 v4690).toNat := fun v0 v5 v10 v15 v20 v25 v30 v35 v40 v45 v50 v55 k0_t1 arg19 arg20 v4690 k0_hw15 k0_h38 => k0_hw15.1.2.2.2.2.2.2.2.1 k0_h38
theorem k0_mult70_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h38 : k0_cond38 arg20 v4690 = 1#1), 32 ∣ (k0_mult70 arg20 v4690).toNat := fun v0 v5 v10 v15 v20 v25 v30 v35 v40 v45 v50 v55 k0_t1 arg19 arg20 v4690 k0_hw15 k0_h38 => k0_hw15.1.2.2.2.2.2.2.2.2.1 k0_h38
theorem k0_off124_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h38 : k0_cond38 arg20 v4690 = 1#1), ∀ a, (k0_off124 v0 v5 v10 v15 v20 v25 v30 v35 v40 v45 v50 v55 k0_t1) a + S1.size a ≤ S6.size a := fun v0 v5 v10 v15 v20 v25 v30 v35 v40 v45 v50 v55 k0_t1 arg19 arg20 v4690 k0_hw15 k0_h38 => k0_hw15.1.2.2.2.2.2.2.2.2.2.1 k0_h38
theorem k0_off125_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h38 : k0_cond38 arg20 v4690 = 1#1), ∀ a, (k0_off125 v0 v5 v10 v15 v20 v25 v30 v35 v40 v45 v50 v55 k0_t1 arg20 v4690) a + S1x256x5120.size a ≤ S6x512x5120.size a := fun v0 v5 v10 v15 v20 v25 v30 v35 v40 v45 v50 v55 k0_t1 arg19 arg20 v4690 k0_hw15 k0_h38 => k0_hw15.1.2.2.2.2.2.2.2.2.2.2.1 k0_h38
theorem k0_off126_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h38 : k0_cond38 arg20 v4690 = 1#1), ∀ a, (k0_off126 arg19 arg20 v4690) a + S1x256x5120.size a ≤ S12x4096x5120.size a := fun v0 v5 v10 v15 v20 v25 v30 v35 v40 v45 v50 v55 k0_t1 arg19 arg20 v4690 k0_hw15 k0_h38 => k0_hw15.1.2.2.2.2.2.2.2.2.2.2.2.1 k0_h38
theorem k0_off126_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h38 : k0_cond38 arg20 v4690 = 1#1), (Rect.unit (s := S12x4096x5120) (k0_off126 arg19 arg20 v4690) S1x256x5120.size (k0_off126_inb v0 v5 v10 v15 v20 v25 v30 v35 v40 v45 v50 v55 k0_t1 arg19 arg20 v4690 k0_hw15 k0_h38)).WholeWords (EltTy.packing .fp8e4m3) := fun v0 v5 v10 v15 v20 v25 v30 v35 v40 v45 v50 v55 k0_t1 arg19 arg20 v4690 k0_hw15 k0_h38 => k0_hw15.1.2.2.2.2.2.2.2.2.2.2.2.2.1 k0_h38 (k0_off126_inb v0 v5 v10 v15 v20 v25 v30 v35 v40 v45 v50 v55 k0_t1 arg19 arg20 v4690 k0_hw15 k0_h38)
theorem k0_off125_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h38 : k0_cond38 arg20 v4690 = 1#1), (Rect.unit (s := S6x512x5120) (k0_off125 v0 v5 v10 v15 v20 v25 v30 v35 v40 v45 v50 v55 k0_t1 arg20 v4690) S1x256x5120.size (k0_off125_inb v0 v5 v10 v15 v20 v25 v30 v35 v40 v45 v50 v55 k0_t1 arg19 arg20 v4690 k0_hw15 k0_h38)).WholeWords (EltTy.packing .fp8e4m3) := fun v0 v5 v10 v15 v20 v25 v30 v35 v40 v45 v50 v55 k0_t1 arg19 arg20 v4690 k0_hw15 k0_h38 => k0_hw15.1.2.2.2.2.2.2.2.2.2.2.2.2.2.1 k0_h38 (k0_off125_inb v0 v5 v10 v15 v20 v25 v30 v35 v40 v45 v50 v55 k0_t1 arg19 arg20 v4690 k0_hw15 k0_h38)
theorem k0_mult71_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h39 : k0_cond39 arg20 v4690 = 1#1), 32 ∣ (k0_mult71 arg20 v4690).toNat := fun v0 v5 v10 v15 v20 v25 v30 v35 v40 v45 v50 v55 k0_t1 arg19 arg20 v4690 k0_hw15 k0_h39 => k0_hw15.1.2.2.2.2.2.2.2.2.2.2.2.2.2.2.1 k0_h39
theorem k0_mult72_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h39 : k0_cond39 arg20 v4690 = 1#1), 32 ∣ (k0_mult72 arg20 v4690).toNat := fun v0 v5 v10 v15 v20 v25 v30 v35 v40 v45 v50 v55 k0_t1 arg19 arg20 v4690 k0_hw15 k0_h39 => k0_hw15.1.2.2.2.2.2.2.2.2.2.2.2.2.2.2.2.1 k0_h39
theorem k0_off127_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h39 : k0_cond39 arg20 v4690 = 1#1), ∀ a, (k0_off127 v0 v5 v10 v15 v20 v25 v30 v35 v40 v45 v50 v55 k0_t1) a + S1.size a ≤ S6.size a := fun v0 v5 v10 v15 v20 v25 v30 v35 v40 v45 v50 v55 k0_t1 arg19 arg20 v4690 k0_hw15 k0_h39 => k0_hw15.1.2.2.2.2.2.2.2.2.2.2.2.2.2.2.2.2.1 k0_h39
theorem k0_off128_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h39 : k0_cond39 arg20 v4690 = 1#1), ∀ a, (k0_off128 v0 v5 v10 v15 v20 v25 v30 v35 v40 v45 v50 v55 k0_t1 arg20 v4690) a + S1x128x5120.size a ≤ S6x512x5120.size a := fun v0 v5 v10 v15 v20 v25 v30 v35 v40 v45 v50 v55 k0_t1 arg19 arg20 v4690 k0_hw15 k0_h39 => k0_hw15.1.2.2.2.2.2.2.2.2.2.2.2.2.2.2.2.2.2.1 k0_h39
theorem k0_off129_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h39 : k0_cond39 arg20 v4690 = 1#1), ∀ a, (k0_off129 arg19 arg20 v4690) a + S1x128x5120.size a ≤ S12x4096x5120.size a := fun v0 v5 v10 v15 v20 v25 v30 v35 v40 v45 v50 v55 k0_t1 arg19 arg20 v4690 k0_hw15 k0_h39 => k0_hw15.1.2.2.2.2.2.2.2.2.2.2.2.2.2.2.2.2.2.2.1 k0_h39
theorem k0_off129_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h39 : k0_cond39 arg20 v4690 = 1#1), (Rect.unit (s := S12x4096x5120) (k0_off129 arg19 arg20 v4690) S1x128x5120.size (k0_off129_inb v0 v5 v10 v15 v20 v25 v30 v35 v40 v45 v50 v55 k0_t1 arg19 arg20 v4690 k0_hw15 k0_h39)).WholeWords (EltTy.packing .fp8e4m3) := fun v0 v5 v10 v15 v20 v25 v30 v35 v40 v45 v50 v55 k0_t1 arg19 arg20 v4690 k0_hw15 k0_h39 => k0_hw15.1.2.2.2.2.2.2.2.2.2.2.2.2.2.2.2.2.2.2.2.1 k0_h39 (k0_off129_inb v0 v5 v10 v15 v20 v25 v30 v35 v40 v45 v50 v55 k0_t1 arg19 arg20 v4690 k0_hw15 k0_h39)
theorem k0_off128_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h39 : k0_cond39 arg20 v4690 = 1#1), (Rect.unit (s := S6x512x5120) (k0_off128 v0 v5 v10 v15 v20 v25 v30 v35 v40 v45 v50 v55 k0_t1 arg20 v4690) S1x128x5120.size (k0_off128_inb v0 v5 v10 v15 v20 v25 v30 v35 v40 v45 v50 v55 k0_t1 arg19 arg20 v4690 k0_hw15 k0_h39)).WholeWords (EltTy.packing .fp8e4m3) := fun v0 v5 v10 v15 v20 v25 v30 v35 v40 v45 v50 v55 k0_t1 arg19 arg20 v4690 k0_hw15 k0_h39 => k0_hw15.1.2.2.2.2.2.2.2.2.2.2.2.2.2.2.2.2.2.2.2.2.1 k0_h39 (k0_off128_inb v0 v5 v10 v15 v20 v25 v30 v35 v40 v45 v50 v55 k0_t1 arg19 arg20 v4690 k0_hw15 k0_h39)
theorem k0_mult73_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h40 : k0_cond40 arg20 v4690 = 1#1), 32 ∣ (k0_mult73 arg20 v4690).toNat := fun v0 v5 v10 v15 v20 v25 v30 v35 v40 v45 v50 v55 k0_t1 arg19 arg20 v4690 k0_hw15 k0_h40 => k0_hw15.1.2.2.2.2.2.2.2.2.2.2.2.2.2.2.2.2.2.2.2.2.2.1 k0_h40
theorem k0_mult74_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h40 : k0_cond40 arg20 v4690 = 1#1), 32 ∣ (k0_mult74 arg20 v4690).toNat := fun v0 v5 v10 v15 v20 v25 v30 v35 v40 v45 v50 v55 k0_t1 arg19 arg20 v4690 k0_hw15 k0_h40 => k0_hw15.1.2.2.2.2.2.2.2.2.2.2.2.2.2.2.2.2.2.2.2.2.2.2.1 k0_h40
theorem k0_off130_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h40 : k0_cond40 arg20 v4690 = 1#1), ∀ a, (k0_off130 v0 v5 v10 v15 v20 v25 v30 v35 v40 v45 v50 v55 k0_t1) a + S1.size a ≤ S6.size a := fun v0 v5 v10 v15 v20 v25 v30 v35 v40 v45 v50 v55 k0_t1 arg19 arg20 v4690 k0_hw15 k0_h40 => k0_hw15.1.2.2.2.2.2.2.2.2.2.2.2.2.2.2.2.2.2.2.2.2.2.2.2.1 k0_h40
theorem k0_off131_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h40 : k0_cond40 arg20 v4690 = 1#1), ∀ a, (k0_off131 v0 v5 v10 v15 v20 v25 v30 v35 v40 v45 v50 v55 k0_t1 arg20 v4690) a + S1x64x5120.size a ≤ S6x512x5120.size a := fun v0 v5 v10 v15 v20 v25 v30 v35 v40 v45 v50 v55 k0_t1 arg19 arg20 v4690 k0_hw15 k0_h40 => k0_hw15.1.2.2.2.2.2.2.2.2.2.2.2.2.2.2.2.2.2.2.2.2.2.2.2.2.1 k0_h40
theorem k0_off132_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h40 : k0_cond40 arg20 v4690 = 1#1), ∀ a, (k0_off132 arg19 arg20 v4690) a + S1x64x5120.size a ≤ S12x4096x5120.size a := fun v0 v5 v10 v15 v20 v25 v30 v35 v40 v45 v50 v55 k0_t1 arg19 arg20 v4690 k0_hw15 k0_h40 => k0_hw15.1.2.2.2.2.2.2.2.2.2.2.2.2.2.2.2.2.2.2.2.2.2.2.2.2.2.1 k0_h40
theorem k0_off132_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h40 : k0_cond40 arg20 v4690 = 1#1), (Rect.unit (s := S12x4096x5120) (k0_off132 arg19 arg20 v4690) S1x64x5120.size (k0_off132_inb v0 v5 v10 v15 v20 v25 v30 v35 v40 v45 v50 v55 k0_t1 arg19 arg20 v4690 k0_hw15 k0_h40)).WholeWords (EltTy.packing .fp8e4m3) := fun v0 v5 v10 v15 v20 v25 v30 v35 v40 v45 v50 v55 k0_t1 arg19 arg20 v4690 k0_hw15 k0_h40 => k0_hw15.1.2.2.2.2.2.2.2.2.2.2.2.2.2.2.2.2.2.2.2.2.2.2.2.2.2.2.1 k0_h40 (k0_off132_inb v0 v5 v10 v15 v20 v25 v30 v35 v40 v45 v50 v55 k0_t1 arg19 arg20 v4690 k0_hw15 k0_h40)
theorem k0_off131_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h40 : k0_cond40 arg20 v4690 = 1#1), (Rect.unit (s := S6x512x5120) (k0_off131 v0 v5 v10 v15 v20 v25 v30 v35 v40 v45 v50 v55 k0_t1 arg20 v4690) S1x64x5120.size (k0_off131_inb v0 v5 v10 v15 v20 v25 v30 v35 v40 v45 v50 v55 k0_t1 arg19 arg20 v4690 k0_hw15 k0_h40)).WholeWords (EltTy.packing .fp8e4m3) := fun v0 v5 v10 v15 v20 v25 v30 v35 v40 v45 v50 v55 k0_t1 arg19 arg20 v4690 k0_hw15 k0_h40 => k0_hw15.1.2.2.2.2.2.2.2.2.2.2.2.2.2.2.2.2.2.2.2.2.2.2.2.2.2.2.2.1 k0_h40 (k0_off131_inb v0 v5 v10 v15 v20 v25 v30 v35 v40 v45 v50 v55 k0_t1 arg19 arg20 v4690 k0_hw15 k0_h40)
theorem k0_mult75_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h41 : k0_cond41 arg20 v4690 = 1#1), 32 ∣ (k0_mult75 arg20 v4690).toNat := fun v0 v5 v10 v15 v20 v25 v30 v35 v40 v45 v50 v55 k0_t1 arg19 arg20 v4690 k0_hw15 k0_h41 => k0_hw15.1.2.2.2.2.2.2.2.2.2.2.2.2.2.2.2.2.2.2.2.2.2.2.2.2.2.2.2.2.1 k0_h41
theorem k0_mult76_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h41 : k0_cond41 arg20 v4690 = 1#1), 32 ∣ (k0_mult76 arg20 v4690).toNat := fun v0 v5 v10 v15 v20 v25 v30 v35 v40 v45 v50 v55 k0_t1 arg19 arg20 v4690 k0_hw15 k0_h41 => k0_hw15.1.2.2.2.2.2.2.2.2.2.2.2.2.2.2.2.2.2.2.2.2.2.2.2.2.2.2.2.2.2.1 k0_h41
theorem k0_off133_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h41 : k0_cond41 arg20 v4690 = 1#1), ∀ a, (k0_off133 v0 v5 v10 v15 v20 v25 v30 v35 v40 v45 v50 v55 k0_t1) a + S1.size a ≤ S6.size a := fun v0 v5 v10 v15 v20 v25 v30 v35 v40 v45 v50 v55 k0_t1 arg19 arg20 v4690 k0_hw15 k0_h41 => k0_hw15.1.2.2.2.2.2.2.2.2.2.2.2.2.2.2.2.2.2.2.2.2.2.2.2.2.2.2.2.2.2.2.1 k0_h41
theorem k0_off134_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h41 : k0_cond41 arg20 v4690 = 1#1), ∀ a, (k0_off134 v0 v5 v10 v15 v20 v25 v30 v35 v40 v45 v50 v55 k0_t1 arg20 v4690) a + S1x32x5120.size a ≤ S6x512x5120.size a := fun v0 v5 v10 v15 v20 v25 v30 v35 v40 v45 v50 v55 k0_t1 arg19 arg20 v4690 k0_hw15 k0_h41 => k0_hw15.1.2.2.2.2.2.2.2.2.2.2.2.2.2.2.2.2.2.2.2.2.2.2.2.2.2.2.2.2.2.2.2 k0_h41
theorem k0_off135_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h41 : k0_cond41 arg20 v4690 = 1#1), ∀ a, (k0_off135 arg19 arg20 v4690) a + S1x32x5120.size a ≤ S12x4096x5120.size a := fun v0 v5 v10 v15 v20 v25 v30 v35 v40 v45 v50 v55 k0_t1 arg19 arg20 v4690 k0_hw15 k0_h41 => k0_hw15.2.1 k0_h41
theorem k0_off135_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h41 : k0_cond41 arg20 v4690 = 1#1), (Rect.unit (s := S12x4096x5120) (k0_off135 arg19 arg20 v4690) S1x32x5120.size (k0_off135_inb v0 v5 v10 v15 v20 v25 v30 v35 v40 v45 v50 v55 k0_t1 arg19 arg20 v4690 k0_hw15 k0_h41)).WholeWords (EltTy.packing .fp8e4m3) := fun v0 v5 v10 v15 v20 v25 v30 v35 v40 v45 v50 v55 k0_t1 arg19 arg20 v4690 k0_hw15 k0_h41 => k0_hw15.2.2.1 k0_h41 (k0_off135_inb v0 v5 v10 v15 v20 v25 v30 v35 v40 v45 v50 v55 k0_t1 arg19 arg20 v4690 k0_hw15 k0_h41)
theorem k0_off134_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) (arg19 : BitVec 32) (arg20 : BitVec 32) (v4690 : BitVec 32) (k0_hw15 : k0_chk15 v0 v5 v10 v15 v20 v25 v30 v35 v40 v45 v50 v55 k0_t1 arg19 arg20 v4690), ∀ (k0_h41 : k0_cond41 arg20 v4690 = 1#1), (Rect.unit (s := S6x512x5120) (k0_off134 v0 v5 v10 v15 v20 v25 v30 v35 v40 v45 v50 v55 k0_t1 arg20 v4690) S1x32x5120.size (k0_off134_inb v0 v5 v10 v15 v20 v25 v30 v35 v40 v45 v50 v55 k0_t1 arg19 arg20 v4690 k0_hw15 k0_h41)).WholeWords (EltTy.packing .fp8e4m3) := fun v0 v5 v10 v15 v20 v25 v30 v35 v40 v45 v50 v55 k0_t1 arg19 arg20 v4690 k0_hw15 k0_h41 => k0_hw15.2.2.2 k0_h41 (k0_off134_inb v0 v5 v10 v15 v20 v25 v30 v35 v40 v45 v50 v55 k0_t1 arg19 arg20 v4690 k0_hw15 k0_h41)

def k0_mult77 (arg20 : BitVec 32) : BitVec 32 :=
  let c512_i32_2235 : BitVec 32 := 512#32
  let v4697 : BitVec 32 := Scalar.muli arg20 c512_i32_2235
  v4697

def k0_off136 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 1 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  ![v4674.toNat]
def k0_off137 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 3 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  let c0_i32_2250 : BitVec 32 := 0#32
  let c0_i32_2251 : BitVec 32 := 0#32
  ![v4674.toNat, 0, 0]
def k0_off138 (arg19 : BitVec 32) (arg20 : BitVec 32) : Fin 3 → Nat :=
  let c0_i32_2252 : BitVec 32 := 0#32
  let c512_i32_2235 : BitVec 32 := 512#32
  let v4697 : BitVec 32 := Scalar.muli arg20 c512_i32_2235
  let v4718 : BitVec 32 := v4697
  ![arg19.toNat, 0, v4718.toNat]
def k0_off139 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 3 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  let v4725 : Index := Scalar.indexCast v4674
  let c0_2253 : Index := 0#32
  let c0_2254 : Index := 0#32
  ![v4725.toNat, 0, 0]
def k0_off140 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 3 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  let v4732 : Index := Scalar.indexCast v4674
  let c0_2258 : Index := 0#32
  let c0_2259 : Index := 0#32
  ![v4732.toNat, 0, 0]
def k0_off141 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 3 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  let v4745 : Index := Scalar.indexCast v4674
  let c0_2263 : Index := 0#32
  let c1280_2264 : Index := 1280#32
  ![v4745.toNat, 0, 1280]
def k0_off142 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 3 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  let v4758 : Index := Scalar.indexCast v4674
  let c0_2268 : Index := 0#32
  let c2560_2269 : Index := 2560#32
  ![v4758.toNat, 0, 2560]
def k0_off143 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t1 : Fin (k0_t1_loop v0 v5 v10 v15 v20 v25 v30 v35 v40 v45 v50 v55).trips) : Fin 3 → Nat :=
  let c0_i32_196 : BitVec 32 := 0#32
  let c1_i32_200 : BitVec 32 := 1#32
  let arg18 : BitVec 32 := Scf.iv c0_i32_196 c1_i32_200 k0_t1
  let c6_i32_2223 : BitVec 32 := 6#32
  let v4674 : BitVec 32 := Scalar.remsi arg18 c6_i32_2223
  let v4771 : Index := Scalar.indexCast v4674
  let c0_2273 : Index := 0#32
  let c3840_2274 : Index := 3840#32
  ![v4771.toNat, 0, 3840]
def k0_mult78 (arg20 : BitVec 32) : BitVec 32 :=
  let c512_i32_2279 : BitVec 32 := 512#32
  let v4791 : BitVec 32 := Scalar.muli arg20 c512_i32_2279
  v4791
def k0_off144 (arg19 : BitVec 32) (arg20 : BitVec 32) : Fin 2 → Nat :=
  let v4793 : Index := Scalar.indexCast arg19
  let c512_i32_2279 : BitVec 32 := 512#32
  let v4791 : BitVec 32 := Scalar.muli arg20 c512_i32_2279
  let v4792 : BitVec 32 := v4791
  let v4794 : Index := Scalar.indexCast v4792
  ![v4793.toNat, v4794.toNat]

def k0_chk16 (arg19 : BitVec 32) (arg20 : BitVec 32) : Prop :=
  (128 ∣ (k0_mult77 arg20).toNat) ∧
  (∀ a, (k0_off138 arg19 arg20) a + S1x40x512.size a ≤ S12x40x4096.size a) ∧
  (512 ∣ (k0_mult78 arg20).toNat) ∧
  (∀ a, (k0_off144 arg19 arg20) a + S1x512.size a ≤ S12x4096.size a)
theorem k0_mult77_dvd : ∀ (arg19 : BitVec 32) (arg20 : BitVec 32) (k0_hw16 : k0_chk16 arg19 arg20), 128 ∣ (k0_mult77 arg20).toNat := fun arg19 arg20 k0_hw16 => k0_hw16.1
theorem k0_off138_inb : ∀ (arg19 : BitVec 32) (arg20 : BitVec 32) (k0_hw16 : k0_chk16 arg19 arg20), ∀ a, (k0_off138 arg19 arg20) a + S1x40x512.size a ≤ S12x40x4096.size a := fun arg19 arg20 k0_hw16 => k0_hw16.2.1
theorem k0_mult78_dvd : ∀ (arg19 : BitVec 32) (arg20 : BitVec 32) (k0_hw16 : k0_chk16 arg19 arg20), 512 ∣ (k0_mult78 arg20).toNat := fun arg19 arg20 k0_hw16 => k0_hw16.2.2.1
theorem k0_off144_inb : ∀ (arg19 : BitVec 32) (arg20 : BitVec 32) (k0_hw16 : k0_chk16 arg19 arg20), ∀ a, (k0_off144 arg19 arg20) a + S1x512.size a ≤ S12x4096.size a := fun arg19 arg20 k0_hw16 => k0_hw16.2.2.2

def k0_off145 (arg19 : BitVec 32) : Fin 1 → Nat :=
  let c11_i32_2282 : BitVec 32 := 11#32
  let v4800 : BitVec 32 := Scalar.minsi arg19 c11_i32_2282
  let v4801 : Index := Scalar.indexCast v4800
  ![v4801.toNat]

def k0_chk14 (arg19 : BitVec 32) : Prop :=
  (∀ a, (k0_off120 arg19) a + S1.size a ≤ S12.size a) ∧
  (∀ a, (k0_off145 arg19) a + S1.size a ≤ S12.size a)
theorem k0_off120_inb : ∀ (arg19 : BitVec 32) (k0_hw14 : k0_chk14 arg19), ∀ a, (k0_off120 arg19) a + S1.size a ≤ S12.size a := fun arg19 k0_hw14 => k0_hw14.1
theorem k0_off145_inb : ∀ (arg19 : BitVec 32) (k0_hw14 : k0_chk14 arg19), ∀ a, (k0_off145 arg19) a + S1.size a ≤ S12.size a := fun arg19 k0_hw14 => k0_hw14.2

@[reducible] def k0_t2_loop (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) : Scf.Loop 32 :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let v494 : BitVec 32 := Scalar.addi c0_i32_196 v493
  let c1_i32_201 : BitVec 32 := 1#32
  ⟨v497, v494, c1_i32_201⟩
def k0_off146 (arg21 : BitVec 32) : Fin 1 → Nat :=
  let v4809 : Index := Scalar.indexCast arg21
  ![v4809.toNat]
def k0_cond42 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : BitVec 1 :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c5_i32_2224 : BitVec 32 := 5#32
  let v4675 : BitVec 32 := Scalar.addi arg18 c5_i32_2224
  let v4676 : BitVec 1 := Scalar.cmpi .slt v4675 v59
  let v4677 : BitVec 32 := Scalar.extui v4676
  let c0_i32_2225 : BitVec 32 := 0#32
  let v4678 : BitVec 1 := Scalar.cmpi .ne v4677 c0_i32_2225
  v4678

def k0_mult79 (arg22 : BitVec 32) (v4810 : BitVec 32) : BitVec 32 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m1024_i32 : BitVec 32 := 4294966272#32
  let v4845 : BitVec 32 := Scalar.andi v4816 c_m1024_i32
  v4845
def k0_cond43 (arg22 : BitVec 32) (v4810 : BitVec 32) : BitVec 1 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c512_i32_2293 : BitVec 32 := 512#32
  let v4818 : BitVec 32 := Scalar.andi v4816 c512_i32_2293
  let c0_i32_2294 : BitVec 32 := 0#32
  let v4819 : BitVec 1 := Scalar.cmpi .ne v4818 c0_i32_2294
  let v4820 : BitVec 32 := Scalar.extui v4819
  let c0_i32_2295 : BitVec 32 := 0#32
  let v4821 : BitVec 1 := Scalar.cmpi .ne v4820 c0_i32_2295
  v4821

def k0_mult80 (arg22 : BitVec 32) (v4810 : BitVec 32) : BitVec 32 :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m1024_i32 : BitVec 32 := 4294966272#32
  let v4845 : BitVec 32 := Scalar.andi v4816 c_m1024_i32
  let v4846 : BitVec 32 := v4845
  let v4847 : BitVec 32 := Scalar.addi v4817 v4846
  v4847
def k0_off147 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 1 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c5_i32_2224 : BitVec 32 := 5#32
  let v4675 : BitVec 32 := Scalar.addi arg18 c5_i32_2224
  let c6_i32_2286 : BitVec 32 := 6#32
  let v4808 : BitVec 32 := Scalar.remsi v4675 c6_i32_2286
  ![v4808.toNat]
def k0_off148 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg22 : BitVec 32) (v4810 : BitVec 32) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c5_i32_2224 : BitVec 32 := 5#32
  let v4675 : BitVec 32 := Scalar.addi arg18 c5_i32_2224
  let c6_i32_2286 : BitVec 32 := 6#32
  let v4808 : BitVec 32 := Scalar.remsi v4675 c6_i32_2286
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m1024_i32 : BitVec 32 := 4294966272#32
  let v4845 : BitVec 32 := Scalar.andi v4816 c_m1024_i32
  let v4846 : BitVec 32 := v4845
  let c0_i32_2311 : BitVec 32 := 0#32
  ![v4808.toNat, v4846.toNat, 0]
def k0_off149 (arg21 : BitVec 32) (arg22 : BitVec 32) (v4810 : BitVec 32) : Fin 3 → Nat :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m1024_i32 : BitVec 32 := 4294966272#32
  let v4845 : BitVec 32 := Scalar.andi v4816 c_m1024_i32
  let v4846 : BitVec 32 := v4845
  let v4847 : BitVec 32 := Scalar.addi v4817 v4846
  let v4848 : BitVec 32 := v4847
  let c0_i32_2312 : BitVec 32 := 0#32
  ![arg21.toNat, v4848.toNat, 0]
def k0_mult81 (arg22 : BitVec 32) (v4810 : BitVec 32) : BitVec 32 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m512_i32 : BitVec 32 := 4294966784#32
  let v4845 : BitVec 32 := Scalar.andi v4816 c_m512_i32
  v4845
def k0_cond44 (arg22 : BitVec 32) (v4810 : BitVec 32) : BitVec 1 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c256_i32_2296 : BitVec 32 := 256#32
  let v4822 : BitVec 32 := Scalar.andi v4816 c256_i32_2296
  let c0_i32_2297 : BitVec 32 := 0#32
  let v4823 : BitVec 1 := Scalar.cmpi .ne v4822 c0_i32_2297
  let v4824 : BitVec 32 := Scalar.extui v4823
  let c0_i32_2298 : BitVec 32 := 0#32
  let v4825 : BitVec 1 := Scalar.cmpi .ne v4824 c0_i32_2298
  v4825

def k0_mult82 (arg22 : BitVec 32) (v4810 : BitVec 32) : BitVec 32 :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m512_i32 : BitVec 32 := 4294966784#32
  let v4845 : BitVec 32 := Scalar.andi v4816 c_m512_i32
  let v4846 : BitVec 32 := v4845
  let v4847 : BitVec 32 := Scalar.addi v4817 v4846
  v4847
def k0_off150 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 1 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c5_i32_2224 : BitVec 32 := 5#32
  let v4675 : BitVec 32 := Scalar.addi arg18 c5_i32_2224
  let c6_i32_2286 : BitVec 32 := 6#32
  let v4808 : BitVec 32 := Scalar.remsi v4675 c6_i32_2286
  ![v4808.toNat]
def k0_off151 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg22 : BitVec 32) (v4810 : BitVec 32) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c5_i32_2224 : BitVec 32 := 5#32
  let v4675 : BitVec 32 := Scalar.addi arg18 c5_i32_2224
  let c6_i32_2286 : BitVec 32 := 6#32
  let v4808 : BitVec 32 := Scalar.remsi v4675 c6_i32_2286
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m512_i32 : BitVec 32 := 4294966784#32
  let v4845 : BitVec 32 := Scalar.andi v4816 c_m512_i32
  let v4846 : BitVec 32 := v4845
  let c0_i32_2311 : BitVec 32 := 0#32
  ![v4808.toNat, v4846.toNat, 0]
def k0_off152 (arg21 : BitVec 32) (arg22 : BitVec 32) (v4810 : BitVec 32) : Fin 3 → Nat :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m512_i32 : BitVec 32 := 4294966784#32
  let v4845 : BitVec 32 := Scalar.andi v4816 c_m512_i32
  let v4846 : BitVec 32 := v4845
  let v4847 : BitVec 32 := Scalar.addi v4817 v4846
  let v4848 : BitVec 32 := v4847
  let c0_i32_2312 : BitVec 32 := 0#32
  ![arg21.toNat, v4848.toNat, 0]
def k0_mult83 (arg22 : BitVec 32) (v4810 : BitVec 32) : BitVec 32 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m256_i32 : BitVec 32 := 4294967040#32
  let v4845 : BitVec 32 := Scalar.andi v4816 c_m256_i32
  v4845
def k0_cond45 (arg22 : BitVec 32) (v4810 : BitVec 32) : BitVec 1 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c128_i32_2299 : BitVec 32 := 128#32
  let v4826 : BitVec 32 := Scalar.andi v4816 c128_i32_2299
  let c0_i32_2300 : BitVec 32 := 0#32
  let v4827 : BitVec 1 := Scalar.cmpi .ne v4826 c0_i32_2300
  let v4828 : BitVec 32 := Scalar.extui v4827
  let c0_i32_2301 : BitVec 32 := 0#32
  let v4829 : BitVec 1 := Scalar.cmpi .ne v4828 c0_i32_2301
  v4829

def k0_mult84 (arg22 : BitVec 32) (v4810 : BitVec 32) : BitVec 32 :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m256_i32 : BitVec 32 := 4294967040#32
  let v4845 : BitVec 32 := Scalar.andi v4816 c_m256_i32
  let v4846 : BitVec 32 := v4845
  let v4847 : BitVec 32 := Scalar.addi v4817 v4846
  v4847
def k0_off153 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 1 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c5_i32_2224 : BitVec 32 := 5#32
  let v4675 : BitVec 32 := Scalar.addi arg18 c5_i32_2224
  let c6_i32_2286 : BitVec 32 := 6#32
  let v4808 : BitVec 32 := Scalar.remsi v4675 c6_i32_2286
  ![v4808.toNat]
def k0_off154 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg22 : BitVec 32) (v4810 : BitVec 32) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c5_i32_2224 : BitVec 32 := 5#32
  let v4675 : BitVec 32 := Scalar.addi arg18 c5_i32_2224
  let c6_i32_2286 : BitVec 32 := 6#32
  let v4808 : BitVec 32 := Scalar.remsi v4675 c6_i32_2286
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m256_i32 : BitVec 32 := 4294967040#32
  let v4845 : BitVec 32 := Scalar.andi v4816 c_m256_i32
  let v4846 : BitVec 32 := v4845
  let c0_i32_2311 : BitVec 32 := 0#32
  ![v4808.toNat, v4846.toNat, 0]
def k0_off155 (arg21 : BitVec 32) (arg22 : BitVec 32) (v4810 : BitVec 32) : Fin 3 → Nat :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m256_i32 : BitVec 32 := 4294967040#32
  let v4845 : BitVec 32 := Scalar.andi v4816 c_m256_i32
  let v4846 : BitVec 32 := v4845
  let v4847 : BitVec 32 := Scalar.addi v4817 v4846
  let v4848 : BitVec 32 := v4847
  let c0_i32_2312 : BitVec 32 := 0#32
  ![arg21.toNat, v4848.toNat, 0]
def k0_mult85 (arg22 : BitVec 32) (v4810 : BitVec 32) : BitVec 32 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m128_i32 : BitVec 32 := 4294967168#32
  let v4845 : BitVec 32 := Scalar.andi v4816 c_m128_i32
  v4845
def k0_cond46 (arg22 : BitVec 32) (v4810 : BitVec 32) : BitVec 1 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c64_i32_2302 : BitVec 32 := 64#32
  let v4830 : BitVec 32 := Scalar.andi v4816 c64_i32_2302
  let c0_i32_2303 : BitVec 32 := 0#32
  let v4831 : BitVec 1 := Scalar.cmpi .ne v4830 c0_i32_2303
  let v4832 : BitVec 32 := Scalar.extui v4831
  let c0_i32_2304 : BitVec 32 := 0#32
  let v4833 : BitVec 1 := Scalar.cmpi .ne v4832 c0_i32_2304
  v4833

def k0_mult86 (arg22 : BitVec 32) (v4810 : BitVec 32) : BitVec 32 :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m128_i32 : BitVec 32 := 4294967168#32
  let v4845 : BitVec 32 := Scalar.andi v4816 c_m128_i32
  let v4846 : BitVec 32 := v4845
  let v4847 : BitVec 32 := Scalar.addi v4817 v4846
  v4847
def k0_off156 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 1 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c5_i32_2224 : BitVec 32 := 5#32
  let v4675 : BitVec 32 := Scalar.addi arg18 c5_i32_2224
  let c6_i32_2286 : BitVec 32 := 6#32
  let v4808 : BitVec 32 := Scalar.remsi v4675 c6_i32_2286
  ![v4808.toNat]
def k0_off157 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg22 : BitVec 32) (v4810 : BitVec 32) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c5_i32_2224 : BitVec 32 := 5#32
  let v4675 : BitVec 32 := Scalar.addi arg18 c5_i32_2224
  let c6_i32_2286 : BitVec 32 := 6#32
  let v4808 : BitVec 32 := Scalar.remsi v4675 c6_i32_2286
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m128_i32 : BitVec 32 := 4294967168#32
  let v4845 : BitVec 32 := Scalar.andi v4816 c_m128_i32
  let v4846 : BitVec 32 := v4845
  let c0_i32_2311 : BitVec 32 := 0#32
  ![v4808.toNat, v4846.toNat, 0]
def k0_off158 (arg21 : BitVec 32) (arg22 : BitVec 32) (v4810 : BitVec 32) : Fin 3 → Nat :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m128_i32 : BitVec 32 := 4294967168#32
  let v4845 : BitVec 32 := Scalar.andi v4816 c_m128_i32
  let v4846 : BitVec 32 := v4845
  let v4847 : BitVec 32 := Scalar.addi v4817 v4846
  let v4848 : BitVec 32 := v4847
  let c0_i32_2312 : BitVec 32 := 0#32
  ![arg21.toNat, v4848.toNat, 0]
def k0_mult87 (arg22 : BitVec 32) (v4810 : BitVec 32) : BitVec 32 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m64_i32 : BitVec 32 := 4294967232#32
  let v4845 : BitVec 32 := Scalar.andi v4816 c_m64_i32
  v4845
def k0_cond47 (arg22 : BitVec 32) (v4810 : BitVec 32) : BitVec 1 :=
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c32_i32_2305 : BitVec 32 := 32#32
  let v4834 : BitVec 32 := Scalar.andi v4816 c32_i32_2305
  let c0_i32_2306 : BitVec 32 := 0#32
  let v4835 : BitVec 1 := Scalar.cmpi .ne v4834 c0_i32_2306
  let v4836 : BitVec 32 := Scalar.extui v4835
  let c0_i32_2307 : BitVec 32 := 0#32
  let v4837 : BitVec 1 := Scalar.cmpi .ne v4836 c0_i32_2307
  v4837

def k0_mult88 (arg22 : BitVec 32) (v4810 : BitVec 32) : BitVec 32 :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m64_i32 : BitVec 32 := 4294967232#32
  let v4845 : BitVec 32 := Scalar.andi v4816 c_m64_i32
  let v4846 : BitVec 32 := v4845
  let v4847 : BitVec 32 := Scalar.addi v4817 v4846
  v4847
def k0_off159 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 1 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c5_i32_2224 : BitVec 32 := 5#32
  let v4675 : BitVec 32 := Scalar.addi arg18 c5_i32_2224
  let c6_i32_2286 : BitVec 32 := 6#32
  let v4808 : BitVec 32 := Scalar.remsi v4675 c6_i32_2286
  ![v4808.toNat]
def k0_off160 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg22 : BitVec 32) (v4810 : BitVec 32) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c5_i32_2224 : BitVec 32 := 5#32
  let v4675 : BitVec 32 := Scalar.addi arg18 c5_i32_2224
  let c6_i32_2286 : BitVec 32 := 6#32
  let v4808 : BitVec 32 := Scalar.remsi v4675 c6_i32_2286
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m64_i32 : BitVec 32 := 4294967232#32
  let v4845 : BitVec 32 := Scalar.andi v4816 c_m64_i32
  let v4846 : BitVec 32 := v4845
  let c0_i32_2311 : BitVec 32 := 0#32
  ![v4808.toNat, v4846.toNat, 0]
def k0_off161 (arg21 : BitVec 32) (arg22 : BitVec 32) (v4810 : BitVec 32) : Fin 3 → Nat :=
  let c512_i32_2292 : BitVec 32 := 512#32
  let v4817 : BitVec 32 := Scalar.muli arg22 c512_i32_2292
  let c512_i32_2289 : BitVec 32 := 512#32
  let c0_i32_2288 : BitVec 32 := 0#32
  let c512_i32_2287 : BitVec 32 := 512#32
  let v4811 : BitVec 32 := Scalar.muli arg22 c512_i32_2287
  let v4812 : BitVec 32 := Scalar.subi v4810 v4811
  let v4813 : BitVec 32 := Scalar.maxsi c0_i32_2288 v4812
  let v4814 : BitVec 32 := Scalar.minsi c512_i32_2289 v4813
  let c31_i32_2290 : BitVec 32 := 31#32
  let v4815 : BitVec 32 := Scalar.addi v4814 c31_i32_2290
  let c_m32_i32_2291 : BitVec 32 := 4294967264#32
  let v4816 : BitVec 32 := Scalar.andi v4815 c_m32_i32_2291
  let c_m64_i32 : BitVec 32 := 4294967232#32
  let v4845 : BitVec 32 := Scalar.andi v4816 c_m64_i32
  let v4846 : BitVec 32 := v4845
  let v4847 : BitVec 32 := Scalar.addi v4817 v4846
  let v4848 : BitVec 32 := v4847
  let c0_i32_2312 : BitVec 32 := 0#32
  ![arg21.toNat, v4848.toNat, 0]

def k0_chk18_0 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) : Prop :=
  (∀ (k0_h42 : k0_cond42 v0 v5 v10 v15 v20 v25 v30 v35 v40 v45 v50 v55 k0_t2 = 1#1), ∀ (k0_h43 : k0_cond43 arg22 v4810 = 1#1), 32 ∣ (k0_mult79 arg22 v4810).toNat) ∧
  (∀ (k0_h42 : k0_cond42 v0 v5 v10 v15 v20 v25 v30 v35 v40 v45 v50 v55 k0_t2 = 1#1), ∀ (k0_h43 : k0_cond43 arg22 v4810 = 1#1), 32 ∣ (k0_mult80 arg22 v4810).toNat) ∧
  (∀ (k0_h42 : k0_cond42 v0 v5 v10 v15 v20 v25 v30 v35 v40 v45 v50 v55 k0_t2 = 1#1), ∀ (k0_h43 : k0_cond43 arg22 v4810 = 1#1), ∀ a, (k0_off147 v0 v5 v10 v15 v20 v25 v30 v35 v40 v45 v50 v55 k0_t2) a + S1.size a ≤ S6.size a) ∧
  (∀ (k0_h42 : k0_cond42 v0 v5 v10 v15 v20 v25 v30 v35 v40 v45 v50 v55 k0_t2 = 1#1), ∀ (k0_h43 : k0_cond43 arg22 v4810 = 1#1), ∀ a, (k0_off148 v0 v5 v10 v15 v20 v25 v30 v35 v40 v45 v50 v55 k0_t2 arg22 v4810) a + S1x512x5120.size a ≤ S6x512x5120.size a) ∧
  (∀ (k0_h42 : k0_cond42 v0 v5 v10 v15 v20 v25 v30 v35 v40 v45 v50 v55 k0_t2 = 1#1), ∀ (k0_h43 : k0_cond43 arg22 v4810 = 1#1), ∀ a, (k0_off149 arg21 arg22 v4810) a + S1x512x5120.size a ≤ S12x4096x5120.size a) ∧
  (∀ (k0_h42 : k0_cond42 v0 v5 v10 v15 v20 v25 v30 v35 v40 v45 v50 v55 k0_t2 = 1#1), ∀ (k0_h43 : k0_cond43 arg22 v4810 = 1#1), ∀ (hinb : ∀ a, (k0_off149 arg21 arg22 v4810) a + S1x512x5120.size a ≤ S12x4096x5120.size a), (Rect.unit (s := S12x4096x5120) (k0_off149 arg21 arg22 v4810) S1x512x5120.size hinb).WholeWords (EltTy.packing .fp8e4m3)) ∧
  (∀ (k0_h42 : k0_cond42 v0 v5 v10 v15 v20 v25 v30 v35 v40 v45 v50 v55 k0_t2 = 1#1), ∀ (k0_h43 : k0_cond43 arg22 v4810 = 1#1), ∀ (hinb : ∀ a, (k0_off148 v0 v5 v10 v15 v20 v25 v30 v35 v40 v45 v50 v55 k0_t2 arg22 v4810) a + S1x512x5120.size a ≤ S6x512x5120.size a), (Rect.unit (s := S6x512x5120) (k0_off148 v0 v5 v10 v15 v20 v25 v30 v35 v40 v45 v50 v55 k0_t2 arg22 v4810) S1x512x5120.size hinb).WholeWords (EltTy.packing .fp8e4m3)) ∧
  (∀ (k0_h42 : k0_cond42 v0 v5 v10 v15 v20 v25 v30 v35 v40 v45 v50 v55 k0_t2 = 1#1), ∀ (k0_h44 : k0_cond44 arg22 v4810 = 1#1), 32 ∣ (k0_mult81 arg22 v4810).toNat) ∧
  (∀ (k0_h42 : k0_cond42 v0 v5 v10 v15 v20 v25 v30 v35 v40 v45 v50 v55 k0_t2 = 1#1), ∀ (k0_h44 : k0_cond44 arg22 v4810 = 1#1), 32 ∣ (k0_mult82 arg22 v4810).toNat) ∧
  (∀ (k0_h42 : k0_cond42 v0 v5 v10 v15 v20 v25 v30 v35 v40 v45 v50 v55 k0_t2 = 1#1), ∀ (k0_h44 : k0_cond44 arg22 v4810 = 1#1), ∀ a, (k0_off150 v0 v5 v10 v15 v20 v25 v30 v35 v40 v45 v50 v55 k0_t2) a + S1.size a ≤ S6.size a) ∧
  (∀ (k0_h42 : k0_cond42 v0 v5 v10 v15 v20 v25 v30 v35 v40 v45 v50 v55 k0_t2 = 1#1), ∀ (k0_h44 : k0_cond44 arg22 v4810 = 1#1), ∀ a, (k0_off151 v0 v5 v10 v15 v20 v25 v30 v35 v40 v45 v50 v55 k0_t2 arg22 v4810) a + S1x256x5120.size a ≤ S6x512x5120.size a) ∧
  (∀ (k0_h42 : k0_cond42 v0 v5 v10 v15 v20 v25 v30 v35 v40 v45 v50 v55 k0_t2 = 1#1), ∀ (k0_h44 : k0_cond44 arg22 v4810 = 1#1), ∀ a, (k0_off152 arg21 arg22 v4810) a + S1x256x5120.size a ≤ S12x4096x5120.size a) ∧
  (∀ (k0_h42 : k0_cond42 v0 v5 v10 v15 v20 v25 v30 v35 v40 v45 v50 v55 k0_t2 = 1#1), ∀ (k0_h44 : k0_cond44 arg22 v4810 = 1#1), ∀ (hinb : ∀ a, (k0_off152 arg21 arg22 v4810) a + S1x256x5120.size a ≤ S12x4096x5120.size a), (Rect.unit (s := S12x4096x5120) (k0_off152 arg21 arg22 v4810) S1x256x5120.size hinb).WholeWords (EltTy.packing .fp8e4m3)) ∧
  (∀ (k0_h42 : k0_cond42 v0 v5 v10 v15 v20 v25 v30 v35 v40 v45 v50 v55 k0_t2 = 1#1), ∀ (k0_h44 : k0_cond44 arg22 v4810 = 1#1), ∀ (hinb : ∀ a, (k0_off151 v0 v5 v10 v15 v20 v25 v30 v35 v40 v45 v50 v55 k0_t2 arg22 v4810) a + S1x256x5120.size a ≤ S6x512x5120.size a), (Rect.unit (s := S6x512x5120) (k0_off151 v0 v5 v10 v15 v20 v25 v30 v35 v40 v45 v50 v55 k0_t2 arg22 v4810) S1x256x5120.size hinb).WholeWords (EltTy.packing .fp8e4m3)) ∧
  (∀ (k0_h42 : k0_cond42 v0 v5 v10 v15 v20 v25 v30 v35 v40 v45 v50 v55 k0_t2 = 1#1), ∀ (k0_h45 : k0_cond45 arg22 v4810 = 1#1), 32 ∣ (k0_mult83 arg22 v4810).toNat) ∧
  (∀ (k0_h42 : k0_cond42 v0 v5 v10 v15 v20 v25 v30 v35 v40 v45 v50 v55 k0_t2 = 1#1), ∀ (k0_h45 : k0_cond45 arg22 v4810 = 1#1), 32 ∣ (k0_mult84 arg22 v4810).toNat) ∧
  (∀ (k0_h42 : k0_cond42 v0 v5 v10 v15 v20 v25 v30 v35 v40 v45 v50 v55 k0_t2 = 1#1), ∀ (k0_h45 : k0_cond45 arg22 v4810 = 1#1), ∀ a, (k0_off153 v0 v5 v10 v15 v20 v25 v30 v35 v40 v45 v50 v55 k0_t2) a + S1.size a ≤ S6.size a) ∧
  (∀ (k0_h42 : k0_cond42 v0 v5 v10 v15 v20 v25 v30 v35 v40 v45 v50 v55 k0_t2 = 1#1), ∀ (k0_h45 : k0_cond45 arg22 v4810 = 1#1), ∀ a, (k0_off154 v0 v5 v10 v15 v20 v25 v30 v35 v40 v45 v50 v55 k0_t2 arg22 v4810) a + S1x128x5120.size a ≤ S6x512x5120.size a) ∧
  (∀ (k0_h42 : k0_cond42 v0 v5 v10 v15 v20 v25 v30 v35 v40 v45 v50 v55 k0_t2 = 1#1), ∀ (k0_h45 : k0_cond45 arg22 v4810 = 1#1), ∀ a, (k0_off155 arg21 arg22 v4810) a + S1x128x5120.size a ≤ S12x4096x5120.size a) ∧
  (∀ (k0_h42 : k0_cond42 v0 v5 v10 v15 v20 v25 v30 v35 v40 v45 v50 v55 k0_t2 = 1#1), ∀ (k0_h45 : k0_cond45 arg22 v4810 = 1#1), ∀ (hinb : ∀ a, (k0_off155 arg21 arg22 v4810) a + S1x128x5120.size a ≤ S12x4096x5120.size a), (Rect.unit (s := S12x4096x5120) (k0_off155 arg21 arg22 v4810) S1x128x5120.size hinb).WholeWords (EltTy.packing .fp8e4m3)) ∧
  (∀ (k0_h42 : k0_cond42 v0 v5 v10 v15 v20 v25 v30 v35 v40 v45 v50 v55 k0_t2 = 1#1), ∀ (k0_h45 : k0_cond45 arg22 v4810 = 1#1), ∀ (hinb : ∀ a, (k0_off154 v0 v5 v10 v15 v20 v25 v30 v35 v40 v45 v50 v55 k0_t2 arg22 v4810) a + S1x128x5120.size a ≤ S6x512x5120.size a), (Rect.unit (s := S6x512x5120) (k0_off154 v0 v5 v10 v15 v20 v25 v30 v35 v40 v45 v50 v55 k0_t2 arg22 v4810) S1x128x5120.size hinb).WholeWords (EltTy.packing .fp8e4m3)) ∧
  (∀ (k0_h42 : k0_cond42 v0 v5 v10 v15 v20 v25 v30 v35 v40 v45 v50 v55 k0_t2 = 1#1), ∀ (k0_h46 : k0_cond46 arg22 v4810 = 1#1), 32 ∣ (k0_mult85 arg22 v4810).toNat) ∧
  (∀ (k0_h42 : k0_cond42 v0 v5 v10 v15 v20 v25 v30 v35 v40 v45 v50 v55 k0_t2 = 1#1), ∀ (k0_h46 : k0_cond46 arg22 v4810 = 1#1), 32 ∣ (k0_mult86 arg22 v4810).toNat) ∧
  (∀ (k0_h42 : k0_cond42 v0 v5 v10 v15 v20 v25 v30 v35 v40 v45 v50 v55 k0_t2 = 1#1), ∀ (k0_h46 : k0_cond46 arg22 v4810 = 1#1), ∀ a, (k0_off156 v0 v5 v10 v15 v20 v25 v30 v35 v40 v45 v50 v55 k0_t2) a + S1.size a ≤ S6.size a) ∧
  (∀ (k0_h42 : k0_cond42 v0 v5 v10 v15 v20 v25 v30 v35 v40 v45 v50 v55 k0_t2 = 1#1), ∀ (k0_h46 : k0_cond46 arg22 v4810 = 1#1), ∀ a, (k0_off157 v0 v5 v10 v15 v20 v25 v30 v35 v40 v45 v50 v55 k0_t2 arg22 v4810) a + S1x64x5120.size a ≤ S6x512x5120.size a) ∧
  (∀ (k0_h42 : k0_cond42 v0 v5 v10 v15 v20 v25 v30 v35 v40 v45 v50 v55 k0_t2 = 1#1), ∀ (k0_h46 : k0_cond46 arg22 v4810 = 1#1), ∀ a, (k0_off158 arg21 arg22 v4810) a + S1x64x5120.size a ≤ S12x4096x5120.size a) ∧
  (∀ (k0_h42 : k0_cond42 v0 v5 v10 v15 v20 v25 v30 v35 v40 v45 v50 v55 k0_t2 = 1#1), ∀ (k0_h46 : k0_cond46 arg22 v4810 = 1#1), ∀ (hinb : ∀ a, (k0_off158 arg21 arg22 v4810) a + S1x64x5120.size a ≤ S12x4096x5120.size a), (Rect.unit (s := S12x4096x5120) (k0_off158 arg21 arg22 v4810) S1x64x5120.size hinb).WholeWords (EltTy.packing .fp8e4m3)) ∧
  (∀ (k0_h42 : k0_cond42 v0 v5 v10 v15 v20 v25 v30 v35 v40 v45 v50 v55 k0_t2 = 1#1), ∀ (k0_h46 : k0_cond46 arg22 v4810 = 1#1), ∀ (hinb : ∀ a, (k0_off157 v0 v5 v10 v15 v20 v25 v30 v35 v40 v45 v50 v55 k0_t2 arg22 v4810) a + S1x64x5120.size a ≤ S6x512x5120.size a), (Rect.unit (s := S6x512x5120) (k0_off157 v0 v5 v10 v15 v20 v25 v30 v35 v40 v45 v50 v55 k0_t2 arg22 v4810) S1x64x5120.size hinb).WholeWords (EltTy.packing .fp8e4m3)) ∧
  (∀ (k0_h42 : k0_cond42 v0 v5 v10 v15 v20 v25 v30 v35 v40 v45 v50 v55 k0_t2 = 1#1), ∀ (k0_h47 : k0_cond47 arg22 v4810 = 1#1), 32 ∣ (k0_mult87 arg22 v4810).toNat) ∧
  (∀ (k0_h42 : k0_cond42 v0 v5 v10 v15 v20 v25 v30 v35 v40 v45 v50 v55 k0_t2 = 1#1), ∀ (k0_h47 : k0_cond47 arg22 v4810 = 1#1), 32 ∣ (k0_mult88 arg22 v4810).toNat) ∧
  (∀ (k0_h42 : k0_cond42 v0 v5 v10 v15 v20 v25 v30 v35 v40 v45 v50 v55 k0_t2 = 1#1), ∀ (k0_h47 : k0_cond47 arg22 v4810 = 1#1), ∀ a, (k0_off159 v0 v5 v10 v15 v20 v25 v30 v35 v40 v45 v50 v55 k0_t2) a + S1.size a ≤ S6.size a) ∧
  (∀ (k0_h42 : k0_cond42 v0 v5 v10 v15 v20 v25 v30 v35 v40 v45 v50 v55 k0_t2 = 1#1), ∀ (k0_h47 : k0_cond47 arg22 v4810 = 1#1), ∀ a, (k0_off160 v0 v5 v10 v15 v20 v25 v30 v35 v40 v45 v50 v55 k0_t2 arg22 v4810) a + S1x32x5120.size a ≤ S6x512x5120.size a)
def k0_chk18_1 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) : Prop :=
  (∀ (k0_h42 : k0_cond42 v0 v5 v10 v15 v20 v25 v30 v35 v40 v45 v50 v55 k0_t2 = 1#1), ∀ (k0_h47 : k0_cond47 arg22 v4810 = 1#1), ∀ a, (k0_off161 arg21 arg22 v4810) a + S1x32x5120.size a ≤ S12x4096x5120.size a) ∧
  (∀ (k0_h42 : k0_cond42 v0 v5 v10 v15 v20 v25 v30 v35 v40 v45 v50 v55 k0_t2 = 1#1), ∀ (k0_h47 : k0_cond47 arg22 v4810 = 1#1), ∀ (hinb : ∀ a, (k0_off161 arg21 arg22 v4810) a + S1x32x5120.size a ≤ S12x4096x5120.size a), (Rect.unit (s := S12x4096x5120) (k0_off161 arg21 arg22 v4810) S1x32x5120.size hinb).WholeWords (EltTy.packing .fp8e4m3)) ∧
  (∀ (k0_h42 : k0_cond42 v0 v5 v10 v15 v20 v25 v30 v35 v40 v45 v50 v55 k0_t2 = 1#1), ∀ (k0_h47 : k0_cond47 arg22 v4810 = 1#1), ∀ (hinb : ∀ a, (k0_off160 v0 v5 v10 v15 v20 v25 v30 v35 v40 v45 v50 v55 k0_t2 arg22 v4810) a + S1x32x5120.size a ≤ S6x512x5120.size a), (Rect.unit (s := S6x512x5120) (k0_off160 v0 v5 v10 v15 v20 v25 v30 v35 v40 v45 v50 v55 k0_t2 arg22 v4810) S1x32x5120.size hinb).WholeWords (EltTy.packing .fp8e4m3))
def k0_chk18 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) : Prop :=
  k0_chk18_0 v0 v5 v10 v15 v20 v25 v30 v35 v40 v45 v50 v55 k0_t2 arg21 arg22 v4810 ∧
  k0_chk18_1 v0 v5 v10 v15 v20 v25 v30 v35 v40 v45 v50 v55 k0_t2 arg21 arg22 v4810
theorem k0_mult79_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h43 : k0_cond43 arg22 v4810 = 1#1), 32 ∣ (k0_mult79 arg22 v4810).toNat := fun v0 v5 v10 v15 v20 v25 v30 v35 v40 v45 v50 v55 k0_t2 arg21 arg22 v4810 k0_hw18 k0_h42 k0_h43 => k0_hw18.1.1 k0_h42 k0_h43
theorem k0_mult80_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h43 : k0_cond43 arg22 v4810 = 1#1), 32 ∣ (k0_mult80 arg22 v4810).toNat := fun v0 v5 v10 v15 v20 v25 v30 v35 v40 v45 v50 v55 k0_t2 arg21 arg22 v4810 k0_hw18 k0_h42 k0_h43 => k0_hw18.1.2.1 k0_h42 k0_h43
theorem k0_off147_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h43 : k0_cond43 arg22 v4810 = 1#1), ∀ a, (k0_off147 v0 v5 v10 v15 v20 v25 v30 v35 v40 v45 v50 v55 k0_t2) a + S1.size a ≤ S6.size a := fun v0 v5 v10 v15 v20 v25 v30 v35 v40 v45 v50 v55 k0_t2 arg21 arg22 v4810 k0_hw18 k0_h42 k0_h43 => k0_hw18.1.2.2.1 k0_h42 k0_h43
theorem k0_off148_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h43 : k0_cond43 arg22 v4810 = 1#1), ∀ a, (k0_off148 v0 v5 v10 v15 v20 v25 v30 v35 v40 v45 v50 v55 k0_t2 arg22 v4810) a + S1x512x5120.size a ≤ S6x512x5120.size a := fun v0 v5 v10 v15 v20 v25 v30 v35 v40 v45 v50 v55 k0_t2 arg21 arg22 v4810 k0_hw18 k0_h42 k0_h43 => k0_hw18.1.2.2.2.1 k0_h42 k0_h43
theorem k0_off149_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h43 : k0_cond43 arg22 v4810 = 1#1), ∀ a, (k0_off149 arg21 arg22 v4810) a + S1x512x5120.size a ≤ S12x4096x5120.size a := fun v0 v5 v10 v15 v20 v25 v30 v35 v40 v45 v50 v55 k0_t2 arg21 arg22 v4810 k0_hw18 k0_h42 k0_h43 => k0_hw18.1.2.2.2.2.1 k0_h42 k0_h43
theorem k0_off149_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h43 : k0_cond43 arg22 v4810 = 1#1), (Rect.unit (s := S12x4096x5120) (k0_off149 arg21 arg22 v4810) S1x512x5120.size (k0_off149_inb v0 v5 v10 v15 v20 v25 v30 v35 v40 v45 v50 v55 k0_t2 arg21 arg22 v4810 k0_hw18 k0_h42 k0_h43)).WholeWords (EltTy.packing .fp8e4m3) := fun v0 v5 v10 v15 v20 v25 v30 v35 v40 v45 v50 v55 k0_t2 arg21 arg22 v4810 k0_hw18 k0_h42 k0_h43 => k0_hw18.1.2.2.2.2.2.1 k0_h42 k0_h43 (k0_off149_inb v0 v5 v10 v15 v20 v25 v30 v35 v40 v45 v50 v55 k0_t2 arg21 arg22 v4810 k0_hw18 k0_h42 k0_h43)
theorem k0_off148_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h43 : k0_cond43 arg22 v4810 = 1#1), (Rect.unit (s := S6x512x5120) (k0_off148 v0 v5 v10 v15 v20 v25 v30 v35 v40 v45 v50 v55 k0_t2 arg22 v4810) S1x512x5120.size (k0_off148_inb v0 v5 v10 v15 v20 v25 v30 v35 v40 v45 v50 v55 k0_t2 arg21 arg22 v4810 k0_hw18 k0_h42 k0_h43)).WholeWords (EltTy.packing .fp8e4m3) := fun v0 v5 v10 v15 v20 v25 v30 v35 v40 v45 v50 v55 k0_t2 arg21 arg22 v4810 k0_hw18 k0_h42 k0_h43 => k0_hw18.1.2.2.2.2.2.2.1 k0_h42 k0_h43 (k0_off148_inb v0 v5 v10 v15 v20 v25 v30 v35 v40 v45 v50 v55 k0_t2 arg21 arg22 v4810 k0_hw18 k0_h42 k0_h43)
theorem k0_mult81_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h44 : k0_cond44 arg22 v4810 = 1#1), 32 ∣ (k0_mult81 arg22 v4810).toNat := fun v0 v5 v10 v15 v20 v25 v30 v35 v40 v45 v50 v55 k0_t2 arg21 arg22 v4810 k0_hw18 k0_h42 k0_h44 => k0_hw18.1.2.2.2.2.2.2.2.1 k0_h42 k0_h44
theorem k0_mult82_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h44 : k0_cond44 arg22 v4810 = 1#1), 32 ∣ (k0_mult82 arg22 v4810).toNat := fun v0 v5 v10 v15 v20 v25 v30 v35 v40 v45 v50 v55 k0_t2 arg21 arg22 v4810 k0_hw18 k0_h42 k0_h44 => k0_hw18.1.2.2.2.2.2.2.2.2.1 k0_h42 k0_h44
theorem k0_off150_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h44 : k0_cond44 arg22 v4810 = 1#1), ∀ a, (k0_off150 v0 v5 v10 v15 v20 v25 v30 v35 v40 v45 v50 v55 k0_t2) a + S1.size a ≤ S6.size a := fun v0 v5 v10 v15 v20 v25 v30 v35 v40 v45 v50 v55 k0_t2 arg21 arg22 v4810 k0_hw18 k0_h42 k0_h44 => k0_hw18.1.2.2.2.2.2.2.2.2.2.1 k0_h42 k0_h44
theorem k0_off151_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h44 : k0_cond44 arg22 v4810 = 1#1), ∀ a, (k0_off151 v0 v5 v10 v15 v20 v25 v30 v35 v40 v45 v50 v55 k0_t2 arg22 v4810) a + S1x256x5120.size a ≤ S6x512x5120.size a := fun v0 v5 v10 v15 v20 v25 v30 v35 v40 v45 v50 v55 k0_t2 arg21 arg22 v4810 k0_hw18 k0_h42 k0_h44 => k0_hw18.1.2.2.2.2.2.2.2.2.2.2.1 k0_h42 k0_h44
theorem k0_off152_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h44 : k0_cond44 arg22 v4810 = 1#1), ∀ a, (k0_off152 arg21 arg22 v4810) a + S1x256x5120.size a ≤ S12x4096x5120.size a := fun v0 v5 v10 v15 v20 v25 v30 v35 v40 v45 v50 v55 k0_t2 arg21 arg22 v4810 k0_hw18 k0_h42 k0_h44 => k0_hw18.1.2.2.2.2.2.2.2.2.2.2.2.1 k0_h42 k0_h44
theorem k0_off152_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h44 : k0_cond44 arg22 v4810 = 1#1), (Rect.unit (s := S12x4096x5120) (k0_off152 arg21 arg22 v4810) S1x256x5120.size (k0_off152_inb v0 v5 v10 v15 v20 v25 v30 v35 v40 v45 v50 v55 k0_t2 arg21 arg22 v4810 k0_hw18 k0_h42 k0_h44)).WholeWords (EltTy.packing .fp8e4m3) := fun v0 v5 v10 v15 v20 v25 v30 v35 v40 v45 v50 v55 k0_t2 arg21 arg22 v4810 k0_hw18 k0_h42 k0_h44 => k0_hw18.1.2.2.2.2.2.2.2.2.2.2.2.2.1 k0_h42 k0_h44 (k0_off152_inb v0 v5 v10 v15 v20 v25 v30 v35 v40 v45 v50 v55 k0_t2 arg21 arg22 v4810 k0_hw18 k0_h42 k0_h44)
theorem k0_off151_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h44 : k0_cond44 arg22 v4810 = 1#1), (Rect.unit (s := S6x512x5120) (k0_off151 v0 v5 v10 v15 v20 v25 v30 v35 v40 v45 v50 v55 k0_t2 arg22 v4810) S1x256x5120.size (k0_off151_inb v0 v5 v10 v15 v20 v25 v30 v35 v40 v45 v50 v55 k0_t2 arg21 arg22 v4810 k0_hw18 k0_h42 k0_h44)).WholeWords (EltTy.packing .fp8e4m3) := fun v0 v5 v10 v15 v20 v25 v30 v35 v40 v45 v50 v55 k0_t2 arg21 arg22 v4810 k0_hw18 k0_h42 k0_h44 => k0_hw18.1.2.2.2.2.2.2.2.2.2.2.2.2.2.1 k0_h42 k0_h44 (k0_off151_inb v0 v5 v10 v15 v20 v25 v30 v35 v40 v45 v50 v55 k0_t2 arg21 arg22 v4810 k0_hw18 k0_h42 k0_h44)
theorem k0_mult83_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h45 : k0_cond45 arg22 v4810 = 1#1), 32 ∣ (k0_mult83 arg22 v4810).toNat := fun v0 v5 v10 v15 v20 v25 v30 v35 v40 v45 v50 v55 k0_t2 arg21 arg22 v4810 k0_hw18 k0_h42 k0_h45 => k0_hw18.1.2.2.2.2.2.2.2.2.2.2.2.2.2.2.1 k0_h42 k0_h45
theorem k0_mult84_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h45 : k0_cond45 arg22 v4810 = 1#1), 32 ∣ (k0_mult84 arg22 v4810).toNat := fun v0 v5 v10 v15 v20 v25 v30 v35 v40 v45 v50 v55 k0_t2 arg21 arg22 v4810 k0_hw18 k0_h42 k0_h45 => k0_hw18.1.2.2.2.2.2.2.2.2.2.2.2.2.2.2.2.1 k0_h42 k0_h45
theorem k0_off153_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h45 : k0_cond45 arg22 v4810 = 1#1), ∀ a, (k0_off153 v0 v5 v10 v15 v20 v25 v30 v35 v40 v45 v50 v55 k0_t2) a + S1.size a ≤ S6.size a := fun v0 v5 v10 v15 v20 v25 v30 v35 v40 v45 v50 v55 k0_t2 arg21 arg22 v4810 k0_hw18 k0_h42 k0_h45 => k0_hw18.1.2.2.2.2.2.2.2.2.2.2.2.2.2.2.2.2.1 k0_h42 k0_h45
theorem k0_off154_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h45 : k0_cond45 arg22 v4810 = 1#1), ∀ a, (k0_off154 v0 v5 v10 v15 v20 v25 v30 v35 v40 v45 v50 v55 k0_t2 arg22 v4810) a + S1x128x5120.size a ≤ S6x512x5120.size a := fun v0 v5 v10 v15 v20 v25 v30 v35 v40 v45 v50 v55 k0_t2 arg21 arg22 v4810 k0_hw18 k0_h42 k0_h45 => k0_hw18.1.2.2.2.2.2.2.2.2.2.2.2.2.2.2.2.2.2.1 k0_h42 k0_h45
theorem k0_off155_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h45 : k0_cond45 arg22 v4810 = 1#1), ∀ a, (k0_off155 arg21 arg22 v4810) a + S1x128x5120.size a ≤ S12x4096x5120.size a := fun v0 v5 v10 v15 v20 v25 v30 v35 v40 v45 v50 v55 k0_t2 arg21 arg22 v4810 k0_hw18 k0_h42 k0_h45 => k0_hw18.1.2.2.2.2.2.2.2.2.2.2.2.2.2.2.2.2.2.2.1 k0_h42 k0_h45
theorem k0_off155_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h45 : k0_cond45 arg22 v4810 = 1#1), (Rect.unit (s := S12x4096x5120) (k0_off155 arg21 arg22 v4810) S1x128x5120.size (k0_off155_inb v0 v5 v10 v15 v20 v25 v30 v35 v40 v45 v50 v55 k0_t2 arg21 arg22 v4810 k0_hw18 k0_h42 k0_h45)).WholeWords (EltTy.packing .fp8e4m3) := fun v0 v5 v10 v15 v20 v25 v30 v35 v40 v45 v50 v55 k0_t2 arg21 arg22 v4810 k0_hw18 k0_h42 k0_h45 => k0_hw18.1.2.2.2.2.2.2.2.2.2.2.2.2.2.2.2.2.2.2.2.1 k0_h42 k0_h45 (k0_off155_inb v0 v5 v10 v15 v20 v25 v30 v35 v40 v45 v50 v55 k0_t2 arg21 arg22 v4810 k0_hw18 k0_h42 k0_h45)
theorem k0_off154_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h45 : k0_cond45 arg22 v4810 = 1#1), (Rect.unit (s := S6x512x5120) (k0_off154 v0 v5 v10 v15 v20 v25 v30 v35 v40 v45 v50 v55 k0_t2 arg22 v4810) S1x128x5120.size (k0_off154_inb v0 v5 v10 v15 v20 v25 v30 v35 v40 v45 v50 v55 k0_t2 arg21 arg22 v4810 k0_hw18 k0_h42 k0_h45)).WholeWords (EltTy.packing .fp8e4m3) := fun v0 v5 v10 v15 v20 v25 v30 v35 v40 v45 v50 v55 k0_t2 arg21 arg22 v4810 k0_hw18 k0_h42 k0_h45 => k0_hw18.1.2.2.2.2.2.2.2.2.2.2.2.2.2.2.2.2.2.2.2.2.1 k0_h42 k0_h45 (k0_off154_inb v0 v5 v10 v15 v20 v25 v30 v35 v40 v45 v50 v55 k0_t2 arg21 arg22 v4810 k0_hw18 k0_h42 k0_h45)
theorem k0_mult85_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h46 : k0_cond46 arg22 v4810 = 1#1), 32 ∣ (k0_mult85 arg22 v4810).toNat := fun v0 v5 v10 v15 v20 v25 v30 v35 v40 v45 v50 v55 k0_t2 arg21 arg22 v4810 k0_hw18 k0_h42 k0_h46 => k0_hw18.1.2.2.2.2.2.2.2.2.2.2.2.2.2.2.2.2.2.2.2.2.2.1 k0_h42 k0_h46
theorem k0_mult86_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h46 : k0_cond46 arg22 v4810 = 1#1), 32 ∣ (k0_mult86 arg22 v4810).toNat := fun v0 v5 v10 v15 v20 v25 v30 v35 v40 v45 v50 v55 k0_t2 arg21 arg22 v4810 k0_hw18 k0_h42 k0_h46 => k0_hw18.1.2.2.2.2.2.2.2.2.2.2.2.2.2.2.2.2.2.2.2.2.2.2.1 k0_h42 k0_h46
theorem k0_off156_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h46 : k0_cond46 arg22 v4810 = 1#1), ∀ a, (k0_off156 v0 v5 v10 v15 v20 v25 v30 v35 v40 v45 v50 v55 k0_t2) a + S1.size a ≤ S6.size a := fun v0 v5 v10 v15 v20 v25 v30 v35 v40 v45 v50 v55 k0_t2 arg21 arg22 v4810 k0_hw18 k0_h42 k0_h46 => k0_hw18.1.2.2.2.2.2.2.2.2.2.2.2.2.2.2.2.2.2.2.2.2.2.2.2.1 k0_h42 k0_h46
theorem k0_off157_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h46 : k0_cond46 arg22 v4810 = 1#1), ∀ a, (k0_off157 v0 v5 v10 v15 v20 v25 v30 v35 v40 v45 v50 v55 k0_t2 arg22 v4810) a + S1x64x5120.size a ≤ S6x512x5120.size a := fun v0 v5 v10 v15 v20 v25 v30 v35 v40 v45 v50 v55 k0_t2 arg21 arg22 v4810 k0_hw18 k0_h42 k0_h46 => k0_hw18.1.2.2.2.2.2.2.2.2.2.2.2.2.2.2.2.2.2.2.2.2.2.2.2.2.1 k0_h42 k0_h46
theorem k0_off158_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h46 : k0_cond46 arg22 v4810 = 1#1), ∀ a, (k0_off158 arg21 arg22 v4810) a + S1x64x5120.size a ≤ S12x4096x5120.size a := fun v0 v5 v10 v15 v20 v25 v30 v35 v40 v45 v50 v55 k0_t2 arg21 arg22 v4810 k0_hw18 k0_h42 k0_h46 => k0_hw18.1.2.2.2.2.2.2.2.2.2.2.2.2.2.2.2.2.2.2.2.2.2.2.2.2.2.1 k0_h42 k0_h46
theorem k0_off158_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h46 : k0_cond46 arg22 v4810 = 1#1), (Rect.unit (s := S12x4096x5120) (k0_off158 arg21 arg22 v4810) S1x64x5120.size (k0_off158_inb v0 v5 v10 v15 v20 v25 v30 v35 v40 v45 v50 v55 k0_t2 arg21 arg22 v4810 k0_hw18 k0_h42 k0_h46)).WholeWords (EltTy.packing .fp8e4m3) := fun v0 v5 v10 v15 v20 v25 v30 v35 v40 v45 v50 v55 k0_t2 arg21 arg22 v4810 k0_hw18 k0_h42 k0_h46 => k0_hw18.1.2.2.2.2.2.2.2.2.2.2.2.2.2.2.2.2.2.2.2.2.2.2.2.2.2.2.1 k0_h42 k0_h46 (k0_off158_inb v0 v5 v10 v15 v20 v25 v30 v35 v40 v45 v50 v55 k0_t2 arg21 arg22 v4810 k0_hw18 k0_h42 k0_h46)
theorem k0_off157_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h46 : k0_cond46 arg22 v4810 = 1#1), (Rect.unit (s := S6x512x5120) (k0_off157 v0 v5 v10 v15 v20 v25 v30 v35 v40 v45 v50 v55 k0_t2 arg22 v4810) S1x64x5120.size (k0_off157_inb v0 v5 v10 v15 v20 v25 v30 v35 v40 v45 v50 v55 k0_t2 arg21 arg22 v4810 k0_hw18 k0_h42 k0_h46)).WholeWords (EltTy.packing .fp8e4m3) := fun v0 v5 v10 v15 v20 v25 v30 v35 v40 v45 v50 v55 k0_t2 arg21 arg22 v4810 k0_hw18 k0_h42 k0_h46 => k0_hw18.1.2.2.2.2.2.2.2.2.2.2.2.2.2.2.2.2.2.2.2.2.2.2.2.2.2.2.2.1 k0_h42 k0_h46 (k0_off157_inb v0 v5 v10 v15 v20 v25 v30 v35 v40 v45 v50 v55 k0_t2 arg21 arg22 v4810 k0_hw18 k0_h42 k0_h46)
theorem k0_mult87_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h47 : k0_cond47 arg22 v4810 = 1#1), 32 ∣ (k0_mult87 arg22 v4810).toNat := fun v0 v5 v10 v15 v20 v25 v30 v35 v40 v45 v50 v55 k0_t2 arg21 arg22 v4810 k0_hw18 k0_h42 k0_h47 => k0_hw18.1.2.2.2.2.2.2.2.2.2.2.2.2.2.2.2.2.2.2.2.2.2.2.2.2.2.2.2.2.1 k0_h42 k0_h47
theorem k0_mult88_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h47 : k0_cond47 arg22 v4810 = 1#1), 32 ∣ (k0_mult88 arg22 v4810).toNat := fun v0 v5 v10 v15 v20 v25 v30 v35 v40 v45 v50 v55 k0_t2 arg21 arg22 v4810 k0_hw18 k0_h42 k0_h47 => k0_hw18.1.2.2.2.2.2.2.2.2.2.2.2.2.2.2.2.2.2.2.2.2.2.2.2.2.2.2.2.2.2.1 k0_h42 k0_h47
theorem k0_off159_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h47 : k0_cond47 arg22 v4810 = 1#1), ∀ a, (k0_off159 v0 v5 v10 v15 v20 v25 v30 v35 v40 v45 v50 v55 k0_t2) a + S1.size a ≤ S6.size a := fun v0 v5 v10 v15 v20 v25 v30 v35 v40 v45 v50 v55 k0_t2 arg21 arg22 v4810 k0_hw18 k0_h42 k0_h47 => k0_hw18.1.2.2.2.2.2.2.2.2.2.2.2.2.2.2.2.2.2.2.2.2.2.2.2.2.2.2.2.2.2.2.1 k0_h42 k0_h47
theorem k0_off160_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h47 : k0_cond47 arg22 v4810 = 1#1), ∀ a, (k0_off160 v0 v5 v10 v15 v20 v25 v30 v35 v40 v45 v50 v55 k0_t2 arg22 v4810) a + S1x32x5120.size a ≤ S6x512x5120.size a := fun v0 v5 v10 v15 v20 v25 v30 v35 v40 v45 v50 v55 k0_t2 arg21 arg22 v4810 k0_hw18 k0_h42 k0_h47 => k0_hw18.1.2.2.2.2.2.2.2.2.2.2.2.2.2.2.2.2.2.2.2.2.2.2.2.2.2.2.2.2.2.2.2 k0_h42 k0_h47
theorem k0_off161_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h47 : k0_cond47 arg22 v4810 = 1#1), ∀ a, (k0_off161 arg21 arg22 v4810) a + S1x32x5120.size a ≤ S12x4096x5120.size a := fun v0 v5 v10 v15 v20 v25 v30 v35 v40 v45 v50 v55 k0_t2 arg21 arg22 v4810 k0_hw18 k0_h42 k0_h47 => k0_hw18.2.1 k0_h42 k0_h47
theorem k0_off161_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h47 : k0_cond47 arg22 v4810 = 1#1), (Rect.unit (s := S12x4096x5120) (k0_off161 arg21 arg22 v4810) S1x32x5120.size (k0_off161_inb v0 v5 v10 v15 v20 v25 v30 v35 v40 v45 v50 v55 k0_t2 arg21 arg22 v4810 k0_hw18 k0_h42 k0_h47)).WholeWords (EltTy.packing .fp8e4m3) := fun v0 v5 v10 v15 v20 v25 v30 v35 v40 v45 v50 v55 k0_t2 arg21 arg22 v4810 k0_hw18 k0_h42 k0_h47 => k0_hw18.2.2.1 k0_h42 k0_h47 (k0_off161_inb v0 v5 v10 v15 v20 v25 v30 v35 v40 v45 v50 v55 k0_t2 arg21 arg22 v4810 k0_hw18 k0_h42 k0_h47)
theorem k0_off160_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (v4810 : BitVec 32) (k0_hw18 : k0_chk18 v0 v5 v10 v15 v20 v25 v30 v35 v40 v45 v50 v55 k0_t2 arg21 arg22 v4810), ∀ (k0_h42 : k0_cond42 v0 v5 v10 v15 v20 v25 v30 v35 v40 v45 v50 v55 k0_t2 = 1#1), ∀ (k0_h47 : k0_cond47 arg22 v4810 = 1#1), (Rect.unit (s := S6x512x5120) (k0_off160 v0 v5 v10 v15 v20 v25 v30 v35 v40 v45 v50 v55 k0_t2 arg22 v4810) S1x32x5120.size (k0_off160_inb v0 v5 v10 v15 v20 v25 v30 v35 v40 v45 v50 v55 k0_t2 arg21 arg22 v4810 k0_hw18 k0_h42 k0_h47)).WholeWords (EltTy.packing .fp8e4m3) := fun v0 v5 v10 v15 v20 v25 v30 v35 v40 v45 v50 v55 k0_t2 arg21 arg22 v4810 k0_hw18 k0_h42 k0_h47 => k0_hw18.2.2.2 k0_h42 k0_h47 (k0_off160_inb v0 v5 v10 v15 v20 v25 v30 v35 v40 v45 v50 v55 k0_t2 arg21 arg22 v4810 k0_hw18 k0_h42 k0_h47)

def k0_mult89 (arg22 : BitVec 32) : BitVec 32 :=
  let c512_i32_2292 : BitVec 32 := 512#32
  let v4817 : BitVec 32 := Scalar.muli arg22 c512_i32_2292
  v4817

def k0_off162 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 1 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c5_i32_2224 : BitVec 32 := 5#32
  let v4675 : BitVec 32 := Scalar.addi arg18 c5_i32_2224
  let c6_i32_2286 : BitVec 32 := 6#32
  let v4808 : BitVec 32 := Scalar.remsi v4675 c6_i32_2286
  ![v4808.toNat]
def k0_off163 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c5_i32_2224 : BitVec 32 := 5#32
  let v4675 : BitVec 32 := Scalar.addi arg18 c5_i32_2224
  let c6_i32_2286 : BitVec 32 := 6#32
  let v4808 : BitVec 32 := Scalar.remsi v4675 c6_i32_2286
  let c0_i32_2308 : BitVec 32 := 0#32
  let c0_i32_2309 : BitVec 32 := 0#32
  ![v4808.toNat, 0, 0]
def k0_off164 (arg21 : BitVec 32) (arg22 : BitVec 32) : Fin 3 → Nat :=
  let c0_i32_2310 : BitVec 32 := 0#32
  let c512_i32_2292 : BitVec 32 := 512#32
  let v4817 : BitVec 32 := Scalar.muli arg22 c512_i32_2292
  let v4838 : BitVec 32 := v4817
  ![arg21.toNat, 0, v4838.toNat]

def k0_chk19 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) : Prop :=
  (∀ (k0_h42 : k0_cond42 v0 v5 v10 v15 v20 v25 v30 v35 v40 v45 v50 v55 k0_t2 = 1#1), 128 ∣ (k0_mult89 arg22).toNat) ∧
  (∀ (k0_h42 : k0_cond42 v0 v5 v10 v15 v20 v25 v30 v35 v40 v45 v50 v55 k0_t2 = 1#1), ∀ a, (k0_off164 arg21 arg22) a + S1x40x512.size a ≤ S12x40x4096.size a)
theorem k0_mult89_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (k0_hw19 : k0_chk19 v0 v5 v10 v15 v20 v25 v30 v35 v40 v45 v50 v55 k0_t2 arg21 arg22), ∀ (k0_h42 : k0_cond42 v0 v5 v10 v15 v20 v25 v30 v35 v40 v45 v50 v55 k0_t2 = 1#1), 128 ∣ (k0_mult89 arg22).toNat := fun v0 v5 v10 v15 v20 v25 v30 v35 v40 v45 v50 v55 k0_t2 arg21 arg22 k0_hw19 k0_h42 => k0_hw19.1 k0_h42
theorem k0_off164_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (arg22 : BitVec 32) (k0_hw19 : k0_chk19 v0 v5 v10 v15 v20 v25 v30 v35 v40 v45 v50 v55 k0_t2 arg21 arg22), ∀ (k0_h42 : k0_cond42 v0 v5 v10 v15 v20 v25 v30 v35 v40 v45 v50 v55 k0_t2 = 1#1), ∀ a, (k0_off164 arg21 arg22) a + S1x40x512.size a ≤ S12x40x4096.size a := fun v0 v5 v10 v15 v20 v25 v30 v35 v40 v45 v50 v55 k0_t2 arg21 arg22 k0_hw19 k0_h42 => k0_hw19.2 k0_h42

def k0_off165 (arg21 : BitVec 32) : Fin 1 → Nat :=
  let c11_i32_2228 : BitVec 32 := 11#32
  let v4681 : BitVec 32 := Scalar.minsi arg21 c11_i32_2228
  let v4682 : Index := Scalar.indexCast v4681
  ![v4682.toNat]

def k0_chk17 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) : Prop :=
  (∀ (k0_h42 : k0_cond42 v0 v5 v10 v15 v20 v25 v30 v35 v40 v45 v50 v55 k0_t2 = 1#1), ∀ a, (k0_off146 arg21) a + S1.size a ≤ S12.size a) ∧
  (∀ a, (k0_off165 arg21) a + S1.size a ≤ S12.size a)
theorem k0_off146_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (k0_hw17 : k0_chk17 v0 v5 v10 v15 v20 v25 v30 v35 v40 v45 v50 v55 k0_t2 arg21), ∀ (k0_h42 : k0_cond42 v0 v5 v10 v15 v20 v25 v30 v35 v40 v45 v50 v55 k0_t2 = 1#1), ∀ a, (k0_off146 arg21) a + S1.size a ≤ S12.size a := fun v0 v5 v10 v15 v20 v25 v30 v35 v40 v45 v50 v55 k0_t2 arg21 k0_hw17 k0_h42 => k0_hw17.1 k0_h42
theorem k0_off165_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg21 : BitVec 32) (k0_hw17 : k0_chk17 v0 v5 v10 v15 v20 v25 v30 v35 v40 v45 v50 v55 k0_t2 arg21), ∀ a, (k0_off165 arg21) a + S1.size a ≤ S12.size a := fun v0 v5 v10 v15 v20 v25 v30 v35 v40 v45 v50 v55 k0_t2 arg21 k0_hw17 => k0_hw17.2

def k0_off166 (arg19 : BitVec 32) : Fin 1 → Nat :=
  let v4689 : Index := Scalar.indexCast arg19
  ![v4689.toNat]

def k0_mult90 (arg20 : BitVec 32) (v4690 : BitVec 32) : BitVec 32 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m1024_i32 : BitVec 32 := 4294966272#32
  let v4808 : BitVec 32 := Scalar.andi v4696 c_m1024_i32
  v4808
def k0_cond48 (arg20 : BitVec 32) (v4690 : BitVec 32) : BitVec 1 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c512_i32_2236 : BitVec 32 := 512#32
  let v4698 : BitVec 32 := Scalar.andi v4696 c512_i32_2236
  let c0_i32_2237 : BitVec 32 := 0#32
  let v4699 : BitVec 1 := Scalar.cmpi .ne v4698 c0_i32_2237
  let v4700 : BitVec 32 := Scalar.extui v4699
  let c0_i32_2238 : BitVec 32 := 0#32
  let v4701 : BitVec 1 := Scalar.cmpi .ne v4700 c0_i32_2238
  v4701

def k0_mult91 (arg20 : BitVec 32) (v4690 : BitVec 32) : BitVec 32 :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m1024_i32 : BitVec 32 := 4294966272#32
  let v4808 : BitVec 32 := Scalar.andi v4696 c_m1024_i32
  let v4809 : BitVec 32 := v4808
  let v4810 : BitVec 32 := Scalar.addi v4697 v4809
  v4810
def k0_off167 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 1 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  ![v4674.toNat]
def k0_off168 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg20 : BitVec 32) (v4690 : BitVec 32) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m1024_i32 : BitVec 32 := 4294966272#32
  let v4808 : BitVec 32 := Scalar.andi v4696 c_m1024_i32
  let v4809 : BitVec 32 := v4808
  let c0_i32_2286 : BitVec 32 := 0#32
  ![v4674.toNat, v4809.toNat, 0]
def k0_off169 (arg19 : BitVec 32) (arg20 : BitVec 32) (v4690 : BitVec 32) : Fin 3 → Nat :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m1024_i32 : BitVec 32 := 4294966272#32
  let v4808 : BitVec 32 := Scalar.andi v4696 c_m1024_i32
  let v4809 : BitVec 32 := v4808
  let v4810 : BitVec 32 := Scalar.addi v4697 v4809
  let v4811 : BitVec 32 := v4810
  let c0_i32_2287 : BitVec 32 := 0#32
  ![arg19.toNat, v4811.toNat, 0]
def k0_mult92 (arg20 : BitVec 32) (v4690 : BitVec 32) : BitVec 32 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m512_i32 : BitVec 32 := 4294966784#32
  let v4808 : BitVec 32 := Scalar.andi v4696 c_m512_i32
  v4808
def k0_cond49 (arg20 : BitVec 32) (v4690 : BitVec 32) : BitVec 1 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c256_i32_2239 : BitVec 32 := 256#32
  let v4702 : BitVec 32 := Scalar.andi v4696 c256_i32_2239
  let c0_i32_2240 : BitVec 32 := 0#32
  let v4703 : BitVec 1 := Scalar.cmpi .ne v4702 c0_i32_2240
  let v4704 : BitVec 32 := Scalar.extui v4703
  let c0_i32_2241 : BitVec 32 := 0#32
  let v4705 : BitVec 1 := Scalar.cmpi .ne v4704 c0_i32_2241
  v4705

def k0_mult93 (arg20 : BitVec 32) (v4690 : BitVec 32) : BitVec 32 :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m512_i32 : BitVec 32 := 4294966784#32
  let v4808 : BitVec 32 := Scalar.andi v4696 c_m512_i32
  let v4809 : BitVec 32 := v4808
  let v4810 : BitVec 32 := Scalar.addi v4697 v4809
  v4810
def k0_off170 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 1 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  ![v4674.toNat]
def k0_off171 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg20 : BitVec 32) (v4690 : BitVec 32) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m512_i32 : BitVec 32 := 4294966784#32
  let v4808 : BitVec 32 := Scalar.andi v4696 c_m512_i32
  let v4809 : BitVec 32 := v4808
  let c0_i32_2286 : BitVec 32 := 0#32
  ![v4674.toNat, v4809.toNat, 0]
def k0_off172 (arg19 : BitVec 32) (arg20 : BitVec 32) (v4690 : BitVec 32) : Fin 3 → Nat :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m512_i32 : BitVec 32 := 4294966784#32
  let v4808 : BitVec 32 := Scalar.andi v4696 c_m512_i32
  let v4809 : BitVec 32 := v4808
  let v4810 : BitVec 32 := Scalar.addi v4697 v4809
  let v4811 : BitVec 32 := v4810
  let c0_i32_2287 : BitVec 32 := 0#32
  ![arg19.toNat, v4811.toNat, 0]
def k0_mult94 (arg20 : BitVec 32) (v4690 : BitVec 32) : BitVec 32 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m256_i32 : BitVec 32 := 4294967040#32
  let v4808 : BitVec 32 := Scalar.andi v4696 c_m256_i32
  v4808
def k0_cond50 (arg20 : BitVec 32) (v4690 : BitVec 32) : BitVec 1 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c128_i32_2242 : BitVec 32 := 128#32
  let v4706 : BitVec 32 := Scalar.andi v4696 c128_i32_2242
  let c0_i32_2243 : BitVec 32 := 0#32
  let v4707 : BitVec 1 := Scalar.cmpi .ne v4706 c0_i32_2243
  let v4708 : BitVec 32 := Scalar.extui v4707
  let c0_i32_2244 : BitVec 32 := 0#32
  let v4709 : BitVec 1 := Scalar.cmpi .ne v4708 c0_i32_2244
  v4709

def k0_mult95 (arg20 : BitVec 32) (v4690 : BitVec 32) : BitVec 32 :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m256_i32 : BitVec 32 := 4294967040#32
  let v4808 : BitVec 32 := Scalar.andi v4696 c_m256_i32
  let v4809 : BitVec 32 := v4808
  let v4810 : BitVec 32 := Scalar.addi v4697 v4809
  v4810
def k0_off173 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 1 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  ![v4674.toNat]
def k0_off174 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg20 : BitVec 32) (v4690 : BitVec 32) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m256_i32 : BitVec 32 := 4294967040#32
  let v4808 : BitVec 32 := Scalar.andi v4696 c_m256_i32
  let v4809 : BitVec 32 := v4808
  let c0_i32_2286 : BitVec 32 := 0#32
  ![v4674.toNat, v4809.toNat, 0]
def k0_off175 (arg19 : BitVec 32) (arg20 : BitVec 32) (v4690 : BitVec 32) : Fin 3 → Nat :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m256_i32 : BitVec 32 := 4294967040#32
  let v4808 : BitVec 32 := Scalar.andi v4696 c_m256_i32
  let v4809 : BitVec 32 := v4808
  let v4810 : BitVec 32 := Scalar.addi v4697 v4809
  let v4811 : BitVec 32 := v4810
  let c0_i32_2287 : BitVec 32 := 0#32
  ![arg19.toNat, v4811.toNat, 0]
def k0_mult96 (arg20 : BitVec 32) (v4690 : BitVec 32) : BitVec 32 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m128_i32 : BitVec 32 := 4294967168#32
  let v4808 : BitVec 32 := Scalar.andi v4696 c_m128_i32
  v4808
def k0_cond51 (arg20 : BitVec 32) (v4690 : BitVec 32) : BitVec 1 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c64_i32_2245 : BitVec 32 := 64#32
  let v4710 : BitVec 32 := Scalar.andi v4696 c64_i32_2245
  let c0_i32_2246 : BitVec 32 := 0#32
  let v4711 : BitVec 1 := Scalar.cmpi .ne v4710 c0_i32_2246
  let v4712 : BitVec 32 := Scalar.extui v4711
  let c0_i32_2247 : BitVec 32 := 0#32
  let v4713 : BitVec 1 := Scalar.cmpi .ne v4712 c0_i32_2247
  v4713

def k0_mult97 (arg20 : BitVec 32) (v4690 : BitVec 32) : BitVec 32 :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m128_i32 : BitVec 32 := 4294967168#32
  let v4808 : BitVec 32 := Scalar.andi v4696 c_m128_i32
  let v4809 : BitVec 32 := v4808
  let v4810 : BitVec 32 := Scalar.addi v4697 v4809
  v4810
def k0_off176 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 1 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  ![v4674.toNat]
def k0_off177 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg20 : BitVec 32) (v4690 : BitVec 32) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m128_i32 : BitVec 32 := 4294967168#32
  let v4808 : BitVec 32 := Scalar.andi v4696 c_m128_i32
  let v4809 : BitVec 32 := v4808
  let c0_i32_2286 : BitVec 32 := 0#32
  ![v4674.toNat, v4809.toNat, 0]
def k0_off178 (arg19 : BitVec 32) (arg20 : BitVec 32) (v4690 : BitVec 32) : Fin 3 → Nat :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m128_i32 : BitVec 32 := 4294967168#32
  let v4808 : BitVec 32 := Scalar.andi v4696 c_m128_i32
  let v4809 : BitVec 32 := v4808
  let v4810 : BitVec 32 := Scalar.addi v4697 v4809
  let v4811 : BitVec 32 := v4810
  let c0_i32_2287 : BitVec 32 := 0#32
  ![arg19.toNat, v4811.toNat, 0]
def k0_mult98 (arg20 : BitVec 32) (v4690 : BitVec 32) : BitVec 32 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m64_i32 : BitVec 32 := 4294967232#32
  let v4808 : BitVec 32 := Scalar.andi v4696 c_m64_i32
  v4808
def k0_cond52 (arg20 : BitVec 32) (v4690 : BitVec 32) : BitVec 1 :=
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c32_i32 : BitVec 32 := 32#32
  let v4714 : BitVec 32 := Scalar.andi v4696 c32_i32
  let c0_i32_2248 : BitVec 32 := 0#32
  let v4715 : BitVec 1 := Scalar.cmpi .ne v4714 c0_i32_2248
  let v4716 : BitVec 32 := Scalar.extui v4715
  let c0_i32_2249 : BitVec 32 := 0#32
  let v4717 : BitVec 1 := Scalar.cmpi .ne v4716 c0_i32_2249
  v4717

def k0_mult99 (arg20 : BitVec 32) (v4690 : BitVec 32) : BitVec 32 :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m64_i32 : BitVec 32 := 4294967232#32
  let v4808 : BitVec 32 := Scalar.andi v4696 c_m64_i32
  let v4809 : BitVec 32 := v4808
  let v4810 : BitVec 32 := Scalar.addi v4697 v4809
  v4810
def k0_off179 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 1 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  ![v4674.toNat]
def k0_off180 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg20 : BitVec 32) (v4690 : BitVec 32) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m64_i32 : BitVec 32 := 4294967232#32
  let v4808 : BitVec 32 := Scalar.andi v4696 c_m64_i32
  let v4809 : BitVec 32 := v4808
  let c0_i32_2286 : BitVec 32 := 0#32
  ![v4674.toNat, v4809.toNat, 0]
def k0_off181 (arg19 : BitVec 32) (arg20 : BitVec 32) (v4690 : BitVec 32) : Fin 3 → Nat :=
  let c512_i32_2235 : BitVec 32 := 512#32
  let v4697 : BitVec 32 := Scalar.muli arg20 c512_i32_2235
  let c512_i32_2234 : BitVec 32 := 512#32
  let c0_i32_2233 : BitVec 32 := 0#32
  let c512_i32_2232 : BitVec 32 := 512#32
  let v4691 : BitVec 32 := Scalar.muli arg20 c512_i32_2232
  let v4692 : BitVec 32 := Scalar.subi v4690 v4691
  let v4693 : BitVec 32 := Scalar.maxsi c0_i32_2233 v4692
  let v4694 : BitVec 32 := Scalar.minsi c512_i32_2234 v4693
  let c31_i32 : BitVec 32 := 31#32
  let v4695 : BitVec 32 := Scalar.addi v4694 c31_i32
  let c_m32_i32 : BitVec 32 := 4294967264#32
  let v4696 : BitVec 32 := Scalar.andi v4695 c_m32_i32
  let c_m64_i32 : BitVec 32 := 4294967232#32
  let v4808 : BitVec 32 := Scalar.andi v4696 c_m64_i32
  let v4809 : BitVec 32 := v4808
  let v4810 : BitVec 32 := Scalar.addi v4697 v4809
  let v4811 : BitVec 32 := v4810
  let c0_i32_2287 : BitVec 32 := 0#32
  ![arg19.toNat, v4811.toNat, 0]

def k0_chk21_0 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) : Prop :=
  (∀ (k0_h48 : k0_cond48 arg20 v4690 = 1#1), 32 ∣ (k0_mult90 arg20 v4690).toNat) ∧
  (∀ (k0_h48 : k0_cond48 arg20 v4690 = 1#1), 32 ∣ (k0_mult91 arg20 v4690).toNat) ∧
  (∀ (k0_h48 : k0_cond48 arg20 v4690 = 1#1), ∀ a, (k0_off167 v0 v5 v10 v15 v20 v25 v30 v35 v40 v45 v50 v55 k0_t2) a + S1.size a ≤ S6.size a) ∧
  (∀ (k0_h48 : k0_cond48 arg20 v4690 = 1#1), ∀ a, (k0_off168 v0 v5 v10 v15 v20 v25 v30 v35 v40 v45 v50 v55 k0_t2 arg20 v4690) a + S1x512x5120.size a ≤ S6x512x5120.size a) ∧
  (∀ (k0_h48 : k0_cond48 arg20 v4690 = 1#1), ∀ a, (k0_off169 arg19 arg20 v4690) a + S1x512x5120.size a ≤ S12x4096x5120.size a) ∧
  (∀ (k0_h48 : k0_cond48 arg20 v4690 = 1#1), ∀ (hinb : ∀ a, (k0_off169 arg19 arg20 v4690) a + S1x512x5120.size a ≤ S12x4096x5120.size a), (Rect.unit (s := S12x4096x5120) (k0_off169 arg19 arg20 v4690) S1x512x5120.size hinb).WholeWords (EltTy.packing .fp8e4m3)) ∧
  (∀ (k0_h48 : k0_cond48 arg20 v4690 = 1#1), ∀ (hinb : ∀ a, (k0_off168 v0 v5 v10 v15 v20 v25 v30 v35 v40 v45 v50 v55 k0_t2 arg20 v4690) a + S1x512x5120.size a ≤ S6x512x5120.size a), (Rect.unit (s := S6x512x5120) (k0_off168 v0 v5 v10 v15 v20 v25 v30 v35 v40 v45 v50 v55 k0_t2 arg20 v4690) S1x512x5120.size hinb).WholeWords (EltTy.packing .fp8e4m3)) ∧
  (∀ (k0_h49 : k0_cond49 arg20 v4690 = 1#1), 32 ∣ (k0_mult92 arg20 v4690).toNat) ∧
  (∀ (k0_h49 : k0_cond49 arg20 v4690 = 1#1), 32 ∣ (k0_mult93 arg20 v4690).toNat) ∧
  (∀ (k0_h49 : k0_cond49 arg20 v4690 = 1#1), ∀ a, (k0_off170 v0 v5 v10 v15 v20 v25 v30 v35 v40 v45 v50 v55 k0_t2) a + S1.size a ≤ S6.size a) ∧
  (∀ (k0_h49 : k0_cond49 arg20 v4690 = 1#1), ∀ a, (k0_off171 v0 v5 v10 v15 v20 v25 v30 v35 v40 v45 v50 v55 k0_t2 arg20 v4690) a + S1x256x5120.size a ≤ S6x512x5120.size a) ∧
  (∀ (k0_h49 : k0_cond49 arg20 v4690 = 1#1), ∀ a, (k0_off172 arg19 arg20 v4690) a + S1x256x5120.size a ≤ S12x4096x5120.size a) ∧
  (∀ (k0_h49 : k0_cond49 arg20 v4690 = 1#1), ∀ (hinb : ∀ a, (k0_off172 arg19 arg20 v4690) a + S1x256x5120.size a ≤ S12x4096x5120.size a), (Rect.unit (s := S12x4096x5120) (k0_off172 arg19 arg20 v4690) S1x256x5120.size hinb).WholeWords (EltTy.packing .fp8e4m3)) ∧
  (∀ (k0_h49 : k0_cond49 arg20 v4690 = 1#1), ∀ (hinb : ∀ a, (k0_off171 v0 v5 v10 v15 v20 v25 v30 v35 v40 v45 v50 v55 k0_t2 arg20 v4690) a + S1x256x5120.size a ≤ S6x512x5120.size a), (Rect.unit (s := S6x512x5120) (k0_off171 v0 v5 v10 v15 v20 v25 v30 v35 v40 v45 v50 v55 k0_t2 arg20 v4690) S1x256x5120.size hinb).WholeWords (EltTy.packing .fp8e4m3)) ∧
  (∀ (k0_h50 : k0_cond50 arg20 v4690 = 1#1), 32 ∣ (k0_mult94 arg20 v4690).toNat) ∧
  (∀ (k0_h50 : k0_cond50 arg20 v4690 = 1#1), 32 ∣ (k0_mult95 arg20 v4690).toNat) ∧
  (∀ (k0_h50 : k0_cond50 arg20 v4690 = 1#1), ∀ a, (k0_off173 v0 v5 v10 v15 v20 v25 v30 v35 v40 v45 v50 v55 k0_t2) a + S1.size a ≤ S6.size a) ∧
  (∀ (k0_h50 : k0_cond50 arg20 v4690 = 1#1), ∀ a, (k0_off174 v0 v5 v10 v15 v20 v25 v30 v35 v40 v45 v50 v55 k0_t2 arg20 v4690) a + S1x128x5120.size a ≤ S6x512x5120.size a) ∧
  (∀ (k0_h50 : k0_cond50 arg20 v4690 = 1#1), ∀ a, (k0_off175 arg19 arg20 v4690) a + S1x128x5120.size a ≤ S12x4096x5120.size a) ∧
  (∀ (k0_h50 : k0_cond50 arg20 v4690 = 1#1), ∀ (hinb : ∀ a, (k0_off175 arg19 arg20 v4690) a + S1x128x5120.size a ≤ S12x4096x5120.size a), (Rect.unit (s := S12x4096x5120) (k0_off175 arg19 arg20 v4690) S1x128x5120.size hinb).WholeWords (EltTy.packing .fp8e4m3)) ∧
  (∀ (k0_h50 : k0_cond50 arg20 v4690 = 1#1), ∀ (hinb : ∀ a, (k0_off174 v0 v5 v10 v15 v20 v25 v30 v35 v40 v45 v50 v55 k0_t2 arg20 v4690) a + S1x128x5120.size a ≤ S6x512x5120.size a), (Rect.unit (s := S6x512x5120) (k0_off174 v0 v5 v10 v15 v20 v25 v30 v35 v40 v45 v50 v55 k0_t2 arg20 v4690) S1x128x5120.size hinb).WholeWords (EltTy.packing .fp8e4m3)) ∧
  (∀ (k0_h51 : k0_cond51 arg20 v4690 = 1#1), 32 ∣ (k0_mult96 arg20 v4690).toNat) ∧
  (∀ (k0_h51 : k0_cond51 arg20 v4690 = 1#1), 32 ∣ (k0_mult97 arg20 v4690).toNat) ∧
  (∀ (k0_h51 : k0_cond51 arg20 v4690 = 1#1), ∀ a, (k0_off176 v0 v5 v10 v15 v20 v25 v30 v35 v40 v45 v50 v55 k0_t2) a + S1.size a ≤ S6.size a) ∧
  (∀ (k0_h51 : k0_cond51 arg20 v4690 = 1#1), ∀ a, (k0_off177 v0 v5 v10 v15 v20 v25 v30 v35 v40 v45 v50 v55 k0_t2 arg20 v4690) a + S1x64x5120.size a ≤ S6x512x5120.size a) ∧
  (∀ (k0_h51 : k0_cond51 arg20 v4690 = 1#1), ∀ a, (k0_off178 arg19 arg20 v4690) a + S1x64x5120.size a ≤ S12x4096x5120.size a) ∧
  (∀ (k0_h51 : k0_cond51 arg20 v4690 = 1#1), ∀ (hinb : ∀ a, (k0_off178 arg19 arg20 v4690) a + S1x64x5120.size a ≤ S12x4096x5120.size a), (Rect.unit (s := S12x4096x5120) (k0_off178 arg19 arg20 v4690) S1x64x5120.size hinb).WholeWords (EltTy.packing .fp8e4m3)) ∧
  (∀ (k0_h51 : k0_cond51 arg20 v4690 = 1#1), ∀ (hinb : ∀ a, (k0_off177 v0 v5 v10 v15 v20 v25 v30 v35 v40 v45 v50 v55 k0_t2 arg20 v4690) a + S1x64x5120.size a ≤ S6x512x5120.size a), (Rect.unit (s := S6x512x5120) (k0_off177 v0 v5 v10 v15 v20 v25 v30 v35 v40 v45 v50 v55 k0_t2 arg20 v4690) S1x64x5120.size hinb).WholeWords (EltTy.packing .fp8e4m3)) ∧
  (∀ (k0_h52 : k0_cond52 arg20 v4690 = 1#1), 32 ∣ (k0_mult98 arg20 v4690).toNat) ∧
  (∀ (k0_h52 : k0_cond52 arg20 v4690 = 1#1), 32 ∣ (k0_mult99 arg20 v4690).toNat) ∧
  (∀ (k0_h52 : k0_cond52 arg20 v4690 = 1#1), ∀ a, (k0_off179 v0 v5 v10 v15 v20 v25 v30 v35 v40 v45 v50 v55 k0_t2) a + S1.size a ≤ S6.size a) ∧
  (∀ (k0_h52 : k0_cond52 arg20 v4690 = 1#1), ∀ a, (k0_off180 v0 v5 v10 v15 v20 v25 v30 v35 v40 v45 v50 v55 k0_t2 arg20 v4690) a + S1x32x5120.size a ≤ S6x512x5120.size a)
def k0_chk21_1 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) : Prop :=
  (∀ (k0_h52 : k0_cond52 arg20 v4690 = 1#1), ∀ a, (k0_off181 arg19 arg20 v4690) a + S1x32x5120.size a ≤ S12x4096x5120.size a) ∧
  (∀ (k0_h52 : k0_cond52 arg20 v4690 = 1#1), ∀ (hinb : ∀ a, (k0_off181 arg19 arg20 v4690) a + S1x32x5120.size a ≤ S12x4096x5120.size a), (Rect.unit (s := S12x4096x5120) (k0_off181 arg19 arg20 v4690) S1x32x5120.size hinb).WholeWords (EltTy.packing .fp8e4m3)) ∧
  (∀ (k0_h52 : k0_cond52 arg20 v4690 = 1#1), ∀ (hinb : ∀ a, (k0_off180 v0 v5 v10 v15 v20 v25 v30 v35 v40 v45 v50 v55 k0_t2 arg20 v4690) a + S1x32x5120.size a ≤ S6x512x5120.size a), (Rect.unit (s := S6x512x5120) (k0_off180 v0 v5 v10 v15 v20 v25 v30 v35 v40 v45 v50 v55 k0_t2 arg20 v4690) S1x32x5120.size hinb).WholeWords (EltTy.packing .fp8e4m3))
def k0_chk21 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) : Prop :=
  k0_chk21_0 v0 v5 v10 v15 v20 v25 v30 v35 v40 v45 v50 v55 k0_t2 arg19 arg20 v4690 ∧
  k0_chk21_1 v0 v5 v10 v15 v20 v25 v30 v35 v40 v45 v50 v55 k0_t2 arg19 arg20 v4690
theorem k0_mult90_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h48 : k0_cond48 arg20 v4690 = 1#1), 32 ∣ (k0_mult90 arg20 v4690).toNat := fun v0 v5 v10 v15 v20 v25 v30 v35 v40 v45 v50 v55 k0_t2 arg19 arg20 v4690 k0_hw21 k0_h48 => k0_hw21.1.1 k0_h48
theorem k0_mult91_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h48 : k0_cond48 arg20 v4690 = 1#1), 32 ∣ (k0_mult91 arg20 v4690).toNat := fun v0 v5 v10 v15 v20 v25 v30 v35 v40 v45 v50 v55 k0_t2 arg19 arg20 v4690 k0_hw21 k0_h48 => k0_hw21.1.2.1 k0_h48
theorem k0_off167_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h48 : k0_cond48 arg20 v4690 = 1#1), ∀ a, (k0_off167 v0 v5 v10 v15 v20 v25 v30 v35 v40 v45 v50 v55 k0_t2) a + S1.size a ≤ S6.size a := fun v0 v5 v10 v15 v20 v25 v30 v35 v40 v45 v50 v55 k0_t2 arg19 arg20 v4690 k0_hw21 k0_h48 => k0_hw21.1.2.2.1 k0_h48
theorem k0_off168_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h48 : k0_cond48 arg20 v4690 = 1#1), ∀ a, (k0_off168 v0 v5 v10 v15 v20 v25 v30 v35 v40 v45 v50 v55 k0_t2 arg20 v4690) a + S1x512x5120.size a ≤ S6x512x5120.size a := fun v0 v5 v10 v15 v20 v25 v30 v35 v40 v45 v50 v55 k0_t2 arg19 arg20 v4690 k0_hw21 k0_h48 => k0_hw21.1.2.2.2.1 k0_h48
theorem k0_off169_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h48 : k0_cond48 arg20 v4690 = 1#1), ∀ a, (k0_off169 arg19 arg20 v4690) a + S1x512x5120.size a ≤ S12x4096x5120.size a := fun v0 v5 v10 v15 v20 v25 v30 v35 v40 v45 v50 v55 k0_t2 arg19 arg20 v4690 k0_hw21 k0_h48 => k0_hw21.1.2.2.2.2.1 k0_h48
theorem k0_off169_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h48 : k0_cond48 arg20 v4690 = 1#1), (Rect.unit (s := S12x4096x5120) (k0_off169 arg19 arg20 v4690) S1x512x5120.size (k0_off169_inb v0 v5 v10 v15 v20 v25 v30 v35 v40 v45 v50 v55 k0_t2 arg19 arg20 v4690 k0_hw21 k0_h48)).WholeWords (EltTy.packing .fp8e4m3) := fun v0 v5 v10 v15 v20 v25 v30 v35 v40 v45 v50 v55 k0_t2 arg19 arg20 v4690 k0_hw21 k0_h48 => k0_hw21.1.2.2.2.2.2.1 k0_h48 (k0_off169_inb v0 v5 v10 v15 v20 v25 v30 v35 v40 v45 v50 v55 k0_t2 arg19 arg20 v4690 k0_hw21 k0_h48)
theorem k0_off168_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h48 : k0_cond48 arg20 v4690 = 1#1), (Rect.unit (s := S6x512x5120) (k0_off168 v0 v5 v10 v15 v20 v25 v30 v35 v40 v45 v50 v55 k0_t2 arg20 v4690) S1x512x5120.size (k0_off168_inb v0 v5 v10 v15 v20 v25 v30 v35 v40 v45 v50 v55 k0_t2 arg19 arg20 v4690 k0_hw21 k0_h48)).WholeWords (EltTy.packing .fp8e4m3) := fun v0 v5 v10 v15 v20 v25 v30 v35 v40 v45 v50 v55 k0_t2 arg19 arg20 v4690 k0_hw21 k0_h48 => k0_hw21.1.2.2.2.2.2.2.1 k0_h48 (k0_off168_inb v0 v5 v10 v15 v20 v25 v30 v35 v40 v45 v50 v55 k0_t2 arg19 arg20 v4690 k0_hw21 k0_h48)
theorem k0_mult92_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h49 : k0_cond49 arg20 v4690 = 1#1), 32 ∣ (k0_mult92 arg20 v4690).toNat := fun v0 v5 v10 v15 v20 v25 v30 v35 v40 v45 v50 v55 k0_t2 arg19 arg20 v4690 k0_hw21 k0_h49 => k0_hw21.1.2.2.2.2.2.2.2.1 k0_h49
theorem k0_mult93_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h49 : k0_cond49 arg20 v4690 = 1#1), 32 ∣ (k0_mult93 arg20 v4690).toNat := fun v0 v5 v10 v15 v20 v25 v30 v35 v40 v45 v50 v55 k0_t2 arg19 arg20 v4690 k0_hw21 k0_h49 => k0_hw21.1.2.2.2.2.2.2.2.2.1 k0_h49
theorem k0_off170_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h49 : k0_cond49 arg20 v4690 = 1#1), ∀ a, (k0_off170 v0 v5 v10 v15 v20 v25 v30 v35 v40 v45 v50 v55 k0_t2) a + S1.size a ≤ S6.size a := fun v0 v5 v10 v15 v20 v25 v30 v35 v40 v45 v50 v55 k0_t2 arg19 arg20 v4690 k0_hw21 k0_h49 => k0_hw21.1.2.2.2.2.2.2.2.2.2.1 k0_h49
theorem k0_off171_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h49 : k0_cond49 arg20 v4690 = 1#1), ∀ a, (k0_off171 v0 v5 v10 v15 v20 v25 v30 v35 v40 v45 v50 v55 k0_t2 arg20 v4690) a + S1x256x5120.size a ≤ S6x512x5120.size a := fun v0 v5 v10 v15 v20 v25 v30 v35 v40 v45 v50 v55 k0_t2 arg19 arg20 v4690 k0_hw21 k0_h49 => k0_hw21.1.2.2.2.2.2.2.2.2.2.2.1 k0_h49
theorem k0_off172_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h49 : k0_cond49 arg20 v4690 = 1#1), ∀ a, (k0_off172 arg19 arg20 v4690) a + S1x256x5120.size a ≤ S12x4096x5120.size a := fun v0 v5 v10 v15 v20 v25 v30 v35 v40 v45 v50 v55 k0_t2 arg19 arg20 v4690 k0_hw21 k0_h49 => k0_hw21.1.2.2.2.2.2.2.2.2.2.2.2.1 k0_h49
theorem k0_off172_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h49 : k0_cond49 arg20 v4690 = 1#1), (Rect.unit (s := S12x4096x5120) (k0_off172 arg19 arg20 v4690) S1x256x5120.size (k0_off172_inb v0 v5 v10 v15 v20 v25 v30 v35 v40 v45 v50 v55 k0_t2 arg19 arg20 v4690 k0_hw21 k0_h49)).WholeWords (EltTy.packing .fp8e4m3) := fun v0 v5 v10 v15 v20 v25 v30 v35 v40 v45 v50 v55 k0_t2 arg19 arg20 v4690 k0_hw21 k0_h49 => k0_hw21.1.2.2.2.2.2.2.2.2.2.2.2.2.1 k0_h49 (k0_off172_inb v0 v5 v10 v15 v20 v25 v30 v35 v40 v45 v50 v55 k0_t2 arg19 arg20 v4690 k0_hw21 k0_h49)
theorem k0_off171_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h49 : k0_cond49 arg20 v4690 = 1#1), (Rect.unit (s := S6x512x5120) (k0_off171 v0 v5 v10 v15 v20 v25 v30 v35 v40 v45 v50 v55 k0_t2 arg20 v4690) S1x256x5120.size (k0_off171_inb v0 v5 v10 v15 v20 v25 v30 v35 v40 v45 v50 v55 k0_t2 arg19 arg20 v4690 k0_hw21 k0_h49)).WholeWords (EltTy.packing .fp8e4m3) := fun v0 v5 v10 v15 v20 v25 v30 v35 v40 v45 v50 v55 k0_t2 arg19 arg20 v4690 k0_hw21 k0_h49 => k0_hw21.1.2.2.2.2.2.2.2.2.2.2.2.2.2.1 k0_h49 (k0_off171_inb v0 v5 v10 v15 v20 v25 v30 v35 v40 v45 v50 v55 k0_t2 arg19 arg20 v4690 k0_hw21 k0_h49)
theorem k0_mult94_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h50 : k0_cond50 arg20 v4690 = 1#1), 32 ∣ (k0_mult94 arg20 v4690).toNat := fun v0 v5 v10 v15 v20 v25 v30 v35 v40 v45 v50 v55 k0_t2 arg19 arg20 v4690 k0_hw21 k0_h50 => k0_hw21.1.2.2.2.2.2.2.2.2.2.2.2.2.2.2.1 k0_h50
theorem k0_mult95_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h50 : k0_cond50 arg20 v4690 = 1#1), 32 ∣ (k0_mult95 arg20 v4690).toNat := fun v0 v5 v10 v15 v20 v25 v30 v35 v40 v45 v50 v55 k0_t2 arg19 arg20 v4690 k0_hw21 k0_h50 => k0_hw21.1.2.2.2.2.2.2.2.2.2.2.2.2.2.2.2.1 k0_h50
theorem k0_off173_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h50 : k0_cond50 arg20 v4690 = 1#1), ∀ a, (k0_off173 v0 v5 v10 v15 v20 v25 v30 v35 v40 v45 v50 v55 k0_t2) a + S1.size a ≤ S6.size a := fun v0 v5 v10 v15 v20 v25 v30 v35 v40 v45 v50 v55 k0_t2 arg19 arg20 v4690 k0_hw21 k0_h50 => k0_hw21.1.2.2.2.2.2.2.2.2.2.2.2.2.2.2.2.2.1 k0_h50
theorem k0_off174_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h50 : k0_cond50 arg20 v4690 = 1#1), ∀ a, (k0_off174 v0 v5 v10 v15 v20 v25 v30 v35 v40 v45 v50 v55 k0_t2 arg20 v4690) a + S1x128x5120.size a ≤ S6x512x5120.size a := fun v0 v5 v10 v15 v20 v25 v30 v35 v40 v45 v50 v55 k0_t2 arg19 arg20 v4690 k0_hw21 k0_h50 => k0_hw21.1.2.2.2.2.2.2.2.2.2.2.2.2.2.2.2.2.2.1 k0_h50
theorem k0_off175_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h50 : k0_cond50 arg20 v4690 = 1#1), ∀ a, (k0_off175 arg19 arg20 v4690) a + S1x128x5120.size a ≤ S12x4096x5120.size a := fun v0 v5 v10 v15 v20 v25 v30 v35 v40 v45 v50 v55 k0_t2 arg19 arg20 v4690 k0_hw21 k0_h50 => k0_hw21.1.2.2.2.2.2.2.2.2.2.2.2.2.2.2.2.2.2.2.1 k0_h50
theorem k0_off175_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h50 : k0_cond50 arg20 v4690 = 1#1), (Rect.unit (s := S12x4096x5120) (k0_off175 arg19 arg20 v4690) S1x128x5120.size (k0_off175_inb v0 v5 v10 v15 v20 v25 v30 v35 v40 v45 v50 v55 k0_t2 arg19 arg20 v4690 k0_hw21 k0_h50)).WholeWords (EltTy.packing .fp8e4m3) := fun v0 v5 v10 v15 v20 v25 v30 v35 v40 v45 v50 v55 k0_t2 arg19 arg20 v4690 k0_hw21 k0_h50 => k0_hw21.1.2.2.2.2.2.2.2.2.2.2.2.2.2.2.2.2.2.2.2.1 k0_h50 (k0_off175_inb v0 v5 v10 v15 v20 v25 v30 v35 v40 v45 v50 v55 k0_t2 arg19 arg20 v4690 k0_hw21 k0_h50)
theorem k0_off174_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h50 : k0_cond50 arg20 v4690 = 1#1), (Rect.unit (s := S6x512x5120) (k0_off174 v0 v5 v10 v15 v20 v25 v30 v35 v40 v45 v50 v55 k0_t2 arg20 v4690) S1x128x5120.size (k0_off174_inb v0 v5 v10 v15 v20 v25 v30 v35 v40 v45 v50 v55 k0_t2 arg19 arg20 v4690 k0_hw21 k0_h50)).WholeWords (EltTy.packing .fp8e4m3) := fun v0 v5 v10 v15 v20 v25 v30 v35 v40 v45 v50 v55 k0_t2 arg19 arg20 v4690 k0_hw21 k0_h50 => k0_hw21.1.2.2.2.2.2.2.2.2.2.2.2.2.2.2.2.2.2.2.2.2.1 k0_h50 (k0_off174_inb v0 v5 v10 v15 v20 v25 v30 v35 v40 v45 v50 v55 k0_t2 arg19 arg20 v4690 k0_hw21 k0_h50)
theorem k0_mult96_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h51 : k0_cond51 arg20 v4690 = 1#1), 32 ∣ (k0_mult96 arg20 v4690).toNat := fun v0 v5 v10 v15 v20 v25 v30 v35 v40 v45 v50 v55 k0_t2 arg19 arg20 v4690 k0_hw21 k0_h51 => k0_hw21.1.2.2.2.2.2.2.2.2.2.2.2.2.2.2.2.2.2.2.2.2.2.1 k0_h51
theorem k0_mult97_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h51 : k0_cond51 arg20 v4690 = 1#1), 32 ∣ (k0_mult97 arg20 v4690).toNat := fun v0 v5 v10 v15 v20 v25 v30 v35 v40 v45 v50 v55 k0_t2 arg19 arg20 v4690 k0_hw21 k0_h51 => k0_hw21.1.2.2.2.2.2.2.2.2.2.2.2.2.2.2.2.2.2.2.2.2.2.2.1 k0_h51
theorem k0_off176_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h51 : k0_cond51 arg20 v4690 = 1#1), ∀ a, (k0_off176 v0 v5 v10 v15 v20 v25 v30 v35 v40 v45 v50 v55 k0_t2) a + S1.size a ≤ S6.size a := fun v0 v5 v10 v15 v20 v25 v30 v35 v40 v45 v50 v55 k0_t2 arg19 arg20 v4690 k0_hw21 k0_h51 => k0_hw21.1.2.2.2.2.2.2.2.2.2.2.2.2.2.2.2.2.2.2.2.2.2.2.2.1 k0_h51
theorem k0_off177_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h51 : k0_cond51 arg20 v4690 = 1#1), ∀ a, (k0_off177 v0 v5 v10 v15 v20 v25 v30 v35 v40 v45 v50 v55 k0_t2 arg20 v4690) a + S1x64x5120.size a ≤ S6x512x5120.size a := fun v0 v5 v10 v15 v20 v25 v30 v35 v40 v45 v50 v55 k0_t2 arg19 arg20 v4690 k0_hw21 k0_h51 => k0_hw21.1.2.2.2.2.2.2.2.2.2.2.2.2.2.2.2.2.2.2.2.2.2.2.2.2.1 k0_h51
theorem k0_off178_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h51 : k0_cond51 arg20 v4690 = 1#1), ∀ a, (k0_off178 arg19 arg20 v4690) a + S1x64x5120.size a ≤ S12x4096x5120.size a := fun v0 v5 v10 v15 v20 v25 v30 v35 v40 v45 v50 v55 k0_t2 arg19 arg20 v4690 k0_hw21 k0_h51 => k0_hw21.1.2.2.2.2.2.2.2.2.2.2.2.2.2.2.2.2.2.2.2.2.2.2.2.2.2.1 k0_h51
theorem k0_off178_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h51 : k0_cond51 arg20 v4690 = 1#1), (Rect.unit (s := S12x4096x5120) (k0_off178 arg19 arg20 v4690) S1x64x5120.size (k0_off178_inb v0 v5 v10 v15 v20 v25 v30 v35 v40 v45 v50 v55 k0_t2 arg19 arg20 v4690 k0_hw21 k0_h51)).WholeWords (EltTy.packing .fp8e4m3) := fun v0 v5 v10 v15 v20 v25 v30 v35 v40 v45 v50 v55 k0_t2 arg19 arg20 v4690 k0_hw21 k0_h51 => k0_hw21.1.2.2.2.2.2.2.2.2.2.2.2.2.2.2.2.2.2.2.2.2.2.2.2.2.2.2.1 k0_h51 (k0_off178_inb v0 v5 v10 v15 v20 v25 v30 v35 v40 v45 v50 v55 k0_t2 arg19 arg20 v4690 k0_hw21 k0_h51)
theorem k0_off177_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h51 : k0_cond51 arg20 v4690 = 1#1), (Rect.unit (s := S6x512x5120) (k0_off177 v0 v5 v10 v15 v20 v25 v30 v35 v40 v45 v50 v55 k0_t2 arg20 v4690) S1x64x5120.size (k0_off177_inb v0 v5 v10 v15 v20 v25 v30 v35 v40 v45 v50 v55 k0_t2 arg19 arg20 v4690 k0_hw21 k0_h51)).WholeWords (EltTy.packing .fp8e4m3) := fun v0 v5 v10 v15 v20 v25 v30 v35 v40 v45 v50 v55 k0_t2 arg19 arg20 v4690 k0_hw21 k0_h51 => k0_hw21.1.2.2.2.2.2.2.2.2.2.2.2.2.2.2.2.2.2.2.2.2.2.2.2.2.2.2.2.1 k0_h51 (k0_off177_inb v0 v5 v10 v15 v20 v25 v30 v35 v40 v45 v50 v55 k0_t2 arg19 arg20 v4690 k0_hw21 k0_h51)
theorem k0_mult98_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h52 : k0_cond52 arg20 v4690 = 1#1), 32 ∣ (k0_mult98 arg20 v4690).toNat := fun v0 v5 v10 v15 v20 v25 v30 v35 v40 v45 v50 v55 k0_t2 arg19 arg20 v4690 k0_hw21 k0_h52 => k0_hw21.1.2.2.2.2.2.2.2.2.2.2.2.2.2.2.2.2.2.2.2.2.2.2.2.2.2.2.2.2.1 k0_h52
theorem k0_mult99_dvd : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h52 : k0_cond52 arg20 v4690 = 1#1), 32 ∣ (k0_mult99 arg20 v4690).toNat := fun v0 v5 v10 v15 v20 v25 v30 v35 v40 v45 v50 v55 k0_t2 arg19 arg20 v4690 k0_hw21 k0_h52 => k0_hw21.1.2.2.2.2.2.2.2.2.2.2.2.2.2.2.2.2.2.2.2.2.2.2.2.2.2.2.2.2.2.1 k0_h52
theorem k0_off179_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h52 : k0_cond52 arg20 v4690 = 1#1), ∀ a, (k0_off179 v0 v5 v10 v15 v20 v25 v30 v35 v40 v45 v50 v55 k0_t2) a + S1.size a ≤ S6.size a := fun v0 v5 v10 v15 v20 v25 v30 v35 v40 v45 v50 v55 k0_t2 arg19 arg20 v4690 k0_hw21 k0_h52 => k0_hw21.1.2.2.2.2.2.2.2.2.2.2.2.2.2.2.2.2.2.2.2.2.2.2.2.2.2.2.2.2.2.2.1 k0_h52
theorem k0_off180_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h52 : k0_cond52 arg20 v4690 = 1#1), ∀ a, (k0_off180 v0 v5 v10 v15 v20 v25 v30 v35 v40 v45 v50 v55 k0_t2 arg20 v4690) a + S1x32x5120.size a ≤ S6x512x5120.size a := fun v0 v5 v10 v15 v20 v25 v30 v35 v40 v45 v50 v55 k0_t2 arg19 arg20 v4690 k0_hw21 k0_h52 => k0_hw21.1.2.2.2.2.2.2.2.2.2.2.2.2.2.2.2.2.2.2.2.2.2.2.2.2.2.2.2.2.2.2.2 k0_h52
theorem k0_off181_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h52 : k0_cond52 arg20 v4690 = 1#1), ∀ a, (k0_off181 arg19 arg20 v4690) a + S1x32x5120.size a ≤ S12x4096x5120.size a := fun v0 v5 v10 v15 v20 v25 v30 v35 v40 v45 v50 v55 k0_t2 arg19 arg20 v4690 k0_hw21 k0_h52 => k0_hw21.2.1 k0_h52
theorem k0_off181_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h52 : k0_cond52 arg20 v4690 = 1#1), (Rect.unit (s := S12x4096x5120) (k0_off181 arg19 arg20 v4690) S1x32x5120.size (k0_off181_inb v0 v5 v10 v15 v20 v25 v30 v35 v40 v45 v50 v55 k0_t2 arg19 arg20 v4690 k0_hw21 k0_h52)).WholeWords (EltTy.packing .fp8e4m3) := fun v0 v5 v10 v15 v20 v25 v30 v35 v40 v45 v50 v55 k0_t2 arg19 arg20 v4690 k0_hw21 k0_h52 => k0_hw21.2.2.1 k0_h52 (k0_off181_inb v0 v5 v10 v15 v20 v25 v30 v35 v40 v45 v50 v55 k0_t2 arg19 arg20 v4690 k0_hw21 k0_h52)
theorem k0_off180_wordsfp8e4m3 : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) (arg19 : BitVec 32) (arg20 : BitVec 32) (v4690 : BitVec 32) (k0_hw21 : k0_chk21 v0 v5 v10 v15 v20 v25 v30 v35 v40 v45 v50 v55 k0_t2 arg19 arg20 v4690), ∀ (k0_h52 : k0_cond52 arg20 v4690 = 1#1), (Rect.unit (s := S6x512x5120) (k0_off180 v0 v5 v10 v15 v20 v25 v30 v35 v40 v45 v50 v55 k0_t2 arg20 v4690) S1x32x5120.size (k0_off180_inb v0 v5 v10 v15 v20 v25 v30 v35 v40 v45 v50 v55 k0_t2 arg19 arg20 v4690 k0_hw21 k0_h52)).WholeWords (EltTy.packing .fp8e4m3) := fun v0 v5 v10 v15 v20 v25 v30 v35 v40 v45 v50 v55 k0_t2 arg19 arg20 v4690 k0_hw21 k0_h52 => k0_hw21.2.2.2 k0_h52 (k0_off180_inb v0 v5 v10 v15 v20 v25 v30 v35 v40 v45 v50 v55 k0_t2 arg19 arg20 v4690 k0_hw21 k0_h52)

def k0_mult100 (arg20 : BitVec 32) : BitVec 32 :=
  let c512_i32_2235 : BitVec 32 := 512#32
  let v4697 : BitVec 32 := Scalar.muli arg20 c512_i32_2235
  v4697

def k0_off182 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 1 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  ![v4674.toNat]
def k0_off183 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  let c0_i32_2250 : BitVec 32 := 0#32
  let c0_i32_2251 : BitVec 32 := 0#32
  ![v4674.toNat, 0, 0]
def k0_off184 (arg19 : BitVec 32) (arg20 : BitVec 32) : Fin 3 → Nat :=
  let c0_i32_2252 : BitVec 32 := 0#32
  let c512_i32_2235 : BitVec 32 := 512#32
  let v4697 : BitVec 32 := Scalar.muli arg20 c512_i32_2235
  let v4718 : BitVec 32 := v4697
  ![arg19.toNat, 0, v4718.toNat]
def k0_off185 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  let v4725 : Index := Scalar.indexCast v4674
  let c0_2253 : Index := 0#32
  let c0_2254 : Index := 0#32
  ![v4725.toNat, 0, 0]
def k0_off186 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  let v4732 : Index := Scalar.indexCast v4674
  let c0_2258 : Index := 0#32
  let c0_2259 : Index := 0#32
  ![v4732.toNat, 0, 0]
def k0_off187 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  let v4745 : Index := Scalar.indexCast v4674
  let c0_2263 : Index := 0#32
  let c1280_2264 : Index := 1280#32
  ![v4745.toNat, 0, 1280]
def k0_off188 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  let v4758 : Index := Scalar.indexCast v4674
  let c0_2268 : Index := 0#32
  let c2560_2269 : Index := 2560#32
  ![v4758.toNat, 0, 2560]
def k0_off189 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_t2 : Fin (k0_t2_loop v0 v5 v10 v15 v20 v25 v30 v35 v40 v45 v50 v55).trips) : Fin 3 → Nat :=
  let c0_i32_196 : BitVec 32 := 0#32
  let c0_i32 : BitVec 32 := 0#32
  let c511_i32 : BitVec 32 := 511#32
  let v1 : BitVec 32 := Scalar.addi v0 c511_i32
  let c9_i32 : BitVec 32 := 9#32
  let v2 : BitVec 32 := Scalar.shrui v1 c9_i32
  let c1_i32 : BitVec 32 := 1#32
  let v3 : BitVec 32 := Scalar.maxsi v2 c1_i32
  let v4 : BitVec 32 := Scalar.addi c0_i32 v3
  let c511_i32_0 : BitVec 32 := 511#32
  let v6 : BitVec 32 := Scalar.addi v5 c511_i32_0
  let c9_i32_1 : BitVec 32 := 9#32
  let v7 : BitVec 32 := Scalar.shrui v6 c9_i32_1
  let c1_i32_2 : BitVec 32 := 1#32
  let v8 : BitVec 32 := Scalar.maxsi v7 c1_i32_2
  let v9 : BitVec 32 := Scalar.addi v4 v8
  let c511_i32_3 : BitVec 32 := 511#32
  let v11 : BitVec 32 := Scalar.addi v10 c511_i32_3
  let c9_i32_4 : BitVec 32 := 9#32
  let v12 : BitVec 32 := Scalar.shrui v11 c9_i32_4
  let c1_i32_5 : BitVec 32 := 1#32
  let v13 : BitVec 32 := Scalar.maxsi v12 c1_i32_5
  let v14 : BitVec 32 := Scalar.addi v9 v13
  let c511_i32_6 : BitVec 32 := 511#32
  let v16 : BitVec 32 := Scalar.addi v15 c511_i32_6
  let c9_i32_7 : BitVec 32 := 9#32
  let v17 : BitVec 32 := Scalar.shrui v16 c9_i32_7
  let c1_i32_8 : BitVec 32 := 1#32
  let v18 : BitVec 32 := Scalar.maxsi v17 c1_i32_8
  let v19 : BitVec 32 := Scalar.addi v14 v18
  let c511_i32_9 : BitVec 32 := 511#32
  let v21 : BitVec 32 := Scalar.addi v20 c511_i32_9
  let c9_i32_10 : BitVec 32 := 9#32
  let v22 : BitVec 32 := Scalar.shrui v21 c9_i32_10
  let c1_i32_11 : BitVec 32 := 1#32
  let v23 : BitVec 32 := Scalar.maxsi v22 c1_i32_11
  let v24 : BitVec 32 := Scalar.addi v19 v23
  let c511_i32_12 : BitVec 32 := 511#32
  let v26 : BitVec 32 := Scalar.addi v25 c511_i32_12
  let c9_i32_13 : BitVec 32 := 9#32
  let v27 : BitVec 32 := Scalar.shrui v26 c9_i32_13
  let c1_i32_14 : BitVec 32 := 1#32
  let v28 : BitVec 32 := Scalar.maxsi v27 c1_i32_14
  let v29 : BitVec 32 := Scalar.addi v24 v28
  let c511_i32_15 : BitVec 32 := 511#32
  let v31 : BitVec 32 := Scalar.addi v30 c511_i32_15
  let c9_i32_16 : BitVec 32 := 9#32
  let v32 : BitVec 32 := Scalar.shrui v31 c9_i32_16
  let c1_i32_17 : BitVec 32 := 1#32
  let v33 : BitVec 32 := Scalar.maxsi v32 c1_i32_17
  let v34 : BitVec 32 := Scalar.addi v29 v33
  let c511_i32_18 : BitVec 32 := 511#32
  let v36 : BitVec 32 := Scalar.addi v35 c511_i32_18
  let c9_i32_19 : BitVec 32 := 9#32
  let v37 : BitVec 32 := Scalar.shrui v36 c9_i32_19
  let c1_i32_20 : BitVec 32 := 1#32
  let v38 : BitVec 32 := Scalar.maxsi v37 c1_i32_20
  let v39 : BitVec 32 := Scalar.addi v34 v38
  let c511_i32_21 : BitVec 32 := 511#32
  let v41 : BitVec 32 := Scalar.addi v40 c511_i32_21
  let c9_i32_22 : BitVec 32 := 9#32
  let v42 : BitVec 32 := Scalar.shrui v41 c9_i32_22
  let c1_i32_23 : BitVec 32 := 1#32
  let v43 : BitVec 32 := Scalar.maxsi v42 c1_i32_23
  let v44 : BitVec 32 := Scalar.addi v39 v43
  let c511_i32_24 : BitVec 32 := 511#32
  let v46 : BitVec 32 := Scalar.addi v45 c511_i32_24
  let c9_i32_25 : BitVec 32 := 9#32
  let v47 : BitVec 32 := Scalar.shrui v46 c9_i32_25
  let c1_i32_26 : BitVec 32 := 1#32
  let v48 : BitVec 32 := Scalar.maxsi v47 c1_i32_26
  let v49 : BitVec 32 := Scalar.addi v44 v48
  let c511_i32_27 : BitVec 32 := 511#32
  let v51 : BitVec 32 := Scalar.addi v50 c511_i32_27
  let c9_i32_28 : BitVec 32 := 9#32
  let v52 : BitVec 32 := Scalar.shrui v51 c9_i32_28
  let c1_i32_29 : BitVec 32 := 1#32
  let v53 : BitVec 32 := Scalar.maxsi v52 c1_i32_29
  let v54 : BitVec 32 := Scalar.addi v49 v53
  let c511_i32_30 : BitVec 32 := 511#32
  let v56 : BitVec 32 := Scalar.addi v55 c511_i32_30
  let c9_i32_31 : BitVec 32 := 9#32
  let v57 : BitVec 32 := Scalar.shrui v56 c9_i32_31
  let c1_i32_32 : BitVec 32 := 1#32
  let v58 : BitVec 32 := Scalar.maxsi v57 c1_i32_32
  let v59 : BitVec 32 := Scalar.addi v54 v58
  let v493 : BitVec 32 := Scalar.subi v59 c0_i32_196
  let c1_i32_199 : BitVec 32 := 1#32
  let v495 : BitVec 32 := Scalar.divsi v493 c1_i32_199
  let v496 : BitVec 32 := Scalar.muli v495 c1_i32_199
  let v497 : BitVec 32 := Scalar.addi c0_i32_196 v496
  let c1_i32_201 : BitVec 32 := 1#32
  let arg18 : BitVec 32 := Scf.iv v497 c1_i32_201 k0_t2
  let c6_i32_2223 : BitVec 32 := 6#32
  let v4674 : BitVec 32 := Scalar.remsi arg18 c6_i32_2223
  let v4771 : Index := Scalar.indexCast v4674
  let c0_2273 : Index := 0#32
  let c3840_2274 : Index := 3840#32
  ![v4771.toNat, 0, 3840]

def k0_chk10 (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) : Prop :=
  ((k0_t1_loop v0 v5 v10 v15 v20 v25 v30 v35 v40 v45 v50 v55).OK) ∧
  (∀ k0_t1 : Fin (k0_t1_loop v0 v5 v10 v15 v20 v25 v30 v35 v40 v45 v50 v55).trips, ∀ (k0_h31 : k0_cond31 v0 v5 v10 v15 v20 v25 v30 v35 v40 v45 v50 v55 k0_t1 = 1#1), ∀ a, (k0_off116 v0 v5 v10 v15 v20 v25 v30 v35 v40 v45 v50 v55 k0_t1) a + S1.size a ≤ S6.size a) ∧
  (∀ k0_t1 : Fin (k0_t1_loop v0 v5 v10 v15 v20 v25 v30 v35 v40 v45 v50 v55).trips, ∀ (k0_h31 : k0_cond31 v0 v5 v10 v15 v20 v25 v30 v35 v40 v45 v50 v55 k0_t1 = 1#1), ∀ a, (k0_off117 v0 v5 v10 v15 v20 v25 v30 v35 v40 v45 v50 v55 k0_t1) a + S1x40x512.size a ≤ S6x40x512.size a) ∧
  (∀ k0_t1 : Fin (k0_t1_loop v0 v5 v10 v15 v20 v25 v30 v35 v40 v45 v50 v55).trips, ∀ a, (k0_off136 v0 v5 v10 v15 v20 v25 v30 v35 v40 v45 v50 v55 k0_t1) a + S1.size a ≤ S6.size a) ∧
  (∀ k0_t1 : Fin (k0_t1_loop v0 v5 v10 v15 v20 v25 v30 v35 v40 v45 v50 v55).trips, ∀ a, (k0_off137 v0 v5 v10 v15 v20 v25 v30 v35 v40 v45 v50 v55 k0_t1) a + S1x40x512.size a ≤ S6x40x512.size a) ∧
  (∀ k0_t1 : Fin (k0_t1_loop v0 v5 v10 v15 v20 v25 v30 v35 v40 v45 v50 v55).trips, ∀ a, (k0_off139 v0 v5 v10 v15 v20 v25 v30 v35 v40 v45 v50 v55 k0_t1) a + S1x40x512.size a ≤ S6x40x512.size a) ∧
  (∀ k0_t1 : Fin (k0_t1_loop v0 v5 v10 v15 v20 v25 v30 v35 v40 v45 v50 v55).trips, ∀ a, (k0_off140 v0 v5 v10 v15 v20 v25 v30 v35 v40 v45 v50 v55 k0_t1) a + S1x512x1280.size a ≤ S6x512x5120.size a) ∧
  (∀ k0_t1 : Fin (k0_t1_loop v0 v5 v10 v15 v20 v25 v30 v35 v40 v45 v50 v55).trips, ∀ a, (k0_off141 v0 v5 v10 v15 v20 v25 v30 v35 v40 v45 v50 v55 k0_t1) a + S1x512x1280.size a ≤ S6x512x5120.size a) ∧
  (∀ k0_t1 : Fin (k0_t1_loop v0 v5 v10 v15 v20 v25 v30 v35 v40 v45 v50 v55).trips, ∀ a, (k0_off142 v0 v5 v10 v15 v20 v25 v30 v35 v40 v45 v50 v55 k0_t1) a + S1x512x1280.size a ≤ S6x512x5120.size a) ∧
  (∀ k0_t1 : Fin (k0_t1_loop v0 v5 v10 v15 v20 v25 v30 v35 v40 v45 v50 v55).trips, ∀ a, (k0_off143 v0 v5 v10 v15 v20 v25 v30 v35 v40 v45 v50 v55 k0_t1) a + S1x512x1280.size a ≤ S6x512x5120.size a) ∧
  ((k0_t2_loop v0 v5 v10 v15 v20 v25 v30 v35 v40 v45 v50 v55).OK) ∧
  (∀ k0_t2 : Fin (k0_t2_loop v0 v5 v10 v15 v20 v25 v30 v35 v40 v45 v50 v55).trips, ∀ (k0_h42 : k0_cond42 v0 v5 v10 v15 v20 v25 v30 v35 v40 v45 v50 v55 k0_t2 = 1#1), ∀ a, (k0_off162 v0 v5 v10 v15 v20 v25 v30 v35 v40 v45 v50 v55 k0_t2) a + S1.size a ≤ S6.size a) ∧
  (∀ k0_t2 : Fin (k0_t2_loop v0 v5 v10 v15 v20 v25 v30 v35 v40 v45 v50 v55).trips, ∀ (k0_h42 : k0_cond42 v0 v5 v10 v15 v20 v25 v30 v35 v40 v45 v50 v55 k0_t2 = 1#1), ∀ a, (k0_off163 v0 v5 v10 v15 v20 v25 v30 v35 v40 v45 v50 v55 k0_t2) a + S1x40x512.size a ≤ S6x40x512.size a) ∧
  (∀ k0_t2 : Fin (k0_t2_loop v0 v5 v10 v15 v20 v25 v30 v35 v40 v45 v50 v55).trips, ∀ a, (k0_off182 v0 v5 v10 v15 v20 v25 v30 v35 v40 v45 v50 v55 k0_t2) a + S1.size a ≤ S6.size a) ∧
  (∀ k0_t2 : Fin (k0_t2_loop v0 v5 v10 v15 v20 v25 v30 v35 v40 v45 v50 v55).trips, ∀ a, (k0_off183 v0 v5 v10 v15 v20 v25 v30 v35 v40 v45 v50 v55 k0_t2) a + S1x40x512.size a ≤ S6x40x512.size a) ∧
  (∀ k0_t2 : Fin (k0_t2_loop v0 v5 v10 v15 v20 v25 v30 v35 v40 v45 v50 v55).trips, ∀ a, (k0_off185 v0 v5 v10 v15 v20 v25 v30 v35 v40 v45 v50 v55 k0_t2) a + S1x40x512.size a ≤ S6x40x512.size a) ∧
  (∀ k0_t2 : Fin (k0_t2_loop v0 v5 v10 v15 v20 v25 v30 v35 v40 v45 v50 v55).trips, ∀ a, (k0_off186 v0 v5 v10 v15 v20 v25 v30 v35 v40 v45 v50 v55 k0_t2) a + S1x512x1280.size a ≤ S6x512x5120.size a) ∧
  (∀ k0_t2 : Fin (k0_t2_loop v0 v5 v10 v15 v20 v25 v30 v35 v40 v45 v50 v55).trips, ∀ a, (k0_off187 v0 v5 v10 v15 v20 v25 v30 v35 v40 v45 v50 v55 k0_t2) a + S1x512x1280.size a ≤ S6x512x5120.size a) ∧
  (∀ k0_t2 : Fin (k0_t2_loop v0 v5 v10 v15 v20 v25 v30 v35 v40 v45 v50 v55).trips, ∀ a, (k0_off188 v0 v5 v10 v15 v20 v25 v30 v35 v40 v45 v50 v55 k0_t2) a + S1x512x1280.size a ≤ S6x512x5120.size a) ∧
  (∀ k0_t2 : Fin (k0_t2_loop v0 v5 v10 v15 v20 v25 v30 v35 v40 v45 v50 v55).trips, ∀ a, (k0_off189 v0 v5 v10 v15 v20 v25 v30 v35 v40 v45 v50 v55 k0_t2) a + S1x512x1280.size a ≤ S6x512x5120.size a)
theorem k0_t1_ok : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55), (k0_t1_loop v0 v5 v10 v15 v20 v25 v30 v35 v40 v45 v50 v55).OK := fun v0 v5 v10 v15 v20 v25 v30 v35 v40 v45 v50 v55 k0_hw10 => k0_hw10.1
theorem k0_off116_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t1 : Fin (k0_t1_loop v0 v5 v10 v15 v20 v25 v30 v35 v40 v45 v50 v55).trips), ∀ (k0_h31 : k0_cond31 v0 v5 v10 v15 v20 v25 v30 v35 v40 v45 v50 v55 k0_t1 = 1#1), ∀ a, (k0_off116 v0 v5 v10 v15 v20 v25 v30 v35 v40 v45 v50 v55 k0_t1) a + S1.size a ≤ S6.size a := fun v0 v5 v10 v15 v20 v25 v30 v35 v40 v45 v50 v55 k0_hw10 k0_t1 k0_h31 => k0_hw10.2.1 k0_t1 k0_h31
theorem k0_off117_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t1 : Fin (k0_t1_loop v0 v5 v10 v15 v20 v25 v30 v35 v40 v45 v50 v55).trips), ∀ (k0_h31 : k0_cond31 v0 v5 v10 v15 v20 v25 v30 v35 v40 v45 v50 v55 k0_t1 = 1#1), ∀ a, (k0_off117 v0 v5 v10 v15 v20 v25 v30 v35 v40 v45 v50 v55 k0_t1) a + S1x40x512.size a ≤ S6x40x512.size a := fun v0 v5 v10 v15 v20 v25 v30 v35 v40 v45 v50 v55 k0_hw10 k0_t1 k0_h31 => k0_hw10.2.2.1 k0_t1 k0_h31
theorem k0_off136_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t1 : Fin (k0_t1_loop v0 v5 v10 v15 v20 v25 v30 v35 v40 v45 v50 v55).trips), ∀ a, (k0_off136 v0 v5 v10 v15 v20 v25 v30 v35 v40 v45 v50 v55 k0_t1) a + S1.size a ≤ S6.size a := fun v0 v5 v10 v15 v20 v25 v30 v35 v40 v45 v50 v55 k0_hw10 k0_t1 => k0_hw10.2.2.2.1 k0_t1
theorem k0_off137_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t1 : Fin (k0_t1_loop v0 v5 v10 v15 v20 v25 v30 v35 v40 v45 v50 v55).trips), ∀ a, (k0_off137 v0 v5 v10 v15 v20 v25 v30 v35 v40 v45 v50 v55 k0_t1) a + S1x40x512.size a ≤ S6x40x512.size a := fun v0 v5 v10 v15 v20 v25 v30 v35 v40 v45 v50 v55 k0_hw10 k0_t1 => k0_hw10.2.2.2.2.1 k0_t1
theorem k0_off139_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t1 : Fin (k0_t1_loop v0 v5 v10 v15 v20 v25 v30 v35 v40 v45 v50 v55).trips), ∀ a, (k0_off139 v0 v5 v10 v15 v20 v25 v30 v35 v40 v45 v50 v55 k0_t1) a + S1x40x512.size a ≤ S6x40x512.size a := fun v0 v5 v10 v15 v20 v25 v30 v35 v40 v45 v50 v55 k0_hw10 k0_t1 => k0_hw10.2.2.2.2.2.1 k0_t1
theorem k0_off140_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t1 : Fin (k0_t1_loop v0 v5 v10 v15 v20 v25 v30 v35 v40 v45 v50 v55).trips), ∀ a, (k0_off140 v0 v5 v10 v15 v20 v25 v30 v35 v40 v45 v50 v55 k0_t1) a + S1x512x1280.size a ≤ S6x512x5120.size a := fun v0 v5 v10 v15 v20 v25 v30 v35 v40 v45 v50 v55 k0_hw10 k0_t1 => k0_hw10.2.2.2.2.2.2.1 k0_t1
theorem k0_off141_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t1 : Fin (k0_t1_loop v0 v5 v10 v15 v20 v25 v30 v35 v40 v45 v50 v55).trips), ∀ a, (k0_off141 v0 v5 v10 v15 v20 v25 v30 v35 v40 v45 v50 v55 k0_t1) a + S1x512x1280.size a ≤ S6x512x5120.size a := fun v0 v5 v10 v15 v20 v25 v30 v35 v40 v45 v50 v55 k0_hw10 k0_t1 => k0_hw10.2.2.2.2.2.2.2.1 k0_t1
theorem k0_off142_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t1 : Fin (k0_t1_loop v0 v5 v10 v15 v20 v25 v30 v35 v40 v45 v50 v55).trips), ∀ a, (k0_off142 v0 v5 v10 v15 v20 v25 v30 v35 v40 v45 v50 v55 k0_t1) a + S1x512x1280.size a ≤ S6x512x5120.size a := fun v0 v5 v10 v15 v20 v25 v30 v35 v40 v45 v50 v55 k0_hw10 k0_t1 => k0_hw10.2.2.2.2.2.2.2.2.1 k0_t1
theorem k0_off143_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t1 : Fin (k0_t1_loop v0 v5 v10 v15 v20 v25 v30 v35 v40 v45 v50 v55).trips), ∀ a, (k0_off143 v0 v5 v10 v15 v20 v25 v30 v35 v40 v45 v50 v55 k0_t1) a + S1x512x1280.size a ≤ S6x512x5120.size a := fun v0 v5 v10 v15 v20 v25 v30 v35 v40 v45 v50 v55 k0_hw10 k0_t1 => k0_hw10.2.2.2.2.2.2.2.2.2.1 k0_t1
theorem k0_t2_ok : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55), (k0_t2_loop v0 v5 v10 v15 v20 v25 v30 v35 v40 v45 v50 v55).OK := fun v0 v5 v10 v15 v20 v25 v30 v35 v40 v45 v50 v55 k0_hw10 => k0_hw10.2.2.2.2.2.2.2.2.2.2.1
theorem k0_off162_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t2 : Fin (k0_t2_loop v0 v5 v10 v15 v20 v25 v30 v35 v40 v45 v50 v55).trips), ∀ (k0_h42 : k0_cond42 v0 v5 v10 v15 v20 v25 v30 v35 v40 v45 v50 v55 k0_t2 = 1#1), ∀ a, (k0_off162 v0 v5 v10 v15 v20 v25 v30 v35 v40 v45 v50 v55 k0_t2) a + S1.size a ≤ S6.size a := fun v0 v5 v10 v15 v20 v25 v30 v35 v40 v45 v50 v55 k0_hw10 k0_t2 k0_h42 => k0_hw10.2.2.2.2.2.2.2.2.2.2.2.1 k0_t2 k0_h42
theorem k0_off163_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t2 : Fin (k0_t2_loop v0 v5 v10 v15 v20 v25 v30 v35 v40 v45 v50 v55).trips), ∀ (k0_h42 : k0_cond42 v0 v5 v10 v15 v20 v25 v30 v35 v40 v45 v50 v55 k0_t2 = 1#1), ∀ a, (k0_off163 v0 v5 v10 v15 v20 v25 v30 v35 v40 v45 v50 v55 k0_t2) a + S1x40x512.size a ≤ S6x40x512.size a := fun v0 v5 v10 v15 v20 v25 v30 v35 v40 v45 v50 v55 k0_hw10 k0_t2 k0_h42 => k0_hw10.2.2.2.2.2.2.2.2.2.2.2.2.1 k0_t2 k0_h42
theorem k0_off182_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t2 : Fin (k0_t2_loop v0 v5 v10 v15 v20 v25 v30 v35 v40 v45 v50 v55).trips), ∀ a, (k0_off182 v0 v5 v10 v15 v20 v25 v30 v35 v40 v45 v50 v55 k0_t2) a + S1.size a ≤ S6.size a := fun v0 v5 v10 v15 v20 v25 v30 v35 v40 v45 v50 v55 k0_hw10 k0_t2 => k0_hw10.2.2.2.2.2.2.2.2.2.2.2.2.2.1 k0_t2
theorem k0_off183_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t2 : Fin (k0_t2_loop v0 v5 v10 v15 v20 v25 v30 v35 v40 v45 v50 v55).trips), ∀ a, (k0_off183 v0 v5 v10 v15 v20 v25 v30 v35 v40 v45 v50 v55 k0_t2) a + S1x40x512.size a ≤ S6x40x512.size a := fun v0 v5 v10 v15 v20 v25 v30 v35 v40 v45 v50 v55 k0_hw10 k0_t2 => k0_hw10.2.2.2.2.2.2.2.2.2.2.2.2.2.2.1 k0_t2
theorem k0_off185_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t2 : Fin (k0_t2_loop v0 v5 v10 v15 v20 v25 v30 v35 v40 v45 v50 v55).trips), ∀ a, (k0_off185 v0 v5 v10 v15 v20 v25 v30 v35 v40 v45 v50 v55 k0_t2) a + S1x40x512.size a ≤ S6x40x512.size a := fun v0 v5 v10 v15 v20 v25 v30 v35 v40 v45 v50 v55 k0_hw10 k0_t2 => k0_hw10.2.2.2.2.2.2.2.2.2.2.2.2.2.2.2.1 k0_t2
theorem k0_off186_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t2 : Fin (k0_t2_loop v0 v5 v10 v15 v20 v25 v30 v35 v40 v45 v50 v55).trips), ∀ a, (k0_off186 v0 v5 v10 v15 v20 v25 v30 v35 v40 v45 v50 v55 k0_t2) a + S1x512x1280.size a ≤ S6x512x5120.size a := fun v0 v5 v10 v15 v20 v25 v30 v35 v40 v45 v50 v55 k0_hw10 k0_t2 => k0_hw10.2.2.2.2.2.2.2.2.2.2.2.2.2.2.2.2.1 k0_t2
theorem k0_off187_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t2 : Fin (k0_t2_loop v0 v5 v10 v15 v20 v25 v30 v35 v40 v45 v50 v55).trips), ∀ a, (k0_off187 v0 v5 v10 v15 v20 v25 v30 v35 v40 v45 v50 v55 k0_t2) a + S1x512x1280.size a ≤ S6x512x5120.size a := fun v0 v5 v10 v15 v20 v25 v30 v35 v40 v45 v50 v55 k0_hw10 k0_t2 => k0_hw10.2.2.2.2.2.2.2.2.2.2.2.2.2.2.2.2.2.1 k0_t2
theorem k0_off188_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t2 : Fin (k0_t2_loop v0 v5 v10 v15 v20 v25 v30 v35 v40 v45 v50 v55).trips), ∀ a, (k0_off188 v0 v5 v10 v15 v20 v25 v30 v35 v40 v45 v50 v55 k0_t2) a + S1x512x1280.size a ≤ S6x512x5120.size a := fun v0 v5 v10 v15 v20 v25 v30 v35 v40 v45 v50 v55 k0_hw10 k0_t2 => k0_hw10.2.2.2.2.2.2.2.2.2.2.2.2.2.2.2.2.2.2.1 k0_t2
theorem k0_off189_inb : ∀ (v0 : BitVec 32) (v5 : BitVec 32) (v10 : BitVec 32) (v15 : BitVec 32) (v20 : BitVec 32) (v25 : BitVec 32) (v30 : BitVec 32) (v35 : BitVec 32) (v40 : BitVec 32) (v45 : BitVec 32) (v50 : BitVec 32) (v55 : BitVec 32) (k0_hw10 : k0_chk10 v0 v5 v10 v15 v20 v25 v30 v35 v40 v45 v50 v55) (k0_t2 : Fin (k0_t2_loop v0 v5 v10 v15 v20 v25 v30 v35 v40 v45 v50 v55).trips), ∀ a, (k0_off189 v0 v5 v10 v15 v20 v25 v30 v35 v40 v45 v50 v55 k0_t2) a + S1x512x1280.size a ≤ S6x512x5120.size a := fun v0 v5 v10 v15 v20 v25 v30 v35 v40 v45 v50 v55 k0_hw10 k0_t2 => k0_hw10.2.2.2.2.2.2.2.2.2.2.2.2.2.2.2.2.2.2.2 k0_t2

def k0_mult101 (arg20 : BitVec 32) : BitVec 32 :=
  let c512_i32_2279 : BitVec 32 := 512#32
  let v4791 : BitVec 32 := Scalar.muli arg20 c512_i32_2279
  v4791
def k0_off190 (arg19 : BitVec 32) (arg20 : BitVec 32) : Fin 2 → Nat :=
  let v4793 : Index := Scalar.indexCast arg19
  let c512_i32_2279 : BitVec 32 := 512#32
  let v4791 : BitVec 32 := Scalar.muli arg20 c512_i32_2279
  let v4792 : BitVec 32 := v4791
  let v4794 : Index := Scalar.indexCast v4792
  ![v4793.toNat, v4794.toNat]

def k0_chk22 (arg19 : BitVec 32) (arg20 : BitVec 32) : Prop :=
  (128 ∣ (k0_mult100 arg20).toNat) ∧
  (∀ a, (k0_off184 arg19 arg20) a + S1x40x512.size a ≤ S12x40x4096.size a) ∧
  (512 ∣ (k0_mult101 arg20).toNat) ∧
  (∀ a, (k0_off190 arg19 arg20) a + S1x512.size a ≤ S12x4096.size a)
theorem k0_mult100_dvd : ∀ (arg19 : BitVec 32) (arg20 : BitVec 32) (k0_hw22 : k0_chk22 arg19 arg20), 128 ∣ (k0_mult100 arg20).toNat := fun arg19 arg20 k0_hw22 => k0_hw22.1
theorem k0_off184_inb : ∀ (arg19 : BitVec 32) (arg20 : BitVec 32) (k0_hw22 : k0_chk22 arg19 arg20), ∀ a, (k0_off184 arg19 arg20) a + S1x40x512.size a ≤ S12x40x4096.size a := fun arg19 arg20 k0_hw22 => k0_hw22.2.1
theorem k0_mult101_dvd : ∀ (arg19 : BitVec 32) (arg20 : BitVec 32) (k0_hw22 : k0_chk22 arg19 arg20), 512 ∣ (k0_mult101 arg20).toNat := fun arg19 arg20 k0_hw22 => k0_hw22.2.2.1
theorem k0_off190_inb : ∀ (arg19 : BitVec 32) (arg20 : BitVec 32) (k0_hw22 : k0_chk22 arg19 arg20), ∀ a, (k0_off190 arg19 arg20) a + S1x512.size a ≤ S12x4096.size a := fun arg19 arg20 k0_hw22 => k0_hw22.2.2.2

def k0_off191 (arg19 : BitVec 32) : Fin 1 → Nat :=
  let c11_i32_2282 : BitVec 32 := 11#32
  let v4800 : BitVec 32 := Scalar.minsi arg19 c11_i32_2282
  let v4801 : Index := Scalar.indexCast v4800
  ![v4801.toNat]

def k0_chk20 (arg19 : BitVec 32) : Prop :=
  (∀ a, (k0_off166 arg19) a + S1.size a ≤ S12.size a) ∧
  (∀ a, (k0_off191 arg19) a + S1.size a ≤ S12.size a)
theorem k0_off166_inb : ∀ (arg19 : BitVec 32) (k0_hw20 : k0_chk20 arg19), ∀ a, (k0_off166 arg19) a + S1.size a ≤ S12.size a := fun arg19 k0_hw20 => k0_hw20.1
theorem k0_off191_inb : ∀ (arg19 : BitVec 32) (k0_hw20 : k0_chk20 arg19), ∀ a, (k0_off191 arg19) a + S1.size a ≤ S12.size a := fun arg19 k0_hw20 => k0_hw20.2

abbrev stage0_0 : Fin 1 → Memref sig .tc .vmem S40x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S12 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S12x4096x5120 : Shape := ⟨3, ![12, 4096, 5120]⟩
abbrev S12x4096x40 : Shape := ⟨3, ![12, 4096, 40]⟩
abbrev S5120 : Shape := ⟨1, ![5120]⟩
abbrev S1 : Shape := ⟨1, ![1]⟩
abbrev S12x4096 : Shape := ⟨2, ![12, 4096]⟩
abbrev S12 : Shape := ⟨1, ![12]⟩
abbrev S4096 : Shape := ⟨1, ![4096]⟩
abbrev S1x4096 : Shape := ⟨2, ![1, 4096]⟩
abbrev S12x1 : Shape := ⟨2, ![12, 1]⟩
abbrev S12x4096x40x128 : Shape := ⟨4, ![12, 4096, 40, 128]⟩
abbrev S12x4096x40x1 : Shape := ⟨4, ![12, 4096, 40, 1]⟩
abbrev S_ : Shape := ⟨0, ![]⟩

abbrev nBuf : Space → Nat
  | .hbm => 34
  | .vmem => 4
  | .smem => 0
  | _ => 0

abbrev bufTy : (tb : Table) → Fin (tcTables nBuf tb) → BufTy
  | .hbm, ⟨0, _⟩ => ⟨S12x4096x5120, .fp8e4m3⟩
  | .hbm, ⟨1, _⟩ => ⟨S12x4096x40, .f32⟩
  | .hbm, ⟨2, _⟩ => ⟨S5120, .fp8e4m3⟩
  | .hbm, ⟨3, _⟩ => ⟨S1, .f32⟩
  | .hbm, ⟨4, _⟩ => ⟨S1, .f32⟩
  | .hbm, ⟨5, _⟩ => ⟨S12x4096, .bf16⟩
  | .hbm, ⟨6, _⟩ => ⟨S12x4096, .bf16⟩
  | .hbm, ⟨7, _⟩ => ⟨S12, .f32⟩
  | .hbm, ⟨8, _⟩ => ⟨S12, .i32⟩
  | .hbm, ⟨9, _⟩ => ⟨S4096, .i32⟩
  | .hbm, ⟨10, _⟩ => ⟨S1x4096, .i32⟩
  | .hbm, ⟨11, _⟩ => ⟨S12x1, .i32⟩
  | .hbm, ⟨12, _⟩ => ⟨S12x4096, .i32⟩
  | .hbm, ⟨13, _⟩ => ⟨S12x4096, .i32⟩
  | .hbm, ⟨14, _⟩ => ⟨S12x4096, .i1⟩
  | .hbm, ⟨15, _⟩ => ⟨S12x4096x5120, .bf16⟩
  | .hbm, ⟨16, _⟩ => ⟨S5120, .bf16⟩
  | .hbm, ⟨17, _⟩ => ⟨S12x4096x40x128, .bf16⟩
  | .hbm, ⟨18, _⟩ => ⟨S12x4096x40, .bf16⟩
  | .hbm, ⟨19, _⟩ => ⟨S12x4096x40x1, .bf16⟩
  | .hbm, ⟨20, _⟩ => ⟨S12x4096x40x128, .bf16⟩
  | .hbm, ⟨21, _⟩ => ⟨S12x4096x40x128, .bf16⟩
  | .hbm, ⟨22, _⟩ => ⟨S12x4096x5120, .bf16⟩
  | .hbm, ⟨23, _⟩ => ⟨S12x4096, .f32⟩
  | .hbm, ⟨24, _⟩ => ⟨S_, .f32⟩
  | .hbm, ⟨25, _⟩ => ⟨S12x4096, .f32⟩
  | .hbm, ⟨26, _⟩ => ⟨S12x4096, .f32⟩
  | .hbm, ⟨27, _⟩ => ⟨S_, .f32⟩
  | .hbm, ⟨28, _⟩ => ⟨S12x4096, .f32⟩
  | .hbm, ⟨29, _⟩ => ⟨S12x4096, .f32⟩
  | .hbm, ⟨30, _⟩ => ⟨S_, .f32⟩
  | .hbm, ⟨31, _⟩ => ⟨S_, .f32⟩
  | .hbm, ⟨32, _⟩ => ⟨S12x4096, .f32⟩
  | .hbm, ⟨33, _⟩ => ⟨S12x4096, .f32⟩
  | .local _ .vmem, ⟨0, _⟩ => ⟨S12x4096x5120, .fp8e4m3⟩
  | .local _ .vmem, ⟨1, _⟩ => ⟨S5120, .fp8e4m3⟩
  | .local _ .vmem, ⟨2, _⟩ => ⟨S12x4096x5120, .bf16⟩
  | .local _ .vmem, ⟨3, _⟩ => ⟨S5120, .bf16⟩
  | _, _ => ⟨S12x4096x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S12x4096x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x4096x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Word.lean ====
/-
  Arithmetic of the words the kernel computes with: how many tokens of a chunk are copied, how that
  number is cut into copies of 512, 256, 128, 64 and 32 rows, and how the kernel walks the jobs, one job per
  chunk of 512 tokens of a sequence.
-/
module

public import Idealize.ShloMosaic.Lib.Tactic

@[expose] public section

namespace Cert.Word

open Idealize.ShloMosaic

/-! ## The tokens of a chunk -/

/-- The number of tokens of chunk `c` of a sequence of length `len` the kernel copies, rounded up to 32. -/
def tokw (len c : BitVec 32) : BitVec 32 :=
  Scalar.andi (Scalar.addi (Scalar.minsi 512#32 (Scalar.maxsi 0#32 (Scalar.subi len (Scalar.muli c 512#32)))) 31#32) 4294967264#32

/-- `tokw` in units of 32 tokens. -/
def tu (len c : BitVec 32) : ℕ := (tokw len c).toNat / 32

theorem toInt_ofNat_small {n : ℕ} (h : n < 2 ^ 31) : (BitVec.ofNat 32 n).toInt = n := by
  rw [BitVec.toInt_eq_toNat_cond, BitVec.toNat_ofNat]; omega

theorem clamp_eq (x : BitVec 32) : ∃ n : Fin 513, Scalar.minsi 512#32 (Scalar.maxsi 0#32 x) = BitVec.ofNat 32 n.val
    ∧ (n.val : ℤ) = min 512 (max 0 x.toInt) := by
  have h512 : (512#32).toInt = 512 := by decide
  have h0 : (0#32).toInt = 0 := by decide
  have key : Scalar.minsi 512#32 (Scalar.maxsi 0#32 x) = if x.toInt ≤ 0 then 0#32 else if 512 < x.toInt then 512#32 else x := by
    simp only [Scalar.minsi, Scalar.maxsi, IntOp.minsi, IntOp.maxsi, BitVec.slt]
    by_cases hx : x.toInt < 0
    · have : ¬ (512 : ℤ) < 0 := by omega
      simp [h0, h512, hx, hx.le]
    · by_cases hx0 : x.toInt ≤ 0
      · have hz : x = 0#32 := by
          apply BitVec.eq_of_toInt_eq; rw [h0]; omega
        subst hz; decide
      · simp only [h0, h512, hx, hx0, decide_false, if_false, Bool.false_eq_true]
        by_cases h5 : 512 < x.toInt <;> simp [h5]
  rw [key]
  by_cases h1 : x.toInt ≤ 0
  · exact ⟨⟨0, by omega⟩, by simp [h1], by simp [h1]⟩
  by_cases h2 : 512 < x.toInt
  · refine ⟨⟨512, by omega⟩, by simp [h1, h2], ?_⟩
    show (512 : ℤ) = _
    omega
  refine ⟨⟨x.toInt.toNat, by omega⟩, ?_, by simp only; omega⟩
  simp only [h1, h2, if_false]
  apply BitVec.eq_of_toInt_eq
  rw [toInt_ofNat_small (by omega)]
  omega

theorem tok_dec : ∀ n : Fin 513, Scalar.andi (Scalar.addi (BitVec.ofNat 32 n.val) 31#32) 4294967264#32 = BitVec.ofNat 32 (32 * ((n.val + 31) / 32)) := by
  decide +kernel

theorem tokw_spec (len c : BitVec 32) : ∃ n : Fin 513, tokw len c = BitVec.ofNat 32 (32 * ((n.val + 31) / 32))
    ∧ (n.val : ℤ) = min 512 (max 0 (Scalar.subi len (Scalar.muli c 512#32)).toInt) := by
  obtain ⟨n, hn, hv⟩ := clamp_eq (Scalar.subi len (Scalar.muli c 512#32))
  exact ⟨n, by unfold tokw; rw [hn, tok_dec], hv⟩

theorem tu_spec (len c : BitVec 32) : ∃ n : Fin 513, tu len c = (n.val + 31) / 32
    ∧ (n.val : ℤ) = min 512 (max 0 (Scalar.subi len (Scalar.muli c 512#32)).toInt) := by
  obtain ⟨n, hn, hv⟩ := tokw_spec len c
  refine ⟨n, ?_, hv⟩
  unfold tu
  rw [hn, BitVec.toNat_ofNat, Nat.mod_eq_of_lt (by omega)]
  omega

theorem tu_lt (len c : BitVec 32) : tu len c < 17 := by
  obtain ⟨n, hn, -⟩ := tu_spec len c
  omega

theorem tokw_eq (len c : BitVec 32) : tokw len c = BitVec.ofNat 32 (32 * tu len c) := by
  obtain ⟨n, hn, -⟩ := tokw_spec len c
  have h : tu len c = (n.val + 31) / 32 := by
    unfold tu
    rw [hn, BitVec.toNat_ofNat, Nat.mod_eq_of_lt (by omega)]
    omega
  rw [hn, h]

/-! ## The copies of a chunk -/

/-- Whether the copy of `512 / 2 ^ k` rows is made for `32 * u` tokens. -/
def bit (u k : ℕ) : Bool := Nat.testBit u (4 - k)
/-- The row the copy `k` begins at. -/
def pos (u k : ℕ) : ℕ := 32 * (u / 2 ^ (5 - k) * 2 ^ (5 - k))
/-- The number of rows of copy `k`. -/
def sz (k : ℕ) : ℕ := 512 / 2 ^ k
/-- The copies made, in the order they are issued. -/
def made (u : ℕ) : List ℕ := (List.range 5).filter fun k => bit u k
/-- How many copies come before copy `k`. -/
def idx (u k : ℕ) : ℕ := ((List.range k).filter fun j => bit u j).length
/-- The number of copies. -/
def cnt (u : ℕ) : ℕ := idx u 5
/-- The `t`-th copy made. -/
def nth (u t : ℕ) : ℕ := (made u).getD t 0

theorem pos_zero (u : ℕ) (hu : u < 17) : pos u 0 = 0 := by
  have : u / 2 ^ 5 = 0 := Nat.div_eq_of_lt (by omega)
  simp only [pos, Nat.sub_zero, this, Nat.zero_mul, Nat.mul_zero]

theorem step_true : ∀ u : Fin 17, ∀ k : Fin 5, bit u k = true →
    pos u (k + 1) = pos u k + sz k ∧ idx u (k + 1) = idx u k + 1 ∧ idx u k < cnt u ∧ nth u (idx u k) = k ∧ pos u k + sz k ≤ 32 * u := by
  decide +kernel
theorem step_false : ∀ u : Fin 17, ∀ k : Fin 5, bit u k = false →
    pos u (k + 1) = pos u k ∧ idx u (k + 1) = idx u k := by
  decide +kernel
theorem pos_le : ∀ u : Fin 17, ∀ k : Fin 6, pos u k ≤ 512 ∧ 32 ∣ pos u k := by decide +kernel
theorem pos_five (u : ℕ) : pos u 5 = 32 * u := by simp [pos]
theorem nth_lt : ∀ u : Fin 17, ∀ t : Fin 5, nth u t < 5 := by decide +kernel
theorem cnt_le : ∀ u : Fin 17, cnt u ≤ 5 := by decide +kernel

/-- Every row below `32 * u` lies in one of the copies, and only those. -/
theorem cover_dec : ∀ u : Fin 17, ∀ r : Fin 16, (r.val < u.val) ↔
    ∃ t : Fin 5, t.val < cnt u ∧ pos u (nth u t) / 32 ≤ r.val ∧ r.val < (pos u (nth u t) + sz (nth u t)) / 32 := by
  decide +kernel
theorem sz_dvd : ∀ u : Fin 17, ∀ t : Fin 5, t.val < cnt u → 32 ∣ pos u (nth u t) ∧ 32 ∣ sz (nth u t) ∧ pos u (nth u t) + sz (nth u t) ≤ 32 * u := by decide +kernel
/-- Two different copies share no row. -/
theorem disj_dec : ∀ u : Fin 17, ∀ t t' : Fin 5, t.val < cnt u → t'.val < cnt u → t < t' →
    pos u (nth u t) + sz (nth u t) ≤ pos u (nth u t') := by decide +kernel

/-- The masks that keep the bits above copy `k`'s. -/
def maskw : Fin 5 → BitVec 32 := ![4294966272#32, 4294966784#32, 4294967040#32, 4294967168#32, 4294967232#32]
theorem mask_dec : ∀ u : Fin 17, ∀ k : Fin 5, Scalar.andi (BitVec.ofNat 32 (32 * u.val)) (maskw k) = BitVec.ofNat 32 (pos u k) := by decide +kernel
theorem mask_tok (len c : BitVec 32) (k : Fin 5) : Scalar.andi (tokw len c) (maskw k) = BitVec.ofNat 32 (pos (tu len c) k) := by
  rw [tokw_eq]; exact mask_dec ⟨tu len c, tu_lt len c⟩ k

/-- The test a guarded copy stands under. -/
def condw (tok : BitVec 32) (m : BitVec 32) : BitVec 1 := Scalar.cmpi .ne (Scalar.extui (Scalar.cmpi .ne (Scalar.andi tok m) 0#32)) 0#32
def sizew : Fin 5 → BitVec 32 := ![512#32, 256#32, 128#32, 64#32, 32#32]
theorem cond_dec : ∀ u : Fin 17, ∀ k : Fin 5, condw (BitVec.ofNat 32 (32 * u.val)) (sizew k) = 1#1 ↔ bit u k = true := by decide +kernel
theorem cond_tok (len c : BitVec 32) (k : Fin 5) : condw (tokw len c) (sizew k) = 1#1 ↔ bit (tu len c) k = true := by
  rw [tokw_eq]; exact cond_dec ⟨tu len c, tu_lt len c⟩ k

/-! ## The walk over the jobs -/

/-- The number of chunks of a sequence of length `len`, at least one. -/
def nchw (len : BitVec 32) : BitVec 32 := Scalar.maxsi (Scalar.shrui (Scalar.addi len 511#32) 9#32) 1#32
def nch (len : BitVec 32) : ℕ := (nchw len).toNat

/-- A length in the range the kernel is launched on. -/
def LenOK (len : BitVec 32) : Prop := -511 ≤ len.toInt ∧ len.toInt ≤ 4096

theorem nch_spec {len : BitVec 32} (h : LenOK len) : nchw len = BitVec.ofNat 32 (nch len) ∧ 1 ≤ nch len ∧ nch len ≤ 8
    ∧ ∀ c : ℕ, c ≤ 8 → ((((c + 1) * 512 : ℕ) : ℤ) < len.toInt ↔ c + 1 < nch len) := by
  obtain ⟨h1, h2⟩ := h
  obtain ⟨y, hy, hyl⟩ : ∃ y : ℕ, Scalar.addi len 511#32 = BitVec.ofNat 32 y ∧ (y : ℤ) = len.toInt + 511 := by
    refine ⟨(len.toInt + 511).toNat, ?_, by omega⟩
    apply BitVec.eq_of_toInt_eq
    simp only [Scalar.addi, IntOp.addi]
    rw [BitVec.toInt_add, toInt_ofNat_small (n := 511) (by omega), toInt_ofNat_small (by omega)]
    simp only [Int.bmod]
    omega
  have hn : nchw len = BitVec.ofNat 32 (max (y / 512) 1) := by
    have hdec : ∀ y : Fin 4608, Scalar.maxsi (Scalar.shrui (BitVec.ofNat 32 y.val) 9#32) 1#32 = BitVec.ofNat 32 (max (y.val / 512) 1) := by decide +kernel
    unfold nchw
    rw [hy]
    exact hdec ⟨y, by omega⟩
  have hN : nch len = max (y / 512) 1 := by
    unfold nch; rw [hn, BitVec.toNat_ofNat, Nat.mod_eq_of_lt (by omega)]
  refine ⟨by rw [hN, hn], by omega, by omega, fun c hc => ?_⟩
  rw [hN]
  push_cast
  omega

/-- The job after `(b, c)`: the next chunk, or the first of the next sequence. `N b` is the number of chunks
    of sequence `b`. -/
def next (N : ℕ → ℕ) (p : ℕ × ℕ) : ℕ × ℕ := if p.2 + 1 < N (min p.1 11) then (p.1, p.2 + 1) else (p.1 + 1, 0)
/-- The job of number `j`. -/
def cur (N : ℕ → ℕ) : ℕ → ℕ × ℕ
  | 0 => (0, 0)
  | j + 1 => next N (cur N j)
/-- The number of jobs of the sequences before `b`. -/
def pre (N : ℕ → ℕ) (b : ℕ) : ℕ := ∑ i ∈ Finset.range b, N (min i 11)

theorem cur_succ (N : ℕ → ℕ) (j : ℕ) : cur N (j + 1) = next N (cur N j) := rfl

theorem cur_spec {N : ℕ → ℕ} (hN : ∀ b, 1 ≤ N b ∧ N b ≤ 8) (j : ℕ) :
    (cur N j).2 < N (min (cur N j).1 11) ∧ pre N (cur N j).1 + (cur N j).2 = j ∧ (cur N j).1 ≤ j := by
  induction j with
  | zero => exact ⟨(hN _).1, by simp [cur, pre], le_rfl⟩
  | succ j ih =>
    obtain ⟨h1, h2, h3⟩ := ih
    rw [cur_succ]; unfold next
    split
    · rename_i h; exact ⟨h, by simp only; omega, by simp only; omega⟩
    · rename_i h
      refine ⟨(hN _).1, ?_, by simp only; omega⟩
      show pre N ((cur N j).1 + 1) + 0 = j + 1
      unfold pre at h2 ⊢
      rw [Finset.sum_range_succ]; omega

theorem pre_mono (N : ℕ → ℕ) {a b : ℕ} (h : a ≤ b) : pre N a ≤ pre N b :=
  Finset.sum_le_sum_of_subset (Finset.range_mono h)

theorem cur_lt {N : ℕ → ℕ} (hN : ∀ b, 1 ≤ N b ∧ N b ≤ 8) {j : ℕ} (hj : j < pre N 12) : (cur N j).1 < 12 := by
  by_contra h
  have := pre_mono N (show 12 ≤ (cur N j).1 by omega)
  have := (cur_spec hN j).2.1
  omega

theorem cur_two {N : ℕ → ℕ} (hN : ∀ b, 1 ≤ N b ∧ N b ≤ 8) (j : ℕ) : (cur N j).2 < 8 := by
  have := (cur_spec hN j).1; have := (hN (min (cur N j).1 11)).2; omega

theorem pre_bounds {N : ℕ → ℕ} (hN : ∀ b, 1 ≤ N b ∧ N b ≤ 8) : 12 ≤ pre N 12 ∧ pre N 12 ≤ 96 := by
  constructor
  · calc 12 = ∑ i ∈ Finset.range 12, 1 := by simp
      _ ≤ _ := Finset.sum_le_sum fun i _ => (hN _).1
  · calc pre N 12 ≤ ∑ i ∈ Finset.range 12, 8 := Finset.sum_le_sum fun i _ => (hN _).2
      _ = 96 := by simp

/-- Every job of a sequence below 12 is one of the first `pre N 12`. -/
theorem cur_pre {N : ℕ → ℕ} (hN : ∀ b, 1 ≤ N b ∧ N b ≤ 8) {b c : ℕ} (hc : c < N (min b 11)) : cur N (pre N b + c) = (b, c) := by
  induction b generalizing c with
  | zero =>
    have : ∀ c, c < N 0 → cur N c = (0, c) := by
      intro c; induction c with
      | zero => intro _; rfl
      | succ c ih => intro h; rw [cur_succ, ih (by omega)]; unfold next; simp only [Nat.zero_min]; rw [if_pos h]
    simpa [pre] using this c (by simpa using hc)
  | succ b ih =>
    induction c with
    | zero =>
      have hb := ih (c := N (min b 11) - 1) (by have := (hN (min b 11)).1; omega)
      have e : pre N (b + 1) + 0 = pre N b + (N (min b 11) - 1) + 1 := by
        unfold pre; rw [Finset.sum_range_succ]; have := (hN (min b 11)).1; omega
      rw [e, cur_succ, hb]; unfold next
      rw [if_neg (by have := (hN (min b 11)).1; simp only; omega)]
    | succ c ihc =>
      rw [← Nat.add_assoc, cur_succ, ihc (by omega)]; unfold next
      rw [if_pos hc]

/-- A sequence's cursor, moved on as the kernel does: `len` is the length of sequence `min b 11`. -/
theorem next_word {N : ℕ → ℕ} {len : BitVec 32} (h : LenOK len) {b c : ℕ} (hlen : N (min b 11) = nch len) (hc : c < 8) :
    (Scalar.select (Scalar.cmpi .sge (Scalar.muli (Scalar.addi (BitVec.ofNat 32 c) 1#32) 512#32) len) (Scalar.addi (BitVec.ofNat 32 b) 1#32) (BitVec.ofNat 32 b)
        = BitVec.ofNat 32 (next N (b, c)).1)
    ∧ (Scalar.select (Scalar.cmpi .sge (Scalar.muli (Scalar.addi (BitVec.ofNat 32 c) 1#32) 512#32) len) 0#32 (Scalar.addi (BitVec.ofNat 32 c) 1#32)
        = BitVec.ofNat 32 (next N (b, c)).2) := by
  obtain ⟨-, -, -, hs⟩ := nch_spec h
  have hw : ∀ c : Fin 8, Scalar.muli (Scalar.addi (BitVec.ofNat 32 c.val) 1#32) 512#32 = BitVec.ofNat 32 ((c.val + 1) * 512)
      ∧ (BitVec.ofNat 32 ((c.val + 1) * 512)).toInt = ((c.val + 1) * 512 : ℕ) ∧ Scalar.addi (BitVec.ofNat 32 c.val) 1#32 = BitVec.ofNat 32 (c.val + 1) := by decide +kernel
  obtain ⟨w1, w2, w3⟩ := hw ⟨c, hc⟩
  simp only at w1 w2 w3
  have hb : Scalar.addi (BitVec.ofNat 32 b) 1#32 = BitVec.ofNat 32 (b + 1) := by
    simp [Scalar.addi, IntOp.addi, BitVec.ofNat_add]
  have hcmp : Scalar.cmpi .sge (Scalar.muli (Scalar.addi (BitVec.ofNat 32 c) 1#32) 512#32) len = if c + 1 < nch len then 0#1 else 1#1 := by
    rw [w1]
    simp only [Scalar.cmpi, IntOp.cmpi, BitVec.sle, w2]
    have := hs c (by omega)
    by_cases hlt : c + 1 < nch len
    · rw [if_pos hlt]; simp only [show ¬ (len.toInt ≤ ((c + 1) * 512 : ℕ)) by omega]; decide
    · rw [if_neg hlt]; simp only [show (len.toInt ≤ ((c + 1) * 512 : ℕ)) by omega]; decide
  rw [hcmp, hb, w3]
  unfold next
  simp only [hlen]
  split <;> simp [Scalar.select]

end Cert.Word

end
-- ==== Proof.Geo.lean ====
/-
  The kernel's copies of fp8 rows into the ring: which elements each reads and writes, and the state of a ring
  slot while its copies are issued and waited for.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The buffers the copies go between -/

abbrev ringM : Memref sig .tc .vmem S6x512x5120 .fp8e4m3 := Memref.whole cc0_scratch0
abbrev sringM : Memref sig .tc .vmem S6x40x512 .f32 := Memref.whole cc0_scratch1
abbrev codesM : Memref sig .tc .hbm S12x4096x5120 .fp8e4m3 := Memref.whole main_arg0
abbrev scalesM : Memref sig .tc .hbm S12x40x4096 .f32 := Memref.whole main_v0

abbrev Ring : Type := S6x512x5120.Idx → Elt F .fp8e4m3
abbrev Codes : Type := S12x4096x5120.Idx → Elt F .fp8e4m3

/-- Rows `p ≤ · < p + n` of slot `s` of the ring. -/
def rowsR (s p n : ℕ) : Finset S6x512x5120.Idx := Finset.univ.filter fun i => (i 0).val = s ∧ p ≤ (i 1).val ∧ (i 1).val < p + n
/-- Tokens `q ≤ · < q + n` of sequence `b` of the codes. -/
def rowsC (b q n : ℕ) : Finset S12x4096x5120.Idx := Finset.univ.filter fun i => (i 0).val = b ∧ q ≤ (i 1).val ∧ (i 1).val < q + n

/-- What the ring holds of the chunk `ch` of sequence `b`: token `512 ch + r` in row `r`. -/
def chunkE (C : Codes (F := F)) (b : Fin 12) (ch : Fin 8) : Ring (F := F) := fun i =>
  C (fun a => match a with
    | ⟨0, _⟩ => b
    | ⟨1, _⟩ => ⟨ch.val * 512 + (i 1).val, by have h : (i 1).val < 512 := (i 1).isLt; have := ch.isLt; show _ < 4096; omega⟩
    | ⟨2, _⟩ => i 2)

abbrev rslice (n : ℕ) (s2 : Shape) (hq : (⟨3, ![1, n, 5120]⟩ : Shape).Squeezes s2) (off : Fin 3 → ℕ) (inb : ∀ a, off a + (⟨3, ![1, n, 5120]⟩ : Shape).size a ≤ S6x512x5120.size a) :
    Memref sig .tc .vmem s2 .fp8e4m3 :=
  (ringM.slice (Rect.unit (s := S6x512x5120) off (⟨3, ![1, n, 5120]⟩ : Shape).size inb) (fun _ => rfl)).squeeze s2 hq
abbrev cslice (n : ℕ) (s2 : Shape) (hq : (⟨3, ![1, n, 5120]⟩ : Shape).Squeezes s2) (off : Fin 3 → ℕ) (inb : ∀ a, off a + (⟨3, ![1, n, 5120]⟩ : Shape).size a ≤ S12x4096x5120.size a) :
    Memref sig .tc .hbm s2 .fp8e4m3 :=
  (codesM.slice (Rect.unit (s := S12x4096x5120) off (⟨3, ![1, n, 5120]⟩ : Shape).size inb) (fun _ => rfl)).squeeze s2 hq

theorem rslice_set {n : ℕ} {s2 : Shape} {hq : (⟨3, ![1, n, 5120]⟩ : Shape).Squeezes s2} {off : Fin 3 → ℕ} {inb} {s p : ℕ} (hoff : off = ![s, p, 0]) :
    (rslice n s2 hq off inb).view.set = rowsR s p n := by
  subst hoff
  refine (View.set_reshape _ _).trans ((View.set_slice_whole _ _).trans ?_)
  ext i
  refine Rect.mem_set_unit.trans ?_
  rw [rowsR, Finset.mem_filter]
  constructor
  · intro h
    have h0 := h 0; have h1 := h 1
    simp at h0 h1
    refine ⟨Finset.mem_univ _, by omega, by omega, by omega⟩
  · rintro ⟨-, h0, h1, h2⟩ a
    have hlt := (i a).isLt
    fin_cases a
    · simp; omega
    · simp; omega
    · simp; exact hlt

theorem cslice_set {n : ℕ} {s2 : Shape} {hq : (⟨3, ![1, n, 5120]⟩ : Shape).Squeezes s2} {off : Fin 3 → ℕ} {inb} {b q : ℕ} (hoff : off = ![b, q, 0]) :
    (cslice n s2 hq off inb).view.set = rowsC b q n := by
  subst hoff
  refine (View.set_reshape _ _).trans ((View.set_slice_whole _ _).trans ?_)
  ext i
  refine Rect.mem_set_unit.trans ?_
  rw [rowsC, Finset.mem_filter]
  constructor
  · intro h
    have h0 := h 0; have h1 := h 1
    simp at h0 h1
    refine ⟨Finset.mem_univ _, by omega, by omega, by omega⟩
  · rintro ⟨-, h0, h1, h2⟩ a
    have hlt := (i a).isLt
    fin_cases a
    · simp; omega
    · simp; omega
    · simp; exact hlt

/-- What a copy leaves in the rows it writes. -/
theorem copy_write {n : ℕ} {s2 : Shape} {hq : (⟨3, ![1, n, 5120]⟩ : Shape).Squeezes s2} {off off' : Fin 3 → ℕ} {inb inb'} {s p : ℕ}
    {b : Fin 12} {ch : Fin 8} (hoff : off = ![s, p, 0]) (hoff' : off' = ![b.val, ch.val * 512 + p, 0])
    (C : Codes (F := F)) (fd : Ring (F := F)) (i : S6x512x5120.Idx) (hi : i ∈ rowsR s p n) :
    (rslice n s2 hq off inb).view.write (Elt F) fd (ReadAs.same.apply ((cslice n s2 hq off' inb').view.read (Elt F) C)) Finset.univ i = chunkE C b ch i := by
  have hi' := hi
  rw [← rslice_set (inb := inb) (hq := hq) hoff] at hi
  obtain ⟨x, -, hx⟩ := Finset.mem_map.mp hi
  subst hoff hoff'
  rw [← hx, View.write_emb_of_mem _ _ (Finset.mem_univ x)]
  unfold chunkE
  show C _ = C _
  congr 1
  funext a
  apply Fin.ext
  obtain ⟨y, hy0⟩ : ∃ y : (⟨3, ![1, n, 5120]⟩ : Shape).Idx, y = Shape.reshapeEquiv hq.numel_eq x := ⟨_, rfl⟩
  have hy : ∀ a, ((rslice n s2 hq ![s, p, 0] inb).view.emb x a).val = (![s, p, 0] : Fin 3 → ℕ) a + 1 * (y a).val := fun a => by rw [hy0]; rfl
  have hy' : ∀ a, ((cslice n s2 hq ![b.val, ch.val * 512 + p, 0] inb').view.emb x a).val = (![b.val, ch.val * 512 + p, 0] : Fin 3 → ℕ) a + 1 * (y a).val := fun a => by rw [hy0]; rfl
  refine (hy' a).trans ?_
  have h0 : (y (0 : Fin 3)).val < 1 := (y (0 : Fin 3)).isLt
  have e1 := hy 1
  have e2 := hy 2
  clear hy hy' hy0
  match a with
  | ⟨0, _⟩ =>
    show b.val + 1 * (y (0 : Fin 3)).val = b.val
    omega
  | ⟨1, _⟩ =>
    have e1' : ((rslice n s2 hq ![s, p, 0] inb).view.emb x 1).val = p + 1 * (y (1 : Fin 3)).val := e1
    show ch.val * 512 + p + 1 * (y (1 : Fin 3)).val = ch.val * 512 + ((rslice n s2 hq ![s, p, 0] inb).view.emb x 1).val
    rw [e1', Nat.add_assoc]
  | ⟨2, _⟩ => exact e2.symm

/-! ## A ring slot while its copies are in flight -/

abbrev EC : UEmb Counters 𝕄 := countersEmb (U := Pipeline.UD sig nD τ)

/-- The cell of ring slot `s`. -/
abbrev cellR (s : Fin 6) : DmaSem sig := ⟨10 + s.val, by have := s.isLt; show _ < 22; omega⟩
/-- The cell of scale slot `s`. -/
abbrev cellS (s : Fin 6) : DmaSem sig := ⟨16 + s.val, by have := s.isLt; show _ < 22; omega⟩

theorem cell_inb (s : Fin 6) : ∀ a, (![s.val] : Fin 1 → ℕ) a + S1.size a ≤ S6.size a := by
  intro a; have := s.isLt; fin_cases a; show s.val + 1 ≤ 6; omega
theorem cellR_at : ∀ s : Fin 6, (((cc0_scratch4 : DmaSems sig S6).slice (Rect.unit (s := S6) ![s.val] S1.size (cell_inb s))).squeeze S_ squeezes_S1_S_).sem = cellR s := by
  decide +kernel
theorem cellR_eq {off : Fin 1 → ℕ} {inb} {s : Fin 6} (hoff : off = ![s.val]) :
    (((cc0_scratch4 : DmaSems sig S6).slice (Rect.unit (s := S6) off S1.size inb)).squeeze S_ squeezes_S1_S_).sem = cellR s := by
  subst hoff; exact cellR_at s
theorem cellS_at : ∀ s : Fin 6, (((cc0_scratch5 : DmaSems sig S6).slice (Rect.unit (s := S6) ![s.val] S1.size (cell_inb s))).squeeze S_ squeezes_S1_S_).sem = cellS s := by
  decide +kernel
theorem cellS_eq {off : Fin 1 → ℕ} {inb} {s : Fin 6} (hoff : off = ![s.val]) :
    (((cc0_scratch5 : DmaSems sig S6).slice (Rect.unit (s := S6) off S1.size inb)).squeeze S_ squeezes_S1_S_).sem = cellS s := by
  subst hoff; exact cellS_at s

/-- What the copy of `512 / 2 ^ k` rows adds to its cell. -/
def amt (k : ℕ) : ℕ := sig.dmaCredit .tc (Kind.tc.table .vmem) ringM.view.buf ⟨2, ![sz k, 5120]⟩ .fp8e4m3
theorem amt_pos (k : Fin 5) : 0 < amt k := by
  refine sig.dmaCredit_pos _ _ _ _ _ ?_
  revert k; decide +kernel
theorem credit_eq {k : ℕ} {s2 : Shape} {hq : (⟨3, ![1, sz k, 5120]⟩ : Shape).Squeezes s2} (hs2 : s2 = ⟨2, ![sz k, 5120]⟩) {off inb} :
    (rslice (sz k) s2 hq off inb).view.dmaCredit = amt k := by
  subst hs2
  unfold amt View.dmaCredit
  rfl
def amts (u : ℕ) (t : Fin (cnt u)) : ℕ := amt (nth u t)

variable (c : Dev nD) (C : Codes (F := F)) (q : PosShare TreeShare)

/-- What copy `t` of the chunk delivers: its rows of the ring, holding the chunk, and the codes it read. -/
def deliv (s : Fin 6) (b : Fin 12) (ch : Fin 8) (u : ℕ) (t : Fin (cnt u)) : sProp 𝕄 :=
  iprop((ringM.view.loc (c : Thread nD τ) ↦[rowsR s (pos u (nth u t)) (sz (nth u t))]{fullShare} chunkE C b ch)
    ∗ (codesM.view.loc (c : Thread nD τ) ↦[rowsC b (ch.val * 512 + pos u (nth u t)) (sz (nth u t))]{q} C))
instance deliv_storable (s : Fin 6) (b : Fin 12) (ch : Fin 8) (u : ℕ) (t : Fin (cnt u)) : Storable (upEmb : UEmb _ 𝕄) (deliv c C q s b ch u t) := by
  unfold deliv; infer_instance

abbrev batch (s : Fin 6) (b : Fin 12) (ch : Fin 8) (u j w : ℕ) : sProp 𝕄 :=
  Transfers.MixedBatch EC (c : Thread nD τ) (SemLoc.dma (cellR s)) () (amts u) (deliv c C q s b ch u) j w

/-- A ring slot with nothing in flight: its cell at zero, its rows at anything, its share of the codes whole. -/
def Free (s : Fin 6) : sProp 𝕄 :=
  iprop(semVal ((c : Thread nD τ), SemLoc.dma (cellR s)) 0 ∗ (∃ f, ringM.view.loc (c : Thread nD τ) ↦[rowsR s 0 512]{fullShare} f)
    ∗ (codesM.view.loc (c : Thread nD τ) ↦{q} C))
/-- A ring slot with the copies before `k` issued. -/
def Issuing (s : Fin 6) (b : Fin 12) (ch : Fin 8) (u k : ℕ) : sProp 𝕄 :=
  iprop(batch c C q s b ch u (idx u k) 0
    ∗ (∃ f, ringM.view.loc (c : Thread nD τ) ↦[rowsR s (pos u k) (512 - pos u k)]{fullShare} f)
    ∗ (codesM.view.loc (c : Thread nD τ) ↦[Finset.univ \ rowsC b (ch.val * 512) (pos u k)]{q} C))
/-- A ring slot with every copy issued and the copies before `k` waited for. -/
def Waiting (s : Fin 6) (b : Fin 12) (ch : Fin 8) (u k : ℕ) : sProp 𝕄 :=
  iprop(batch c C q s b ch u (cnt u) (Transfers.sumTo (amts u) (idx u k))
    ∗ (∃ f, ringM.view.loc (c : Thread nD τ) ↦[rowsR s (32 * u) (512 - 32 * u)]{fullShare} f)
    ∗ (codesM.view.loc (c : Thread nD τ) ↦[Finset.univ \ rowsC b (ch.val * 512) (32 * u)]{q} C))
/-- A ring slot whose chunk has landed. -/
def Landed (s : Fin 6) (b : Fin 12) (ch : Fin 8) (u : ℕ) : sProp 𝕄 :=
  iprop(semVal ((c : Thread nD τ), SemLoc.dma (cellR s)) 0
    ∗ (∃ g, ⌜∀ i ∈ rowsR s 0 (32 * u), g i = chunkE C b ch i⌝ ∗ ringM.view.loc (c : Thread nD τ) ↦[rowsR s 0 512]{fullShare} g)
    ∗ (codesM.view.loc (c : Thread nD τ) ↦{q} C))

theorem free_issuing (s : Fin 6) (b : Fin 12) (ch : Fin 8) (u : ℕ) (hu : u < 17) :
    Free c C q s ⊢ |={Set.univ}=> Issuing c C q s b ch u 0 := by
  unfold Free Issuing
  iintro ⟨Hs, Hr, Hc⟩
  imod (Transfers.mixedBatch_alloc' (Lvl := ℕ) EC (c : Thread nD τ) () (amts u) (deliv c C q s b ch u) (sm := SemLoc.dma (cellR s)) (E := Set.univ)) $$ Hs with HB
  imodintro
  rw [pos_zero u hu]
  isplitl [HB]; · iexact HB
  isplitl [Hr]; · iexact Hr
  have e : (Finset.univ : Finset S12x4096x5120.Idx) \ rowsC b (ch.val * 512) 0 = Finset.univ := by
    ext i; simp only [rowsC, Finset.mem_sdiff, Finset.mem_univ, _root_.true_and, Finset.mem_filter, iff_true]; omega
  rw [e]
  iexact Hc

theorem issuing_skip (s : Fin 6) (b : Fin 12) (ch : Fin 8) (u : Fin 17) (k : Fin 5) (hb : bit u k = false) :
    Issuing c C q s b ch u k ⊢ Issuing c C q s b ch u (k.val + 1) := by
  obtain ⟨h1, h2⟩ := step_false u k hb
  unfold Issuing; rw [h1, h2]

theorem issuing_done (s : Fin 6) (b : Fin 12) (ch : Fin 8) (u : Fin 17) : Issuing c C q s b ch u 5 ⊢ Waiting c C q s b ch u 0 := by
  unfold Issuing Waiting
  rw [pos_five]
  exact .rfl

theorem waiting_skip (s : Fin 6) (b : Fin 12) (ch : Fin 8) (u : Fin 17) (k : Fin 5) (hb : bit u k = false) :
    Waiting c C q s b ch u k ⊢ Waiting c C q s b ch u (k.val + 1) := by
  obtain ⟨h1, h2⟩ := step_false u k hb
  unfold Waiting; rw [h2]

variable {Λ : Labels} {defs : Defs nD τ sig (Elt F) Λ} {𝒱 : Variants} {bd : Option 𝒱.V}

/-- Copy `k` issued: the step of the slot at the transfer as printed. -/
theorem wp_issue (s : Fin 6) (b : Fin 12) (ch : Fin 8) (u : Fin 17) (k : Fin 5) {s2 : Shape}
    {hq hq' : (⟨3, ![1, sz k, 5120]⟩ : Shape).Squeezes s2} (hs2 : s2 = ⟨2, ![sz k, 5120]⟩) {off off' : Fin 3 → ℕ} {offs : Fin 1 → ℕ} {inb inb' inbs}
    {hsrc hdst hsem} {α : Type} {Q : α → sProp 𝕄} {kk : PUnit → Prog (TpuEff nD τ sig (Elt F) Λ .tc) α}
    (hb : bit u k = true) (hoff : off = ![s.val, pos u k, 0]) (hoff' : off' = ![b.val, ch.val * 512 + pos u k, 0]) (hoffs : offs = ![s.val]) :
    Issuing c C q s b ch u k ⊢ iprop((Issuing c C q s b ch u (k.val + 1) -∗ wp frame (wpE defs 𝒱 (c : Thread nD τ) bd) Set.univ (kk ⟨⟩) Q)
      -∗ wp frame (wpE defs 𝒱 (c : Thread nD τ) bd) Set.univ
          (.op (.enqueueDmaAs (cslice (sz k) s2 hq' off' inb') (.here (rslice (sz k) s2 hq off inb)) .same
            (.dma (((cc0_scratch4 : DmaSems sig S6).slice (Rect.unit (s := S6) offs S1.size inbs)).squeeze S_ squeezes_S1_S_).sem) hsrc hdst hsem) kk) Q) := by
  obtain ⟨h1, h2, h3, h4, h5⟩ := step_true u k hb
  have hu := u.isLt
  have hp : pos u k ≤ 512 := (pos_le u ⟨k.val, by omega⟩).1
  revert hsem
  rw [cellR_eq hoffs]
  intro hsem
  have hR : rowsR s (pos u k) (sz k) ⊆ rowsR s (pos u k) (512 - pos u k) := by
    intro i; simp only [rowsR, Finset.mem_filter]; intro hh; refine ⟨hh.1, hh.2.1, hh.2.2.1, ?_⟩; have := hh.2.2.2; omega
  have hCs : rowsC b (ch.val * 512 + pos u k) (sz k) ⊆ Finset.univ \ rowsC b (ch.val * 512) (pos u k) := by
    intro i; simp only [rowsC, Finset.mem_filter, Finset.mem_sdiff, Finset.mem_univ, _root_.true_and]; omega
  have hR' : rowsR s (pos u k) (512 - pos u k) \ rowsR s (pos u k) (sz k) = rowsR s (pos u (k.val + 1)) (512 - pos u (k.val + 1)) := by
    ext i; simp only [rowsR, Finset.mem_filter, Finset.mem_sdiff, Finset.mem_univ, _root_.true_and, h1]; omega
  have hC' : (Finset.univ \ rowsC b (ch.val * 512) (pos u k)) \ rowsC b (ch.val * 512 + pos u k) (sz k) = Finset.univ \ rowsC b (ch.val * 512) (pos u (k.val + 1)) := by
    ext i; simp only [rowsC, Finset.mem_filter, Finset.mem_sdiff, Finset.mem_univ, _root_.true_and, h1]; omega
  unfold Issuing
  iintro ⟨HB, ⟨%f, Hr⟩, Hc⟩ Hk
  ihave Hr := (pointsTo_split_subset hR).1 $$ Hr
  icases Hr with ⟨Hr1, Hr2⟩
  ihave Hc := (pointsTo_split_subset hCs).1 $$ Hc
  icases Hc with ⟨Hc1, Hc2⟩
  rw [hR', hC']
  iapply (Transfers.wp_dmaMixedBatch (Lvl := ℕ) EC 𝒱 (c : Thread nD τ) bd () (amts u) (src := cslice (sz k) s2 hq' off' inb') (dst := rslice (sz k) s2 hq off inb) (via := .same) (q := q) (fs := C) (Sd := rowsR s (pos u k) (sz k)) (fd := f)
    (D := deliv c C q s b ch u) (j := idx u k) (u := 0) (le_of_eq (rslice_set hoff)) h3
    ((View.amount_dma _ _).trans ((credit_eq hs2).trans (congrArg amt h4.symm))) (Nat.zero_le _)
    (by
      unfold deliv
      simp only [h4]
      rw [pointsTo_congr (fun i hi => copy_write (inb := inb) (inb' := inb') (hq := hq) hoff hoff' C f i hi), cslice_set (hq := hq) (inb := inb') hoff'])) $$ [HB Hr1 Hc1]
  · rw [cslice_set hoff']
    isplitl [Hc1]; · iexact Hc1
    isplitl [Hr1]; · iexact Hr1
    iexact HB
  iintro HB
  iapply Hk
  rw [h2]
  isplitl [HB]; · iexact HB
  isplitl [Hr2]; · iexists f; iexact Hr2
  iexact Hc2

theorem sumTo_mono {n : ℕ} (A : Fin n → ℕ) {i j : ℕ} (h : i ≤ j) (hj : j ≤ n) : Transfers.sumTo A i ≤ Transfers.sumTo A j := by
  induction j with
  | zero => have : i = 0 := by omega
            subst this; exact le_rfl
  | succ j ih =>
    rcases Nat.lt_or_ge i (j + 1) with h' | h'
    · rw [Transfers.sumTo_succ A (by omega)]
      exact (ih (by omega) (by omega)).trans (Nat.le_add_right _ _)
    · have : i = j + 1 := by omega
      subst this; exact le_rfl

/-- The wait for copy `k`, when it is not the chunk's last: the slot's step at the wait as printed. -/
theorem wp_await (s : Fin 6) (b : Fin 12) (ch : Fin 8) (u : Fin 17) (k : Fin 5) {s2 : Shape}
    {hq : (⟨3, ![1, sz k, 5120]⟩ : Shape).Squeezes s2} (hs2 : s2 = ⟨2, ![sz k, 5120]⟩) {off : Fin 3 → ℕ} {offs : Fin 1 → ℕ} {inb inbs}
    {sp' : Space} {s' : Shape} {e' : EltTy} {srcw : Memref sig .tc sp' s' e'}
    {hsrc hdst} {α : Type} {Q : α → sProp 𝕄} {kk : PUnit → Prog (TpuEff nD τ sig (Elt F) Λ .tc) α} {W : Finset (SemLoc sig × Unit)}
    (hb : bit u k = true) (hoffs : offs = ![s.val]) :
    iprop(Waiting c C q s b ch u k ∗ owes (c : Thread nD τ) 0 W)
      ⊢ iprop(((Waiting c C q s b ch u (k.val + 1) ∗ ∃ W', owes (c : Thread nD τ) 0 W') -∗ wp frame (wpE defs 𝒱 (c : Thread nD τ) bd) Set.univ (kk ⟨⟩) Q)
      -∗ wp frame (wpE defs 𝒱 (c : Thread nD τ) bd) Set.univ
          (.op (.waitDma2 (((cc0_scratch4 : DmaSems sig S6).slice (Rect.unit (s := S6) offs S1.size inbs)).squeeze S_ squeezes_S1_S_).sem
            srcw (rslice (sz k) s2 hq off inb) hsrc hdst) kk) Q) := by
  obtain ⟨h1, h2, h3, h4, h5⟩ := step_true u k hb
  have hst : Transfers.sumTo (amts u) (idx u (k.val + 1)) = Transfers.sumTo (amts u) (idx u k) + amt k := by
    rw [h2, Transfers.sumTo_succ (amts u) h3]
    exact congrArg (_ + amt ·) h4
  rw [cellR_eq hoffs]
  unfold Waiting
  iintro ⟨⟨HB, Hr, Hc⟩, Ho⟩ Hk
  iapply (Transfers.wp_waitMixedBatch (Lvl := ℕ) EC 𝒱 (c : Thread nD τ) bd () (srcw := srcw) (dstw := rslice (sz k) s2 hq off inb)
    (A := amts u) (D := deliv c C q s b ch u) (j := cnt u) (u := Transfers.sumTo (amts u) (idx u k)) (J := amt k) (credit_eq hs2)
    (hst ▸ sumTo_mono (amts u) (by omega) le_rfl)) $$ [HB Ho]
  · isplitl [HB]; · iexact HB
    iexact Ho
  iintro ⟨HB, Ho⟩
  iapply Hk
  isplitr [Ho]
  · rw [hst]
    isplitl [HB]; · iexact HB
    isplitl [Hr]; · iexact Hr
    iexact Hc
  · iexists _; iexact Ho

/-- Copy `t` lies inside the first `32 * u` rows. -/
theorem piece_le (u : Fin 17) (t : Fin (cnt u)) : pos u (nth u t) + sz (nth u t) ≤ 32 * u := by
  have hc := cnt_le u
  exact (sz_dvd u ⟨t.val, by have := t.isLt; omega⟩ t.isLt).2.2
/-- Each of the first `32 * u` rows lies in a copy. -/
theorem piece_cover (u : Fin 17) (r : ℕ) (h : r < 32 * u.val) : ∃ t : Fin (cnt u), pos u (nth u t) ≤ r ∧ r < pos u (nth u t) + sz (nth u t) := by
  have hu := u.isLt
  obtain ⟨t, h1, h2, h3⟩ := (cover_dec u ⟨r / 32, by omega⟩).1 (show r / 32 < u.val by omega)
  obtain ⟨d1, d2, h4⟩ := sz_dvd u t h1
  refine ⟨⟨t.val, h1⟩, ?_⟩
  show pos u (nth u t.val) ≤ r ∧ r < pos u (nth u t.val) + sz (nth u t.val)
  have h2' : pos u (nth u t.val) / 32 ≤ r / 32 := h2
  have h3' : r / 32 < (pos u (nth u t.val) + sz (nth u t.val)) / 32 := h3
  omega
/-- Two copies share no row. -/
theorem piece_disj (u : Fin 17) {t t' : Fin (cnt u)} (h : t ≠ t') {r : ℕ} (h1 : pos u (nth u t) ≤ r) (h2 : r < pos u (nth u t) + sz (nth u t))
    (h3 : pos u (nth u t') ≤ r) (h4 : r < pos u (nth u t') + sz (nth u t')) : False := by
  have hc := cnt_le u
  have hne : t.val ≠ t'.val := fun e => h (Fin.ext e)
  have l1 : t.val < 5 := by have := t.isLt; omega
  have l2 : t'.val < 5 := by have := t'.isLt; omega
  rcases Nat.lt_or_gt_of_ne hne with hl | hl
  · have := disj_dec u ⟨t.val, l1⟩ ⟨t'.val, l2⟩ t.isLt t'.isLt hl
    simp only at this; omega
  · have := disj_dec u ⟨t'.val, l2⟩ ⟨t.val, l1⟩ t'.isLt t.isLt hl
    simp only at this; omega

theorem rows_cover (s : ℕ) (u : Fin 17) :
    (Finset.univ : Finset (Fin (cnt u))).biUnion (fun t => rowsR s (pos u (nth u t)) (sz (nth u t))) = rowsR s 0 (32 * u) := by
  ext i
  simp only [Finset.mem_biUnion, Finset.mem_univ, _root_.true_and, rowsR, Finset.mem_filter]
  constructor
  · rintro ⟨t, h1, h2, h3⟩
    have := piece_le u t
    exact ⟨h1, Nat.zero_le _, by omega⟩
  · rintro ⟨h1, -, h3⟩
    obtain ⟨t, h4, h5⟩ := piece_cover u (i 1).val (by omega)
    exact ⟨t, h1, h4, h5⟩
theorem codes_cover (b p : ℕ) (u : Fin 17) :
    (Finset.univ : Finset (Fin (cnt u))).biUnion (fun t => rowsC b (p + pos u (nth u t)) (sz (nth u t))) = rowsC b p (32 * u) := by
  ext i
  simp only [Finset.mem_biUnion, Finset.mem_univ, _root_.true_and, rowsC, Finset.mem_filter]
  constructor
  · rintro ⟨t, h1, h2, h3⟩
    have := piece_le u t
    exact ⟨h1, by omega, by omega⟩
  · rintro ⟨h1, h2, h3⟩
    obtain ⟨t, h4, h5⟩ := piece_cover u ((i 1).val - p) (by omega)
    exact ⟨t, h1, by omega, by omega⟩

theorem deliv_join (s : Fin 6) (b : Fin 12) (ch : Fin 8) (u : Fin 17) :
    bigSep (Finset.univ : Finset (Fin (cnt u))) (deliv c C q s b ch u)
      ⊢ iprop((ringM.view.loc (c : Thread nD τ) ↦[rowsR s 0 (32 * u)]{fullShare} chunkE C b ch)
        ∗ (codesM.view.loc (c : Thread nD τ) ↦[rowsC b (ch.val * 512) (32 * u)]{q} C)) := by
  rw [← rows_cover, ← codes_cover, pointsTo_biUnion, pointsTo_biUnion]
  · exact Entails.of_eq (BI.bigSep_sep Finset.univ
      (fun t : Fin (cnt u) => (ringM.view.loc (c : Thread nD τ) ↦[rowsR s (pos u (nth u t)) (sz (nth u t))]{fullShare} chunkE C b ch : sProp 𝕄))
      (fun t : Fin (cnt u) => (codesM.view.loc (c : Thread nD τ) ↦[rowsC b (ch.val * 512 + pos u (nth u t)) (sz (nth u t))]{q} C : sProp 𝕄)))
  · intro t _ t' _ h
    rw [Finset.disjoint_left]
    intro i; simp only [rowsC, Finset.mem_filter]
    intro h1 h2
    exact piece_disj u h (r := (i 1).val - ch.val * 512) (by omega) (by omega) (by omega) (by omega)
  · intro t _ t' _ h
    rw [Finset.disjoint_left]
    intro i; simp only [rowsR, Finset.mem_filter]
    intro h1 h2
    exact piece_disj u h h1.2.2.1 h1.2.2.2 h2.2.2.1 h2.2.2.2

/-- Every copy waited for: the slot holds the chunk's first `32 * u` rows, and its share of the codes is whole again. -/
theorem waiting_landed (s : Fin 6) (b : Fin 12) (ch : Fin 8) (u : Fin 17) : Waiting c C q s b ch u 5 ⊢ |={Set.univ}=> Landed c C q s b ch u := by
  have hu := u.isLt
  unfold Waiting Landed
  rw [show idx u 5 = cnt u by revert u; decide +kernel]
  iintro ⟨HB, ⟨%f, Hr⟩, Hc⟩
  imod (Transfers.mixedBatch_collect' (Lvl := ℕ) EC (c : Thread nD τ) (n := cnt u) (A := amts u) (D := deliv c C q s b ch u) (sm := SemLoc.dma (cellR s)) (ι := ())
    (fun t => amt_pos ⟨nth u t, nth_lt u ⟨t.val, by have := t.isLt; have := cnt_le u; omega⟩⟩)) $$ HB with ⟨HD, Hs⟩
  imodintro
  isplitl [Hs]; · iexact Hs
  ihave HD := (deliv_join c C q s b ch u) $$ HD
  icases HD with ⟨Hr', Hc'⟩
  isplitl [Hr Hr']
  · have hd : Disjoint (rowsR s 0 (32 * u)) (rowsR s (32 * u) (512 - 32 * u)) := by
      rw [Finset.disjoint_left]; intro i; simp only [rowsR, Finset.mem_filter]; omega
    have hU : rowsR s 0 (32 * u) ∪ rowsR s (32 * u) (512 - 32 * u) = rowsR s 0 512 := by
      ext i; simp only [rowsR, Finset.mem_filter, Finset.mem_union, Finset.mem_univ, _root_.true_and]; omega
    ihave Hr := (pointsTo_join (ℓ := ringM.view.loc (c : Thread nD τ)) (I := rowsR s 0 (32 * u)) (J := rowsR s (32 * u) (512 - 32 * u)) hd) $$ [Hr' Hr]
    · isplitl [Hr'] <;> iassumption
    rw [hU]
    iexists _
    isplitr; swap; · iexact Hr
    ipureintro
    intro i hi
    exact Finset.piecewise_eq_of_notMem _ _ _ (fun h => Finset.disjoint_left.1 hd hi h)
  · have hS : rowsC b (ch.val * 512) (32 * u) ⊆ Finset.univ := Finset.subset_univ _
    iapply (pointsTo_split_subset hS).2
    isplitl [Hc'] <;> iassumption

end Cert.KernelIdeal.Own
-- ==== Proof.Scale.lean ====
/-
  The kernel's copies of scale columns: the state of a scale slot while its copy is in flight, and the steps that
  issue the copy and wait for it.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Geo

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ
/-- Slot `s` of the scale ring. -/
def colsS (s : ℕ) : Finset S6x40x512.Idx := Finset.univ.filter fun i => (i 0).val = s
/-- Columns `q ≤ · < q + 512` of sequence `b` of the scales. -/
def colsM (b q : ℕ) : Finset S12x40x4096.Idx := Finset.univ.filter fun i => (i 0).val = b ∧ q ≤ (i 2).val ∧ (i 2).val < q + 512

abbrev SRing : Type := S6x40x512.Idx → Elt F .f32
abbrev Scales : Type := S12x40x4096.Idx → Elt F .f32

/-- What the scale ring holds of the chunk `ch` of sequence `b`. -/
def chunkS (C : Scales (F := F)) (b : Fin 12) (ch : Fin 8) : SRing (F := F) := fun i =>
  C (fun a => match a with
    | ⟨0, _⟩ => b
    | ⟨1, _⟩ => i 1
    | ⟨2, _⟩ => ⟨ch.val * 512 + (i 2).val, by have h : (i 2).val < 512 := (i 2).isLt; have := ch.isLt; show _ < 4096; omega⟩)

abbrev srslice (off : Fin 3 → ℕ) (inb : ∀ a, off a + S1x40x512.size a ≤ S6x40x512.size a) : Memref sig .tc .vmem S40x512 .f32 :=
  (sringM.slice (Rect.unit (s := S6x40x512) off S1x40x512.size inb) (fun _ => rfl)).squeeze S40x512 squeezes_S1x40x512_S40x512
abbrev smslice (off : Fin 3 → ℕ) (inb : ∀ a, off a + S1x40x512.size a ≤ S12x40x4096.size a) : Memref sig .tc .hbm S40x512 .f32 :=
  (scalesM.slice (Rect.unit (s := S12x40x4096) off S1x40x512.size inb) (fun _ => rfl)).squeeze S40x512 squeezes_S1x40x512_S40x512

theorem srslice_set {off : Fin 3 → ℕ} {inb} {s : ℕ} (hoff : off = ![s, 0, 0]) : (srslice off inb).view.set = colsS s := by
  subst hoff
  refine (View.set_reshape _ _).trans ((View.set_slice_whole _ _).trans ?_)
  ext i
  refine Rect.mem_set_unit.trans ?_
  rw [colsS, Finset.mem_filter]
  constructor
  · intro h
    have h0 := h 0
    simp at h0
    exact ⟨Finset.mem_univ _, by omega⟩
  · rintro ⟨-, h0⟩ a
    have hlt := (i a).isLt
    fin_cases a
    · simp; omega
    · simp; exact hlt
    · simp; exact hlt

theorem smslice_set {off : Fin 3 → ℕ} {inb} {b q : ℕ} (hoff : off = ![b, 0, q]) : (smslice off inb).view.set = colsM b q := by
  subst hoff
  refine (View.set_reshape _ _).trans ((View.set_slice_whole _ _).trans ?_)
  ext i
  refine Rect.mem_set_unit.trans ?_
  rw [colsM, Finset.mem_filter]
  constructor
  · intro h
    have h0 := h 0; have h2 := h 2
    simp at h0 h2
    exact ⟨Finset.mem_univ _, by omega, by omega, by omega⟩
  · rintro ⟨-, h0, h1, h2⟩ a
    have hlt := (i a).isLt
    fin_cases a
    · simp; omega
    · simp; exact hlt
    · simp; exact ⟨h1, h2⟩

theorem scopy_write {off off' : Fin 3 → ℕ} {inb inb'} {s : ℕ} {b : Fin 12} {ch : Fin 8} (hoff : off = ![s, 0, 0]) (hoff' : off' = ![b.val, 0, ch.val * 512])
    (C : Scales (F := F)) (fd : SRing (F := F)) (i : S6x40x512.Idx) (hi : i ∈ colsS s) :
    (srslice off inb).view.write (Elt F) fd (ReadAs.same.apply ((smslice off' inb').view.read (Elt F) C)) Finset.univ i = chunkS C b ch i := by
  rw [← srslice_set (inb := inb) hoff] at hi
  obtain ⟨x, -, hx⟩ := Finset.mem_map.mp hi
  subst hoff hoff'
  rw [← hx, View.write_emb_of_mem _ _ (Finset.mem_univ x)]
  unfold chunkS
  show C _ = C _
  congr 1
  funext a
  apply Fin.ext
  obtain ⟨y, hy0⟩ : ∃ y : S1x40x512.Idx, y = Shape.reshapeEquiv squeezes_S1x40x512_S40x512.numel_eq x := ⟨_, rfl⟩
  have hy : ∀ a, ((srslice ![s, 0, 0] inb).view.emb x a).val = (![s, 0, 0] : Fin 3 → ℕ) a + 1 * (y a).val := fun a => by rw [hy0]; rfl
  have hy' : ∀ a, ((smslice ![b.val, 0, ch.val * 512] inb').view.emb x a).val = (![b.val, 0, ch.val * 512] : Fin 3 → ℕ) a + 1 * (y a).val := fun a => by rw [hy0]; rfl
  refine (hy' a).trans ?_
  have h0 : (y (0 : Fin 3)).val < 1 := (y (0 : Fin 3)).isLt
  have e1 := hy 1
  have e2 := hy 2
  clear hy hy' hy0
  match a with
  | ⟨0, _⟩ =>
    show b.val + 1 * (y (0 : Fin 3)).val = b.val
    omega
  | ⟨1, _⟩ => exact e1.symm
  | ⟨2, _⟩ =>
    have e2' : ((srslice ![s, 0, 0] inb).view.emb x 2).val = 0 + 1 * (y (2 : Fin 3)).val := e2
    show ch.val * 512 + 1 * (y (2 : Fin 3)).val = ch.val * 512 + ((srslice ![s, 0, 0] inb).view.emb x 2).val
    rw [e2', Nat.zero_add]

/-- What a scale copy adds to its cell. -/
def amtS : ℕ := sig.dmaCredit .tc (Kind.tc.table .vmem) sringM.view.buf S40x512 .f32
theorem amtS_pos : 0 < amtS := by
  refine sig.dmaCredit_pos _ _ _ _ _ ?_
  decide +kernel
theorem creditS_eq {off inb} : (srslice off inb).view.dmaCredit = amtS := by unfold amtS View.dmaCredit; rfl

variable (c : Dev nD) (C : Scales (F := F)) (q : PosShare TreeShare)

def delivS (s : Fin 6) (b : Fin 12) (ch : Fin 8) (t : Fin 1) : sProp 𝕄 :=
  iprop((sringM.view.loc (c : Thread nD τ) ↦[colsS s]{fullShare} chunkS C b ch) ∗ (scalesM.view.loc (c : Thread nD τ) ↦[colsM b (ch.val * 512)]{q} C))
instance delivS_storable (s : Fin 6) (b : Fin 12) (ch : Fin 8) (t : Fin 1) : Storable (upEmb : UEmb _ 𝕄) (delivS c C q s b ch t) := by
  unfold delivS; infer_instance

abbrev batchS (s : Fin 6) (b : Fin 12) (ch : Fin 8) (j w : ℕ) : sProp 𝕄 :=
  Transfers.MixedBatch EC (c : Thread nD τ) (SemLoc.dma (cellS s)) () (fun _ => amtS) (delivS c C q s b ch) j w

/-- A scale slot with nothing in flight. -/
def FreeS (s : Fin 6) : sProp 𝕄 :=
  iprop(semVal ((c : Thread nD τ), SemLoc.dma (cellS s)) 0 ∗ (∃ f, sringM.view.loc (c : Thread nD τ) ↦[colsS s]{fullShare} f)
    ∗ (scalesM.view.loc (c : Thread nD τ) ↦{q} C))
/-- A scale slot with its copy in flight. -/
def BusyS (s : Fin 6) (b : Fin 12) (ch : Fin 8) : sProp 𝕄 :=
  iprop(batchS c C q s b ch 1 0 ∗ (scalesM.view.loc (c : Thread nD τ) ↦[Finset.univ \ colsM b (ch.val * 512)]{q} C))
/-- A scale slot whose chunk has landed. -/
def LandedS (s : Fin 6) (b : Fin 12) (ch : Fin 8) : sProp 𝕄 :=
  iprop(semVal ((c : Thread nD τ), SemLoc.dma (cellS s)) 0 ∗ (sringM.view.loc (c : Thread nD τ) ↦[colsS s]{fullShare} chunkS C b ch)
    ∗ (scalesM.view.loc (c : Thread nD τ) ↦{q} C))

theorem landedS_free (s : Fin 6) (b : Fin 12) (ch : Fin 8) : LandedS c C q s b ch ⊢ FreeS c C q s := by
  unfold LandedS FreeS
  iintro ⟨Hs, Hr, Hc⟩
  isplitl [Hs]; · iexact Hs
  isplitl [Hr]; · iexists _; iexact Hr
  iexact Hc

variable {Λ : Labels} {defs : Defs nD τ sig (Elt F) Λ} {𝒱 : Variants} {bd : Option 𝒱.V}

theorem wp_issueS (s : Fin 6) (b : Fin 12) (ch : Fin 8) {off off' : Fin 3 → ℕ} {offs : Fin 1 → ℕ} {inb inb' inbs}
    {hsrc hdst hsem} {α : Type} {Q : α → sProp 𝕄} {kk : PUnit → Prog (TpuEff nD τ sig (Elt F) Λ .tc) α}
    (hoff : off = ![s.val, 0, 0]) (hoff' : off' = ![b.val, 0, ch.val * 512]) (hoffs : offs = ![s.val]) :
    FreeS c C q s ⊢ iprop((BusyS c C q s b ch -∗ wp frame (wpE defs 𝒱 (c : Thread nD τ) bd) Set.univ (kk ⟨⟩) Q)
      -∗ wp frame (wpE defs 𝒱 (c : Thread nD τ) bd) Set.univ
          (.op (.enqueueDmaAs (smslice off' inb') (.here (srslice off inb)) .same
            (.dma (((cc0_scratch5 : DmaSems sig S6).slice (Rect.unit (s := S6) offs S1.size inbs)).squeeze S_ squeezes_S1_S_).sem) hsrc hdst hsem) kk) Q) := by
  revert hsem
  rw [cellS_eq hoffs]
  intro hsem
  have hCs : colsM b (ch.val * 512) ⊆ Finset.univ := Finset.subset_univ _
  unfold FreeS BusyS
  iintro ⟨Hs, ⟨%f, Hr⟩, Hc⟩ Hk
  imod (Transfers.mixedBatch_alloc' (Lvl := ℕ) EC (c : Thread nD τ) () (fun _ : Fin 1 => amtS) (delivS c C q s b ch) (sm := SemLoc.dma (cellS s)) (E := Set.univ)) $$ Hs with HB
  ihave Hc := (pointsTo_split_subset hCs).1 $$ Hc
  icases Hc with ⟨Hc1, Hc2⟩
  iapply (Transfers.wp_dmaMixedBatch (Lvl := ℕ) EC 𝒱 (c : Thread nD τ) bd () (fun _ : Fin 1 => amtS) (src := smslice off' inb') (dst := srslice off inb) (via := .same) (q := q) (fs := C) (Sd := colsS s) (fd := f)
    (D := delivS c C q s b ch) (j := 0) (u := 0) (le_of_eq (srslice_set hoff)) Nat.zero_lt_one
    ((View.amount_dma _ _).trans creditS_eq) (Nat.zero_le _)
    (by
      unfold delivS
      rw [pointsTo_congr (fun i hi => scopy_write (inb := inb) (inb' := inb') hoff hoff' C f i hi), smslice_set (inb := inb') hoff'])) $$ [HB Hr Hc1]
  · rw [smslice_set hoff']
    isplitl [Hc1]; · iexact Hc1
    isplitl [Hr]; · iexact Hr
    iexact HB
  iintro HB
  iapply Hk
  isplitl [HB]; · iexact HB
  iexact Hc2

theorem wp_awaitS (s : Fin 6) (b : Fin 12) (ch : Fin 8) {off : Fin 3 → ℕ} {offs : Fin 1 → ℕ} {inb inbs}
    {sp' : Space} {s' : Shape} {e' : EltTy} {srcw : Memref sig .tc sp' s' e'}
    {hsrc hdst} {α : Type} {Q : α → sProp 𝕄} {kk : PUnit → Prog (TpuEff nD τ sig (Elt F) Λ .tc) α} {W : Finset (SemLoc sig × Unit)}
    (hoffs : offs = ![s.val]) :
    iprop(BusyS c C q s b ch ∗ owes (c : Thread nD τ) 0 W)
      ⊢ iprop(((LandedS c C q s b ch ∗ ∃ W', owes (c : Thread nD τ) 0 W') -∗ wp frame (wpE defs 𝒱 (c : Thread nD τ) bd) Set.univ (kk ⟨⟩) Q)
      -∗ wp frame (wpE defs 𝒱 (c : Thread nD τ) bd) Set.univ
          (.op (.waitDma2 (((cc0_scratch5 : DmaSems sig S6).slice (Rect.unit (s := S6) offs S1.size inbs)).squeeze S_ squeezes_S1_S_).sem
            srcw (srslice off inb) hsrc hdst) kk) Q) := by
  have hCs : colsM b (ch.val * 512) ⊆ Finset.univ := Finset.subset_univ _
  rw [cellS_eq hoffs]
  unfold BusyS LandedS
  iintro ⟨⟨HB, Hc2⟩, Ho⟩ Hk
  iapply (Transfers.wp_waitMixedBatchAll (Lvl := ℕ) EC 𝒱 (c : Thread nD τ) bd () (srcw := srcw) (dstw := srslice off inb)
    (A := fun _ : Fin 1 => amtS) (D := delivS c C q s b ch) (u := 0) (J := amtS) creditS_eq (fun _ => amtS_pos) rfl) $$ [HB Ho]
  · isplitl [HB]; · iexact HB
    iexact Ho
  iintro ⟨HD, Hs, Ho⟩
  ihave HD := (show bigSep Finset.univ (delivS c C q s b ch) ⊢ delivS c C q s b ch 0 from by
    rw [show (Finset.univ : Finset (Fin 1)) = {0} from rfl, BI.bigSep_singleton]) $$ HD
  unfold delivS
  icases HD with ⟨Hr, Hc1⟩
  iapply Hk
  isplitr [Ho]
  · isplitl [Hs]; · iexact Hs
    isplitl [Hr]; · iexact Hr
    iapply (pointsTo_split_subset hCs).2
    isplitl [Hc1] <;> iassumption
  · iexists _; iexact Ho

end Cert.KernelIdeal.Own
-- ==== Proof.Guard.lean ====
/-
  The guarded copies and waits as the kernel prints them: under the test on the chunk's row count, with the offsets
  read off words.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Geo
public import proofs.«01_k».proof.Proof.Scale

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ
theorem toNat_small {n : ℕ} (h : n < 2 ^ 32) : (BitVec.ofNat 32 n).toNat = n := by rw [BitVec.toNat_ofNat]; exact Nat.mod_eq_of_lt h

/-- The row offset of copy `k`, as a word. -/
abbrev posw (len cw : BitVec 32) (k : Fin 5) : BitVec 32 := Scalar.andi (tokw len cw) (maskw k)
/-- The token offset of copy `k`, as a word. -/
abbrev addw (len cw : BitVec 32) (k : Fin 5) : BitVec 32 := Scalar.addi (Scalar.muli cw 512#32) (posw len cw k)

abbrev tuF (len cw : BitVec 32) : Fin 17 := ⟨tu len cw, tu_lt len cw⟩

theorem posw_toNat (len cw : BitVec 32) (k : Fin 5) : (posw len cw k).toNat = pos (tuF len cw) k := by
  have h := (pos_le (tuF len cw) ⟨k.val, by omega⟩).1
  rw [posw, mask_tok]
  exact toNat_small (by show pos (tu len cw) k < _; have : pos (tu len cw) k ≤ 512 := h; omega)
theorem posw_dvd (len cw : BitVec 32) (k : Fin 5) : 32 ∣ (posw len cw k).toNat := by
  rw [posw_toNat]; exact (pos_le (tuF len cw) ⟨k.val, by omega⟩).2
theorem mul_word (ch : Fin 8) : Scalar.muli (BitVec.ofNat 32 ch.val) 512#32 = BitVec.ofNat 32 (ch.val * 512) := by revert ch; decide +kernel
theorem mul_toNat {cw : BitVec 32} {ch : Fin 8} (h : cw = BitVec.ofNat 32 ch.val) : (Scalar.muli cw 512#32).toNat = ch.val * 512 := by
  rw [h, mul_word]; exact toNat_small (by have := ch.isLt; omega)
theorem addw_toNat (len : BitVec 32) {cw : BitVec 32} {ch : Fin 8} (h : cw = BitVec.ofNat 32 ch.val) (k : Fin 5) :
    (addw len cw k).toNat = ch.val * 512 + pos (tuF len cw) k := by
  have h1 := mul_toNat h
  have h2 := posw_toNat len cw k
  have h3 : pos (tuF len cw) k ≤ 512 := (pos_le (tuF len cw) ⟨k.val, by omega⟩).1
  show (Scalar.muli cw 512#32 + posw len cw k).toNat = _
  rw [BitVec.toNat_add, h1, h2]
  have := ch.isLt
  exact Nat.mod_eq_of_lt (by omega)
theorem addw_dvd (len : BitVec 32) {cw : BitVec 32} {ch : Fin 8} (h : cw = BitVec.ofNat 32 ch.val) (k : Fin 5) : 32 ∣ (addw len cw k).toNat := by
  rw [addw_toNat len h]
  have := (pos_le (tuF len cw) ⟨k.val, by omega⟩).2
  have h2 : 32 ∣ pos (tuF len cw) k := this
  omega
theorem mul_dvd {cw : BitVec 32} {ch : Fin 8} (h : cw = BitVec.ofNat 32 ch.val) : 128 ∣ (Scalar.muli cw 512#32).toNat := by
  rw [mul_toNat h]; omega
theorem mul_dvd' {cw : BitVec 32} {ch : Fin 8} (h : cw = BitVec.ofNat 32 ch.val) : 512 ∣ (Scalar.muli cw 512#32).toNat := by
  rw [mul_toNat h]; omega

/-- The test copy `k` stands under. -/
abbrev Guard (len cw : BitVec 32) (k : Fin 5) : Prop := condw (tokw len cw) (sizew k) = 1#1

theorem guard_bit {len cw : BitVec 32} {k : Fin 5} : Guard len cw k ↔ bit (tuF len cw) k = true := cond_tok len cw k

theorem guard_le {len cw : BitVec 32} {k : Fin 5} (h : Guard len cw k) : pos (tuF len cw) k + sz k ≤ 512 := by
  have := (step_true (tuF len cw) k (guard_bit.1 h)).2.2.2.2
  have hu := tu_lt len cw
  have hh : pos (tuF len cw) k + sz k ≤ 32 * tu len cw := this
  omega

theorem cell_bound {sw : BitVec 32} {s : Fin 6} (hs : sw = BitVec.ofNat 32 s.val) : ∀ a, (![sw.toNat] : Fin 1 → ℕ) a + S1.size a ≤ S6.size a := by
  rw [hs, toNat_small (by have := s.isLt; omega)]; exact cell_inb s
theorem ring_bound {len cw sw : BitVec 32} {s : Fin 6} {k : Fin 5} (hs : sw = BitVec.ofNat 32 s.val) (h : Guard len cw k) :
    ∀ a, (![sw.toNat, (posw len cw k).toNat, 0] : Fin 3 → ℕ) a + (⟨3, ![1, sz k, 5120]⟩ : Shape).size a ≤ S6x512x5120.size a := by
  have h1 := guard_le h
  have h2 := s.isLt
  rw [posw_toNat, hs, toNat_small (by omega)]
  intro a
  match a with
  | ⟨0, _⟩ => show s.val + 1 ≤ 6; omega
  | ⟨1, _⟩ => exact h1
  | ⟨2, _⟩ => show 0 + 5120 ≤ 5120; omega
theorem codes_bound {len cw bw : BitVec 32} {b : Fin 12} {ch : Fin 8} {k : Fin 5} (hb : bw = BitVec.ofNat 32 b.val) (hc : cw = BitVec.ofNat 32 ch.val) (h : Guard len cw k) :
    ∀ a, (![bw.toNat, (addw len cw k).toNat, 0] : Fin 3 → ℕ) a + (⟨3, ![1, sz k, 5120]⟩ : Shape).size a ≤ S12x4096x5120.size a := by
  have h1 := guard_le h
  have h2 := b.isLt
  have h3 := ch.isLt
  rw [addw_toNat len hc, hb, toNat_small (by omega)]
  intro a
  match a with
  | ⟨0, _⟩ => show b.val + 1 ≤ 12; omega
  | ⟨1, _⟩ => show ch.val * 512 + pos (tuF len cw) k + sz k ≤ 4096; omega
  | ⟨2, _⟩ => show 0 + 5120 ≤ 5120; omega
theorem sz_four : ∀ k : Fin 5, 4 ∣ sz k := by decide
theorem ring_words {len cw sw : BitVec 32} {k : Fin 5} (hinb) :
    (Rect.unit (s := S6x512x5120) ![sw.toNat, (posw len cw k).toNat, 0] (⟨3, ![1, sz k, 5120]⟩ : Shape).size hinb).WholeWords (EltTy.packing .fp8e4m3) := by
  refine .inl (.inr ⟨(by decide : 2 ≤ 3), rfl, .inl ⟨?_, ?_⟩⟩)
  · exact Nat.dvd_trans (by decide) (posw_dvd len cw k)
  · exact sz_four k
theorem codes_words {len cw bw : BitVec 32} {ch : Fin 8} {k : Fin 5} (hc : cw = BitVec.ofNat 32 ch.val) (hinb) :
    (Rect.unit (s := S12x4096x5120) ![bw.toNat, (addw len cw k).toNat, 0] (⟨3, ![1, sz k, 5120]⟩ : Shape).size hinb).WholeWords (EltTy.packing .fp8e4m3) := by
  refine .inl (.inr ⟨(by decide : 2 ≤ 3), rfl, .inl ⟨?_, ?_⟩⟩)
  · exact Nat.dvd_trans (by decide) (addw_dvd len hc k)
  · exact sz_four k
theorem sring_bound {sw : BitVec 32} {s : Fin 6} (hs : sw = BitVec.ofNat 32 s.val) : ∀ a, (![sw.toNat, 0, 0] : Fin 3 → ℕ) a + S1x40x512.size a ≤ S6x40x512.size a := by
  have h2 := s.isLt
  rw [hs, toNat_small (by omega)]
  intro a
  match a with
  | ⟨0, _⟩ => show s.val + 1 ≤ 6; omega
  | ⟨1, _⟩ => show 0 + 40 ≤ 40; omega
  | ⟨2, _⟩ => show 0 + 512 ≤ 512; omega
theorem scales_bound {cw bw : BitVec 32} {b : Fin 12} {ch : Fin 8} (hb : bw = BitVec.ofNat 32 b.val) (hc : cw = BitVec.ofNat 32 ch.val) :
    ∀ a, (![bw.toNat, 0, (Scalar.muli cw 512#32).toNat] : Fin 3 → ℕ) a + S1x40x512.size a ≤ S12x40x4096.size a := by
  have h2 := b.isLt
  have h3 := ch.isLt
  rw [mul_toNat hc, hb, toNat_small (by omega)]
  intro a
  match a with
  | ⟨0, _⟩ => show b.val + 1 ≤ 12; omega
  | ⟨1, _⟩ => show 0 + 40 ≤ 40; omega
  | ⟨2, _⟩ => show ch.val * 512 + 512 ≤ 4096; omega
theorem len_bound {bw : BitVec 32} {b : Fin 12} (hb : bw = BitVec.ofNat 32 b.val) : ∀ a, (![bw.toNat] : Fin 1 → ℕ) a + S1.size a ≤ S12.size a := by
  have h2 := b.isLt
  rw [hb, toNat_small (by omega)]
  intro a
  match a with
  | ⟨0, _⟩ => show b.val + 1 ≤ 12; omega

variable (c : Dev nD) (C : Codes (F := F)) (q : PosShare TreeShare)
variable {Λ : Labels} {defs : Defs nD τ sig (Elt F) Λ} {𝒱 : Variants} {bd : Option 𝒱.V}

/-- A guarded copy of the chunk `ch` of sequence `b` into slot `s`. -/
theorem wp_issue_guard (k : Fin 5) (s : Fin 6) (b : Fin 12) (ch : Fin 8) {len cw bw sw : BitVec 32}
    (hs : sw = BitVec.ofNat 32 s.val) (hb : bw = BitVec.ofNat 32 b.val) (hc : cw = BitVec.ofNat 32 ch.val) {s2 : Shape}
    {hq : (⟨3, ![1, sz k, 5120]⟩ : Shape).Squeezes s2} (hs2 : s2 = ⟨2, ![sz k, 5120]⟩) {off off' : Fin 3 → ℕ} {offs : Fin 1 → ℕ}
    (hoff : off = ![sw.toNat, (posw len cw k).toNat, 0]) (hoff' : off' = ![bw.toNat, (addw len cw k).toNat, 0]) (hoffs : offs = ![sw.toNat])
    {d : Decidable (Guard len cw k)}
    {inb : Guard len cw k → _} {inb' : Guard len cw k → _} {inbs : Guard len cw k → _}
    {hsrc : ∀ h : Guard len cw k, (cslice (sz k) s2 hq off' (inb' h)).view.WordExact} {hdst : ∀ h : Guard len cw k, (rslice (sz k) s2 hq off (inb h)).view.WordExact}
    {hsem : ∀ h : Guard len cw k, DmaTarget.Typed (nD := nD) .hbm (.dma (((cc0_scratch4 : DmaSems sig S6).slice (Rect.unit (s := S6) offs S1.size (inbs h))).squeeze S_ squeezes_S1_S_).sem)
      (DmaTarget.here (nD := nD) (p := (Proc.tc : Proc τ)) (rslice (sz k) s2 hq off (inb h)))}
    {α : Type} {Q : α → sProp 𝕄} {jp : Prog (TpuEff nD τ sig (Elt F) Λ .tc) α} :
    Issuing c C q s b ch (tu len cw) k ⊢ iprop((Issuing c C q s b ch (tu len cw) (k.val + 1) -∗ wp frame (wpE defs 𝒱 (c : Thread nD τ) bd) Set.univ jp Q)
      -∗ wp frame (wpE defs 𝒱 (c : Thread nD τ) bd) Set.univ
          (@dite _ (Guard len cw k) d (fun h => .op (.enqueueDmaAs (cslice (sz k) s2 hq off' (inb' h)) (.here (rslice (sz k) s2 hq off (inb h))) .same
            (.dma (((cc0_scratch4 : DmaSems sig S6).slice (Rect.unit (s := S6) offs S1.size (inbs h))).squeeze S_ squeezes_S1_S_).sem) (hsrc h) (hdst h) (hsem h)) (fun _ => jp))
            (fun _ => jp)) Q) := by
  by_cases hg : Guard len cw k
  · rw [dif_pos hg]
    have e1 : off = ![s.val, pos (tuF len cw) k, 0] := by rw [hoff, posw_toNat, hs, toNat_small (by have := s.isLt; omega)]
    have e2 : off' = ![b.val, ch.val * 512 + pos (tuF len cw) k, 0] := by rw [hoff', addw_toNat len hc, hb, toNat_small (by have := b.isLt; omega)]
    have e3 : offs = ![s.val] := by rw [hoffs, hs, toNat_small (by have := s.isLt; omega)]
    exact wp_issue c C q (defs := defs) (𝒱 := 𝒱) (bd := bd) s b ch (tuF len cw) k hs2 (hq := hq) (hq' := hq) (inb := inb hg) (inb' := inb' hg) (inbs := inbs hg) (hsrc := hsrc hg) (hdst := hdst hg) (hsem := hsem hg) (Q := Q) (kk := fun _ => jp)
      (guard_bit.1 hg) e1 e2 e3
  · rw [dif_neg hg]
    have hb' : bit (tuF len cw) k = false := by
      rw [guard_bit] at hg; simpa using hg
    iintro H Hk
    iapply Hk
    iapply (issuing_skip c C q s b ch (tuF len cw) k hb')
    iexact H

/-- A guarded wait for a copy of the chunk `ch` of sequence `b` into slot `s`. -/
theorem wp_await_guard (k : Fin 5) (s : Fin 6) (b : Fin 12) (ch : Fin 8) {len cw sw : BitVec 32}
    (hs : sw = BitVec.ofNat 32 s.val) {s2 : Shape}
    {hq : (⟨3, ![1, sz k, 5120]⟩ : Shape).Squeezes s2} (hs2 : s2 = ⟨2, ![sz k, 5120]⟩) {off : Fin 3 → ℕ} {offs : Fin 1 → ℕ}
    (hoffs : offs = ![sw.toNat])
    {d : Decidable (Guard len cw k)}
    {inb : Guard len cw k → _} {inbs : Guard len cw k → _} {sp' : Space} {s' : Shape} {e' : EltTy} {srcw : Guard len cw k → Memref sig .tc sp' s' e'}
    {hsrc : ∀ h : Guard len cw k, (srcw h).view.WordExact} {hdst : ∀ h : Guard len cw k, (rslice (sz k) s2 hq off (inb h)).view.WordExact}
    {α : Type} {Q : α → sProp 𝕄} {jp : Prog (TpuEff nD τ sig (Elt F) Λ .tc) α} :
    iprop(Waiting c C q s b ch (tu len cw) k ∗ ∃ W, owes (c : Thread nD τ) 0 W)
    ⊢ iprop(((Waiting c C q s b ch (tu len cw) (k.val + 1) ∗ ∃ W, owes (c : Thread nD τ) 0 W) -∗ wp frame (wpE defs 𝒱 (c : Thread nD τ) bd) Set.univ jp Q)
      -∗ wp frame (wpE defs 𝒱 (c : Thread nD τ) bd) Set.univ
          (@dite _ (Guard len cw k) d (fun h => .op (.waitDma2 (((cc0_scratch4 : DmaSems sig S6).slice (Rect.unit (s := S6) offs S1.size (inbs h))).squeeze S_ squeezes_S1_S_).sem
            (srcw h) (rslice (sz k) s2 hq off (inb h)) (hsrc h) (hdst h)) (fun _ => jp))
            (fun _ => jp)) Q) := by
  by_cases hg : Guard len cw k
  · rw [dif_pos hg]
    have e3 : offs = ![s.val] := by rw [hoffs, hs, toNat_small (by have := s.isLt; omega)]
    iintro ⟨H, ⟨%W, Ho⟩⟩ Hk
    iapply (wp_await c C q s b ch (tuF len cw) k hs2 (guard_bit.1 hg) e3) $$ [H Ho]
    · isplitl [H]; · iexact H
      iexact Ho
    iexact Hk
  · rw [dif_neg hg]
    have hb' : bit (tuF len cw) k = false := by
      rw [guard_bit] at hg; simpa using hg
    iintro ⟨H, Ho⟩ Hk
    iapply Hk
    isplitl [H]
    · iapply (waiting_skip c C q s b ch (tuF len cw) k hb')
      iexact H
    iexact Ho

end Cert.KernelIdeal.Own
-- ==== Proof.Steps.lean ====
/-
  Loads and stores of a buffer whose contents are named as its memref reads them, and the reading of one word of a
  scalar buffer.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Scale
public import proofs.«01_k».proof.Proof.Guard

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

abbrev wblkM : Memref sig .tc .vmem S16x5120 .bf16 := Memref.whole cc0_scratch2
abbrev valsM : Memref sig .tc .vmem S12x4096 .f32 := Memref.whole cc0_scratch3

/-- Sequence `b`'s entry of a twelve-entry buffer. -/
def at12 {e : EltTy} (L : S12.Idx → Elt F e) (b : Fin 12) : Elt F e := L fun a => match a with | ⟨0, _⟩ => b

variable (c : Dev nD)
variable {Λ : Labels} {defs : Defs nD τ sig (Elt F) Λ} {𝒱 : Variants} {bd : Option 𝒱.V}

/-- A vector load of a rectangle of a named buffer. -/
theorem wp_load_own {sp : CoreSpace} {s : Shape} {e : EltTy} {m : Memref sig .tc sp s e} {r : Rect s} {hl : m.view.LoadsAt r.toLoadRect} {q : PosShare TreeShare} {X : s.Idx → Elt F e}
    {α : Type} {Q : α → sProp 𝕄} {kk : (r.shape.Idx → Elt F e) → Prog (TpuEff nD τ sig (Elt F) Λ .tc) α} :
    (owns (c : Thread nD τ) m q X : sProp 𝕄) ⊢ iprop((owns (c : Thread nD τ) m q X -∗ wp frame (wpE defs 𝒱 (c : Thread nD τ) bd) Set.univ (kk (fun i => X (r.emb i))) Q)
      -∗ wp frame (wpE defs 𝒱 (c : Thread nD τ) bd) Set.univ (.op (.load m r.toLoadRect hl) kk) Q) := by
  unfold owns
  iintro ⟨%f, %hf, H⟩ Hk
  iapply (wp_load_rect 𝒱 (c : Thread nD τ) bd Set.univ (m.view.set_slice_subset r)) $$ H
  iintro H
  have e : (m.access r).read (Elt F) f = fun i => X (r.emb i) := by rw [← hf]; rfl
  rw [e]
  iapply Hk
  iexists f
  isplitr; · ipureintro; exact hf
  iexact H

/-- What a store of `w` at the rectangle `r` leaves of `X`. -/
def put {s : Shape} {e : EltTy} (r : Rect s) (X : s.Idx → Elt F e) (w : r.shape.Idx → Elt F e) : s.Idx → Elt F e := fun y =>
  open Classical in if h : ∃ x, r.emb x = y then w h.choose else X y

theorem put_emb {s : Shape} {e : EltTy} (r : Rect s) (X : s.Idx → Elt F e) (w : r.shape.Idx → Elt F e) (x : r.shape.Idx) : put r X w (r.emb x) = w x := by
  unfold put
  have h : ∃ x', r.emb x' = r.emb x := ⟨x, rfl⟩
  rw [dif_pos h, r.emb.injective h.choose_spec]

theorem put_out {s : Shape} {e : EltTy} (r : Rect s) (X : s.Idx → Elt F e) (w : r.shape.Idx → Elt F e) {y : s.Idx} (h : ¬ ∃ x, r.emb x = y) : put r X w y = X y := by
  unfold put
  rw [dif_neg h]

/-- A whole vector store to a rectangle of a named buffer. -/
theorem wp_store_own {sp : CoreSpace} {s : Shape} {e : EltTy} {m : Memref sig .tc sp s e} {r : Rect s} {w : r.shape.Idx → Elt F e} {hx : (m.access r).Stores Finset.univ}
    {hm : (Finset.univ : Finset r.shape.Idx) = Finset.univ ∨ ∀ a, r.stride a = 1} {X : s.Idx → Elt F e}
    {α : Type} {Q : α → sProp 𝕄} {kk : PUnit → Prog (TpuEff nD τ sig (Elt F) Λ .tc) α} :
    (owns (c : Thread nD τ) m fullShare X : sProp 𝕄) ⊢ iprop((owns (c : Thread nD τ) m fullShare (put r X w) -∗ wp frame (wpE defs 𝒱 (c : Thread nD τ) bd) Set.univ (kk ⟨⟩) Q)
      -∗ wp frame (wpE defs 𝒱 (c : Thread nD τ) bd) Set.univ (.op (.store m r w Finset.univ hx hm) kk) Q) := by
  unfold owns
  iintro ⟨%f, %hf, H⟩ Hk
  iapply (wp_store 𝒱 (c : Thread nD τ) bd Set.univ (show (m.access r).setOn Finset.univ ⊆ m.view.set from m.view.set_slice_subset r)) $$ H
  iintro H
  iapply Hk
  iexists ((m.access r).write (Elt F) f w Finset.univ)
  isplitr
  · ipureintro
    funext y
    by_cases h : ∃ x, r.emb x = y
    · obtain ⟨x, rfl⟩ := h
      rw [put_emb]
      exact View.read_slice_write_emb r f w (Finset.mem_univ x)
    · rw [put_out _ _ _ h, ← hf]
      refine View.read_slice_write_of_not_mem r f w Finset.univ ?_
      intro hm'
      obtain ⟨x, -, hx'⟩ := Finset.mem_map.1 hm'
      exact h ⟨x, hx'⟩
  iexact H

/-- A load of a buffer of which nothing is known. -/
theorem wp_load_some {sp : CoreSpace} {s : Shape} {e : EltTy} {m : Memref sig .tc sp s e} {r : Rect s} {hl : m.view.LoadsAt r.toLoadRect} {q : PosShare TreeShare}
    {α : Type} {Q : α → sProp 𝕄} {kk : (r.shape.Idx → Elt F e) → Prog (TpuEff nD τ sig (Elt F) Λ .tc) α} :
    iprop(∃ X, owns (c : Thread nD τ) m q X : sProp 𝕄) ⊢ iprop((∀ w, (∃ X, owns (c : Thread nD τ) m q X) -∗ wp frame (wpE defs 𝒱 (c : Thread nD τ) bd) Set.univ (kk w) Q)
      -∗ wp frame (wpE defs 𝒱 (c : Thread nD τ) bd) Set.univ (.op (.load m r.toLoadRect hl) kk) Q) := by
  iintro ⟨%X, H⟩ Hk
  iapply (wp_load_own c) $$ H
  iintro H
  iapply Hk
  iexists X
  iexact H

/-- A store to a buffer of which nothing is known. -/
theorem wp_store_some {sp : CoreSpace} {s : Shape} {e : EltTy} {m : Memref sig .tc sp s e} {r : Rect s} {w : r.shape.Idx → Elt F e} {hx : (m.access r).Stores Finset.univ}
    {hm : (Finset.univ : Finset r.shape.Idx) = Finset.univ ∨ ∀ a, r.stride a = 1}
    {α : Type} {Q : α → sProp 𝕄} {kk : PUnit → Prog (TpuEff nD τ sig (Elt F) Λ .tc) α} :
    iprop(∃ X, owns (c : Thread nD τ) m fullShare X : sProp 𝕄) ⊢ iprop(((∃ X, owns (c : Thread nD τ) m fullShare X) -∗ wp frame (wpE defs 𝒱 (c : Thread nD τ) bd) Set.univ (kk ⟨⟩) Q)
      -∗ wp frame (wpE defs 𝒱 (c : Thread nD τ) bd) Set.univ (.op (.store m r w Finset.univ hx hm) kk) Q) := by
  iintro ⟨%X, H⟩ Hk
  iapply (wp_store_own c) $$ H
  iintro H
  iapply Hk
  iexists _
  iexact H

/-- The reading of one entry of a twelve-entry scalar buffer. -/
theorem wp_entry (b : Fin 12) {e : EltTy} {m : Memref sig .tc .smem S12 e} {off : Fin 1 → ℕ} (hoff : off = ![b.val]) {inb : ∀ a, off a + S1.size a ≤ S12.size a}
    {h1 : (Rect.unit (s := S12) off S1.size inb).shape.numel = 1} {hp : e.packing = 1} {q : PosShare TreeShare} {X : S12.Idx → Elt F e}
    {α : Type} {Q : α → sProp 𝕄} {kk : Elt F e → Prog (TpuEff nD τ sig (Elt F) Λ .tc) α} :
    (owns (c : Thread nD τ) m q X : sProp 𝕄) ⊢ iprop((owns (c : Thread nD τ) m q X -∗ wp frame (wpE defs 𝒱 (c : Thread nD τ) bd) Set.univ (kk (at12 X b)) Q)
      -∗ wp frame (wpE defs 𝒱 (c : Thread nD τ) bd) Set.univ
          (smemLoadElt m (Rect.unit (s := S12) off S1.size inb) (View.loads_smem_one hp h1) (Shape.Idx.first (h1.symm ▸ Nat.one_pos)) kk) Q) := by
  iintro H Hk
  iapply (wp_load_own c) $$ H
  iintro H
  have e0 : X ((Rect.unit (s := S12) off S1.size inb).emb (Shape.Idx.first (h1.symm ▸ Nat.one_pos))) = at12 X b := by
    unfold at12
    congr 1
    subst hoff
    funext a
    match a with
    | ⟨0, _⟩ => exact Fin.ext (by rfl)
  beta_reduce
  rw [e0]
  iapply Hk
  iexact H

/-- The same entry, of a buffer of which nothing is known. -/
theorem wp_entry_some {s : Shape} {e : EltTy} {m : Memref sig .tc .smem s e} {r : Rect s}
    {h1 : r.shape.numel = 1} {hp : e.packing = 1} {q : PosShare TreeShare}
    {α : Type} {Q : α → sProp 𝕄} {kk : Elt F e → Prog (TpuEff nD τ sig (Elt F) Λ .tc) α} :
    iprop(∃ X, owns (c : Thread nD τ) m q X : sProp 𝕄) ⊢ iprop((∀ x, (∃ X, owns (c : Thread nD τ) m q X) -∗ wp frame (wpE defs 𝒱 (c : Thread nD τ) bd) Set.univ (kk x) Q)
      -∗ wp frame (wpE defs 𝒱 (c : Thread nD τ) bd) Set.univ
          (smemLoadElt m r (View.loads_smem_one hp h1) (Shape.Idx.first (h1.symm ▸ Nat.one_pos)) kk) Q) := by
  iintro H Hk
  iapply (wp_load_some c) $$ H
  iintro %w H
  iapply Hk
  iexact H

/-- The same in the shape of a goal that has other facts beside it. -/
theorem step_entry (b : Fin 12) {e : EltTy} {m : Memref sig .tc .smem S12 e} {off : Fin 1 → ℕ} (hoff : off = ![b.val]) {inb : ∀ a, off a + S1.size a ≤ S12.size a}
    {h1 : (Rect.unit (s := S12) off S1.size inb).shape.numel = 1} {hp : e.packing = 1} {q : PosShare TreeShare} {X : S12.Idx → Elt F e} {R : sProp 𝕄}
    {α : Type} {Q : α → sProp 𝕄} {kk : Elt F e → Prog (TpuEff nD τ sig (Elt F) Λ .tc) α}
    (h : iprop(owns (c : Thread nD τ) m q X ∗ R) ⊢ wp frame (wpE defs 𝒱 (c : Thread nD τ) bd) Set.univ (kk (at12 X b)) Q) :
    iprop(owns (c : Thread nD τ) m q X ∗ R) ⊢ wp frame (wpE defs 𝒱 (c : Thread nD τ) bd) Set.univ
          (smemLoad m (Rect.unit (s := S12) off S1.size inb) h1 hp >>= kk) Q := by
  show _ ⊢ wp frame (wpE defs 𝒱 (c : Thread nD τ) bd) Set.univ
          (smemLoadElt m (Rect.unit (s := S12) off S1.size inb) (View.loads_smem_one hp h1) (Shape.Idx.first (h1.symm ▸ Nat.one_pos)) kk) Q
  iintro ⟨H, HR⟩
  iapply (wp_entry c b hoff (inb := inb) (h1 := h1) (hp := hp)) $$ H
  iintro H
  iapply h
  isplitl [H]; · iexact H
  iexact HR

theorem step_assume {P : Prop} {d : Decidable P} (hP : P) {R : sProp 𝕄} {α : Type} {Q : α → sProp 𝕄} {kk : PLift P → Prog (TpuEff nD τ sig (Elt F) Λ .tc) α}
    (h : R ⊢ wp frame (wpE defs 𝒱 (c : Thread nD τ) bd) Set.univ (kk ⟨hP⟩) Q) :
    R ⊢ wp frame (wpE defs 𝒱 (c : Thread nD τ) bd) Set.univ (.op (.assume P d) kk) Q :=
  h.trans (wp_assume 𝒱 (c : Thread nD τ) bd Set.univ hP)

theorem step_ret {R : sProp 𝕄} {α : Type} {x : α} {Q : α → sProp 𝕄} (h : R ⊢ Q x) :
    R ⊢ wp frame (wpE defs 𝒱 (c : Thread nD τ) bd) Set.univ (.ret x) Q := h.trans (by rw [wp_ret]; exact fupd_intro)

theorem swap2 {A B R G : sProp 𝕄} (h : iprop(B ∗ A ∗ R) ⊢ G) : iprop(A ∗ B ∗ R) ⊢ G := by
  iintro ⟨HA, HB, HR⟩
  iapply h
  isplitl [HB]; · iexact HB
  isplitl [HA]; · iexact HA
  iexact HR

variable (C : Codes (F := F)) (q : PosShare TreeShare)

theorem step_issue (k : Fin 5) (s : Fin 6) (b : Fin 12) (ch : Fin 8) {len cw bw sw : BitVec 32}
    (hs : sw = BitVec.ofNat 32 s.val) (hb : bw = BitVec.ofNat 32 b.val) (hc : cw = BitVec.ofNat 32 ch.val) {s2 : Shape}
    {hq : (⟨3, ![1, sz k, 5120]⟩ : Shape).Squeezes s2} (hs2 : s2 = ⟨2, ![sz k, 5120]⟩) {off off' : Fin 3 → ℕ} {offs : Fin 1 → ℕ}
    (hoff : off = ![sw.toNat, (posw len cw k).toNat, 0]) (hoff' : off' = ![bw.toNat, (addw len cw k).toNat, 0]) (hoffs : offs = ![sw.toNat])
    {d : Decidable (Guard len cw k)}
    {inb : Guard len cw k → _} {inb' : Guard len cw k → _} {inbs : Guard len cw k → _}
    {hsrc : ∀ h : Guard len cw k, (cslice (sz k) s2 hq off' (inb' h)).view.WordExact} {hdst : ∀ h : Guard len cw k, (rslice (sz k) s2 hq off (inb h)).view.WordExact}
    {hsem : ∀ h : Guard len cw k, DmaTarget.Typed (nD := nD) .hbm (.dma (((cc0_scratch4 : DmaSems sig S6).slice (Rect.unit (s := S6) offs S1.size (inbs h))).squeeze S_ squeezes_S1_S_).sem)
      (DmaTarget.here (nD := nD) (p := (Proc.tc : Proc τ)) (rslice (sz k) s2 hq off (inb h)))}
    {α : Type} {Q : α → sProp 𝕄} {jp : Prog (TpuEff nD τ sig (Elt F) Λ .tc) α} {R : sProp 𝕄}
    (h : iprop(Issuing c C q s b ch (tu len cw) (k.val + 1) ∗ R) ⊢ wp frame (wpE defs 𝒱 (c : Thread nD τ) bd) Set.univ jp Q) :
    iprop(Issuing c C q s b ch (tu len cw) k ∗ R) ⊢ wp frame (wpE defs 𝒱 (c : Thread nD τ) bd) Set.univ
          (@dite _ (Guard len cw k) d (fun h => .op (.enqueueDmaAs (cslice (sz k) s2 hq off' (inb' h)) (.here (rslice (sz k) s2 hq off (inb h))) .same
            (.dma (((cc0_scratch4 : DmaSems sig S6).slice (Rect.unit (s := S6) offs S1.size (inbs h))).squeeze S_ squeezes_S1_S_).sem) (hsrc h) (hdst h) (hsem h)) (fun _ => jp))
            (fun _ => jp)) Q := by
  iintro ⟨H, HR⟩
  iapply (wp_issue_guard c C q k s b ch hs hb hc hs2 hoff hoff' hoffs) $$ H
  iintro H
  iapply h
  isplitl [H]; · iexact H
  iexact HR

theorem step_await (k : Fin 5) (s : Fin 6) (b : Fin 12) (ch : Fin 8) {len cw sw : BitVec 32}
    (hs : sw = BitVec.ofNat 32 s.val) {s2 : Shape}
    {hq : (⟨3, ![1, sz k, 5120]⟩ : Shape).Squeezes s2} (hs2 : s2 = ⟨2, ![sz k, 5120]⟩) {off : Fin 3 → ℕ} {offs : Fin 1 → ℕ}
    (hoffs : offs = ![sw.toNat])
    {d : Decidable (Guard len cw k)}
    {inb : Guard len cw k → _} {inbs : Guard len cw k → _} {sp' : Space} {s' : Shape} {e' : EltTy} {srcw : Guard len cw k → Memref sig .tc sp' s' e'}
    {hsrc : ∀ h : Guard len cw k, (srcw h).view.WordExact} {hdst : ∀ h : Guard len cw k, (rslice (sz k) s2 hq off (inb h)).view.WordExact}
    {α : Type} {Q : α → sProp 𝕄} {jp : Prog (TpuEff nD τ sig (Elt F) Λ .tc) α} {R : sProp 𝕄}
    (h : iprop((Waiting c C q s b ch (tu len cw) (k.val + 1) ∗ ∃ W, owes (c : Thread nD τ) 0 W) ∗ R) ⊢ wp frame (wpE defs 𝒱 (c : Thread nD τ) bd) Set.univ jp Q) :
    iprop((Waiting c C q s b ch (tu len cw) k ∗ ∃ W, owes (c : Thread nD τ) 0 W) ∗ R) ⊢ wp frame (wpE defs 𝒱 (c : Thread nD τ) bd) Set.univ
          (@dite _ (Guard len cw k) d (fun h => .op (.waitDma2 (((cc0_scratch4 : DmaSems sig S6).slice (Rect.unit (s := S6) offs S1.size (inbs h))).squeeze S_ squeezes_S1_S_).sem
            (srcw h) (rslice (sz k) s2 hq off (inb h)) (hsrc h) (hdst h)) (fun _ => jp))
            (fun _ => jp)) Q := by
  iintro ⟨H, HR⟩
  iapply (wp_await_guard c C q k s b ch hs hs2 hoffs) $$ H
  iintro H
  iapply h
  isplitl [H]; · iexact H
  iexact HR

/-- The words of the next job's sequence and chunk, as the kernel computes them from the present ones. -/
abbrev stepB (bw cw len : BitVec 32) : BitVec 32 := Scalar.select (Scalar.cmpi .sge (Scalar.muli (Scalar.addi cw 1#32) 512#32) len) (Scalar.addi bw 1#32) bw
abbrev stepC (bw cw len : BitVec 32) : BitVec 32 := Scalar.select (Scalar.cmpi .sge (Scalar.muli (Scalar.addi cw 1#32) 512#32) len) 0#32 (Scalar.addi cw 1#32)

end Cert.KernelIdeal.Own
-- ==== Proof.Jobs.lean ====
/-
  The jobs of a launch: sequence by sequence, chunk by chunk, and the words by which the kernel counts them.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Steps

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- A quarter of a slot's columns. -/
theorem q_bound {sw : BitVec 32} {s : Fin 6} (hs : sw = BitVec.ofNat 32 s.val) (g : Fin 4) :
    ∀ a, (![sw.toNat, 0, g.val * 1280] : Fin 3 → ℕ) a + S1x512x1280.size a ≤ S6x512x5120.size a := by
  rw [hs, toNat_small (by have := s.isLt; omega)]
  intro a
  match a with
  | ⟨0, _⟩ => show s.val + 1 ≤ 6; omega
  | ⟨1, _⟩ => show 0 + 512 ≤ 512; omega
  | ⟨2, _⟩ => show g.val * 1280 + 1280 ≤ 5120; omega

variable (L : S12.Idx → Elt F .i32)

/-- The number of chunks of sequence `b`. -/
def NL (b : ℕ) : ℕ := nch (at12 L ⟨min b 11, by omega⟩)
/-- The number of jobs. -/
def nJ : ℕ := pre (NL L) 12
/-- The sequence of job `j`, and its chunk. -/
def jB (j : ℕ) : Fin 12 := ⟨min (cur (NL L) j).1 11, by omega⟩
def jC (j : ℕ) : Fin 8 := ⟨(cur (NL L) j).2 % 8, by omega⟩
def wB (j : ℕ) : BitVec 32 := BitVec.ofNat 32 (cur (NL L) j).1
def wC (j : ℕ) : BitVec 32 := BitVec.ofNat 32 (cur (NL L) j).2

variable {L}

theorem NL_bounds (hL : ∀ b, LenOK (at12 L b)) : ∀ b, 1 ≤ NL L b ∧ NL L b ≤ 8 := fun b => ⟨(nch_spec (hL _)).2.1, (nch_spec (hL _)).2.2.1⟩
theorem nJ_bounds (hL : ∀ b, LenOK (at12 L b)) : 12 ≤ nJ L ∧ nJ L ≤ 96 := pre_bounds (NL_bounds hL)

theorem wB_eq (hL : ∀ b, LenOK (at12 L b)) {j : ℕ} (hj : j < nJ L) : wB L j = BitVec.ofNat 32 (jB L j).val := by
  have h := cur_lt (NL_bounds hL) hj
  unfold wB jB
  congr 1
  show _ = min _ 11
  omega
theorem wC_eq (hL : ∀ b, LenOK (at12 L b)) (j : ℕ) : wC L j = BitVec.ofNat 32 (jC L j).val := by
  have h := cur_two (NL_bounds hL) j
  unfold wC jC
  congr 1
  show _ = _ % 8
  omega

theorem step_words (hL : ∀ b, LenOK (at12 L b)) (j : ℕ) :
    stepB (wB L j) (wC L j) (at12 L (jB L j)) = wB L (j + 1) ∧ stepC (wB L j) (wC L j) (at12 L (jB L j)) = wC L (j + 1) := by
  have e : ∀ x, NL L (min x 11) = nch (at12 L ⟨min x 11, by omega⟩) := fun x => by
    unfold NL
    congr 2
    exact Fin.ext (by show min (min _ 11) 11 = min _ 11; omega)
  exact next_word (hL _) (e _) (cur_two (NL_bounds hL) j)

theorem min_word_dec : ∀ b : Fin 104, Scalar.minsi (BitVec.ofNat 32 b.val) 11#32 = BitVec.ofNat 32 (min b.val 11) := by decide +kernel

/-- The sequence whose length moves the cursor on, clamped to the last. -/
theorem min_word (hL : ∀ b, LenOK (at12 L b)) {j : ℕ} (hj : j < 104) : ![(Scalar.minsi (wB L j) 11#32).toNat] = ![(jB L j).val] := by
  have h := (cur_spec (NL_bounds hL) j).2.2
  unfold wB jB
  rw [min_word_dec ⟨(cur (NL L) j).1, by omega⟩, BitVec.toNat_ofNat, Nat.mod_eq_of_lt (by show min _ 11 < _; omega)]

/-- The kernel's count of the jobs. -/
def njw (ls : Fin 12 → BitVec 32) : BitVec 32 := (Scalar.addi (Scalar.addi (Scalar.addi (Scalar.addi (Scalar.addi (Scalar.addi (Scalar.addi (Scalar.addi (Scalar.addi (Scalar.addi (Scalar.addi (Scalar.addi 0#32 (nchw (ls 0))) (nchw (ls 1))) (nchw (ls 2))) (nchw (ls 3))) (nchw (ls 4))) (nchw (ls 5))) (nchw (ls 6))) (nchw (ls 7))) (nchw (ls 8))) (nchw (ls 9))) (nchw (ls 10))) (nchw (ls 11)))

theorem njw_eq (hL : ∀ b, LenOK (at12 L b)) : njw (at12 L) = BitVec.ofNat 32 (nJ L) := by
  have e : ∀ b : Fin 12, nchw (at12 L b) = BitVec.ofNat 32 (NL L b.val) := fun b => by
    rw [(nch_spec (hL b)).1]
    unfold NL
    congr 3
    exact Fin.ext (by show b.val = min b.val 11; omega)
  have a : ∀ x y : ℕ, Scalar.addi (BitVec.ofNat 32 x) (BitVec.ofNat 32 y) = BitVec.ofNat 32 (x + y) := fun x y => (BitVec.ofNat_add (n := 32) x y).symm
  unfold njw nJ pre
  simp only [Finset.sum_range_succ, Finset.sum_range_zero]
  rw [show (0#32 : BitVec 32) = BitVec.ofNat 32 0 from rfl]
  rw [e 0, e 1, e 2, e 3, e 4, e 5, e 6, e 7, e 8, e 9, e 10, e 11]
  repeat rw [a]
  rfl

def loopEnd (n : BitVec 32) : BitVec 32 := Scalar.addi 0#32 (Scalar.muli (Scalar.divsi (Scalar.subi n 0#32) 1#32) 1#32)
def loopEnd2 (n : BitVec 32) : BitVec 32 := Scalar.addi 0#32 (Scalar.subi n 0#32)
theorem loopEnd_dec : ∀ n : Fin 97, loopEnd (BitVec.ofNat 32 n.val) = BitVec.ofNat 32 n.val := by decide +kernel
theorem loopEnd2_dec : ∀ n : Fin 97, loopEnd2 (BitVec.ofNat 32 n.val) = BitVec.ofNat 32 n.val := by decide +kernel
theorem trips_dec : ∀ n : Fin 97, Scf.trips 0#32 (BitVec.ofNat 32 n.val) 1#32 = n.val ∧ Scf.OK 0#32 (BitVec.ofNat 32 n.val) 1#32 := by decide +kernel
theorem trips2_dec : ∀ n : Fin 97, Scf.trips (BitVec.ofNat 32 n.val) (BitVec.ofNat 32 n.val) 1#32 = 0 ∧ Scf.OK (BitVec.ofNat 32 n.val) (BitVec.ofNat 32 n.val) 1#32 := by decide +kernel

theorem loop1_eq (hL : ∀ b, LenOK (at12 L b)) : k0_t1_loop (at12 L 0) (at12 L 1) (at12 L 2) (at12 L 3) (at12 L 4) (at12 L 5) (at12 L 6) (at12 L 7) (at12 L 8) (at12 L 9) (at12 L 10) (at12 L 11) = ⟨0#32, BitVec.ofNat 32 (nJ L), 1#32⟩ := by
  have h := nJ_bounds hL
  show Scf.Loop.mk 0#32 (loopEnd (njw (at12 L))) 1#32 = _
  rw [njw_eq hL, loopEnd_dec ⟨nJ L, by omega⟩]
theorem loop2_eq (hL : ∀ b, LenOK (at12 L b)) : k0_t2_loop (at12 L 0) (at12 L 1) (at12 L 2) (at12 L 3) (at12 L 4) (at12 L 5) (at12 L 6) (at12 L 7) (at12 L 8) (at12 L 9) (at12 L 10) (at12 L 11) = ⟨BitVec.ofNat 32 (nJ L), BitVec.ofNat 32 (nJ L), 1#32⟩ := by
  have h := nJ_bounds hL
  show Scf.Loop.mk (loopEnd (njw (at12 L))) (loopEnd2 (njw (at12 L))) 1#32 = _
  rw [njw_eq hL, loopEnd_dec ⟨nJ L, by omega⟩, loopEnd2_dec ⟨nJ L, by omega⟩]
theorem trips1 (hL : ∀ b, LenOK (at12 L b)) : (k0_t1_loop (at12 L 0) (at12 L 1) (at12 L 2) (at12 L 3) (at12 L 4) (at12 L 5) (at12 L 6) (at12 L 7) (at12 L 8) (at12 L 9) (at12 L 10) (at12 L 11)).trips = nJ L := by
  have h := nJ_bounds hL
  rw [loop1_eq hL]; exact (trips_dec ⟨nJ L, by omega⟩).1
theorem trips2 (hL : ∀ b, LenOK (at12 L b)) : (k0_t2_loop (at12 L 0) (at12 L 1) (at12 L 2) (at12 L 3) (at12 L 4) (at12 L 5) (at12 L 6) (at12 L 7) (at12 L 8) (at12 L 9) (at12 L 10) (at12 L 11)).trips = 0 := by
  have h := nJ_bounds hL
  rw [loop2_eq hL]; exact (trips2_dec ⟨nJ L, by omega⟩).1

/-- The slot a job's copies go to, and the slot of the job five ahead. -/
def sl (j : ℕ) : Fin 6 := ⟨j % 6, by omega⟩
theorem sl_dec : ∀ j : Fin 97, Scalar.remsi (Scf.iv 0#32 1#32 j) 6#32 = BitVec.ofNat 32 (j.val % 6)
    ∧ Scalar.remsi (Scalar.addi (Scf.iv 0#32 1#32 j) 5#32) 6#32 = BitVec.ofNat 32 ((j.val + 5) % 6) := by decide +kernel
def more (n : BitVec 32) (x : BitVec 32) : BitVec 1 := Scalar.cmpi .ne (Scalar.extui (Scalar.cmpi .slt x n)) 0#32
theorem more_dec : ∀ n : Fin 97, ∀ j : Fin 97, more (BitVec.ofNat 32 n.val) (Scalar.addi (Scf.iv 0#32 1#32 j) 5#32) = 1#1 ↔ j.val + 5 < n.val := by decide +kernel

theorem slot_word (hL : ∀ b, LenOK (at12 L b)) (t : Fin (k0_t1_loop (at12 L 0) (at12 L 1) (at12 L 2) (at12 L 3) (at12 L 4) (at12 L 5) (at12 L 6) (at12 L 7) (at12 L 8) (at12 L 9) (at12 L 10) (at12 L 11)).trips) : Scalar.remsi (Scf.iv 0#32 1#32 t) 6#32 = BitVec.ofNat 32 (sl t.val).val := by
  have h := nJ_bounds hL; have := trips1 hL; have := t.isLt
  exact (sl_dec ⟨t.val, by omega⟩).1
theorem slot_word' (hL : ∀ b, LenOK (at12 L b)) (t : Fin (k0_t1_loop (at12 L 0) (at12 L 1) (at12 L 2) (at12 L 3) (at12 L 4) (at12 L 5) (at12 L 6) (at12 L 7) (at12 L 8) (at12 L 9) (at12 L 10) (at12 L 11)).trips) :
    Scalar.remsi (Scalar.addi (Scf.iv 0#32 1#32 t) 5#32) 6#32 = BitVec.ofNat 32 (sl (t.val + 5)).val := by
  have h := nJ_bounds hL; have := trips1 hL; have := t.isLt
  exact (sl_dec ⟨t.val, by omega⟩).2
theorem more_iff (hL : ∀ b, LenOK (at12 L b)) (t : Fin (k0_t1_loop (at12 L 0) (at12 L 1) (at12 L 2) (at12 L 3) (at12 L 4) (at12 L 5) (at12 L 6) (at12 L 7) (at12 L 8) (at12 L 9) (at12 L 10) (at12 L 11)).trips) : k0_cond31 (at12 L 0) (at12 L 1) (at12 L 2) (at12 L 3) (at12 L 4) (at12 L 5) (at12 L 6) (at12 L 7) (at12 L 8) (at12 L 9) (at12 L 10) (at12 L 11) t = 1#1 ↔ t.val + 5 < nJ L := by
  have h := nJ_bounds hL; have := trips1 hL; have := t.isLt
  show more (njw (at12 L)) (Scalar.addi (Scf.iv 0#32 1#32 t) 5#32) = 1#1 ↔ _
  rw [njw_eq hL]
  exact more_dec ⟨nJ L, by omega⟩ ⟨t.val, by omega⟩

theorem chk10_ok (hL : ∀ b, LenOK (at12 L b)) : k0_chk10 (at12 L 0) (at12 L 1) (at12 L 2) (at12 L 3) (at12 L 4) (at12 L 5) (at12 L 6) (at12 L 7) (at12 L 8) (at12 L 9) (at12 L 10) (at12 L 11) := by
  have h := nJ_bounds hL
  have no : Fin (k0_t2_loop (at12 L 0) (at12 L 1) (at12 L 2) (at12 L 3) (at12 L 4) (at12 L 5) (at12 L 6) (at12 L 7) (at12 L 8) (at12 L 9) (at12 L 10) (at12 L 11)).trips → False := fun t => Nat.not_lt_zero _ (lt_of_lt_of_eq t.isLt (trips2 hL))
  have s1 := fun t => sring_bound (slot_word hL t)
  have s2 := fun t => sring_bound (slot_word' hL t)
  have c1 := fun t => cell_bound (slot_word hL t)
  have c2 := fun t => cell_bound (slot_word' hL t)
  have q1 := fun t => q_bound (slot_word hL t)
  refine ⟨?_, ?_, ?_, ?_, ?_, ?_, ?_, ?_, ?_, ?_, ?_, ?_, ?_, ?_, ?_, ?_, ?_, ?_, ?_, ?_⟩
  · rw [loop1_eq hL]; exact (trips_dec ⟨nJ L, by omega⟩).2
  · intro t _; exact c2 t
  · intro t _; exact s2 t
  · intro t; exact c1 t
  · intro t; exact s1 t
  · intro t; exact s1 t
  · intro t; exact q1 t 0
  · intro t; exact q1 t 1
  · intro t; exact q1 t 2
  · intro t; exact q1 t 3
  · rw [loop2_eq hL]; exact (trips2_dec ⟨nJ L, by omega⟩).2
  all_goals (intro t; exact (no t).elim)

end Cert.KernelIdeal.Own
-- ==== Proof.Issue.lean ====
/-
  The copies of a chunk and of its scales into a slot, as the body's parts print them: the sequence's length is read
  off its scalar buffer, the side conditions hold, and five guarded copies follow.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Steps

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxHeartbeats 2000000 in
theorem chk12_ok (ls : Fin 12 → BitVec 32) (t : Fin (k0_t1_loop (ls 0) (ls 1) (ls 2) (ls 3) (ls 4) (ls 5) (ls 6) (ls 7) (ls 8) (ls 9) (ls 10) (ls 11)).trips) {bw cw len : BitVec 32} {b : Fin 12} {ch : Fin 8} {s : Fin 6}
    (hs : Scalar.remsi (Scalar.addi (Scf.iv 0#32 1#32 t) 5#32) 6#32 = BitVec.ofNat 32 s.val) (hb : bw = BitVec.ofNat 32 b.val) (hc : cw = BitVec.ofNat 32 ch.val) :
    k0_chk12 (ls 0) (ls 1) (ls 2) (ls 3) (ls 4) (ls 5) (ls 6) (ls 7) (ls 8) (ls 9) (ls 10) (ls 11) t bw cw len :=
  ⟨⟨fun _ h => posw_dvd len cw 0,
    fun _ h => addw_dvd len hc 0,
    fun _ h => cell_bound hs,
    fun _ h => ring_bound (k := 0) hs h,
    fun _ h => codes_bound (k := 0) hb hc h,
    fun _ h i => codes_words (k := 0) (bw := bw) (len := len) hc i,
    fun _ h i => ring_words (k := 0) (len := len) (cw := cw) (sw := _) i,
    fun _ h => posw_dvd len cw 1,
    fun _ h => addw_dvd len hc 1,
    fun _ h => cell_bound hs,
    fun _ h => ring_bound (k := 1) hs h,
    fun _ h => codes_bound (k := 1) hb hc h,
    fun _ h i => codes_words (k := 1) (bw := bw) (len := len) hc i,
    fun _ h i => ring_words (k := 1) (len := len) (cw := cw) (sw := _) i,
    fun _ h => posw_dvd len cw 2,
    fun _ h => addw_dvd len hc 2,
    fun _ h => cell_bound hs,
    fun _ h => ring_bound (k := 2) hs h,
    fun _ h => codes_bound (k := 2) hb hc h,
    fun _ h i => codes_words (k := 2) (bw := bw) (len := len) hc i,
    fun _ h i => ring_words (k := 2) (len := len) (cw := cw) (sw := _) i,
    fun _ h => posw_dvd len cw 3,
    fun _ h => addw_dvd len hc 3,
    fun _ h => cell_bound hs,
    fun _ h => ring_bound (k := 3) hs h,
    fun _ h => codes_bound (k := 3) hb hc h,
    fun _ h i => codes_words (k := 3) (bw := bw) (len := len) hc i,
    fun _ h i => ring_words (k := 3) (len := len) (cw := cw) (sw := _) i,
    fun _ h => posw_dvd len cw 4,
    fun _ h => addw_dvd len hc 4,
    fun _ h => cell_bound hs,
    fun _ h => ring_bound (k := 4) hs h⟩,
    ⟨fun _ h => codes_bound (k := 4) hb hc h,
    fun _ h i => codes_words (k := 4) (bw := bw) (len := len) hc i,
    fun _ h i => ring_words (k := 4) (len := len) (cw := cw) (sw := _) i⟩⟩

variable (c : Dev nD) (C : Codes (F := F)) (q : PosShare TreeShare)

/-- The five guarded copies of a chunk, inside the loop. -/
theorem part6_spec {defs : Defs nD τ sig (Elt F) Λ₀} {𝒱 : Variants} {bd : Option 𝒱.V}  (arg2 : Memref sig .tc .vmem S40x128 .fp8e4m3) (harg2 : arg2.IsWhole)   (arg3 : Memref sig .tc .smem S1 .f32) (harg3 : arg3.IsWhole)   (arg4 : Memref sig .tc .smem S1 .f32) (harg4 : arg4.IsWhole)   (arg5 : Memref sig .tc .vmem S12x4096 .bf16) (harg5 : arg5.IsWhole)   (arg6 : Memref sig .tc .vmem S12x4096 .bf16) (harg6 : arg6.IsWhole)   (arg7 : Memref sig .tc .smem S12 .f32) (harg7 : arg7.IsWhole)   (arg8 : Memref sig .tc .smem S12 .i32) (harg8 : arg8.IsWhole)   (arg9 : Memref sig .tc .vmem S12x4096 .f32) (harg9 : arg9.IsWhole)   (arg10 : Memref sig .tc .vmem S12x4096 .f32) (harg10 : arg10.IsWhole)   (arg11 : Memref sig .tc .vmem S12x4096 .f32) (harg11 : arg11.IsWhole) (ls : Fin 12 → BitVec 32) (hw10) (t : Fin (k0_t1_loop (ls 0) (ls 1) (ls 2) (ls 3) (ls 4) (ls 5) (ls 6) (ls 7) (ls 8) (ls 9) (ls 10) (ls 11)).trips) {bw cw : BitVec 32} (hw11) (v4675 : BitVec 32) (h31) {b : Fin 12} {ch : Fin 8} {s : Fin 6} {qL : PosShare TreeShare}
    {L : S12.Idx → Elt F .i32}
    (hs : Scalar.remsi (Scalar.addi (Scf.iv 0#32 1#32 t) 5#32) 6#32 = BitVec.ofNat 32 s.val) (hb : bw = BitVec.ofNat 32 b.val) (hc : cw = BitVec.ofNat 32 ch.val)
    {Q : PUnit → sProp 𝕄} {R : sProp 𝕄}
    (hQ : iprop(Issuing c C q s b ch (tu (at12 L b) cw) 5 ∗ owns (c : Thread nD τ) arg8 qL L ∗ R) ⊢ Q ⟨⟩) :
    iprop(owns (c : Thread nD τ) arg8 qL L ∗ Issuing c C q s b ch (tu (at12 L b) cw) 0 ∗ R)
      ⊢ wp frame (wpE defs 𝒱 (c : Thread nD τ) bd) Set.univ
            (k0_part6 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (ls 0) (ls 1) (ls 2) (ls 3) (ls 4) (ls 5) (ls 6) (ls 7) (ls 8) (ls 9) (ls 10) (ls 11) hw10 t bw cw hw11 v4675 h31) Q := by
  have hoff : k0_off100 bw = ![b.val] := by
    show ![bw.toNat] = _
    rw [hb, toNat_small (by have := b.isLt; omega)]
  unfold k0_part6
  refine step_entry c b hoff ?_
  refine step_assume c (chk12_ok ls t hs hb hc) ?_
  refine swap2 ?_
  refine step_issue c C q 0 s b ch hs hb hc rfl rfl rfl rfl ?_
  refine step_issue c C q 1 s b ch hs hb hc rfl rfl rfl rfl ?_
  refine step_issue c C q 2 s b ch hs hb hc rfl rfl rfl rfl ?_
  refine step_issue c C q 3 s b ch hs hb hc rfl rfl rfl rfl ?_
  refine step_issue c C q 4 s b ch hs hb hc rfl rfl rfl rfl ?_
  exact step_ret c hQ

set_option maxHeartbeats 2000000 in
theorem chk1_ok (ls : Fin 12 → BitVec 32) (len : BitVec 32) {b : Fin 12} {ch : Fin 8} (hb : 0#32 = BitVec.ofNat 32 b.val) (hc : 0#32 = BitVec.ofNat 32 ch.val) : k0_chk1 (ls 0) (ls 1) (ls 2) (ls 3) (ls 4) (ls 5) (ls 6) (ls 7) (ls 8) (ls 9) (ls 10) (ls 11)  len :=
  have hs : (Scalar.remsi 0#32 6#32) = BitVec.ofNat 32 (0 : Fin 6).val := rfl
  ⟨fun _ h => posw_dvd len 0#32 0,
    fun _ h => addw_dvd len hc 0,
    fun _ h => ring_bound (k := 0) hs h,
    fun _ h => codes_bound (k := 0) hb hc h,
    fun _ h i => codes_words (k := 0) (bw := 0#32) (len := len) hc i,
    fun _ h i => ring_words (k := 0) (len := len) (cw := 0#32) (sw := (Scalar.remsi 0#32 6#32)) i,
    fun _ h => posw_dvd len 0#32 1,
    fun _ h => addw_dvd len hc 1,
    fun _ h => ring_bound (k := 1) hs h,
    fun _ h => codes_bound (k := 1) hb hc h,
    fun _ h i => codes_words (k := 1) (bw := 0#32) (len := len) hc i,
    fun _ h i => ring_words (k := 1) (len := len) (cw := 0#32) (sw := (Scalar.remsi 0#32 6#32)) i,
    fun _ h => posw_dvd len 0#32 2,
    fun _ h => addw_dvd len hc 2,
    fun _ h => ring_bound (k := 2) hs h,
    fun _ h => codes_bound (k := 2) hb hc h,
    fun _ h i => codes_words (k := 2) (bw := 0#32) (len := len) hc i,
    fun _ h i => ring_words (k := 2) (len := len) (cw := 0#32) (sw := (Scalar.remsi 0#32 6#32)) i,
    fun _ h => posw_dvd len 0#32 3,
    fun _ h => addw_dvd len hc 3,
    fun _ h => ring_bound (k := 3) hs h,
    fun _ h => codes_bound (k := 3) hb hc h,
    fun _ h i => codes_words (k := 3) (bw := 0#32) (len := len) hc i,
    fun _ h i => ring_words (k := 3) (len := len) (cw := 0#32) (sw := (Scalar.remsi 0#32 6#32)) i,
    fun _ h => posw_dvd len 0#32 4,
    fun _ h => addw_dvd len hc 4,
    fun _ h => ring_bound (k := 4) hs h,
    fun _ h => codes_bound (k := 4) hb hc h,
    fun _ h i => codes_words (k := 4) (bw := 0#32) (len := len) hc i,
    fun _ h i => ring_words (k := 4) (len := len) (cw := 0#32) (sw := (Scalar.remsi 0#32 6#32)) i⟩

/-- The five guarded copies of chunk number 0, before the loop. -/
theorem part1_spec {defs : Defs nD τ sig (Elt F) Λ₀} {𝒱 : Variants} {bd : Option 𝒱.V}  (arg2 : Memref sig .tc .vmem S40x128 .fp8e4m3) (harg2 : arg2.IsWhole)   (arg3 : Memref sig .tc .smem S1 .f32) (harg3 : arg3.IsWhole)   (arg4 : Memref sig .tc .smem S1 .f32) (harg4 : arg4.IsWhole)   (arg5 : Memref sig .tc .vmem S12x4096 .bf16) (harg5 : arg5.IsWhole)   (arg6 : Memref sig .tc .vmem S12x4096 .bf16) (harg6 : arg6.IsWhole)   (arg7 : Memref sig .tc .smem S12 .f32) (harg7 : arg7.IsWhole)   (arg8 : Memref sig .tc .smem S12 .i32) (harg8 : arg8.IsWhole)   (arg9 : Memref sig .tc .vmem S12x4096 .f32) (harg9 : arg9.IsWhole)   (arg10 : Memref sig .tc .vmem S12x4096 .f32) (harg10 : arg10.IsWhole)   (arg11 : Memref sig .tc .vmem S12x4096 .f32) (harg11 : arg11.IsWhole) (ls : Fin 12 → BitVec 32) (c0_i32_34) (c0_i32_35) (c0_i32_36) (k0_h1) {b : Fin 12} {ch : Fin 8} {qL : PosShare TreeShare}
    {L : S12.Idx → Elt F .i32} (hb : 0#32 = BitVec.ofNat 32 b.val) (hc : 0#32 = BitVec.ofNat 32 ch.val)
    {Q : PUnit → sProp 𝕄} {R : sProp 𝕄}
    (hQ : iprop(Issuing c C q 0 b ch (tu (at12 L b) 0#32) 5 ∗ owns (c : Thread nD τ) arg8 qL L ∗ R) ⊢ Q ⟨⟩) :
    iprop(owns (c : Thread nD τ) arg8 qL L ∗ Issuing c C q 0 b ch (tu (at12 L b) 0#32) 0 ∗ R)
      ⊢ wp frame (wpE defs 𝒱 (c : Thread nD τ) bd) Set.univ
            (k0_part1 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (ls 0) (ls 1) (ls 2) (ls 3) (ls 4) (ls 5) (ls 6) (ls 7) (ls 8) (ls 9) (ls 10) (ls 11) c0_i32_34 c0_i32_35 c0_i32_36 k0_h1) Q := by
  have hoff : ![0] = ![b.val] := by
    show ![BitVec.toNat 0#32] = _
    rw [hb, toNat_small (by have := b.isLt; omega)]
  have hs : (Scalar.remsi 0#32 6#32) = BitVec.ofNat 32 (0 : Fin 6).val := rfl
  unfold k0_part1
  refine step_entry c b hoff ?_
  refine step_assume c (chk1_ok ls  _ hb hc) ?_
  refine swap2 ?_
  refine step_issue c C q 0 0 b ch hs hb hc rfl rfl rfl rfl ?_
  refine step_issue c C q 1 0 b ch hs hb hc rfl rfl rfl rfl ?_
  refine step_issue c C q 2 0 b ch hs hb hc rfl rfl rfl rfl ?_
  refine step_issue c C q 3 0 b ch hs hb hc rfl rfl rfl rfl ?_
  refine step_issue c C q 4 0 b ch hs hb hc rfl rfl rfl rfl ?_
  exact step_ret c hQ

set_option maxHeartbeats 2000000 in
theorem chk3_ok (ls : Fin 12 → BitVec 32) (v67 : BitVec 32) (len : BitVec 32) {b : Fin 12} {ch : Fin 8} (hb : (stepB 0#32 0#32 v67) = BitVec.ofNat 32 b.val) (hc : (stepC 0#32 0#32 v67) = BitVec.ofNat 32 ch.val) : k0_chk3 (ls 0) (ls 1) (ls 2) (ls 3) (ls 4) (ls 5) (ls 6) (ls 7) (ls 8) (ls 9) (ls 10) (ls 11) v67 len :=
  have hs : (Scalar.remsi 1#32 6#32) = BitVec.ofNat 32 (1 : Fin 6).val := rfl
  ⟨fun _ h => posw_dvd len (stepC 0#32 0#32 v67) 0,
    fun _ h => addw_dvd len hc 0,
    fun _ h => ring_bound (k := 0) hs h,
    fun _ h => codes_bound (k := 0) hb hc h,
    fun _ h i => codes_words (k := 0) (bw := (stepB 0#32 0#32 v67)) (len := len) hc i,
    fun _ h i => ring_words (k := 0) (len := len) (cw := (stepC 0#32 0#32 v67)) (sw := (Scalar.remsi 1#32 6#32)) i,
    fun _ h => posw_dvd len (stepC 0#32 0#32 v67) 1,
    fun _ h => addw_dvd len hc 1,
    fun _ h => ring_bound (k := 1) hs h,
    fun _ h => codes_bound (k := 1) hb hc h,
    fun _ h i => codes_words (k := 1) (bw := (stepB 0#32 0#32 v67)) (len := len) hc i,
    fun _ h i => ring_words (k := 1) (len := len) (cw := (stepC 0#32 0#32 v67)) (sw := (Scalar.remsi 1#32 6#32)) i,
    fun _ h => posw_dvd len (stepC 0#32 0#32 v67) 2,
    fun _ h => addw_dvd len hc 2,
    fun _ h => ring_bound (k := 2) hs h,
    fun _ h => codes_bound (k := 2) hb hc h,
    fun _ h i => codes_words (k := 2) (bw := (stepB 0#32 0#32 v67)) (len := len) hc i,
    fun _ h i => ring_words (k := 2) (len := len) (cw := (stepC 0#32 0#32 v67)) (sw := (Scalar.remsi 1#32 6#32)) i,
    fun _ h => posw_dvd len (stepC 0#32 0#32 v67) 3,
    fun _ h => addw_dvd len hc 3,
    fun _ h => ring_bound (k := 3) hs h,
    fun _ h => codes_bound (k := 3) hb hc h,
    fun _ h i => codes_words (k := 3) (bw := (stepB 0#32 0#32 v67)) (len := len) hc i,
    fun _ h i => ring_words (k := 3) (len := len) (cw := (stepC 0#32 0#32 v67)) (sw := (Scalar.remsi 1#32 6#32)) i,
    fun _ h => posw_dvd len (stepC 0#32 0#32 v67) 4,
    fun _ h => addw_dvd len hc 4,
    fun _ h => ring_bound (k := 4) hs h,
    fun _ h => codes_bound (k := 4) hb hc h,
    fun _ h i => codes_words (k := 4) (bw := (stepB 0#32 0#32 v67)) (len := len) hc i,
    fun _ h i => ring_words (k := 4) (len := len) (cw := (stepC 0#32 0#32 v67)) (sw := (Scalar.remsi 1#32 6#32)) i⟩

/-- The five guarded copies of chunk number 1, before the loop. -/
theorem part2_spec {defs : Defs nD τ sig (Elt F) Λ₀} {𝒱 : Variants} {bd : Option 𝒱.V}  (arg2 : Memref sig .tc .vmem S40x128 .fp8e4m3) (harg2 : arg2.IsWhole)   (arg3 : Memref sig .tc .smem S1 .f32) (harg3 : arg3.IsWhole)   (arg4 : Memref sig .tc .smem S1 .f32) (harg4 : arg4.IsWhole)   (arg5 : Memref sig .tc .vmem S12x4096 .bf16) (harg5 : arg5.IsWhole)   (arg6 : Memref sig .tc .vmem S12x4096 .bf16) (harg6 : arg6.IsWhole)   (arg7 : Memref sig .tc .smem S12 .f32) (harg7 : arg7.IsWhole)   (arg8 : Memref sig .tc .smem S12 .i32) (harg8 : arg8.IsWhole)   (arg9 : Memref sig .tc .vmem S12x4096 .f32) (harg9 : arg9.IsWhole)   (arg10 : Memref sig .tc .vmem S12x4096 .f32) (harg10 : arg10.IsWhole)   (arg11 : Memref sig .tc .vmem S12x4096 .f32) (harg11 : arg11.IsWhole) (ls : Fin 12 → BitVec 32) (v67 : BitVec 32) (k0_hw2) (v70) (v72) (c1_i32_48) (k0_h7) {b : Fin 12} {ch : Fin 8} {qL : PosShare TreeShare}
    {L : S12.Idx → Elt F .i32} (hb : (stepB 0#32 0#32 v67) = BitVec.ofNat 32 b.val) (hc : (stepC 0#32 0#32 v67) = BitVec.ofNat 32 ch.val)
    {Q : PUnit → sProp 𝕄} {R : sProp 𝕄}
    (hQ : iprop(Issuing c C q 1 b ch (tu (at12 L b) (stepC 0#32 0#32 v67)) 5 ∗ owns (c : Thread nD τ) arg8 qL L ∗ R) ⊢ Q ⟨⟩) :
    iprop(owns (c : Thread nD τ) arg8 qL L ∗ Issuing c C q 1 b ch (tu (at12 L b) (stepC 0#32 0#32 v67)) 0 ∗ R)
      ⊢ wp frame (wpE defs 𝒱 (c : Thread nD τ) bd) Set.univ
            (k0_part2 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (ls 0) (ls 1) (ls 2) (ls 3) (ls 4) (ls 5) (ls 6) (ls 7) (ls 8) (ls 9) (ls 10) (ls 11) v67 k0_hw2 v70 v72 c1_i32_48 k0_h7) Q := by
  have hoff : (k0_off20 v67) = ![b.val] := by
    dsimp only [k0_off20, Scalar.indexCast]; have hb1 := hb; dsimp only [stepB, stepC] at hb1
    rw [hb1, toNat_small (by have := b.isLt; omega)]
  have hs : (Scalar.remsi 1#32 6#32) = BitVec.ofNat 32 (1 : Fin 6).val := rfl
  unfold k0_part2
  refine step_entry c b hoff ?_
  refine step_assume c (chk3_ok ls v67 _ hb hc) ?_
  refine swap2 ?_
  refine step_issue c C q 0 1 b ch hs hb hc rfl rfl rfl rfl ?_
  refine step_issue c C q 1 1 b ch hs hb hc rfl rfl rfl rfl ?_
  refine step_issue c C q 2 1 b ch hs hb hc rfl rfl rfl rfl ?_
  refine step_issue c C q 3 1 b ch hs hb hc rfl rfl rfl rfl ?_
  refine step_issue c C q 4 1 b ch hs hb hc rfl rfl rfl rfl ?_
  exact step_ret c hQ

set_option maxHeartbeats 2000000 in
theorem chk5_ok (ls : Fin 12 → BitVec 32) (v67 v80 : BitVec 32) (len : BitVec 32) {b : Fin 12} {ch : Fin 8} (hb : (stepB (stepB 0#32 0#32 v67) (stepC 0#32 0#32 v67) v80) = BitVec.ofNat 32 b.val) (hc : (stepC (stepB 0#32 0#32 v67) (stepC 0#32 0#32 v67) v80) = BitVec.ofNat 32 ch.val) : k0_chk5 (ls 0) (ls 1) (ls 2) (ls 3) (ls 4) (ls 5) (ls 6) (ls 7) (ls 8) (ls 9) (ls 10) (ls 11) v67 v80 len :=
  have hs : (Scalar.remsi 2#32 6#32) = BitVec.ofNat 32 (2 : Fin 6).val := rfl
  ⟨fun _ h => posw_dvd len (stepC (stepB 0#32 0#32 v67) (stepC 0#32 0#32 v67) v80) 0,
    fun _ h => addw_dvd len hc 0,
    fun _ h => ring_bound (k := 0) hs h,
    fun _ h => codes_bound (k := 0) hb hc h,
    fun _ h i => codes_words (k := 0) (bw := (stepB (stepB 0#32 0#32 v67) (stepC 0#32 0#32 v67) v80)) (len := len) hc i,
    fun _ h i => ring_words (k := 0) (len := len) (cw := (stepC (stepB 0#32 0#32 v67) (stepC 0#32 0#32 v67) v80)) (sw := (Scalar.remsi 2#32 6#32)) i,
    fun _ h => posw_dvd len (stepC (stepB 0#32 0#32 v67) (stepC 0#32 0#32 v67) v80) 1,
    fun _ h => addw_dvd len hc 1,
    fun _ h => ring_bound (k := 1) hs h,
    fun _ h => codes_bound (k := 1) hb hc h,
    fun _ h i => codes_words (k := 1) (bw := (stepB (stepB 0#32 0#32 v67) (stepC 0#32 0#32 v67) v80)) (len := len) hc i,
    fun _ h i => ring_words (k := 1) (len := len) (cw := (stepC (stepB 0#32 0#32 v67) (stepC 0#32 0#32 v67) v80)) (sw := (Scalar.remsi 2#32 6#32)) i,
    fun _ h => posw_dvd len (stepC (stepB 0#32 0#32 v67) (stepC 0#32 0#32 v67) v80) 2,
    fun _ h => addw_dvd len hc 2,
    fun _ h => ring_bound (k := 2) hs h,
    fun _ h => codes_bound (k := 2) hb hc h,
    fun _ h i => codes_words (k := 2) (bw := (stepB (stepB 0#32 0#32 v67) (stepC 0#32 0#32 v67) v80)) (len := len) hc i,
    fun _ h i => ring_words (k := 2) (len := len) (cw := (stepC (stepB 0#32 0#32 v67) (stepC 0#32 0#32 v67) v80)) (sw := (Scalar.remsi 2#32 6#32)) i,
    fun _ h => posw_dvd len (stepC (stepB 0#32 0#32 v67) (stepC 0#32 0#32 v67) v80) 3,
    fun _ h => addw_dvd len hc 3,
    fun _ h => ring_bound (k := 3) hs h,
    fun _ h => codes_bound (k := 3) hb hc h,
    fun _ h i => codes_words (k := 3) (bw := (stepB (stepB 0#32 0#32 v67) (stepC 0#32 0#32 v67) v80)) (len := len) hc i,
    fun _ h i => ring_words (k := 3) (len := len) (cw := (stepC (stepB 0#32 0#32 v67) (stepC 0#32 0#32 v67) v80)) (sw := (Scalar.remsi 2#32 6#32)) i,
    fun _ h => posw_dvd len (stepC (stepB 0#32 0#32 v67) (stepC 0#32 0#32 v67) v80) 4,
    fun _ h => addw_dvd len hc 4,
    fun _ h => ring_bound (k := 4) hs h,
    fun _ h => codes_bound (k := 4) hb hc h,
    fun _ h i => codes_words (k := 4) (bw := (stepB (stepB 0#32 0#32 v67) (stepC 0#32 0#32 v67) v80)) (len := len) hc i,
    fun _ h i => ring_words (k := 4) (len := len) (cw := (stepC (stepB 0#32 0#32 v67) (stepC 0#32 0#32 v67) v80)) (sw := (Scalar.remsi 2#32 6#32)) i⟩

/-- The five guarded copies of chunk number 2, before the loop. -/
theorem part3_spec {defs : Defs nD τ sig (Elt F) Λ₀} {𝒱 : Variants} {bd : Option 𝒱.V}  (arg2 : Memref sig .tc .vmem S40x128 .fp8e4m3) (harg2 : arg2.IsWhole)   (arg3 : Memref sig .tc .smem S1 .f32) (harg3 : arg3.IsWhole)   (arg4 : Memref sig .tc .smem S1 .f32) (harg4 : arg4.IsWhole)   (arg5 : Memref sig .tc .vmem S12x4096 .bf16) (harg5 : arg5.IsWhole)   (arg6 : Memref sig .tc .vmem S12x4096 .bf16) (harg6 : arg6.IsWhole)   (arg7 : Memref sig .tc .smem S12 .f32) (harg7 : arg7.IsWhole)   (arg8 : Memref sig .tc .smem S12 .i32) (harg8 : arg8.IsWhole)   (arg9 : Memref sig .tc .vmem S12x4096 .f32) (harg9 : arg9.IsWhole)   (arg10 : Memref sig .tc .vmem S12x4096 .f32) (harg10 : arg10.IsWhole)   (arg11 : Memref sig .tc .vmem S12x4096 .f32) (harg11 : arg11.IsWhole) (ls : Fin 12 → BitVec 32) (v67 v80 : BitVec 32) (k0_hw4) (v83) (v85) (c2_i32_56) (k0_h13) {b : Fin 12} {ch : Fin 8} {qL : PosShare TreeShare}
    {L : S12.Idx → Elt F .i32} (hb : (stepB (stepB 0#32 0#32 v67) (stepC 0#32 0#32 v67) v80) = BitVec.ofNat 32 b.val) (hc : (stepC (stepB 0#32 0#32 v67) (stepC 0#32 0#32 v67) v80) = BitVec.ofNat 32 ch.val)
    {Q : PUnit → sProp 𝕄} {R : sProp 𝕄}
    (hQ : iprop(Issuing c C q 2 b ch (tu (at12 L b) (stepC (stepB 0#32 0#32 v67) (stepC 0#32 0#32 v67) v80)) 5 ∗ owns (c : Thread nD τ) arg8 qL L ∗ R) ⊢ Q ⟨⟩) :
    iprop(owns (c : Thread nD τ) arg8 qL L ∗ Issuing c C q 2 b ch (tu (at12 L b) (stepC (stepB 0#32 0#32 v67) (stepC 0#32 0#32 v67) v80)) 0 ∗ R)
      ⊢ wp frame (wpE defs 𝒱 (c : Thread nD τ) bd) Set.univ
            (k0_part3 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (ls 0) (ls 1) (ls 2) (ls 3) (ls 4) (ls 5) (ls 6) (ls 7) (ls 8) (ls 9) (ls 10) (ls 11) v67 v80 k0_hw4 v83 v85 c2_i32_56 k0_h13) Q := by
  have hoff : (k0_off40 v67 v80) = ![b.val] := by
    dsimp only [k0_off40, Scalar.indexCast]; have hb1 := hb; dsimp only [stepB, stepC] at hb1
    rw [hb1, toNat_small (by have := b.isLt; omega)]
  have hs : (Scalar.remsi 2#32 6#32) = BitVec.ofNat 32 (2 : Fin 6).val := rfl
  unfold k0_part3
  refine step_entry c b hoff ?_
  refine step_assume c (chk5_ok ls v67 v80 _ hb hc) ?_
  refine swap2 ?_
  refine step_issue c C q 0 2 b ch hs hb hc rfl rfl rfl rfl ?_
  refine step_issue c C q 1 2 b ch hs hb hc rfl rfl rfl rfl ?_
  refine step_issue c C q 2 2 b ch hs hb hc rfl rfl rfl rfl ?_
  refine step_issue c C q 3 2 b ch hs hb hc rfl rfl rfl rfl ?_
  refine step_issue c C q 4 2 b ch hs hb hc rfl rfl rfl rfl ?_
  exact step_ret c hQ

set_option maxHeartbeats 2000000 in
theorem chk7_ok (ls : Fin 12 → BitVec 32) (v67 v80 v93 : BitVec 32) (len : BitVec 32) {b : Fin 12} {ch : Fin 8} (hb : (stepB (stepB (stepB 0#32 0#32 v67) (stepC 0#32 0#32 v67) v80) (stepC (stepB 0#32 0#32 v67) (stepC 0#32 0#32 v67) v80) v93) = BitVec.ofNat 32 b.val) (hc : (stepC (stepB (stepB 0#32 0#32 v67) (stepC 0#32 0#32 v67) v80) (stepC (stepB 0#32 0#32 v67) (stepC 0#32 0#32 v67) v80) v93) = BitVec.ofNat 32 ch.val) : k0_chk7 (ls 0) (ls 1) (ls 2) (ls 3) (ls 4) (ls 5) (ls 6) (ls 7) (ls 8) (ls 9) (ls 10) (ls 11) v67 v80 v93 len :=
  have hs : (Scalar.remsi 3#32 6#32) = BitVec.ofNat 32 (3 : Fin 6).val := rfl
  ⟨fun _ h => posw_dvd len (stepC (stepB (stepB 0#32 0#32 v67) (stepC 0#32 0#32 v67) v80) (stepC (stepB 0#32 0#32 v67) (stepC 0#32 0#32 v67) v80) v93) 0,
    fun _ h => addw_dvd len hc 0,
    fun _ h => ring_bound (k := 0) hs h,
    fun _ h => codes_bound (k := 0) hb hc h,
    fun _ h i => codes_words (k := 0) (bw := (stepB (stepB (stepB 0#32 0#32 v67) (stepC 0#32 0#32 v67) v80) (stepC (stepB 0#32 0#32 v67) (stepC 0#32 0#32 v67) v80) v93)) (len := len) hc i,
    fun _ h i => ring_words (k := 0) (len := len) (cw := (stepC (stepB (stepB 0#32 0#32 v67) (stepC 0#32 0#32 v67) v80) (stepC (stepB 0#32 0#32 v67) (stepC 0#32 0#32 v67) v80) v93)) (sw := (Scalar.remsi 3#32 6#32)) i,
    fun _ h => posw_dvd len (stepC (stepB (stepB 0#32 0#32 v67) (stepC 0#32 0#32 v67) v80) (stepC (stepB 0#32 0#32 v67) (stepC 0#32 0#32 v67) v80) v93) 1,
    fun _ h => addw_dvd len hc 1,
    fun _ h => ring_bound (k := 1) hs h,
    fun _ h => codes_bound (k := 1) hb hc h,
    fun _ h i => codes_words (k := 1) (bw := (stepB (stepB (stepB 0#32 0#32 v67) (stepC 0#32 0#32 v67) v80) (stepC (stepB 0#32 0#32 v67) (stepC 0#32 0#32 v67) v80) v93)) (len := len) hc i,
    fun _ h i => ring_words (k := 1) (len := len) (cw := (stepC (stepB (stepB 0#32 0#32 v67) (stepC 0#32 0#32 v67) v80) (stepC (stepB 0#32 0#32 v67) (stepC 0#32 0#32 v67) v80) v93)) (sw := (Scalar.remsi 3#32 6#32)) i,
    fun _ h => posw_dvd len (stepC (stepB (stepB 0#32 0#32 v67) (stepC 0#32 0#32 v67) v80) (stepC (stepB 0#32 0#32 v67) (stepC 0#32 0#32 v67) v80) v93) 2,
    fun _ h => addw_dvd len hc 2,
    fun _ h => ring_bound (k := 2) hs h,
    fun _ h => codes_bound (k := 2) hb hc h,
    fun _ h i => codes_words (k := 2) (bw := (stepB (stepB (stepB 0#32 0#32 v67) (stepC 0#32 0#32 v67) v80) (stepC (stepB 0#32 0#32 v67) (stepC 0#32 0#32 v67) v80) v93)) (len := len) hc i,
    fun _ h i => ring_words (k := 2) (len := len) (cw := (stepC (stepB (stepB 0#32 0#32 v67) (stepC 0#32 0#32 v67) v80) (stepC (stepB 0#32 0#32 v67) (stepC 0#32 0#32 v67) v80) v93)) (sw := (Scalar.remsi 3#32 6#32)) i,
    fun _ h => posw_dvd len (stepC (stepB (stepB 0#32 0#32 v67) (stepC 0#32 0#32 v67) v80) (stepC (stepB 0#32 0#32 v67) (stepC 0#32 0#32 v67) v80) v93) 3,
    fun _ h => addw_dvd len hc 3,
    fun _ h => ring_bound (k := 3) hs h,
    fun _ h => codes_bound (k := 3) hb hc h,
    fun _ h i => codes_words (k := 3) (bw := (stepB (stepB (stepB 0#32 0#32 v67) (stepC 0#32 0#32 v67) v80) (stepC (stepB 0#32 0#32 v67) (stepC 0#32 0#32 v67) v80) v93)) (len := len) hc i,
    fun _ h i => ring_words (k := 3) (len := len) (cw := (stepC (stepB (stepB 0#32 0#32 v67) (stepC 0#32 0#32 v67) v80) (stepC (stepB 0#32 0#32 v67) (stepC 0#32 0#32 v67) v80) v93)) (sw := (Scalar.remsi 3#32 6#32)) i,
    fun _ h => posw_dvd len (stepC (stepB (stepB 0#32 0#32 v67) (stepC 0#32 0#32 v67) v80) (stepC (stepB 0#32 0#32 v67) (stepC 0#32 0#32 v67) v80) v93) 4,
    fun _ h => addw_dvd len hc 4,
    fun _ h => ring_bound (k := 4) hs h,
    fun _ h => codes_bound (k := 4) hb hc h,
    fun _ h i => codes_words (k := 4) (bw := (stepB (stepB (stepB 0#32 0#32 v67) (stepC 0#32 0#32 v67) v80) (stepC (stepB 0#32 0#32 v67) (stepC 0#32 0#32 v67) v80) v93)) (len := len) hc i,
    fun _ h i => ring_words (k := 4) (len := len) (cw := (stepC (stepB (stepB 0#32 0#32 v67) (stepC 0#32 0#32 v67) v80) (stepC (stepB 0#32 0#32 v67) (stepC 0#32 0#32 v67) v80) v93)) (sw := (Scalar.remsi 3#32 6#32)) i⟩

/-- The five guarded copies of chunk number 3, before the loop. -/
theorem part4_spec {defs : Defs nD τ sig (Elt F) Λ₀} {𝒱 : Variants} {bd : Option 𝒱.V}  (arg2 : Memref sig .tc .vmem S40x128 .fp8e4m3) (harg2 : arg2.IsWhole)   (arg3 : Memref sig .tc .smem S1 .f32) (harg3 : arg3.IsWhole)   (arg4 : Memref sig .tc .smem S1 .f32) (harg4 : arg4.IsWhole)   (arg5 : Memref sig .tc .vmem S12x4096 .bf16) (harg5 : arg5.IsWhole)   (arg6 : Memref sig .tc .vmem S12x4096 .bf16) (harg6 : arg6.IsWhole)   (arg7 : Memref sig .tc .smem S12 .f32) (harg7 : arg7.IsWhole)   (arg8 : Memref sig .tc .smem S12 .i32) (harg8 : arg8.IsWhole)   (arg9 : Memref sig .tc .vmem S12x4096 .f32) (harg9 : arg9.IsWhole)   (arg10 : Memref sig .tc .vmem S12x4096 .f32) (harg10 : arg10.IsWhole)   (arg11 : Memref sig .tc .vmem S12x4096 .f32) (harg11 : arg11.IsWhole) (ls : Fin 12 → BitVec 32) (v67 v80 v93 : BitVec 32) (k0_hw6) (v96) (v98) (c3_i32_64) (k0_h19) {b : Fin 12} {ch : Fin 8} {qL : PosShare TreeShare}
    {L : S12.Idx → Elt F .i32} (hb : (stepB (stepB (stepB 0#32 0#32 v67) (stepC 0#32 0#32 v67) v80) (stepC (stepB 0#32 0#32 v67) (stepC 0#32 0#32 v67) v80) v93) = BitVec.ofNat 32 b.val) (hc : (stepC (stepB (stepB 0#32 0#32 v67) (stepC 0#32 0#32 v67) v80) (stepC (stepB 0#32 0#32 v67) (stepC 0#32 0#32 v67) v80) v93) = BitVec.ofNat 32 ch.val)
    {Q : PUnit → sProp 𝕄} {R : sProp 𝕄}
    (hQ : iprop(Issuing c C q 3 b ch (tu (at12 L b) (stepC (stepB (stepB 0#32 0#32 v67) (stepC 0#32 0#32 v67) v80) (stepC (stepB 0#32 0#32 v67) (stepC 0#32 0#32 v67) v80) v93)) 5 ∗ owns (c : Thread nD τ) arg8 qL L ∗ R) ⊢ Q ⟨⟩) :
    iprop(owns (c : Thread nD τ) arg8 qL L ∗ Issuing c C q 3 b ch (tu (at12 L b) (stepC (stepB (stepB 0#32 0#32 v67) (stepC 0#32 0#32 v67) v80) (stepC (stepB 0#32 0#32 v67) (stepC 0#32 0#32 v67) v80) v93)) 0 ∗ R)
      ⊢ wp frame (wpE defs 𝒱 (c : Thread nD τ) bd) Set.univ
            (k0_part4 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (ls 0) (ls 1) (ls 2) (ls 3) (ls 4) (ls 5) (ls 6) (ls 7) (ls 8) (ls 9) (ls 10) (ls 11) v67 v80 v93 k0_hw6 v96 v98 c3_i32_64 k0_h19) Q := by
  have hoff : (k0_off60 v67 v80 v93) = ![b.val] := by
    dsimp only [k0_off60, Scalar.indexCast]; have hb1 := hb; dsimp only [stepB, stepC] at hb1
    rw [hb1, toNat_small (by have := b.isLt; omega)]
  have hs : (Scalar.remsi 3#32 6#32) = BitVec.ofNat 32 (3 : Fin 6).val := rfl
  unfold k0_part4
  refine step_entry c b hoff ?_
  refine step_assume c (chk7_ok ls v67 v80 v93 _ hb hc) ?_
  refine swap2 ?_
  refine step_issue c C q 0 3 b ch hs hb hc rfl rfl rfl rfl ?_
  refine step_issue c C q 1 3 b ch hs hb hc rfl rfl rfl rfl ?_
  refine step_issue c C q 2 3 b ch hs hb hc rfl rfl rfl rfl ?_
  refine step_issue c C q 3 3 b ch hs hb hc rfl rfl rfl rfl ?_
  refine step_issue c C q 4 3 b ch hs hb hc rfl rfl rfl rfl ?_
  exact step_ret c hQ

set_option maxHeartbeats 2000000 in
theorem chk9_ok (ls : Fin 12 → BitVec 32) (v67 v80 v93 v106 : BitVec 32) (len : BitVec 32) {b : Fin 12} {ch : Fin 8} (hb : (stepB (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) = BitVec.ofNat 32 b.val) (hc : (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) = BitVec.ofNat 32 ch.val) : k0_chk9 (ls 0) (ls 1) (ls 2) (ls 3) (ls 4) (ls 5) (ls 6) (ls 7) (ls 8) (ls 9) (ls 10) (ls 11) v67 v80 v93 v106 len :=
  have hs : (Scalar.remsi 4#32 6#32) = BitVec.ofNat 32 (4 : Fin 6).val := rfl
  ⟨fun _ h => posw_dvd len (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) 0,
    fun _ h => addw_dvd len hc 0,
    fun _ h => ring_bound (k := 0) hs h,
    fun _ h => codes_bound (k := 0) hb hc h,
    fun _ h i => codes_words (k := 0) (bw := (stepB (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106)) (len := len) hc i,
    fun _ h i => ring_words (k := 0) (len := len) (cw := (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106)) (sw := (Scalar.remsi 4#32 6#32)) i,
    fun _ h => posw_dvd len (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) 1,
    fun _ h => addw_dvd len hc 1,
    fun _ h => ring_bound (k := 1) hs h,
    fun _ h => codes_bound (k := 1) hb hc h,
    fun _ h i => codes_words (k := 1) (bw := (stepB (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106)) (len := len) hc i,
    fun _ h i => ring_words (k := 1) (len := len) (cw := (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106)) (sw := (Scalar.remsi 4#32 6#32)) i,
    fun _ h => posw_dvd len (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) 2,
    fun _ h => addw_dvd len hc 2,
    fun _ h => ring_bound (k := 2) hs h,
    fun _ h => codes_bound (k := 2) hb hc h,
    fun _ h i => codes_words (k := 2) (bw := (stepB (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106)) (len := len) hc i,
    fun _ h i => ring_words (k := 2) (len := len) (cw := (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106)) (sw := (Scalar.remsi 4#32 6#32)) i,
    fun _ h => posw_dvd len (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) 3,
    fun _ h => addw_dvd len hc 3,
    fun _ h => ring_bound (k := 3) hs h,
    fun _ h => codes_bound (k := 3) hb hc h,
    fun _ h i => codes_words (k := 3) (bw := (stepB (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106)) (len := len) hc i,
    fun _ h i => ring_words (k := 3) (len := len) (cw := (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106)) (sw := (Scalar.remsi 4#32 6#32)) i,
    fun _ h => posw_dvd len (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) 4,
    fun _ h => addw_dvd len hc 4,
    fun _ h => ring_bound (k := 4) hs h,
    fun _ h => codes_bound (k := 4) hb hc h,
    fun _ h i => codes_words (k := 4) (bw := (stepB (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106)) (len := len) hc i,
    fun _ h i => ring_words (k := 4) (len := len) (cw := (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106)) (sw := (Scalar.remsi 4#32 6#32)) i⟩

/-- The five guarded copies of chunk number 4, before the loop. -/
theorem part5_spec {defs : Defs nD τ sig (Elt F) Λ₀} {𝒱 : Variants} {bd : Option 𝒱.V}  (arg2 : Memref sig .tc .vmem S40x128 .fp8e4m3) (harg2 : arg2.IsWhole)   (arg3 : Memref sig .tc .smem S1 .f32) (harg3 : arg3.IsWhole)   (arg4 : Memref sig .tc .smem S1 .f32) (harg4 : arg4.IsWhole)   (arg5 : Memref sig .tc .vmem S12x4096 .bf16) (harg5 : arg5.IsWhole)   (arg6 : Memref sig .tc .vmem S12x4096 .bf16) (harg6 : arg6.IsWhole)   (arg7 : Memref sig .tc .smem S12 .f32) (harg7 : arg7.IsWhole)   (arg8 : Memref sig .tc .smem S12 .i32) (harg8 : arg8.IsWhole)   (arg9 : Memref sig .tc .vmem S12x4096 .f32) (harg9 : arg9.IsWhole)   (arg10 : Memref sig .tc .vmem S12x4096 .f32) (harg10 : arg10.IsWhole)   (arg11 : Memref sig .tc .vmem S12x4096 .f32) (harg11 : arg11.IsWhole) (ls : Fin 12 → BitVec 32) (v67 v80 v93 v106 : BitVec 32) (k0_hw8) (v109) (v111) (c4_i32_72) (k0_h25) {b : Fin 12} {ch : Fin 8} {qL : PosShare TreeShare}
    {L : S12.Idx → Elt F .i32} (hb : (stepB (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) = BitVec.ofNat 32 b.val) (hc : (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) = BitVec.ofNat 32 ch.val)
    {Q : PUnit → sProp 𝕄} {R : sProp 𝕄}
    (hQ : iprop(Issuing c C q 4 b ch (tu (at12 L b) (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106)) 5 ∗ owns (c : Thread nD τ) arg8 qL L ∗ R) ⊢ Q ⟨⟩) :
    iprop(owns (c : Thread nD τ) arg8 qL L ∗ Issuing c C q 4 b ch (tu (at12 L b) (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106)) 0 ∗ R)
      ⊢ wp frame (wpE defs 𝒱 (c : Thread nD τ) bd) Set.univ
            (k0_part5 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (ls 0) (ls 1) (ls 2) (ls 3) (ls 4) (ls 5) (ls 6) (ls 7) (ls 8) (ls 9) (ls 10) (ls 11) v67 v80 v93 v106 k0_hw8 v109 v111 c4_i32_72 k0_h25) Q := by
  have hoff : (k0_off80 v67 v80 v93 v106) = ![b.val] := by
    dsimp only [k0_off80, Scalar.indexCast]; have hb1 := hb; dsimp only [stepB, stepC] at hb1
    rw [hb1, toNat_small (by have := b.isLt; omega)]
  have hs : (Scalar.remsi 4#32 6#32) = BitVec.ofNat 32 (4 : Fin 6).val := rfl
  unfold k0_part5
  refine step_entry c b hoff ?_
  refine step_assume c (chk9_ok ls v67 v80 v93 v106 _ hb hc) ?_
  refine swap2 ?_
  refine step_issue c C q 0 4 b ch hs hb hc rfl rfl rfl rfl ?_
  refine step_issue c C q 1 4 b ch hs hb hc rfl rfl rfl rfl ?_
  refine step_issue c C q 2 4 b ch hs hb hc rfl rfl rfl rfl ?_
  refine step_issue c C q 3 4 b ch hs hb hc rfl rfl rfl rfl ?_
  refine step_issue c C q 4 4 b ch hs hb hc rfl rfl rfl rfl ?_
  exact step_ret c hQ

end Cert.KernelIdeal.Own
-- ==== Proof.Slots.lean ====
/-
The six slots between jobs: which are idle, which carry a job in flight, and the steps of a trip
stated against goals that keep other facts beside them.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Jobs
public import proofs.«01_k».proof.Proof.Issue

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- What a slot holds: nothing (it is in use), a free buffer, or job `j` in flight. -/
inductive St where
  | gone
  | idle
  | job (j : ℕ)
  deriving DecidableEq

section
variable (c : Dev nD) (C : Codes (F := F)) (Sc : Scales (F := F)) (qs qt : Fin 6 → PosShare TreeShare) (L : S12.Idx → Elt F .i32)

def Idle (s : Fin 6) : sProp 𝕄 := iprop(Free c C (qs s) s ∗ FreeS c Sc (qt s) s)
/-- Job `j` in flight at slot `s`: its token copies and its scale copy. -/
def Job (s : Fin 6) (j : ℕ) : sProp 𝕄 :=
  iprop(Waiting c C (qs s) s (jB L j) (jC L j) (tu (at12 L (jB L j)) (wC L j)) 0 ∗ BusyS c Sc (qt s) s (jB L j) (jC L j))
def Slot (s : Fin 6) : St → sProp 𝕄
  | .gone => iprop(emp)
  | .idle => Idle c C Sc qs qt s
  | .job j => Job c C Sc qs qt L s j
/-- The six slots. -/
def Slots (o : Fin 6 → St) : sProp 𝕄 :=
  iprop(Slot c C Sc qs qt L 0 (o 0) ∗ Slot c C Sc qs qt L 1 (o 1) ∗ Slot c C Sc qs qt L 2 (o 2) ∗ Slot c C Sc qs qt L 3 (o 3) ∗ Slot c C Sc qs qt L 4 (o 4) ∗ Slot c C Sc qs qt L 5 (o 5))
/-- `o` with slot `s` at `x`. -/
def upd (o : Fin 6 → St) (s : Fin 6) (x : St) : Fin 6 → St := fun r => if r = s then x else o r
theorem slot_gone (o : Fin 6 → St) (s : Fin 6) : ⊢ Slot c C Sc qs qt L s (upd o s .gone s) := by
  unfold upd
  rw [if_pos rfl]
  exact .rfl

theorem take_0 (o : Fin 6 → St) : Slots c C Sc qs qt L o ⊢ iprop(Slot c C Sc qs qt L 0 (o 0) ∗ Slots c C Sc qs qt L (upd o 0 .gone)) := by
  unfold Slots
  iintro ⟨H0, H1, H2, H3, H4, H5⟩
  isplitl [H0]; · iexact H0
  isplitr; · iapply (slot_gone c C Sc qs qt L o 0)
  isplitl [H1]; · iexact H1
  isplitl [H2]; · iexact H2
  isplitl [H3]; · iexact H3
  isplitl [H4]; · iexact H4
  iexact H5
theorem take_1 (o : Fin 6 → St) : Slots c C Sc qs qt L o ⊢ iprop(Slot c C Sc qs qt L 1 (o 1) ∗ Slots c C Sc qs qt L (upd o 1 .gone)) := by
  unfold Slots
  iintro ⟨H0, H1, H2, H3, H4, H5⟩
  isplitl [H1]; · iexact H1
  isplitl [H0]; · iexact H0
  isplitr; · iapply (slot_gone c C Sc qs qt L o 1)
  isplitl [H2]; · iexact H2
  isplitl [H3]; · iexact H3
  isplitl [H4]; · iexact H4
  iexact H5
theorem take_2 (o : Fin 6 → St) : Slots c C Sc qs qt L o ⊢ iprop(Slot c C Sc qs qt L 2 (o 2) ∗ Slots c C Sc qs qt L (upd o 2 .gone)) := by
  unfold Slots
  iintro ⟨H0, H1, H2, H3, H4, H5⟩
  isplitl [H2]; · iexact H2
  isplitl [H0]; · iexact H0
  isplitl [H1]; · iexact H1
  isplitr; · iapply (slot_gone c C Sc qs qt L o 2)
  isplitl [H3]; · iexact H3
  isplitl [H4]; · iexact H4
  iexact H5
theorem take_3 (o : Fin 6 → St) : Slots c C Sc qs qt L o ⊢ iprop(Slot c C Sc qs qt L 3 (o 3) ∗ Slots c C Sc qs qt L (upd o 3 .gone)) := by
  unfold Slots
  iintro ⟨H0, H1, H2, H3, H4, H5⟩
  isplitl [H3]; · iexact H3
  isplitl [H0]; · iexact H0
  isplitl [H1]; · iexact H1
  isplitl [H2]; · iexact H2
  isplitr; · iapply (slot_gone c C Sc qs qt L o 3)
  isplitl [H4]; · iexact H4
  iexact H5
theorem take_4 (o : Fin 6 → St) : Slots c C Sc qs qt L o ⊢ iprop(Slot c C Sc qs qt L 4 (o 4) ∗ Slots c C Sc qs qt L (upd o 4 .gone)) := by
  unfold Slots
  iintro ⟨H0, H1, H2, H3, H4, H5⟩
  isplitl [H4]; · iexact H4
  isplitl [H0]; · iexact H0
  isplitl [H1]; · iexact H1
  isplitl [H2]; · iexact H2
  isplitl [H3]; · iexact H3
  isplitr; · iapply (slot_gone c C Sc qs qt L o 4)
  iexact H5
theorem take_5 (o : Fin 6 → St) : Slots c C Sc qs qt L o ⊢ iprop(Slot c C Sc qs qt L 5 (o 5) ∗ Slots c C Sc qs qt L (upd o 5 .gone)) := by
  unfold Slots
  iintro ⟨H0, H1, H2, H3, H4, H5⟩
  isplitl [H5]; · iexact H5
  isplitl [H0]; · iexact H0
  isplitl [H1]; · iexact H1
  isplitl [H2]; · iexact H2
  isplitl [H3]; · iexact H3
  isplitl [H4]; · iexact H4
  iapply (slot_gone c C Sc qs qt L o 5)
theorem give_0 (o : Fin 6 → St) (x : St) : iprop(Slots c C Sc qs qt L o ∗ Slot c C Sc qs qt L 0 x) ⊢ Slots c C Sc qs qt L (upd o 0 x) := by
  unfold Slots
  iintro ⟨⟨H0, H1, H2, H3, H4, H5⟩, H⟩
  isplitl [H]; · iexact H
  isplitl [H1]; · iexact H1
  isplitl [H2]; · iexact H2
  isplitl [H3]; · iexact H3
  isplitl [H4]; · iexact H4
  iexact H5
theorem give_1 (o : Fin 6 → St) (x : St) : iprop(Slots c C Sc qs qt L o ∗ Slot c C Sc qs qt L 1 x) ⊢ Slots c C Sc qs qt L (upd o 1 x) := by
  unfold Slots
  iintro ⟨⟨H0, H1, H2, H3, H4, H5⟩, H⟩
  isplitl [H0]; · iexact H0
  isplitl [H]; · iexact H
  isplitl [H2]; · iexact H2
  isplitl [H3]; · iexact H3
  isplitl [H4]; · iexact H4
  iexact H5
theorem give_2 (o : Fin 6 → St) (x : St) : iprop(Slots c C Sc qs qt L o ∗ Slot c C Sc qs qt L 2 x) ⊢ Slots c C Sc qs qt L (upd o 2 x) := by
  unfold Slots
  iintro ⟨⟨H0, H1, H2, H3, H4, H5⟩, H⟩
  isplitl [H0]; · iexact H0
  isplitl [H1]; · iexact H1
  isplitl [H]; · iexact H
  isplitl [H3]; · iexact H3
  isplitl [H4]; · iexact H4
  iexact H5
theorem give_3 (o : Fin 6 → St) (x : St) : iprop(Slots c C Sc qs qt L o ∗ Slot c C Sc qs qt L 3 x) ⊢ Slots c C Sc qs qt L (upd o 3 x) := by
  unfold Slots
  iintro ⟨⟨H0, H1, H2, H3, H4, H5⟩, H⟩
  isplitl [H0]; · iexact H0
  isplitl [H1]; · iexact H1
  isplitl [H2]; · iexact H2
  isplitl [H]; · iexact H
  isplitl [H4]; · iexact H4
  iexact H5
theorem give_4 (o : Fin 6 → St) (x : St) : iprop(Slots c C Sc qs qt L o ∗ Slot c C Sc qs qt L 4 x) ⊢ Slots c C Sc qs qt L (upd o 4 x) := by
  unfold Slots
  iintro ⟨⟨H0, H1, H2, H3, H4, H5⟩, H⟩
  isplitl [H0]; · iexact H0
  isplitl [H1]; · iexact H1
  isplitl [H2]; · iexact H2
  isplitl [H3]; · iexact H3
  isplitl [H]; · iexact H
  iexact H5
theorem give_5 (o : Fin 6 → St) (x : St) : iprop(Slots c C Sc qs qt L o ∗ Slot c C Sc qs qt L 5 x) ⊢ Slots c C Sc qs qt L (upd o 5 x) := by
  unfold Slots
  iintro ⟨⟨H0, H1, H2, H3, H4, H5⟩, H⟩
  isplitl [H0]; · iexact H0
  isplitl [H1]; · iexact H1
  isplitl [H2]; · iexact H2
  isplitl [H3]; · iexact H3
  isplitl [H4]; · iexact H4
  iexact H

theorem take (o : Fin 6 → St) (s : Fin 6) : Slots c C Sc qs qt L o ⊢ iprop(Slot c C Sc qs qt L s (o s) ∗ Slots c C Sc qs qt L (upd o s .gone)) := by
  match s with
  | 0 => exact take_0 c C Sc qs qt L o
  | 1 => exact take_1 c C Sc qs qt L o
  | 2 => exact take_2 c C Sc qs qt L o
  | 3 => exact take_3 c C Sc qs qt L o
  | 4 => exact take_4 c C Sc qs qt L o
  | 5 => exact take_5 c C Sc qs qt L o
theorem give (o : Fin 6 → St) (s : Fin 6) (x : St) : iprop(Slots c C Sc qs qt L o ∗ Slot c C Sc qs qt L s x) ⊢ Slots c C Sc qs qt L (upd o s x) := by
  match s with
  | 0 => exact give_0 c C Sc qs qt L o x
  | 1 => exact give_1 c C Sc qs qt L o x
  | 2 => exact give_2 c C Sc qs qt L o x
  | 3 => exact give_3 c C Sc qs qt L o x
  | 4 => exact give_4 c C Sc qs qt L o x
  | 5 => exact give_5 c C Sc qs qt L o x

/-- The slots when jobs up to `j + 5` of `n` have been started and those below `j` are done. -/
def occ (n j : ℕ) : Fin 6 → St := fun s => if (s.val + 6 - j % 6) % 6 < 5 ∧ j + (s.val + 6 - j % 6) % 6 < n then .job (j + (s.val + 6 - j % 6) % 6) else .idle
/-- What the slot of job `j + 5` holds after the start of trip `j`. -/
def nx (n j : ℕ) : St := if j + 5 < n then .job (j + 5) else .idle

theorem occ_here {n j : ℕ} (h : j < n) : occ n j (sl j) = .job j := by
  unfold occ sl
  have e : (j % 6 + 6 - j % 6) % 6 = 0 := by omega
  show (if (j % 6 + 6 - j % 6) % 6 < 5 ∧ j + (j % 6 + 6 - j % 6) % 6 < n then St.job (j + (j % 6 + 6 - j % 6) % 6) else .idle) = _
  rw [e, if_pos ⟨by omega, by omega⟩]
  rfl
theorem sl_ne (j : ℕ) : sl (j + 5) ≠ sl j := by
  intro h
  have := congrArg Fin.val h
  simp only [sl] at this
  omega
theorem occ_there (n j : ℕ) : upd (occ n j) (sl j) .gone (sl (j + 5)) = .idle := by
  unfold upd
  rw [if_neg (sl_ne j)]
  unfold occ
  rw [if_neg]
  intro h
  have := h.1
  simp only [sl] at this
  omega
theorem occ_next {n j : ℕ} (h : j < n) : upd (upd (upd (upd (occ n j) (sl j) .gone) (sl (j + 5)) .gone) (sl (j + 5)) (nx n j)) (sl j) .idle = occ n (j + 1) := by
  funext s
  unfold upd
  by_cases h1 : s = sl j
  · rw [if_pos h1]
    unfold occ
    rw [if_neg]
    intro h2
    have := h2.1
    subst h1
    simp only [sl] at this
    omega
  rw [if_neg h1]
  by_cases h2 : s = sl (j + 5)
  · rw [if_pos h2]
    unfold occ nx
    have e : (s.val + 6 - (j + 1) % 6) % 6 = 4 := by
      subst h2
      simp only [sl]
      omega
    rw [e]
    by_cases h3 : j + 5 < n
    · rw [if_pos h3, if_pos ⟨by omega, by omega⟩]
    · rw [if_neg h3, if_neg (by omega)]
  rw [if_neg h2, if_neg h2]
  unfold occ
  rw [if_neg h1]
  have e1 : s.val ≠ j % 6 := fun e => h1 (Fin.ext e)
  have e2 : s.val ≠ (j + 5) % 6 := fun e => h2 (Fin.ext e)
  have hs := s.isLt
  have e : j + 1 + (s.val + 6 - (j + 1) % 6) % 6 = j + (s.val + 6 - j % 6) % 6 := by omega
  have e' : (s.val + 6 - (j + 1) % 6) % 6 < 5 ↔ (s.val + 6 - j % 6) % 6 < 5 := by omega
  rw [e]
  by_cases h3 : (s.val + 6 - j % 6) % 6 < 5 ∧ j + (s.val + 6 - j % 6) % 6 < n
  · rw [if_pos h3, if_pos ⟨e'.2 h3.1, h3.2⟩]
  · rw [if_neg h3, if_neg fun h4 => h3 ⟨e'.1 h4.1, h4.2⟩]
end

section
theorem bring3 {R G A B D : sProp 𝕄} (h : iprop(D ∗ A ∗ B ∗ R) ⊢ G) : iprop(A ∗ B ∗ D ∗ R) ⊢ G := by
  iintro ⟨HA, HB, HD, HR⟩
  iapply h
  isplitl [HD]; · iexact HD
  isplitl [HA]; · iexact HA
  isplitl [HB]; · iexact HB
  iexact HR
theorem bring4 {R G A B D E : sProp 𝕄} (h : iprop(E ∗ A ∗ B ∗ D ∗ R) ⊢ G) : iprop(A ∗ B ∗ D ∗ E ∗ R) ⊢ G := by
  iintro ⟨HA, HB, HD, HE, HR⟩
  iapply h
  isplitl [HE]; · iexact HE
  isplitl [HA]; · iexact HA
  isplitl [HB]; · iexact HB
  isplitl [HD]; · iexact HD
  iexact HR
theorem bring5 {R G A B D E I : sProp 𝕄} (h : iprop(I ∗ A ∗ B ∗ D ∗ E ∗ R) ⊢ G) : iprop(A ∗ B ∗ D ∗ E ∗ I ∗ R) ⊢ G := by
  iintro ⟨HA, HB, HD, HE, HI, HR⟩
  iapply h
  isplitl [HI]; · iexact HI
  isplitl [HA]; · iexact HA
  isplitl [HB]; · iexact HB
  isplitl [HD]; · iexact HD
  isplitl [HE]; · iexact HE
  iexact HR
theorem bring6 {R G A B D E I J : sProp 𝕄} (h : iprop(J ∗ A ∗ B ∗ D ∗ E ∗ I ∗ R) ⊢ G) : iprop(A ∗ B ∗ D ∗ E ∗ I ∗ J ∗ R) ⊢ G := by
  iintro ⟨HA, HB, HD, HE, HI, HJ, HR⟩
  iapply h
  isplitl [HJ]; · iexact HJ
  isplitl [HA]; · iexact HA
  isplitl [HB]; · iexact HB
  isplitl [HD]; · iexact HD
  isplitl [HE]; · iexact HE
  isplitl [HI]; · iexact HI
  iexact HR
theorem bring7 {R G A B D E I J K : sProp 𝕄} (h : iprop(K ∗ A ∗ B ∗ D ∗ E ∗ I ∗ J ∗ R) ⊢ G) : iprop(A ∗ B ∗ D ∗ E ∗ I ∗ J ∗ K ∗ R) ⊢ G := by
  iintro ⟨HA, HB, HD, HE, HI, HJ, HK, HR⟩
  iapply h
  isplitl [HK]; · iexact HK
  isplitl [HA]; · iexact HA
  isplitl [HB]; · iexact HB
  isplitl [HD]; · iexact HD
  isplitl [HE]; · iexact HE
  isplitl [HI]; · iexact HI
  isplitl [HJ]; · iexact HJ
  iexact HR
theorem grp {R G A B : sProp 𝕄} (h : iprop((A ∗ B) ∗ R) ⊢ G) : iprop(A ∗ B ∗ R) ⊢ G := by
  iintro ⟨HA, HB, HR⟩
  iapply h
  isplitl [HA HB]
  · isplitl [HA]; · iexact HA
    iexact HB
  iexact HR
theorem ungrp {R G A B : sProp 𝕄} (h : iprop(A ∗ B ∗ R) ⊢ G) : iprop((A ∗ B) ∗ R) ⊢ G := by
  iintro ⟨⟨HA, HB⟩, HR⟩
  iapply h
  isplitl [HA]; · iexact HA
  isplitl [HB]; · iexact HB
  iexact HR
theorem conv {R G A B : sProp 𝕄} (e : A ⊢ B) (h : iprop(B ∗ R) ⊢ G) : iprop(A ∗ R) ⊢ G := by
  iintro ⟨HA, HR⟩
  iapply h
  isplitl [HA]; · iapply e; iexact HA
  iexact HR
end

section
variable (c : Dev nD)
variable {Λ : Labels} {defs : Defs nD τ sig (Elt F) Λ} {𝒱 : Variants} {bd : Option 𝒱.V}

theorem step_upd {A B R : sProp 𝕄} {α : Type} {Q : α → sProp 𝕄} {p : Prog (TpuEff nD τ sig (Elt F) Λ .tc) α} (e : A ⊢ |={Set.univ}=> B)
    (h : iprop(B ∗ R) ⊢ wp frame (wpE defs 𝒱 (c : Thread nD τ) bd) Set.univ p Q) :
    iprop(A ∗ R) ⊢ wp frame (wpE defs 𝒱 (c : Thread nD τ) bd) Set.univ p Q := by
  iintro ⟨HA, HR⟩
  imod e $$ HA with HB
  iapply h
  isplitl [HB]; · iexact HB
  iexact HR

theorem step_bind {P : sProp 𝕄} {α β : Type} {Q : β → sProp 𝕄} {p : Prog (TpuEff nD τ sig (Elt F) Λ .tc) α} {k : α → Prog (TpuEff nD τ sig (Elt F) Λ .tc) β}
    (h : P ⊢ wp frame (wpE defs 𝒱 (c : Thread nD τ) bd) Set.univ p (fun a => wp frame (wpE defs 𝒱 (c : Thread nD τ) bd) Set.univ (k a) Q)) :
    P ⊢ wp frame (wpE defs 𝒱 (c : Thread nD τ) bd) Set.univ (p >>= k) Q := by
  rw [wp_bind]
  exact h

theorem step_if {A R : sProp 𝕄} (B : sProp 𝕄) {α : Type} {Q : α → sProp 𝕄} {p : Prop} {d : Decidable p} {t : p → Prog (TpuEff nD τ sig (Elt F) Λ .tc) α}
    {jp : Prog (TpuEff nD τ sig (Elt F) Λ .tc) α}
    (h1 : ∀ hp, (iprop(B ∗ R) ⊢ wp frame (wpE defs 𝒱 (c : Thread nD τ) bd) Set.univ jp Q) → iprop(A ∗ R) ⊢ wp frame (wpE defs 𝒱 (c : Thread nD τ) bd) Set.univ (t hp) Q)
    (h2 : ¬ p → A ⊢ B) (h3 : iprop(B ∗ R) ⊢ wp frame (wpE defs 𝒱 (c : Thread nD τ) bd) Set.univ jp Q) :
    iprop(A ∗ R) ⊢ wp frame (wpE defs 𝒱 (c : Thread nD τ) bd) Set.univ (@dite _ p d t (fun _ => jp)) Q := by
  by_cases hp : p
  · rw [dif_pos hp]; exact h1 hp h3
  · rw [dif_neg hp]; exact conv (h2 hp) h3

theorem step_then {P : sProp 𝕄} {α : Type} {Q : α → sProp 𝕄} {p : Prop} {d : Decidable p} {t : p → Prog (TpuEff nD τ sig (Elt F) Λ .tc) α}
    {e : ¬ p → Prog (TpuEff nD τ sig (Elt F) Λ .tc) α} (hp : p)
    (h1 : P ⊢ wp frame (wpE defs 𝒱 (c : Thread nD τ) bd) Set.univ (t hp) Q) :
    P ⊢ wp frame (wpE defs 𝒱 (c : Thread nD τ) bd) Set.univ (@dite _ p d t e) Q := by
  rw [dif_pos hp]; exact h1

theorem step_load {sp : CoreSpace} {s : Shape} {e : EltTy} {m : Memref sig .tc sp s e} {r : Rect s} {hl : m.view.LoadsAt r.toLoadRect} {q : PosShare TreeShare} {X : s.Idx → Elt F e} {R : sProp 𝕄}
    {α : Type} {Q : α → sProp 𝕄} {kk : (r.shape.Idx → Elt F e) → Prog (TpuEff nD τ sig (Elt F) Λ .tc) α}
    (h : iprop(owns (c : Thread nD τ) m q X ∗ R) ⊢ wp frame (wpE defs 𝒱 (c : Thread nD τ) bd) Set.univ (kk (fun i => X (r.emb i))) Q) :
    iprop(owns (c : Thread nD τ) m q X ∗ R) ⊢ wp frame (wpE defs 𝒱 (c : Thread nD τ) bd) Set.univ (.op (.load m r.toLoadRect hl) kk) Q := by
  iintro ⟨H, HR⟩
  iapply (wp_load_own c) $$ H
  iintro H
  iapply h
  isplitl [H]; · iexact H
  iexact HR

theorem step_store {sp : CoreSpace} {s : Shape} {e : EltTy} {m : Memref sig .tc sp s e} {r : Rect s} {w : r.shape.Idx → Elt F e} {hx : (m.access r).Stores Finset.univ}
    {hm : (Finset.univ : Finset r.shape.Idx) = Finset.univ ∨ ∀ a, r.stride a = 1} {X : s.Idx → Elt F e} {R : sProp 𝕄}
    {α : Type} {Q : α → sProp 𝕄} {kk : PUnit → Prog (TpuEff nD τ sig (Elt F) Λ .tc) α}
    (h : iprop(owns (c : Thread nD τ) m fullShare (put r X w) ∗ R) ⊢ wp frame (wpE defs 𝒱 (c : Thread nD τ) bd) Set.univ (kk ⟨⟩) Q) :
    iprop(owns (c : Thread nD τ) m fullShare X ∗ R) ⊢ wp frame (wpE defs 𝒱 (c : Thread nD τ) bd) Set.univ (.op (.store m r w Finset.univ hx hm) kk) Q := by
  iintro ⟨H, HR⟩
  iapply (wp_store_own c) $$ H
  iintro H
  iapply h
  isplitl [H]; · iexact H
  iexact HR

/-- The one index of a one-entry buffer. -/
def fst1 : S1.Idx := fun a => match a with | ⟨0, _⟩ => ⟨0, Nat.one_pos⟩

/-- A scalar read of a one-entry buffer. -/
theorem step_one {e : EltTy} {m : Memref sig .tc .smem S1 e} {inb : ∀ a, (![0] : Fin 1 → ℕ) a + S1.size a ≤ S1.size a}
    {h1 : (Rect.unit (s := S1) ![0] S1.size inb).shape.numel = 1} {hp : e.packing = 1} {q : PosShare TreeShare} {X : S1.Idx → Elt F e} {R : sProp 𝕄}
    {α : Type} {Q : α → sProp 𝕄} {kk : Elt F e → Prog (TpuEff nD τ sig (Elt F) Λ .tc) α}
    (h : iprop(owns (c : Thread nD τ) m q X ∗ R) ⊢ wp frame (wpE defs 𝒱 (c : Thread nD τ) bd) Set.univ (kk (X fst1)) Q) :
    iprop(owns (c : Thread nD τ) m q X ∗ R) ⊢ wp frame (wpE defs 𝒱 (c : Thread nD τ) bd) Set.univ
          (smemLoad m (Rect.unit (s := S1) ![0] S1.size inb) h1 hp >>= kk) Q := by
  show _ ⊢ wp frame (wpE defs 𝒱 (c : Thread nD τ) bd) Set.univ
          (smemLoadElt m (Rect.unit (s := S1) ![0] S1.size inb) (View.loads_smem_one hp h1) (Shape.Idx.first (h1.symm ▸ Nat.one_pos)) kk) Q
  have e0 : ∀ i : S1.Idx, i = fst1 := by
    intro i; funext a
    match a with
    | ⟨0, _⟩ => exact Fin.ext (by have h : (i 0).val < 1 := (i 0).isLt; show (i 0).val = 0; omega)
  refine step_load c ?_
  beta_reduce
  rw [e0 ((Rect.unit (s := S1) ![0] S1.size inb).emb (Shape.Idx.first _))]
  exact h

/-- What a load of slot `s` of the scale ring gives. -/
def scol (s : Fin 6) (f : SRing (F := F)) : S1x40x512.Idx → Elt F .f32 := fun i => f (fun a => match a with
  | ⟨0, _⟩ => s
  | ⟨1, _⟩ => i 1
  | ⟨2, _⟩ => i 2)
/-- What a load of the `k`th column group of slot `s` of the token ring gives. -/
def rq (s : Fin 6) (k : Fin 4) (f : Ring (F := F)) : S1x512x1280.Idx → Elt F .fp8e4m3 := fun i => f (fun a => match a with
  | ⟨0, _⟩ => s
  | ⟨1, _⟩ => i 1
  | ⟨2, _⟩ => ⟨k.val * 1280 + (i 2).val, by have h : (i 2).val < 1280 := (i 2).isLt; have := k.isLt; show _ < 5120; omega⟩)

theorem step_scol (s : Fin 6) {off : Fin 3 → ℕ} (hoff : off = ![s.val, 0, 0]) {inb : ∀ a, off a + S1x40x512.size a ≤ S6x40x512.size a} {hl}
    {f : SRing (F := F)} {R : sProp 𝕄} {α : Type} {Q : α → sProp 𝕄} {kk : (S1x40x512.Idx → Elt F .f32) → Prog (TpuEff nD τ sig (Elt F) Λ .tc) α}
    (h : iprop((sringM.view.loc (c : Thread nD τ) ↦[colsS s]{fullShare} f) ∗ R) ⊢ wp frame (wpE defs 𝒱 (c : Thread nD τ) bd) Set.univ (kk (scol s f)) Q) :
    iprop((sringM.view.loc (c : Thread nD τ) ↦[colsS s]{fullShare} f) ∗ R) ⊢ wp frame (wpE defs 𝒱 (c : Thread nD τ) bd) Set.univ
      (.op (.load sringM (Rect.unit (s := S6x40x512) off S1x40x512.size inb).toLoadRect hl) kk) Q := by
  subst hoff
  iintro ⟨H, HR⟩
  iapply (wp_load_rect 𝒱 (c : Thread nD τ) bd Set.univ (show (sringM.access (Rect.unit (s := S6x40x512) ![s.val, 0, 0] S1x40x512.size inb)).set ⊆ colsS s from by
    intro y hy
    obtain ⟨x, -, rfl⟩ := Finset.mem_map.1 hy
    refine Finset.mem_filter.2 ⟨Finset.mem_univ _, ?_⟩
    have h0 : (x 0).val < 1 := (x 0).isLt
    show s.val + 1 * (x 0).val = s.val
    omega)) $$ H
  iintro H
  have e : (sringM.access (Rect.unit (s := S6x40x512) ![s.val, 0, 0] S1x40x512.size inb)).read (Elt F) f = scol s f := by
    funext x
    unfold scol
    show f _ = f _
    congr 1
    funext a
    have h0 : (x 0).val < 1 := (x 0).isLt
    match a with
    | ⟨0, _⟩ => exact Fin.ext (by show s.val + 1 * (x 0).val = s.val; omega)
    | ⟨1, _⟩ => exact Fin.ext (by show 0 + 1 * (x 1).val = (x 1).val; omega)
    | ⟨2, _⟩ => exact Fin.ext (by show 0 + 1 * (x 2).val = (x 2).val; omega)
  rw [e]
  iapply h
  isplitl [H]; · iexact H
  iexact HR

theorem step_rq (s : Fin 6) (k : Fin 4) {off : Fin 3 → ℕ} (hoff : off = ![s.val, 0, k.val * 1280]) {inb : ∀ a, off a + S1x512x1280.size a ≤ S6x512x5120.size a} {hl}
    {f : Ring (F := F)} {R : sProp 𝕄} {α : Type} {Q : α → sProp 𝕄} {kk : (S1x512x1280.Idx → Elt F .fp8e4m3) → Prog (TpuEff nD τ sig (Elt F) Λ .tc) α}
    (h : iprop((ringM.view.loc (c : Thread nD τ) ↦[rowsR s 0 512]{fullShare} f) ∗ R) ⊢ wp frame (wpE defs 𝒱 (c : Thread nD τ) bd) Set.univ (kk (rq s k f)) Q) :
    iprop((ringM.view.loc (c : Thread nD τ) ↦[rowsR s 0 512]{fullShare} f) ∗ R) ⊢ wp frame (wpE defs 𝒱 (c : Thread nD τ) bd) Set.univ
      (.op (.load ringM (Rect.unit (s := S6x512x5120) off S1x512x1280.size inb).toLoadRect hl) kk) Q := by
  subst hoff
  iintro ⟨H, HR⟩
  iapply (wp_load_rect 𝒱 (c : Thread nD τ) bd Set.univ (show (ringM.access (Rect.unit (s := S6x512x5120) ![s.val, 0, k.val * 1280] S1x512x1280.size inb)).set ⊆ rowsR s 0 512 from by
    intro y hy
    obtain ⟨x, -, rfl⟩ := Finset.mem_map.1 hy
    refine Finset.mem_filter.2 ⟨Finset.mem_univ _, ?_⟩
    have h0 : (x 0).val < 1 := (x 0).isLt
    have h1 : (x 1).val < 512 := (x 1).isLt
    refine ⟨?_, ?_, ?_⟩
    · show s.val + 1 * (x 0).val = s.val
      omega
    · exact Nat.zero_le _
    · show 0 + 1 * (x 1).val < 0 + 512
      omega)) $$ H
  iintro H
  have e : (ringM.access (Rect.unit (s := S6x512x5120) ![s.val, 0, k.val * 1280] S1x512x1280.size inb)).read (Elt F) f = rq s k f := by
    funext x
    unfold rq
    show f _ = f _
    congr 1
    funext a
    have h0 : (x 0).val < 1 := (x 0).isLt
    match a with
    | ⟨0, _⟩ => exact Fin.ext (by show s.val + 1 * (x 0).val = s.val; omega)
    | ⟨1, _⟩ => exact Fin.ext (by show 0 + 1 * (x 1).val = (x 1).val; omega)
    | ⟨2, _⟩ => exact Fin.ext (by show k.val * 1280 + 1 * (x 2).val = k.val * 1280 + (x 2).val; omega)
  rw [e]
  iapply h
  isplitl [H]; · iexact H
  iexact HR
end

section
variable (c : Dev nD) (q : PosShare TreeShare)
variable {Λ : Labels} {defs : Defs nD τ sig (Elt F) Λ} {𝒱 : Variants} {bd : Option 𝒱.V}

theorem step_issueS (C : Scales (F := F)) (s : Fin 6) (b : Fin 12) (ch : Fin 8) {off off' : Fin 3 → ℕ} {offs : Fin 1 → ℕ} {inb inb' inbs}
    {hsrc hdst hsem} {α : Type} {Q : α → sProp 𝕄} {kk : PUnit → Prog (TpuEff nD τ sig (Elt F) Λ .tc) α} {R : sProp 𝕄}
    (hoff : off = ![s.val, 0, 0]) (hoff' : off' = ![b.val, 0, ch.val * 512]) (hoffs : offs = ![s.val])
    (h : iprop(BusyS c C q s b ch ∗ R) ⊢ wp frame (wpE defs 𝒱 (c : Thread nD τ) bd) Set.univ (kk ⟨⟩) Q) :
    iprop(FreeS c C q s ∗ R) ⊢ wp frame (wpE defs 𝒱 (c : Thread nD τ) bd) Set.univ
          (.op (.enqueueDmaAs (smslice off' inb') (.here (srslice off inb)) .same
            (.dma (((cc0_scratch5 : DmaSems sig S6).slice (Rect.unit (s := S6) offs S1.size inbs)).squeeze S_ squeezes_S1_S_).sem) hsrc hdst hsem) kk) Q := by
  iintro ⟨H, HR⟩
  iapply (wp_issueS c C q s b ch hoff hoff' hoffs) $$ H
  iintro H
  iapply h
  isplitl [H]; · iexact H
  iexact HR

theorem step_awaitS (C : Scales (F := F)) (s : Fin 6) (b : Fin 12) (ch : Fin 8) {off : Fin 3 → ℕ} {offs : Fin 1 → ℕ} {inb inbs}
    {sp' : Space} {s' : Shape} {e' : EltTy} {srcw : Memref sig .tc sp' s' e'}
    {hsrc hdst} {α : Type} {Q : α → sProp 𝕄} {kk : PUnit → Prog (TpuEff nD τ sig (Elt F) Λ .tc) α} {R : sProp 𝕄}
    (hoffs : offs = ![s.val])
    (h : iprop((LandedS c C q s b ch ∗ ∃ W, owes (c : Thread nD τ) 0 W) ∗ R) ⊢ wp frame (wpE defs 𝒱 (c : Thread nD τ) bd) Set.univ (kk ⟨⟩) Q) :
    iprop((BusyS c C q s b ch ∗ ∃ W, owes (c : Thread nD τ) 0 W) ∗ R) ⊢ wp frame (wpE defs 𝒱 (c : Thread nD τ) bd) Set.univ
          (.op (.waitDma2 (((cc0_scratch5 : DmaSems sig S6).slice (Rect.unit (s := S6) offs S1.size inbs)).squeeze S_ squeezes_S1_S_).sem
            srcw (srslice off inb) hsrc hdst) kk) Q := by
  iintro ⟨⟨H, %W, HO⟩, HR⟩
  iapply (wp_awaitS c C q s b ch (W := W) hoffs) $$ [H HO]
  · isplitl [H]; · iexact H
    iexact HO
  iintro H
  iapply h
  isplitl [H]; · iexact H
  iexact HR

theorem step_landed (C : Codes (F := F)) (s : Fin 6) (b : Fin 12) (ch : Fin 8) (u : ℕ) {G R : sProp 𝕄}
    (h : ∀ g : Ring (F := F), (∀ i ∈ rowsR s 0 (32 * u), g i = chunkE C b ch i) →
      iprop((ringM.view.loc (c : Thread nD τ) ↦[rowsR s 0 512]{fullShare} g) ∗ ((semVal ((c : Thread nD τ), SemLoc.dma (cellR s)) 0 : sProp 𝕄) ∗ codesM.view.loc (c : Thread nD τ) ↦{q} C) ∗ R) ⊢ G) :
    iprop(Landed c C q s b ch u ∗ R) ⊢ G := by
  unfold Landed
  iintro ⟨⟨Hs, ⟨%g, %hg, Hr⟩, Hc⟩, HR⟩
  iapply (h g hg)
  isplitl [Hr]; · iexact Hr
  isplitl [Hs Hc]
  · isplitl [Hs]; · iexact Hs
    iexact Hc
  iexact HR

theorem ring_free (C : Codes (F := F)) (s : Fin 6) (g : Ring (F := F)) :
    iprop((ringM.view.loc (c : Thread nD τ) ↦[rowsR s 0 512]{fullShare} g) ∗ ((semVal ((c : Thread nD τ), SemLoc.dma (cellR s)) 0 : sProp 𝕄) ∗ codesM.view.loc (c : Thread nD τ) ↦{q} C))
      ⊢ Free c C q s := by
  unfold Free
  iintro ⟨Hr, Hs, Hc⟩
  isplitl [Hs]; · iexact Hs
  isplitl [Hr]; · iexists g; iexact Hr
  iexact Hc
end

end Cert.KernelIdeal.Own
-- ==== Proof.Body.lean ====
/-
One trip of the kernel's main loop: the start of the job five ahead, the wait for the present job's
copies, the value row computed from them, and its store.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Slots

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

theorem cell12 (b : Fin 12) : ∀ a, (![b.val] : Fin 1 → ℕ) a + S1.size a ≤ S12.size a := by
  have := b.isLt
  intro a
  match a with
  | ⟨0, _⟩ => show b.val + 1 ≤ 12; omega
section
theorem pure_l {G R : sProp 𝕄} {φ : Prop} (h : φ → R ⊢ G) : iprop(⌜φ⌝ ∗ R) ⊢ G := by
  iintro ⟨%h0, HR⟩
  iapply (h h0)
  iexact HR
theorem retb (c : Dev nD) {Λ : Labels} {defs : Defs nD τ sig (Elt F) Λ} {𝒱 : Variants} {bd : Option 𝒱.V} {P : sProp 𝕄} {α β : Type} {Q : β → sProp 𝕄} {x : α} {k : α → Prog (TpuEff nD τ sig (Elt F) Λ .tc) β}
    (h : P ⊢ wp frame (wpE defs 𝒱 (c : Thread nD τ) bd) Set.univ (k x) Q) : P ⊢ wp frame (wpE defs 𝒱 (c : Thread nD τ) bd) Set.univ ((Prog.ret x).bind k) Q := h
theorem exl {α : Type} {G R : sProp 𝕄} {P : α → sProp 𝕄} (h : ∀ x, iprop(P x ∗ R) ⊢ G) : iprop((∃ x, P x) ∗ R) ⊢ G := by
  iintro ⟨⟨%x, H⟩, HR⟩
  iapply (h x)
  isplitl [H]; · iexact H
  iexact HR
theorem scol_free {G R : sProp 𝕄} (c : Dev nD) (q : PosShare TreeShare) (Sc : Scales (F := F)) (s : Fin 6) {f : SRing (F := F)} (h : iprop(FreeS c Sc q s ∗ R) ⊢ G) :
    iprop((sringM.view.loc (c : Thread nD τ) ↦[colsS s]{fullShare} f) ∗ (scalesM.view.loc (c : Thread nD τ) ↦{q} Sc) ∗ (semVal ((c : Thread nD τ), SemLoc.dma (cellS s)) 0 : sProp 𝕄) ∗ R) ⊢ G := by
  refine .trans ?_ h
  unfold FreeS
  iintro ⟨Hf, Hc, Hs, HR⟩
  isplitl [Hf Hc Hs]
  · isplitl [Hs]; · iexact Hs
    isplitl [Hf]; · iexists f; iexact Hf
    iexact Hc
  iexact HR
end

section
variable {L : S12.Idx → Elt F .i32} (hL : ∀ b, LenOK (at12 L b)) (t : Fin (k0_t1_loop (at12 L 0) (at12 L 1) (at12 L 2) (at12 L 3) (at12 L 4) (at12 L 5) (at12 L 6) (at12 L 7) (at12 L 8) (at12 L 9) (at12 L 10) (at12 L 11)).trips)
theorem sl_word (s : Fin 6) {x : BitVec 32} (h : x = BitVec.ofNat 32 s.val) : x.toNat = s.val := by
  rw [h, toNat_small (by have := s.isLt; omega)]
include hL
theorem slot_cell : k0_off116 (at12 L 0) (at12 L 1) (at12 L 2) (at12 L 3) (at12 L 4) (at12 L 5) (at12 L 6) (at12 L 7) (at12 L 8) (at12 L 9) (at12 L 10) (at12 L 11) t = ![(sl (t.val + 5)).val] := congrArg (fun n => ![n]) (sl_word _ (slot_word' hL t))
theorem slot_off : k0_off117 (at12 L 0) (at12 L 1) (at12 L 2) (at12 L 3) (at12 L 4) (at12 L 5) (at12 L 6) (at12 L 7) (at12 L 8) (at12 L 9) (at12 L 10) (at12 L 11) t = ![(sl (t.val + 5)).val, 0, 0] := congrArg (fun n => ![n, 0, 0]) (sl_word _ (slot_word' hL t))
theorem slot_cell' : k0_off136 (at12 L 0) (at12 L 1) (at12 L 2) (at12 L 3) (at12 L 4) (at12 L 5) (at12 L 6) (at12 L 7) (at12 L 8) (at12 L 9) (at12 L 10) (at12 L 11) t = ![(sl t.val).val] := congrArg (fun n => ![n]) (sl_word _ (slot_word hL t))
theorem slot_off' : k0_off139 (at12 L 0) (at12 L 1) (at12 L 2) (at12 L 3) (at12 L 4) (at12 L 5) (at12 L 6) (at12 L 7) (at12 L 8) (at12 L 9) (at12 L 10) (at12 L 11) t = ![(sl t.val).val, 0, 0] := congrArg (fun n => ![n, 0, 0]) (sl_word _ (slot_word hL t))
theorem rq_off0 : k0_off140 (at12 L 0) (at12 L 1) (at12 L 2) (at12 L 3) (at12 L 4) (at12 L 5) (at12 L 6) (at12 L 7) (at12 L 8) (at12 L 9) (at12 L 10) (at12 L 11) t = ![(sl t.val).val, 0, (0 : Fin 4).val * 1280] := congrArg (fun n => ![n, 0, 0]) (sl_word _ (slot_word hL t))
theorem rq_off1 : k0_off141 (at12 L 0) (at12 L 1) (at12 L 2) (at12 L 3) (at12 L 4) (at12 L 5) (at12 L 6) (at12 L 7) (at12 L 8) (at12 L 9) (at12 L 10) (at12 L 11) t = ![(sl t.val).val, 0, (1 : Fin 4).val * 1280] := congrArg (fun n => ![n, 0, 1280]) (sl_word _ (slot_word hL t))
theorem rq_off2 : k0_off142 (at12 L 0) (at12 L 1) (at12 L 2) (at12 L 3) (at12 L 4) (at12 L 5) (at12 L 6) (at12 L 7) (at12 L 8) (at12 L 9) (at12 L 10) (at12 L 11) t = ![(sl t.val).val, 0, (2 : Fin 4).val * 1280] := congrArg (fun n => ![n, 0, 2560]) (sl_word _ (slot_word hL t))
theorem rq_off3 : k0_off143 (at12 L 0) (at12 L 1) (at12 L 2) (at12 L 3) (at12 L 4) (at12 L 5) (at12 L 6) (at12 L 7) (at12 L 8) (at12 L 9) (at12 L 10) (at12 L 11) t = ![(sl t.val).val, 0, (3 : Fin 4).val * 1280] := congrArg (fun n => ![n, 0, 3840]) (sl_word _ (slot_word hL t))
theorem job_off {j : ℕ} (hj : j < nJ L) : k0_off118 (wB L j) (wC L j) = ![(jB L j).val, 0, (jC L j).val * 512] := by
  show ![(wB L j).toNat, 0, (Scalar.muli (wC L j) 512#32).toNat] = _
  rw [wB_eq hL hj, toNat_small (by have := (jB L j).isLt; omega), mul_toNat (wC_eq hL j)]
theorem entry_off {j : ℕ} (hj : j < nJ L) : k0_off120 (wB L j) = ![(jB L j).val] := by
  show ![(wB L j).toNat] = _
  rw [wB_eq hL hj, toNat_small (by have := (jB L j).isLt; omega)]
end
section
variable {L : S12.Idx → Elt F .i32}
theorem chk11_ok (hL : ∀ b, LenOK (at12 L b)) (t : Fin (k0_t1_loop (at12 L 0) (at12 L 1) (at12 L 2) (at12 L 3) (at12 L 4) (at12 L 5) (at12 L 6) (at12 L 7) (at12 L 8) (at12 L 9) (at12 L 10) (at12 L 11)).trips) : k0_chk11 (at12 L 0) (at12 L 1) (at12 L 2) (at12 L 3) (at12 L 4) (at12 L 5) (at12 L 6) (at12 L 7) (at12 L 8) (at12 L 9) (at12 L 10) (at12 L 11) t (wB L (t.val + 5)) := by
  have hn := nJ_bounds hL
  have ht : t.val < nJ L := lt_of_lt_of_eq t.isLt (trips1 hL)
  refine ⟨fun h => ?_, ?_⟩
  · have hj := (more_iff hL t).1 h
    exact len_bound (wB_eq hL hj)
  · have e : k0_off119 (wB L (t.val + 5)) = ![(jB L (t.val + 5)).val] := min_word hL (by omega)
    rw [e]
    exact cell12 _
theorem chk13_ok (hL : ∀ b, LenOK (at12 L b)) (t : Fin (k0_t1_loop (at12 L 0) (at12 L 1) (at12 L 2) (at12 L 3) (at12 L 4) (at12 L 5) (at12 L 6) (at12 L 7) (at12 L 8) (at12 L 9) (at12 L 10) (at12 L 11)).trips) : k0_chk13 (at12 L 0) (at12 L 1) (at12 L 2) (at12 L 3) (at12 L 4) (at12 L 5) (at12 L 6) (at12 L 7) (at12 L 8) (at12 L 9) (at12 L 10) (at12 L 11) t (wB L (t.val + 5)) (wC L (t.val + 5)) := by
  refine ⟨fun h => mul_dvd (wC_eq hL _), fun h => ?_⟩
  exact scales_bound (wB_eq hL ((more_iff hL t).1 h)) (wC_eq hL _)
theorem chk14_ok (hL : ∀ b, LenOK (at12 L b)) {j : ℕ} (hj : j < nJ L) : k0_chk14 (wB L j) := by
  have hn := nJ_bounds hL
  refine ⟨len_bound (wB_eq hL hj), ?_⟩
  have e : k0_off145 (wB L j) = ![(jB L j).val] := min_word hL (by omega)
  rw [e]
  exact cell12 _
theorem off144_eq (hL : ∀ b, LenOK (at12 L b)) {j : ℕ} (hj : j < nJ L) : k0_off144 (wB L j) (wC L j) = ![(jB L j).val, (jC L j).val * 512] := by
  show ![(wB L j).toNat, (Scalar.muli (wC L j) 512#32).toNat] = _
  rw [wB_eq hL hj, toNat_small (by have := (jB L j).isLt; omega), mul_toNat (wC_eq hL j)]
theorem row_bound (b : Fin 12) (ch : Fin 8) : ∀ a, (![b.val, ch.val * 512] : Fin 2 → ℕ) a + S1x512.size a ≤ S12x4096.size a := by
  have := b.isLt; have := ch.isLt
  intro a
  match a with
  | ⟨0, _⟩ => show b.val + 1 ≤ 12; omega
  | ⟨1, _⟩ => show ch.val * 512 + 512 ≤ 4096; omega
theorem chk16_ok (hL : ∀ b, LenOK (at12 L b)) {j : ℕ} (hj : j < nJ L) : k0_chk16 (wB L j) (wC L j) := by
  refine ⟨mul_dvd (wC_eq hL _), scales_bound (wB_eq hL hj) (wC_eq hL _), mul_dvd' (wC_eq hL _), ?_⟩
  rw [off144_eq hL hj]
  exact row_bound _ _
set_option maxHeartbeats 2000000 in
theorem chk15_ok (ls : Fin 12 → BitVec 32) (t : Fin (k0_t1_loop (ls 0) (ls 1) (ls 2) (ls 3) (ls 4) (ls 5) (ls 6) (ls 7) (ls 8) (ls 9) (ls 10) (ls 11)).trips) {bw cw : BitVec 32} (len : BitVec 32) {b : Fin 12} {ch : Fin 8} {s : Fin 6}
    (hs : Scalar.remsi (Scf.iv 0#32 1#32 t) 6#32 = BitVec.ofNat 32 s.val) (hb : bw = BitVec.ofNat 32 b.val) (hc : cw = BitVec.ofNat 32 ch.val) :
    k0_chk15 (ls 0) (ls 1) (ls 2) (ls 3) (ls 4) (ls 5) (ls 6) (ls 7) (ls 8) (ls 9) (ls 10) (ls 11) t bw cw len :=
  ⟨⟨fun h => posw_dvd len cw 0,
    fun h => addw_dvd len hc 0,
    fun h => cell_bound hs,
    fun h => ring_bound (k := 0) hs h,
    fun h => codes_bound (k := 0) hb hc h,
    fun h i => codes_words (k := 0) (bw := bw) (len := len) hc i,
    fun h i => ring_words (k := 0) (len := len) (cw := cw) (sw := _) i,
    fun h => posw_dvd len cw 1,
    fun h => addw_dvd len hc 1,
    fun h => cell_bound hs,
    fun h => ring_bound (k := 1) hs h,
    fun h => codes_bound (k := 1) hb hc h,
    fun h i => codes_words (k := 1) (bw := bw) (len := len) hc i,
    fun h i => ring_words (k := 1) (len := len) (cw := cw) (sw := _) i,
    fun h => posw_dvd len cw 2,
    fun h => addw_dvd len hc 2,
    fun h => cell_bound hs,
    fun h => ring_bound (k := 2) hs h,
    fun h => codes_bound (k := 2) hb hc h,
    fun h i => codes_words (k := 2) (bw := bw) (len := len) hc i,
    fun h i => ring_words (k := 2) (len := len) (cw := cw) (sw := _) i,
    fun h => posw_dvd len cw 3,
    fun h => addw_dvd len hc 3,
    fun h => cell_bound hs,
    fun h => ring_bound (k := 3) hs h,
    fun h => codes_bound (k := 3) hb hc h,
    fun h i => codes_words (k := 3) (bw := bw) (len := len) hc i,
    fun h i => ring_words (k := 3) (len := len) (cw := cw) (sw := _) i,
    fun h => posw_dvd len cw 4,
    fun h => addw_dvd len hc 4,
    fun h => cell_bound hs,
    fun h => ring_bound (k := 4) hs h⟩,
    ⟨fun h => codes_bound (k := 4) hb hc h,
    fun h i => codes_words (k := 4) (bw := bw) (len := len) hc i,
    fun h i => ring_words (k := 4) (len := len) (cw := cw) (sw := _) i⟩⟩
end

/-! ## The row a trip computes -/

/-- The chunk's scales, rounded. -/
def scale40 (S : S1x40x512.Idx → Elt F .f32) : FVec F S40x512 .f32 :=
  extf .f32 (truncf .bf16 (shapeCast S40x512 S shapeCasts_S1x40x512_S40x512) bitsLt_bf16_f32) bitsLt_bf16_f32
/-- Column group `g` of the weights against that of the tokens. -/
def part16 (W : FVec F S16x1280 .bf16) (G : S1x512x1280.Idx → Elt F .fp8e4m3) : FVec F S16x512 .f32 :=
  matmul dot_S16x1280_S512x1280_S16x512_1_1_0_0_n_n none W (shapeCast S512x1280 G shapeCasts_S1x512x1280_S512x1280) (constant S16x512 .f32 0x00000000#32)
/-- One column group of the weights buffer. -/
def wq0 (W : S16x5120.Idx → Elt F .bf16) : FVec F S16x1280 .bf16 := fun i => W ((Rect.unit (s := S16x5120) ![0, 0] S16x1280.size inb_S16x5120_S16x1280_0_0).emb i)
def wq1 (W : S16x5120.Idx → Elt F .bf16) : FVec F S16x1280 .bf16 := fun i => W ((Rect.unit (s := S16x5120) ![0, 1280] S16x1280.size inb_S16x5120_S16x1280_0_1280).emb i)
def wq2 (W : S16x5120.Idx → Elt F .bf16) : FVec F S16x1280 .bf16 := fun i => W ((Rect.unit (s := S16x5120) ![0, 2560] S16x1280.size inb_S16x5120_S16x1280_0_2560).emb i)
def wq3 (W : S16x5120.Idx → Elt F .bf16) : FVec F S16x1280 .bf16 := fun i => W ((Rect.unit (s := S16x5120) ![0, 3840] S16x1280.size inb_S16x5120_S16x1280_0_3840).emb i)
def lo16 (D : FVec F S16x512 .f32) : FVec F S8x512 .f32 := extractStridedSlice S8x512 ![0, 0] D slices_S16x512_o0_0_S8x512
def hi16 (D : FVec F S16x512 .f32) : FVec F S8x512 .f32 := extractStridedSlice S8x512 ![8, 0] D slices_S16x512_o8_0_S8x512
/-- The eight partial rows of the chunk. -/
def rows8 (D0 D1 D2 D3 : FVec F S16x512 .f32) (S : FVec F S40x512 .f32) : FVec F S8x512 .f32 :=
  addf (addf (addf (addf (broadcast S8x512 (Scalar.ofBits .f32 0x00000000#32))
    (addf (mulf (lo16 D0) (extractStridedSlice S8x512 ![0, 0] S slices_S40x512_o0_0_S8x512)) (mulf (hi16 D0) (extractStridedSlice S8x512 ![8, 0] S slices_S40x512_o8_0_S8x512))))
    (addf (mulf (lo16 D1) (extractStridedSlice S8x512 ![8, 0] S slices_S40x512_o8_0_S8x512)) (mulf (hi16 D1) (extractStridedSlice S8x512 ![16, 0] S slices_S40x512_o16_0_S8x512))))
    (addf (mulf (lo16 D2) (extractStridedSlice S8x512 ![16, 0] S slices_S40x512_o16_0_S8x512)) (mulf (hi16 D2) (extractStridedSlice S8x512 ![24, 0] S slices_S40x512_o24_0_S8x512))))
    (addf (mulf (lo16 D3) (extractStridedSlice S8x512 ![24, 0] S slices_S40x512_o24_0_S8x512)) (mulf (hi16 D3) (extractStridedSlice S8x512 ![32, 0] S slices_S40x512_o32_0_S8x512)))
/-- The row of dot products a trip computes. -/
def dotRow (W : S16x5120.Idx → Elt F .bf16) (s : Fin 6) (S : S1x40x512.Idx → Elt F .f32) (g : Ring (F := F)) : FVec F S512 .f32 :=
  multiReduction .add [0] S512 (rows8 (part16 (wq0 W) (rq s 0 g)) (part16 (wq1 W) (rq s 1 g)) (part16 (wq2 W) (rq s 2 g)) (part16 (wq3 W) (rq s 3 g)) (scale40 S)) 0x00000000#32 reduces_S8x512_S512 (.inl rfl) rfl
/-- The row of values a trip stores. -/
def rowOut (W : S16x5120.Idx → Elt F .bf16) (s : Fin 6) (S : S1x40x512.Idx → Elt F .f32) (g : Ring (F := F)) (w1 b1 : S1.Idx → Elt F .f32) : FVec F S1x512 .f32 :=
  k0_pay71 (dotRow W s S g) (w1 fst1) (b1 fst1)

theorem put_unit {s : Shape} {e : EltTy} {off off' : Fin s.rank → ℕ} {sz : Fin s.rank → ℕ} (h : off = off') {inb : ∀ a, off a + sz a ≤ s.size a} (inb' : ∀ a, off' a + sz a ≤ s.size a)
    (X : s.Idx → Elt F e) (w : (⟨s.rank, sz⟩ : Shape).Idx → Elt F e) : put (Rect.unit (s := s) off sz inb) X w = put (Rect.unit (s := s) off' sz inb') X w := by
  subst h
  rfl

section
variable (c : Dev nD) (C : Codes (F := F)) (Sc : Scales (F := F)) (qs qt : Fin 6 → PosShare TreeShare) (L : S12.Idx → Elt F .i32)

/-- What holds before trip `j` of the loop. -/
def Inv  (arg2 : Memref sig .tc .vmem S40x128 .fp8e4m3) (harg2 : arg2.IsWhole)   (arg3 : Memref sig .tc .smem S1 .f32) (harg3 : arg3.IsWhole)   (arg4 : Memref sig .tc .smem S1 .f32) (harg4 : arg4.IsWhole)   (arg5 : Memref sig .tc .vmem S12x4096 .bf16) (harg5 : arg5.IsWhole)   (arg6 : Memref sig .tc .vmem S12x4096 .bf16) (harg6 : arg6.IsWhole)   (arg7 : Memref sig .tc .smem S12 .f32) (harg7 : arg7.IsWhole)   (arg8 : Memref sig .tc .smem S12 .i32) (harg8 : arg8.IsWhole)   (arg9 : Memref sig .tc .vmem S12x4096 .f32) (harg9 : arg9.IsWhole)   (arg10 : Memref sig .tc .vmem S12x4096 .f32) (harg10 : arg10.IsWhole)   (arg11 : Memref sig .tc .vmem S12x4096 .f32) (harg11 : arg11.IsWhole) (qL q3 q4 : PosShare TreeShare) (W : S16x5120.Idx → Elt F .bf16) (w1 b1 : S1.Idx → Elt F .f32) (OK : ℕ → (S12x4096.Idx → Elt F .f32) → Prop) (R : sProp 𝕄)
    (j : ℕ) (a : BitVec 32 × BitVec 32 × BitVec 32 × BitVec 32) : sProp 𝕄 :=
  iprop(⌜a = (wB L j, wC L j, wB L (j + 5), wC L (j + 5))⌝ ∗ Slots c C Sc qs qt L (occ (nJ L) j) ∗ owns (c : Thread nD τ) arg8 qL L ∗ (∃ Ws, owes (c : Thread nD τ) 0 Ws)
    ∗ owns (c : Thread nD τ) wblkM fullShare W ∗ owns (c : Thread nD τ) arg3 q3 w1 ∗ owns (c : Thread nD τ) arg4 q4 b1 ∗ (∃ V, ⌜OK j V⌝ ∗ owns (c : Thread nD τ) valsM fullShare V) ∗ R)

set_option maxHeartbeats 4000000 in
/-- A trip of the loop takes the state before it to the state after it. -/
theorem body_spec {defs : Defs nD τ sig (Elt F) Λ₀} {𝒱 : Variants} {bd : Option 𝒱.V}  (arg2 : Memref sig .tc .vmem S40x128 .fp8e4m3) (harg2 : arg2.IsWhole)   (arg3 : Memref sig .tc .smem S1 .f32) (harg3 : arg3.IsWhole)   (arg4 : Memref sig .tc .smem S1 .f32) (harg4 : arg4.IsWhole)   (arg5 : Memref sig .tc .vmem S12x4096 .bf16) (harg5 : arg5.IsWhole)   (arg6 : Memref sig .tc .vmem S12x4096 .bf16) (harg6 : arg6.IsWhole)   (arg7 : Memref sig .tc .smem S12 .f32) (harg7 : arg7.IsWhole)   (arg8 : Memref sig .tc .smem S12 .i32) (harg8 : arg8.IsWhole)   (arg9 : Memref sig .tc .vmem S12x4096 .f32) (harg9 : arg9.IsWhole)   (arg10 : Memref sig .tc .vmem S12x4096 .f32) (harg10 : arg10.IsWhole)   (arg11 : Memref sig .tc .vmem S12x4096 .f32) (harg11 : arg11.IsWhole) (hL : ∀ b, LenOK (at12 L b)) (hw10)
    (t : Fin (k0_t1_loop (at12 L 0) (at12 L 1) (at12 L 2) (at12 L 3) (at12 L 4) (at12 L 5) (at12 L 6) (at12 L 7) (at12 L 8) (at12 L 9) (at12 L 10) (at12 L 11)).trips) (qL q3 q4 : PosShare TreeShare) (W : S16x5120.Idx → Elt F .bf16) (w1 b1 : S1.Idx → Elt F .f32) (OK : ℕ → (S12x4096.Idx → Elt F .f32) → Prop) (R : sProp 𝕄)
    (hOK : ∀ j, j < nJ L → ∀ V (g : Ring (F := F)), OK j V → (∀ i ∈ rowsR (sl j) 0 (32 * tu (at12 L (jB L j)) (wC L j)), g i = chunkE C (jB L j) (jC L j) i) →
      OK (j + 1) (put (Rect.unit (s := S12x4096) ![(jB L j).val, (jC L j).val * 512] S1x512.size (row_bound _ _)) V
        (rowOut W (sl j) (scol (sl j) (chunkS Sc (jB L j) (jC L j))) g w1 b1)))
    (v59 v122 v124 : BitVec 32) (v127 : FVec F S40x128 .f32) (v128 : IVec S16x128 32) (v471 : FVec F S16x128 .f32) (v473 : IVec S16x128 1) (v474 : FVec F S16x128 .f32) (a : BitVec 32 × BitVec 32 × BitVec 32 × BitVec 32) :
    Inv c C Sc qs qt L arg2 harg2 arg3 harg3 arg4 harg4 arg5 harg5 arg6 harg6 arg7 harg7 arg8 harg8 arg9 harg9 arg10 harg10 arg11 harg11 qL q3 q4 W w1 b1 OK R t.val a
      ⊢ wp frame (wpE defs 𝒱 (c : Thread nD τ) bd) Set.univ (Gen.k0_t1_body (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (at12 L 0) (at12 L 1) (at12 L 2) (at12 L 3) (at12 L 4) (at12 L 5) (at12 L 6) (at12 L 7) (at12 L 8) (at12 L 9) (at12 L 10) (at12 L 11) hw10 v59 v122 v124 v127 v128 v471 v473 v474 t a) (Inv c C Sc qs qt L arg2 harg2 arg3 harg3 arg4 harg4 arg5 harg5 arg6 harg6 arg7 harg7 arg8 harg8 arg9 harg9 arg10 harg10 arg11 harg11 qL q3 q4 W w1 b1 OK R (t.val + 1)) := by
  have ht : t.val < nJ L := lt_of_lt_of_eq t.isLt (trips1 hL)
  have hn := nJ_bounds hL
  unfold Inv
  refine pure_l fun ha => ?_
  subst ha
  refine conv (take c C Sc qs qt L _ (sl t.val)) (ungrp (swap2 ?_))
  rw [occ_here ht]
  refine conv (take c C Sc qs qt L _ (sl (t.val + 5))) (ungrp ?_)
  rw [occ_there]
  -- the idle slot, the others, the present job, the lengths
  refine bring4 (swap2 (grp ?_))
  unfold Gen.k0_t1_body
  refine step_bind c ?_
  unfold k0_part7
  refine step_assume c (chk16_ok hL ht) ?_
  refine step_assume c (chk14_ok hL ht) ?_
  refine step_assume c (chk13_ok hL t) ?_
  refine step_assume c (chk11_ok hL t) ?_
  refine step_if c (iprop(Slot c C Sc qs qt L (sl (t.val + 5)) (nx (nJ L) t.val) ∗ owns (c : Thread nD τ) arg8 qL L)) ?_ ?_ ?_
  · intro h31 hM
    have hj := (more_iff hL t).1 h31
    refine ungrp (conv (show Slot c C Sc qs qt L (sl (t.val + 5)) .idle ⊢ iprop(Free c C (qs (sl (t.val + 5))) (sl (t.val + 5)) ∗ FreeS c Sc (qt (sl (t.val + 5))) (sl (t.val + 5))) from .rfl) (ungrp ?_))
    refine step_upd c (free_issuing c C (qs (sl (t.val + 5))) (sl (t.val + 5)) (jB L (t.val + 5)) (jC L (t.val + 5)) (tu (at12 L (jB L (t.val + 5))) (wC L (t.val + 5))) (tu_lt _ _)) ?_
    refine bring3 ?_
    refine step_bind c ?_
    refine part6_spec c C (qs (sl (t.val + 5))) arg2 harg2 arg3 harg3 arg4 harg4 arg5 harg5 arg6 harg6 arg7 harg7 arg8 harg8 arg9 harg9 arg10 harg10 arg11 harg11 (at12 L) _ t _ _ h31 (slot_word' hL t) (wB_eq hL hj) (wC_eq hL _) ?_
    refine conv (issuing_done c C (qs (sl (t.val + 5))) (sl (t.val + 5)) (jB L (t.val + 5)) (jC L (t.val + 5)) ⟨tu (at12 L (jB L (t.val + 5))) (wC L (t.val + 5)), tu_lt _ _⟩) ?_
    refine bring3 ?_
    refine step_issueS c (qt (sl (t.val + 5))) Sc (sl (t.val + 5)) (jB L (t.val + 5)) (jC L (t.val + 5)) (slot_off hL t) (job_off hL hj) (slot_cell hL t) ?_
    refine .trans ?_ hM
    unfold nx
    rw [if_pos hj]
    iintro ⟨HB, HW, H8, HR⟩
    isplitl [HB HW H8]
    · isplitl [HB HW]
      · iapply (show iprop(Waiting c C (qs (sl (t.val + 5))) (sl (t.val + 5)) (jB L (t.val + 5)) (jC L (t.val + 5)) (tu (at12 L (jB L (t.val + 5))) (wC L (t.val + 5))) 0 ∗ BusyS c Sc (qt (sl (t.val + 5))) (sl (t.val + 5)) (jB L (t.val + 5)) (jC L (t.val + 5)))
          ⊢ Slot c C Sc qs qt L (sl (t.val + 5)) (.job (t.val + 5)) from .rfl)
        isplitl [HW]; · iexact HW
        iexact HB
      iexact H8
    iexact HR
  · intro h31
    have hj : ¬ t.val + 5 < nJ L := fun h => h31 ((more_iff hL t).2 h)
    unfold nx
    rw [if_neg hj]
  refine ungrp (bring3 ?_)
  refine grp (conv (give c C Sc qs qt L _ (sl (t.val + 5)) (nx (nJ L) t.val)) ?_)
  refine swap2 ?_
  refine step_entry c (jB L (t.val + 5)) (min_word hL (by omega)) ?_
  refine step_entry c (jB L t.val) (entry_off hL ht) ?_
  refine step_assume c (chk15_ok (at12 L) t _ (slot_word hL t) (wB_eq hL ht) (wC_eq hL _)) ?_
  -- the present job
  refine bring3 (conv (show Slot c C Sc qs qt L (sl t.val) (.job t.val) ⊢ iprop(Waiting c C (qs (sl t.val)) (sl t.val) (jB L t.val) (jC L t.val) (tu (at12 L (jB L t.val)) (wC L t.val)) 0
    ∗ BusyS c Sc (qt (sl t.val)) (sl t.val) (jB L t.val) (jC L t.val)) from .rfl) (ungrp ?_))
  refine bring5 (swap2 (grp ?_))
  refine step_await c C (qs (sl t.val)) 0 (sl t.val) (jB L t.val) (jC L t.val) (slot_word hL t) rfl rfl ?_
  refine step_ret c ?_
  refine step_bind c ?_
  unfold k0_part8
  refine step_await c C (qs (sl t.val)) 1 (sl t.val) (jB L t.val) (jC L t.val) (slot_word hL t) rfl rfl ?_
  refine step_await c C (qs (sl t.val)) 2 (sl t.val) (jB L t.val) (jC L t.val) (slot_word hL t) rfl rfl ?_
  refine step_await c C (qs (sl t.val)) 3 (sl t.val) (jB L t.val) (jC L t.val) (slot_word hL t) rfl rfl ?_
  refine step_await c C (qs (sl t.val)) 4 (sl t.val) (jB L t.val) (jC L t.val) (slot_word hL t) rfl rfl ?_
  refine ungrp (step_upd c (waiting_landed c C (qs (sl t.val)) (sl t.val) (jB L t.val) (jC L t.val) ⟨tu (at12 L (jB L t.val)) (wC L t.val), tu_lt _ _⟩) ?_)
  refine bring3 (bring3 (swap2 (grp ?_)))
  refine step_awaitS c (qt (sl t.val)) Sc (sl t.val) (jB L t.val) (jC L t.val) (slot_cell' hL t) ?_
  refine ungrp ?_
  unfold LandedS
  refine ungrp (swap2 (ungrp ?_))
  refine step_scol c (sl t.val) (slot_off' hL t) ?_
  refine scol_free c (qt (sl t.val)) Sc (sl t.val) ?_
  refine bring3 ?_
  refine step_landed c (qs (sl t.val)) C (sl t.val) (jB L t.val) (jC L t.val) _ ?_
  intro g hg
  refine bring7 (step_load c (swap2 ?_))
  refine step_rq c (sl t.val) 0 (rq_off0 hL t) ?_
  refine step_ret c ?_
  refine step_bind c ?_
  unfold k0_part9
  refine swap2 (step_load c (swap2 ?_))
  refine step_rq c (sl t.val) 1 (rq_off1 hL t) ?_
  refine swap2 (step_load c (swap2 ?_))
  refine step_rq c (sl t.val) 2 (rq_off2 hL t) ?_
  refine swap2 (step_load c (swap2 ?_))
  refine step_rq c (sl t.val) 3 (rq_off3 hL t) ?_
  refine step_ret c ?_
  refine bring3 (swap2 (grp (conv (ring_free c (qs (sl t.val)) C (sl t.val) g) ?_)))
  refine bring3 (swap2 (grp ?_))
  refine bring5 (grp (conv (give c C Sc qs qt L _ (sl t.val) .idle) ?_))
  rw [occ_next ht]
  refine bring5 (step_one c ?_)
  refine bring6 (step_one c ?_)
  refine bring7 (exl fun V => ungrp (pure_l fun hV => ?_))
  refine step_load c (step_store c ?_)
  refine bring7 ?_
  refine retb c ?_
  refine step_entry c (jB L t.val) (min_word hL (by omega)) ?_
  refine step_ret c ?_
  have e1 := step_words hL t.val
  have e2 := step_words hL (t.val + 5)
  rw [show t.val + 5 + 1 = t.val + 1 + 5 by omega] at e2
  iintro ⟨H8, HV, H4, H3, HS, HW, HO, HR⟩
  isplitr
  · ipureintro
    exact Prod.ext e1.1 (Prod.ext e1.2 (Prod.ext e2.1 e2.2))
  isplitl [HS]; · iexact HS
  isplitl [H8]; · iexact H8
  isplitl [HO]; · iexact HO
  isplitl [HW]; · iexact HW
  isplitl [H3]; · iexact H3
  isplitl [H4]; · iexact H4
  isplitl [HV]
  · iexists _
    isplitr
    · ipureintro
      have := hOK t.val ht V g hV hg
      rw [← put_unit (off144_eq hL ht) (inb := k0_off144_inb _ _ (chk16_ok hL ht))] at this
      exact this
    iexact HV
  iexact HR
end

end Cert.KernelIdeal.Own
-- ==== Proof.Post.lean ====
/-
  The last part of the body: what it holds, and its memory operations over that. The masked values
  are stored block of columns by block of columns from the last one down; of everything else that
  part reads and writes only the ownership is kept.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Body

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section
/-- The number of each element's row, and of its column. -/
abbrev rowI : IVec S12x128 32 := iota .tc S12x128 32 [0] iota_S12x128_d0_w32
abbrev colI : IVec S12x128 32 := iota .tc S12x128 32 [1] iota_S12x128_d1_w32
/-- One more row's length set in a block of lengths. -/
abbrev lensS (L : S12.Idx → Elt F .i32) (b : Fin 12) (P : IVec S12x128 32) : IVec S12x128 32 :=
  select (cmpi .eq rowI (broadcast S12x128 (BitVec.ofNat 32 b.val))) (broadcast S12x128 (at12 L b)) P
def lens1 (L : S12.Idx → Elt F .i32) : IVec S12x128 32 := lensS L 0 (broadcast S12x128 0#32)
def lens4 (L : S12.Idx → Elt F .i32) : IVec S12x128 32 := lensS L 3 (lensS L 2 (lensS L 1 (lens1 L)))
def lens8 (L : S12.Idx → Elt F .i32) : IVec S12x128 32 := lensS L 7 (lensS L 6 (lensS L 5 (lensS L 4 (lens4 L))))
def lens11 (L : S12.Idx → Elt F .i32) : IVec S12x128 32 := lensS L 10 (lensS L 9 (lensS L 8 (lens8 L)))
/-- The block that holds in each row that row's length. -/
def lens12 (L : S12.Idx → Elt F .i32) : IVec S12x128 32 := lensS L 11 (lens11 L)
/-- The columns of block `k`. -/
abbrev vcolI (k : Fin 32) : IVec S12x128 32 := addi colI (broadcast S12x128 (BitVec.ofNat 32 (128 * k.val)))
/-- Which elements of block `k` are before their row's end. -/
abbrev vmask (L : S12.Idx → Elt F .i32) (k : Fin 32) : IVec S12x128 1 := cmpi .slt (vcolI k) (lens12 L)
theorem vrect_ok (k : Fin 32) : ∀ a, (![0, 128 * k.val] : Fin 2 → ℕ) a + S12x128.size a ≤ S12x4096.size a := by
  have := k.isLt
  intro a
  match a with
  | ⟨0, _⟩ => show 0 + 12 ≤ 12; omega
  | ⟨1, _⟩ => show 128 * k.val + 128 ≤ 4096; omega
abbrev vrect (k : Fin 32) : Rect S12x4096 := Rect.unit ![0, 128 * k.val] S12x128.size (vrect_ok k)
/-- Block `k` of the raw values. -/
def vcol (V : S12x4096.Idx → Elt F .f32) (k : Fin 32) : Vec F S12x128 .f32 := fun i => V ((vrect k).emb i)
/-- Block `k` of the masked values. -/
abbrev vblk (L : S12.Idx → Elt F .i32) (V : S12x4096.Idx → Elt F .f32) (k : Fin 32) : Vec F S12x128 .f32 :=
  select (vmask L k) (vcol V k) (broadcast S12x128 (Scalar.ofBits .f32 0x00000000#32 : F .f32))
/-- From block `k` on, the array holds the masked values. -/
def OV (L : S12.Idx → Elt F .i32) (V : S12x4096.Idx → Elt F .f32) (k : ℕ) (X : S12x4096.Idx → Elt F .f32) : Prop :=
  ∀ (j : Fin 32), k ≤ j.val → ∀ i : S12x128.Idx, X ((vrect j).emb i) = vblk L V j i
theorem vrect_sep {j k : Fin 32} (h : k ≠ j) (x : (vrect k).shape.Idx) (i : S12x128.Idx) : (vrect k).emb x ≠ (vrect j).emb i := by
  intro e
  have h1 : ((vrect k).emb x 1).val = ((vrect j).emb i 1).val := by rw [e]
  have h2 : 128 * k.val + 1 * (x 1).val = 128 * j.val + 1 * (i 1).val := h1
  have h3 : (x 1).val < 128 := (x 1).isLt
  have h4 : (i 1).val < 128 := (i 1).isLt
  exact h (Fin.ext (by omega))
theorem ov_put {L : S12.Idx → Elt F .i32} {V X : S12x4096.Idx → Elt F .f32} {k : Fin 32} {off : Fin 2 → ℕ} (hoff : off = ![0, 128 * k.val])
    {inb : ∀ a, off a + S12x128.size a ≤ S12x4096.size a}
    (h : OV L V (k.val + 1) X) : OV L V k.val (put (Rect.unit (s := S12x4096) off S12x128.size inb) X (vblk L V k)) := by
  subst hoff
  intro j hj i
  by_cases e : k = j
  · subst e
    exact put_emb (vrect k) X _ i
  · rw [put_out (vrect k) X _ fun ⟨x, hx⟩ => vrect_sep e x i hx]
    exact h j (by have : k.val ≠ j.val := fun e' => e (Fin.ext e'); omega) i

/-- What the last part of the body holds: the masked values stored from block `k` on. -/
def ST (c : Dev nD) (arg5 : Memref sig .tc .vmem S12x4096 .bf16) (arg6 : Memref sig .tc .vmem S12x4096 .bf16) (arg7 : Memref sig .tc .smem S12 .f32) (arg8 : Memref sig .tc .smem S12 .i32)
    (arg9 arg10 arg11 : Memref sig .tc .vmem S12x4096 .f32) (q5 q6 q7 q8 : PosShare TreeShare) (X5 X6 : S12x4096.Idx → Elt F .bf16) (X7 : S12.Idx → Elt F .f32) (L : S12.Idx → Elt F .i32) (V : S12x4096.Idx → Elt F .f32) (R : sProp 𝕄) (k : ℕ) : sProp 𝕄 :=
  iprop(owns (c : Thread nD τ) arg8 q8 L ∗ owns (c : Thread nD τ) valsM fullShare V ∗ (∃ X, ⌜OV L V k X⌝ ∗ owns (c : Thread nD τ) arg9 fullShare X)
    ∗ owns (c : Thread nD τ) arg5 q5 X5 ∗ owns (c : Thread nD τ) arg6 q6 X6 ∗ owns (c : Thread nD τ) arg7 q7 X7
    ∗ (∃ X, owns (c : Thread nD τ) arg10 fullShare X) ∗ (∃ X, owns (c : Thread nD τ) arg11 fullShare X) ∗ R)

variable {c : Dev nD} {arg5 : Memref sig .tc .vmem S12x4096 .bf16} {arg6 : Memref sig .tc .vmem S12x4096 .bf16} {arg7 : Memref sig .tc .smem S12 .f32} {arg8 : Memref sig .tc .smem S12 .i32}
    {arg9 arg10 arg11 : Memref sig .tc .vmem S12x4096 .f32} {q5 q6 q7 q8 : PosShare TreeShare} {X5 X6 : S12x4096.Idx → Elt F .bf16} {X7 : S12.Idx → Elt F .f32} {L : S12.Idx → Elt F .i32} {V : S12x4096.Idx → Elt F .f32} {k : ℕ}
    {Λ : Labels} {defs : Defs nD τ sig (Elt F) Λ} {𝒱 : Variants} {bd : Option 𝒱.V} {α : Type} {Q : α → sProp (MT nD τ sig Unit (Elt F) ℕ (Pipeline.UD sig nD τ) ℕ)}
theorem ld5 {R : sProp 𝕄} {r : Rect S12x4096} {hl : arg5.view.LoadsAt r.toLoadRect} {kk : (r.shape.Idx → Elt F .bf16) → Prog (TpuEff nD τ sig (Elt F) Λ .tc) α}
    (h : ∀ w, ST c arg5 arg6 arg7 arg8 arg9 arg10 arg11 q5 q6 q7 q8 X5 X6 X7 L V R k ⊢ wp frame (wpE defs 𝒱 (c : Thread nD τ) bd) Set.univ (kk w) Q) : ST c arg5 arg6 arg7 arg8 arg9 arg10 arg11 q5 q6 q7 q8 X5 X6 X7 L V R k ⊢ wp frame (wpE defs 𝒱 (c : Thread nD τ) bd) Set.univ (.op (.load arg5 r.toLoadRect hl) kk) Q := by
  unfold ST
  iintro ⟨H8, HV, ⟨%X9, %hX, H9⟩, H5, H6, H7, H10, H11, HR⟩
  iapply (wp_load_own c) $$ H5
  iintro H5
  iapply (show _ ⊢ _ from h _)
  · unfold ST
    isplitl [H8]; · iexact H8
    isplitl [HV]; · iexact HV
    isplitl [H9]
    · iexists _
      isplitr; · ipureintro; first | exact hX | exact ov_put hk (inb := inb) hX
      iexact H9
    isplitl [H5]; · iexact H5
    isplitl [H6]; · iexact H6
    isplitl [H7]; · iexact H7
    isplitl [H10]; · iexact H10
    isplitl [H11]; · iexact H11
    iexact HR
theorem ld6 {R : sProp 𝕄} {r : Rect S12x4096} {hl : arg6.view.LoadsAt r.toLoadRect} {kk : (r.shape.Idx → Elt F .bf16) → Prog (TpuEff nD τ sig (Elt F) Λ .tc) α}
    (h : ∀ w, ST c arg5 arg6 arg7 arg8 arg9 arg10 arg11 q5 q6 q7 q8 X5 X6 X7 L V R k ⊢ wp frame (wpE defs 𝒱 (c : Thread nD τ) bd) Set.univ (kk w) Q) : ST c arg5 arg6 arg7 arg8 arg9 arg10 arg11 q5 q6 q7 q8 X5 X6 X7 L V R k ⊢ wp frame (wpE defs 𝒱 (c : Thread nD τ) bd) Set.univ (.op (.load arg6 r.toLoadRect hl) kk) Q := by
  unfold ST
  iintro ⟨H8, HV, ⟨%X9, %hX, H9⟩, H5, H6, H7, H10, H11, HR⟩
  iapply (wp_load_own c) $$ H6
  iintro H6
  iapply (show _ ⊢ _ from h _)
  · unfold ST
    isplitl [H8]; · iexact H8
    isplitl [HV]; · iexact HV
    isplitl [H9]
    · iexists _
      isplitr; · ipureintro; first | exact hX | exact ov_put hk (inb := inb) hX
      iexact H9
    isplitl [H5]; · iexact H5
    isplitl [H6]; · iexact H6
    isplitl [H7]; · iexact H7
    isplitl [H10]; · iexact H10
    isplitl [H11]; · iexact H11
    iexact HR
theorem ld10 {R : sProp 𝕄} {r : Rect S12x4096} {hl : arg10.view.LoadsAt r.toLoadRect} {kk : (r.shape.Idx → Elt F .f32) → Prog (TpuEff nD τ sig (Elt F) Λ .tc) α}
    (h : ∀ w, ST c arg5 arg6 arg7 arg8 arg9 arg10 arg11 q5 q6 q7 q8 X5 X6 X7 L V R k ⊢ wp frame (wpE defs 𝒱 (c : Thread nD τ) bd) Set.univ (kk w) Q) : ST c arg5 arg6 arg7 arg8 arg9 arg10 arg11 q5 q6 q7 q8 X5 X6 X7 L V R k ⊢ wp frame (wpE defs 𝒱 (c : Thread nD τ) bd) Set.univ (.op (.load arg10 r.toLoadRect hl) kk) Q := by
  unfold ST
  iintro ⟨H8, HV, ⟨%X9, %hX, H9⟩, H5, H6, H7, H10, H11, HR⟩
  iapply (wp_load_some c) $$ H10
  iintro %w H10
  iapply (show _ ⊢ _ from h w)
  · unfold ST
    isplitl [H8]; · iexact H8
    isplitl [HV]; · iexact HV
    isplitl [H9]
    · iexists _
      isplitr; · ipureintro; first | exact hX | exact ov_put hk (inb := inb) hX
      iexact H9
    isplitl [H5]; · iexact H5
    isplitl [H6]; · iexact H6
    isplitl [H7]; · iexact H7
    isplitl [H10]; · iexact H10
    isplitl [H11]; · iexact H11
    iexact HR
theorem ld11 {R : sProp 𝕄} {r : Rect S12x4096} {hl : arg11.view.LoadsAt r.toLoadRect} {kk : (r.shape.Idx → Elt F .f32) → Prog (TpuEff nD τ sig (Elt F) Λ .tc) α}
    (h : ∀ w, ST c arg5 arg6 arg7 arg8 arg9 arg10 arg11 q5 q6 q7 q8 X5 X6 X7 L V R k ⊢ wp frame (wpE defs 𝒱 (c : Thread nD τ) bd) Set.univ (kk w) Q) : ST c arg5 arg6 arg7 arg8 arg9 arg10 arg11 q5 q6 q7 q8 X5 X6 X7 L V R k ⊢ wp frame (wpE defs 𝒱 (c : Thread nD τ) bd) Set.univ (.op (.load arg11 r.toLoadRect hl) kk) Q := by
  unfold ST
  iintro ⟨H8, HV, ⟨%X9, %hX, H9⟩, H5, H6, H7, H10, H11, HR⟩
  iapply (wp_load_some c) $$ H11
  iintro %w H11
  iapply (show _ ⊢ _ from h w)
  · unfold ST
    isplitl [H8]; · iexact H8
    isplitl [HV]; · iexact HV
    isplitl [H9]
    · iexists _
      isplitr; · ipureintro; first | exact hX | exact ov_put hk (inb := inb) hX
      iexact H9
    isplitl [H5]; · iexact H5
    isplitl [H6]; · iexact H6
    isplitl [H7]; · iexact H7
    isplitl [H10]; · iexact H10
    isplitl [H11]; · iexact H11
    iexact HR
theorem st10 {R : sProp 𝕄} {r : Rect S12x4096} {w : r.shape.Idx → Elt F .f32} {hx : (arg10.access r).Stores Finset.univ}
    {hm : (Finset.univ : Finset r.shape.Idx) = Finset.univ ∨ ∀ a, r.stride a = 1} {kk : PUnit → Prog (TpuEff nD τ sig (Elt F) Λ .tc) α}
    (h : ST c arg5 arg6 arg7 arg8 arg9 arg10 arg11 q5 q6 q7 q8 X5 X6 X7 L V R k ⊢ wp frame (wpE defs 𝒱 (c : Thread nD τ) bd) Set.univ (kk ⟨⟩) Q) : ST c arg5 arg6 arg7 arg8 arg9 arg10 arg11 q5 q6 q7 q8 X5 X6 X7 L V R k ⊢ wp frame (wpE defs 𝒱 (c : Thread nD τ) bd) Set.univ (.op (.store arg10 r w Finset.univ hx hm) kk) Q := by
  unfold ST
  iintro ⟨H8, HV, ⟨%X9, %hX, H9⟩, H5, H6, H7, H10, H11, HR⟩
  iapply (wp_store_some c) $$ H10
  iintro H10
  iapply (show _ ⊢ _ from h)
  · unfold ST
    isplitl [H8]; · iexact H8
    isplitl [HV]; · iexact HV
    isplitl [H9]
    · iexists _
      isplitr; · ipureintro; first | exact hX | exact ov_put hk (inb := inb) hX
      iexact H9
    isplitl [H5]; · iexact H5
    isplitl [H6]; · iexact H6
    isplitl [H7]; · iexact H7
    isplitl [H10]; · iexact H10
    isplitl [H11]; · iexact H11
    iexact HR
theorem st11 {R : sProp 𝕄} {r : Rect S12x4096} {w : r.shape.Idx → Elt F .f32} {hx : (arg11.access r).Stores Finset.univ}
    {hm : (Finset.univ : Finset r.shape.Idx) = Finset.univ ∨ ∀ a, r.stride a = 1} {kk : PUnit → Prog (TpuEff nD τ sig (Elt F) Λ .tc) α}
    (h : ST c arg5 arg6 arg7 arg8 arg9 arg10 arg11 q5 q6 q7 q8 X5 X6 X7 L V R k ⊢ wp frame (wpE defs 𝒱 (c : Thread nD τ) bd) Set.univ (kk ⟨⟩) Q) : ST c arg5 arg6 arg7 arg8 arg9 arg10 arg11 q5 q6 q7 q8 X5 X6 X7 L V R k ⊢ wp frame (wpE defs 𝒱 (c : Thread nD τ) bd) Set.univ (.op (.store arg11 r w Finset.univ hx hm) kk) Q := by
  unfold ST
  iintro ⟨H8, HV, ⟨%X9, %hX, H9⟩, H5, H6, H7, H10, H11, HR⟩
  iapply (wp_store_some c) $$ H11
  iintro H11
  iapply (show _ ⊢ _ from h)
  · unfold ST
    isplitl [H8]; · iexact H8
    isplitl [HV]; · iexact HV
    isplitl [H9]
    · iexists _
      isplitr; · ipureintro; first | exact hX | exact ov_put hk (inb := inb) hX
      iexact H9
    isplitl [H5]; · iexact H5
    isplitl [H6]; · iexact H6
    isplitl [H7]; · iexact H7
    isplitl [H10]; · iexact H10
    isplitl [H11]; · iexact H11
    iexact HR
theorem ld9 {R : sProp 𝕄} {r : Rect S12x4096} {hl : arg9.view.LoadsAt r.toLoadRect} {kk : (r.shape.Idx → Elt F .f32) → Prog (TpuEff nD τ sig (Elt F) Λ .tc) α}
    (h : ∀ w, ST c arg5 arg6 arg7 arg8 arg9 arg10 arg11 q5 q6 q7 q8 X5 X6 X7 L V R k ⊢ wp frame (wpE defs 𝒱 (c : Thread nD τ) bd) Set.univ (kk w) Q) : ST c arg5 arg6 arg7 arg8 arg9 arg10 arg11 q5 q6 q7 q8 X5 X6 X7 L V R k ⊢ wp frame (wpE defs 𝒱 (c : Thread nD τ) bd) Set.univ (.op (.load arg9 r.toLoadRect hl) kk) Q := by
  unfold ST
  iintro ⟨H8, HV, ⟨%X9, %hX, H9⟩, H5, H6, H7, H10, H11, HR⟩
  iapply (wp_load_own c) $$ H9
  iintro H9
  iapply (show _ ⊢ _ from h _)
  · unfold ST
    isplitl [H8]; · iexact H8
    isplitl [HV]; · iexact HV
    isplitl [H9]
    · iexists _
      isplitr; · ipureintro; first | exact hX | exact ov_put hk (inb := inb) hX
      iexact H9
    isplitl [H5]; · iexact H5
    isplitl [H6]; · iexact H6
    isplitl [H7]; · iexact H7
    isplitl [H10]; · iexact H10
    isplitl [H11]; · iexact H11
    iexact HR
theorem st9 {R : sProp 𝕄} (k : Fin 32) {off : Fin 2 → ℕ} (hk : off = ![0, 128 * k.val]) {inb : ∀ a, off a + S12x128.size a ≤ S12x4096.size a}
    {hx : (arg9.access (Rect.unit (s := S12x4096) off S12x128.size inb)).Stores Finset.univ}
    {hm : (Finset.univ : Finset (Rect.unit (s := S12x4096) off S12x128.size inb).shape.Idx) = Finset.univ ∨ ∀ a, (Rect.unit (s := S12x4096) off S12x128.size inb).stride a = 1} {kk : PUnit → Prog (TpuEff nD τ sig (Elt F) Λ .tc) α}
    (h : ST c arg5 arg6 arg7 arg8 arg9 arg10 arg11 q5 q6 q7 q8 X5 X6 X7 L V R k.val ⊢ wp frame (wpE defs 𝒱 (c : Thread nD τ) bd) Set.univ (kk ⟨⟩) Q) :
    ST c arg5 arg6 arg7 arg8 arg9 arg10 arg11 q5 q6 q7 q8 X5 X6 X7 L V R (k.val + 1) ⊢ wp frame (wpE defs 𝒱 (c : Thread nD τ) bd) Set.univ (.op (.store arg9 (Rect.unit (s := S12x4096) off S12x128.size inb) (vblk L V k) Finset.univ hx hm) kk) Q := by
  unfold ST
  iintro ⟨H8, HV, ⟨%X9, %hX, H9⟩, H5, H6, H7, H10, H11, HR⟩
  iapply (wp_store_own c) $$ H9
  iintro H9
  iapply (show _ ⊢ _ from h)
  · unfold ST
    isplitl [H8]; · iexact H8
    isplitl [HV]; · iexact HV
    isplitl [H9]
    · iexists _
      isplitr; · ipureintro; first | exact hX | exact ov_put hk (inb := inb) hX
      iexact H9
    isplitl [H5]; · iexact H5
    isplitl [H6]; · iexact H6
    isplitl [H7]; · iexact H7
    isplitl [H10]; · iexact H10
    isplitl [H11]; · iexact H11
    iexact HR
theorem ldV {R : sProp 𝕄} (j : Fin 32) {off : Fin 2 → ℕ} (hk : off = ![0, 128 * j.val]) {inb : ∀ a, off a + S12x128.size a ≤ S12x4096.size a}
    {hl : (valsM : Memref sig .tc .vmem S12x4096 .f32).view.LoadsAt (Rect.unit (s := S12x4096) off S12x128.size inb).toLoadRect} {kk : ((Rect.unit (s := S12x4096) off S12x128.size inb).shape.Idx → Elt F .f32) → Prog (TpuEff nD τ sig (Elt F) Λ .tc) α}
    (h : ST c arg5 arg6 arg7 arg8 arg9 arg10 arg11 q5 q6 q7 q8 X5 X6 X7 L V R k ⊢ wp frame (wpE defs 𝒱 (c : Thread nD τ) bd) Set.univ (kk (vcol V j)) Q) : ST c arg5 arg6 arg7 arg8 arg9 arg10 arg11 q5 q6 q7 q8 X5 X6 X7 L V R k ⊢ wp frame (wpE defs 𝒱 (c : Thread nD τ) bd) Set.univ (.op (.load valsM (Rect.unit (s := S12x4096) off S12x128.size inb).toLoadRect hl) kk) Q := by
  subst hk
  unfold ST
  iintro ⟨H8, HV, ⟨%X9, %hX, H9⟩, H5, H6, H7, H10, H11, HR⟩
  iapply (wp_load_own c) $$ HV
  iintro HV
  iapply (show _ ⊢ _ from h)
  · unfold ST
    isplitl [H8]; · iexact H8
    isplitl [HV]; · iexact HV
    isplitl [H9]
    · iexists _
      isplitr; · ipureintro; first | exact hX | exact ov_put hk (inb := inb) hX
      iexact H9
    isplitl [H5]; · iexact H5
    isplitl [H6]; · iexact H6
    isplitl [H7]; · iexact H7
    isplitl [H10]; · iexact H10
    isplitl [H11]; · iexact H11
    iexact HR
theorem ld8 {R : sProp 𝕄} (b : Fin 12) {off : Fin 1 → ℕ} (hoff : off = ![b.val]) {inb : ∀ a, off a + S1.size a ≤ S12.size a}
    {h1 : (Rect.unit (s := S12) off S1.size inb).shape.numel = 1} {hp : EltTy.i32.packing = 1} {kk : Elt F .i32 → Prog (TpuEff nD τ sig (Elt F) Λ .tc) α}
    (h : ST c arg5 arg6 arg7 arg8 arg9 arg10 arg11 q5 q6 q7 q8 X5 X6 X7 L V R k ⊢ wp frame (wpE defs 𝒱 (c : Thread nD τ) bd) Set.univ (kk (at12 L b)) Q) : ST c arg5 arg6 arg7 arg8 arg9 arg10 arg11 q5 q6 q7 q8 X5 X6 X7 L V R k ⊢ wp frame (wpE defs 𝒱 (c : Thread nD τ) bd) Set.univ (smemLoad arg8 (Rect.unit (s := S12) off S1.size inb) h1 hp >>= kk) Q := by
  show _ ⊢ wp frame (wpE defs 𝒱 (c : Thread nD τ) bd) Set.univ (smemLoadElt arg8 (Rect.unit (s := S12) off S1.size inb) (View.loads_smem_one hp h1) (Shape.Idx.first (h1.symm ▸ Nat.one_pos)) kk) Q
  unfold ST
  iintro ⟨H8, HV, ⟨%X9, %hX, H9⟩, H5, H6, H7, H10, H11, HR⟩
  iapply (wp_entry c b hoff (inb := inb) (h1 := h1) (hp := hp)) $$ H8
  iintro H8
  iapply (show _ ⊢ _ from h)
  · unfold ST
    isplitl [H8]; · iexact H8
    isplitl [HV]; · iexact HV
    isplitl [H9]
    · iexists _
      isplitr; · ipureintro; first | exact hX | exact ov_put hk (inb := inb) hX
      iexact H9
    isplitl [H5]; · iexact H5
    isplitl [H6]; · iexact H6
    isplitl [H7]; · iexact H7
    isplitl [H10]; · iexact H10
    isplitl [H11]; · iexact H11
    iexact HR
theorem ld7 {R : sProp 𝕄} {r : Rect S12} {h1 : r.shape.numel = 1} {hp : EltTy.f32.packing = 1} {kk : Elt F .f32 → Prog (TpuEff nD τ sig (Elt F) Λ .tc) α}
    (h : ∀ w, ST c arg5 arg6 arg7 arg8 arg9 arg10 arg11 q5 q6 q7 q8 X5 X6 X7 L V R k ⊢ wp frame (wpE defs 𝒱 (c : Thread nD τ) bd) Set.univ (kk w) Q) : ST c arg5 arg6 arg7 arg8 arg9 arg10 arg11 q5 q6 q7 q8 X5 X6 X7 L V R k ⊢ wp frame (wpE defs 𝒱 (c : Thread nD τ) bd) Set.univ (smemLoad arg7 r h1 hp >>= kk) Q := by
  show _ ⊢ wp frame (wpE defs 𝒱 (c : Thread nD τ) bd) Set.univ (smemLoadElt arg7 r (View.loads_smem_one hp h1) (Shape.Idx.first (h1.symm ▸ Nat.one_pos)) kk) Q
  unfold ST
  iintro ⟨H8, HV, ⟨%X9, %hX, H9⟩, H5, H6, H7, H10, H11, HR⟩
  iapply (wp_load_own c) $$ H7
  iintro H7
  iapply (show _ ⊢ _ from h _)
  · unfold ST
    isplitl [H8]; · iexact H8
    isplitl [HV]; · iexact HV
    isplitl [H9]
    · iexists _
      isplitr; · ipureintro; first | exact hX | exact ov_put hk (inb := inb) hX
      iexact H9
    isplitl [H5]; · iexact H5
    isplitl [H6]; · iexact H6
    isplitl [H7]; · iexact H7
    isplitl [H10]; · iexact H10
    isplitl [H11]; · iexact H11
    iexact HR
end

/-- A piece of the body, and what it does: whatever follows from its results follows from it. -/
abbrev Sp (c : Dev nD) (defs : Defs nD τ sig (Elt F) Λ₀) (𝒱 : Variants) (bd : Option 𝒱.V) (A : sProp 𝕄) {α : Type} (p : Prog (TpuEff nD τ sig (Elt F) Λ₀ .tc) α)
    (H : (α → sProp 𝕄) → Prop) : Prop := ∀ Q : α → sProp 𝕄, H Q → A ⊢ wp frame (wpE defs 𝒱 (c : Thread nD τ) bd) Set.univ p Q

end Cert.KernelIdeal.Own
-- ==== Proof.Pre.lean ====
/-
  The beginning of the body: the lengths are read, and the first five jobs are started in the first
  five slots.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Post

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section
theorem cond_dec : ∀ n : Fin 97, 12 ≤ n.val → more (BitVec.ofNat 32 n.val) 0#32 = 1#1 ∧ more (BitVec.ofNat 32 n.val) 1#32 = 1#1 ∧ more (BitVec.ofNat 32 n.val) 2#32 = 1#1
    ∧ more (BitVec.ofNat 32 n.val) 3#32 = 1#1 ∧ more (BitVec.ofNat 32 n.val) 4#32 = 1#1 := by decide +kernel
variable {L : S12.Idx → Elt F .i32}
theorem conds (hL : ∀ b, LenOK (at12 L b)) : more (njw (at12 L)) 0#32 = 1#1 ∧ more (njw (at12 L)) 1#32 = 1#1 ∧ more (njw (at12 L)) 2#32 = 1#1
    ∧ more (njw (at12 L)) 3#32 = 1#1 ∧ more (njw (at12 L)) 4#32 = 1#1 := by
  have h := nJ_bounds hL
  rw [njw_eq hL]
  exact cond_dec ⟨nJ L, by omega⟩ h.1
/-- The slots when the first `i` jobs have been started. -/
def fil (i : ℕ) : Fin 6 → St := fun s => if s.val < i then .job s.val else .idle
theorem fil_here (s : Fin 6) : fil s.val s = .idle := by
  unfold fil
  rw [if_neg (Nat.lt_irrefl _)]
theorem fil_next (s : Fin 6) : upd (upd (fil s.val) s .gone) s (.job s.val) = fil (s.val + 1) := by
  funext r
  unfold upd fil
  by_cases h : r = s
  · subst h
    rw [if_pos rfl, if_pos (Nat.lt_succ_self _)]
  · rw [if_neg h, if_neg h]
    have : r.val ≠ s.val := fun e => h (Fin.ext e)
    by_cases h2 : r.val < s.val
    · rw [if_pos h2, if_pos (by omega)]
    · rw [if_neg h2, if_neg (by omega)]
theorem fil_occ {n : ℕ} (h : 12 ≤ n) : fil 5 = occ n 0 := by
  funext s
  unfold fil occ
  have hs := s.isLt
  have e : (s.val + 6 - 0 % 6) % 6 = s.val := by omega
  rw [e]
  by_cases h2 : s.val < 5
  · rw [if_pos h2, if_pos ⟨h2, by omega⟩]; congr 1; omega
  · rw [if_neg h2, if_neg (by omega)]
/-- The words of the job after job `j`, from those of job `j`. -/
theorem words_next (hL : ∀ b, LenOK (at12 L b)) {j : ℕ} {B Cw : BitVec 32} (h : B = wB L j ∧ Cw = wC L j) :
    stepB B Cw (at12 L (jB L j)) = wB L (j + 1) ∧ stepC B Cw (at12 L (jB L j)) = wC L (j + 1) := by
  rw [h.1, h.2]; exact step_words hL j
variable {B Cw : BitVec 32} {j : ℕ}
theorem pos_off (hL : ∀ b, LenOK (at12 L b)) (hj : j < 12) (h : B = wB L j ∧ Cw = wC L j) :
    ![B.toNat, 0, (Scalar.muli Cw 512#32).toNat] = ![(jB L j).val, 0, (jC L j).val * 512] := by
  rw [h.1, h.2, wB_eq hL (lt_of_lt_of_le hj (nJ_bounds hL).1), toNat_small (by have := (jB L j).isLt; omega), mul_toNat (wC_eq hL j)]
theorem cur_off (hL : ∀ b, LenOK (at12 L b)) (hj : j < 12) (h : B = wB L j ∧ Cw = wC L j) :
    ![(Scalar.minsi B 11#32).toNat] = ![(jB L j).val] := by
  rw [h.1]; exact min_word hL (by omega)
theorem b_eq (hL : ∀ b, LenOK (at12 L b)) (hj : j < 12) (h : B = wB L j ∧ Cw = wC L j) : B = BitVec.ofNat 32 (jB L j).val := by
  rw [h.1]; exact wB_eq hL (lt_of_lt_of_le hj (nJ_bounds hL).1)
theorem c_eq (hL : ∀ b, LenOK (at12 L b)) (hj : j < 12) (h : B = wB L j ∧ Cw = wC L j) : Cw = BitVec.ofNat 32 (jC L j).val := by
  rw [h.2]; exact wC_eq hL j
theorem cur_bound (hL : ∀ b, LenOK (at12 L b)) (hj : j < 12) (h : B = wB L j ∧ Cw = wC L j) :
    ∀ a, (![(Scalar.minsi B 11#32).toNat] : Fin 1 → ℕ) a + S1.size a ≤ S12.size a := by
  rw [cur_off hL hj h]; exact cell12 _
end
section
variable (c : Dev nD) (C : Codes (F := F)) (Sc : Scales (F := F)) (qs qt : Fin 6 → PosShare TreeShare) (L : S12.Idx → Elt F .i32)
variable {defs : Defs nD τ sig (Elt F) Λ₀} {𝒱 : Variants} {bd : Option 𝒱.V}
/-- Before a job is started its slot is taken out of the six. -/
theorem open_slot {R A : sProp 𝕄} {α : Type} {Q : α → sProp 𝕄} {p : Prog (TpuEff nD τ sig (Elt F) Λ₀ .tc) α} (s : Fin 6) (b : Fin 12) (ch : Fin 8) (lw cw : BitVec 32)
    (h : iprop(A ∗ Issuing c C (qs s) s b ch (tu lw cw) 0 ∗ FreeS c Sc (qt s) s ∗ Slots c C Sc qs qt L (upd (fil s.val) s .gone) ∗ R) ⊢ wp frame (wpE defs 𝒱 (c : Thread nD τ) bd) Set.univ p Q) :
    iprop(A ∗ Slots c C Sc qs qt L (fil s.val) ∗ R) ⊢ wp frame (wpE defs 𝒱 (c : Thread nD τ) bd) Set.univ p Q := by
  refine swap2 (conv (take c C Sc qs qt L _ s) (ungrp ?_))
  rw [fil_here]
  refine conv (show Slot c C Sc qs qt L s .idle ⊢ iprop(Free c C (qs s) s ∗ FreeS c Sc (qt s) s) from .rfl) (ungrp ?_)
  refine step_upd c (free_issuing c C (qs s) s b ch (tu lw cw) (tu_lt _ _)) ?_
  refine .trans ?_ h
  iintro ⟨HI, HF, HS, HA, HR⟩
  isplitl [HA]; · iexact HA
  isplitl [HI]; · iexact HI
  isplitl [HF]; · iexact HF
  isplitl [HS]; · iexact HS
  iexact HR
/-- After it has been started it is put back. -/
theorem close_slot {R A : sProp 𝕄} {G : sProp 𝕄} (s : Fin 6) {cw : BitVec 32} (hc : cw = wC L s.val)
    (h : iprop(A ∗ Slots c C Sc qs qt L (fil (s.val + 1)) ∗ R) ⊢ G) :
    iprop(BusyS c Sc (qt s) s (jB L s.val) (jC L s.val) ∗ Waiting c C (qs s) s (jB L s.val) (jC L s.val) (tu (at12 L (jB L s.val)) cw) 0 ∗ A ∗ Slots c C Sc qs qt L (upd (fil s.val) s .gone) ∗ R) ⊢ G := by
  subst hc
  refine .trans ?_ (swap2 (conv (give c C Sc qs qt L (upd (fil s.val) s .gone) s (.job s.val)) (swap2 (by rw [fil_next]; exact h))))
  iintro ⟨HB, HW, HA, HS, HR⟩
  isplitl [HA]; · iexact HA
  isplitl [HB HW HS]
  · isplitl [HS]; · iexact HS
    iapply (show iprop(Waiting c C (qs s) s (jB L s.val) (jC L s.val) (tu (at12 L (jB L s.val)) (wC L s.val)) 0 ∗ BusyS c Sc (qt s) s (jB L s.val) (jC L s.val)) ⊢ Slot c C Sc qs qt L s (.job s.val) from .rfl)
    isplitl [HW]; · iexact HW
    iexact HB
  iexact HR
end

section
variable (c : Dev nD) (C : Codes (F := F)) (Sc : Scales (F := F)) (qs qt : Fin 6 → PosShare TreeShare) {L : S12.Idx → Elt F .i32}
variable {defs : Defs nD τ sig (Elt F) Λ₀} {𝒱 : Variants} {bd : Option 𝒱.V} {R : sProp (MT nD τ sig Unit (Elt F) ℕ (Pipeline.UD sig nD τ) ℕ)}
variable  (arg2 : Memref sig .tc .vmem S40x128 .fp8e4m3) (harg2 : arg2.IsWhole)   (arg3 : Memref sig .tc .smem S1 .f32) (harg3 : arg3.IsWhole)   (arg4 : Memref sig .tc .smem S1 .f32) (harg4 : arg4.IsWhole)   (arg5 : Memref sig .tc .vmem S12x4096 .bf16) (harg5 : arg5.IsWhole)   (arg6 : Memref sig .tc .vmem S12x4096 .bf16) (harg6 : arg6.IsWhole)   (arg7 : Memref sig .tc .smem S12 .f32) (harg7 : arg7.IsWhole)   (arg8 : Memref sig .tc .smem S12 .i32) (harg8 : arg8.IsWhole)   (arg9 : Memref sig .tc .vmem S12x4096 .f32) (harg9 : arg9.IsWhole)   (arg10 : Memref sig .tc .vmem S12x4096 .f32) (harg10 : arg10.IsWhole)   (arg11 : Memref sig .tc .vmem S12x4096 .f32) (harg11 : arg11.IsWhole)
theorem offS1 (hL : ∀ b, LenOK (at12 L b)) {v67 : BitVec 32} (h : (stepB 0#32 0#32 v67) = wB L 1 ∧ (stepC 0#32 0#32 v67) = wC L 1) : k0_off38 v67 = ![(jB L 1).val, 0, (jC L 1).val * 512] := by
  dsimp only [stepB, stepC] at h
  dsimp only [k0_off38]
  rw [h.1, h.2]; exact pos_off hL (by omega) ⟨rfl, rfl⟩
theorem offC1 (hL : ∀ b, LenOK (at12 L b)) {v67 : BitVec 32} (h : (stepB 0#32 0#32 v67) = wB L 1 ∧ (stepC 0#32 0#32 v67) = wC L 1) : k0_off39 v67 = ![(jB L 1).val] := by
  dsimp only [stepB, stepC] at h
  dsimp only [k0_off39, Scalar.indexCast]
  rw [h.1]; exact cur_off hL (by omega) ⟨rfl, rfl⟩
theorem chk2_ok' (hL : ∀ b, LenOK (at12 L b)) {v67 v0 v5 v10 v15 v20 v25 v30 v35 v40 v45 v50 v55 : BitVec 32} (h : (stepB 0#32 0#32 v67) = wB L 1 ∧ (stepC 0#32 0#32 v67) = wC L 1) : k0_chk2 v0 v5 v10 v15 v20 v25 v30 v35 v40 v45 v50 v55 v67 := by
  unfold k0_chk2
  rw [offS1 hL h, offC1 hL h]
  dsimp only [stepB, stepC] at h
  dsimp only [k0_off20, k0_mult22, Scalar.indexCast]
  rw [h.1, h.2]
  refine ⟨fun _ => len_bound (b_eq hL (by omega) ⟨rfl, rfl⟩), fun _ => mul_dvd (c_eq hL (by omega) ⟨rfl, rfl⟩), fun _ => ?_, cell12 _⟩
  rw [← pos_off hL (by omega) ⟨rfl, rfl⟩]
  exact scales_bound (b_eq hL (by omega) ⟨rfl, rfl⟩) (c_eq hL (by omega) ⟨rfl, rfl⟩)
theorem offS2 (hL : ∀ b, LenOK (at12 L b)) {v67 v80 : BitVec 32} (h : (stepB (stepB 0#32 0#32 v67) (stepC 0#32 0#32 v67) v80) = wB L 2 ∧ (stepC (stepB 0#32 0#32 v67) (stepC 0#32 0#32 v67) v80) = wC L 2) : k0_off58 v67 v80 = ![(jB L 2).val, 0, (jC L 2).val * 512] := by
  dsimp only [stepB, stepC] at h
  dsimp only [k0_off58]
  rw [h.1, h.2]; exact pos_off hL (by omega) ⟨rfl, rfl⟩
theorem offC2 (hL : ∀ b, LenOK (at12 L b)) {v67 v80 : BitVec 32} (h : (stepB (stepB 0#32 0#32 v67) (stepC 0#32 0#32 v67) v80) = wB L 2 ∧ (stepC (stepB 0#32 0#32 v67) (stepC 0#32 0#32 v67) v80) = wC L 2) : k0_off59 v67 v80 = ![(jB L 2).val] := by
  dsimp only [stepB, stepC] at h
  dsimp only [k0_off59, Scalar.indexCast]
  rw [h.1]; exact cur_off hL (by omega) ⟨rfl, rfl⟩
theorem chk4_ok' (hL : ∀ b, LenOK (at12 L b)) {v67 v80 v0 v5 v10 v15 v20 v25 v30 v35 v40 v45 v50 v55 : BitVec 32} (h : (stepB (stepB 0#32 0#32 v67) (stepC 0#32 0#32 v67) v80) = wB L 2 ∧ (stepC (stepB 0#32 0#32 v67) (stepC 0#32 0#32 v67) v80) = wC L 2) : k0_chk4 v0 v5 v10 v15 v20 v25 v30 v35 v40 v45 v50 v55 v67 v80 := by
  unfold k0_chk4
  rw [offS2 hL h, offC2 hL h]
  dsimp only [stepB, stepC] at h
  dsimp only [k0_off40, k0_mult33, Scalar.indexCast]
  rw [h.1, h.2]
  refine ⟨fun _ => len_bound (b_eq hL (by omega) ⟨rfl, rfl⟩), fun _ => mul_dvd (c_eq hL (by omega) ⟨rfl, rfl⟩), fun _ => ?_, cell12 _⟩
  rw [← pos_off hL (by omega) ⟨rfl, rfl⟩]
  exact scales_bound (b_eq hL (by omega) ⟨rfl, rfl⟩) (c_eq hL (by omega) ⟨rfl, rfl⟩)
theorem offS3 (hL : ∀ b, LenOK (at12 L b)) {v67 v80 v93 : BitVec 32} (h : (stepB (stepB (stepB 0#32 0#32 v67) (stepC 0#32 0#32 v67) v80) (stepC (stepB 0#32 0#32 v67) (stepC 0#32 0#32 v67) v80) v93) = wB L 3 ∧ (stepC (stepB (stepB 0#32 0#32 v67) (stepC 0#32 0#32 v67) v80) (stepC (stepB 0#32 0#32 v67) (stepC 0#32 0#32 v67) v80) v93) = wC L 3) : k0_off78 v67 v80 v93 = ![(jB L 3).val, 0, (jC L 3).val * 512] := by
  dsimp only [stepB, stepC] at h
  dsimp only [k0_off78]
  rw [h.1, h.2]; exact pos_off hL (by omega) ⟨rfl, rfl⟩
theorem offC3 (hL : ∀ b, LenOK (at12 L b)) {v67 v80 v93 : BitVec 32} (h : (stepB (stepB (stepB 0#32 0#32 v67) (stepC 0#32 0#32 v67) v80) (stepC (stepB 0#32 0#32 v67) (stepC 0#32 0#32 v67) v80) v93) = wB L 3 ∧ (stepC (stepB (stepB 0#32 0#32 v67) (stepC 0#32 0#32 v67) v80) (stepC (stepB 0#32 0#32 v67) (stepC 0#32 0#32 v67) v80) v93) = wC L 3) : k0_off79 v67 v80 v93 = ![(jB L 3).val] := by
  dsimp only [stepB, stepC] at h
  dsimp only [k0_off79, Scalar.indexCast]
  rw [h.1]; exact cur_off hL (by omega) ⟨rfl, rfl⟩
theorem chk6_ok' (hL : ∀ b, LenOK (at12 L b)) {v67 v80 v93 v0 v5 v10 v15 v20 v25 v30 v35 v40 v45 v50 v55 : BitVec 32} (h : (stepB (stepB (stepB 0#32 0#32 v67) (stepC 0#32 0#32 v67) v80) (stepC (stepB 0#32 0#32 v67) (stepC 0#32 0#32 v67) v80) v93) = wB L 3 ∧ (stepC (stepB (stepB 0#32 0#32 v67) (stepC 0#32 0#32 v67) v80) (stepC (stepB 0#32 0#32 v67) (stepC 0#32 0#32 v67) v80) v93) = wC L 3) : k0_chk6 v0 v5 v10 v15 v20 v25 v30 v35 v40 v45 v50 v55 v67 v80 v93 := by
  unfold k0_chk6
  rw [offS3 hL h, offC3 hL h]
  dsimp only [stepB, stepC] at h
  dsimp only [k0_off60, k0_mult44, Scalar.indexCast]
  rw [h.1, h.2]
  refine ⟨fun _ => len_bound (b_eq hL (by omega) ⟨rfl, rfl⟩), fun _ => mul_dvd (c_eq hL (by omega) ⟨rfl, rfl⟩), fun _ => ?_, cell12 _⟩
  rw [← pos_off hL (by omega) ⟨rfl, rfl⟩]
  exact scales_bound (b_eq hL (by omega) ⟨rfl, rfl⟩) (c_eq hL (by omega) ⟨rfl, rfl⟩)
theorem offS4 (hL : ∀ b, LenOK (at12 L b)) {v67 v80 v93 v106 : BitVec 32} (h : (stepB (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) = wB L 4 ∧ (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) = wC L 4) : k0_off98 v67 v80 v93 v106 = ![(jB L 4).val, 0, (jC L 4).val * 512] := by
  dsimp only [stepB, stepC] at h
  dsimp only [k0_off98]
  rw [h.1, h.2]; exact pos_off hL (by omega) ⟨rfl, rfl⟩
theorem offC4 (hL : ∀ b, LenOK (at12 L b)) {v67 v80 v93 v106 : BitVec 32} (h : (stepB (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) = wB L 4 ∧ (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) = wC L 4) : k0_off99 v67 v80 v93 v106 = ![(jB L 4).val] := by
  dsimp only [stepB, stepC] at h
  dsimp only [k0_off99, Scalar.indexCast]
  rw [h.1]; exact cur_off hL (by omega) ⟨rfl, rfl⟩
theorem chk8_ok' (hL : ∀ b, LenOK (at12 L b)) {v67 v80 v93 v106 v0 v5 v10 v15 v20 v25 v30 v35 v40 v45 v50 v55 : BitVec 32} (h : (stepB (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) = wB L 4 ∧ (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) = wC L 4) : k0_chk8 v0 v5 v10 v15 v20 v25 v30 v35 v40 v45 v50 v55 v67 v80 v93 v106 := by
  unfold k0_chk8
  rw [offS4 hL h, offC4 hL h]
  dsimp only [stepB, stepC] at h
  dsimp only [k0_off80, k0_mult55, Scalar.indexCast]
  rw [h.1, h.2]
  refine ⟨fun _ => len_bound (b_eq hL (by omega) ⟨rfl, rfl⟩), fun _ => mul_dvd (c_eq hL (by omega) ⟨rfl, rfl⟩), fun _ => ?_, cell12 _⟩
  rw [← pos_off hL (by omega) ⟨rfl, rfl⟩]
  exact scales_bound (b_eq hL (by omega) ⟨rfl, rfl⟩) (c_eq hL (by omega) ⟨rfl, rfl⟩)
variable {qL : PosShare TreeShare}
/-- The decoded weights' codes, as the body reads them. -/
def wvec (w0 : S40x128.Idx → Elt F .fp8e4m3) : FVec F S40x128 .fp8e4m3 :=
  shapeCast S40x128 (fun i => w0 ((Rect.unit (s := S40x128) ![0, 0] S40x128.size inb_S40x128_S40x128_0_0).emb i)) shapeCasts_S40x128_S40x128
set_option maxHeartbeats 1000000 in
theorem p14_spec (hL : ∀ b, LenOK (at12 L b)) : Sp c defs 𝒱 bd iprop(owns (c : Thread nD τ) arg8 qL L ∗ Slots c C Sc qs qt L (fil 0) ∗ R)
    (k0_part14 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 )
    fun Q => iprop(owns (c : Thread nD τ) arg8 qL L ∗ Slots c C Sc qs qt L (fil 0) ∗ R) ⊢ Q ⟨at12 L 0, at12 L 1, at12 L 2, at12 L 3, at12 L 4, at12 L 5, (Scalar.addi (Scalar.addi (Scalar.addi (Scalar.addi (Scalar.addi (Scalar.addi 0#32 (Scalar.maxsi (Scalar.shrui (Scalar.addi (at12 L 0) 511#32) 9#32) 1#32)) (Scalar.maxsi (Scalar.shrui (Scalar.addi (at12 L 1) 511#32) 9#32) 1#32)) (Scalar.maxsi (Scalar.shrui (Scalar.addi (at12 L 2) 511#32) 9#32) 1#32)) (Scalar.maxsi (Scalar.shrui (Scalar.addi (at12 L 3) 511#32) 9#32) 1#32)) (Scalar.maxsi (Scalar.shrui (Scalar.addi (at12 L 4) 511#32) 9#32) 1#32)) (Scalar.maxsi (Scalar.shrui (Scalar.addi (at12 L 5) 511#32) 9#32) 1#32)), at12 L 6, (Scalar.addi (at12 L 6) 511#32), 9#32⟩ := by
  intro Q h
  unfold k0_part14
  refine step_entry c 0 rfl ?_
  refine step_entry c 1 rfl ?_
  refine step_entry c 2 rfl ?_
  refine step_entry c 3 rfl ?_
  refine step_entry c 4 rfl ?_
  refine step_entry c 5 rfl ?_
  refine step_entry c 6 rfl ?_
  exact step_ret c h
set_option maxHeartbeats 1000000 in
theorem p15_spec (hL : ∀ b, LenOK (at12 L b)) : Sp c defs 𝒱 bd iprop(owns (c : Thread nD τ) arg8 qL L ∗ Slots c C Sc qs qt L (fil 0) ∗ R)
    (k0_part15 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (at12 L 0) (at12 L 1) (at12 L 2) (at12 L 3) (at12 L 4) (at12 L 5) (Scalar.addi (Scalar.addi (Scalar.addi (Scalar.addi (Scalar.addi (Scalar.addi 0#32 (Scalar.maxsi (Scalar.shrui (Scalar.addi (at12 L 0) 511#32) 9#32) 1#32)) (Scalar.maxsi (Scalar.shrui (Scalar.addi (at12 L 1) 511#32) 9#32) 1#32)) (Scalar.maxsi (Scalar.shrui (Scalar.addi (at12 L 2) 511#32) 9#32) 1#32)) (Scalar.maxsi (Scalar.shrui (Scalar.addi (at12 L 3) 511#32) 9#32) 1#32)) (Scalar.maxsi (Scalar.shrui (Scalar.addi (at12 L 4) 511#32) 9#32) 1#32)) (Scalar.maxsi (Scalar.shrui (Scalar.addi (at12 L 5) 511#32) 9#32) 1#32)) (at12 L 6) (Scalar.addi (at12 L 6) 511#32) 9#32)
    fun Q => iprop(owns (c : Thread nD τ) arg8 qL L ∗ Slots c C Sc qs qt L (fil 1) ∗ R) ⊢ Q ⟨at12 L 7, at12 L 8, at12 L 9, at12 L 10, at12 L 11, chk10_ok hL, njw (at12 L), 0#32⟩ := by
  intro Q h
  have h0 : (0#32 : BitVec 32) = wB L 0 ∧ (0#32 : BitVec 32) = wC L 0 := ⟨rfl, rfl⟩
  unfold k0_part15
  refine step_entry c 7 rfl ?_
  refine step_entry c 8 rfl ?_
  refine step_entry c 9 rfl ?_
  refine step_entry c 10 rfl ?_
  refine step_entry c 11 rfl ?_
  refine step_assume c (chk10_ok hL) ?_
  refine step_then c ((conds hL).1) ?_
  refine open_slot c C Sc qs qt L 0 (jB L 0) (jC L 0) (at12 L (jB L 0)) 0#32 ?_
  refine step_bind c ?_
  refine part1_spec c C (qs 0) arg2 harg2 arg3 harg3 arg4 harg4 arg5 harg5 arg6 harg6 arg7 harg7 arg8 harg8 arg9 harg9 arg10 harg10 arg11 harg11 (at12 L) _ _ _ _ (b_eq hL (by omega) h0) (c_eq hL (by omega) h0) ?_
  refine conv (issuing_done c C (qs 0) 0 (jB L 0) (jC L 0) ⟨tu (at12 L (jB L 0)) 0#32, tu_lt _ _⟩) (bring3 ?_)
  refine step_issueS c (qt 0) Sc 0 (jB L 0) (jC L 0) rfl (pos_off hL (by omega) h0) rfl ?_
  refine close_slot c C Sc qs qt L 0 h0.2 ?_
  exact step_ret c h
set_option maxHeartbeats 1000000 in
theorem p16_spec (hL : ∀ b, LenOK (at12 L b)) : Sp c defs 𝒱 bd iprop(owns (c : Thread nD τ) arg8 qL L ∗ Slots c C Sc qs qt L (fil 1) ∗ R)
    (k0_part16 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (at12 L 0) (at12 L 1) (at12 L 2) (at12 L 3) (at12 L 4) (at12 L 5) (at12 L 6) (at12 L 7) (at12 L 8) (at12 L 9) (at12 L 10) (at12 L 11) (njw (at12 L)) 0#32)
    fun Q => ∀ v67 v80 v93, v67 = at12 L (jB L 0) → v80 = at12 L (jB L 1) → v93 = at12 L (jB L 2) → iprop(owns (c : Thread nD τ) arg8 qL L ∗ Slots c C Sc qs qt L (fil 3) ∗ R) ⊢ Q ⟨v67, v80, (stepB (stepB 0#32 0#32 v67) (stepC 0#32 0#32 v67) v80), (stepC (stepB 0#32 0#32 v67) (stepC 0#32 0#32 v67) v80), (Scalar.muli (Scalar.addi (stepC (stepB 0#32 0#32 v67) (stepC 0#32 0#32 v67) v80) 1#32) 512#32), v93⟩ := by
  intro Q h
  have h0 : (0#32 : BitVec 32) = wB L 0 ∧ (0#32 : BitVec 32) = wC L 0 := ⟨rfl, rfl⟩
  unfold k0_part16
  refine step_entry c (jB L 0) (cur_off hL (by omega) h0) ?_
  obtain ⟨v67, a0⟩ : ∃ v, v = at12 L (jB L 0) := ⟨_, rfl⟩
  rw [← a0]
  have h1 : (stepB 0#32 0#32 v67) = wB L 1 ∧ (stepC 0#32 0#32 v67) = wC L 1 := by rw [a0]; exact words_next hL h0
  refine step_assume c (chk2_ok' hL h1) ?_
  refine step_then c ((conds hL).2.1) ?_
  refine open_slot c C Sc qs qt L 1 (jB L 1) (jC L 1) (at12 L (jB L 1)) (stepC 0#32 0#32 v67) ?_
  refine step_bind c ?_
  refine part2_spec c C (qs 1) arg2 harg2 arg3 harg3 arg4 harg4 arg5 harg5 arg6 harg6 arg7 harg7 arg8 harg8 arg9 harg9 arg10 harg10 arg11 harg11 (at12 L) v67 _ _ _ _ _ (b_eq hL (by omega) h1) (c_eq hL (by omega) h1) ?_
  refine conv (issuing_done c C (qs 1) 1 (jB L 1) (jC L 1) ⟨tu (at12 L (jB L 1)) (stepC 0#32 0#32 v67), tu_lt _ _⟩) (bring3 ?_)
  refine step_issueS c (qt 1) Sc 1 (jB L 1) (jC L 1) rfl (offS1 hL h1) rfl ?_
  refine close_slot c C Sc qs qt L 1 h1.2 ?_
  refine retb c ?_
  refine step_entry c (jB L 1) (offC1 hL h1) ?_
  obtain ⟨v80, a1⟩ : ∃ v, v = at12 L (jB L 1) := ⟨_, rfl⟩
  rw [← a1]
  have h2 : (stepB (stepB 0#32 0#32 v67) (stepC 0#32 0#32 v67) v80) = wB L 2 ∧ (stepC (stepB 0#32 0#32 v67) (stepC 0#32 0#32 v67) v80) = wC L 2 := by rw [a1]; exact words_next hL h1
  refine step_assume c (chk4_ok' hL h2) ?_
  refine step_then c ((conds hL).2.2.1) ?_
  refine open_slot c C Sc qs qt L 2 (jB L 2) (jC L 2) (at12 L (jB L 2)) (stepC (stepB 0#32 0#32 v67) (stepC 0#32 0#32 v67) v80) ?_
  refine step_bind c ?_
  refine part3_spec c C (qs 2) arg2 harg2 arg3 harg3 arg4 harg4 arg5 harg5 arg6 harg6 arg7 harg7 arg8 harg8 arg9 harg9 arg10 harg10 arg11 harg11 (at12 L) v67 v80 _ _ _ _ _ (b_eq hL (by omega) h2) (c_eq hL (by omega) h2) ?_
  refine conv (issuing_done c C (qs 2) 2 (jB L 2) (jC L 2) ⟨tu (at12 L (jB L 2)) (stepC (stepB 0#32 0#32 v67) (stepC 0#32 0#32 v67) v80), tu_lt _ _⟩) (bring3 ?_)
  refine step_issueS c (qt 2) Sc 2 (jB L 2) (jC L 2) rfl (offS2 hL h2) rfl ?_
  refine close_slot c C Sc qs qt L 2 h2.2 ?_
  refine retb c ?_
  refine step_entry c (jB L 2) (offC2 hL h2) ?_
  obtain ⟨v93, a2⟩ : ∃ v, v = at12 L (jB L 2) := ⟨_, rfl⟩
  rw [← a2]
  dsimp only [stepB, stepC] at h
  exact step_ret c (h _ _ _ a0 a1 a2)
variable {q2 : PosShare TreeShare} {w0 : S40x128.Idx → Elt F .fp8e4m3}
set_option maxHeartbeats 1000000 in
theorem p17_spec (hL : ∀ b, LenOK (at12 L b)) {v67 v80 v93 : BitVec 32} (a0 : v67 = at12 L (jB L 0)) (a1 : v80 = at12 L (jB L 1)) (a2 : v93 = at12 L (jB L 2)) : Sp c defs 𝒱 bd iprop(owns (c : Thread nD τ) arg8 qL L ∗ Slots c C Sc qs qt L (fil 3) ∗ owns (c : Thread nD τ) arg2 q2 w0 ∗ R)
    (k0_part17 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (at12 L 0) (at12 L 1) (at12 L 2) (at12 L 3) (at12 L 4) (at12 L 5) (at12 L 6) (at12 L 7) (at12 L 8) (at12 L 9) (at12 L 10) (at12 L 11) (njw (at12 L)) v67 v80 (stepB (stepB 0#32 0#32 v67) (stepC 0#32 0#32 v67) v80) (stepC (stepB 0#32 0#32 v67) (stepC 0#32 0#32 v67) v80) (Scalar.muli (Scalar.addi (stepC (stepB 0#32 0#32 v67) (stepC 0#32 0#32 v67) v80) 1#32) 512#32) v93)
    fun Q => iprop(owns (c : Thread nD τ) arg8 qL L ∗ Slots c C Sc qs qt L (fil 5) ∗ owns (c : Thread nD τ) arg2 q2 w0 ∗ R) ⊢ Q ⟨wB L 5, wC L 5, wvec w0⟩ := by
  intro Q h
  have h0 : (0#32 : BitVec 32) = wB L 0 ∧ (0#32 : BitVec 32) = wC L 0 := ⟨rfl, rfl⟩
  have h1 : (stepB 0#32 0#32 v67) = wB L 1 ∧ (stepC 0#32 0#32 v67) = wC L 1 := by rw [a0]; exact words_next hL h0
  have h2 : (stepB (stepB 0#32 0#32 v67) (stepC 0#32 0#32 v67) v80) = wB L 2 ∧ (stepC (stepB 0#32 0#32 v67) (stepC 0#32 0#32 v67) v80) = wC L 2 := by rw [a1]; exact words_next hL h1
  have h3 : (stepB (stepB (stepB 0#32 0#32 v67) (stepC 0#32 0#32 v67) v80) (stepC (stepB 0#32 0#32 v67) (stepC 0#32 0#32 v67) v80) v93) = wB L 3 ∧ (stepC (stepB (stepB 0#32 0#32 v67) (stepC 0#32 0#32 v67) v80) (stepC (stepB 0#32 0#32 v67) (stepC 0#32 0#32 v67) v80) v93) = wC L 3 := by rw [a2]; exact words_next hL h2
  unfold k0_part17
  refine step_assume c (chk6_ok' hL h3) ?_
  refine step_then c ((conds hL).2.2.2.1) ?_
  refine open_slot c C Sc qs qt L 3 (jB L 3) (jC L 3) (at12 L (jB L 3)) (stepC (stepB (stepB 0#32 0#32 v67) (stepC 0#32 0#32 v67) v80) (stepC (stepB 0#32 0#32 v67) (stepC 0#32 0#32 v67) v80) v93) ?_
  refine step_bind c ?_
  refine part4_spec c C (qs 3) arg2 harg2 arg3 harg3 arg4 harg4 arg5 harg5 arg6 harg6 arg7 harg7 arg8 harg8 arg9 harg9 arg10 harg10 arg11 harg11 (at12 L) v67 v80 v93 _ _ _ _ _ (b_eq hL (by omega) h3) (c_eq hL (by omega) h3) ?_
  refine conv (issuing_done c C (qs 3) 3 (jB L 3) (jC L 3) ⟨tu (at12 L (jB L 3)) (stepC (stepB (stepB 0#32 0#32 v67) (stepC 0#32 0#32 v67) v80) (stepC (stepB 0#32 0#32 v67) (stepC 0#32 0#32 v67) v80) v93), tu_lt _ _⟩) (bring3 ?_)
  refine step_issueS c (qt 3) Sc 3 (jB L 3) (jC L 3) rfl (offS3 hL h3) rfl ?_
  refine close_slot c C Sc qs qt L 3 h3.2 ?_
  refine retb c ?_
  refine step_entry c (jB L 3) (offC3 hL h3) ?_
  obtain ⟨v106, a3⟩ : ∃ v, v = at12 L (jB L 3) := ⟨_, rfl⟩
  rw [← a3]
  have h4 : (stepB (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) = wB L 4 ∧ (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) = wC L 4 := by rw [a3]; exact words_next hL h3
  refine step_assume c (chk8_ok' hL h4) ?_
  refine step_then c ((conds hL).2.2.2.2) ?_
  refine open_slot c C Sc qs qt L 4 (jB L 4) (jC L 4) (at12 L (jB L 4)) (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) ?_
  refine step_bind c ?_
  refine part5_spec c C (qs 4) arg2 harg2 arg3 harg3 arg4 harg4 arg5 harg5 arg6 harg6 arg7 harg7 arg8 harg8 arg9 harg9 arg10 harg10 arg11 harg11 (at12 L) v67 v80 v93 v106 _ _ _ _ _ (b_eq hL (by omega) h4) (c_eq hL (by omega) h4) ?_
  refine conv (issuing_done c C (qs 4) 4 (jB L 4) (jC L 4) ⟨tu (at12 L (jB L 4)) (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106), tu_lt _ _⟩) (bring3 ?_)
  refine step_issueS c (qt 4) Sc 4 (jB L 4) (jC L 4) rfl (offS4 hL h4) rfl ?_
  refine close_slot c C Sc qs qt L 4 h4.2 ?_
  refine retb c ?_
  refine step_entry c (jB L 4) (offC4 hL h4) ?_
  obtain ⟨v119, a4⟩ : ∃ v, v = at12 L (jB L 4) := ⟨_, rfl⟩
  rw [← a4]
  have h5 : (stepB (stepB (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) v119) = wB L 5 ∧ (stepC (stepB (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) (stepC (stepB (stepB (stepB 0#32 0#32 v67) (stepC 0#32 0#32 v67) v80) (stepC (stepB 0#32 0#32 v67) (stepC 0#32 0#32 v67) v80) v93) (stepC (stepB (stepB 0#32 0#32 v67) (stepC 0#32 0#32 v67) v80) (stepC (stepB 0#32 0#32 v67) (stepC 0#32 0#32 v67) v80) v93) v106) v119) = wC L 5 := by rw [a4]; exact words_next hL h4
  refine bring3 ?_
  refine step_load c ?_
  refine step_ret c ?_
  refine .trans (swap2 (bring3 (bring3 .rfl))) ?_
  dsimp only [stepB, stepC] at h5 ⊢
  rw [h5.1, h5.2]
  refine .trans ?_ h
  iintro ⟨H2, HS, H8, HR⟩
  isplitl [H8]; · iexact H8
  isplitl [HS]; · iexact HS
  isplitl [H2]; · iexact H2
  iexact HR
end

end Cert.KernelIdeal.Own
-- ==== Proof.Wblk.lean ====
/-
  The spread weights: the forty blocks the body writes before its loop, and the parts of the body that
  write them.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Pre

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section
/-- The decoded weights' codes as numbers, and the number of each element's row in a block. -/
abbrev wf (w : FVec F S40x128 .fp8e4m3) : FVec F S40x128 .f32 := extf .f32 w bitsLt_fp8e4m3_f32
abbrev wio : IVec S16x128 32 := iota .tc S16x128 32 [0] iota_S16x128_d0_w32
theorem wsl_ok (k : Fin 40) : S40x128.Slices ![8 * (k.val / 10), 0] S16x128 := by
  revert k
  decide
theorem wrect_ok (k : Fin 40) : ∀ a, (![0, 128 * k.val] : Fin 2 → ℕ) a + S16x128.size a ≤ S16x5120.size a := by
  have := k.isLt
  intro a
  match a with
  | ⟨0, _⟩ => show 0 + 16 ≤ 16; omega
  | ⟨1, _⟩ => show 128 * k.val + 128 ≤ 5120; omega
abbrev wrect (k : Fin 40) : Rect S16x5120 := Rect.unit ![0, 128 * k.val] S16x128.size (wrect_ok k)
/-- Block `k` of the weights, spread over the rows: block `k`'s own row of the codes stands in one row,
    and the other rows are zero. -/
abbrev wblk (w : FVec F S40x128 .fp8e4m3) (k : Fin 40) : FVec F S16x128 .bf16 :=
  shapeCast S16x128 (truncf .bf16 (select (cmpi .eq wio (broadcast S16x128 (BitVec.ofNat 32 (k.val - 8 * (k.val / 10)))))
    (extractStridedSlice S16x128 ![8 * (k.val / 10), 0] (wf w) (wsl_ok k)) (broadcast S16x128 (Scalar.ofBits .f32 0x00000000#32 : F .f32))) bitsLt_bf16_f32) shapeCasts_S16x128_S16x128
/-- The first `k` blocks are in place. -/
def WB (w : FVec F S40x128 .fp8e4m3) (k : ℕ) (X : S16x5120.Idx → Elt F .bf16) : Prop :=
  ∀ (j : Fin 40), j.val < k → ∀ i : S16x128.Idx, X ((wrect j).emb i) = wblk w j i
theorem wrect_sep {j k : Fin 40} (h : k ≠ j) (x : (wrect k).shape.Idx) (i : S16x128.Idx) : (wrect k).emb x ≠ (wrect j).emb i := by
  intro e
  have h1 : ((wrect k).emb x 1).val = ((wrect j).emb i 1).val := by rw [e]
  have h2 : 128 * k.val + 1 * (x 1).val = 128 * j.val + 1 * (i 1).val := h1
  have h3 : (x 1).val < 128 := (x 1).isLt
  have h4 : (i 1).val < 128 := (i 1).isLt
  exact h (Fin.ext (by omega))
theorem wb_put {w : FVec F S40x128 .fp8e4m3} {X : S16x5120.Idx → Elt F .bf16} {k : Fin 40} {off : Fin 2 → ℕ} (hoff : off = ![0, 128 * k.val])
    {inb : ∀ a, off a + S16x128.size a ≤ S16x5120.size a}
    (h : WB w k.val X) : WB w (k.val + 1) (put (Rect.unit (s := S16x5120) off S16x128.size inb) X (wblk w k)) := by
  subst hoff
  intro j hj i
  by_cases e : k = j
  · subst e
    exact put_emb (wrect k) X _ i
  · rw [put_out (wrect k) X _ fun ⟨x, hx⟩ => wrect_sep e x i hx]
    exact h j (by have : k.val ≠ j.val := fun e' => e (Fin.ext e'); omega) i
/-- The array of spread weights with its first `k` blocks in place. -/
def WS (c : Dev nD) (w : FVec F S40x128 .fp8e4m3) (R : sProp 𝕄) (k : ℕ) : sProp 𝕄 :=
  iprop((∃ X, ⌜WB w k X⌝ ∗ owns (c : Thread nD τ) wblkM fullShare X) ∗ R)
variable {c : Dev nD} {w : FVec F S40x128 .fp8e4m3} {Λ : Labels} {defs : Defs nD τ sig (Elt F) Λ} {𝒱 : Variants} {bd : Option 𝒱.V} {α : Type}
    {Q : α → sProp (MT nD τ sig Unit (Elt F) ℕ (Pipeline.UD sig nD τ) ℕ)} {R : sProp (MT nD τ sig Unit (Elt F) ℕ (Pipeline.UD sig nD τ) ℕ)}
theorem ldW {k : ℕ} {r : Rect S16x5120} {hl : (wblkM : Memref sig .tc .vmem S16x5120 .bf16).view.LoadsAt r.toLoadRect} {kk : (r.shape.Idx → Elt F .bf16) → Prog (TpuEff nD τ sig (Elt F) Λ .tc) α}
    (h : ∀ v, WS c w R k ⊢ wp frame (wpE defs 𝒱 (c : Thread nD τ) bd) Set.univ (kk v) Q) :
    WS c w R k ⊢ wp frame (wpE defs 𝒱 (c : Thread nD τ) bd) Set.univ (.op (.load wblkM r.toLoadRect hl) kk) Q := by
  unfold WS
  iintro ⟨⟨%X, %hX, H⟩, HR⟩
  iapply (wp_load_own c) $$ H
  iintro H
  iapply (show _ ⊢ _ from h _)
  unfold WS
  isplitl [H]
  · iexists _
    isplitr; · ipureintro; exact hX
    iexact H
  iexact HR
theorem stW (k : Fin 40) {off : Fin 2 → ℕ} (hk : off = ![0, 128 * k.val]) {inb : ∀ a, off a + S16x128.size a ≤ S16x5120.size a}
    {hx : ((wblkM : Memref sig .tc .vmem S16x5120 .bf16).access (Rect.unit (s := S16x5120) off S16x128.size inb)).Stores Finset.univ}
    {hm : (Finset.univ : Finset (Rect.unit (s := S16x5120) off S16x128.size inb).shape.Idx) = Finset.univ ∨ ∀ a, (Rect.unit (s := S16x5120) off S16x128.size inb).stride a = 1} {kk : PUnit → Prog (TpuEff nD τ sig (Elt F) Λ .tc) α}
    (h : WS c w R (k.val + 1) ⊢ wp frame (wpE defs 𝒱 (c : Thread nD τ) bd) Set.univ (kk ⟨⟩) Q) :
    WS c w R k.val ⊢ wp frame (wpE defs 𝒱 (c : Thread nD τ) bd) Set.univ (.op (.store wblkM (Rect.unit (s := S16x5120) off S16x128.size inb) (wblk w k) Finset.univ hx hm) kk) Q := by
  unfold WS
  iintro ⟨⟨%X, %hX, H⟩, HR⟩
  iapply (wp_store_own c) $$ H
  iintro H
  iapply (show _ ⊢ _ from h)
  unfold WS
  isplitl [H]
  · iexists _
    isplitr; · ipureintro; exact wb_put hk (inb := inb) hX
    iexact H
  iexact HR
end
section
variable {c : Dev nD}  {arg2 : Memref sig .tc .vmem S40x128 .fp8e4m3} {harg2 : arg2.IsWhole}   {arg3 : Memref sig .tc .smem S1 .f32} {harg3 : arg3.IsWhole}   {arg4 : Memref sig .tc .smem S1 .f32} {harg4 : arg4.IsWhole}   {arg5 : Memref sig .tc .vmem S12x4096 .bf16} {harg5 : arg5.IsWhole}   {arg6 : Memref sig .tc .vmem S12x4096 .bf16} {harg6 : arg6.IsWhole}   {arg7 : Memref sig .tc .smem S12 .f32} {harg7 : arg7.IsWhole}   {arg8 : Memref sig .tc .smem S12 .i32} {harg8 : arg8.IsWhole}   {arg9 : Memref sig .tc .vmem S12x4096 .f32} {harg9 : arg9.IsWhole}   {arg10 : Memref sig .tc .vmem S12x4096 .f32} {harg10 : arg10.IsWhole}   {arg11 : Memref sig .tc .vmem S12x4096 .f32} {harg11 : arg11.IsWhole}
    {w : FVec F S40x128 .fp8e4m3} {defs : Defs nD τ sig (Elt F) Λ₀} {𝒱 : Variants} {bd : Option 𝒱.V} {R : sProp (MT nD τ sig Unit (Elt F) ℕ (Pipeline.UD sig nD τ) ℕ)}
theorem p18_spec : Sp c defs 𝒱 bd (WS c w R 0)
    (k0_part18 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 w)
    fun Q => WS c w R 4 ⊢ Q ⟨(wf w), (wio), (extractStridedSlice S16x128 ![0, 0] (wf w) slices_S40x128_o0_0_S16x128), (4#32)⟩ := by
  intro Q h
  unfold k0_part18
  refine ldW fun _ => ?_
  refine stW 0 rfl ?_
  refine ldW fun _ => ?_
  refine stW 1 rfl ?_
  refine ldW fun _ => ?_
  refine stW 2 rfl ?_
  refine ldW fun _ => ?_
  refine stW 3 rfl ?_
  exact step_ret c h
theorem p19_spec : Sp c defs 𝒱 bd (WS c w R 4)
    (k0_part19 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (wf w) (wio) (extractStridedSlice S16x128 ![0, 0] (wf w) slices_S40x128_o0_0_S16x128) (4#32))
    fun Q => WS c w R 8 ⊢ Q ⟨(extractStridedSlice S16x128 ![0, 0] (wf w) slices_S40x128_o0_0_S16x128), (cmpi .eq (wio) (broadcast S16x128 (8#32))), (broadcast S16x128 (Scalar.ofBits .f32 0x00000000#32 : F .f32))⟩ := by
  intro Q h
  unfold k0_part19
  refine ldW fun _ => ?_
  refine stW 4 rfl ?_
  refine ldW fun _ => ?_
  refine stW 5 rfl ?_
  refine ldW fun _ => ?_
  refine stW 6 rfl ?_
  refine ldW fun _ => ?_
  refine stW 7 rfl ?_
  exact step_ret c h
theorem p20_spec : Sp c defs 𝒱 bd (WS c w R 8)
    (k0_part20 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (wf w) (wio) (extractStridedSlice S16x128 ![0, 0] (wf w) slices_S40x128_o0_0_S16x128) (cmpi .eq (wio) (broadcast S16x128 (8#32))) (broadcast S16x128 (Scalar.ofBits .f32 0x00000000#32 : F .f32)))
    fun Q => WS c w R 12 ⊢ Q (truncf .bf16 (select (cmpi .eq (wio) (broadcast S16x128 (4#32))) (extractStridedSlice S16x128 ![8, 0] (wf w) slices_S40x128_o8_0_S16x128) (broadcast S16x128 (Scalar.ofBits .f32 0x00000000#32 : F .f32))) bitsLt_bf16_f32) := by
  intro Q h
  unfold k0_part20
  refine ldW fun _ => ?_
  refine stW 8 rfl ?_
  refine ldW fun _ => ?_
  refine stW 9 rfl ?_
  refine ldW fun _ => ?_
  refine stW 10 rfl ?_
  refine ldW fun _ => ?_
  refine stW 11 rfl ?_
  exact step_ret c h
theorem p21_spec : Sp c defs 𝒱 bd (WS c w R 12)
    (k0_part21 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (wf w) (wio) (truncf .bf16 (select (cmpi .eq (wio) (broadcast S16x128 (4#32))) (extractStridedSlice S16x128 ![8, 0] (wf w) slices_S40x128_o8_0_S16x128) (broadcast S16x128 (Scalar.ofBits .f32 0x00000000#32 : F .f32))) bitsLt_bf16_f32))
    fun Q => WS c w R 17 ⊢ Q ⟨⟩ := by
  intro Q h
  unfold k0_part21
  refine ldW fun _ => ?_
  refine stW 12 rfl ?_
  refine ldW fun _ => ?_
  refine stW 13 rfl ?_
  refine ldW fun _ => ?_
  refine stW 14 rfl ?_
  refine ldW fun _ => ?_
  refine stW 15 rfl ?_
  refine ldW fun _ => ?_
  refine stW 16 rfl ?_
  exact step_ret c h
theorem p22_spec : Sp c defs 𝒱 bd (WS c w R 17)
    (k0_part22 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (wf w) (wio))
    fun Q => WS c w R 21 ⊢ Q ⟨(extractStridedSlice S16x128 ![16, 0] (wf w) slices_S40x128_o16_0_S16x128), (cmpi .eq (wio) (broadcast S16x128 (5#32)))⟩ := by
  intro Q h
  unfold k0_part22
  refine ldW fun _ => ?_
  refine stW 17 rfl ?_
  refine ldW fun _ => ?_
  refine stW 18 rfl ?_
  refine ldW fun _ => ?_
  refine stW 19 rfl ?_
  refine ldW fun _ => ?_
  refine stW 20 rfl ?_
  exact step_ret c h
theorem p23_spec : Sp c defs 𝒱 bd (WS c w R 21)
    (k0_part23 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (wf w) (wio) (extractStridedSlice S16x128 ![16, 0] (wf w) slices_S40x128_o16_0_S16x128) (cmpi .eq (wio) (broadcast S16x128 (5#32))))
    fun Q => WS c w R 25 ⊢ Q (truncf .bf16 (select (cmpi .eq (wio) (broadcast S16x128 (9#32))) (extractStridedSlice S16x128 ![16, 0] (wf w) slices_S40x128_o16_0_S16x128) (broadcast S16x128 (Scalar.ofBits .f32 0x00000000#32 : F .f32))) bitsLt_bf16_f32) := by
  intro Q h
  unfold k0_part23
  refine ldW fun _ => ?_
  refine stW 21 rfl ?_
  refine ldW fun _ => ?_
  refine stW 22 rfl ?_
  refine ldW fun _ => ?_
  refine stW 23 rfl ?_
  refine ldW fun _ => ?_
  refine stW 24 rfl ?_
  exact step_ret c h
theorem p24_spec : Sp c defs 𝒱 bd (WS c w R 25)
    (k0_part24 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (wf w) (wio) (truncf .bf16 (select (cmpi .eq (wio) (broadcast S16x128 (9#32))) (extractStridedSlice S16x128 ![16, 0] (wf w) slices_S40x128_o16_0_S16x128) (broadcast S16x128 (Scalar.ofBits .f32 0x00000000#32 : F .f32))) bitsLt_bf16_f32))
    fun Q => WS c w R 29 ⊢ Q (truncf .bf16 (select (cmpi .eq (wio) (broadcast S16x128 (13#32))) (extractStridedSlice S16x128 ![16, 0] (wf w) slices_S40x128_o16_0_S16x128) (broadcast S16x128 (Scalar.ofBits .f32 0x00000000#32 : F .f32))) bitsLt_bf16_f32) := by
  intro Q h
  unfold k0_part24
  refine ldW fun _ => ?_
  refine stW 25 rfl ?_
  refine ldW fun _ => ?_
  refine stW 26 rfl ?_
  refine ldW fun _ => ?_
  refine stW 27 rfl ?_
  refine ldW fun _ => ?_
  refine stW 28 rfl ?_
  refine ldW fun _ => ?_
  exact step_ret c h
theorem p25_spec : Sp c defs 𝒱 bd (WS c w R 29)
    (k0_part25 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (wf w) (wio) (truncf .bf16 (select (cmpi .eq (wio) (broadcast S16x128 (13#32))) (extractStridedSlice S16x128 ![16, 0] (wf w) slices_S40x128_o16_0_S16x128) (broadcast S16x128 (Scalar.ofBits .f32 0x00000000#32 : F .f32))) bitsLt_bf16_f32))
    fun Q => WS c w R 34 ⊢ Q ⟨(extractStridedSlice S16x128 ![24, 0] (wf w) slices_S40x128_o24_0_S16x128), (10#32)⟩ := by
  intro Q h
  unfold k0_part25
  refine stW 29 rfl ?_
  refine ldW fun _ => ?_
  refine stW 30 rfl ?_
  refine ldW fun _ => ?_
  refine stW 31 rfl ?_
  refine ldW fun _ => ?_
  refine stW 32 rfl ?_
  refine ldW fun _ => ?_
  refine stW 33 rfl ?_
  exact step_ret c h
theorem p26_spec : Sp c defs 𝒱 bd (WS c w R 34)
    (k0_part26 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (wf w) (wio) (extractStridedSlice S16x128 ![24, 0] (wf w) slices_S40x128_o24_0_S16x128) (10#32))
    fun Q => WS c w R 38 ⊢ Q ⟨(extractStridedSlice S16x128 ![24, 0] (wf w) slices_S40x128_o24_0_S16x128), (cmpi .eq (wio) (broadcast S16x128 (14#32))), (broadcast S16x128 (Scalar.ofBits .f32 0x00000000#32 : F .f32))⟩ := by
  intro Q h
  unfold k0_part26
  refine ldW fun _ => ?_
  refine stW 34 rfl ?_
  refine ldW fun _ => ?_
  refine stW 35 rfl ?_
  refine ldW fun _ => ?_
  refine stW 36 rfl ?_
  refine ldW fun _ => ?_
  refine stW 37 rfl ?_
  exact step_ret c h
end

end Cert.KernelIdeal.Own
-- ==== Proof.Loop.lean ====
/-
  The loop of the body, from its first trip to its last.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Wblk

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section
variable {c : Dev nD} {Λ : Labels} {defs : Defs nD τ sig (Elt F) Λ} {𝒱 : Variants} {bd : Option 𝒱.V}
theorem exV {α : Type} {P : α → Prop} {A : α → sProp 𝕄} {G : sProp 𝕄} (h : ∀ V, P V → A V ⊢ G) : iprop(∃ V, ⌜P V⌝ ∗ A V) ⊢ G := by
  iintro ⟨%V, %hV, H⟩
  iapply (h V hV)
  iexact H
theorem step_for {σ α : Type} {lb ub st : BitVec 32} {hok : Scf.OK lb ub st} {init : σ} {body : Fin (Scf.trips lb ub st) → σ → Prog (TpuEff nD τ sig (Elt F) Λ .tc) σ}
    {kk : σ → Prog (TpuEff nD τ sig (Elt F) Λ .tc) α} {A : sProp 𝕄} {Q : α → sProp 𝕄} (I : ℕ → σ → sProp 𝕄) (h0 : A ⊢ I 0 init)
    (hb : ∀ (t : Fin (Scf.trips lb ub st)) (a : σ), I t.val a ⊢ wp frame (wpE defs 𝒱 (c : Thread nD τ) bd) Set.univ (body t a) (I (t.val + 1)))
    (hk : ∀ a, I (Scf.trips lb ub st) a ⊢ wp frame (wpE defs 𝒱 (c : Thread nD τ) bd) Set.univ (kk a) Q) :
    A ⊢ wp frame (wpE defs 𝒱 (c : Thread nD τ) bd) Set.univ (Scf.for lb ub st hok init body >>= kk) Q := by
  refine .trans h0 (.trans (Scf.wp_for_bind frame (wpE defs 𝒱 (c : Thread nD τ) bd) Set.univ lb ub st hok init body I hb (kk := kk) (Q := Q)) ?_)
  iintro H
  iapply H
  iintro %a HI
  iapply (hk a)
  iexact HI
end
section
variable {c : Dev nD} (C : Codes (F := F)) (Sc : Scales (F := F)) (qs qt : Fin 6 → PosShare TreeShare) {L : S12.Idx → Elt F .i32}  {arg2 : Memref sig .tc .vmem S40x128 .fp8e4m3} {harg2 : arg2.IsWhole}   {arg3 : Memref sig .tc .smem S1 .f32} {harg3 : arg3.IsWhole}   {arg4 : Memref sig .tc .smem S1 .f32} {harg4 : arg4.IsWhole}   {arg5 : Memref sig .tc .vmem S12x4096 .bf16} {harg5 : arg5.IsWhole}   {arg6 : Memref sig .tc .vmem S12x4096 .bf16} {harg6 : arg6.IsWhole}   {arg7 : Memref sig .tc .smem S12 .f32} {harg7 : arg7.IsWhole}   {arg8 : Memref sig .tc .smem S12 .i32} {harg8 : arg8.IsWhole}   {arg9 : Memref sig .tc .vmem S12x4096 .f32} {harg9 : arg9.IsWhole}   {arg10 : Memref sig .tc .vmem S12x4096 .f32} {harg10 : arg10.IsWhole}   {arg11 : Memref sig .tc .vmem S12x4096 .f32} {harg11 : arg11.IsWhole}
    {qL q3 q4 : PosShare TreeShare} {w : FVec F S40x128 .fp8e4m3} {w1 b1 : S1.Idx → Elt F .f32} {defs : Defs nD τ sig (Elt F) Λ₀} {𝒱 : Variants} {bd : Option 𝒱.V} {R : sProp (MT nD τ sig Unit (Elt F) ℕ (Pipeline.UD sig nD τ) ℕ)}
/-- What a trip of the loop has to do for the values: the row it stores is right. -/
def TripOK (L : S12.Idx → Elt F .i32) (w : FVec F S40x128 .fp8e4m3) (w1 b1 : S1.Idx → Elt F .f32) (OK : ℕ → (S12x4096.Idx → Elt F .f32) → Prop) : Prop :=
  ∀ W, WB w 40 W → ∀ j, j < nJ L → ∀ V (g : Ring (F := F)), OK j V → (∀ i ∈ rowsR (sl j) 0 (32 * tu (at12 L (jB L j)) (wC L j)), g i = chunkE C (jB L j) (jC L j) i) →
      OK (j + 1) (put (Rect.unit (s := S12x4096) ![(jB L j).val, (jC L j).val * 512] S1x512.size (row_bound _ _)) V
        (rowOut W (sl j) (scol (sl j) (chunkS Sc (jB L j) (jC L j))) g w1 b1))
variable {OK : ℕ → (S12x4096.Idx → Elt F .f32) → Prop}
set_option maxHeartbeats 4000000 in
/-- The loop: it starts with the first five jobs started and ends with every job done. -/
theorem p27_spec (hL : ∀ b, LenOK (at12 L b)) (h0 : ∀ V, OK 0 V) (hT : TripOK C Sc L w w1 b1 OK) {hw10 v59} : Sp c defs 𝒱 bd
    (WS c w iprop((∃ V, owns (c : Thread nD τ) valsM fullShare V) ∗ Slots c C Sc qs qt L (fil 5) ∗ owns (c : Thread nD τ) arg8 qL L ∗ (∃ Ws, owes (c : Thread nD τ) 0 Ws)
      ∗ owns (c : Thread nD τ) arg3 q3 w1 ∗ owns (c : Thread nD τ) arg4 q4 b1 ∗ R) 38)
    (k0_part27 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 (at12 L 0) (at12 L 1) (at12 L 2) (at12 L 3) (at12 L 4) (at12 L 5) (at12 L 6) (at12 L 7) (at12 L 8) (at12 L 9) (at12 L 10) (at12 L 11) hw10 v59 (wB L 5) (wC L 5) (wf w) wio (extractStridedSlice S16x128 ![24, 0] (wf w) slices_S40x128_o24_0_S16x128) (cmpi .eq wio (broadcast S16x128 14#32)) (broadcast S16x128 (Scalar.ofBits .f32 0x00000000#32 : F .f32)))
    fun Q => ∀ V v503 v510, OK (nJ L) V → iprop(Slots c C Sc qs qt L (occ (nJ L) (nJ L)) ∗ owns (c : Thread nD τ) arg8 qL L ∗ (∃ Ws, owes (c : Thread nD τ) 0 Ws)
      ∗ (∃ W, owns (c : Thread nD τ) wblkM fullShare W) ∗ owns (c : Thread nD τ) arg3 q3 w1 ∗ owns (c : Thread nD τ) arg4 q4 b1 ∗ owns (c : Thread nD τ) valsM fullShare V ∗ R) ⊢ Q ⟨colI, rowI, v503, lens1 L, v510⟩ := by
  intro Q h
  unfold k0_part27
  refine ldW fun _ => ?_
  refine stW 38 rfl ?_
  refine ldW fun _ => ?_
  refine stW 39 rfl ?_
  unfold WS
  refine exl fun W => ?_
  refine ungrp (pure_l fun hW => ?_)
  refine swap2 ?_
  refine exl fun V0 => ?_
  refine retb c ?_
  refine step_load c ?_
  refine step_store c ?_
  refine retb c ?_
  refine step_for (Inv c C Sc qs qt L arg2 harg2 arg3 harg3 arg4 harg4 arg5 harg5 arg6 harg6 arg7 harg7 arg8 harg8 arg9 harg9 arg10 harg10 arg11 harg11 qL q3 q4 W w1 b1 OK R) ?_ ?_ ?_
  · unfold Inv
    iintro ⟨HV, HW, HS, H8, HO, H3, H4, HR⟩
    isplitr
    · ipureintro; rfl
    isplitl [HS]
    · rw [← fil_occ (nJ_bounds hL).1]; iexact HS
    isplitl [H8]; · iexact H8
    isplitl [HO]; · iexact HO
    isplitl [HW]; · iexact HW
    isplitl [H3]; · iexact H3
    isplitl [H4]; · iexact H4
    isplitl [HV]
    · iexists _
      isplitr
      rotate_left
      · iexact HV
      ipureintro; exact h0 _
    iexact HR
  · intro t a
    exact body_spec c C Sc qs qt L arg2 harg2 arg3 harg3 arg4 harg4 arg5 harg5 arg6 harg6 arg7 harg7 arg8 harg8 arg9 harg9 arg10 harg10 arg11 harg11 hL hw10 t qL q3 q4 W w1 b1 OK R (hT W hW) v59 (wB L 5) (wC L 5) (wf w) wio (extractStridedSlice S16x128 ![24, 0] (wf w) slices_S40x128_o24_0_S16x128) (cmpi .eq wio (broadcast S16x128 14#32)) (broadcast S16x128 (Scalar.ofBits .f32 0x00000000#32 : F .f32)) a
  intro a
  rw [show Scf.trips _ _ _ = nJ L from trips1 hL]
  refine step_for (fun _ _ => Inv c C Sc qs qt L arg2 harg2 arg3 harg3 arg4 harg4 arg5 harg5 arg6 harg6 arg7 harg7 arg8 harg8 arg9 harg9 arg10 harg10 arg11 harg11 qL q3 q4 W w1 b1 OK R (nJ L) a) .rfl (fun t _ => (Nat.not_lt_zero _ (lt_of_lt_of_eq t.isLt (trips2 hL))).elim) ?_
  intro _
  unfold Inv
  refine pure_l fun _ => ?_
  refine swap2 ?_
  refine step_entry c 0 rfl ?_
  refine step_ret c ?_
  refine .trans ?_ (exV fun V hV => h V _ _ hV)
  iintro ⟨H8, HS, HO, HW, H3, H4, ⟨%V, %hV, HV⟩, HR⟩
  iexists V
  isplitr; · ipureintro; exact hV
  isplitl [HS]; · iexact HS
  isplitl [H8]; · iexact H8
  isplitl [HO]; · iexact HO
  isplitl [HW]; · iexists W; iexact HW
  isplitl [H3]; · iexact H3
  isplitl [H4]; · iexact H4
  isplitl [HV]; · iexact HV
  iexact HR
end

end Cert.KernelIdeal.Own
-- ==== Proof.PostP0.lean ====
/-
  The windows 28 to 54 of the body, each over the state of its last part.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Post

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section
variable {c : Dev nD}  {arg2 : Memref sig .tc .vmem S40x128 .fp8e4m3} {harg2 : arg2.IsWhole}   {arg3 : Memref sig .tc .smem S1 .f32} {harg3 : arg3.IsWhole}   {arg4 : Memref sig .tc .smem S1 .f32} {harg4 : arg4.IsWhole}   {arg5 : Memref sig .tc .vmem S12x4096 .bf16} {harg5 : arg5.IsWhole}   {arg6 : Memref sig .tc .vmem S12x4096 .bf16} {harg6 : arg6.IsWhole}   {arg7 : Memref sig .tc .smem S12 .f32} {harg7 : arg7.IsWhole}   {arg8 : Memref sig .tc .smem S12 .i32} {harg8 : arg8.IsWhole}   {arg9 : Memref sig .tc .vmem S12x4096 .f32} {harg9 : arg9.IsWhole}   {arg10 : Memref sig .tc .vmem S12x4096 .f32} {harg10 : arg10.IsWhole}   {arg11 : Memref sig .tc .vmem S12x4096 .f32} {harg11 : arg11.IsWhole}
    {q5 q6 q7 q8 : PosShare TreeShare} {X5 X6 : S12x4096.Idx → Elt F .bf16} {X7 : S12.Idx → Elt F .f32} {L : S12.Idx → Elt F .i32} {V : S12x4096.Idx → Elt F .f32}
    {defs : Defs nD τ sig (Elt F) Λ₀} {𝒱 : Variants} {bd : Option 𝒱.V} {R : sProp (MT nD τ sig Unit (Elt F) ℕ (Pipeline.UD sig nD τ) ℕ)}

theorem p28_spec {v503 v510} : Sp c defs 𝒱 bd (ST c arg5 arg6 arg7 arg8 arg9 arg10 arg11 q5 q6 q7 q8 X5 X6 X7 L V R 32)
    (k0_part28 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 rowI v503 (lens1 L) v510)
    fun Q => ∀ v549 v551, (ST c arg5 arg6 arg7 arg8 arg9 arg10 arg11 q5 q6 q7 q8 X5 X6 X7 L V R 32) ⊢ Q ⟨(lens4 L), v549, v551, (broadcast S12x128 4#32)⟩ := by
  intro Q h
  unfold k0_part28
  refine ld7 fun v511 => ?_
  refine ld8 0 rfl ?_
  refine ld8 1 rfl ?_
  refine ld7 fun v523 => ?_
  refine ld8 1 rfl ?_
  refine ld8 2 rfl ?_
  refine ld7 fun v535 => ?_
  refine ld8 2 rfl ?_
  refine ld8 3 rfl ?_
  refine ld7 fun v547 => ?_
  refine ld8 3 rfl ?_
  exact step_ret c (h _ _)

theorem p29_spec {v549 v551} : Sp c defs 𝒱 bd (ST c arg5 arg6 arg7 arg8 arg9 arg10 arg11 q5 q6 q7 q8 X5 X6 X7 L V R 32)
    (k0_part29 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 rowI (lens4 L) v549 v551 (broadcast S12x128 4#32))
    fun Q => ∀ v585 v587 v594, (ST c arg5 arg6 arg7 arg8 arg9 arg10 arg11 q5 q6 q7 q8 X5 X6 X7 L V R 32) ⊢ Q ⟨v585, v587, (lens8 L), v594⟩ := by
  intro Q h
  unfold k0_part29
  refine ld8 4 rfl ?_
  refine ld7 fun v559 => ?_
  refine ld8 4 rfl ?_
  refine ld8 5 rfl ?_
  refine ld7 fun v571 => ?_
  refine ld8 5 rfl ?_
  refine ld8 6 rfl ?_
  refine ld7 fun v583 => ?_
  refine ld8 6 rfl ?_
  refine ld8 7 rfl ?_
  exact step_ret c (h _ _ _)

theorem p30_spec {v585 v587 v594} : Sp c defs 𝒱 bd (ST c arg5 arg6 arg7 arg8 arg9 arg10 arg11 q5 q6 q7 q8 X5 X6 X7 L V R 32)
    (k0_part30 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 rowI v585 v587 (lens8 L) v594)
    fun Q => ∀ v633 v635, (ST c arg5 arg6 arg7 arg8 arg9 arg10 arg11 q5 q6 q7 q8 X5 X6 X7 L V R 32) ⊢ Q ⟨(lens11 L), v633, v635, (cmpi .eq rowI (broadcast S12x128 11#32))⟩ := by
  intro Q h
  unfold k0_part30
  refine ld7 fun v595 => ?_
  refine ld8 7 rfl ?_
  refine ld8 8 rfl ?_
  refine ld7 fun v607 => ?_
  refine ld8 8 rfl ?_
  refine ld8 9 rfl ?_
  refine ld7 fun v619 => ?_
  refine ld8 9 rfl ?_
  refine ld8 10 rfl ?_
  refine ld7 fun v631 => ?_
  refine ld8 10 rfl ?_
  exact step_ret c (h _ _)

theorem p31_spec {v633 v635} : Sp c defs 𝒱 bd (ST c arg5 arg6 arg7 arg8 arg9 arg10 arg11 q5 q6 q7 q8 X5 X6 X7 L V R 32)
    (k0_part31 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI rowI (lens11 L) v633 v635 (cmpi .eq rowI (broadcast S12x128 11#32)))
    fun Q => ∀ v645 v647 v649 v677 v678, (ST c arg5 arg6 arg7 arg8 arg9 arg10 arg11 q5 q6 q7 q8 X5 X6 X7 L V R 32) ⊢ Q ⟨(lens12 L), v645, v647, v649, v677, v678⟩ := by
  intro Q h
  unfold k0_part31
  refine ld8 11 rfl ?_
  refine ld7 fun v643 => ?_
  refine ld8 11 rfl ?_
  exact step_ret c (h _ _ _ _ _)

theorem p32_spec {v649 v677 v678} : Sp c defs 𝒱 bd (ST c arg5 arg6 arg7 arg8 arg9 arg10 arg11 q5 q6 q7 q8 X5 X6 X7 L V R 32)
    (k0_part32 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 v649 v677 v678)
    fun Q => ∀ v713 v719 cst_297, (ST c arg5 arg6 arg7 arg8 arg9 arg10 arg11 q5 q6 q7 q8 X5 X6 X7 L V R 32) ⊢ Q ⟨v713, v719, cst_297⟩ := by
  intro Q h
  unfold k0_part32
  exact step_ret c (h _ _ _)

theorem p33_spec {v645 v713 v719 cst_297} : Sp c defs 𝒱 bd (ST c arg5 arg6 arg7 arg8 arg9 arg10 arg11 q5 q6 q7 q8 X5 X6 X7 L V R 32)
    (k0_part33 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v713 v719 cst_297)
    fun Q => ∀ v722 v723 v725 v732 v754 v756 v757 v758, (ST c arg5 arg6 arg7 arg8 arg9 arg10 arg11 q5 q6 q7 q8 X5 X6 X7 L V R 32) ⊢ Q ⟨v722, v723, v725, (vmask L 31), (vblk L V 31), v732, v754, v756, v757, v758⟩ := by
  intro Q h
  unfold k0_part33
  refine ldV 31 rfl ?_
  refine ld5 fun v736 => ?_
  refine ld6 fun v738 => ?_
  exact step_ret c (h _ _ _ _ _ _ _ _)

theorem p34_spec {v754 v756 v757 v758} : Sp c defs 𝒱 bd (ST c arg5 arg6 arg7 arg8 arg9 arg10 arg11 q5 q6 q7 q8 X5 X6 X7 L V R 32)
    (k0_part34 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v754 v756 v757 v758)
    fun Q => ∀ v794 v796 v797 v798, (ST c arg5 arg6 arg7 arg8 arg9 arg10 arg11 q5 q6 q7 q8 X5 X6 X7 L V R 32) ⊢ Q ⟨v794, v796, v797, v798⟩ := by
  intro Q h
  unfold k0_part34
  exact step_ret c (h _ _ _ _)

theorem p35_spec {v722 v723 v725 v732 v794 v796 v797 v798} : Sp c defs 𝒱 bd (ST c arg5 arg6 arg7 arg8 arg9 arg10 arg11 q5 q6 q7 q8 X5 X6 X7 L V R 32)
    (k0_part35 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v723 v725 (vmask L 31) (vblk L V 31) v732 v794 v796 v797 v798)
    fun Q => ∀ v820 v825 v832 v835, (ST c arg5 arg6 arg7 arg8 arg9 arg10 arg11 q5 q6 q7 q8 X5 X6 X7 L V R 31) ⊢ Q ⟨v820, v825, (vcolI 30), (vmask L 30), (vblk L V 30), v832, v835⟩ := by
  intro Q h
  unfold k0_part35
  refine ld9 fun v821 => ?_
  refine st9 31 rfl ?_
  refine ld11 fun v823 => ?_
  refine st11 ?_
  refine ld10 fun v824 => ?_
  refine st10 ?_
  refine ldV 30 rfl ?_
  exact step_ret c (h _ _ _ _)

theorem p36_spec {v645 v835} : Sp c defs 𝒱 bd (ST c arg5 arg6 arg7 arg8 arg9 arg10 arg11 q5 q6 q7 q8 X5 X6 X7 L V R 31)
    (k0_part36 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 (vcolI 30) (vmask L 30) (vblk L V 30) v835)
    fun Q => ∀ v870 v872 v875 cst_369, (ST c arg5 arg6 arg7 arg8 arg9 arg10 arg11 q5 q6 q7 q8 X5 X6 X7 L V R 31) ⊢ Q ⟨v870, v872, v875, cst_369⟩ := by
  intro Q h
  unfold k0_part36
  refine ld5 fun v836 => ?_
  refine ld6 fun v838 => ?_
  exact step_ret c (h _ _ _ _)

theorem p37_spec {v722 v820 v870 v872 v875 cst_369} : Sp c defs 𝒱 bd (ST c arg5 arg6 arg7 arg8 arg9 arg10 arg11 q5 q6 q7 q8 X5 X6 X7 L V R 31)
    (k0_part37 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v820 (vmask L 30) v870 v872 v875 cst_369)
    fun Q => ∀ v913 v917 cst_387, (ST c arg5 arg6 arg7 arg8 arg9 arg10 arg11 q5 q6 q7 q8 X5 X6 X7 L V R 31) ⊢ Q ⟨v913, v917, cst_387⟩ := by
  intro Q h
  unfold k0_part37
  exact step_ret c (h _ _ _)

theorem p38_spec {v645 v820 v825 v832 v913 v917 cst_387} : Sp c defs 𝒱 bd (ST c arg5 arg6 arg7 arg8 arg9 arg10 arg11 q5 q6 q7 q8 X5 X6 X7 L V R 31)
    (k0_part38 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v820 v825 (vblk L V 30) v832 v913 v917 cst_387)
    fun Q => ∀ v920 v925 v932 v953, (ST c arg5 arg6 arg7 arg8 arg9 arg10 arg11 q5 q6 q7 q8 X5 X6 X7 L V R 30) ⊢ Q ⟨v920, v925, (vmask L 29), (vblk L V 29), v932, v953⟩ := by
  intro Q h
  unfold k0_part38
  refine ld9 fun v921 => ?_
  refine st9 30 rfl ?_
  refine ld11 fun v923 => ?_
  refine st11 ?_
  refine ld10 fun v924 => ?_
  refine st10 ?_
  refine ldV 29 rfl ?_
  refine ld5 fun v936 => ?_
  refine ld6 fun v938 => ?_
  exact step_ret c (h _ _ _ _)

theorem p39_spec {v953} : Sp c defs 𝒱 bd (ST c arg5 arg6 arg7 arg8 arg9 arg10 arg11 q5 q6 q7 q8 X5 X6 X7 L V R 30)
    (k0_part39 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (vblk L V 29) v953)
    fun Q => ∀ v986 v993, (ST c arg5 arg6 arg7 arg8 arg9 arg10 arg11 q5 q6 q7 q8 X5 X6 X7 L V R 30) ⊢ Q ⟨v986, v993⟩ := by
  intro Q h
  unfold k0_part39
  exact step_ret c (h _ _)

theorem p40_spec {v722 v920 v925 v986 v993} : Sp c defs 𝒱 bd (ST c arg5 arg6 arg7 arg8 arg9 arg10 arg11 q5 q6 q7 q8 X5 X6 X7 L V R 30)
    (k0_part40 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v920 v925 (vmask L 29) (vblk L V 29) v986 v993)
    fun Q => ∀ v1020 v1025, (ST c arg5 arg6 arg7 arg8 arg9 arg10 arg11 q5 q6 q7 q8 X5 X6 X7 L V R 29) ⊢ Q ⟨v1020, v1025, (vcolI 28), (vmask L 28), (vcol V 28), (broadcast S12x128 (Scalar.ofBits .f32 0x00000000#32 : F .f32))⟩ := by
  intro Q h
  unfold k0_part40
  refine ld9 fun v1021 => ?_
  refine st9 29 rfl ?_
  refine ld11 fun v1023 => ?_
  refine st11 ?_
  refine ld10 fun v1024 => ?_
  refine st10 ?_
  refine ldV 28 rfl ?_
  exact step_ret c (h _ _)

theorem p41_spec {v645 v932} : Sp c defs 𝒱 bd (ST c arg5 arg6 arg7 arg8 arg9 arg10 arg11 q5 q6 q7 q8 X5 X6 X7 L V R 29)
    (k0_part41 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v932 (vcolI 28) (vmask L 28) (vcol V 28) (broadcast S12x128 (Scalar.ofBits .f32 0x00000000#32 : F .f32)))
    fun Q => ∀ v1032 v1070 c124_i32_466, (ST c arg5 arg6 arg7 arg8 arg9 arg10 arg11 q5 q6 q7 q8 X5 X6 X7 L V R 29) ⊢ Q ⟨(vblk L V 28), v1032, v1070, c124_i32_466⟩ := by
  intro Q h
  unfold k0_part41
  refine ld5 fun v1036 => ?_
  refine ld6 fun v1038 => ?_
  exact step_ret c (h _ _ _)

theorem p42_spec {v1070 c124_i32_466} : Sp c defs 𝒱 bd (ST c arg5 arg6 arg7 arg8 arg9 arg10 arg11 q5 q6 q7 q8 X5 X6 X7 L V R 29)
    (k0_part42 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v1070 c124_i32_466)
    fun Q => ∀ v1110 v1111, (ST c arg5 arg6 arg7 arg8 arg9 arg10 arg11 q5 q6 q7 q8 X5 X6 X7 L V R 29) ⊢ Q ⟨v1110, v1111⟩ := by
  intro Q h
  unfold k0_part42
  exact step_ret c (h _ _)

theorem p43_spec {v645 v722 v1020 v1025 v1032 v1110 v1111} : Sp c defs 𝒱 bd (ST c arg5 arg6 arg7 arg8 arg9 arg10 arg11 q5 q6 q7 q8 X5 X6 X7 L V R 29)
    (k0_part43 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v722 v1020 v1025 (vmask L 28) (vblk L V 28) v1032 v1110 v1111)
    fun Q => ∀ v1120 v1125 v1132 v1135 v1142 v1147, (ST c arg5 arg6 arg7 arg8 arg9 arg10 arg11 q5 q6 q7 q8 X5 X6 X7 L V R 28) ⊢ Q ⟨v1120, v1125, (vmask L 27), (vblk L V 27), v1132, v1135, v1142, v1147⟩ := by
  intro Q h
  unfold k0_part43
  refine ld9 fun v1121 => ?_
  refine st9 28 rfl ?_
  refine ld11 fun v1123 => ?_
  refine st11 ?_
  refine ld10 fun v1124 => ?_
  refine st10 ?_
  refine ldV 27 rfl ?_
  refine ld5 fun v1136 => ?_
  refine ld6 fun v1138 => ?_
  exact step_ret c (h _ _ _ _ _ _)

theorem p44_spec {v1135 v1142 v1147} : Sp c defs 𝒱 bd (ST c arg5 arg6 arg7 arg8 arg9 arg10 arg11 q5 q6 q7 q8 X5 X6 X7 L V R 28)
    (k0_part44 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (vmask L 27) (vblk L V 27) v1135 v1142 v1147)
    fun Q => ∀ v1186 v1188, (ST c arg5 arg6 arg7 arg8 arg9 arg10 arg11 q5 q6 q7 q8 X5 X6 X7 L V R 28) ⊢ Q ⟨v1186, v1188⟩ := by
  intro Q h
  unfold k0_part44
  exact step_ret c (h _ _)

theorem p45_spec {v722 v1120 v1125 v1186 v1188} : Sp c defs 𝒱 bd (ST c arg5 arg6 arg7 arg8 arg9 arg10 arg11 q5 q6 q7 q8 X5 X6 X7 L V R 28)
    (k0_part45 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v1120 v1125 (vmask L 27) (vblk L V 27) v1186 v1188)
    fun Q => ∀ v1220 v1225, (ST c arg5 arg6 arg7 arg8 arg9 arg10 arg11 q5 q6 q7 q8 X5 X6 X7 L V R 27) ⊢ Q ⟨v1220, v1225, 3328#32⟩ := by
  intro Q h
  unfold k0_part45
  refine ld9 fun v1221 => ?_
  refine st9 27 rfl ?_
  refine ld11 fun v1223 => ?_
  refine st11 ?_
  refine ld10 fun v1224 => ?_
  refine st10 ?_
  exact step_ret c (h _ _)

theorem p46_spec {v645 v1132} : Sp c defs 𝒱 bd (ST c arg5 arg6 arg7 arg8 arg9 arg10 arg11 q5 q6 q7 q8 X5 X6 X7 L V R 27)
    (k0_part46 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v1132 3328#32)
    fun Q => ∀ v1232 v1262 v1264 v1265, (ST c arg5 arg6 arg7 arg8 arg9 arg10 arg11 q5 q6 q7 q8 X5 X6 X7 L V R 27) ⊢ Q ⟨(vmask L 26), (vblk L V 26), v1232, v1262, v1264, v1265⟩ := by
  intro Q h
  unfold k0_part46
  refine ldV 26 rfl ?_
  refine ld5 fun v1236 => ?_
  refine ld6 fun v1238 => ?_
  exact step_ret c (h _ _ _ _)

theorem p47_spec {v1262 v1264 v1265} : Sp c defs 𝒱 bd (ST c arg5 arg6 arg7 arg8 arg9 arg10 arg11 q5 q6 q7 q8 X5 X6 X7 L V R 27)
    (k0_part47 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v1262 v1264 v1265)
    fun Q => ∀ v1302 v1304 v1305, (ST c arg5 arg6 arg7 arg8 arg9 arg10 arg11 q5 q6 q7 q8 X5 X6 X7 L V R 27) ⊢ Q ⟨v1302, v1304, v1305⟩ := by
  intro Q h
  unfold k0_part47
  exact step_ret c (h _ _ _)

theorem p48_spec {v722 v1220 v1225 v1232 v1302 v1304 v1305} : Sp c defs 𝒱 bd (ST c arg5 arg6 arg7 arg8 arg9 arg10 arg11 q5 q6 q7 q8 X5 X6 X7 L V R 27)
    (k0_part48 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v1220 v1225 (vmask L 26) (vblk L V 26) v1232 v1302 v1304 v1305)
    fun Q => ∀ v1320 v1325 v1332 v1335 v1340 v1341, (ST c arg5 arg6 arg7 arg8 arg9 arg10 arg11 q5 q6 q7 q8 X5 X6 X7 L V R 26) ⊢ Q ⟨v1320, v1325, (vcolI 25), (vmask L 25), (vblk L V 25), v1332, v1335, v1340, v1341⟩ := by
  intro Q h
  unfold k0_part48
  refine ld9 fun v1321 => ?_
  refine st9 26 rfl ?_
  refine ld11 fun v1323 => ?_
  refine st11 ?_
  refine ld10 fun v1324 => ?_
  refine st10 ?_
  refine ldV 25 rfl ?_
  refine ld5 fun v1336 => ?_
  refine ld6 fun v1338 => ?_
  exact step_ret c (h _ _ _ _ _ _)

theorem p49_spec {v645 v1335 v1340 v1341} : Sp c defs 𝒱 bd (ST c arg5 arg6 arg7 arg8 arg9 arg10 arg11 q5 q6 q7 q8 X5 X6 X7 L V R 26)
    (k0_part49 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 (vcolI 25) (vmask L 25) (vblk L V 25) v1335 v1340 v1341)
    fun Q => ∀ v1378 v1380 v1381 v1382, (ST c arg5 arg6 arg7 arg8 arg9 arg10 arg11 q5 q6 q7 q8 X5 X6 X7 L V R 26) ⊢ Q ⟨v1378, v1380, v1381, v1382⟩ := by
  intro Q h
  unfold k0_part49
  exact step_ret c (h _ _ _ _)

theorem p50_spec {v722 v1320 v1378 v1380 v1381 v1382} : Sp c defs 𝒱 bd (ST c arg5 arg6 arg7 arg8 arg9 arg10 arg11 q5 q6 q7 q8 X5 X6 X7 L V R 26)
    (k0_part50 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v1320 (vmask L 25) (vblk L V 25) v1378 v1380 v1381 v1382)
    fun Q => ∀ v1417 v1420 v1422, (ST c arg5 arg6 arg7 arg8 arg9 arg10 arg11 q5 q6 q7 q8 X5 X6 X7 L V R 25) ⊢ Q ⟨v1417, v1420, v1422⟩ := by
  intro Q h
  unfold k0_part50
  refine ld9 fun v1421 => ?_
  refine st9 25 rfl ?_
  exact step_ret c (h _ _ _)

theorem p51_spec {v645 v1325 v1332 v1417 v1422} : Sp c defs 𝒱 bd (ST c arg5 arg6 arg7 arg8 arg9 arg10 arg11 q5 q6 q7 q8 X5 X6 X7 L V R 25)
    (k0_part51 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v1325 v1332 v1417 v1422)
    fun Q => ∀ v1425 v1432 v1454 v1456 v1459 cst_661, (ST c arg5 arg6 arg7 arg8 arg9 arg10 arg11 q5 q6 q7 q8 X5 X6 X7 L V R 25) ⊢ Q ⟨v1425, (vmask L 24), (vblk L V 24), v1432, v1454, v1456, v1459, cst_661⟩ := by
  intro Q h
  unfold k0_part51
  refine ld11 fun v1423 => ?_
  refine st11 ?_
  refine ld10 fun v1424 => ?_
  refine st10 ?_
  refine ldV 24 rfl ?_
  refine ld5 fun v1436 => ?_
  refine ld6 fun v1438 => ?_
  exact step_ret c (h _ _ _ _ _ _)

theorem p52_spec {v1454 v1456 v1459 cst_661} : Sp c defs 𝒱 bd (ST c arg5 arg6 arg7 arg8 arg9 arg10 arg11 q5 q6 q7 q8 X5 X6 X7 L V R 25)
    (k0_part52 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v1454 v1456 v1459 cst_661)
    fun Q => ∀ v1494 v1496 v1499 cst_681, (ST c arg5 arg6 arg7 arg8 arg9 arg10 arg11 q5 q6 q7 q8 X5 X6 X7 L V R 25) ⊢ Q ⟨v1494, v1496, v1499, cst_681⟩ := by
  intro Q h
  unfold k0_part52
  exact step_ret c (h _ _ _ _)

theorem p53_spec {v722 v1420 v1425 v1432 v1494 v1496 v1499 cst_681} : Sp c defs 𝒱 bd (ST c arg5 arg6 arg7 arg8 arg9 arg10 arg11 q5 q6 q7 q8 X5 X6 X7 L V R 25)
    (k0_part53 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v1420 v1425 (vmask L 24) (vblk L V 24) v1432 v1494 v1496 v1499 cst_681)
    fun Q => ∀ v1520 v1525 v1532 v1535 v1536, (ST c arg5 arg6 arg7 arg8 arg9 arg10 arg11 q5 q6 q7 q8 X5 X6 X7 L V R 24) ⊢ Q ⟨v1520, v1525, (vcolI 23), (vmask L 23), (vblk L V 23), v1532, v1535, v1536⟩ := by
  intro Q h
  unfold k0_part53
  refine ld9 fun v1521 => ?_
  refine st9 24 rfl ?_
  refine ld11 fun v1523 => ?_
  refine st11 ?_
  refine ld10 fun v1524 => ?_
  refine st10 ?_
  refine ldV 23 rfl ?_
  refine ld5 fun v1536 => ?_
  exact step_ret c (h _ _ _ _ _)

theorem p54_spec {v645 v1535 v1536} : Sp c defs 𝒱 bd (ST c arg5 arg6 arg7 arg8 arg9 arg10 arg11 q5 q6 q7 q8 X5 X6 X7 L V R 24)
    (k0_part54 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 (vcolI 23) (vmask L 23) (vblk L V 23) v1535 v1536)
    fun Q => ∀ v1570 v1577, (ST c arg5 arg6 arg7 arg8 arg9 arg10 arg11 q5 q6 q7 q8 X5 X6 X7 L V R 24) ⊢ Q ⟨v1570, v1577⟩ := by
  intro Q h
  unfold k0_part54
  refine ld6 fun v1538 => ?_
  exact step_ret c (h _ _)
end

end Cert.KernelIdeal.Own
-- ==== Proof.PostP1.lean ====
/-
  The windows 55 to 80 of the body, each over the state of its last part.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Post

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section
variable {c : Dev nD}  {arg2 : Memref sig .tc .vmem S40x128 .fp8e4m3} {harg2 : arg2.IsWhole}   {arg3 : Memref sig .tc .smem S1 .f32} {harg3 : arg3.IsWhole}   {arg4 : Memref sig .tc .smem S1 .f32} {harg4 : arg4.IsWhole}   {arg5 : Memref sig .tc .vmem S12x4096 .bf16} {harg5 : arg5.IsWhole}   {arg6 : Memref sig .tc .vmem S12x4096 .bf16} {harg6 : arg6.IsWhole}   {arg7 : Memref sig .tc .smem S12 .f32} {harg7 : arg7.IsWhole}   {arg8 : Memref sig .tc .smem S12 .i32} {harg8 : arg8.IsWhole}   {arg9 : Memref sig .tc .vmem S12x4096 .f32} {harg9 : arg9.IsWhole}   {arg10 : Memref sig .tc .vmem S12x4096 .f32} {harg10 : arg10.IsWhole}   {arg11 : Memref sig .tc .vmem S12x4096 .f32} {harg11 : arg11.IsWhole}
    {q5 q6 q7 q8 : PosShare TreeShare} {X5 X6 : S12x4096.Idx → Elt F .bf16} {X7 : S12.Idx → Elt F .f32} {L : S12.Idx → Elt F .i32} {V : S12x4096.Idx → Elt F .f32}
    {defs : Defs nD τ sig (Elt F) Λ₀} {𝒱 : Variants} {bd : Option 𝒱.V} {R : sProp (MT nD τ sig Unit (Elt F) ℕ (Pipeline.UD sig nD τ) ℕ)}

theorem p55_spec {v722 v1520 v1570 v1577} : Sp c defs 𝒱 bd (ST c arg5 arg6 arg7 arg8 arg9 arg10 arg11 q5 q6 q7 q8 X5 X6 X7 L V R 24)
    (k0_part55 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v1520 (vmask L 23) v1570 v1577)
    fun Q => ∀ v1613 v1617 v1619, (ST c arg5 arg6 arg7 arg8 arg9 arg10 arg11 q5 q6 q7 q8 X5 X6 X7 L V R 24) ⊢ Q ⟨v1613, v1617, v1619⟩ := by
  intro Q h
  unfold k0_part55
  exact step_ret c (h _ _ _)

theorem p56_spec {v645 v1525 v1532 v1613 v1617 v1619} : Sp c defs 𝒱 bd (ST c arg5 arg6 arg7 arg8 arg9 arg10 arg11 q5 q6 q7 q8 X5 X6 X7 L V R 24)
    (k0_part56 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v1525 (vblk L V 23) v1532 v1613 v1617 v1619)
    fun Q => ∀ v1620 v1625 v1632 v1654 c127_i32_758, (ST c arg5 arg6 arg7 arg8 arg9 arg10 arg11 q5 q6 q7 q8 X5 X6 X7 L V R 23) ⊢ Q ⟨v1620, v1625, (vmask L 22), (vblk L V 22), v1632, v1654, c127_i32_758⟩ := by
  intro Q h
  unfold k0_part56
  refine ld9 fun v1621 => ?_
  refine st9 23 rfl ?_
  refine ld11 fun v1623 => ?_
  refine st11 ?_
  refine ld10 fun v1624 => ?_
  refine st10 ?_
  refine ldV 22 rfl ?_
  refine ld5 fun v1636 => ?_
  refine ld6 fun v1638 => ?_
  exact step_ret c (h _ _ _ _ _)

theorem p57_spec {v1654 c127_i32_758} : Sp c defs 𝒱 bd (ST c arg5 arg6 arg7 arg8 arg9 arg10 arg11 q5 q6 q7 q8 X5 X6 X7 L V R 23)
    (k0_part57 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v1654 c127_i32_758)
    fun Q => ∀ v1694 c96_i32_778, (ST c arg5 arg6 arg7 arg8 arg9 arg10 arg11 q5 q6 q7 q8 X5 X6 X7 L V R 23) ⊢ Q ⟨v1694, c96_i32_778⟩ := by
  intro Q h
  unfold k0_part57
  exact step_ret c (h _ _)

theorem p58_spec {v722 v1620 v1625 v1694 c96_i32_778} : Sp c defs 𝒱 bd (ST c arg5 arg6 arg7 arg8 arg9 arg10 arg11 q5 q6 q7 q8 X5 X6 X7 L V R 23)
    (k0_part58 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v1620 v1625 (vmask L 22) (vblk L V 22) v1694 c96_i32_778)
    fun Q => ∀ v1720 v1725 c127_i32_797, (ST c arg5 arg6 arg7 arg8 arg9 arg10 arg11 q5 q6 q7 q8 X5 X6 X7 L V R 22) ⊢ Q ⟨v1720, v1725, (vcolI 21), (vmask L 21), (vblk L V 21), c127_i32_797⟩ := by
  intro Q h
  unfold k0_part58
  refine ld9 fun v1721 => ?_
  refine st9 22 rfl ?_
  refine ld11 fun v1723 => ?_
  refine st11 ?_
  refine ld10 fun v1724 => ?_
  refine st10 ?_
  refine ldV 21 rfl ?_
  exact step_ret c (h _ _ _)

theorem p59_spec {v645 v1632 c127_i32_797} : Sp c defs 𝒱 bd (ST c arg5 arg6 arg7 arg8 arg9 arg10 arg11 q5 q6 q7 q8 X5 X6 X7 L V R 22)
    (k0_part59 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v1632 (vcolI 21) (vmask L 21) (vblk L V 21) c127_i32_797)
    fun Q => ∀ v1732 v1770 v1772, (ST c arg5 arg6 arg7 arg8 arg9 arg10 arg11 q5 q6 q7 q8 X5 X6 X7 L V R 22) ⊢ Q ⟨v1732, v1770, v1772⟩ := by
  intro Q h
  unfold k0_part59
  refine ld5 fun v1736 => ?_
  refine ld6 fun v1738 => ?_
  exact step_ret c (h _ _ _)

theorem p60_spec {v1770 v1772} : Sp c defs 𝒱 bd (ST c arg5 arg6 arg7 arg8 arg9 arg10 arg11 q5 q6 q7 q8 X5 X6 X7 L V R 22)
    (k0_part60 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v1770 v1772)
    fun Q => ∀ v1810 v1813, (ST c arg5 arg6 arg7 arg8 arg9 arg10 arg11 q5 q6 q7 q8 X5 X6 X7 L V R 22) ⊢ Q ⟨v1810, v1813⟩ := by
  intro Q h
  unfold k0_part60
  exact step_ret c (h _ _)

theorem p61_spec {v645 v722 v1720 v1725 v1732 v1810 v1813} : Sp c defs 𝒱 bd (ST c arg5 arg6 arg7 arg8 arg9 arg10 arg11 q5 q6 q7 q8 X5 X6 X7 L V R 22)
    (k0_part61 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v722 v1720 v1725 (vmask L 21) (vblk L V 21) v1732 v1810 v1813)
    fun Q => ∀ v1820 v1825 v1832 v1835 v1848 cst_856, (ST c arg5 arg6 arg7 arg8 arg9 arg10 arg11 q5 q6 q7 q8 X5 X6 X7 L V R 21) ⊢ Q ⟨v1820, v1825, (vmask L 20), (vblk L V 20), v1832, v1835, v1848, cst_856⟩ := by
  intro Q h
  unfold k0_part61
  refine ld9 fun v1821 => ?_
  refine st9 21 rfl ?_
  refine ld11 fun v1823 => ?_
  refine st11 ?_
  refine ld10 fun v1824 => ?_
  refine st10 ?_
  refine ldV 20 rfl ?_
  refine ld5 fun v1836 => ?_
  refine ld6 fun v1838 => ?_
  exact step_ret c (h _ _ _ _ _ _)

theorem p62_spec {v1835 v1848 cst_856} : Sp c defs 𝒱 bd (ST c arg5 arg6 arg7 arg8 arg9 arg10 arg11 q5 q6 q7 q8 X5 X6 X7 L V R 21)
    (k0_part62 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (vmask L 20) (vblk L V 20) v1835 v1848 cst_856)
    fun Q => ∀ v1886 v1888 v1889, (ST c arg5 arg6 arg7 arg8 arg9 arg10 arg11 q5 q6 q7 q8 X5 X6 X7 L V R 21) ⊢ Q ⟨v1886, v1888, v1889⟩ := by
  intro Q h
  unfold k0_part62
  exact step_ret c (h _ _ _)

theorem p63_spec {v722 v1820 v1825 v1886 v1888 v1889} : Sp c defs 𝒱 bd (ST c arg5 arg6 arg7 arg8 arg9 arg10 arg11 q5 q6 q7 q8 X5 X6 X7 L V R 21)
    (k0_part63 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v1820 v1825 (vmask L 20) (vblk L V 20) v1886 v1888 v1889)
    fun Q => ∀ v1920 v1925, (ST c arg5 arg6 arg7 arg8 arg9 arg10 arg11 q5 q6 q7 q8 X5 X6 X7 L V R 20) ⊢ Q ⟨v1920, v1925, (vcolI 19)⟩ := by
  intro Q h
  unfold k0_part63
  refine ld9 fun v1921 => ?_
  refine st9 20 rfl ?_
  refine ld11 fun v1923 => ?_
  refine st11 ?_
  refine ld10 fun v1924 => ?_
  refine st10 ?_
  exact step_ret c (h _ _)

theorem p64_spec {v645 v1832} : Sp c defs 𝒱 bd (ST c arg5 arg6 arg7 arg8 arg9 arg10 arg11 q5 q6 q7 q8 X5 X6 X7 L V R 20)
    (k0_part64 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v1832 (vcolI 19))
    fun Q => ∀ v1932 v1962 v1964 v1965 v1966, (ST c arg5 arg6 arg7 arg8 arg9 arg10 arg11 q5 q6 q7 q8 X5 X6 X7 L V R 20) ⊢ Q ⟨(vmask L 19), (vblk L V 19), v1932, v1962, v1964, v1965, v1966⟩ := by
  intro Q h
  unfold k0_part64
  refine ldV 19 rfl ?_
  refine ld5 fun v1936 => ?_
  refine ld6 fun v1938 => ?_
  exact step_ret c (h _ _ _ _ _)

theorem p65_spec {v1962 v1964 v1965 v1966} : Sp c defs 𝒱 bd (ST c arg5 arg6 arg7 arg8 arg9 arg10 arg11 q5 q6 q7 q8 X5 X6 X7 L V R 20)
    (k0_part65 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v1962 v1964 v1965 v1966)
    fun Q => ∀ v2002 v2004 v2005 v2006, (ST c arg5 arg6 arg7 arg8 arg9 arg10 arg11 q5 q6 q7 q8 X5 X6 X7 L V R 20) ⊢ Q ⟨v2002, v2004, v2005, v2006⟩ := by
  intro Q h
  unfold k0_part65
  exact step_ret c (h _ _ _ _)

theorem p66_spec {v722 v1920 v1925 v1932 v2002 v2004 v2005 v2006} : Sp c defs 𝒱 bd (ST c arg5 arg6 arg7 arg8 arg9 arg10 arg11 q5 q6 q7 q8 X5 X6 X7 L V R 20)
    (k0_part66 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v1920 v1925 (vmask L 19) (vblk L V 19) v1932 v2002 v2004 v2005 v2006)
    fun Q => ∀ v2020 v2025 v2032 v2035 v2042 c1_i32_954, (ST c arg5 arg6 arg7 arg8 arg9 arg10 arg11 q5 q6 q7 q8 X5 X6 X7 L V R 19) ⊢ Q ⟨v2020, v2025, (vcolI 18), (vmask L 18), (vblk L V 18), v2032, v2035, v2042, c1_i32_954⟩ := by
  intro Q h
  unfold k0_part66
  refine ld9 fun v2021 => ?_
  refine st9 19 rfl ?_
  refine ld11 fun v2023 => ?_
  refine st11 ?_
  refine ld10 fun v2024 => ?_
  refine st10 ?_
  refine ldV 18 rfl ?_
  refine ld5 fun v2036 => ?_
  refine ld6 fun v2038 => ?_
  exact step_ret c (h _ _ _ _ _ _)

theorem p67_spec {v645 v2035 v2042 c1_i32_954} : Sp c defs 𝒱 bd (ST c arg5 arg6 arg7 arg8 arg9 arg10 arg11 q5 q6 q7 q8 X5 X6 X7 L V R 19)
    (k0_part67 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 (vcolI 18) (vmask L 18) (vblk L V 18) v2035 v2042 c1_i32_954)
    fun Q => ∀ v2078 v2080 v2083 cst_973, (ST c arg5 arg6 arg7 arg8 arg9 arg10 arg11 q5 q6 q7 q8 X5 X6 X7 L V R 19) ⊢ Q ⟨v2078, v2080, v2083, cst_973⟩ := by
  intro Q h
  unfold k0_part67
  exact step_ret c (h _ _ _ _)

theorem p68_spec {v722 v2020 v2078 v2080 v2083 cst_973} : Sp c defs 𝒱 bd (ST c arg5 arg6 arg7 arg8 arg9 arg10 arg11 q5 q6 q7 q8 X5 X6 X7 L V R 19)
    (k0_part68 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v2020 (vmask L 18) (vblk L V 18) v2078 v2080 v2083 cst_973)
    fun Q => ∀ v2117 v2120, (ST c arg5 arg6 arg7 arg8 arg9 arg10 arg11 q5 q6 q7 q8 X5 X6 X7 L V R 18) ⊢ Q ⟨v2117, v2120⟩ := by
  intro Q h
  unfold k0_part68
  refine ld9 fun v2121 => ?_
  refine st9 18 rfl ?_
  refine ld11 fun v2123 => ?_
  refine st11 ?_
  exact step_ret c (h _ _)

theorem p69_spec {v645 v2025 v2032 v2117} : Sp c defs 𝒱 bd (ST c arg5 arg6 arg7 arg8 arg9 arg10 arg11 q5 q6 q7 q8 X5 X6 X7 L V R 18)
    (k0_part69 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v2025 v2032 v2117)
    fun Q => ∀ v2125 v2132 v2154 v2161, (ST c arg5 arg6 arg7 arg8 arg9 arg10 arg11 q5 q6 q7 q8 X5 X6 X7 L V R 18) ⊢ Q ⟨v2125, (vmask L 17), (vblk L V 17), v2132, v2154, v2161⟩ := by
  intro Q h
  unfold k0_part69
  refine ld10 fun v2124 => ?_
  refine st10 ?_
  refine ldV 17 rfl ?_
  refine ld5 fun v2136 => ?_
  refine ld6 fun v2138 => ?_
  exact step_ret c (h _ _ _ _)

theorem p70_spec {v2154 v2161} : Sp c defs 𝒱 bd (ST c arg5 arg6 arg7 arg8 arg9 arg10 arg11 q5 q6 q7 q8 X5 X6 X7 L V R 18)
    (k0_part70 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v2154 v2161)
    fun Q => ∀ v2194 v2201, (ST c arg5 arg6 arg7 arg8 arg9 arg10 arg11 q5 q6 q7 q8 X5 X6 X7 L V R 18) ⊢ Q ⟨v2194, v2201⟩ := by
  intro Q h
  unfold k0_part70
  exact step_ret c (h _ _)

theorem p71_spec {v722 v2120 v2125 v2132 v2194 v2201} : Sp c defs 𝒱 bd (ST c arg5 arg6 arg7 arg8 arg9 arg10 arg11 q5 q6 q7 q8 X5 X6 X7 L V R 18)
    (k0_part71 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v2120 v2125 (vmask L 17) (vblk L V 17) v2132 v2194 v2201)
    fun Q => ∀ v2220 v2225 v2232 v2235 v2237, (ST c arg5 arg6 arg7 arg8 arg9 arg10 arg11 q5 q6 q7 q8 X5 X6 X7 L V R 17) ⊢ Q ⟨v2220, v2225, (vcolI 16), (vmask L 16), (vblk L V 16), v2232, v2235, v2237⟩ := by
  intro Q h
  unfold k0_part71
  refine ld9 fun v2221 => ?_
  refine st9 17 rfl ?_
  refine ld11 fun v2223 => ?_
  refine st11 ?_
  refine ld10 fun v2224 => ?_
  refine st10 ?_
  refine ldV 16 rfl ?_
  refine ld5 fun v2236 => ?_
  exact step_ret c (h _ _ _ _ _)

theorem p72_spec {v645 v2235 v2237} : Sp c defs 𝒱 bd (ST c arg5 arg6 arg7 arg8 arg9 arg10 arg11 q5 q6 q7 q8 X5 X6 X7 L V R 17)
    (k0_part72 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 (vcolI 16) (vmask L 16) (vblk L V 16) v2235 v2237)
    fun Q => ∀ v2278 c120_i32_1070, (ST c arg5 arg6 arg7 arg8 arg9 arg10 arg11 q5 q6 q7 q8 X5 X6 X7 L V R 17) ⊢ Q ⟨v2278, c120_i32_1070⟩ := by
  intro Q h
  unfold k0_part72
  refine ld6 fun v2238 => ?_
  exact step_ret c (h _ _)

theorem p73_spec {v722 v2220 v2278 c120_i32_1070} : Sp c defs 𝒱 bd (ST c arg5 arg6 arg7 arg8 arg9 arg10 arg11 q5 q6 q7 q8 X5 X6 X7 L V R 17)
    (k0_part73 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v2220 (vmask L 16) v2278 c120_i32_1070)
    fun Q => ∀ v2317 v2320, (ST c arg5 arg6 arg7 arg8 arg9 arg10 arg11 q5 q6 q7 q8 X5 X6 X7 L V R 17) ⊢ Q ⟨v2317, v2320⟩ := by
  intro Q h
  unfold k0_part73
  exact step_ret c (h _ _)

theorem p74_spec {v645 v2225 v2232 v2317} : Sp c defs 𝒱 bd (ST c arg5 arg6 arg7 arg8 arg9 arg10 arg11 q5 q6 q7 q8 X5 X6 X7 L V R 17)
    (k0_part74 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v2225 (vblk L V 16) v2232 v2317)
    fun Q => ∀ v2325 v2332 v2354 v2356, (ST c arg5 arg6 arg7 arg8 arg9 arg10 arg11 q5 q6 q7 q8 X5 X6 X7 L V R 16) ⊢ Q ⟨v2325, (vmask L 15), (vblk L V 15), v2332, v2354, v2356⟩ := by
  intro Q h
  unfold k0_part74
  refine ld9 fun v2321 => ?_
  refine st9 16 rfl ?_
  refine ld11 fun v2323 => ?_
  refine st11 ?_
  refine ld10 fun v2324 => ?_
  refine st10 ?_
  refine ldV 15 rfl ?_
  refine ld5 fun v2336 => ?_
  refine ld6 fun v2338 => ?_
  exact step_ret c (h _ _ _ _)

theorem p75_spec {v2354 v2356} : Sp c defs 𝒱 bd (ST c arg5 arg6 arg7 arg8 arg9 arg10 arg11 q5 q6 q7 q8 X5 X6 X7 L V R 16)
    (k0_part75 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v2354 v2356)
    fun Q => ∀ v2394 v2396, (ST c arg5 arg6 arg7 arg8 arg9 arg10 arg11 q5 q6 q7 q8 X5 X6 X7 L V R 16) ⊢ Q ⟨v2394, v2396⟩ := by
  intro Q h
  unfold k0_part75
  exact step_ret c (h _ _)

theorem p76_spec {v722 v2320 v2325 v2394 v2396} : Sp c defs 𝒱 bd (ST c arg5 arg6 arg7 arg8 arg9 arg10 arg11 q5 q6 q7 q8 X5 X6 X7 L V R 16)
    (k0_part76 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v2320 v2325 (vmask L 15) (vblk L V 15) v2394 v2396)
    fun Q => ∀ v2420 v2425 v2432 c127_i32_1148, (ST c arg5 arg6 arg7 arg8 arg9 arg10 arg11 q5 q6 q7 q8 X5 X6 X7 L V R 15) ⊢ Q ⟨v2420, v2425, (vcolI 14), (vmask L 14), (vblk L V 14), v2432, c127_i32_1148⟩ := by
  intro Q h
  unfold k0_part76
  refine ld9 fun v2421 => ?_
  refine st9 15 rfl ?_
  refine ld11 fun v2423 => ?_
  refine st11 ?_
  refine ld10 fun v2424 => ?_
  refine st10 ?_
  refine ldV 14 rfl ?_
  exact step_ret c (h _ _ _ _)

theorem p77_spec {v645 v2332 v2432 c127_i32_1148} : Sp c defs 𝒱 bd (ST c arg5 arg6 arg7 arg8 arg9 arg10 arg11 q5 q6 q7 q8 X5 X6 X7 L V R 15)
    (k0_part77 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v2332 (vcolI 14) (vmask L 14) (vblk L V 14) v2432 c127_i32_1148)
    fun Q => ∀ v2470 v2472 v2473, (ST c arg5 arg6 arg7 arg8 arg9 arg10 arg11 q5 q6 q7 q8 X5 X6 X7 L V R 15) ⊢ Q ⟨v2470, v2472, v2473⟩ := by
  intro Q h
  unfold k0_part77
  refine ld5 fun v2436 => ?_
  refine ld6 fun v2438 => ?_
  exact step_ret c (h _ _ _)

theorem p78_spec {v722 v2420 v2470 v2472 v2473} : Sp c defs 𝒱 bd (ST c arg5 arg6 arg7 arg8 arg9 arg10 arg11 q5 q6 q7 q8 X5 X6 X7 L V R 15)
    (k0_part78 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v2420 v2470 v2472 v2473)
    fun Q => ∀ v2513 v2515, (ST c arg5 arg6 arg7 arg8 arg9 arg10 arg11 q5 q6 q7 q8 X5 X6 X7 L V R 15) ⊢ Q ⟨v2513, v2515⟩ := by
  intro Q h
  unfold k0_part78
  exact step_ret c (h _ _)

theorem p79_spec {v645 v2420 v2425 v2432 v2513 v2515} : Sp c defs 𝒱 bd (ST c arg5 arg6 arg7 arg8 arg9 arg10 arg11 q5 q6 q7 q8 X5 X6 X7 L V R 15)
    (k0_part79 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v2420 v2425 (vmask L 14) (vblk L V 14) v2432 v2513 v2515)
    fun Q => ∀ v2520 v2525 v2532 v2535 v2550, (ST c arg5 arg6 arg7 arg8 arg9 arg10 arg11 q5 q6 q7 q8 X5 X6 X7 L V R 14) ⊢ Q ⟨v2520, v2525, (vmask L 13), (vblk L V 13), v2532, v2535, v2550⟩ := by
  intro Q h
  unfold k0_part79
  refine ld9 fun v2521 => ?_
  refine st9 14 rfl ?_
  refine ld11 fun v2523 => ?_
  refine st11 ?_
  refine ld10 fun v2524 => ?_
  refine st10 ?_
  refine ldV 13 rfl ?_
  refine ld5 fun v2536 => ?_
  refine ld6 fun v2538 => ?_
  exact step_ret c (h _ _ _ _ _)

theorem p80_spec {v2535 v2550} : Sp c defs 𝒱 bd (ST c arg5 arg6 arg7 arg8 arg9 arg10 arg11 q5 q6 q7 q8 X5 X6 X7 L V R 14)
    (k0_part80 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (vblk L V 13) v2535 v2550)
    fun Q => ∀ v2586 v2588 v2589 v2590, (ST c arg5 arg6 arg7 arg8 arg9 arg10 arg11 q5 q6 q7 q8 X5 X6 X7 L V R 14) ⊢ Q ⟨v2586, v2588, v2589, v2590⟩ := by
  intro Q h
  unfold k0_part80
  exact step_ret c (h _ _ _ _)
end

end Cert.KernelIdeal.Own
-- ==== Proof.Half1.lean ====
/-
  The first half of the body, put together from its parts.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Loop
public import proofs.«01_k».proof.Proof.PostP0
public import proofs.«01_k».proof.Proof.PostP1

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section
variable (c : Dev nD) (C : Codes (F := F)) (Sc : Scales (F := F)) (qs qt : Fin 6 → PosShare TreeShare)  (arg2 : Memref sig .tc .vmem S40x128 .fp8e4m3) (harg2 : arg2.IsWhole)   (arg3 : Memref sig .tc .smem S1 .f32) (harg3 : arg3.IsWhole)   (arg4 : Memref sig .tc .smem S1 .f32) (harg4 : arg4.IsWhole)   (arg5 : Memref sig .tc .vmem S12x4096 .bf16) (harg5 : arg5.IsWhole)   (arg6 : Memref sig .tc .vmem S12x4096 .bf16) (harg6 : arg6.IsWhole)   (arg7 : Memref sig .tc .smem S12 .f32) (harg7 : arg7.IsWhole)   (arg8 : Memref sig .tc .smem S12 .i32) (harg8 : arg8.IsWhole)   (arg9 : Memref sig .tc .vmem S12x4096 .f32) (harg9 : arg9.IsWhole)   (arg10 : Memref sig .tc .vmem S12x4096 .f32) (harg10 : arg10.IsWhole)   (arg11 : Memref sig .tc .vmem S12x4096 .f32) (harg11 : arg11.IsWhole)
    {L : S12.Idx → Elt F .i32} {q2 q3 q4 q5 q6 q7 q8 : PosShare TreeShare} {w0 : S40x128.Idx → Elt F .fp8e4m3} {w1 b1 : S1.Idx → Elt F .f32} {X5 X6 : S12x4096.Idx → Elt F .bf16} {X7 : S12.Idx → Elt F .f32}
    {OK : ℕ → (S12x4096.Idx → Elt F .f32) → Prop} {defs : Defs nD τ sig (Elt F) Λ₀} {𝒱 : Variants} {bd : Option 𝒱.V} {R : sProp (MT nD τ sig Unit (Elt F) ℕ (Pipeline.UD sig nD τ) ℕ)}

/-- The body up to the blocks of weights. -/
theorem open_weights {G : sProp 𝕄} (h : WS c (wvec w0) iprop((∃ X, owns (c : Thread nD τ) valsM fullShare X) ∗ Slots c C Sc qs qt L (fil 5) ∗ owns (c : Thread nD τ) arg8 q8 L ∗ (∃ Ws, owes (c : Thread nD τ) 0 Ws)
      ∗ owns (c : Thread nD τ) arg3 q3 w1 ∗ owns (c : Thread nD τ) arg4 q4 b1 ∗ owns (c : Thread nD τ) arg2 q2 w0 ∗ (∃ X, owns (c : Thread nD τ) arg9 fullShare X) ∗ owns (c : Thread nD τ) arg5 q5 X5 ∗ owns (c : Thread nD τ) arg6 q6 X6 ∗ owns (c : Thread nD τ) arg7 q7 X7 ∗ (∃ X, owns (c : Thread nD τ) arg10 fullShare X) ∗ (∃ X, owns (c : Thread nD τ) arg11 fullShare X) ∗ R) 0 ⊢ G) :
    iprop(owns (c : Thread nD τ) arg8 q8 L ∗ Slots c C Sc qs qt L (fil 5) ∗ owns (c : Thread nD τ) arg2 q2 w0 ∗ (∃ X, owns (c : Thread nD τ) wblkM fullShare X) ∗ (∃ X, owns (c : Thread nD τ) valsM fullShare X) ∗ (∃ Ws, owes (c : Thread nD τ) 0 Ws) ∗ owns (c : Thread nD τ) arg3 q3 w1 ∗ owns (c : Thread nD τ) arg4 q4 b1 ∗ (∃ X, owns (c : Thread nD τ) arg9 fullShare X) ∗ owns (c : Thread nD τ) arg5 q5 X5 ∗ owns (c : Thread nD τ) arg6 q6 X6 ∗ owns (c : Thread nD τ) arg7 q7 X7 ∗ (∃ X, owns (c : Thread nD τ) arg10 fullShare X) ∗ (∃ X, owns (c : Thread nD τ) arg11 fullShare X) ∗ R) ⊢ G := by
  refine .trans ?_ h
  unfold WS
  iintro ⟨H8, HS, H2, ⟨%X, HW⟩, HV, HO, H3, H4, H9, H5, H6, H7, H10, H11, HR⟩
  isplitl [HW]
  · iexists X
    isplitr; · ipureintro; exact fun j hj => absurd hj (Nat.not_lt_zero _)
    iexact HW
  isplitl [HV]; · iexact HV
  isplitl [HS]; · iexact HS
  isplitl [H8]; · iexact H8
  isplitl [HO]; · iexact HO
  isplitl [H3]; · iexact H3
  isplitl [H4]; · iexact H4
  isplitl [H2]; · iexact H2
  isplitl [H9]; · iexact H9
  isplitl [H5]; · iexact H5
  isplitl [H6]; · iexact H6
  isplitl [H7]; · iexact H7
  isplitl [H10]; · iexact H10
  isplitl [H11]; · iexact H11
  iexact HR
/-- After the loop the last part of the body begins. -/
theorem open_last {V : S12x4096.Idx → Elt F .f32} {G : sProp 𝕄} (h : (ST c arg5 arg6 arg7 arg8 arg9 arg10 arg11 q5 q6 q7 q8 X5 X6 X7 L V iprop(Slots c C Sc qs qt L (occ (nJ L) (nJ L)) ∗ (∃ Ws, owes (c : Thread nD τ) 0 Ws) ∗ (∃ W, owns (c : Thread nD τ) wblkM fullShare W) ∗ owns (c : Thread nD τ) arg3 q3 w1 ∗ owns (c : Thread nD τ) arg4 q4 b1 ∗ owns (c : Thread nD τ) arg2 q2 w0 ∗ R) 32) ⊢ G) :
    iprop(Slots c C Sc qs qt L (occ (nJ L) (nJ L)) ∗ owns (c : Thread nD τ) arg8 q8 L ∗ (∃ Ws, owes (c : Thread nD τ) 0 Ws)
      ∗ (∃ W, owns (c : Thread nD τ) wblkM fullShare W) ∗ owns (c : Thread nD τ) arg3 q3 w1 ∗ owns (c : Thread nD τ) arg4 q4 b1 ∗ owns (c : Thread nD τ) valsM fullShare V
      ∗ owns (c : Thread nD τ) arg2 q2 w0 ∗ (∃ X, owns (c : Thread nD τ) arg9 fullShare X) ∗ owns (c : Thread nD τ) arg5 q5 X5 ∗ owns (c : Thread nD τ) arg6 q6 X6 ∗ owns (c : Thread nD τ) arg7 q7 X7 ∗ (∃ X, owns (c : Thread nD τ) arg10 fullShare X) ∗ (∃ X, owns (c : Thread nD τ) arg11 fullShare X) ∗ R) ⊢ G := by
  refine .trans ?_ h
  unfold ST
  iintro ⟨HS, H8, HO, HW, H3, H4, HV, H2, ⟨%X9, H9⟩, H5, H6, H7, H10, H11, HR⟩
  isplitl [H8]; · iexact H8
  isplitl [HV]; · iexact HV
  isplitl [H9]
  · iexists X9
    isplitr; · ipureintro; exact fun j hj => absurd j.isLt (by omega)
    iexact H9
  isplitl [H5]; · iexact H5
  isplitl [H6]; · iexact H6
  isplitl [H7]; · iexact H7
  isplitl [H10]; · iexact H10
  isplitl [H11]; · iexact H11
  isplitl [HS]; · iexact HS
  isplitl [HO]; · iexact HO
  isplitl [HW]; · iexact HW
  isplitl [H3]; · iexact H3
  isplitl [H4]; · iexact H4
  isplitl [H2]; · iexact H2
  iexact HR

set_option maxHeartbeats 8000000 in
/-- The body's first half: the jobs, the spread weights, the loop, and the masked values from block 17 on. -/
theorem p133_spec (hL : ∀ b, LenOK (at12 L b)) (h0 : ∀ V, OK 0 V) (hT : TripOK C Sc L (wvec w0) w1 b1 OK) : Sp c defs 𝒱 bd iprop(owns (c : Thread nD τ) arg8 q8 L ∗ Slots c C Sc qs qt L (fil 0) ∗ owns (c : Thread nD τ) arg2 q2 w0 ∗ (∃ X, owns (c : Thread nD τ) wblkM fullShare X) ∗ (∃ X, owns (c : Thread nD τ) valsM fullShare X) ∗ (∃ Ws, owes (c : Thread nD τ) 0 Ws) ∗ owns (c : Thread nD τ) arg3 q3 w1 ∗ owns (c : Thread nD τ) arg4 q4 b1 ∗ (∃ X, owns (c : Thread nD τ) arg9 fullShare X) ∗ owns (c : Thread nD τ) arg5 q5 X5 ∗ owns (c : Thread nD τ) arg6 q6 X6 ∗ owns (c : Thread nD τ) arg7 q7 X7 ∗ (∃ X, owns (c : Thread nD τ) arg10 fullShare X) ∗ (∃ X, owns (c : Thread nD τ) arg11 fullShare X) ∗ R)
    (k0_part133 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5)
    fun Q => ∀ V v645 v647 v722 v2225 v2232 v2317 v2320, OK (nJ L) V → (ST c arg5 arg6 arg7 arg8 arg9 arg10 arg11 q5 q6 q7 q8 X5 X6 X7 L V iprop(Slots c C Sc qs qt L (occ (nJ L) (nJ L)) ∗ (∃ Ws, owes (c : Thread nD τ) 0 Ws) ∗ (∃ W, owns (c : Thread nD τ) wblkM fullShare W) ∗ owns (c : Thread nD τ) arg3 q3 w1 ∗ owns (c : Thread nD τ) arg4 q4 b1 ∗ owns (c : Thread nD τ) arg2 q2 w0 ∗ R) 17) ⊢ Q ⟨colI, (lens12 L), v645, v647, v722, v2225, (vblk L V 16), v2232, v2317, v2320⟩ := by
  intro Q h
  unfold k0_part133
  refine step_bind c ?_
  refine p14_spec c C Sc qs qt arg2 harg2 arg3 harg3 arg4 harg4 arg5 harg5 arg6 harg6 arg7 harg7 arg8 harg8 arg9 harg9 arg10 harg10 arg11 harg11 hL _ ?_
  refine step_bind c ?_
  refine p15_spec c C Sc qs qt arg2 harg2 arg3 harg3 arg4 harg4 arg5 harg5 arg6 harg6 arg7 harg7 arg8 harg8 arg9 harg9 arg10 harg10 arg11 harg11 hL _ ?_
  refine step_bind c ?_
  refine p16_spec c C Sc qs qt arg2 harg2 arg3 harg3 arg4 harg4 arg5 harg5 arg6 harg6 arg7 harg7 arg8 harg8 arg9 harg9 arg10 harg10 arg11 harg11 hL _ ?_
  intro v67 v80 v93 a0 a1 a2
  refine step_bind c ?_
  refine p17_spec c C Sc qs qt arg2 harg2 arg3 harg3 arg4 harg4 arg5 harg5 arg6 harg6 arg7 harg7 arg8 harg8 arg9 harg9 arg10 harg10 arg11 harg11 hL a0 a1 a2 _ ?_
  refine open_weights c C Sc qs qt arg2 arg3 arg4 arg5 arg6 arg7 arg8 arg9 arg10 arg11 ?_
  refine step_bind c ?_
  refine p18_spec _ ?_
  refine step_bind c ?_
  refine p19_spec _ ?_
  refine step_bind c ?_
  refine p20_spec _ ?_
  refine step_bind c ?_
  refine p21_spec _ ?_
  refine step_bind c ?_
  refine p22_spec _ ?_
  refine step_bind c ?_
  refine p23_spec _ ?_
  refine step_bind c ?_
  refine p24_spec _ ?_
  refine step_bind c ?_
  refine p25_spec _ ?_
  refine step_bind c ?_
  refine p26_spec _ ?_
  refine step_bind c ?_
  refine p27_spec C Sc qs qt hL h0 hT _ ?_
  intro V v503 v510 hV
  refine open_last c C Sc qs qt arg2 arg3 arg4 arg5 arg6 arg7 arg8 arg9 arg10 arg11 ?_
  refine step_bind c ?_
  refine p28_spec _ ?_
  intro v549 v551
  refine step_bind c ?_
  refine p29_spec _ ?_
  intro v585 v587 v594
  refine step_bind c ?_
  refine p30_spec _ ?_
  intro v633 v635
  refine step_bind c ?_
  refine p31_spec _ ?_
  intro v645 v647 v649 v677 v678
  refine step_bind c ?_
  refine p32_spec _ ?_
  intro v713 v719 cst_297
  refine step_bind c ?_
  refine p33_spec _ ?_
  intro v722 v723 v725 v732 v754 v756 v757 v758
  refine step_bind c ?_
  refine p34_spec _ ?_
  intro v794 v796 v797 v798
  refine step_bind c ?_
  refine p35_spec _ ?_
  intro v820 v825 v832 v835
  refine step_bind c ?_
  refine p36_spec _ ?_
  intro v870 v872 v875 cst_369
  refine step_bind c ?_
  refine p37_spec _ ?_
  intro v913 v917 cst_387
  refine step_bind c ?_
  refine p38_spec _ ?_
  intro v920 v925 v932 v953
  refine step_bind c ?_
  refine p39_spec _ ?_
  intro v986 v993
  refine step_bind c ?_
  refine p40_spec _ ?_
  intro v1020 v1025
  refine step_bind c ?_
  refine p41_spec _ ?_
  intro v1032 v1070 c124_i32_466
  refine step_bind c ?_
  refine p42_spec _ ?_
  intro v1110 v1111
  refine step_bind c ?_
  refine p43_spec _ ?_
  intro v1120 v1125 v1132 v1135 v1142 v1147
  refine step_bind c ?_
  refine p44_spec _ ?_
  intro v1186 v1188
  refine step_bind c ?_
  refine p45_spec _ ?_
  intro v1220 v1225
  refine step_bind c ?_
  refine p46_spec _ ?_
  intro v1232 v1262 v1264 v1265
  refine step_bind c ?_
  refine p47_spec _ ?_
  intro v1302 v1304 v1305
  refine step_bind c ?_
  refine p48_spec _ ?_
  intro v1320 v1325 v1332 v1335 v1340 v1341
  refine step_bind c ?_
  refine p49_spec _ ?_
  intro v1378 v1380 v1381 v1382
  refine step_bind c ?_
  refine p50_spec _ ?_
  intro v1417 v1420 v1422
  refine step_bind c ?_
  refine p51_spec _ ?_
  intro v1425 v1432 v1454 v1456 v1459 cst_661
  refine step_bind c ?_
  refine p52_spec _ ?_
  intro v1494 v1496 v1499 cst_681
  refine step_bind c ?_
  refine p53_spec _ ?_
  intro v1520 v1525 v1532 v1535 v1536
  refine step_bind c ?_
  refine p54_spec _ ?_
  intro v1570 v1577
  refine step_bind c ?_
  refine p55_spec _ ?_
  intro v1613 v1617 v1619
  refine step_bind c ?_
  refine p56_spec _ ?_
  intro v1620 v1625 v1632 v1654 c127_i32_758
  refine step_bind c ?_
  refine p57_spec _ ?_
  intro v1694 c96_i32_778
  refine step_bind c ?_
  refine p58_spec _ ?_
  intro v1720 v1725 c127_i32_797
  refine step_bind c ?_
  refine p59_spec _ ?_
  intro v1732 v1770 v1772
  refine step_bind c ?_
  refine p60_spec _ ?_
  intro v1810 v1813
  refine step_bind c ?_
  refine p61_spec _ ?_
  intro v1820 v1825 v1832 v1835 v1848 cst_856
  refine step_bind c ?_
  refine p62_spec _ ?_
  intro v1886 v1888 v1889
  refine step_bind c ?_
  refine p63_spec _ ?_
  intro v1920 v1925
  refine step_bind c ?_
  refine p64_spec _ ?_
  intro v1932 v1962 v1964 v1965 v1966
  refine step_bind c ?_
  refine p65_spec _ ?_
  intro v2002 v2004 v2005 v2006
  refine step_bind c ?_
  refine p66_spec _ ?_
  intro v2020 v2025 v2032 v2035 v2042 c1_i32_954
  refine step_bind c ?_
  refine p67_spec _ ?_
  intro v2078 v2080 v2083 cst_973
  refine step_bind c ?_
  refine p68_spec _ ?_
  intro v2117 v2120
  refine step_bind c ?_
  refine p69_spec _ ?_
  intro v2125 v2132 v2154 v2161
  refine step_bind c ?_
  refine p70_spec _ ?_
  intro v2194 v2201
  refine step_bind c ?_
  refine p71_spec _ ?_
  intro v2220 v2225 v2232 v2235 v2237
  refine step_bind c ?_
  refine p72_spec _ ?_
  intro v2278 c120_i32_1070
  refine step_bind c ?_
  refine p73_spec _ ?_
  intro v2317 v2320
  exact step_ret c (h V _ _ _ _ _ _ _ hV)
end

end Cert.KernelIdeal.Own
-- ==== Proof.PostP2.lean ====
/-
  The windows 81 to 106 of the body, each over the state of its last part.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Post

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section
variable {c : Dev nD}  {arg2 : Memref sig .tc .vmem S40x128 .fp8e4m3} {harg2 : arg2.IsWhole}   {arg3 : Memref sig .tc .smem S1 .f32} {harg3 : arg3.IsWhole}   {arg4 : Memref sig .tc .smem S1 .f32} {harg4 : arg4.IsWhole}   {arg5 : Memref sig .tc .vmem S12x4096 .bf16} {harg5 : arg5.IsWhole}   {arg6 : Memref sig .tc .vmem S12x4096 .bf16} {harg6 : arg6.IsWhole}   {arg7 : Memref sig .tc .smem S12 .f32} {harg7 : arg7.IsWhole}   {arg8 : Memref sig .tc .smem S12 .i32} {harg8 : arg8.IsWhole}   {arg9 : Memref sig .tc .vmem S12x4096 .f32} {harg9 : arg9.IsWhole}   {arg10 : Memref sig .tc .vmem S12x4096 .f32} {harg10 : arg10.IsWhole}   {arg11 : Memref sig .tc .vmem S12x4096 .f32} {harg11 : arg11.IsWhole}
    {q5 q6 q7 q8 : PosShare TreeShare} {X5 X6 : S12x4096.Idx → Elt F .bf16} {X7 : S12.Idx → Elt F .f32} {L : S12.Idx → Elt F .i32} {V : S12x4096.Idx → Elt F .f32}
    {defs : Defs nD τ sig (Elt F) Λ₀} {𝒱 : Variants} {bd : Option 𝒱.V} {R : sProp (MT nD τ sig Unit (Elt F) ℕ (Pipeline.UD sig nD τ) ℕ)}

theorem p81_spec {v722 v2520 v2525 v2586 v2588 v2589 v2590} : Sp c defs 𝒱 bd (ST c arg5 arg6 arg7 arg8 arg9 arg10 arg11 q5 q6 q7 q8 X5 X6 X7 L V R 14)
    (k0_part81 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v2520 v2525 (vmask L 13) (vblk L V 13) v2586 v2588 v2589 v2590)
    fun Q => ∀ v2620 v2625, (ST c arg5 arg6 arg7 arg8 arg9 arg10 arg11 q5 q6 q7 q8 X5 X6 X7 L V R 13) ⊢ Q ⟨v2620, v2625, (vcolI 12), (vmask L 12)⟩ := by
  intro Q h
  unfold k0_part81
  refine ld9 fun v2621 => ?_
  refine st9 13 rfl ?_
  refine ld11 fun v2623 => ?_
  refine st11 ?_
  refine ld10 fun v2624 => ?_
  refine st10 ?_
  exact step_ret c (h _ _)

theorem p82_spec {v645 v2532} : Sp c defs 𝒱 bd (ST c arg5 arg6 arg7 arg8 arg9 arg10 arg11 q5 q6 q7 q8 X5 X6 X7 L V R 13)
    (k0_part82 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v2532 (vcolI 12) (vmask L 12))
    fun Q => ∀ v2632 v2662 v2664 v2667 cst_1265, (ST c arg5 arg6 arg7 arg8 arg9 arg10 arg11 q5 q6 q7 q8 X5 X6 X7 L V R 13) ⊢ Q ⟨(vblk L V 12), v2632, v2662, v2664, v2667, cst_1265⟩ := by
  intro Q h
  unfold k0_part82
  refine ldV 12 rfl ?_
  refine ld5 fun v2636 => ?_
  refine ld6 fun v2638 => ?_
  exact step_ret c (h _ _ _ _ _)

theorem p83_spec {v2662 v2664 v2667 cst_1265} : Sp c defs 𝒱 bd (ST c arg5 arg6 arg7 arg8 arg9 arg10 arg11 q5 q6 q7 q8 X5 X6 X7 L V R 13)
    (k0_part83 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v2662 v2664 v2667 cst_1265)
    fun Q => ∀ v2702 v2704 v2707 cst_1285, (ST c arg5 arg6 arg7 arg8 arg9 arg10 arg11 q5 q6 q7 q8 X5 X6 X7 L V R 13) ⊢ Q ⟨v2702, v2704, v2707, cst_1285⟩ := by
  intro Q h
  unfold k0_part83
  exact step_ret c (h _ _ _ _)

theorem p84_spec {v722 v2620 v2625 v2632 v2702 v2704 v2707 cst_1285} : Sp c defs 𝒱 bd (ST c arg5 arg6 arg7 arg8 arg9 arg10 arg11 q5 q6 q7 q8 X5 X6 X7 L V R 13)
    (k0_part84 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v2620 v2625 (vmask L 12) (vblk L V 12) v2632 v2702 v2704 v2707 cst_1285)
    fun Q => ∀ v2720 v2725 v2732 v2735 v2742 v2744, (ST c arg5 arg6 arg7 arg8 arg9 arg10 arg11 q5 q6 q7 q8 X5 X6 X7 L V R 12) ⊢ Q ⟨v2720, v2725, (vcolI 11), (vmask L 11), (vblk L V 11), v2732, v2735, v2742, v2744⟩ := by
  intro Q h
  unfold k0_part84
  refine ld9 fun v2721 => ?_
  refine st9 12 rfl ?_
  refine ld11 fun v2723 => ?_
  refine st11 ?_
  refine ld10 fun v2724 => ?_
  refine st10 ?_
  refine ldV 11 rfl ?_
  refine ld5 fun v2736 => ?_
  refine ld6 fun v2738 => ?_
  exact step_ret c (h _ _ _ _ _ _)

theorem p85_spec {v645 v2735 v2742 v2744} : Sp c defs 𝒱 bd (ST c arg5 arg6 arg7 arg8 arg9 arg10 arg11 q5 q6 q7 q8 X5 X6 X7 L V R 12)
    (k0_part85 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v645 (vcolI 11) (vmask L 11) (vblk L V 11) v2735 v2742 v2744)
    fun Q => ∀ v2778 v2785, (ST c arg5 arg6 arg7 arg8 arg9 arg10 arg11 q5 q6 q7 q8 X5 X6 X7 L V R 12) ⊢ Q ⟨v2778, v2785⟩ := by
  intro Q h
  unfold k0_part85
  exact step_ret c (h _ _)

theorem p86_spec {v722 v2720 v2778 v2785} : Sp c defs 𝒱 bd (ST c arg5 arg6 arg7 arg8 arg9 arg10 arg11 q5 q6 q7 q8 X5 X6 X7 L V R 12)
    (k0_part86 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v2720 (vmask L 11) (vblk L V 11) v2778 v2785)
    fun Q => ∀ v2817 v2820, (ST c arg5 arg6 arg7 arg8 arg9 arg10 arg11 q5 q6 q7 q8 X5 X6 X7 L V R 11) ⊢ Q ⟨v2817, v2820⟩ := by
  intro Q h
  unfold k0_part86
  refine ld9 fun v2821 => ?_
  refine st9 11 rfl ?_
  refine ld11 fun v2823 => ?_
  refine st11 ?_
  exact step_ret c (h _ _)

theorem p87_spec {v645 v2725 v2732 v2817} : Sp c defs 𝒱 bd (ST c arg5 arg6 arg7 arg8 arg9 arg10 arg11 q5 q6 q7 q8 X5 X6 X7 L V R 11)
    (k0_part87 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v2725 v2732 v2817)
    fun Q => ∀ v2825 v2832 v2862 c126_i32_1362, (ST c arg5 arg6 arg7 arg8 arg9 arg10 arg11 q5 q6 q7 q8 X5 X6 X7 L V R 11) ⊢ Q ⟨v2825, (vmask L 10), (vblk L V 10), v2832, v2862, c126_i32_1362⟩ := by
  intro Q h
  unfold k0_part87
  refine ld10 fun v2824 => ?_
  refine st10 ?_
  refine ldV 10 rfl ?_
  refine ld5 fun v2836 => ?_
  refine ld6 fun v2838 => ?_
  exact step_ret c (h _ _ _ _)

theorem p88_spec {v2862 c126_i32_1362} : Sp c defs 𝒱 bd (ST c arg5 arg6 arg7 arg8 arg9 arg10 arg11 q5 q6 q7 q8 X5 X6 X7 L V R 11)
    (k0_part88 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v2862 c126_i32_1362)
    fun Q => ∀ v2902 c64_i32_1382, (ST c arg5 arg6 arg7 arg8 arg9 arg10 arg11 q5 q6 q7 q8 X5 X6 X7 L V R 11) ⊢ Q ⟨v2902, c64_i32_1382⟩ := by
  intro Q h
  unfold k0_part88
  exact step_ret c (h _ _)

theorem p89_spec {v722 v2820 v2825 v2832 v2902 c64_i32_1382} : Sp c defs 𝒱 bd (ST c arg5 arg6 arg7 arg8 arg9 arg10 arg11 q5 q6 q7 q8 X5 X6 X7 L V R 11)
    (k0_part89 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v2820 v2825 (vmask L 10) (vblk L V 10) v2832 v2902 c64_i32_1382)
    fun Q => ∀ v2920 v2925 v2932 v2935 v2937 v2938, (ST c arg5 arg6 arg7 arg8 arg9 arg10 arg11 q5 q6 q7 q8 X5 X6 X7 L V R 10) ⊢ Q ⟨v2920, v2925, (vcolI 9), (vmask L 9), (vblk L V 9), v2932, v2935, v2937, v2938⟩ := by
  intro Q h
  unfold k0_part89
  refine ld9 fun v2921 => ?_
  refine st9 10 rfl ?_
  refine ld11 fun v2923 => ?_
  refine st11 ?_
  refine ld10 fun v2924 => ?_
  refine st10 ?_
  refine ldV 9 rfl ?_
  refine ld5 fun v2936 => ?_
  refine ld6 fun v2938 => ?_
  exact step_ret c (h _ _ _ _ _ _)

theorem p90_spec {v645 v2935 v2937 v2938} : Sp c defs 𝒱 bd (ST c arg5 arg6 arg7 arg8 arg9 arg10 arg11 q5 q6 q7 q8 X5 X6 X7 L V R 10)
    (k0_part90 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 (vcolI 9) (vmask L 9) (vblk L V 9) v2935 v2937 v2938)
    fun Q => ∀ v2978 v2980, (ST c arg5 arg6 arg7 arg8 arg9 arg10 arg11 q5 q6 q7 q8 X5 X6 X7 L V R 10) ⊢ Q ⟨v2978, v2980⟩ := by
  intro Q h
  unfold k0_part90
  exact step_ret c (h _ _)

theorem p91_spec {v722 v2920 v2978 v2980} : Sp c defs 𝒱 bd (ST c arg5 arg6 arg7 arg8 arg9 arg10 arg11 q5 q6 q7 q8 X5 X6 X7 L V R 10)
    (k0_part91 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v2920 (vmask L 9) v2978 v2980)
    fun Q => ∀ v3017 v3020, (ST c arg5 arg6 arg7 arg8 arg9 arg10 arg11 q5 q6 q7 q8 X5 X6 X7 L V R 10) ⊢ Q ⟨v3017, v3020⟩ := by
  intro Q h
  unfold k0_part91
  refine ld9 fun v3021 => ?_
  exact step_ret c (h _ _)

theorem p92_spec {v645 v2925 v2932 v3017} : Sp c defs 𝒱 bd (ST c arg5 arg6 arg7 arg8 arg9 arg10 arg11 q5 q6 q7 q8 X5 X6 X7 L V R 10)
    (k0_part92 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v2925 (vblk L V 9) v2932 v3017)
    fun Q => ∀ v3025 v3032 v3054 v3056 v3057, (ST c arg5 arg6 arg7 arg8 arg9 arg10 arg11 q5 q6 q7 q8 X5 X6 X7 L V R 9) ⊢ Q ⟨v3025, (vmask L 8), (vblk L V 8), v3032, v3054, v3056, v3057⟩ := by
  intro Q h
  unfold k0_part92
  refine st9 9 rfl ?_
  refine ld11 fun v3023 => ?_
  refine st11 ?_
  refine ld10 fun v3024 => ?_
  refine st10 ?_
  refine ldV 8 rfl ?_
  refine ld5 fun v3036 => ?_
  refine ld6 fun v3038 => ?_
  exact step_ret c (h _ _ _ _ _)

theorem p93_spec {v3054 v3056 v3057} : Sp c defs 𝒱 bd (ST c arg5 arg6 arg7 arg8 arg9 arg10 arg11 q5 q6 q7 q8 X5 X6 X7 L V R 9)
    (k0_part93 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v3054 v3056 v3057)
    fun Q => ∀ v3094 v3096 v3097, (ST c arg5 arg6 arg7 arg8 arg9 arg10 arg11 q5 q6 q7 q8 X5 X6 X7 L V R 9) ⊢ Q ⟨v3094, v3096, v3097⟩ := by
  intro Q h
  unfold k0_part93
  exact step_ret c (h _ _ _)

theorem p94_spec {v722 v3020 v3025 v3094 v3096 v3097} : Sp c defs 𝒱 bd (ST c arg5 arg6 arg7 arg8 arg9 arg10 arg11 q5 q6 q7 q8 X5 X6 X7 L V R 9)
    (k0_part94 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v3020 v3025 (vmask L 8) (vblk L V 8) v3094 v3096 v3097)
    fun Q => ∀ v3120 v3125 v3132 v3134, (ST c arg5 arg6 arg7 arg8 arg9 arg10 arg11 q5 q6 q7 q8 X5 X6 X7 L V R 8) ⊢ Q ⟨v3120, v3125, (vcolI 7), (vmask L 7), (vblk L V 7), v3132, v3134⟩ := by
  intro Q h
  unfold k0_part94
  refine ld9 fun v3121 => ?_
  refine st9 8 rfl ?_
  refine ld11 fun v3123 => ?_
  refine st11 ?_
  refine ld10 fun v3124 => ?_
  refine st10 ?_
  refine ldV 7 rfl ?_
  exact step_ret c (h _ _ _ _)

theorem p95_spec {v645 v3032 v3132 v3134} : Sp c defs 𝒱 bd (ST c arg5 arg6 arg7 arg8 arg9 arg10 arg11 q5 q6 q7 q8 X5 X6 X7 L V R 8)
    (k0_part95 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v3032 (vcolI 7) (vmask L 7) (vblk L V 7) v3132 v3134)
    fun Q => ∀ v3170 v3172 v3173 v3174, (ST c arg5 arg6 arg7 arg8 arg9 arg10 arg11 q5 q6 q7 q8 X5 X6 X7 L V R 8) ⊢ Q ⟨v3170, v3172, v3173, v3174⟩ := by
  intro Q h
  unfold k0_part95
  refine ld5 fun v3136 => ?_
  refine ld6 fun v3138 => ?_
  exact step_ret c (h _ _ _ _)

theorem p96_spec {v722 v3120 v3170 v3172 v3173 v3174} : Sp c defs 𝒱 bd (ST c arg5 arg6 arg7 arg8 arg9 arg10 arg11 q5 q6 q7 q8 X5 X6 X7 L V R 8)
    (k0_part96 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v3120 v3170 v3172 v3173 v3174)
    fun Q => ∀ v3213 v3215 v3216, (ST c arg5 arg6 arg7 arg8 arg9 arg10 arg11 q5 q6 q7 q8 X5 X6 X7 L V R 8) ⊢ Q ⟨v3213, v3215, v3216⟩ := by
  intro Q h
  unfold k0_part96
  exact step_ret c (h _ _ _)

theorem p97_spec {v645 v3120 v3125 v3132 v3213 v3215 v3216} : Sp c defs 𝒱 bd (ST c arg5 arg6 arg7 arg8 arg9 arg10 arg11 q5 q6 q7 q8 X5 X6 X7 L V R 8)
    (k0_part97 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v3120 v3125 (vmask L 7) (vblk L V 7) v3132 v3213 v3215 v3216)
    fun Q => ∀ v3220 v3225 v3232 v3235 v3250 v3251, (ST c arg5 arg6 arg7 arg8 arg9 arg10 arg11 q5 q6 q7 q8 X5 X6 X7 L V R 7) ⊢ Q ⟨v3220, v3225, (vmask L 6), (vblk L V 6), v3232, v3235, v3250, v3251⟩ := by
  intro Q h
  unfold k0_part97
  refine ld9 fun v3221 => ?_
  refine st9 7 rfl ?_
  refine ld11 fun v3223 => ?_
  refine st11 ?_
  refine ld10 fun v3224 => ?_
  refine st10 ?_
  refine ldV 6 rfl ?_
  refine ld5 fun v3236 => ?_
  refine ld6 fun v3238 => ?_
  exact step_ret c (h _ _ _ _ _ _)

theorem p98_spec {v3235 v3250 v3251} : Sp c defs 𝒱 bd (ST c arg5 arg6 arg7 arg8 arg9 arg10 arg11 q5 q6 q7 q8 X5 X6 X7 L V R 7)
    (k0_part98 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (vblk L V 6) v3235 v3250 v3251)
    fun Q => ∀ v3286 v3288 v3291 cst_1577, (ST c arg5 arg6 arg7 arg8 arg9 arg10 arg11 q5 q6 q7 q8 X5 X6 X7 L V R 7) ⊢ Q ⟨v3286, v3288, v3291, cst_1577⟩ := by
  intro Q h
  unfold k0_part98
  exact step_ret c (h _ _ _ _)

theorem p99_spec {v722 v3220 v3225 v3286 v3288 v3291 cst_1577} : Sp c defs 𝒱 bd (ST c arg5 arg6 arg7 arg8 arg9 arg10 arg11 q5 q6 q7 q8 X5 X6 X7 L V R 7)
    (k0_part99 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v3220 v3225 (vmask L 6) (vblk L V 6) v3286 v3288 v3291 cst_1577)
    fun Q => ∀ v3320 v3325, (ST c arg5 arg6 arg7 arg8 arg9 arg10 arg11 q5 q6 q7 q8 X5 X6 X7 L V R 6) ⊢ Q ⟨v3320, v3325, (vcolI 5), (vmask L 5), (vcol V 5)⟩ := by
  intro Q h
  unfold k0_part99
  refine ld9 fun v3321 => ?_
  refine st9 6 rfl ?_
  refine ld11 fun v3323 => ?_
  refine st11 ?_
  refine ld10 fun v3324 => ?_
  refine st10 ?_
  refine ldV 5 rfl ?_
  exact step_ret c (h _ _)

theorem p100_spec {v645 v3232} : Sp c defs 𝒱 bd (ST c arg5 arg6 arg7 arg8 arg9 arg10 arg11 q5 q6 q7 q8 X5 X6 X7 L V R 6)
    (k0_part100 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v3232 (vcolI 5) (vmask L 5) (vcol V 5))
    fun Q => ∀ v3332 v3362 v3369, (ST c arg5 arg6 arg7 arg8 arg9 arg10 arg11 q5 q6 q7 q8 X5 X6 X7 L V R 6) ⊢ Q ⟨(vblk L V 5), v3332, v3362, v3369⟩ := by
  intro Q h
  unfold k0_part100
  refine ld5 fun v3336 => ?_
  refine ld6 fun v3338 => ?_
  exact step_ret c (h _ _ _)

theorem p101_spec {v3362 v3369} : Sp c defs 𝒱 bd (ST c arg5 arg6 arg7 arg8 arg9 arg10 arg11 q5 q6 q7 q8 X5 X6 X7 L V R 6)
    (k0_part101 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v3362 v3369)
    fun Q => ∀ v3402 v3409, (ST c arg5 arg6 arg7 arg8 arg9 arg10 arg11 q5 q6 q7 q8 X5 X6 X7 L V R 6) ⊢ Q ⟨v3402, v3409⟩ := by
  intro Q h
  unfold k0_part101
  exact step_ret c (h _ _)

theorem p102_spec {v722 v3320 v3325 v3332 v3402 v3409} : Sp c defs 𝒱 bd (ST c arg5 arg6 arg7 arg8 arg9 arg10 arg11 q5 q6 q7 q8 X5 X6 X7 L V R 6)
    (k0_part102 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v3320 v3325 (vmask L 5) (vblk L V 5) v3332 v3402 v3409)
    fun Q => ∀ v3420 v3425 v3432 v3435 v3442 v3445 cst_1656, (ST c arg5 arg6 arg7 arg8 arg9 arg10 arg11 q5 q6 q7 q8 X5 X6 X7 L V R 5) ⊢ Q ⟨v3420, v3425, (vmask L 4), (vblk L V 4), v3432, v3435, v3442, v3445, cst_1656⟩ := by
  intro Q h
  unfold k0_part102
  refine ld9 fun v3421 => ?_
  refine st9 5 rfl ?_
  refine ld11 fun v3423 => ?_
  refine st11 ?_
  refine ld10 fun v3424 => ?_
  refine st10 ?_
  refine ldV 4 rfl ?_
  refine ld5 fun v3436 => ?_
  refine ld6 fun v3438 => ?_
  exact step_ret c (h _ _ _ _ _ _ _)

theorem p103_spec {v645 v3435 v3442 v3445 cst_1656} : Sp c defs 𝒱 bd (ST c arg5 arg6 arg7 arg8 arg9 arg10 arg11 q5 q6 q7 q8 X5 X6 X7 L V R 5)
    (k0_part103 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v645 (vmask L 4) (vblk L V 4) v3435 v3442 v3445 cst_1656)
    fun Q => ∀ v3486 c112_i32_1675, (ST c arg5 arg6 arg7 arg8 arg9 arg10 arg11 q5 q6 q7 q8 X5 X6 X7 L V R 5) ⊢ Q ⟨v3486, c112_i32_1675⟩ := by
  intro Q h
  unfold k0_part103
  exact step_ret c (h _ _)

theorem p104_spec {v722 v3420 v3486 c112_i32_1675} : Sp c defs 𝒱 bd (ST c arg5 arg6 arg7 arg8 arg9 arg10 arg11 q5 q6 q7 q8 X5 X6 X7 L V R 5)
    (k0_part104 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v3420 (vmask L 4) (vblk L V 4) v3486 c112_i32_1675)
    fun Q => ∀ v3517 v3520, (ST c arg5 arg6 arg7 arg8 arg9 arg10 arg11 q5 q6 q7 q8 X5 X6 X7 L V R 4) ⊢ Q ⟨v3517, v3520⟩ := by
  intro Q h
  unfold k0_part104
  refine ld9 fun v3521 => ?_
  refine st9 4 rfl ?_
  refine ld11 fun v3523 => ?_
  refine st11 ?_
  refine ld10 fun v3524 => ?_
  refine st10 ?_
  exact step_ret c (h _ _)

theorem p105_spec {v645 v3425 v3432 v3517} : Sp c defs 𝒱 bd (ST c arg5 arg6 arg7 arg8 arg9 arg10 arg11 q5 q6 q7 q8 X5 X6 X7 L V R 4)
    (k0_part105 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v3425 v3432 v3517)
    fun Q => ∀ v3525 v3532 v3562 v3564, (ST c arg5 arg6 arg7 arg8 arg9 arg10 arg11 q5 q6 q7 q8 X5 X6 X7 L V R 4) ⊢ Q ⟨v3525, (vmask L 3), (vblk L V 3), v3532, v3562, v3564⟩ := by
  intro Q h
  unfold k0_part105
  refine ldV 3 rfl ?_
  refine ld5 fun v3536 => ?_
  refine ld6 fun v3538 => ?_
  exact step_ret c (h _ _ _ _)

theorem p106_spec {v3562 v3564} : Sp c defs 𝒱 bd (ST c arg5 arg6 arg7 arg8 arg9 arg10 arg11 q5 q6 q7 q8 X5 X6 X7 L V R 4)
    (k0_part106 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v3562 v3564)
    fun Q => ∀ v3602 v3604, (ST c arg5 arg6 arg7 arg8 arg9 arg10 arg11 q5 q6 q7 q8 X5 X6 X7 L V R 4) ⊢ Q ⟨v3602, v3604⟩ := by
  intro Q h
  unfold k0_part106
  exact step_ret c (h _ _)
end

end Cert.KernelIdeal.Own
-- ==== Proof.PostP3.lean ====
/-
  The windows 107 to 132 of the body, each over the state of its last part.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Post

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section
variable {c : Dev nD}  {arg2 : Memref sig .tc .vmem S40x128 .fp8e4m3} {harg2 : arg2.IsWhole}   {arg3 : Memref sig .tc .smem S1 .f32} {harg3 : arg3.IsWhole}   {arg4 : Memref sig .tc .smem S1 .f32} {harg4 : arg4.IsWhole}   {arg5 : Memref sig .tc .vmem S12x4096 .bf16} {harg5 : arg5.IsWhole}   {arg6 : Memref sig .tc .vmem S12x4096 .bf16} {harg6 : arg6.IsWhole}   {arg7 : Memref sig .tc .smem S12 .f32} {harg7 : arg7.IsWhole}   {arg8 : Memref sig .tc .smem S12 .i32} {harg8 : arg8.IsWhole}   {arg9 : Memref sig .tc .vmem S12x4096 .f32} {harg9 : arg9.IsWhole}   {arg10 : Memref sig .tc .vmem S12x4096 .f32} {harg10 : arg10.IsWhole}   {arg11 : Memref sig .tc .vmem S12x4096 .f32} {harg11 : arg11.IsWhole}
    {q5 q6 q7 q8 : PosShare TreeShare} {X5 X6 : S12x4096.Idx → Elt F .bf16} {X7 : S12.Idx → Elt F .f32} {L : S12.Idx → Elt F .i32} {V : S12x4096.Idx → Elt F .f32}
    {defs : Defs nD τ sig (Elt F) Λ₀} {𝒱 : Variants} {bd : Option 𝒱.V} {R : sProp (MT nD τ sig Unit (Elt F) ℕ (Pipeline.UD sig nD τ) ℕ)}

theorem p107_spec {v722 v3520 v3525 v3532 v3602 v3604} : Sp c defs 𝒱 bd (ST c arg5 arg6 arg7 arg8 arg9 arg10 arg11 q5 q6 q7 q8 X5 X6 X7 L V R 4)
    (k0_part107 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v3520 v3525 (vmask L 3) (vblk L V 3) v3532 v3602 v3604)
    fun Q => ∀ v3620 v3625 v3632 v3635 v3640, (ST c arg5 arg6 arg7 arg8 arg9 arg10 arg11 q5 q6 q7 q8 X5 X6 X7 L V R 3) ⊢ Q ⟨v3620, v3625, (vcolI 2), (vmask L 2), (vblk L V 2), v3632, v3635, v3640⟩ := by
  intro Q h
  unfold k0_part107
  refine ld9 fun v3621 => ?_
  refine st9 3 rfl ?_
  refine ld11 fun v3623 => ?_
  refine st11 ?_
  refine ld10 fun v3624 => ?_
  refine st10 ?_
  refine ldV 2 rfl ?_
  refine ld5 fun v3636 => ?_
  refine ld6 fun v3638 => ?_
  exact step_ret c (h _ _ _ _ _)

theorem p108_spec {v645 v3635 v3640} : Sp c defs 𝒱 bd (ST c arg5 arg6 arg7 arg8 arg9 arg10 arg11 q5 q6 q7 q8 X5 X6 X7 L V R 3)
    (k0_part108 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 (vcolI 2) (vmask L 2) (vblk L V 2) v3635 v3640)
    fun Q => ∀ v3678 v3680 v3681, (ST c arg5 arg6 arg7 arg8 arg9 arg10 arg11 q5 q6 q7 q8 X5 X6 X7 L V R 3) ⊢ Q ⟨v3678, v3680, v3681⟩ := by
  intro Q h
  unfold k0_part108
  exact step_ret c (h _ _ _)

theorem p109_spec {v722 v3620 v3678 v3680 v3681} : Sp c defs 𝒱 bd (ST c arg5 arg6 arg7 arg8 arg9 arg10 arg11 q5 q6 q7 q8 X5 X6 X7 L V R 3)
    (k0_part109 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v3620 (vmask L 2) (vblk L V 2) v3678 v3680 v3681)
    fun Q => ∀ v3717 v3720 v3722, (ST c arg5 arg6 arg7 arg8 arg9 arg10 arg11 q5 q6 q7 q8 X5 X6 X7 L V R 2) ⊢ Q ⟨v3717, v3720, v3722⟩ := by
  intro Q h
  unfold k0_part109
  refine ld9 fun v3721 => ?_
  refine st9 2 rfl ?_
  exact step_ret c (h _ _ _)

theorem p110_spec {v645 v3625 v3632 v3717 v3722} : Sp c defs 𝒱 bd (ST c arg5 arg6 arg7 arg8 arg9 arg10 arg11 q5 q6 q7 q8 X5 X6 X7 L V R 2)
    (k0_part110 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v3625 v3632 v3717 v3722)
    fun Q => ∀ v3725 v3732 v3754 v3756 v3757 v3758, (ST c arg5 arg6 arg7 arg8 arg9 arg10 arg11 q5 q6 q7 q8 X5 X6 X7 L V R 2) ⊢ Q ⟨v3725, (vmask L 1), (vblk L V 1), v3732, v3754, v3756, v3757, v3758⟩ := by
  intro Q h
  unfold k0_part110
  refine ld11 fun v3723 => ?_
  refine st11 ?_
  refine ld10 fun v3724 => ?_
  refine st10 ?_
  refine ldV 1 rfl ?_
  refine ld5 fun v3736 => ?_
  refine ld6 fun v3738 => ?_
  exact step_ret c (h _ _ _ _ _ _)

theorem p111_spec {v3754 v3756 v3757 v3758} : Sp c defs 𝒱 bd (ST c arg5 arg6 arg7 arg8 arg9 arg10 arg11 q5 q6 q7 q8 X5 X6 X7 L V R 2)
    (k0_part111 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v3754 v3756 v3757 v3758)
    fun Q => ∀ v3794 v3796 v3797 v3798, (ST c arg5 arg6 arg7 arg8 arg9 arg10 arg11 q5 q6 q7 q8 X5 X6 X7 L V R 2) ⊢ Q ⟨v3794, v3796, v3797, v3798⟩ := by
  intro Q h
  unfold k0_part111
  exact step_ret c (h _ _ _ _)

theorem p112_spec {v722 v3720 v3725 v3732 v3794 v3796 v3797 v3798} : Sp c defs 𝒱 bd (ST c arg5 arg6 arg7 arg8 arg9 arg10 arg11 q5 q6 q7 q8 X5 X6 X7 L V R 2)
    (k0_part112 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v722 v3720 v3725 (vmask L 1) (vblk L V 1) v3732 v3794 v3796 v3797 v3798)
    fun Q => ∀ v3820 v3825 v3835, (ST c arg5 arg6 arg7 arg8 arg9 arg10 arg11 q5 q6 q7 q8 X5 X6 X7 L V R 1) ⊢ Q ⟨v3820, v3825, (vcolI 0), (vmask L 0), (vblk L V 0), v3835⟩ := by
  intro Q h
  unfold k0_part112
  refine ld9 fun v3821 => ?_
  refine st9 1 rfl ?_
  refine ld11 fun v3823 => ?_
  refine st11 ?_
  refine ld10 fun v3824 => ?_
  refine st10 ?_
  refine ldV 0 rfl ?_
  exact step_ret c (h _ _ _)

theorem p113_spec {v645 v3835} : Sp c defs 𝒱 bd (ST c arg5 arg6 arg7 arg8 arg9 arg10 arg11 q5 q6 q7 q8 X5 X6 X7 L V R 1)
    (k0_part113 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 (vcolI 0) (vmask L 0) (vblk L V 0) v3835)
    fun Q => ∀ v3870 v3872 v3875 cst_1872, (ST c arg5 arg6 arg7 arg8 arg9 arg10 arg11 q5 q6 q7 q8 X5 X6 X7 L V R 1) ⊢ Q ⟨v3870, v3872, v3875, cst_1872⟩ := by
  intro Q h
  unfold k0_part113
  refine ld5 fun v3836 => ?_
  refine ld6 fun v3838 => ?_
  exact step_ret c (h _ _ _ _)

theorem p114_spec {v722 v3820 v3870 v3872 v3875 cst_1872} : Sp c defs 𝒱 bd (ST c arg5 arg6 arg7 arg8 arg9 arg10 arg11 q5 q6 q7 q8 X5 X6 X7 L V R 1)
    (k0_part114 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI v722 v3820 (vmask L 0) (vblk L V 0) v3870 v3872 v3875 cst_1872)
    fun Q => ∀ v3914, (ST c arg5 arg6 arg7 arg8 arg9 arg10 arg11 q5 q6 q7 q8 X5 X6 X7 L V R 0) ⊢ Q v3914 := by
  intro Q h
  unfold k0_part114
  refine ld9 fun v3915 => ?_
  refine st9 0 rfl ?_
  exact step_ret c (h _)

theorem p115_spec {v647 v3825 v3914} : Sp c defs 𝒱 bd (ST c arg5 arg6 arg7 arg8 arg9 arg10 arg11 q5 q6 q7 q8 X5 X6 X7 L V R 0)
    (k0_part115 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v647 v3825 (vblk L V 0) v3914)
    fun Q => ∀ v3920 v3926 v3949 v3953 v3955, (ST c arg5 arg6 arg7 arg8 arg9 arg10 arg11 q5 q6 q7 q8 X5 X6 X7 L V R 0) ⊢ Q ⟨v3920, v3926, v3949, v3953, v3955⟩ := by
  intro Q h
  unfold k0_part115
  refine ld11 fun v3917 => ?_
  refine st11 ?_
  refine ld10 fun v3918 => ?_
  refine st10 ?_
  refine ld10 fun v3928 => ?_
  refine ld10 fun v3939 => ?_
  refine ld10 fun v3950 => ?_
  exact step_ret c (h _ _ _ _ _)

theorem p116_spec {v3926 v3949 v3953 v3955} : Sp c defs 𝒱 bd (ST c arg5 arg6 arg7 arg8 arg9 arg10 arg11 q5 q6 q7 q8 X5 X6 X7 L V R 0)
    (k0_part116 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v3949 v3953 v3955)
    fun Q => ∀ v3993 v3997 v3999, (ST c arg5 arg6 arg7 arg8 arg9 arg10 arg11 q5 q6 q7 q8 X5 X6 X7 L V R 0) ⊢ Q ⟨v3993, v3997, v3999⟩ := by
  intro Q h
  unfold k0_part116
  refine ld10 fun v3961 => ?_
  refine ld10 fun v3972 => ?_
  refine ld10 fun v3983 => ?_
  refine ld10 fun v3994 => ?_
  exact step_ret c (h _ _ _)

theorem p117_spec {v3926 v3993 v3997 v3999} : Sp c defs 𝒱 bd (ST c arg5 arg6 arg7 arg8 arg9 arg10 arg11 q5 q6 q7 q8 X5 X6 X7 L V R 0)
    (k0_part117 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v3993 v3997 v3999)
    fun Q => ∀ v4037 v4041 v4043, (ST c arg5 arg6 arg7 arg8 arg9 arg10 arg11 q5 q6 q7 q8 X5 X6 X7 L V R 0) ⊢ Q ⟨v4037, v4041, v4043⟩ := by
  intro Q h
  unfold k0_part117
  refine ld10 fun v4005 => ?_
  refine ld10 fun v4016 => ?_
  refine ld10 fun v4027 => ?_
  refine ld10 fun v4038 => ?_
  exact step_ret c (h _ _ _)

theorem p118_spec {v3926 v4037 v4041 v4043} : Sp c defs 𝒱 bd (ST c arg5 arg6 arg7 arg8 arg9 arg10 arg11 q5 q6 q7 q8 X5 X6 X7 L V R 0)
    (k0_part118 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4037 v4041 v4043)
    fun Q => ∀ v4081 v4085 v4087, (ST c arg5 arg6 arg7 arg8 arg9 arg10 arg11 q5 q6 q7 q8 X5 X6 X7 L V R 0) ⊢ Q ⟨v4081, v4085, v4087⟩ := by
  intro Q h
  unfold k0_part118
  refine ld10 fun v4049 => ?_
  refine ld10 fun v4060 => ?_
  refine ld10 fun v4071 => ?_
  refine ld10 fun v4082 => ?_
  exact step_ret c (h _ _ _)

theorem p119_spec {v3926 v4081 v4085 v4087} : Sp c defs 𝒱 bd (ST c arg5 arg6 arg7 arg8 arg9 arg10 arg11 q5 q6 q7 q8 X5 X6 X7 L V R 0)
    (k0_part119 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4081 v4085 v4087)
    fun Q => ∀ v4125 v4129 v4131, (ST c arg5 arg6 arg7 arg8 arg9 arg10 arg11 q5 q6 q7 q8 X5 X6 X7 L V R 0) ⊢ Q ⟨v4125, v4129, v4131⟩ := by
  intro Q h
  unfold k0_part119
  refine ld10 fun v4093 => ?_
  refine ld10 fun v4104 => ?_
  refine ld10 fun v4115 => ?_
  refine ld10 fun v4126 => ?_
  exact step_ret c (h _ _ _)

theorem p120_spec {v3926 v4125 v4129 v4131} : Sp c defs 𝒱 bd (ST c arg5 arg6 arg7 arg8 arg9 arg10 arg11 q5 q6 q7 q8 X5 X6 X7 L V R 0)
    (k0_part120 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4125 v4129 v4131)
    fun Q => ∀ v4169 v4173 v4175, (ST c arg5 arg6 arg7 arg8 arg9 arg10 arg11 q5 q6 q7 q8 X5 X6 X7 L V R 0) ⊢ Q ⟨v4169, v4173, v4175⟩ := by
  intro Q h
  unfold k0_part120
  refine ld10 fun v4137 => ?_
  refine ld10 fun v4148 => ?_
  refine ld10 fun v4159 => ?_
  refine ld10 fun v4170 => ?_
  exact step_ret c (h _ _ _)

theorem p121_spec {v3926 v4169 v4173 v4175} : Sp c defs 𝒱 bd (ST c arg5 arg6 arg7 arg8 arg9 arg10 arg11 q5 q6 q7 q8 X5 X6 X7 L V R 0)
    (k0_part121 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4169 v4173 v4175)
    fun Q => ∀ v4213 v4217 v4219, (ST c arg5 arg6 arg7 arg8 arg9 arg10 arg11 q5 q6 q7 q8 X5 X6 X7 L V R 0) ⊢ Q ⟨v4213, v4217, v4219⟩ := by
  intro Q h
  unfold k0_part121
  refine ld10 fun v4181 => ?_
  refine ld10 fun v4192 => ?_
  refine ld10 fun v4203 => ?_
  refine ld10 fun v4214 => ?_
  exact step_ret c (h _ _ _)

theorem p122_spec {v3926 v4213 v4217 v4219} : Sp c defs 𝒱 bd (ST c arg5 arg6 arg7 arg8 arg9 arg10 arg11 q5 q6 q7 q8 X5 X6 X7 L V R 0)
    (k0_part122 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4213 v4217 v4219)
    fun Q => ∀ v4257 v4261 v4263, (ST c arg5 arg6 arg7 arg8 arg9 arg10 arg11 q5 q6 q7 q8 X5 X6 X7 L V R 0) ⊢ Q ⟨v4257, v4261, v4263⟩ := by
  intro Q h
  unfold k0_part122
  refine ld10 fun v4225 => ?_
  refine ld10 fun v4236 => ?_
  refine ld10 fun v4247 => ?_
  refine ld10 fun v4258 => ?_
  exact step_ret c (h _ _ _)

theorem p123_spec {v3920 v3926 v4257 v4261 v4263} : Sp c defs 𝒱 bd (ST c arg5 arg6 arg7 arg8 arg9 arg10 arg11 q5 q6 q7 q8 X5 X6 X7 L V R 0)
    (k0_part123 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3920 v3926 v4257 v4261 v4263)
    fun Q => ∀ v4289 v4304, (ST c arg5 arg6 arg7 arg8 arg9 arg10 arg11 q5 q6 q7 q8 X5 X6 X7 L V R 0) ⊢ Q ⟨v4289, v4304⟩ := by
  intro Q h
  unfold k0_part123
  refine ld10 fun v4269 => ?_
  refine ld10 fun v4293 => ?_
  refine ld10 fun v4301 => ?_
  refine st10 ?_
  exact step_ret c (h _ _)

theorem p124_spec {v3926 v4289 v4304} : Sp c defs 𝒱 bd (ST c arg5 arg6 arg7 arg8 arg9 arg10 arg11 q5 q6 q7 q8 X5 X6 X7 L V R 0)
    (k0_part124 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4289 v4304)
    fun Q => ∀ v4340 v4342 v4343, (ST c arg5 arg6 arg7 arg8 arg9 arg10 arg11 q5 q6 q7 q8 X5 X6 X7 L V R 0) ⊢ Q ⟨v4340, v4342, v4343⟩ := by
  intro Q h
  unfold k0_part124
  refine ld10 fun v4305 => ?_
  refine ld10 fun v4313 => ?_
  refine st10 ?_
  refine ld10 fun v4317 => ?_
  refine ld10 fun v4325 => ?_
  refine st10 ?_
  refine ld10 fun v4329 => ?_
  refine ld10 fun v4337 => ?_
  refine st10 ?_
  refine ld10 fun v4341 => ?_
  exact step_ret c (h _ _ _)

theorem p125_spec {v3926 v4289 v4340 v4342 v4343} : Sp c defs 𝒱 bd (ST c arg5 arg6 arg7 arg8 arg9 arg10 arg11 q5 q6 q7 q8 X5 X6 X7 L V R 0)
    (k0_part125 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4289 v4340 v4342 v4343)
    fun Q => ∀ v4376 v4382, (ST c arg5 arg6 arg7 arg8 arg9 arg10 arg11 q5 q6 q7 q8 X5 X6 X7 L V R 0) ⊢ Q ⟨v4376, v4382⟩ := by
  intro Q h
  unfold k0_part125
  refine ld10 fun v4349 => ?_
  refine st10 ?_
  refine ld10 fun v4353 => ?_
  refine ld10 fun v4361 => ?_
  refine st10 ?_
  refine ld10 fun v4365 => ?_
  refine ld10 fun v4373 => ?_
  refine st10 ?_
  refine ld10 fun v4377 => ?_
  exact step_ret c (h _ _)

theorem p126_spec {v3926 v4289 v4376 v4382} : Sp c defs 𝒱 bd (ST c arg5 arg6 arg7 arg8 arg9 arg10 arg11 q5 q6 q7 q8 X5 X6 X7 L V R 0)
    (k0_part126 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4289 v4376 v4382)
    fun Q => ∀ v4420, (ST c arg5 arg6 arg7 arg8 arg9 arg10 arg11 q5 q6 q7 q8 X5 X6 X7 L V R 0) ⊢ Q v4420 := by
  intro Q h
  unfold k0_part126
  refine ld10 fun v4385 => ?_
  refine st10 ?_
  refine ld10 fun v4389 => ?_
  refine ld10 fun v4397 => ?_
  refine st10 ?_
  refine ld10 fun v4401 => ?_
  refine ld10 fun v4409 => ?_
  refine st10 ?_
  refine ld10 fun v4413 => ?_
  exact step_ret c (h _)

theorem p127_spec {v3926 v4289 v4420} : Sp c defs 𝒱 bd (ST c arg5 arg6 arg7 arg8 arg9 arg10 arg11 q5 q6 q7 q8 X5 X6 X7 L V R 0)
    (k0_part127 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4289 v4420)
    fun Q => ∀ v4456, (ST c arg5 arg6 arg7 arg8 arg9 arg10 arg11 q5 q6 q7 q8 X5 X6 X7 L V R 0) ⊢ Q v4456 := by
  intro Q h
  unfold k0_part127
  refine ld10 fun v4421 => ?_
  refine st10 ?_
  refine ld10 fun v4425 => ?_
  refine ld10 fun v4433 => ?_
  refine st10 ?_
  refine ld10 fun v4437 => ?_
  refine ld10 fun v4445 => ?_
  refine st10 ?_
  refine ld10 fun v4449 => ?_
  refine ld10 fun v4457 => ?_
  exact step_ret c (h _)

theorem p128_spec {v3926 v4289 v4456} : Sp c defs 𝒱 bd (ST c arg5 arg6 arg7 arg8 arg9 arg10 arg11 q5 q6 q7 q8 X5 X6 X7 L V R 0)
    (k0_part128 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4289 v4456)
    fun Q => ∀ v4494, (ST c arg5 arg6 arg7 arg8 arg9 arg10 arg11 q5 q6 q7 q8 X5 X6 X7 L V R 0) ⊢ Q v4494 := by
  intro Q h
  unfold k0_part128
  refine st10 ?_
  refine ld10 fun v4461 => ?_
  refine ld10 fun v4469 => ?_
  refine st10 ?_
  refine ld10 fun v4473 => ?_
  refine ld10 fun v4481 => ?_
  refine st10 ?_
  refine ld10 fun v4485 => ?_
  refine ld10 fun v4493 => ?_
  refine st10 ?_
  exact step_ret c (h _)

theorem p129_spec {v3926 v4289 v4494} : Sp c defs 𝒱 bd (ST c arg5 arg6 arg7 arg8 arg9 arg10 arg11 q5 q6 q7 q8 X5 X6 X7 L V R 0)
    (k0_part129 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4289 v4494)
    fun Q => ∀ v4532, (ST c arg5 arg6 arg7 arg8 arg9 arg10 arg11 q5 q6 q7 q8 X5 X6 X7 L V R 0) ⊢ Q v4532 := by
  intro Q h
  unfold k0_part129
  refine ld10 fun v4497 => ?_
  refine ld10 fun v4505 => ?_
  refine st10 ?_
  refine ld10 fun v4509 => ?_
  refine ld10 fun v4517 => ?_
  refine st10 ?_
  refine ld10 fun v4521 => ?_
  refine ld10 fun v4529 => ?_
  refine st10 ?_
  exact step_ret c (h _)

theorem p130_spec {v3926 v4289 v4532} : Sp c defs 𝒱 bd (ST c arg5 arg6 arg7 arg8 arg9 arg10 arg11 q5 q6 q7 q8 X5 X6 X7 L V R 0)
    (k0_part130 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4289 v4532)
    fun Q => ∀ v4568 v4570, (ST c arg5 arg6 arg7 arg8 arg9 arg10 arg11 q5 q6 q7 q8 X5 X6 X7 L V R 0) ⊢ Q ⟨v4568, v4570⟩ := by
  intro Q h
  unfold k0_part130
  refine ld10 fun v4533 => ?_
  refine ld10 fun v4541 => ?_
  refine st10 ?_
  refine ld10 fun v4545 => ?_
  refine ld10 fun v4553 => ?_
  refine st10 ?_
  refine ld10 fun v4557 => ?_
  refine ld10 fun v4565 => ?_
  refine st10 ?_
  refine ld10 fun v4569 => ?_
  exact step_ret c (h _ _)

theorem p131_spec {v3926 v4289 v4568 v4570} : Sp c defs 𝒱 bd (ST c arg5 arg6 arg7 arg8 arg9 arg10 arg11 q5 q6 q7 q8 X5 X6 X7 L V R 0)
    (k0_part131 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4289 v4568 v4570)
    fun Q => ∀ v4604 v4608 v4609, (ST c arg5 arg6 arg7 arg8 arg9 arg10 arg11 q5 q6 q7 q8 X5 X6 X7 L V R 0) ⊢ Q ⟨v4604, v4608, v4609⟩ := by
  intro Q h
  unfold k0_part131
  refine ld10 fun v4577 => ?_
  refine st10 ?_
  refine ld10 fun v4581 => ?_
  refine ld10 fun v4589 => ?_
  refine st10 ?_
  refine ld10 fun v4593 => ?_
  refine ld10 fun v4601 => ?_
  refine st10 ?_
  refine ld10 fun v4605 => ?_
  exact step_ret c (h _ _ _)

theorem p132_spec {v3926 v4289 v4604 v4608 v4609} : Sp c defs 𝒱 bd (ST c arg5 arg6 arg7 arg8 arg9 arg10 arg11 q5 q6 q7 q8 X5 X6 X7 L V R 0)
    (k0_part132 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v3926 v4289 v4604 v4608 v4609)
    fun Q => ∀ v4640 v4646 v4647, (ST c arg5 arg6 arg7 arg8 arg9 arg10 arg11 q5 q6 q7 q8 X5 X6 X7 L V R 0) ⊢ Q ⟨v4640, v4646, v4647⟩ := by
  intro Q h
  unfold k0_part132
  refine ld10 fun v4613 => ?_
  refine st10 ?_
  refine ld10 fun v4617 => ?_
  refine ld10 fun v4625 => ?_
  refine st10 ?_
  refine ld10 fun v4629 => ?_
  refine ld10 fun v4637 => ?_
  refine st10 ?_
  refine ld10 fun v4641 => ?_
  exact step_ret c (h _ _ _)
end

end Cert.KernelIdeal.Own
-- ==== Proof.Half2.lean ====
/-
  The second half of the body, put together from its parts.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.PostP1
public import proofs.«01_k».proof.Proof.PostP2
public import proofs.«01_k».proof.Proof.PostP3

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section
variable {c : Dev nD}  {arg2 : Memref sig .tc .vmem S40x128 .fp8e4m3} {harg2 : arg2.IsWhole}   {arg3 : Memref sig .tc .smem S1 .f32} {harg3 : arg3.IsWhole}   {arg4 : Memref sig .tc .smem S1 .f32} {harg4 : arg4.IsWhole}   {arg5 : Memref sig .tc .vmem S12x4096 .bf16} {harg5 : arg5.IsWhole}   {arg6 : Memref sig .tc .vmem S12x4096 .bf16} {harg6 : arg6.IsWhole}   {arg7 : Memref sig .tc .smem S12 .f32} {harg7 : arg7.IsWhole}   {arg8 : Memref sig .tc .smem S12 .i32} {harg8 : arg8.IsWhole}   {arg9 : Memref sig .tc .vmem S12x4096 .f32} {harg9 : arg9.IsWhole}   {arg10 : Memref sig .tc .vmem S12x4096 .f32} {harg10 : arg10.IsWhole}   {arg11 : Memref sig .tc .vmem S12x4096 .f32} {harg11 : arg11.IsWhole}
    {q5 q6 q7 q8 : PosShare TreeShare} {X5 X6 : S12x4096.Idx → Elt F .bf16} {X7 : S12.Idx → Elt F .f32} {L : S12.Idx → Elt F .i32} {V : S12x4096.Idx → Elt F .f32}
    {defs : Defs nD τ sig (Elt F) Λ₀} {𝒱 : Variants} {bd : Option 𝒱.V} {R : sProp (MT nD τ sig Unit (Elt F) ℕ (Pipeline.UD sig nD τ) ℕ)}

set_option maxHeartbeats 8000000 in
/-- The body's second half: the masked values' other blocks. -/
theorem p134_spec {v645 v647 v722 v2225 v2232 v2317 v2320} : Sp c defs 𝒱 bd (ST c arg5 arg6 arg7 arg8 arg9 arg10 arg11 q5 q6 q7 q8 X5 X6 X7 L V R 17)
    (k0_part134 (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5 colI (lens12 L) v645 v647 v722 v2225 (vblk L V 16) v2232 v2317 v2320)
    fun Q => ∀ v3926 v4289 v4648, (ST c arg5 arg6 arg7 arg8 arg9 arg10 arg11 q5 q6 q7 q8 X5 X6 X7 L V R 0) ⊢ Q ⟨v3926, v4289, v4648⟩ := by
  intro Q h
  unfold k0_part134
  refine step_bind c ?_
  refine p74_spec _ ?_
  intro v2325 v2332 v2354 v2356
  refine step_bind c ?_
  refine p75_spec _ ?_
  intro v2394 v2396
  refine step_bind c ?_
  refine p76_spec _ ?_
  intro v2420 v2425 v2432 c127_i32_1148
  refine step_bind c ?_
  refine p77_spec _ ?_
  intro v2470 v2472 v2473
  refine step_bind c ?_
  refine p78_spec _ ?_
  intro v2513 v2515
  refine step_bind c ?_
  refine p79_spec _ ?_
  intro v2520 v2525 v2532 v2535 v2550
  refine step_bind c ?_
  refine p80_spec _ ?_
  intro v2586 v2588 v2589 v2590
  refine step_bind c ?_
  refine p81_spec _ ?_
  intro v2620 v2625
  refine step_bind c ?_
  refine p82_spec _ ?_
  intro v2632 v2662 v2664 v2667 cst_1265
  refine step_bind c ?_
  refine p83_spec _ ?_
  intro v2702 v2704 v2707 cst_1285
  refine step_bind c ?_
  refine p84_spec _ ?_
  intro v2720 v2725 v2732 v2735 v2742 v2744
  refine step_bind c ?_
  refine p85_spec _ ?_
  intro v2778 v2785
  refine step_bind c ?_
  refine p86_spec _ ?_
  intro v2817 v2820
  refine step_bind c ?_
  refine p87_spec _ ?_
  intro v2825 v2832 v2862 c126_i32_1362
  refine step_bind c ?_
  refine p88_spec _ ?_
  intro v2902 c64_i32_1382
  refine step_bind c ?_
  refine p89_spec _ ?_
  intro v2920 v2925 v2932 v2935 v2937 v2938
  refine step_bind c ?_
  refine p90_spec _ ?_
  intro v2978 v2980
  refine step_bind c ?_
  refine p91_spec _ ?_
  intro v3017 v3020
  refine step_bind c ?_
  refine p92_spec _ ?_
  intro v3025 v3032 v3054 v3056 v3057
  refine step_bind c ?_
  refine p93_spec _ ?_
  intro v3094 v3096 v3097
  refine step_bind c ?_
  refine p94_spec _ ?_
  intro v3120 v3125 v3132 v3134
  refine step_bind c ?_
  refine p95_spec _ ?_
  intro v3170 v3172 v3173 v3174
  refine step_bind c ?_
  refine p96_spec _ ?_
  intro v3213 v3215 v3216
  refine step_bind c ?_
  refine p97_spec _ ?_
  intro v3220 v3225 v3232 v3235 v3250 v3251
  refine step_bind c ?_
  refine p98_spec _ ?_
  intro v3286 v3288 v3291 cst_1577
  refine step_bind c ?_
  refine p99_spec _ ?_
  intro v3320 v3325
  refine step_bind c ?_
  refine p100_spec _ ?_
  intro v3332 v3362 v3369
  refine step_bind c ?_
  refine p101_spec _ ?_
  intro v3402 v3409
  refine step_bind c ?_
  refine p102_spec _ ?_
  intro v3420 v3425 v3432 v3435 v3442 v3445 cst_1656
  refine step_bind c ?_
  refine p103_spec _ ?_
  intro v3486 c112_i32_1675
  refine step_bind c ?_
  refine p104_spec _ ?_
  intro v3517 v3520
  refine step_bind c ?_
  refine p105_spec _ ?_
  intro v3525 v3532 v3562 v3564
  refine step_bind c ?_
  refine p106_spec _ ?_
  intro v3602 v3604
  refine step_bind c ?_
  refine p107_spec _ ?_
  intro v3620 v3625 v3632 v3635 v3640
  refine step_bind c ?_
  refine p108_spec _ ?_
  intro v3678 v3680 v3681
  refine step_bind c ?_
  refine p109_spec _ ?_
  intro v3717 v3720 v3722
  refine step_bind c ?_
  refine p110_spec _ ?_
  intro v3725 v3732 v3754 v3756 v3757 v3758
  refine step_bind c ?_
  refine p111_spec _ ?_
  intro v3794 v3796 v3797 v3798
  refine step_bind c ?_
  refine p112_spec _ ?_
  intro v3820 v3825 v3835
  refine step_bind c ?_
  refine p113_spec _ ?_
  intro v3870 v3872 v3875 cst_1872
  refine step_bind c ?_
  refine p114_spec _ ?_
  intro v3914
  refine step_bind c ?_
  refine p115_spec _ ?_
  intro v3920 v3926 v3949 v3953 v3955
  refine step_bind c ?_
  refine p116_spec _ ?_
  intro v3993 v3997 v3999
  refine step_bind c ?_
  refine p117_spec _ ?_
  intro v4037 v4041 v4043
  refine step_bind c ?_
  refine p118_spec _ ?_
  intro v4081 v4085 v4087
  refine step_bind c ?_
  refine p119_spec _ ?_
  intro v4125 v4129 v4131
  refine step_bind c ?_
  refine p120_spec _ ?_
  intro v4169 v4173 v4175
  refine step_bind c ?_
  refine p121_spec _ ?_
  intro v4213 v4217 v4219
  refine step_bind c ?_
  refine p122_spec _ ?_
  intro v4257 v4261 v4263
  refine step_bind c ?_
  refine p123_spec _ ?_
  intro v4289 v4304
  refine step_bind c ?_
  refine p124_spec _ ?_
  intro v4340 v4342 v4343
  refine step_bind c ?_
  refine p125_spec _ ?_
  intro v4376 v4382
  refine step_bind c ?_
  refine p126_spec _ ?_
  intro v4420
  refine step_bind c ?_
  refine p127_spec _ ?_
  intro v4456
  refine step_bind c ?_
  refine p128_spec _ ?_
  intro v4494
  refine step_bind c ?_
  refine p129_spec _ ?_
  intro v4532
  refine step_bind c ?_
  refine p130_spec _ ?_
  intro v4568 v4570
  refine step_bind c ?_
  refine p131_spec _ ?_
  intro v4604 v4608 v4609
  refine step_bind c ?_
  refine p132_spec _ ?_
  intro v4640 v4646 v4647
  exact step_ret c (h _ _ _)
end

end Cert.KernelIdeal.Own
-- ==== Proof.Whole.lean ====
/-
  The body as a whole.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Half1
public import proofs.«01_k».proof.Proof.Half2

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section
variable (c : Dev nD) (C : Codes (F := F)) (Sc : Scales (F := F)) (qs qt : Fin 6 → PosShare TreeShare)  (arg2 : Memref sig .tc .vmem S40x128 .fp8e4m3) (harg2 : arg2.IsWhole)   (arg3 : Memref sig .tc .smem S1 .f32) (harg3 : arg3.IsWhole)   (arg4 : Memref sig .tc .smem S1 .f32) (harg4 : arg4.IsWhole)   (arg5 : Memref sig .tc .vmem S12x4096 .bf16) (harg5 : arg5.IsWhole)   (arg6 : Memref sig .tc .vmem S12x4096 .bf16) (harg6 : arg6.IsWhole)   (arg7 : Memref sig .tc .smem S12 .f32) (harg7 : arg7.IsWhole)   (arg8 : Memref sig .tc .smem S12 .i32) (harg8 : arg8.IsWhole)   (arg9 : Memref sig .tc .vmem S12x4096 .f32) (harg9 : arg9.IsWhole)   (arg10 : Memref sig .tc .vmem S12x4096 .f32) (harg10 : arg10.IsWhole)   (arg11 : Memref sig .tc .vmem S12x4096 .f32) (harg11 : arg11.IsWhole)
    {L : S12.Idx → Elt F .i32} {q2 q3 q4 q5 q6 q7 q8 : PosShare TreeShare} {w0 : S40x128.Idx → Elt F .fp8e4m3} {w1 b1 : S1.Idx → Elt F .f32} {X5 X6 : S12x4096.Idx → Elt F .bf16} {X7 : S12.Idx → Elt F .f32}
    {OK : ℕ → (S12x4096.Idx → Elt F .f32) → Prop} {defs : Defs nD τ sig (Elt F) Λ₀} {𝒱 : Variants} {bd : Option 𝒱.V} {R : sProp (MT nD τ sig Unit (Elt F) ℕ (Pipeline.UD sig nD τ) ℕ)}
theorem fil_zero : fil 0 = occ (nJ L) (nJ L) := by
  funext s
  unfold fil occ
  rw [if_neg (Nat.not_lt_zero _), if_neg (by omega)]
set_option maxHeartbeats 4000000 in
set_option maxRecDepth 100000 in
/-- The body: with every slot idle before it, every slot is idle after it, what it reads is as it was, and
    the array of values holds the masked values of some raw values that are right. -/
theorem kernel_spec (hL : ∀ b, LenOK (at12 L b)) (h0 : ∀ V, OK 0 V) (hT : TripOK C Sc L (wvec w0) w1 b1 OK) : Sp c defs 𝒱 bd iprop(owns (c : Thread nD τ) arg8 q8 L ∗ Slots c C Sc qs qt L (fil 0) ∗ owns (c : Thread nD τ) arg2 q2 w0 ∗ (∃ X, owns (c : Thread nD τ) wblkM fullShare X) ∗ (∃ X, owns (c : Thread nD τ) valsM fullShare X) ∗ (∃ Ws, owes (c : Thread nD τ) 0 Ws) ∗ owns (c : Thread nD τ) arg3 q3 w1 ∗ owns (c : Thread nD τ) arg4 q4 b1 ∗ (∃ X, owns (c : Thread nD τ) arg9 fullShare X) ∗ owns (c : Thread nD τ) arg5 q5 X5 ∗ owns (c : Thread nD τ) arg6 q6 X6 ∗ owns (c : Thread nD τ) arg7 q7 X7 ∗ (∃ X, owns (c : Thread nD τ) arg10 fullShare X) ∗ (∃ X, owns (c : Thread nD τ) arg11 fullShare X) ∗ R)
    (cc0_critic_gae (F := F) codesM (Memref.isWhole_whole _) scalesM (Memref.isWhole_whole _) arg2 harg2 arg3 harg3 arg4 harg4 arg5 harg5 arg6 harg6 arg7 harg7 arg8 harg8 arg9 harg9 arg10 harg10 arg11 harg11 ringM (Memref.isWhole_whole _) sringM (Memref.isWhole_whole _) wblkM (Memref.isWhole_whole _) valsM (Memref.isWhole_whole _) cc0_scratch4 cc0_scratch5)
    fun Q => ∀ V, OK (nJ L) V → (ST c arg5 arg6 arg7 arg8 arg9 arg10 arg11 q5 q6 q7 q8 X5 X6 X7 L V iprop(Slots c C Sc qs qt L (occ (nJ L) (nJ L)) ∗ (∃ Ws, owes (c : Thread nD τ) 0 Ws) ∗ (∃ W, owns (c : Thread nD τ) wblkM fullShare W) ∗ owns (c : Thread nD τ) arg3 q3 w1 ∗ owns (c : Thread nD τ) arg4 q4 b1 ∗ owns (c : Thread nD τ) arg2 q2 w0 ∗ R) 0) ⊢ Q ⟨⟩ := by
  intro Q h
  unfold cc0_critic_gae
  refine step_bind c ?_
  refine p133_spec c C Sc qs qt arg2 harg2 arg3 harg3 arg4 harg4 arg5 harg5 arg6 harg6 arg7 harg7 arg8 harg8 arg9 harg9 arg10 harg10 arg11 harg11 hL h0 hT _ ?_
  intro V v645 v647 v722 v2225 v2232 v2317 v2320 hV
  refine step_bind c ?_
  refine p134_spec _ ?_
  intro v3926 v4289 v4648
  refine ld10 fun _ => ?_
  refine st10 ?_
  refine ld10 fun _ => ?_
  refine ld10 fun _ => ?_
  refine st10 ?_
  refine ld10 fun _ => ?_
  refine ld10 fun _ => ?_
  refine st10 ?_
  exact step_ret c (h V hV)
end

end Cert.KernelIdeal.Own
-- ==== Proof.Launch1.lean ====
/-
  The slots of the two rings, cut out of the buffers the launch gives whole, and put back.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Whole

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The buffers and the cells the body itself uses -/

abbrev osem0 : Fin 12 → SemLoc sig := ![SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21]
theorem ownSemFacts0 : Pipeline.OwnSemFacts spec0 osem0 := by decide
abbrev cell (c : Dev nD) (d : DmaSem sig) : sProp 𝕄 := semVal ((c : Thread nD τ), SemLoc.dma d) 0
theorem ownSems00_eq (c : Dev nD) :
    (Pipeline.ownSems0 (Ix := Unit) (Name := ℕ) (U := Pipeline.UD sig nD τ) (Lvl := ℕ) (Val := Elt F) (τ := τ) osem0 c : sProp 𝕄)
      = iprop(cell c 10 ∗ cell c 11 ∗ cell c 12 ∗ cell c 13 ∗ cell c 14 ∗ cell c 15 ∗ cell c 16 ∗ cell c 17 ∗ cell c 18 ∗ cell c 19 ∗ cell c 20 ∗ cell c 21) := by
  rw [Pipeline.ownSems0_eq_of_list c osem0 [0, 1, 2, 3, 4, 5, 6, 7, 8, 9, 10, 11] (by decide) (by decide)]; rfl
/-- The arrays the body's copies read. -/
def H0 : Finset (Ref sig .tc) := {main_arg0, main_v0}
theorem H0_sub : H0 ⊆ Pipeline.restRefs sig spec0 := by decide
theorem hbmPts0_eq (c : Dev nD) :
    (bigSep H0 (fun b => ((c : Thread nD τ).loc b) ↦{fullShare} V m c b) : sProp 𝕄)
      = iprop((codesM.view.loc (c : Thread nD τ) ↦{fullShare} V m c main_arg0) ∗ (scalesM.view.loc (c : Thread nD τ) ↦{fullShare} V m c main_v0)) := by
  rw [BI.bigSep_eq_bigSepL_of_eq [main_arg0, main_v0] (by decide) (by decide)]; rfl

/-! ## The slots out of whole buffers, and back -/

theorem rows_disj : ∀ s s' : Fin 6, s ≠ s' → Disjoint (rowsR s 0 512) (rowsR s' 0 512) := fun s s' h =>
  Finset.disjoint_left.2 fun i hi hj => h (Fin.ext ((Finset.mem_filter.1 hi).2.1.symm.trans (Finset.mem_filter.1 hj).2.1))
theorem six_cover : Finset.univ.biUnion (fun s : Fin 6 => rowsR s 0 512) = Finset.univ :=
  Finset.eq_univ_iff_forall.2 fun i => Finset.mem_biUnion.2 ⟨i 0, Finset.mem_univ _, Finset.mem_filter.2 ⟨Finset.mem_univ _, rfl, Nat.zero_le _, by have h : (i 1).val < 512 := (i 1).isLt; omega⟩⟩
theorem cols_disj : ∀ s s' : Fin 6, s ≠ s' → Disjoint (colsS s) (colsS s') := fun s s' h =>
  Finset.disjoint_left.2 fun i hi hj => h (Fin.ext ((Finset.mem_filter.1 hi).2.symm.trans (Finset.mem_filter.1 hj).2))
theorem cols_cover : Finset.univ.biUnion (fun s : Fin 6 => colsS s) = Finset.univ :=
  Finset.eq_univ_iff_forall.2 fun i => Finset.mem_biUnion.2 ⟨i 0, Finset.mem_univ _, Finset.mem_filter.2 ⟨Finset.mem_univ _, rfl⟩⟩
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

theorem ring_out (c : Dev nD) : iprop(∃ f, ringM.view.loc (c : Thread nD τ) ↦{fullShare} f) ⊢ (bigSep Finset.univ (fun s : Fin 6 => iprop(∃ f, ringM.view.loc (c : Thread nD τ) ↦[rowsR s 0 512]{fullShare} f)) : sProp 𝕄) := by
  iintro ⟨%f, H⟩
  iapply (show _ ⊢ _ from .trans (Entails.of_eq (Idealize.ShloMosaic.Ring.pointsTo_blocks (fun s : Fin 6 => rowsR s 0 512) rows_disj six_cover f)) (bigSep_mono fun s _ => show (_ : sProp 𝕄) ⊢ iprop(∃ f, ringM.view.loc (c : Thread nD τ) ↦[rowsR s 0 512]{fullShare} f) from by iintro H; iexists f; iexact H)) $$ H
set_option maxRecDepth 100000 in
set_option maxHeartbeats 2000000 in
theorem ring_in (f₀ : S6x512x5120.Idx → Elt F .fp8e4m3) (c : Dev nD) : (bigSep Finset.univ (fun s : Fin 6 => iprop(∃ f, ringM.view.loc (c : Thread nD τ) ↦[rowsR s 0 512]{fullShare} f)) : sProp 𝕄) ⊢ iprop(∃ f, ringM.view.loc (c : Thread nD τ) ↦{fullShare} f) :=
  Idealize.ShloMosaic.Ring.pointsTo_blocks_join_exists (ℓ := ringM.view.loc (c : Thread nD τ)) (B := Fin 6) (fun s => rowsR s 0 512) rows_disj six_cover f₀
theorem sring_out (c : Dev nD) : iprop(∃ f, sringM.view.loc (c : Thread nD τ) ↦{fullShare} f) ⊢ (bigSep Finset.univ (fun s : Fin 6 => iprop(∃ f, sringM.view.loc (c : Thread nD τ) ↦[colsS s]{fullShare} f)) : sProp 𝕄) := by
  iintro ⟨%f, H⟩
  iapply (show _ ⊢ _ from .trans (Entails.of_eq (Idealize.ShloMosaic.Ring.pointsTo_blocks (fun s : Fin 6 => colsS s) cols_disj cols_cover f)) (bigSep_mono fun s _ => show (_ : sProp 𝕄) ⊢ iprop(∃ f, sringM.view.loc (c : Thread nD τ) ↦[colsS s]{fullShare} f) from by iintro H; iexists f; iexact H)) $$ H
set_option maxRecDepth 100000 in
set_option maxHeartbeats 2000000 in
theorem sring_in (f₀ : S6x40x512.Idx → Elt F .f32) (c : Dev nD) : (bigSep Finset.univ (fun s : Fin 6 => iprop(∃ f, sringM.view.loc (c : Thread nD τ) ↦[colsS s]{fullShare} f)) : sProp 𝕄) ⊢ iprop(∃ f, sringM.view.loc (c : Thread nD τ) ↦{fullShare} f) :=
  Idealize.ShloMosaic.Ring.pointsTo_blocks_join_exists (ℓ := sringM.view.loc (c : Thread nD τ)) (B := Fin 6) (fun s => colsS s) cols_disj cols_cover f₀

/-- The share of an array that slot `s` holds, and what is left over. -/
abbrev shS (s : Fin 6) : PosShare TreeShare := Transfers.shareTok fullShare 6 s
abbrev shD : PosShare TreeShare := Transfers.shareDrop fullShare 6

section
variable (c : Dev nD) (C : Codes (F := F)) (Sc : Scales (F := F)) (L : S12.Idx → Elt F .i32)
/-- What the launch gives for the slots. -/
def whole6 : sProp 𝕄 := iprop((∃ f, ringM.view.loc (c : Thread nD τ) ↦{fullShare} f) ∗ (∃ f, sringM.view.loc (c : Thread nD τ) ↦{fullShare} f)
  ∗ (codesM.view.loc (c : Thread nD τ) ↦{fullShare} C) ∗ (scalesM.view.loc (c : Thread nD τ) ↦{fullShare} Sc) ∗ (cell c 10 ∗ cell c 11 ∗ cell c 12 ∗ cell c 13 ∗ cell c 14 ∗ cell c 15 ∗ cell c 16 ∗ cell c 17 ∗ cell c 18 ∗ cell c 19 ∗ cell c 20 ∗ cell c 21))
def left6 : sProp 𝕄 := iprop((codesM.view.loc (c : Thread nD τ) ↦{shD} C) ∗ (scalesM.view.loc (c : Thread nD τ) ↦{shD} Sc))
theorem slots_idle (n : ℕ) : (Slots c C Sc shS shS L (occ n n) : sProp 𝕄)
    = iprop(((cell c 10 ∗ (∃ f, ringM.view.loc (c : Thread nD τ) ↦[rowsR (0 : Fin 6) 0 512]{fullShare} f) ∗ (codesM.view.loc (c : Thread nD τ) ↦{shS 0} C)) ∗ (cell c 16 ∗ (∃ f, sringM.view.loc (c : Thread nD τ) ↦[colsS (0 : Fin 6)]{fullShare} f) ∗ (scalesM.view.loc (c : Thread nD τ) ↦{shS 0} Sc))) ∗ ((cell c 11 ∗ (∃ f, ringM.view.loc (c : Thread nD τ) ↦[rowsR (1 : Fin 6) 0 512]{fullShare} f) ∗ (codesM.view.loc (c : Thread nD τ) ↦{shS 1} C)) ∗ (cell c 17 ∗ (∃ f, sringM.view.loc (c : Thread nD τ) ↦[colsS (1 : Fin 6)]{fullShare} f) ∗ (scalesM.view.loc (c : Thread nD τ) ↦{shS 1} Sc))) ∗ ((cell c 12 ∗ (∃ f, ringM.view.loc (c : Thread nD τ) ↦[rowsR (2 : Fin 6) 0 512]{fullShare} f) ∗ (codesM.view.loc (c : Thread nD τ) ↦{shS 2} C)) ∗ (cell c 18 ∗ (∃ f, sringM.view.loc (c : Thread nD τ) ↦[colsS (2 : Fin 6)]{fullShare} f) ∗ (scalesM.view.loc (c : Thread nD τ) ↦{shS 2} Sc))) ∗ ((cell c 13 ∗ (∃ f, ringM.view.loc (c : Thread nD τ) ↦[rowsR (3 : Fin 6) 0 512]{fullShare} f) ∗ (codesM.view.loc (c : Thread nD τ) ↦{shS 3} C)) ∗ (cell c 19 ∗ (∃ f, sringM.view.loc (c : Thread nD τ) ↦[colsS (3 : Fin 6)]{fullShare} f) ∗ (scalesM.view.loc (c : Thread nD τ) ↦{shS 3} Sc))) ∗ ((cell c 14 ∗ (∃ f, ringM.view.loc (c : Thread nD τ) ↦[rowsR (4 : Fin 6) 0 512]{fullShare} f) ∗ (codesM.view.loc (c : Thread nD τ) ↦{shS 4} C)) ∗ (cell c 20 ∗ (∃ f, sringM.view.loc (c : Thread nD τ) ↦[colsS (4 : Fin 6)]{fullShare} f) ∗ (scalesM.view.loc (c : Thread nD τ) ↦{shS 4} Sc))) ∗ ((cell c 15 ∗ (∃ f, ringM.view.loc (c : Thread nD τ) ↦[rowsR (5 : Fin 6) 0 512]{fullShare} f) ∗ (codesM.view.loc (c : Thread nD τ) ↦{shS 5} C)) ∗ (cell c 21 ∗ (∃ f, sringM.view.loc (c : Thread nD τ) ↦[colsS (5 : Fin 6)]{fullShare} f) ∗ (scalesM.view.loc (c : Thread nD τ) ↦{shS 5} Sc)))) := by
  have e : occ n n = fun _ => .idle := by
    funext s; unfold occ; rw [if_neg (by omega)]
  rw [e]; unfold Slots Slot Idle Free FreeS; rfl
theorem slots_out (n : ℕ) : whole6 c C Sc ⊢ iprop(Slots c C Sc shS shS L (occ n n) ∗ left6 c C Sc) := by
  unfold whole6 left6
  rw [slots_idle]
  iintro ⟨Hr, Hs, HC, HS, A0, A1, A2, A3, A4, A5, D0, D1, D2, D3, D4, D5⟩
  ihave Hr := (ring_out c |>.trans (Entails.of_eq (bigSep_six _))) $$ Hr
  ihave Hs := (sring_out c |>.trans (Entails.of_eq (bigSep_six _))) $$ Hs
  ihave HC := ((Transfers.pointsTo_toks_split fullShare 6).trans (sep_mono .rfl (Entails.of_eq (bigSep_six _)))) $$ HC
  ihave HS := ((Transfers.pointsTo_toks_split fullShare 6).trans (sep_mono .rfl (Entails.of_eq (bigSep_six _)))) $$ HS
  icases Hr with ⟨R0, R1, R2, R3, R4, R5⟩
  icases Hs with ⟨S0, S1, S2, S3, S4, S5⟩
  icases HC with ⟨HCd, C0, C1, C2, C3, C4, C5⟩
  icases HS with ⟨HSd, K0, K1, K2, K3, K4, K5⟩
  isplitl [A0 R0 C0 D0 S0 K0 A1 R1 C1 D1 S1 K1 A2 R2 C2 D2 S2 K2 A3 R3 C3 D3 S3 K3 A4 R4 C4 D4 S4 K4 A5 R5 C5 D5 S5 K5]
  · isplitl [A0 R0 C0 D0 S0 K0]
    · isplitl [A0 R0 C0]
      · isplitl [A0]; · iexact A0
        isplitl [R0]; · iexact R0
        iexact C0
      isplitl [D0]; · iexact D0
      isplitl [S0]; · iexact S0
      iexact K0
    isplitl [A1 R1 C1 D1 S1 K1]
    · isplitl [A1 R1 C1]
      · isplitl [A1]; · iexact A1
        isplitl [R1]; · iexact R1
        iexact C1
      isplitl [D1]; · iexact D1
      isplitl [S1]; · iexact S1
      iexact K1
    isplitl [A2 R2 C2 D2 S2 K2]
    · isplitl [A2 R2 C2]
      · isplitl [A2]; · iexact A2
        isplitl [R2]; · iexact R2
        iexact C2
      isplitl [D2]; · iexact D2
      isplitl [S2]; · iexact S2
      iexact K2
    isplitl [A3 R3 C3 D3 S3 K3]
    · isplitl [A3 R3 C3]
      · isplitl [A3]; · iexact A3
        isplitl [R3]; · iexact R3
        iexact C3
      isplitl [D3]; · iexact D3
      isplitl [S3]; · iexact S3
      iexact K3
    isplitl [A4 R4 C4 D4 S4 K4]
    · isplitl [A4 R4 C4]
      · isplitl [A4]; · iexact A4
        isplitl [R4]; · iexact R4
        iexact C4
      isplitl [D4]; · iexact D4
      isplitl [S4]; · iexact S4
      iexact K4
    isplitl [A5 R5 C5]
    · isplitl [A5]; · iexact A5
      isplitl [R5]; · iexact R5
      iexact C5
    isplitl [D5]; · iexact D5
    isplitl [S5]; · iexact S5
    iexact K5
  isplitl [HCd]; · iexact HCd
  iexact HSd
theorem slots_in (f₀ : S6x512x5120.Idx → Elt F .fp8e4m3) (g₀ : S6x40x512.Idx → Elt F .f32) (n : ℕ) : iprop(Slots c C Sc shS shS L (occ n n) ∗ left6 c C Sc) ⊢ whole6 c C Sc := by
  unfold whole6 left6
  rw [slots_idle]
  iintro ⟨⟨⟨⟨A0, R0, C0⟩, D0, S0, K0⟩, ⟨⟨A1, R1, C1⟩, D1, S1, K1⟩, ⟨⟨A2, R2, C2⟩, D2, S2, K2⟩, ⟨⟨A3, R3, C3⟩, D3, S3, K3⟩, ⟨⟨A4, R4, C4⟩, D4, S4, K4⟩, ⟨⟨A5, R5, C5⟩, D5, S5, K5⟩⟩, HCd, HSd⟩
  isplitl [R0 R1 R2 R3 R4 R5]
  · iapply ((Entails.of_eq (bigSep_six _).symm).trans (ring_in f₀ c))
    isplitl [R0]; · iexact R0
    isplitl [R1]; · iexact R1
    isplitl [R2]; · iexact R2
    isplitl [R3]; · iexact R3
    isplitl [R4]; · iexact R4
    iexact R5
  isplitl [S0 S1 S2 S3 S4 S5]
  · iapply ((Entails.of_eq (bigSep_six _).symm).trans (sring_in g₀ c))
    isplitl [S0]; · iexact S0
    isplitl [S1]; · iexact S1
    isplitl [S2]; · iexact S2
    isplitl [S3]; · iexact S3
    isplitl [S4]; · iexact S4
    iexact S5
  isplitl [HCd C0 C1 C2 C3 C4 C5]
  · iapply ((sep_mono .rfl (Entails.of_eq (bigSep_six _).symm)).trans (Transfers.pointsTo_toks_join fullShare 6))
    isplitl [HCd]; · iexact HCd
    isplitl [C0]; · iexact C0
    isplitl [C1]; · iexact C1
    isplitl [C2]; · iexact C2
    isplitl [C3]; · iexact C3
    isplitl [C4]; · iexact C4
    iexact C5
  isplitl [HSd K0 K1 K2 K3 K4 K5]
  · iapply ((sep_mono .rfl (Entails.of_eq (bigSep_six _).symm)).trans (Transfers.pointsTo_toks_join fullShare 6))
    isplitl [HSd]; · iexact HSd
    isplitl [K0]; · iexact K0
    isplitl [K1]; · iexact K1
    isplitl [K2]; · iexact K2
    isplitl [K3]; · iexact K3
    isplitl [K4]; · iexact K4
    iexact K5
  isplitl [A0]; · iexact A0
  isplitl [A1]; · iexact A1
  isplitl [A2]; · iexact A2
  isplitl [A3]; · iexact A3
  isplitl [A4]; · iexact A4
  isplitl [A5]; · iexact A5
  isplitl [D0]; · iexact D0
  isplitl [D1]; · iexact D1
  isplitl [D2]; · iexact D2
  isplitl [D3]; · iexact D3
  isplitl [D4]; · iexact D4
  iexact D5
end

end Cert.KernelIdeal.Own
-- ==== Proof.Launch2.lean ====
/-
  The launch: the body's obligation to the pipeline, the run and its frame.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Launch1

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- @main up to the region, at this proof's algebra. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem PhiD0_eq (c : Dev nD) :
    (Pipeline.ΦD osem0 spec0 H0 (V m) c : sProp 𝕄)
      = iprop(iprop((∃ f, ringM.view.loc (c : Thread nD τ) ↦{fullShare} f) ∗ (∃ f, sringM.view.loc (c : Thread nD τ) ↦{fullShare} f)
                ∗ (∃ X, owns (c : Thread nD τ) wblkM fullShare X) ∗ (∃ X, owns (c : Thread nD τ) valsM fullShare X))
          ∗ (∃ r, prngReg c r)
          ∗ iprop(cell c 10 ∗ cell c 11 ∗ cell c 12 ∗ cell c 13 ∗ cell c 14 ∗ cell c 15 ∗ cell c 16 ∗ cell c 17 ∗ cell c 18 ∗ cell c 19 ∗ cell c 20 ∗ cell c 21)
          ∗ (codesM.view.loc (c : Thread nD τ) ↦{fullShare} V m c main_arg0) ∗ (scalesM.view.loc (c : Thread nD τ) ↦{fullShare} V m c main_v0)) := by
  rw [Pipeline.ΦD_eq, scopedRest0_eq, ownSems00_eq, hbmPts0_eq]
  simp only [wblkM, valsM, owns_whole]; try rfl

/-! ## What the windows hold -/

section
variable (c : Dev nD) (t : Fin cfg0.N)
abbrev blk0 : S40x128.Idx → Elt F .fp8e4m3 := iblk m c 0 t
abbrev blk1 : S1.Idx → Elt F .f32 := iblk m c 1 t
abbrev blk2 : S1.Idx → Elt F .f32 := iblk m c 2 t
abbrev blk3 : S12x4096.Idx → Elt F .bf16 := iblk m c 3 t
abbrev blk4 : S12x4096.Idx → Elt F .bf16 := iblk m c 4 t
abbrev blk5 : S12.Idx → Elt F .f32 := iblk m c 5 t
abbrev blk6 : S12.Idx → Elt F .i32 := iblk m c 6 t
end

section
variable (T : Dev nD → S12x4096.Idx → Elt F .f32) (b : Bool)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => T c
    | ⟨8, _⟩ => iblk m c 8 t
    | ⟨9, _⟩ => iblk m c 9 t
  Φ _ := Pipeline.ΦD osem0 spec0 H0 (V m) c
  q _ := fullShare
  owed _ := 0

/-- The windows of which nothing is said: the two other results, and the values too when `b` says so. -/
def fgt : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => b
  | ⟨8, _⟩ => true
  | ⟨9, _⟩ => true

theorem A_eq (c : Dev nD) (w : Fin cfg0.W) : (dats m T 0 c).A w = V m c (Pipeline.arrRef spec0 w) := by
  dsimp only [dats]
theorem after_7 (c : Dev nD) (t : Fin cfg0.N) : (dats m T 0 c).after 7 t = T c := by dsimp only [dats]
theorem after_0 (c : Dev nD) (t : Fin cfg0.N) : (dats m T 0 c).after 0 t = iblk m c 0 t := by dsimp only [dats]
theorem before_0 (c : Dev nD) (t : Fin cfg0.N) (d) : (dats m T 0 c).before 0 t d = iblk m c 0 t :=
  ((dats m T 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (dats m T 0 c).after 1 t = iblk m c 1 t := by dsimp only [dats]
theorem before_1 (c : Dev nD) (t : Fin cfg0.N) (d) : (dats m T 0 c).before 1 t d = iblk m c 1 t :=
  ((dats m T 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (dats m T 0 c).after 2 t = iblk m c 2 t := by dsimp only [dats]
theorem before_2 (c : Dev nD) (t : Fin cfg0.N) (d) : (dats m T 0 c).before 2 t d = iblk m c 2 t :=
  ((dats m T 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (dats m T 0 c).after 3 t = iblk m c 3 t := by dsimp only [dats]
theorem before_3 (c : Dev nD) (t : Fin cfg0.N) (d) : (dats m T 0 c).before 3 t d = iblk m c 3 t :=
  ((dats m T 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg0.N) : (dats m T 0 c).after 4 t = iblk m c 4 t := by dsimp only [dats]
theorem before_4 (c : Dev nD) (t : Fin cfg0.N) (d) : (dats m T 0 c).before 4 t d = iblk m c 4 t :=
  ((dats m T 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin cfg0.N) : (dats m T 0 c).after 5 t = iblk m c 5 t := by dsimp only [dats]
theorem before_5 (c : Dev nD) (t : Fin cfg0.N) (d) : (dats m T 0 c).before 5 t d = iblk m c 5 t :=
  ((dats m T 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin cfg0.N) : (dats m T 0 c).after 6 t = iblk m c 6 t := by dsimp only [dats]
theorem before_6 (c : Dev nD) (t : Fin cfg0.N) (d) : (dats m T 0 c).before 6 t d = iblk m c 6 t :=
  ((dats m T 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m T 0 c).Φ t.castSucc ∗ (dats m T 0 c).owesAt () t.castSucc
    ∗ (∃ d, owns (c : Thread nD τ) (st0_0 t) fullShare ((dats m T 0 c).before 0 t d))
    ∗ (∃ d, owns (c : Thread nD τ) (st0_1 t) fullShare ((dats m T 0 c).before 1 t d))
    ∗ (∃ d, owns (c : Thread nD τ) (st0_2 t) fullShare ((dats m T 0 c).before 2 t d))
    ∗ (∃ d, owns (c : Thread nD τ) (st0_3 t) fullShare ((dats m T 0 c).before 3 t d))
    ∗ (∃ d, owns (c : Thread nD τ) (st0_4 t) fullShare ((dats m T 0 c).before 4 t d))
    ∗ (∃ d, owns (c : Thread nD τ) (st0_5 t) fullShare ((dats m T 0 c).before 5 t d))
    ∗ (∃ d, owns (c : Thread nD τ) (st0_6 t) fullShare ((dats m T 0 c).before 6 t d))
    ∗ (match b with | true => iprop(∃ X, owns (c : Thread nD τ) (st0_7 t) fullShare X) | false => iprop(∃ d, owns (c : Thread nD τ) (st0_7 t) fullShare ((dats m T 0 c).before 7 t d)))
    ∗ (∃ X, owns (c : Thread nD τ) (st0_8 t) fullShare X) ∗ (∃ X, owns (c : Thread nD τ) (st0_9 t) fullShare X))
def bodyPost (c : Dev nD) (t : Fin cfg0.N) : sProp 𝕄 :=
  iprop((dats m T 0 c).Φ t.succ ∗ (dats m T 0 c).owesAt () t.succ
    ∗ owns (c : Thread nD τ) (st0_0 t) fullShare ((dats m T 0 c).after 0 t)
    ∗ owns (c : Thread nD τ) (st0_1 t) fullShare ((dats m T 0 c).after 1 t)
    ∗ owns (c : Thread nD τ) (st0_2 t) fullShare ((dats m T 0 c).after 2 t)
    ∗ owns (c : Thread nD τ) (st0_3 t) fullShare ((dats m T 0 c).after 3 t)
    ∗ owns (c : Thread nD τ) (st0_4 t) fullShare ((dats m T 0 c).after 4 t)
    ∗ owns (c : Thread nD τ) (st0_5 t) fullShare ((dats m T 0 c).after 5 t)
    ∗ owns (c : Thread nD τ) (st0_6 t) fullShare ((dats m T 0 c).after 6 t)
    ∗ (match b with | true => iprop(∃ X, owns (c : Thread nD τ) (st0_7 t) fullShare X) | false => owns (c : Thread nD τ) (st0_7 t) fullShare ((dats m T 0 c).after 7 t))
    ∗ (∃ X, owns (c : Thread nD τ) (st0_8 t) fullShare X) ∗ (∃ X, owns (c : Thread nD τ) (st0_9 t) fullShare X))

theorem pre7 (c : Dev nD) (t : Fin cfg0.N) : (match b with | true => iprop(∃ X, owns (c : Thread nD τ) (st0_7 t) fullShare X) | false => iprop(∃ d, owns (c : Thread nD τ) (st0_7 t) fullShare ((dats m T 0 c).before 7 t d)) : sProp 𝕄)
    ⊢ (iprop(∃ X, owns (c : Thread nD τ) (st0_7 t) fullShare X) : sProp 𝕄) := by
  cases b
  · iintro ⟨%d, H⟩; iexists _; iexact H
  · exact .rfl

/-- What is asked of the claim on the values: `OK` holds at the start, each trip keeps it, and at the end it fixes the masked values. -/
structure Claim (OK : ℕ → (S12x4096.Idx → Elt F .f32) → Prop) (c : Dev nD) (t : Fin cfg0.N) : Prop where
  len : ∀ s, LenOK (at12 (blk6 m c t) s)
  start : ∀ X, OK 0 X
  trip : TripOK (V m c main_arg0) (V m c main_v0) (blk6 m c t) (wvec (blk0 m c t)) (blk1 m c t) (blk2 m c t) OK
  last : b = false → ∀ V₁ X, OK (nJ (blk6 m c t)) V₁ → OV (blk6 m c t) V₁ 0 X → X = T c

theorem post7 (c : Dev nD) (t : Fin cfg0.N) (X : S12x4096.Idx → Elt F .f32) : (b = false → X = T c) →
    ((owns (c : Thread nD τ) (st0_7 t) fullShare X : sProp 𝕄)
    ⊢ (match b with | true => iprop(∃ X, owns (c : Thread nD τ) (st0_7 t) fullShare X) | false => owns (c : Thread nD τ) (st0_7 t) fullShare ((dats m T 0 c).after 7 t) : sProp 𝕄)) := by
  intro h
  cases b
  · rw [h rfl, after_7]
  · iintro H; iexists X; iexact H

variable {OK : ℕ → (S12x4096.Idx → Elt F .f32) → Prop}
set_option maxHeartbeats 4000000 in
set_option maxRecDepth 100000 in
theorem sound_body (c : Dev nD) (t : Fin cfg0.N) (hc : Claim m T b OK c t) :
    bodyPre m T b c t ⊢ wp frame (wpE (defs₀ (F := F)) Variants.none c none) Set.univ (bodyAt0 t) (fun _ => bodyPost m T b c t) := by
  have hk := kernel_spec (defs := defs₀ (F := F)) (𝒱 := Variants.none) (bd := none) c (V m c main_arg0) (V m c main_v0) shS shS (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0)
    (L := blk6 m c t) (q2 := fullShare) (q3 := fullShare) (q4 := fullShare) (q5 := fullShare) (q6 := fullShare) (q7 := fullShare) (q8 := fullShare) (w0 := blk0 m c t) (w1 := blk1 m c t) (b1 := blk2 m c t) (X5 := blk3 m c t) (X6 := blk4 m c t) (X7 := blk5 m c t) (OK := OK)
    (R := iprop(left6 c (V m c main_arg0) (V m c main_v0) ∗ (∃ r, prngReg c r))) hc.len hc.start hc.trip (fun _ => bodyPost m T b c t)
  refine .trans ?_ (hk ?_)
  · unfold bodyPre
    rw [show (dats m T 0 c).Φ t.castSucc = Pipeline.ΦD osem0 spec0 H0 (V m) c from rfl, PhiD0_eq]
    unfold Dat.owesAt Pipeline.owesWithin
    rw [show (dats m T 0 c).owed t.castSucc = 0 from rfl, fil_zero (L := blk6 m c t)]
    simp only [before_0, before_1, before_2, before_3, before_4, before_5, before_6]
    iintro ⟨⟨⟨Hr, Hs, Hw, Hv⟩, Hg, Hc, HC, HS⟩, ⟨%W, -, HW⟩, ⟨%d0, H0⟩, ⟨%d1, H1⟩, ⟨%d2, H2⟩, ⟨%d3, H3⟩, ⟨%d4, H4⟩, ⟨%d5, H5⟩, ⟨%d6, H6⟩, H7, H8, H9⟩
    ihave Hsl := (slots_out c (V m c main_arg0) (V m c main_v0) (blk6 m c t) (nJ (blk6 m c t))) $$ [Hr Hs HC HS Hc]
    · unfold whole6
      isplitl [Hr]; · iexact Hr
      isplitl [Hs]; · iexact Hs
      isplitl [HC]; · iexact HC
      isplitl [HS]; · iexact HS
      iexact Hc
    icases Hsl with ⟨Hsl, Hl⟩
    isplitl [H6]; · iexact H6
    isplitl [Hsl]; · iexact Hsl
    isplitl [H0]; · iexact H0
    isplitl [Hw]; · iexact Hw
    isplitl [Hv]; · iexact Hv
    isplitl [HW]; · iexists W; iexact HW
    isplitl [H1]; · iexact H1
    isplitl [H2]; · iexact H2
    isplitl [H7]; · iapply (pre7 m T b c t) $$ H7
    isplitl [H3]; · iexact H3
    isplitl [H4]; · iexact H4
    isplitl [H5]; · iexact H5
    isplitl [H8]; · iexact H8
    isplitl [H9]; · iexact H9
    isplitl [Hl]; · iexact Hl
    iexact Hg
  · intro V₁ hV
    unfold ST bodyPost
    rw [show (dats m T 0 c).Φ t.succ = Pipeline.ΦD osem0 spec0 H0 (V m) c from rfl, PhiD0_eq]
    unfold Dat.owesAt Pipeline.owesWithin
    rw [show (dats m T 0 c).owed t.succ = 0 from rfl]
    simp only [after_0, after_1, after_2, after_3, after_4, after_5, after_6]
    iintro ⟨H6, Hv, ⟨%X, %hX, H7⟩, H3, H4, H5, H8, H9, Hsl, ⟨%W, HW⟩, Hw, H1, H2, H0, Hl, Hg⟩
    ihave Hwh := (slots_in c (V m c main_arg0) (V m c main_v0) (blk6 m c t) (V m c cc0_scratch0) (V m c cc0_scratch1) (nJ (blk6 m c t))) $$ [Hsl Hl]
    · isplitl [Hsl]; · iexact Hsl
      iexact Hl
    unfold whole6
    icases Hwh with ⟨Hr, Hs, HC, HS, Hc⟩
    isplitl [Hr Hs HC HS Hc Hw Hv Hg]
    · isplitl [Hr Hs Hw Hv]
      · isplitl [Hr]; · iexact Hr
        isplitl [Hs]; · iexact Hs
        isplitl [Hw]; · iexact Hw
        iexists V₁; iexact Hv
      isplitl [Hg]; · iexact Hg
      isplitl [Hc]; · iexact Hc
      isplitl [HC]; · iexact HC
      iexact HS
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (post7 m T b c t X (fun hb => hc.last hb V₁ X hV hX)) $$ H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) (hc : ∀ t, Claim m T b OK c t) : BodyObligation (dats (F := F) m T 0 c) (defs₀ (F := F)) Variants.none () Set.univ (fgt b) := fun t => by
  rw [bigSep_W0, bigSep_W0, defs₀_row]
  cases b
  · exact triple_restated (sound_body m T false c t (hc t)) rfl .rfl fun _ => .rfl
  · exact triple_restated (sound_body m T true c t (hc t)) rfl .rfl fun _ => .rfl

set_option backward.isDefEq.respectTransparency.types false in
theorem run_main (hc : ∀ c, ∃ OK, ∀ t, Claim m T b OK c t) : θ_run defs (onTc (τ := τ) (main (F := F))) (s₀ m ρ)
    (fun r => Pipeline.RDat.FramePost cfg0 (fun c => (dats m T 0 c).toRForget (fgt b)) (V m) r ∧ r.2.sem = fun _ => 0) :=
  Pipeline.θ_run_frame_dma_forget (Q' := _) cfgs (dats m T) (0 : Fin 1) launch0 osem0 defs₀ Variants.none (fgt b) ownSemFacts0 H0 H0_sub m ρ main
    (hbody := fun c => (body_obligation m T b c (hc c).choose_spec).loose) (hshare := fun c => (dats m T 0 c).share_full fun _ => rfl)
    (howed := fun _ _ => rfl) (V := V m) (hmain := hmain m Variants.none) (hA := A_eq m T)
    (hin := fun _ => .rfl) (hout := fun _ => .rfl)

/-- The arguments and the semaphores after a run, and the values when the claim is on them. -/
theorem run_post (hc : ∀ c, ∃ OK, ∀ t, Claim m T b OK c t) : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0)
      ∧ (b = false → ∀ c : Dev nD, r.2.mem ((cfg0.spec 7).arr.view.loc (c.tc : Thread nD τ)) = (dats m T 0 c).arrAt 7 cfg0.N)) :=
  (θ_run defs _ _).mono (fun _ h => ⟨⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((Pipeline.Dat.toRForget_arrAt_iff (dats m T 0 c) (show fgt b 1 = false from rfl) _ _).1 ((h.1 c).1 1)).trans (((dats m T 0 c).arrAt_in 1 rfl _).trans ((A_eq m T c 1).trans (V_main_arg3 m c))),
      ((Pipeline.Dat.toRForget_arrAt_iff (dats m T 0 c) (show fgt b 2 = false from rfl) _ _).1 ((h.1 c).1 2)).trans (((dats m T 0 c).arrAt_in 2 rfl _).trans ((A_eq m T c 2).trans (V_main_arg4 m c))),
      ((Pipeline.Dat.toRForget_arrAt_iff (dats m T 0 c) (show fgt b 3 = false from rfl) _ _).1 ((h.1 c).1 3)).trans (((dats m T 0 c).arrAt_in 3 rfl _).trans ((A_eq m T c 3).trans (V_main_arg5 m c))),
      ((Pipeline.Dat.toRForget_arrAt_iff (dats m T 0 c) (show fgt b 4 = false from rfl) _ _).1 ((h.1 c).1 4)).trans (((dats m T 0 c).arrAt_in 4 rfl _).trans ((A_eq m T c 4).trans (V_main_arg6 m c))),
      ((Pipeline.Dat.toRForget_arrAt_iff (dats m T 0 c) (show fgt b 5 = false from rfl) _ _).1 ((h.1 c).1 5)).trans (((dats m T 0 c).arrAt_in 5 rfl _).trans ((A_eq m T c 5).trans (V_main_arg7 m c))),
      ((Pipeline.Dat.toRForget_arrAt_iff (dats m T 0 c) (show fgt b 6 = false from rfl) _ _).1 ((h.1 c).1 6)).trans (((dats m T 0 c).arrAt_in 6 rfl _).trans ((A_eq m T c 6).trans (V_main_arg8 m c)))⟩, h.2⟩,
      fun hb c => (Pipeline.Dat.toRForget_arrAt_iff (dats m T 0 c) (show fgt b 7 = false from hb) _ _).1 ((h.1 c).1 7)⟩) (run_main m ρ T b hc)
end

/-- The lengths a launch may be given. -/
def Lens (m : (ℓ : Loc nD τ sig) → Buf (Elt F) ℓ) : Prop := ∀ (c : Dev nD) (t : Fin cfg0.N) s, LenOK (at12 (blk6 m c t) s)

/-- The frame of the kernel: it runs, leaves its arguments as they were and every semaphore at zero. -/
theorem frame_post (hl : Lens m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => h.1) (run_post m ρ (fun c _ => (FloatOps.ofBits .f32 0#32 : F .f32)) true fun c => ⟨fun _ _ => True, fun t =>
    { len := hl c t, start := fun _ => trivial, trip := fun _ _ _ _ _ _ _ _ => trivial, last := fun h => absurd h (by decide) }⟩)

end Cert.KernelIdeal.Own
-- ==== Proof.Spec.lean ====
/-
  The values both programs compute, of the arguments.
-/
module

public import Idealize.ShloMosaic.PureOps.Ideal
public import Idealize.ShloMosaic.Lib.Pointwise

@[expose] public section

noncomputable section

namespace Cert.Spec

open Idealize.ShloMosaic Finset

/-- Code `d` of token `t` of sequence `b`, its block's scale, and weight `d`. -/
def hN (C : (⟨3, ![12, 4096, 5120]⟩ : Shape).Idx → EReal) (b : Fin 12) (t : Fin 4096) (d : ℕ) : EReal :=
  C (ix3 b t ⟨d % 5120, Nat.mod_lt _ (by decide)⟩)
def sN (S : (⟨3, ![12, 4096, 40]⟩ : Shape).Idx → EReal) (b : Fin 12) (t : Fin 4096) (q : ℕ) : EReal :=
  S (ix3 b t ⟨q % 40, Nat.mod_lt _ (by decide)⟩)
def wN (w : (⟨1, ![5120]⟩ : Shape).Idx → EReal) (d : ℕ) : EReal := w (ix1 ⟨d % 5120, Nat.mod_lt _ (by decide)⟩)

/-- A token's value before masking. -/
def raw (C : (⟨3, ![12, 4096, 5120]⟩ : Shape).Idx → EReal) (S : (⟨3, ![12, 4096, 40]⟩ : Shape).Idx → EReal)
    (w : (⟨1, ![5120]⟩ : Shape).Idx → EReal) (ws bv : (⟨1, ![1]⟩ : Shape).Idx → EReal) (b : Fin 12) (t : Fin 4096) : EReal :=
  (∑ d ∈ range 5120, hN C b t d * sN S b t (d / 128) * wN w d) * ws (ix1 0) + bv (ix1 0)

/-- The values: a token's past its sequence's length is zero. -/
def tgt (C : (⟨3, ![12, 4096, 5120]⟩ : Shape).Idx → EReal) (S : (⟨3, ![12, 4096, 40]⟩ : Shape).Idx → EReal)
    (w : (⟨1, ![5120]⟩ : Shape).Idx → EReal) (ws bv : (⟨1, ![1]⟩ : Shape).Idx → EReal) (L : (⟨1, ![12]⟩ : Shape).Idx → BitVec 32) :
    (⟨2, ![12, 4096]⟩ : Shape).Idx → EReal := fun i =>
  if ((i 1).val : ℤ) < (L (ix1 (i 0))).toInt then raw C S w ws bv (i 0) (i 1) else 0

end Cert.Spec

end
-- ==== Proof.Sums.lean ====
/-
  The arithmetic of the dot products: the sum over all columns against the sum the kernel takes by column groups and
  rows, over the extended reals.
-/
module

public import Idealize.ShloMosaic.PureOps.Ideal

@[expose] public section

noncomputable section

namespace Cert.Sums

open Finset

/-- A sum over `a * b` is the sum over `a` blocks of `b`. -/
theorem split (a b : ℕ) (f : ℕ → EReal) : ∑ i ∈ range (a * b), f i = ∑ x ∈ range a, ∑ y ∈ range b, f (x * b + y) := by
  induction a with
  | zero => simp
  | succ a ih => rw [Nat.succ_mul, Finset.sum_range_add, Finset.sum_range_succ, ih]

/-- A finite factor that is not negative goes into a sum. -/
theorem sum_mul_fin (n : ℕ) (f : ℕ → EReal) {s : EReal} (h0 : 0 ≤ s) (ht : s ≠ ⊤) : (∑ i ∈ range n, f i) * s = ∑ i ∈ range n, f i * s := by
  induction n with
  | zero => simp
  | succ n ih => rw [Finset.sum_range_succ, Finset.sum_range_succ, EReal.right_distrib_of_nonneg_of_ne_top h0 ht, ih]

variable (w h s : ℕ → EReal)

/-- The weights spread over sixteen rows: column `c`'s weight stands in the row of its block's number within its group. -/
def spread (r c : ℕ) : EReal := if r + 8 * (c / 1280) = c / 128 then w c else 0
/-- The part of column group `g` in row `r`. -/
def part (g r : ℕ) : EReal := ∑ d ∈ range 1280, spread w r (1280 * g + d) * h (1280 * g + d)
/-- The dot product of block `q`. -/
def dotB (q : ℕ) : EReal := ∑ l ∈ range 128, w (128 * q + l) * h (128 * q + l)

theorem part_eq {g r : ℕ} (hr : r < 16) : part w h g r = if (8 * g + r) / 10 = g then dotB w h (8 * g + r) else 0 := by
  unfold part
  rw [show 1280 = 10 * 128 from rfl, split]
  have e : ∀ x ∈ range 10, (∑ y ∈ range 128, spread w r (10 * 128 * g + (x * 128 + y)) * h (10 * 128 * g + (x * 128 + y)))
      = if x + 2 * g = r then dotB w h (8 * g + r) else 0 := by
    intro x hx
    have hx := Finset.mem_range.1 hx
    by_cases c : x + 2 * g = r
    · rw [if_pos c]
      refine Finset.sum_congr rfl fun y hy => ?_
      have hy := Finset.mem_range.1 hy
      unfold spread
      rw [if_pos (by omega), show 10 * 128 * g + (x * 128 + y) = 128 * (8 * g + r) + y by omega]
    · rw [if_neg c]
      refine Finset.sum_eq_zero fun y hy => ?_
      have hy := Finset.mem_range.1 hy
      unfold spread
      rw [if_neg (by omega), zero_mul]
  rw [Finset.sum_congr rfl e]
  by_cases c : (8 * g + r) / 10 = g
  · rw [if_pos c, Finset.sum_eq_single_of_mem (r - 2 * g) (Finset.mem_range.2 (by omega)) fun x _ hx => if_neg (by omega), if_pos (by omega)]
  · rw [if_neg c]
    exact Finset.sum_eq_zero fun x hx => by have := Finset.mem_range.1 hx; rw [if_neg (by omega)]

/-- What a token's eight partial rows add up to is the sum over all columns. -/
theorem rows_sum (hs : ∀ q, 0 ≤ s q ∧ s q ≠ ⊤) :
    ∑ k ∈ range 8, ((((0 + (part w h 0 k * s (0 + k) + part w h 0 (8 + k) * s (8 + k)))
      + (part w h 1 k * s (8 + k) + part w h 1 (8 + k) * s (16 + k)))
      + (part w h 2 k * s (16 + k) + part w h 2 (8 + k) * s (24 + k)))
      + (part w h 3 k * s (24 + k) + part w h 3 (8 + k) * s (32 + k)))
    = ∑ d ∈ range 5120, h d * s (d / 128) * w d := by
  have hr : ∑ d ∈ range 5120, h d * s (d / 128) * w d = ∑ q ∈ range 40, dotB w h q * s q := by
    rw [show 5120 = 40 * 128 from rfl, split]
    refine Finset.sum_congr rfl fun q _ => ?_
    unfold dotB
    rw [sum_mul_fin _ _ (hs q).1 (hs q).2]
    refine Finset.sum_congr rfl fun l hl => ?_
    have hl := Finset.mem_range.1 hl
    rw [show (q * 128 + l) / 128 = q by omega, show q * 128 + l = 128 * q + l by omega]
    rw [mul_assoc, mul_comm (s q), ← mul_assoc, mul_comm (h _)]
  rw [hr]
  have hp : ∀ g r, r < 16 → part w h g r = if (8 * g + r) / 10 = g then dotB w h (8 * g + r) else 0 := fun g r hr => part_eq w h hr
  simp only [Finset.sum_range_succ, Finset.sum_range_zero, zero_add]
  simp only [hp _ _ (show 0 < 16 by omega), hp _ _ (show 1 < 16 by omega), hp _ _ (show 2 < 16 by omega), hp _ _ (show 3 < 16 by omega),
    hp _ _ (show 4 < 16 by omega), hp _ _ (show 5 < 16 by omega), hp _ _ (show 6 < 16 by omega), hp _ _ (show 7 < 16 by omega),
    hp _ _ (show 8 + 0 < 16 by omega), hp _ _ (show 8 + 1 < 16 by omega), hp _ _ (show 8 + 2 < 16 by omega), hp _ _ (show 8 + 3 < 16 by omega),
    hp _ _ (show 8 + 4 < 16 by omega), hp _ _ (show 8 + 5 < 16 by omega), hp _ _ (show 8 + 6 < 16 by omega), hp _ _ (show 8 + 7 < 16 by omega)]
  simp (decide := true) only [Nat.reduceAdd, Nat.reduceMul, Nat.reduceDiv, if_true, if_false, zero_mul, zero_add, add_zero]
  ac_rfl

end Cert.Sums

end
-- ==== Proof.KPure.lean ====
/-
  The kernel's row of values, read at an index over the extended reals.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.Spec
public import proofs.«01_k».proof.Proof.Sums
public import proofs.«01_k».proof.Proof.Loop
public import proofs.«01_k».proof.Proof.Post

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section
variable (w : FVec Ideal S40x128 .fp8e4m3)

/-- A block of the spread weights at an index. -/
theorem wblk_apply (k : Fin 40) (r : Fin 16) (l : Fin 128) :
    wblk (F := Ideal) w k (ix2 r l) = if r.val = k.val - 8 * (k.val / 10) then w (ix2 ⟨8 * (k.val / 10) + r.val, by omega⟩ l) else 0 := by
  have hs : ∀ (r : Fin 16) (n : Fin 16), IntOp.cmpi .eq (BitVec.ofNat 32 r.val) (BitVec.ofNat 32 n.val) = if r.val = n.val then 1#1 else 0#1 := by decide +kernel
  have h : wblk (F := Ideal) w k (ix2 r l) = Scalar.select (IntOp.cmpi CmpIPredicate.eq (BitVec.ofNat 32 r.val) (BitVec.ofNat 32 (k.val - 8 * (k.val / 10))))
      (w (ix2 ⟨8 * (k.val / 10) + r.val, by omega⟩ l)) 0 := by
    pointwise [wblk, wf, wio]
  rw [h, hs r ⟨k.val - 8 * (k.val / 10), by omega⟩]
  show Scalar.select (if r.val = k.val - 8 * (k.val / 10) then 1#1 else 0#1) _ _ = _
  by_cases c : r.val = k.val - 8 * (k.val / 10)
  · rw [if_pos c, if_pos c]; rfl
  · rw [if_neg c, if_neg c]; rfl

/-- The whole buffer of spread weights at an index. -/
theorem spread_apply {W : S16x5120.Idx → Elt Ideal .bf16} (hW : WB w 40 W) {wq : ℕ → EReal} (hw : ∀ (k : Fin 40) (l : Fin 128), w (ix2 k l) = wq (128 * k.val + l.val))
    (r : Fin 16) (c : Fin 5120) : W (ix2 r c) = Cert.Sums.spread wq r.val c.val := by
  have hc := c.isLt
  have hi : (ix2 r c : S16x5120.Idx) = (wrect ⟨c.val / 128, by omega⟩).emb (ix2 r ⟨c.val % 128, Nat.mod_lt _ (by decide)⟩) := by
    funext a
    match a with
    | ⟨0, _⟩ => exact Fin.ext (by show r.val = 0 + 1 * r.val; omega)
    | ⟨1, _⟩ => exact Fin.ext (by show c.val = 128 * (c.val / 128) + 1 * (c.val % 128); omega)
  rw [hi, hW ⟨c.val / 128, by omega⟩ (show c.val / 128 < 40 by omega), wblk_apply, hw]
  unfold Cert.Sums.spread
  show (if r.val = c.val / 128 - 8 * (c.val / 128 / 10) then wq (128 * (8 * (c.val / 128 / 10) + r.val) + c.val % 128) else 0) = _
  by_cases e : r.val + 8 * (c.val / 1280) = c.val / 128
  · rw [if_pos e, if_pos (by omega), show 128 * (8 * (c.val / 128 / 10) + r.val) + c.val % 128 = c.val by omega]
  · rw [if_neg e, if_neg (by omega)]
end

/-- The product of a column group at an index. -/
theorem part16_apply (W : FVec Ideal S16x1280 .bf16) (G : S1x512x1280.Idx → Elt Ideal .fp8e4m3) (r : Fin 16) (t : Fin 512) :
    part16 (F := Ideal) W G (ix2 r t) = ∑ d : Fin 1280, W (ix2 r d) * G (ix3 0 t d) := by
  pointwise [part16]

section
variable {W : S16x5120.Idx → Elt Ideal .bf16} {g : Ring (F := Ideal)} {s : Fin 6} {t : Fin 512} {wq h : ℕ → EReal}
  (hW : ∀ (r : Fin 16) (c : Fin 5120), W (ix2 r c) = Cert.Sums.spread wq r.val c.val) (hg : ∀ d : Fin 5120, g (ix3 s t d) = h d.val)

theorem rq_apply (k : Fin 4) (d : Fin 1280) (hg : ∀ d : Fin 5120, g (ix3 s t d) = h d.val) : rq s k g (ix3 0 t d) = h (1280 * k.val + d.val) := by
  have e := hg ⟨1280 * k.val + d.val, by have := k.isLt; have := d.isLt; omega⟩
  refine Eq.trans (congrArg g (funext fun a => ?_)) e
  match a with
  | ⟨0, _⟩ => rfl
  | ⟨1, _⟩ => rfl
  | ⟨2, _⟩ => exact Fin.ext (by show k.val * 1280 + d.val = 1280 * k.val + d.val; omega)

theorem part_of (k : Fin 4) (V : FVec Ideal S16x1280 .bf16) (hV : ∀ (r : Fin 16) (d : Fin 1280), V (ix2 r d) = Cert.Sums.spread wq r.val (1280 * k.val + d.val))
    (hg : ∀ d : Fin 5120, g (ix3 s t d) = h d.val) (r : Fin 16) : part16 (F := Ideal) V (rq s k g) (ix2 r t) = Cert.Sums.part wq h k.val r.val := by
  rw [part16_apply]
  unfold Cert.Sums.part
  rw [Finset.sum_range]
  exact Finset.sum_congr rfl fun d _ => by rw [hV, rq_apply k d hg]

include hW in
theorem wq_at (k : ℕ) (hk : k < 4) {off : Fin 2 → ℕ} (ho : off = ![0, 1280 * k]) {inb : ∀ a, off a + S16x1280.size a ≤ S16x5120.size a} (r : Fin 16) (d : Fin 1280) :
    W ((Rect.unit (s := S16x5120) off S16x1280.size inb).emb (ix2 r d)) = Cert.Sums.spread wq r.val (1280 * k + d.val) := by
  subst ho
  have e := hW r ⟨1280 * k + d.val, by have := d.isLt; omega⟩
  refine Eq.trans (congrArg W (funext fun a => ?_)) e
  match a with
  | ⟨0, _⟩ => exact Fin.ext (by show 0 + 1 * r.val = r.val; omega)
  | ⟨1, _⟩ => exact Fin.ext (by show 1280 * k + 1 * d.val = 1280 * k + d.val; omega)

include hW hg in
/-- A token's dot product. -/
theorem dotRow_apply (S : S1x40x512.Idx → Elt Ideal .f32) {sc : ℕ → EReal} (hS : ∀ q : Fin 40, S (ix3 0 q t) = sc q.val) (h0 : ∀ q, 0 ≤ sc q ∧ sc q ≠ ⊤) :
    dotRow (F := Ideal) W s S g (ix1 t) = ∑ d ∈ Finset.range 5120, h d * sc (d / 128) * wq d := by
  have p0 : ∀ r, part16 (F := Ideal) (wq0 W) (rq s 0 g) (ix2 r t) = Cert.Sums.part wq h 0 r.val := part_of 0 _ (wq_at hW 0 (by decide) rfl) hg
  have p1 : ∀ r, part16 (F := Ideal) (wq1 W) (rq s 1 g) (ix2 r t) = Cert.Sums.part wq h 1 r.val := part_of 1 _ (wq_at hW 1 (by decide) rfl) hg
  have p2 : ∀ r, part16 (F := Ideal) (wq2 W) (rq s 2 g) (ix2 r t) = Cert.Sums.part wq h 2 r.val := part_of 2 _ (wq_at hW 2 (by decide) rfl) hg
  have p3 : ∀ r, part16 (F := Ideal) (wq3 W) (rq s 3 g) (ix2 r t) = Cert.Sums.part wq h 3 r.val := part_of 3 _ (wq_at hW 3 (by decide) rfl) hg
  rw [← Cert.Sums.rows_sum wq h sc h0, Finset.sum_range]
  pointwise [dotRow, rows8, lo16, hi16, scale40]
  refine Finset.sum_congr rfl fun x _ => ?_
  simp only [p0, p1, p2, p3, hS, zero_add]
end

theorem rowOut_apply (W : S16x5120.Idx → Elt Ideal .bf16) (s : Fin 6) (S : S1x40x512.Idx → Elt Ideal .f32) (g : Ring (F := Ideal)) (w1 b1 : S1.Idx → Elt Ideal .f32) (t : Fin 512) :
    rowOut (F := Ideal) W s S g w1 b1 (ix2 0 t) = dotRow (F := Ideal) W s S g (ix1 t) * w1 (ix1 0) + b1 (ix1 0) := by
  have hf : fst1 = ix1 0 := funext fun a => by match a with | ⟨0, _⟩ => rfl
  unfold rowOut
  rw [hf]
  generalize dotRow (F := Ideal) W s S g = D
  pointwise [k0_pay71]

/-- The block of lengths at an index. -/
theorem lensS_apply (L : S12.Idx → Elt Ideal .i32) (b : Fin 12) (P : IVec S12x128 32) (r : Fin 12) (l : Fin 128) :
    lensS (F := Ideal) L b P (ix2 r l) = if r = b then at12 L b else P (ix2 r l) := by
  have hs : ∀ r b : Fin 12, IntOp.cmpi .eq (BitVec.ofNat 32 r.val) (BitVec.ofNat 32 b.val) = if r = b then 1#1 else 0#1 := by decide +kernel
  have h : lensS (F := Ideal) L b P (ix2 r l) = Scalar.select (IntOp.cmpi .eq (BitVec.ofNat 32 r.val) (BitVec.ofNat 32 b.val)) (at12 L b) (P (ix2 r l)) := by
    pointwise [lensS, rowI]
  rw [h, hs]
  by_cases c : r = b
  · rw [if_pos c, if_pos c]; rfl
  · rw [if_neg c, if_neg c]; rfl

theorem lens12_apply (L : S12.Idx → Elt Ideal .i32) (r : Fin 12) (l : Fin 128) : lens12 (F := Ideal) L (ix2 r l) = at12 L r := by
  unfold lens12 lens11 lens8 lens4 lens1
  simp only [lensS_apply]
  match r with
  | 0 => rfl
  | 1 => rfl
  | 2 => rfl
  | 3 => rfl
  | 4 => rfl
  | 5 => rfl
  | 6 => rfl
  | 7 => rfl
  | 8 => rfl
  | 9 => rfl
  | 10 => rfl
  | 11 => rfl

/-- A block of the masked values at an index. -/
theorem vblk_apply (L : S12.Idx → Elt Ideal .i32) (V : S12x4096.Idx → Elt Ideal .f32) (k : Fin 32) (r : Fin 12) (l : Fin 128) :
    vblk (F := Ideal) L V k (ix2 r l) = if ((128 * k.val + l.val : ℕ) : ℤ) < (at12 L r).toInt then V (ix2 r ⟨128 * k.val + l.val, by omega⟩) else 0 := by
  have h : vblk (F := Ideal) L V k (ix2 r l) = Scalar.select (IntOp.cmpi .slt (BitVec.ofNat 32 l.val + BitVec.ofNat 32 (128 * k.val)) (lens12 (F := Ideal) L (ix2 r l)))
      (V ((vrect k).emb (ix2 r l))) 0 := by
    pointwise [vblk, vmask, vcol, vcolI, colI]
    first | done | rfl
  have hi : (vrect k).emb (ix2 r l) = ix2 r ⟨128 * k.val + l.val, by omega⟩ := by
    funext a
    match a with
    | ⟨0, _⟩ => exact Fin.ext (by show 0 + 1 * r.val = r.val; omega)
    | ⟨1, _⟩ => exact Fin.ext (by show 128 * k.val + 1 * l.val = 128 * k.val + l.val; omega)
  have hn : (BitVec.ofNat 32 l.val + BitVec.ofNat 32 (128 * k.val)).toInt = ((128 * k.val + l.val : ℕ) : ℤ) := by
    have hk := k.isLt
    have hl := l.isLt
    rw [← BitVec.ofNat_add, toInt_ofNat_small (by omega)]
    omega
  rw [h, hi, lens12_apply]
  simp only [IntOp.cmpi, BitVec.slt_eq_decide, hn]
  by_cases c : ((128 * k.val + l.val : ℕ) : ℤ) < (at12 L r).toInt
  · rw [if_pos c, decide_eq_true c]; rfl
  · rw [if_neg c, decide_eq_false c]; rfl

end Cert.KernelIdeal.Own
-- ==== Proof.KVal.lean ====
/-
  What the kernel's loop leaves in its values, over the extended reals.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.KPure
public import proofs.«01_k».proof.Proof.Launch2

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ
section
open Cert.Spec (hN sN wN raw tgt)

/-- The word of the tokens left of a chunk, as an integer. -/
theorem left_int {len : BitVec 32} (h : LenOK len) {c : ℕ} (hc : c < 8) :
    (Scalar.subi len (Scalar.muli (BitVec.ofNat 32 c) 512#32)).toInt = len.toInt - 512 * c := by
  obtain ⟨h1, h2⟩ := h
  have e : Scalar.muli (BitVec.ofNat 32 c) 512#32 = BitVec.ofNat 32 (512 * c) := by
    apply BitVec.eq_of_toNat_eq
    simp only [Scalar.muli, IntOp.muli, BitVec.toNat_mul, BitVec.toNat_ofNat]
    omega
  rw [e]
  simp only [Scalar.subi, IntOp.subi]
  rw [BitVec.toInt_sub, toInt_ofNat_small (by omega)]
  rw [Int.bmod_def]
  push_cast
  split <;> omega

/-- Of a token below the length, its row of the ring is among those transferred. -/
theorem tu_covers {len : BitVec 32} (h : LenOK len) {c : ℕ} (hc : c < 8) {t : ℕ} (ht : t / 512 = c) (hl : (t : ℤ) < len.toInt) :
    t % 512 < 32 * tu len (BitVec.ofNat 32 c) := by
  obtain ⟨n, e, hn⟩ := tu_spec len (BitVec.ofNat 32 c)
  rw [left_int h hc] at hn
  rw [e]
  omega

/-- A length is the array at its index. -/
theorem at12_eq {e : EltTy} (L : S12.Idx → Elt Ideal e) (b : Fin 12) : at12 L b = L (ix1 b) := by
  unfold at12
  exact congrArg L (funext fun a => by match a with | ⟨0, _⟩ => rfl)

variable (A0 : S12x4096x5120.Idx → Elt Ideal .fp8e4m3) (A1 : S12x4096x40.Idx → Elt Ideal .f32) (A2 : S5120.Idx → Elt Ideal .fp8e4m3)
variable (ws bv : S1.Idx → Elt Ideal .f32) (L : S12.Idx → Elt Ideal .i32)

/-- After `j` jobs the tokens of those jobs that lie below their lengths hold their values. -/
def OKv (j : ℕ) (V : S12x4096.Idx → Elt Ideal .f32) : Prop :=
  ∀ (b : Fin 12) (t : Fin 4096), (∃ j', j' < j ∧ jB L j' = b ∧ (jC L j').val = t.val / 512) → (t.val : ℤ) < (at12 L b).toInt →
    V (ix2 b t) = raw A0 A1 A2 ws bv b t

variable {A0 A1 A2 ws bv L}
/-- Where a stored row's tokens lie in the values. -/
theorem row_emb (b : Fin 12) (ch : Fin 8) (r : Fin 512) :
    (Rect.unit (s := S12x4096) ![b.val, ch.val * 512] S1x512.size (row_bound b ch)).emb (ix2 0 r) = ix2 b ⟨ch.val * 512 + r.val, by have := ch.isLt; omega⟩ := by
  funext a
  match a with
  | ⟨0, _⟩ => exact Fin.ext (show b.val + 1 * 0 = b.val by omega)
  | ⟨1, _⟩ => exact Fin.ext (show ch.val * 512 + 1 * r.val = ch.val * 512 + r.val by omega)

/-- A trip leaves the values of its own tokens and keeps the others. -/
theorem trip_ok {Sc : Scales (F := Ideal)} {w : FVec Ideal S40x128 .fp8e4m3} (hL : ∀ b, LenOK (at12 L b))
    (hS : ∀ (b : Fin 12) (q : Fin 40) (t : Fin 4096), Sc (ix3 b q t) = A1 (ix3 b t q))
    (hw : ∀ (k : Fin 40) (l : Fin 128), w (ix2 k l) = wN A2 (128 * k.val + l.val))
    (h0 : ∀ i, (0 : EReal) ≤ A1 i ∧ (A1 i : EReal) ≠ ⊤) :
    TripOK A0 Sc L w ws bv (OKv A0 A1 A2 ws bv L) := by
  intro W hW j hj V g hV hg b t hex hlt
  have hc : wC L j = BitVec.ofNat 32 (jC L j).val := wC_eq hL j
  by_cases hm : jB L j = b ∧ (jC L j).val = t.val / 512
  · obtain ⟨hb, hch⟩ := hm
    have ht : t = ⟨(jC L j).val * 512 + t.val % 512, by have := t.isLt; omega⟩ := Fin.ext (show t.val = (jC L j).val * 512 + t.val % 512 by omega)
    have hr : t.val % 512 < 32 * tu (at12 L (jB L j)) (wC L j) := by
      rw [hc]
      exact tu_covers (hL _) (jC L j).isLt hch.symm (by rw [hb]; exact hlt)
    have he := row_emb (jB L j) (jC L j) ⟨t.val % 512, Nat.mod_lt _ (by omega)⟩
    have hix : (ix2 b t : S12x4096.Idx) = (Rect.unit (s := S12x4096) ![(jB L j).val, (jC L j).val * 512] S1x512.size (row_bound (jB L j) (jC L j))).emb (ix2 0 ⟨t.val % 512, Nat.mod_lt _ (by omega)⟩) := by
      rw [he, hb]
      exact congrArg (fun u => (ix2 b u : S12x4096.Idx)) ht
    rw [hix, put_emb, rowOut_apply]
    rw [dotRow_apply (h := hN A0 b t) (sc := sN A1 b t) (wq := wN A2) (spread_apply w hW hw)]
    · rfl
    · intro d
      have hmem : (ix3 (sl j) ⟨t.val % 512, Nat.mod_lt _ (by omega)⟩ d : S6x512x5120.Idx) ∈ rowsR (sl j) 0 (32 * tu (at12 L (jB L j)) (wC L j)) :=
        Finset.mem_filter.2 ⟨Finset.mem_univ _, rfl, Nat.zero_le _, by rw [Nat.zero_add]; exact hr⟩
      refine (hg _ hmem).trans ?_
      unfold chunkE hN
      refine congrArg A0 (funext fun a => ?_)
      match a with
      | ⟨0, _⟩ => exact hb
      | ⟨1, _⟩ => exact ht.symm
      | ⟨2, _⟩ => exact Fin.ext (Nat.mod_eq_of_lt d.isLt).symm
    · intro q
      have e : scol (sl j) (chunkS Sc (jB L j) (jC L j)) (ix3 0 q ⟨t.val % 512, Nat.mod_lt _ (by omega)⟩) = Sc (ix3 b q t) := by
        unfold scol chunkS
        refine congrArg Sc (funext fun a => ?_)
        match a with
        | ⟨0, _⟩ => exact hb
        | ⟨1, _⟩ => rfl
        | ⟨2, _⟩ => exact ht.symm
      rw [e, hS]
      unfold sN
      exact congrArg (fun u => A1 (ix3 b t u)) (Fin.ext (Nat.mod_eq_of_lt q.isLt).symm)
    · intro q
      exact h0 _
  · rw [put_out]
    · refine hV b t ?_ hlt
      obtain ⟨j', h1, h2, h3⟩ := hex
      refine ⟨j', ?_, h2, h3⟩
      rcases Nat.lt_succ_iff_lt_or_eq.1 h1 with h | h
      · exact h
      · subst h; exact absurd ⟨h2, h3⟩ hm
    · rintro ⟨x, hx⟩
      have e0 : (jB L j).val + 1 * (x 0).val = b.val := congrArg (fun y : S12x4096.Idx => (y 0).val) hx
      have e1 : (jC L j).val * 512 + 1 * (x 1).val = t.val := congrArg (fun y : S12x4096.Idx => (y 1).val) hx
      have h0 : (x 0).val < 1 := (x 0).isLt
      have h1 : (x 1).val < 512 := (x 1).isLt
      exact hm ⟨Fin.ext (by omega), by omega⟩

/-- Every token below its length belongs to one of the jobs. -/
theorem job_of (hL : ∀ b, LenOK (at12 L b)) (b : Fin 12) (t : Fin 4096) (ht : (t.val : ℤ) < (at12 L b).toInt) :
    ∃ j', j' < nJ L ∧ jB L j' = b ∧ (jC L j').val = t.val / 512 := by
  have hN := NL_bounds hL
  have ht' := t.isLt
  have hbm : min b.val 11 = b.val := by have := b.isLt; omega
  have hNb : NL L b.val = nch (at12 L b) := by
    unfold NL
    exact congrArg (fun u => nch (at12 L u)) (Fin.ext hbm)
  have hc : t.val / 512 < NL L (min b.val 11) := by
    rw [hbm, hNb]
    obtain ⟨-, h1, -, h3⟩ := nch_spec (hL b)
    rcases Nat.eq_zero_or_pos (t.val / 512) with h | h
    · omega
    · have := (h3 (t.val / 512 - 1) (by omega))
      have e : t.val / 512 - 1 + 1 = t.val / 512 := by omega
      rw [e] at this
      by_cases hq : ((t.val / 512 * 512 : ℕ) : ℤ) < (at12 L b).toInt
      · exact this.1 hq
      · omega
  have hcur := cur_pre hN hc
  refine ⟨pre (NL L) b.val + t.val / 512, ?_, ?_, ?_⟩
  · have h1 : pre (NL L) (b.val + 1) = pre (NL L) b.val + NL L (min b.val 11) := Finset.sum_range_succ _ _
    have h2 := pre_mono (NL L) (show b.val + 1 ≤ 12 from b.isLt)
    show _ < pre (NL L) 12
    omega
  · unfold jB
    exact Fin.ext (by show min (cur (NL L) _).1 11 = b.val; rw [hcur]; exact hbm)
  · unfold jC
    show (cur (NL L) _).2 % 8 = _
    rw [hcur]
    show t.val / 512 % 8 = _
    omega

/-- The masked values are the specification's. -/
theorem last_ok (hL : ∀ b, LenOK (at12 L b)) {V X : S12x4096.Idx → Elt Ideal .f32} (hV : OKv A0 A1 A2 ws bv L (nJ L) V) (hX : OV L V 0 X) :
    X = tgt A0 A1 A2 ws bv L := by
  have key : ∀ (b : Fin 12) (t : Fin 4096), X (ix2 b t) = tgt A0 A1 A2 ws bv L (ix2 b t) := by
    intro b t
    have ht := t.isLt
    have e : (ix2 b t : S12x4096.Idx) = (vrect ⟨t.val / 128, by omega⟩).emb (ix2 b ⟨t.val % 128, Nat.mod_lt _ (by omega)⟩) := by
      funext a
      match a with
      | ⟨0, _⟩ => exact Fin.ext (show b.val = 0 + 1 * b.val by omega)
      | ⟨1, _⟩ => exact Fin.ext (show t.val = 128 * (t.val / 128) + 1 * (t.val % 128) by omega)
    have h1 : X (ix2 b t) = vblk L V ⟨t.val / 128, by omega⟩ (ix2 b ⟨t.val % 128, Nat.mod_lt _ (by omega)⟩) := by
      rw [e]; exact hX _ (Nat.zero_le _) _
    have h2 : 128 * (t.val / 128) + t.val % 128 = t.val := by omega
    rw [h1, vblk_apply]
    show (if ((128 * (t.val / 128) + t.val % 128 : ℕ) : ℤ) < (at12 L b).toInt then _ else _) = if ((t.val : ℕ) : ℤ) < (L (ix1 b)).toInt then raw A0 A1 A2 ws bv b t else 0
    by_cases hl : (t.val : ℤ) < (L (ix1 b)).toInt
    · have hl' : (t.val : ℤ) < (at12 L b).toInt := by rw [at12_eq]; exact hl
      rw [if_pos hl, if_pos (by rw [h2]; exact hl')]
      refine Eq.trans (congrArg (fun u => V (ix2 b u)) (Fin.ext h2)) (hV b t (job_of hL b t hl') hl')
    · rw [if_neg hl, if_neg (by rw [h2, at12_eq]; exact hl)]
  funext i
  have hi : i = ix2 (i 0) (i 1) := funext fun a => by match a with | ⟨0, _⟩ => rfl | ⟨1, _⟩ => rfl
  rw [hi]
  exact key _ _
end

end Cert.KernelIdeal.Own
-- ==== Proof.KRun.lean ====
/-
  The run of the kernel over the extended reals: the values it leaves are the specification's.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp
public import proofs.«01_k».proof.Proof.Word
public import proofs.«01_k».proof.Proof.KVal

@[expose] public section

noncomputable section

namespace Cert.KernelIdeal.Own

open Cert.KernelIdeal Cert.KernelIdeal.Gen Cert.Word
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ
section
open Cert.Spec (hN sN wN raw tgt)
variable (m : (ℓ : Loc nD τ sig) → Buf (Elt Ideal) ℓ) (ρ : Dev nD → PrngReg) (c : Dev nD) (t : Fin cfg0.N)
/-- A window over a whole array reads that array. -/
theorem readw_0 (f : Buf (Elt Ideal) ((c : Thread nD τ).loc main_v1)) : (win0_0.blk t).view.read (Elt Ideal) f = f :=
  Memref.read_access_unit_zero (Elt Ideal) main_v1
    (show (fun a => (win0_0.index t) a * main_v1.ty.shape.size a) = fun _ => 0 from
      funext fun a => by fin_cases t; fin_cases a <;> decide) (fun a => by fin_cases t; fin_cases a <;> decide) f
/-- A window over a whole array reads that array. -/
theorem readw_1 (f : Buf (Elt Ideal) ((c : Thread nD τ).loc main_arg3)) : (win0_1.blk t).view.read (Elt Ideal) f = f :=
  Memref.read_access_unit_zero (Elt Ideal) main_arg3
    (show (fun a => (win0_1.index t) a * main_arg3.ty.shape.size a) = fun _ => 0 from
      funext fun a => by fin_cases t; fin_cases a <;> decide) (fun a => by fin_cases t; fin_cases a <;> decide) f
/-- A window over a whole array reads that array. -/
theorem readw_2 (f : Buf (Elt Ideal) ((c : Thread nD τ).loc main_arg4)) : (win0_2.blk t).view.read (Elt Ideal) f = f :=
  Memref.read_access_unit_zero (Elt Ideal) main_arg4
    (show (fun a => (win0_2.index t) a * main_arg4.ty.shape.size a) = fun _ => 0 from
      funext fun a => by fin_cases t; fin_cases a <;> decide) (fun a => by fin_cases t; fin_cases a <;> decide) f
/-- A window over a whole array reads that array. -/
theorem readw_6 (f : Buf (Elt Ideal) ((c : Thread nD τ).loc main_arg8)) : (win0_6.blk t).view.read (Elt Ideal) f = f :=
  Memref.read_access_unit_zero (Elt Ideal) main_arg8
    (show (fun a => (win0_6.index t) a * main_arg8.ty.shape.size a) = fun _ => 0 from
      funext fun a => by fin_cases t; fin_cases a <;> decide) (fun a => by fin_cases t; fin_cases a <;> decide) f
/-- A window over a whole array reads that array. -/
theorem readw_7 (f : Buf (Elt Ideal) ((c : Thread nD τ).loc main_v2_0)) : (win0_7.blk t).view.read (Elt Ideal) f = f :=
  Memref.read_access_unit_zero (Elt Ideal) main_v2_0
    (show (fun a => (win0_7.index t) a * main_v2_0.ty.shape.size a) = fun _ => 0 from
      funext fun a => by fin_cases t; fin_cases a <;> decide) (fun a => by fin_cases t; fin_cases a <;> decide) f
/-- The block of this window is the argument. -/
theorem blk1_eq : blk1 m c t = m ((c : Thread nD τ).loc main_arg3) := by
  show (win0_1.blk t).view.read (Elt Ideal) (V m c main_arg3) = _
  rw [show V m c main_arg3 = m ((c : Thread nD τ).loc main_arg3) from V_main_arg3 m c]
  exact readw_1 c t _
/-- The block of this window is the argument. -/
theorem blk2_eq : blk2 m c t = m ((c : Thread nD τ).loc main_arg4) := by
  show (win0_2.blk t).view.read (Elt Ideal) (V m c main_arg4) = _
  rw [show V m c main_arg4 = m ((c : Thread nD τ).loc main_arg4) from V_main_arg4 m c]
  exact readw_2 c t _
/-- The block of this window is the argument. -/
theorem blk6_eq : blk6 m c t = m ((c : Thread nD τ).loc main_arg8) := by
  show (win0_6.blk t).view.read (Elt Ideal) (V m c main_arg8) = _
  rw [show V m c main_arg8 = m ((c : Thread nD τ).loc main_arg8) from V_main_arg8 m c]
  exact readw_6 c t _
/-- The scales in the kernel's layout are the argument's, transposed. -/
theorem V_v0 : (V m c main_v0 : Scales (F := Ideal)) = transpose S12x40x4096 [0, 2, 1] (m ((c : Thread nD τ).loc main_arg1) : S12x4096x40.Idx → Elt Ideal .f32) transposes_S12x4096x40_S12x40x4096_0_2_1 := by
  unfold V
  simp only [hostOps0, List.flatten_cons, List.flatten_nil, List.append_nil, List.cons_append, List.nil_append]
  after_results
  try rfl
/-- The weights in the kernel's layout are the argument's, reshaped. -/
theorem V_v1 : (V m c main_v1 : S40x128.Idx → Elt Ideal .fp8e4m3) = shapeCast S40x128 (m ((c : Thread nD τ).loc main_arg2) : S5120.Idx → Elt Ideal .fp8e4m3) shapeCasts_S5120_S40x128 := by
  unfold V
  simp only [hostOps0, List.flatten_cons, List.flatten_nil, List.append_nil, List.cons_append, List.nil_append]
  after_results
  try rfl
/-- The scales the kernel reads are the argument's, channels before tokens. -/
theorem v0_at (b : Fin 12) (q : Fin 40) (t : Fin 4096) :
    (V m c main_v0 : Scales (F := Ideal)) (ix3 b q t) = (m ((c : Thread nD τ).loc main_arg1) : S12x4096x40.Idx → Elt Ideal .f32) (ix3 b t q) := by
  rw [V_v0]
  generalize (m ((c : Thread nD τ).loc main_arg1) : S12x4096x40.Idx → Elt Ideal .f32) = A
  pointwise []
/-- The weights the kernel reads are the argument's, in rows of 128. -/
theorem w_at (k : Fin 40) (l : Fin 128) :
    wvec (blk0 m c t) (ix2 k l) = wN (m ((c : Thread nD τ).loc main_arg2)) (128 * k.val + l.val) := by
  have e : blk0 m c t = shapeCast S40x128 (m ((c : Thread nD τ).loc main_arg2) : S5120.Idx → Elt Ideal .fp8e4m3) shapeCasts_S5120_S40x128 := by
    show (win0_0.blk t).view.read (Elt Ideal) (V m c main_v1) = _
    rw [readw_0]
    exact V_v1 m c
  rw [e]
  generalize (m ((c : Thread nD τ).loc main_arg2) : S5120.Idx → Elt Ideal .fp8e4m3) = A
  have h : ∀ X : S40x128.Idx → Elt Ideal .fp8e4m3, wvec X (ix2 k l) = X (ix2 k l) := by
    intro X
    pointwise [wvec]
    refine congrArg X (funext fun a => ?_)
    match a with
    | ⟨0, _⟩ => exact Fin.ext (show 0 + 1 * k.val = k.val by omega)
    | ⟨1, _⟩ => exact Fin.ext (show 0 + 1 * l.val = l.val by omega)
  rw [h]
  have h2 : shapeCast S40x128 A shapeCasts_S5120_S40x128 (ix2 k l) = A (ix1 ⟨k.val * 128 + l.val, by omega⟩) := by
    pointwise []
  rw [h2]
  unfold wN
  exact congrArg (fun u => A (ix1 u)) (Fin.ext (show k.val * 128 + l.val = (128 * k.val + l.val) % 5120 by omega))

/-- What the kernel is shown to leave in its values. -/
def outT (c : Dev nD) : S12x4096.Idx → Elt Ideal .f32 :=
  tgt (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg8))

/-- The values' array after the run. -/
theorem arr7 : (dats m (outT m) 0 c).arrAt 7 cfg0.N = outT m c := by
  let t : Fin cfg0.N := ⟨0, by decide⟩
  have hf : (dats m (outT m) 0 c).flushed 7 t = outT m c := by
    show (cfg0.win 7).cut _ ((dats m (outT m) 0 c).after 7 t) = _
    rw [after_7]
    exact funext fun _ => rfl
  have hw : ((cfg0.win 7).blk t).view.read (Elt Ideal) ((dats m (outT m) 0 c).arrAt 7 cfg0.N) = (dats m (outT m) 0 c).flushed 7 t := by
    rw [show cfg0.N = t.val + 1 from rfl, (dats m (outT m) 0 c).arrAt_succ (7 : Fin 10) t, flush0_7, if_pos rfl]
    exact View.read_write_univ _ _
  rw [hf] at hw
  exact (readw_7 c t _).symm.trans hw

/-- No scale is negative or infinite. -/
def ScOK (A : S12x4096x40.Idx → Elt Ideal .f32) : Prop := ∀ i, (0 : EReal) ≤ A i ∧ (A i : EReal) ≠ ⊤

/-- The kernel's obligations, on lengths and scales of the range it is claimed on. -/
theorem claim_ok (hl : Lens m) (h0 : ScOK (m ((c : Thread nD τ).loc main_arg1))) :
    Claim m (outT m) false (OKv (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg8))) c t where
  len := hl c t
  start := fun X b t' h => by
    obtain ⟨j', h1, -⟩ := h
    omega
  trip := by
    have hL := hl c t
    rw [blk1_eq, blk2_eq]
    rw [blk6_eq] at hL ⊢
    rw [show V m c main_arg0 = m ((c : Thread nD τ).loc main_arg0) from V_main_arg0 m c]
    exact trip_ok hL (v0_at m c) (w_at m c t) h0
  last := fun _ V₁ X hV hX => by
    have hL := hl c t
    rw [blk6_eq] at hL hV hX
    exact last_ok hL hV hX

/-- The kernel runs, leaves the specification's values, its arguments unchanged and its counters at zero. -/
theorem ker_run (hl : Lens m) (h0 : ∀ c : Dev nD, ScOK (m ((c : Thread nD τ).loc main_arg1))) :
    θ_run defs (onTc (τ := τ) (main (F := Ideal))) ⟨m, fun _ => 0, ρ⟩ (fun r => ∀ c : Dev nD, r.2.mem ((c.tc : Thread nD τ).loc main_v2_0) = outT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h.2 rfl c).trans (arr7 m c), h.1.1 c⟩)
    (run_post m ρ (outT m) false fun c => ⟨_, fun t => claim_ok m c t hl (h0 c)⟩)
end

end Cert.KernelIdeal.Own
-- ==== Proof.RefVal.lean ====
/-
  What the reference leaves in its result.
-/
module

public import proofs.«01_k».proof.Proof.Gen.ReferenceIdeal.Frame
public import Idealize.ShloMosaic.Lib.Pipeline.Value
public import Idealize.ShloMosaic.Lib.StableHlo.Run
public import proofs.«01_k».proof.Proof.Spec

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

/-- The reference's host lines, of the decoded codes and weights and of the other arguments. -/
def term (hb : FVec Ideal S12x4096x5120 .bf16) (wb : FVec Ideal S5120 .bf16) (sc : FVec Ideal S12x4096x40 .f32) (ws bv : FVec Ideal S1 .f32)
    (L : IVec S12 32) : FVec Ideal S12x4096 .f32 :=
  select (cmpi .slt (broadcastInDim S12x4096 ![0, 1] bcast_S1x4096_S12x4096_0_1 (broadcastInDim S1x4096 ![1] bcast_S4096_S1x4096_1 (iotaInDim S4096 32 0)))
      (broadcastInDim S12x4096 ![0, 1] bcast_S12x1_S12x4096_0_1 (broadcastInDim S12x1 ![0] bcast_S12_S12x1_0 L)))
    (addf (mulf (Host.dotGeneral dot_S12x4096x5120_S5120_S12x4096_2_0_01_n_n_n none
        (shapeCast S12x4096x5120 (mulf (shapeCast S12x4096x40x128 hb shapeCasts_S12x4096x5120_S12x4096x40x128)
          (broadcastInDim S12x4096x40x128 ![0, 1, 2, 3] bcast_S12x4096x40x1_S12x4096x40x128_0_1_2_3
            (broadcastInDim S12x4096x40x1 ![0, 1, 2] bcast_S12x4096x40_S12x4096x40x1_0_1_2 (truncf .bf16 sc bitsLt_bf16_f32)))) shapeCasts_S12x4096x40x128_S12x4096x5120) wb)
        (broadcastInDim S12x4096 ![] bcast_S_S12x4096 (shapeCast S_ ws shapeCasts_S1_S_)))
      (broadcastInDim S12x4096 ![] bcast_S_S12x4096 (shapeCast S_ bv shapeCasts_S1_S_)))
    (broadcastInDim S12x4096 ![] bcast_S_S12x4096 (id (constant S_ .f32 0x00000000#32)))

/-- The reference's lines compute the values. -/
theorem term_eq (hb : FVec Ideal S12x4096x5120 .bf16) (wb : FVec Ideal S5120 .bf16) (sc : FVec Ideal S12x4096x40 .f32) (ws bv : FVec Ideal S1 .f32)
    (L : IVec S12 32) : term hb wb sc ws bv L = Cert.Spec.tgt hb sc wb ws bv L := by
  have hx : ∀ (b : Fin 12) (t : Fin 4096), term hb wb sc ws bv L (ix2 b t) = Cert.Spec.tgt hb sc wb ws bv L (ix2 b t) := by
    intro b t
    pointwise [term]
    unfold Cert.Spec.tgt
    show Scalar.select _ _ _ = if ((t.val : ℕ) : ℤ) < (L (ix1 b)).toInt then Cert.Spec.raw hb sc wb ws bv b t else 0
    have hr : (∑ x : Fin 5120, hb (ix3 b t x) * sc (ix3 b t ⟨x.val / 128, by have := x.isLt; omega⟩) * wb (ix1 x)) * ws (ix1 0) + bv (ix1 0)
        = Cert.Spec.raw hb sc wb ws bv b t := by
      unfold Cert.Spec.raw
      rw [Finset.sum_range]
      congr 2
    have hz : (id (constant (F := Ideal) S_ .f32 0#32)) ix0 = (0 : EReal) := by
      show Ideal.ofBits .f32 0#32 = 0
      simp [Ideal.ofBits, Ideal.ieee]
    have ht : (BitVec.ofNat 32 t.val).toInt = (t.val : ℤ) := by
      have := t.isLt
      rw [BitVec.toInt_eq_toNat_cond, BitVec.toNat_ofNat, Nat.mod_eq_of_lt (by omega), if_pos (by omega)]
    by_cases h : ((t.val : ℕ) : ℤ) < (L (ix1 b)).toInt
    · have hc : IntOp.cmpi .slt (BitVec.ofNat 32 t.val) (L (ix1 b)) = 1#1 := by
        simp [IntOp.cmpi, BitVec.slt, ht, h]
      rw [hc, if_pos h]
      exact (Eq.trans (by rfl) hr)
    · have hc : IntOp.cmpi .slt (BitVec.ofNat 32 t.val) (L (ix1 b)) = 0#1 := by
        simp [IntOp.cmpi, BitVec.slt, ht, h]
      rw [hc, if_neg h]
      exact (Eq.trans (by rfl) hz)
  funext i
  have hi : i = ix2 (i 0) (i 1) := funext fun a => by match a with | ⟨0, _⟩ => rfl | ⟨1, _⟩ => rfl
  rw [hi]
  exact hx _ _

variable (m : (ℓ : Loc nD τ sig) → Buf (Elt Ideal) ℓ) (ρ : Dev nD → PrngReg)

/-- The lines after the region, over any contents of the buffers. -/
theorem tail_gen (U : Valuation τ sig (Elt Ideal)) (hb : FVec Ideal S12x4096x5120 .bf16) (wb : FVec Ideal S5120 .bf16) (sc : FVec Ideal S12x4096x40 .f32)
    (ws bv : FVec Ideal S1 .f32) (L : IVec S12 32) (e0 : U (Proc.devRef .tc main_v6_0) = hb) (e1 : U (Proc.devRef .tc main_v6_1) = wb)
    (e2 : U (Proc.devRef .tc main_arg1) = sc) (e3 : U (Proc.devRef .tc main_arg3) = ws) (e4 : U (Proc.devRef .tc main_arg4) = bv)
    (e5 : U (Proc.devRef .tc main_v5) = cmpi .slt (broadcastInDim S12x4096 ![0, 1] bcast_S1x4096_S12x4096_0_1 (broadcastInDim S1x4096 ![1] bcast_S4096_S1x4096_1 (iotaInDim S4096 32 0)))
      (broadcastInDim S12x4096 ![0, 1] bcast_S12x1_S12x4096_0_1 (broadcastInDim S12x1 ![0] bcast_S12_S12x1_0 L))) :
    StableHlo.after (List.flatten [hostOps1, hostOps1_1]) U (Proc.devRef .tc main_v20) = term hb wb sc ws bv L := by
  subst e0 e1 e2 e3 e4
  simp only [hostOps1, hostOps1_1, List.flatten_cons, List.flatten_nil, List.append_nil, List.cons_append, List.nil_append]
  after_results
  unfold term
  rw [← e5]
  rfl

/-- The mask computed before the region. -/
theorem V0_v5 (c : Dev nD) : V0 m c (Proc.devRef .tc main_v5)
    = cmpi .slt (broadcastInDim S12x4096 ![0, 1] bcast_S1x4096_S12x4096_0_1 (broadcastInDim S1x4096 ![1] bcast_S4096_S1x4096_1 (iotaInDim S4096 32 0)))
      (broadcastInDim S12x4096 ![0, 1] bcast_S12x1_S12x4096_0_1 (broadcastInDim S12x1 ![0] bcast_S12_S12x1_0 (m ((c : Thread nD τ).loc main_arg8)))) := by
  unfold V0
  simp only [hostOps0, List.flatten_cons, List.flatten_nil, List.append_nil, List.cons_append, List.nil_append]
  after_results

/-- What the reference's result holds after its host lines. -/
theorem tail_eq (c : Dev nD) : Pipeline.afterTail₀ cfgs (dats m) 0 (V0 m) [hostOps1, hostOps1_1] c main_v20
    = term ((dats m 0 c).arrAt 2 cfg0.N) ((dats m 0 c).arrAt 3 cfg0.N) (m ((c : Thread nD τ).loc main_arg1)) (m ((c : Thread nD τ).loc main_arg3))
      (m ((c : Thread nD τ).loc main_arg4)) (m ((c : Thread nD τ).loc main_arg8)) := by
  unfold Pipeline.afterTail₀
  have hinj : Function.Injective (Pipeline.arrRef spec0) := by decide
  refine tail_gen _ _ _ _ _ _ _ ?_ ?_ ?_ ?_ ?_ ?_
  · exact Pipeline.withArrays_arr spec0 hinj c _ _ 2
  · exact Pipeline.withArrays_arr spec0 hinj c _ _ 3
  · exact (Pipeline.withArrays_of_ne spec0 c (V0 m c) _ main_arg1 (by decide)).trans (V_main_arg1 m c)
  · exact (Pipeline.withArrays_of_ne spec0 c (V0 m c) _ main_arg3 (by decide)).trans (V_main_arg3 m c)
  · exact (Pipeline.withArrays_of_ne spec0 c (V0 m c) _ main_arg4 (by decide)).trans (V_main_arg4 m c)
  · exact (Pipeline.withArrays_of_ne spec0 c (V0 m c) _ main_v5 (by decide)).trans (V0_v5 m c)

section
variable (c : Dev nD) (t : Fin cfg0.N)

/-- A window over a whole array reads that array. -/
theorem read0 (f : Buf (Elt Ideal) ((c : Thread nD τ).loc main_arg0)) : (win0_0.blk t).view.read (Elt Ideal) f = f :=
  Memref.read_access_unit_zero (Elt Ideal) main_arg0
    (show (fun a => (win0_0.index t) a * main_arg0.ty.shape.size a) = fun _ => 0 from
      funext fun a => by fin_cases t; fin_cases a <;> decide) (fun a => by fin_cases t; fin_cases a <;> decide) f
/-- A window over a whole array reads that array. -/
theorem read1 (f : Buf (Elt Ideal) ((c : Thread nD τ).loc main_arg2)) : (win0_1.blk t).view.read (Elt Ideal) f = f :=
  Memref.read_access_unit_zero (Elt Ideal) main_arg2
    (show (fun a => (win0_1.index t) a * main_arg2.ty.shape.size a) = fun _ => 0 from
      funext fun a => by fin_cases t; fin_cases a <;> decide) (fun a => by fin_cases t; fin_cases a <;> decide) f
/-- A window over a whole array reads that array. -/
theorem read2 (f : Buf (Elt Ideal) ((c : Thread nD τ).loc main_v6_0)) : (win0_2.blk t).view.read (Elt Ideal) f = f :=
  Memref.read_access_unit_zero (Elt Ideal) main_v6_0
    (show (fun a => (win0_2.index t) a * main_v6_0.ty.shape.size a) = fun _ => 0 from
      funext fun a => by fin_cases t; fin_cases a <;> decide) (fun a => by fin_cases t; fin_cases a <;> decide) f
/-- A window over a whole array reads that array. -/
theorem read3 (f : Buf (Elt Ideal) ((c : Thread nD τ).loc main_v6_1)) : (win0_3.blk t).view.read (Elt Ideal) f = f :=
  Memref.read_access_unit_zero (Elt Ideal) main_v6_1
    (show (fun a => (win0_3.index t) a * main_v6_1.ty.shape.size a) = fun _ => 0 from
      funext fun a => by fin_cases t; fin_cases a <;> decide) (fun a => by fin_cases t; fin_cases a <;> decide) f

/-- The codes the region reads are the argument's. -/
theorem iblk_0 : iblk (F := Ideal) m c 0 t = m ((c : Thread nD τ).loc main_arg0) := by
  show (win0_0.blk t).view.read (Elt Ideal) (V m c main_arg0) = _
  rw [show V m c main_arg0 = m ((c : Thread nD τ).loc main_arg0) from V_main_arg0 m c]
  exact read0 c t _
/-- The weights the region reads are the argument's. -/
theorem iblk_1 : iblk (F := Ideal) m c 1 t = m ((c : Thread nD τ).loc main_arg2) := by
  show (win0_1.blk t).view.read (Elt Ideal) (V m c main_arg2) = _
  rw [show V m c main_arg2 = m ((c : Thread nD τ).loc main_arg2) from V_main_arg2 m c]
  exact read1 c t _

end

/-- Decoded over the reals, the codes are themselves. -/
theorem out_2 (x0 : Vec Ideal S12x4096x5120 .fp8e4m3) (x1 : Vec Ideal S5120 .fp8e4m3) : out0_2 x0 x1 = x0 := by
  unfold out0_2
  have hz : (![0, 0, 0] : Fin 3 → ℕ) = fun _ => 0 := by funext a; fin_cases a <;> rfl
  rw [View.canon_unit_zero (h := hz), View.ld_unit_zero (h := hz)]
  rfl
/-- Decoded over the reals, the weights are themselves. -/
theorem out_3 (x0 : Vec Ideal S12x4096x5120 .fp8e4m3) (x1 : Vec Ideal S5120 .fp8e4m3) : out0_3 x0 x1 = x1 := by
  unfold out0_3
  have hz : (![0] : Fin 1 → ℕ) = fun _ => 0 := by funext a; fin_cases a; rfl
  rw [View.canon_unit_zero (h := hz), View.ld_unit_zero (h := hz)]
  rfl

/-- The region's first result is the codes. -/
theorem arr_2 (c : Dev nD) : (dats m 0 c).arrAt 2 cfg0.N = (m ((c : Thread nD τ).loc main_arg0) : Vec Ideal S12x4096x5120 .fp8e4m3) := by
  let t : Fin cfg0.N := ⟨0, by decide⟩
  have hf : (dats m 0 c).flushed 2 t = (m ((c : Thread nD τ).loc main_arg0) : Vec Ideal S12x4096x5120 .fp8e4m3) := by
    show (cfg0.win 2).cut _ ((dats m 0 c).after 2 t) = _
    rw [after0_2, iblk_0, iblk_1, out_2]
    exact funext fun _ => rfl
  have hw : ((cfg0.win 2).blk t).view.read (Elt Ideal) ((dats m 0 c).arrAt 2 cfg0.N) = (dats m 0 c).flushed 2 t := by
    rw [show cfg0.N = t.val + 1 from rfl, (dats m 0 c).arrAt_succ (2 : Fin 4) t, flush0_2, if_pos rfl]
    exact View.read_write_univ _ _
  rw [hf] at hw
  exact (read2 c t _).symm.trans hw
/-- The region's second result is the weights. -/
theorem arr_3 (c : Dev nD) : (dats m 0 c).arrAt 3 cfg0.N = (m ((c : Thread nD τ).loc main_arg2) : Vec Ideal S5120 .fp8e4m3) := by
  let t : Fin cfg0.N := ⟨0, by decide⟩
  have hf : (dats m 0 c).flushed 3 t = (m ((c : Thread nD τ).loc main_arg2) : Vec Ideal S5120 .fp8e4m3) := by
    show (cfg0.win 3).cut _ ((dats m 0 c).after 3 t) = _
    rw [after0_3, iblk_0, iblk_1, out_3]
    exact funext fun _ => rfl
  have hw : ((cfg0.win 3).blk t).view.read (Elt Ideal) ((dats m 0 c).arrAt 3 cfg0.N) = (dats m 0 c).flushed 3 t := by
    rw [show cfg0.N = t.val + 1 from rfl, (dats m 0 c).arrAt_succ (3 : Fin 4) t, flush0_3, if_pos rfl]
    exact View.read_write_univ _ _
  rw [hf] at hw
  exact (read3 c t _).symm.trans hw

/-- The reference runs and leaves the specification's values, with its arguments unchanged. -/
theorem ref_run : θ_run defs (onTc (τ := τ) (main (F := Ideal))) ⟨m, fun _ => 0, ρ⟩ (fun r => ∀ c : Dev nD,
      r.2.mem ((c.tc : Thread nD τ).loc main_v20) = Cert.Spec.tgt (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg8))) :=
  (θ_run defs _ _).mono (fun r h c => by
    refine ((h c).2 main_v20 (Pipeline.mem_restRefs_of main_v20 (by decide) (by decide))).trans ?_
    rw [tail_eq m c, arr_2 m c, arr_3 m c]
    exact term_eq _ _ _ _ _ _) (run_main m ρ)

end Cert.ReferenceIdeal.Own

end
-- ==== Proof.Same.lean ====
/-
  The kernel and its reading over the reals are printed as the same program: a theorem about one, for any floats, is a
  theorem about the other.
-/
module
public import proofs.«01_k».proof.Proof.Gen.Kernel.Launch
public import proofs.«01_k».proof.Proof.Gen.KernelIdeal.Launch

@[expose] public section

noncomputable section

namespace Cert.Same

open Idealize.ShloMosaic
open Cert.Kernel.Gen Cert.KernelIdeal.Gen

variable {F : FTy → Type} [FloatOps F]

set_option maxRecDepth 1000000
set_option maxHeartbeats 0

/-- The bodies the two programs call are the same. -/
theorem defs0_same : Cert.Kernel.defs₀ (F := F) = Cert.KernelIdeal.defs₀ (F := F) := by
  unfold Cert.Kernel.defs₀ Cert.KernelIdeal.defs₀
  congr 1
  funext i x
  match i with
  | 0 => rfl
  | ⟨_ + 1, h⟩ => exact absurd h (by omega)
/-- So are their tables of bodies, -/
theorem defs_same : Cert.Kernel.defs (F := F) = Cert.KernelIdeal.defs (F := F) := by
  unfold Cert.Kernel.defs Cert.KernelIdeal.defs
  rw [defs0_same]
  rfl
/-- and the host programs. -/
theorem main_same : Cert.Kernel.main (F := F) = Cert.KernelIdeal.main (F := F) := rfl

end Cert.Same

end
-- ==== Proof.lean ====
/-
  The claims: the frames of the kernel, of its reading over the reals and of the reference's, that the reading
  preserves the kernel, and that over the reals the kernel leaves the values the reference leaves.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_lengths_fit
public import proofs.«01_k».proof.Proof.Gen.Pre_values_meet
public import proofs.«01_k».proof.Proof.Launch2
public import proofs.«01_k».proof.Proof.KRun
public import proofs.«01_k».proof.Proof.RefVal
public import proofs.«01_k».proof.Proof.Same

@[expose] public section

noncomputable section

namespace Cert.Proof

open Idealize.ShloMosaic Idealize.ShloMosaic.TcCoe Idealize.SL.Sem
open Cert.KernelIdeal.Own

/-- A length that satisfies the precondition is one the kernel's proof takes. -/
theorem len_of_word {v : BitVec 32} (e : IntOp.andi (IntOp.cmpi .sge v 4294966785#32) (IntOp.cmpi .sle v 4096#32) = 1#1) : Cert.Word.LenOK v := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, decide_eq_true_eq] at e
  exact e

/-- Lengths of the range, as the kernel's windows read them. -/
theorem lens_of {F : FTy → Type} [FloatOps F] (m : (ℓ : Loc Cert.KernelIdeal.nD Cert.KernelIdeal.τ Cert.KernelIdeal.sig) → Buf (Elt F) ℓ)
    (h : ∀ (c : Dev Cert.KernelIdeal.nD) x, Cert.Word.LenOK (m ((c.tc : Thread Cert.KernelIdeal.nD Cert.KernelIdeal.τ).loc Cert.KernelIdeal.main_arg8) x)) : Lens m := by
  intro c t s
  have e := Cert.KernelIdeal.Gen.V_main_arg8 m c
  show Cert.Word.LenOK (Cert.KernelIdeal.Gen.V m c Cert.KernelIdeal.main_arg8 _)
  rw [e]
  exact h c _

/-- The kernel runs and leaves its arguments unchanged. -/
theorem frame_Kernel : Cert.quiescent_Kernel := fun m g h => by
  rw [Cert.Same.defs_same, Cert.Same.main_same]
  exact frame_post (F := Bits) m g (lens_of m fun c x => len_of_word (by
    have e := congrFun (h c) x
    simp only [Cert.Pre_lengths_fit.fn, andi, cmpi, broadcastInDim, constantI] at e
    exact e))

/-- So does its reading over the reals. -/
theorem frame_KernelIdeal : Cert.quiescent_KernelIdeal := fun m g h =>
  frame_post (F := Ideal) m g (lens_of m fun c x => len_of_word (by
    have e := congrFun (h c) x
    simp only [Cert.Pre_lengths_fit.fn, andi, cmpi, broadcastInDim, constantI] at e
    exact e))

/-- The second precondition at a token and a scale group. -/
theorem meet_at (a0 : Cert.KernelIdeal.S12x4096x5120.Idx → Elt Ideal .fp8e4m3) (a1 : Cert.KernelIdeal.S12x4096x40.Idx → Elt Ideal .f32) (a2 : Cert.KernelIdeal.S5120.Idx → Elt Ideal .fp8e4m3)
    (a3 a4 : Cert.KernelIdeal.S1.Idx → Elt Ideal .f32) (a5 a6 : Cert.KernelIdeal.S12x4096.Idx → Elt Ideal .bf16) (a7 : Cert.KernelIdeal.S12.Idx → Elt Ideal .f32) (a8 : Cert.KernelIdeal.S12.Idx → Elt Ideal .i32)
    (b : Fin 12) (t : Fin 4096) (q : Fin 40) :
    Cert.Pre_values_meet.fn (F := Ideal) a0 a1 a2 a3 a4 a5 a6 a7 a8 (ix3 b t q)
      = IntOp.andi (IntOp.andi (Ideal.cmp .oge (a1 (ix3 b t q)) (Ideal.ofBits .f32 0x00000000#32)) (Ideal.cmp .olt (a1 (ix3 b t q)) (Ideal.ofBits .f32 0x7F800000#32)))
        (IntOp.andi (IntOp.cmpi .sge (a8 (ix1 b)) 4294966785#32) (IntOp.cmpi .sle (a8 (ix1 b)) 4096#32)) := by
  pointwise [Cert.Pre_values_meet.fn]
  first | done | rfl

/-- Both halves of a conjunction of bits. -/
theorem andi_one {x y : BitVec 1} (h : IntOp.andi x y = 1#1) : x = 1#1 ∧ y = 1#1 := by
  revert x y
  decide

/-- What the second precondition says of the scales and the lengths. -/
theorem meet_spec {m : (ℓ : Loc Cert.KernelIdeal.nD Cert.KernelIdeal.τ Cert.KernelIdeal.sig) → Buf (Elt Ideal) ℓ} (h : Cert.Pre_KernelIdeal_values_meet m) (c : Dev Cert.KernelIdeal.nD) :
    ScOK (m ((c.tc : Thread Cert.KernelIdeal.nD Cert.KernelIdeal.τ).loc Cert.KernelIdeal.main_arg1))
      ∧ ∀ x, Cert.Word.LenOK (m ((c.tc : Thread Cert.KernelIdeal.nD Cert.KernelIdeal.τ).loc Cert.KernelIdeal.main_arg8) x) := by
  have z : Ideal.ofBits .f32 0x00000000#32 = (0 : EReal) := by simp [Ideal.ofBits, Ideal.ieee]
  have inf : Ideal.ofBits .f32 0x7F800000#32 = (⊤ : EReal) := by simp [Ideal.ofBits, Ideal.ieee]
  have ob : ∀ p : Bool, BitVec.ofBool p = 1#1 → p = true := by decide
  have e : ∀ (b : Fin 12) (t : Fin 4096) (q : Fin 40), _ := fun b t q => (meet_at _ _ _ _ _ _ _ _ _ b t q).symm.trans (congrFun (h c) (ix3 b t q))
  constructor
  · intro i
    have hi : i = ix3 (i 0) (i 1) (i 2) := funext fun a => by match a with | ⟨0, _⟩ => rfl | ⟨1, _⟩ => rfl | ⟨2, _⟩ => rfl
    obtain ⟨h1, h2⟩ := andi_one (andi_one (e (i 0) (i 1) (i 2))).1
    rw [z] at h1
    rw [inf] at h2
    rw [hi]
    have g1 : ∀ u v : EReal, Ideal.cmp .oge u v = 1#1 → v ≤ u := by
      intro u v hh; exact of_decide_eq_true (ob _ hh)
    have g2 : ∀ u v : EReal, Ideal.cmp .olt u v = 1#1 → u < v := by
      intro u v hh; exact of_decide_eq_true (ob _ hh)
    exact ⟨g1 _ _ h1, (g2 _ _ h2).ne⟩
  · intro x
    have hx : x = ix1 (x 0) := funext fun a => by match a with | ⟨0, _⟩ => rfl
    rw [hx]
    exact len_of_word (andi_one (e (x 0) 0 0)).2

/-- And so it does under the second precondition. -/
theorem frame_KernelIdeal_meet : Cert.quiescent_KernelIdeal_pre_values_meet := fun m g h =>
  frame_post (F := Ideal) m g (lens_of m fun c x => (meet_spec h c).2 x)

/-- Over the reals the kernel and the reference leave the same values. -/
theorem algebraic : Cert.algebraic_KernelIdeal_ReferenceIdeal_pre_values_meet := fun m g m' g' h ha => by
  refine ⟨outT m, ker_run m g (lens_of m fun c x => (meet_spec h c).2 x) (fun c => (meet_spec h c).1), ?_⟩
  refine (θ_run _ _ _).mono (fun r hr c => ⟨(hr.1 c).trans ?_, hr.2 c⟩)
    (θ_run_and (Cert.ReferenceIdeal.Own.ref_run m' g') (Cert.ReferenceIdeal.Gen.unchanged (F := Ideal) m' g'))
  obtain ⟨e0, e1, e2, e3, e4, -, -, -, e8⟩ := ha c
  rw [e0, e1, e2, e3, e4, e8]
  rfl

/-- All the claims. -/
theorem claim : Cert.Claim := ⟨Cert.Kernel.Gen.facts, Cert.KernelIdeal.Gen.facts, Cert.ReferenceIdeal.Gen.facts, Cert.Pre_lengths_fit.Gen.facts,
  Cert.Pre_values_meet.Gen.facts,
  frame_Kernel, frame_KernelIdeal, frame_KernelIdeal_meet, fun m ρ _ => Cert.ReferenceIdeal.Gen.frame m ρ, fun m ρ _ => Cert.ReferenceIdeal.Gen.frame m ρ,
  trivial, algebraic⟩

end Cert.Proof

end
